-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def preserves_Kernel_KernelIdeal : Prop :=
  IdealRules.named_const.Statement Cert.KernelIdeal.κ "qscale" .f32 0x3E16C740#32 (((3424635 / 33554432) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v40)) (v2 : (c : Dev Cert.KernelIdeal.nD) → Buf (Elt Ideal) ((c.tc : Thread Cert.KernelIdeal.nD Cert.KernelIdeal.τ).loc Cert.KernelIdeal.main_v41)) (v3 : (c : Dev Cert.KernelIdeal.nD) → Buf (Elt Ideal) ((c.tc : Thread Cert.KernelIdeal.nD Cert.KernelIdeal.τ).loc Cert.KernelIdeal.main_v42)) (v4 : (c : Dev Cert.KernelIdeal.nD) → Buf (Elt Ideal) ((c.tc : Thread Cert.KernelIdeal.nD Cert.KernelIdeal.τ).loc Cert.KernelIdeal.main_v44)) (v5 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_v41) = v2 c
          ∧ r.2.mem ((c.tc : Thread Cert.KernelIdeal.nD Cert.KernelIdeal.τ).loc Cert.KernelIdeal.main_v42) = v3 c
          ∧ r.2.mem ((c.tc : Thread Cert.KernelIdeal.nD Cert.KernelIdeal.τ).loc Cert.KernelIdeal.main_v44) = v4 c
          ∧ r.2.mem ((c.tc : Thread Cert.KernelIdeal.nD Cert.KernelIdeal.τ).loc Cert.KernelIdeal.main_v45) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_v58) = v4 c
          ∧ r.2.mem ((c.tc : Thread Cert.ReferenceIdeal.nD Cert.ReferenceIdeal.τ).loc Cert.ReferenceIdeal.main_v41) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v14)) (v2 : (c : Dev Cert.Kernel3Ideal.nD) → Buf (Elt Ideal) ((c.tc : Thread Cert.Kernel3Ideal.nD Cert.Kernel3Ideal.τ).loc Cert.Kernel3Ideal.main_v13_3)) (v3 : (c : Dev Cert.Kernel3Ideal.nD) → Buf (Elt Ideal) ((c.tc : Thread Cert.Kernel3Ideal.nD Cert.Kernel3Ideal.τ).loc Cert.Kernel3Ideal.main_v13_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v14) = v1 c
          ∧ r.2.mem ((c.tc : Thread Cert.Kernel3Ideal.nD Cert.Kernel3Ideal.τ).loc Cert.Kernel3Ideal.main_v13_3) = v2 c
          ∧ r.2.mem ((c.tc : Thread Cert.Kernel3Ideal.nD Cert.Kernel3Ideal.τ).loc Cert.Kernel3Ideal.main_v13_2) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_v70) = v1 c
          ∧ r.2.mem ((c.tc : Thread Cert.Reference3Ideal.nD Cert.Reference3Ideal.τ).loc Cert.Reference3Ideal.main_v54) = v2 c
          ∧ r.2.mem ((c.tc : Thread Cert.Reference3Ideal.nD Cert.Reference3Ideal.τ).loc Cert.Reference3Ideal.main_v33) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)) (v1 : (c : Dev Cert.Kernel4Ideal.nD) → Buf (Elt Ideal) ((c.tc : Thread Cert.Kernel4Ideal.nD Cert.Kernel4Ideal.τ).loc Cert.Kernel4Ideal.main_v6)) (v2 : (c : Dev Cert.Kernel4Ideal.nD) → Buf (Elt Ideal) ((c.tc : Thread Cert.Kernel4Ideal.nD Cert.Kernel4Ideal.τ).loc Cert.Kernel4Ideal.main_v2_1)) (v3 : (c : Dev Cert.Kernel4Ideal.nD) → Buf (Elt Ideal) ((c.tc : Thread Cert.Kernel4Ideal.nD Cert.Kernel4Ideal.τ).loc Cert.Kernel4Ideal.main_v2_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_v6) = v1 c
          ∧ r.2.mem ((c.tc : Thread Cert.Kernel4Ideal.nD Cert.Kernel4Ideal.τ).loc Cert.Kernel4Ideal.main_v2_1) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_v50) = v1 c
          ∧ r.2.mem ((c.tc : Thread Cert.Reference4Ideal.nD Cert.Reference4Ideal.τ).loc Cert.Reference4Ideal.main_v31) = v2 c
          ∧ r.2.mem ((c.tc : Thread Cert.Reference4Ideal.nD Cert.Reference4Ideal.τ).loc Cert.Reference4Ideal.main_v34) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v11)) (v1 : (c : Dev Cert.Kernel6Ideal.nD) → Buf (Elt Ideal) ((c.tc : Thread Cert.Kernel6Ideal.nD Cert.Kernel6Ideal.τ).loc Cert.Kernel6Ideal.main_v12)) (v2 : (c : Dev Cert.Kernel6Ideal.nD) → Buf (Elt Ideal) ((c.tc : Thread Cert.Kernel6Ideal.nD Cert.Kernel6Ideal.τ).loc Cert.Kernel6Ideal.main_v8_3)) (v3 : (c : Dev Cert.Kernel6Ideal.nD) → Buf (Elt Ideal) ((c.tc : Thread Cert.Kernel6Ideal.nD Cert.Kernel6Ideal.τ).loc Cert.Kernel6Ideal.main_v8_4)) (v4 : (c : Dev Cert.Kernel6Ideal.nD) → Buf (Elt Ideal) ((c.tc : Thread Cert.Kernel6Ideal.nD Cert.Kernel6Ideal.τ).loc Cert.Kernel6Ideal.main_v8_1)) (v5 : (c : Dev Cert.Kernel6Ideal.nD) → Buf (Elt Ideal) ((c.tc : Thread Cert.Kernel6Ideal.nD Cert.Kernel6Ideal.τ).loc Cert.Kernel6Ideal.main_v18)) (v6 : (c : Dev Cert.Kernel6Ideal.nD) → Buf (Elt Ideal) ((c.tc : Thread Cert.Kernel6Ideal.nD Cert.Kernel6Ideal.τ).loc Cert.Kernel6Ideal.main_v19)) (v7 : (c : Dev Cert.Kernel6Ideal.nD) → Buf (Elt Ideal) ((c.tc : Thread Cert.Kernel6Ideal.nD Cert.Kernel6Ideal.τ).loc Cert.Kernel6Ideal.main_v20)) (v8 : (c : Dev Cert.Kernel6Ideal.nD) → Buf (Elt Ideal) ((c.tc : Thread Cert.Kernel6Ideal.nD Cert.Kernel6Ideal.τ).loc Cert.Kernel6Ideal.main_v8_7)) (v9 : (c : Dev Cert.Kernel6Ideal.nD) → Buf (Elt Ideal) ((c.tc : Thread Cert.Kernel6Ideal.nD Cert.Kernel6Ideal.τ).loc Cert.Kernel6Ideal.main_v8_8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_v12) = v1 c
          ∧ r.2.mem ((c.tc : Thread Cert.Kernel6Ideal.nD Cert.Kernel6Ideal.τ).loc Cert.Kernel6Ideal.main_v8_3) = v2 c
          ∧ r.2.mem ((c.tc : Thread Cert.Kernel6Ideal.nD Cert.Kernel6Ideal.τ).loc Cert.Kernel6Ideal.main_v8_4) = v3 c
          ∧ r.2.mem ((c.tc : Thread Cert.Kernel6Ideal.nD Cert.Kernel6Ideal.τ).loc Cert.Kernel6Ideal.main_v8_1) = v4 c
          ∧ r.2.mem ((c.tc : Thread Cert.Kernel6Ideal.nD Cert.Kernel6Ideal.τ).loc Cert.Kernel6Ideal.main_v18) = v5 c
          ∧ r.2.mem ((c.tc : Thread Cert.Kernel6Ideal.nD Cert.Kernel6Ideal.τ).loc Cert.Kernel6Ideal.main_v19) = v6 c
          ∧ r.2.mem ((c.tc : Thread Cert.Kernel6Ideal.nD Cert.Kernel6Ideal.τ).loc Cert.Kernel6Ideal.main_v20) = v7 c
          ∧ r.2.mem ((c.tc : Thread Cert.Kernel6Ideal.nD Cert.Kernel6Ideal.τ).loc Cert.Kernel6Ideal.main_v8_7) = v8 c
          ∧ r.2.mem ((c.tc : Thread Cert.Kernel6Ideal.nD Cert.Kernel6Ideal.τ).loc Cert.Kernel6Ideal.main_v8_8) = v9 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v70) = v0 c
          ∧ r.2.mem ((c.tc : Thread Cert.Reference6Ideal.nD Cert.Reference6Ideal.τ).loc Cert.Reference6Ideal.main_v79) = v1 c
          ∧ r.2.mem ((c.tc : Thread Cert.Reference6Ideal.nD Cert.Reference6Ideal.τ).loc Cert.Reference6Ideal.main_v54) = v2 c
          ∧ r.2.mem ((c.tc : Thread Cert.Reference6Ideal.nD Cert.Reference6Ideal.τ).loc Cert.Reference6Ideal.main_v35) = v3 c
          ∧ r.2.mem ((c.tc : Thread Cert.Reference6Ideal.nD Cert.Reference6Ideal.τ).loc Cert.Reference6Ideal.main_v78) = v4 c
          ∧ r.2.mem ((c.tc : Thread Cert.Reference6Ideal.nD Cert.Reference6Ideal.τ).loc Cert.Reference6Ideal.main_v76) = v5 c
          ∧ r.2.mem ((c.tc : Thread Cert.Reference6Ideal.nD Cert.Reference6Ideal.τ).loc Cert.Reference6Ideal.main_v80) = v6 c
          ∧ r.2.mem ((c.tc : Thread Cert.Reference6Ideal.nD Cert.Reference6Ideal.τ).loc Cert.Reference6Ideal.main_v81) = v7 c
          ∧ r.2.mem ((c.tc : Thread Cert.Reference6Ideal.nD Cert.Reference6Ideal.τ).loc Cert.Reference6Ideal.main_v82) = v8 c
          ∧ r.2.mem ((c.tc : Thread Cert.Reference6Ideal.nD Cert.Reference6Ideal.τ).loc Cert.Reference6Ideal.main_v83) = v9 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v90)) (v1 : (c : Dev Cert.Kernel7Ideal.nD) → Buf (Elt Ideal) ((c.tc : Thread Cert.Kernel7Ideal.nD Cert.Kernel7Ideal.τ).loc Cert.Kernel7Ideal.main_v91)) (v2 : (c : Dev Cert.Kernel7Ideal.nD) → Buf (Elt Ideal) ((c.tc : Thread Cert.Kernel7Ideal.nD Cert.Kernel7Ideal.τ).loc Cert.Kernel7Ideal.main_v92)) (v3 : (c : Dev Cert.Kernel7Ideal.nD) → Buf (Elt Ideal) ((c.tc : Thread Cert.Kernel7Ideal.nD Cert.Kernel7Ideal.τ).loc Cert.Kernel7Ideal.main_v83_3)) (v4 : (c : Dev Cert.Kernel7Ideal.nD) → Buf (Elt Ideal) ((c.tc : Thread Cert.Kernel7Ideal.nD Cert.Kernel7Ideal.τ).loc Cert.Kernel7Ideal.main_v89)) (v5 : (c : Dev Cert.Kernel7Ideal.nD) → Buf (Elt Ideal) ((c.tc : Thread Cert.Kernel7Ideal.nD Cert.Kernel7Ideal.τ).loc Cert.Kernel7Ideal.main_v83_4)) (v6 : (c : Dev Cert.Kernel7Ideal.nD) → Buf (Elt Ideal) ((c.tc : Thread Cert.Kernel7Ideal.nD Cert.Kernel7Ideal.τ).loc Cert.Kernel7Ideal.main_v83_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v90) = v0 c
          ∧ r.2.mem ((c.tc : Thread Cert.Kernel7Ideal.nD Cert.Kernel7Ideal.τ).loc Cert.Kernel7Ideal.main_v91) = v1 c
          ∧ r.2.mem ((c.tc : Thread Cert.Kernel7Ideal.nD Cert.Kernel7Ideal.τ).loc Cert.Kernel7Ideal.main_v92) = v2 c
          ∧ r.2.mem ((c.tc : Thread Cert.Kernel7Ideal.nD Cert.Kernel7Ideal.τ).loc Cert.Kernel7Ideal.main_v83_3) = v3 c
          ∧ r.2.mem ((c.tc : Thread Cert.Kernel7Ideal.nD Cert.Kernel7Ideal.τ).loc Cert.Kernel7Ideal.main_v89) = v4 c
          ∧ r.2.mem ((c.tc : Thread Cert.Kernel7Ideal.nD Cert.Kernel7Ideal.τ).loc Cert.Kernel7Ideal.main_v83_4) = v5 c
          ∧ r.2.mem ((c.tc : Thread Cert.Kernel7Ideal.nD Cert.Kernel7Ideal.τ).loc Cert.Kernel7Ideal.main_v83_2) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v174) = v0 c
          ∧ r.2.mem ((c.tc : Thread Cert.Reference7Ideal.nD Cert.Reference7Ideal.τ).loc Cert.Reference7Ideal.main_v128) = v1 c
          ∧ r.2.mem ((c.tc : Thread Cert.Reference7Ideal.nD Cert.Reference7Ideal.τ).loc Cert.Reference7Ideal.main_v105) = v2 c
          ∧ r.2.mem ((c.tc : Thread Cert.Reference7Ideal.nD Cert.Reference7Ideal.τ).loc Cert.Reference7Ideal.main_v158) = v3 c
          ∧ r.2.mem ((c.tc : Thread Cert.Reference7Ideal.nD Cert.Reference7Ideal.τ).loc Cert.Reference7Ideal.main_v154) = v4 c
          ∧ r.2.mem ((c.tc : Thread Cert.Reference7Ideal.nD Cert.Reference7Ideal.τ).loc Cert.Reference7Ideal.main_v112) = v5 c
          ∧ r.2.mem ((c.tc : Thread Cert.Reference7Ideal.nD Cert.Reference7Ideal.τ).loc Cert.Reference7Ideal.main_v108) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v2)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v38) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel12_Kernel12Ideal : Prop :=
  IdealRules.named_const.Statement Cert.Kernel12Ideal.κ "qscale" .f32 0x3E16C740#32 (((3424635 / 33554432) * (Real.log 2)⁻¹ : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v47)) (v1 : (c : Dev Cert.Kernel12Ideal.nD) → Buf (Elt Ideal) ((c.tc : Thread Cert.Kernel12Ideal.nD Cert.Kernel12Ideal.τ).loc Cert.Kernel12Ideal.main_v50)) (v2 : (c : Dev Cert.Kernel12Ideal.nD) → Buf (Elt Ideal) ((c.tc : Thread Cert.Kernel12Ideal.nD Cert.Kernel12Ideal.τ).loc Cert.Kernel12Ideal.main_v53)) (v3 : (c : Dev Cert.Kernel12Ideal.nD) → Buf (Elt Ideal) ((c.tc : Thread Cert.Kernel12Ideal.nD Cert.Kernel12Ideal.τ).loc Cert.Kernel12Ideal.main_v54)) (v4 : (c : Dev Cert.Kernel12Ideal.nD) → Buf (Elt Ideal) ((c.tc : Thread Cert.Kernel12Ideal.nD Cert.Kernel12Ideal.τ).loc Cert.Kernel12Ideal.main_v55)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v47) = v0 c
          ∧ r.2.mem ((c.tc : Thread Cert.Kernel12Ideal.nD Cert.Kernel12Ideal.τ).loc Cert.Kernel12Ideal.main_v50) = v1 c
          ∧ r.2.mem ((c.tc : Thread Cert.Kernel12Ideal.nD Cert.Kernel12Ideal.τ).loc Cert.Kernel12Ideal.main_v53) = v2 c
          ∧ r.2.mem ((c.tc : Thread Cert.Kernel12Ideal.nD Cert.Kernel12Ideal.τ).loc Cert.Kernel12Ideal.main_v54) = v3 c
          ∧ r.2.mem ((c.tc : Thread Cert.Kernel12Ideal.nD Cert.Kernel12Ideal.τ).loc Cert.Kernel12Ideal.main_v55) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v63) = v0 c
          ∧ r.2.mem ((c.tc : Thread Cert.Reference12Ideal.nD Cert.Reference12Ideal.τ).loc Cert.Reference12Ideal.main_v78) = v1 c
          ∧ r.2.mem ((c.tc : Thread Cert.Reference12Ideal.nD Cert.Reference12Ideal.τ).loc Cert.Reference12Ideal.main_v79) = v2 c
          ∧ r.2.mem ((c.tc : Thread Cert.Reference12Ideal.nD Cert.Reference12Ideal.τ).loc Cert.Reference12Ideal.main_v29) = v3 c
          ∧ r.2.mem ((c.tc : Thread Cert.Reference12Ideal.nD Cert.Reference12Ideal.τ).loc Cert.Reference12Ideal.main_v41) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v9)) (v1 : (c : Dev Cert.Kernel11Ideal.nD) → Buf (Elt Ideal) ((c.tc : Thread Cert.Kernel11Ideal.nD Cert.Kernel11Ideal.τ).loc Cert.Kernel11Ideal.main_v10)) (v2 : (c : Dev Cert.Kernel11Ideal.nD) → Buf (Elt Ideal) ((c.tc : Thread Cert.Kernel11Ideal.nD Cert.Kernel11Ideal.τ).loc Cert.Kernel11Ideal.main_v11)) (v3 : (c : Dev Cert.Kernel11Ideal.nD) → Buf (Elt Ideal) ((c.tc : Thread Cert.Kernel11Ideal.nD Cert.Kernel11Ideal.τ).loc Cert.Kernel11Ideal.main_v12)) (v4 : (c : Dev Cert.Kernel11Ideal.nD) → Buf (Elt Ideal) ((c.tc : Thread Cert.Kernel11Ideal.nD Cert.Kernel11Ideal.τ).loc Cert.Kernel11Ideal.main_v13)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9) = v0 c
          ∧ r.2.mem ((c.tc : Thread Cert.Kernel11Ideal.nD Cert.Kernel11Ideal.τ).loc Cert.Kernel11Ideal.main_v10) = v1 c
          ∧ r.2.mem ((c.tc : Thread Cert.Kernel11Ideal.nD Cert.Kernel11Ideal.τ).loc Cert.Kernel11Ideal.main_v11) = v2 c
          ∧ r.2.mem ((c.tc : Thread Cert.Kernel11Ideal.nD Cert.Kernel11Ideal.τ).loc Cert.Kernel11Ideal.main_v12) = v3 c
          ∧ r.2.mem ((c.tc : Thread Cert.Kernel11Ideal.nD Cert.Kernel11Ideal.τ).loc Cert.Kernel11Ideal.main_v13) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_v11) = v2 c
          ∧ r.2.mem ((c.tc : Thread Cert.Reference11Ideal.nD Cert.Reference11Ideal.τ).loc Cert.Reference11Ideal.main_v16) = v3 c
          ∧ r.2.mem ((c.tc : Thread Cert.Reference11Ideal.nD Cert.Reference11Ideal.τ).loc Cert.Reference11Ideal.main_v17) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v9)) (v1 : (c : Dev Cert.Kernel10Ideal.nD) → Buf (Elt Ideal) ((c.tc : Thread Cert.Kernel10Ideal.nD Cert.Kernel10Ideal.τ).loc Cert.Kernel10Ideal.main_v10)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9) = v0 c
          ∧ r.2.mem ((c.tc : Thread Cert.Kernel10Ideal.nD Cert.Kernel10Ideal.τ).loc Cert.Kernel10Ideal.main_v10) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_v11) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel8_Kernel8Ideal : Prop :=
  True

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v8)) (v1 : (c : Dev Cert.Kernel14Ideal.nD) → Buf (Elt Ideal) ((c.tc : Thread Cert.Kernel14Ideal.nD Cert.Kernel14Ideal.τ).loc Cert.Kernel14Ideal.main_v9)) (v2 : (c : Dev Cert.Kernel14Ideal.nD) → Buf (Elt Ideal) ((c.tc : Thread Cert.Kernel14Ideal.nD Cert.Kernel14Ideal.τ).loc Cert.Kernel14Ideal.main_v10)) (v3 : (c : Dev Cert.Kernel14Ideal.nD) → Buf (Elt Ideal) ((c.tc : Thread Cert.Kernel14Ideal.nD Cert.Kernel14Ideal.τ).loc Cert.Kernel14Ideal.main_v11)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8) = v0 c
          ∧ r.2.mem ((c.tc : Thread Cert.Kernel14Ideal.nD Cert.Kernel14Ideal.τ).loc Cert.Kernel14Ideal.main_v9) = v1 c
          ∧ r.2.mem ((c.tc : Thread Cert.Kernel14Ideal.nD Cert.Kernel14Ideal.τ).loc Cert.Kernel14Ideal.main_v10) = v2 c
          ∧ r.2.mem ((c.tc : Thread Cert.Kernel14Ideal.nD Cert.Kernel14Ideal.τ).loc Cert.Kernel14Ideal.main_v11) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v10)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v10) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)) →
    ∃ (v0 : (c : Dev Cert.Kernel15Ideal.nD) → Buf (Elt Ideal) ((c.tc : Thread Cert.Kernel15Ideal.nD Cert.Kernel15Ideal.τ).loc Cert.Kernel15Ideal.main_v17)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v17) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel9 : Cert.Kernel9.Facts) (hKernel9Ideal : Cert.Kernel9Ideal.Facts) (hReference9Ideal : Cert.Reference9Ideal.Facts) (hKernel12 : Cert.Kernel12.Facts) (hKernel12Ideal : Cert.Kernel12Ideal.Facts) (hReference12Ideal : Cert.Reference12Ideal.Facts) (hKernel11 : Cert.Kernel11.Facts) (hKernel11Ideal : Cert.Kernel11Ideal.Facts) (hReference11Ideal : Cert.Reference11Ideal.Facts) (hKernel10 : Cert.Kernel10.Facts) (hKernel10Ideal : Cert.Kernel10Ideal.Facts) (hReference10Ideal : Cert.Reference10Ideal.Facts) (hKernel8 : Cert.Kernel8.Facts) (hKernel8Ideal : Cert.Kernel8Ideal.Facts) (hReference8Ideal : Cert.Reference8Ideal.Facts) (hKernel14 : Cert.Kernel14.Facts) (hKernel14Ideal : Cert.Kernel14Ideal.Facts) (hReference14Ideal : Cert.Reference14Ideal.Facts) (hKernel16 : Cert.Kernel16.Facts) (hKernel16Ideal : Cert.Kernel16Ideal.Facts) (hReference16Ideal : Cert.Reference16Ideal.Facts) (hKernel15 : Cert.Kernel15.Facts) (hKernel15Ideal : Cert.Kernel15Ideal.Facts) (hReference15Ideal : Cert.Reference15Ideal.Facts) (hPre_finite : Cert.Pre_finite.Facts) (hPre_finite2 : Cert.Pre_finite2.Facts) (hPre_finite3 : Cert.Pre_finite3.Facts) (hPre_finite4 : Cert.Pre_finite4.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel9_Kernel9Ideal
    ∧ algebraic_Kernel9Ideal_Reference9Ideal (hKernel9Ideal := hKernel9Ideal) (hReference9Ideal := hReference9Ideal)
    ∧ preserves_Kernel12_Kernel12Ideal
    ∧ algebraic_Kernel12Ideal_Reference12Ideal (hKernel12Ideal := hKernel12Ideal) (hReference12Ideal := hReference12Ideal)
    ∧ preserves_Kernel11_Kernel11Ideal
    ∧ algebraic_Kernel11Ideal_Reference11Ideal (hKernel11Ideal := hKernel11Ideal) (hReference11Ideal := hReference11Ideal)
    ∧ preserves_Kernel10_Kernel10Ideal
    ∧ algebraic_Kernel10Ideal_Reference10Ideal (hKernel10Ideal := hKernel10Ideal) (hReference10Ideal := hReference10Ideal)
    ∧ preserves_Kernel8_Kernel8Ideal
    ∧ preserves_Kernel14_Kernel14Ideal
    ∧ algebraic_Kernel14Ideal_Reference14Ideal (hKernel14Ideal := hKernel14Ideal) (hReference14Ideal := hReference14Ideal)
    ∧ preserves_Kernel16_Kernel16Ideal
    ∧ algebraic_Kernel16Ideal_Reference16Ideal (hKernel16Ideal := hKernel16Ideal) (hReference16Ideal := hReference16Ideal)
    ∧ preserves_Kernel15_Kernel15Ideal
    ∧ algebraic_Kernel15Ideal_Reference15Ideal (hKernel15Ideal := hKernel15Ideal) (hReference15Ideal := hReference15Ideal)
-- ==== Pre_finite.lean ====
abbrev S8192x8x64 : Shape := ⟨3, ![8192, 8, 64]⟩
abbrev S8192x8x32 : Shape := ⟨3, ![8192, 8, 32]⟩
abbrev S8192x32 : Shape := ⟨2, ![8192, 32]⟩
abbrev S8192x512 : Shape := ⟨2, ![8192, 512]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x8x32 : S_.BroadcastsInDim S8192x8x32 (![] : Fin 0 → Fin S8192x8x32.rank)
  reducesTo_S8192x8x32_S_d0_1_2 : S8192x8x32.ReducesTo [0, 1, 2] S_
  bcast_S_S8192x32 : S_.BroadcastsInDim S8192x32 (![] : Fin 0 → Fin S8192x32.rank)
  reducesTo_S8192x32_S_d0_1 : S8192x32.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_arg4 : FVec F S8192x8x64 .f32) (main_arg5 : FVec F S8192x512 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S8192x8x64 .f32 := Host.absf main_arg4
  let main_cst_6 : FVec F S_ .f32 := constant S_ .f32 0x7F800000#32
  let main_v20 : FVec F S8192x8x64 .f32 := broadcastInDim S8192x8x64 ![] bcast_S_S8192x8x64 main_cst_6
  let main_v21 : IVec S8192x8x64 1 := cmpf .olt main_v19 main_v20
  let main_c_7 : IVec S_ 1 := constantI S_ 1 1#1
  let main_v22 : IVec S_ 1 := (fun x v => Host.reduce IntOp.andi x v reducesTo_S8192x8x64_S_d0_1_2 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  main_v28

def fn {F : FTy → Type} [FloatOps F] (main_arg0 : FVec F S8192x8x64 .f32) (main_arg1 : FVec F S8192x8x32 .f32) (main_arg2 : FVec F S8192x8x64 .f32) (main_arg3 : FVec F S8192x32 .f32) (main_arg4 : FVec F S8192x8x64 .f32) (main_arg5 : FVec F S8192x512 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x8x32 .f32 := Host.absf main_arg1
  let main_cst_0 : FVec F S_ .f32 := constant S_ .f32 0x7F800000#32
  let main_v5 : FVec F S8192x8x32 .f32 := broadcastInDim S8192x8x32 ![] bcast_S_S8192x8x32 main_cst_0
  let main_v6 : IVec S8192x8x32 1 := cmpf .olt main_v4 main_v5
  let main_c_1 : IVec S_ 1 := constantI S_ 1 1#1
  let main_v7 : IVec S_ 1 := (fun x v => Host.reduce IntOp.andi x v reducesTo_S8192x8x32_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x32 .f32 := Host.absf main_arg3
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg4 main_arg5 main_v13 main_v16
-- ==== Pre_finite2.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x1024 .f32) (main_arg1 : FVec F S8192x1024 .f32) (main_arg2 : FVec F S1x1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Pre_finite3.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S8192x1024 .f32) (main_arg5 : FVec F S8192x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S8192x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Pre_finite4.lean ====
abbrev S8192x2816 : Shape := ⟨2, ![8192, 2816]⟩
abbrev S2816x1024 : Shape := ⟨2, ![2816, 1024]⟩
abbrev S1x1024 : Shape := ⟨2, ![1, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S8192x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x2816 .f32) (main_arg1 : FVec F S2816x1024 .f32) (main_arg2 : FVec F S1x1024 .f32) (main_arg3 : FVec F S8192x1024 .f32) (main_arg4 : FVec F S8192x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== Pre_finite6.lean ====
abbrev S8192x512 : Shape := ⟨2, ![8192, 512]⟩
abbrev S1x512 : Shape := ⟨2, ![1, 512]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S8192x1024 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x512 .f32) (main_arg1 : FVec F S8192x512 .f32) (main_arg2 : FVec F S1x512 .f32) (main_arg3 : FVec F S1x512 .f32) (main_arg4 : FVec F S8192x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_v13 main_v16
-- ==== Pre_finite7.lean ====
abbrev S8192x384 : Shape := ⟨2, ![8192, 384]⟩
abbrev S8192x256 : Shape := ⟨2, ![8192, 256]⟩
abbrev S8192x32 : Shape := ⟨2, ![8192, 32]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S8192x8x96 : Shape := ⟨3, ![8192, 8, 96]⟩
abbrev S8192x8x64 : Shape := ⟨3, ![8192, 8, 64]⟩
abbrev S_ : Shape := ⟨0, ![]⟩

class Facts : Prop where
  bcast_S_S8192x384 : S_.BroadcastsInDim S8192x384 (![] : Fin 0 → Fin S8192x384.rank)
  reducesTo_S8192x384_S_d0_1 : S8192x384.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1x384 : S_.BroadcastsInDim S1x384 (![] : Fin 0 → Fin S1x384.rank)
  reducesTo_S1x384_S_d0_1 : S1x384.ReducesTo [0, 1] S_
  bcast_S_S384x768 : S_.BroadcastsInDim S384x768 (![] : Fin 0 → Fin S384x768.rank)
  reducesTo_S384x768_S_d0_1 : S384x768.ReducesTo [0, 1] S_
  bcast_S_S1x256 : S_.BroadcastsInDim S1x256 (![] : Fin 0 → Fin S1x256.rank)
  reducesTo_S1x256_S_d0_1 : S1x256.ReducesTo [0, 1] S_
  bcast_S_S256x1024 : S_.BroadcastsInDim S256x1024 (![] : Fin 0 → Fin S256x1024.rank)
  reducesTo_S256x1024_S_d0_1 : S256x1024.ReducesTo [0, 1] S_
  bcast_S_S8192x8x96 : S_.BroadcastsInDim S8192x8x96 (![] : Fin 0 → Fin S8192x8x96.rank)
  reducesTo_S8192x8x96_S_d0_1_2 : S8192x8x96.ReducesTo [0, 1, 2] S_
  bcast_S_S8192x8x64 : S_.BroadcastsInDim S8192x8x64 (![] : Fin 0 → Fin S8192x8x64.rank)
  reducesTo_S8192x8x64_S_d0_1_2 : S8192x8x64.ReducesTo [0, 1, 2] S_

variable [Facts]

def fn_part2 {F : FTy → Type} [FloatOps F] (main_arg8 : FVec F S8192x8x96 .f32) (main_arg9 : FVec F S8192x8x64 .f32) (main_v33 : IVec S_ 1) : IVec S_ 1 :=
  let main_v34 : FVec F S8192x8x96 .f32 := Host.absf main_arg8
  let main_cst_12 : FVec F S_ .f32 := constant S_ .f32 0x7F800000#32
  let main_v35 : FVec F S8192x8x96 .f32 := broadcastInDim S8192x8x96 ![] bcast_S_S8192x8x96 main_cst_12
  let main_v36 : IVec S8192x8x96 1 := cmpf .olt main_v34 main_v35
  let main_c_13 : IVec S_ 1 := constantI S_ 1 1#1
  let main_v37 : IVec S_ 1 := (fun x v => Host.reduce IntOp.andi x v reducesTo_S8192x8x96_S_d0_1_2 h_S_) main_v36 main_c_13
  let main_v38 : IVec S_ 1 := andi main_v33 main_v37
  let main_v39 : FVec F S8192x8x64 .f32 := Host.absf main_arg9
  let main_cst_14 : FVec F S_ .f32 := constant S_ .f32 0x7F800000#32
  let main_v40 : FVec F S8192x8x64 .f32 := broadcastInDim S8192x8x64 ![] bcast_S_S8192x8x64 main_cst_14
  let main_v41 : IVec S8192x8x64 1 := cmpf .olt main_v39 main_v40
  let main_c_15 : IVec S_ 1 := constantI S_ 1 1#1
  let main_v42 : IVec S_ 1 := (fun x v => Host.reduce IntOp.andi x v reducesTo_S8192x8x64_S_d0_1_2 h_S_) main_v41 main_c_15
  let main_v43 : IVec S_ 1 := andi main_v38 main_v42
  main_v43

def fn_part1 {F : FTy → Type} [FloatOps F] (main_arg5 : FVec F S1x256 .f32) (main_arg6 : FVec F S256x1024 .f32) (main_arg7 : FVec F S8192x8x96 .f32) (main_arg8 : FVec F S8192x8x96 .f32) (main_arg9 : FVec F S8192x8x64 .f32) (main_v13 : IVec S_ 1) (main_v16 : IVec S384x768 1) : IVec S_ 1 :=
  let main_c_5 : IVec S_ 1 := constantI S_ 1 1#1
  let main_v17 : IVec S_ 1 := (fun x v => Host.reduce IntOp.andi x v reducesTo_S384x768_S_d0_1 h_S_) main_v16 main_c_5
  let main_v18 : IVec S_ 1 := andi main_v13 main_v17
  let main_v19 : FVec F S1x256 .f32 := Host.absf main_arg5
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S256x1024 .f32 := Host.absf main_arg6
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S8192x8x96 .f32 := Host.absf main_arg7
  let main_cst_10 : FVec F S_ .f32 := constant S_ .f32 0x7F800000#32
  let main_v30 : FVec F S8192x8x96 .f32 := broadcastInDim S8192x8x96 ![] bcast_S_S8192x8x96 main_cst_10
  let main_v31 : IVec S8192x8x96 1 := cmpf .olt main_v29 main_v30
  let main_c_11 : IVec S_ 1 := constantI S_ 1 1#1
  let main_v32 : IVec S_ 1 := (fun x v => Host.reduce IntOp.andi x v reducesTo_S8192x8x96_S_d0_1_2 h_S_) main_v31 main_c_11
  let main_v33 : IVec S_ 1 := andi main_v28 main_v32
  fn_part2 (F := F) main_arg8 main_arg9 main_v33

def fn {F : FTy → Type} [FloatOps F] (main_arg0 : FVec F S8192x384 .f32) (main_arg1 : FVec F S8192x256 .f32) (main_arg2 : FVec F S8192x32 .f32) (main_arg3 : FVec F S1x384 .f32) (main_arg4 : FVec F S384x768 .f32) (main_arg5 : FVec F S1x256 .f32) (main_arg6 : FVec F S256x1024 .f32) (main_arg7 : FVec F S8192x8x96 .f32) (main_arg8 : FVec F S8192x8x96 .f32) (main_arg9 : FVec F S8192x8x64 .f32) : IVec S_ 1 :=
  let main_v0 : FVec F S8192x384 .f32 := Host.absf main_arg0
  let main_cst : FVec F S_ .f32 := constant S_ .f32 0x7F800000#32
  let main_v1 : FVec F S8192x384 .f32 := broadcastInDim S8192x384 ![] bcast_S_S8192x384 main_cst
  let main_v2 : IVec S8192x384 1 := cmpf .olt main_v0 main_v1
  let main_c : IVec S_ 1 := constantI S_ 1 1#1
  let main_v3 : IVec S_ 1 := (fun x v => Host.reduce IntOp.andi x v reducesTo_S8192x384_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S1x384 .f32 := Host.absf main_arg3
  let main_cst_2 : FVec F S_ .f32 := constant S_ .f32 0x7F800000#32
  let main_v10 : FVec F S1x384 .f32 := broadcastInDim S1x384 ![] bcast_S_S1x384 main_cst_2
  let main_v11 : IVec S1x384 1 := cmpf .olt main_v9 main_v10
  let main_c_3 : IVec S_ 1 := constantI S_ 1 1#1
  let main_v12 : IVec S_ 1 := (fun x v => Host.reduce IntOp.andi x v reducesTo_S1x384_S_d0_1 h_S_) main_v11 main_c_3
  let main_v13 : IVec S_ 1 := andi main_v8 main_v12
  let main_v14 : FVec F S384x768 .f32 := Host.absf main_arg4
  let main_cst_4 : FVec F S_ .f32 := constant S_ .f32 0x7F800000#32
  let main_v15 : FVec F S384x768 .f32 := broadcastInDim S384x768 ![] bcast_S_S384x768 main_cst_4
  let main_v16 : IVec S384x768 1 := cmpf .olt main_v14 main_v15
  fn_part1 (F := F) main_arg5 main_arg6 main_arg7 main_arg8 main_arg9 main_v13 main_v16
-- ==== Kernel.lean ====
abbrev S8192x8x64 : Shape := ⟨3, ![8192, 8, 64]⟩
abbrev S8192x8x32 : Shape := ⟨3, ![8192, 8, 32]⟩
abbrev S8192x32 : Shape := ⟨2, ![8192, 32]⟩
abbrev S8192x512 : Shape := ⟨2, ![8192, 512]⟩
abbrev S_ : Shape := ⟨0, ![]⟩
abbrev S8192x8x128 : Shape := ⟨3, ![8192, 8, 128]⟩
abbrev S8192x1024 : Shape := ⟨2, ![8192, 1024]⟩
abbrev S512x1024 : Shape := ⟨2, ![512, 1024]⟩
abbrev S8192x1x32 : Shape := ⟨3, ![8192, 1, 32]⟩
abbrev S8192x8x2 : Shape := ⟨3, ![8192, 8, 2]⟩
abbrev S8192x8x30 : Shape := ⟨3, ![8192, 8, 30]⟩
abbrev S8192x8x62 : Shape := ⟨3, ![8192, 8, 62]⟩
abbrev S1024x256 : Shape := ⟨2, ![1024, 256]⟩
abbrev S8192x256 : Shape := ⟨2, ![8192, 256]⟩
abbrev S1024x128 : Shape := ⟨2, ![1024, 128]⟩
abbrev S2x1024x128 : Shape := ⟨3, ![2, 1024, 128]⟩
abbrev S1024x1024 : Shape := ⟨2, ![1024, 1024]⟩
abbrev S1x1024x128 : Shape := ⟨3, ![1, 1024, 128]⟩
abbrev S1024 : Shape := ⟨1, ![1024]⟩
abbrev S1024x1 : Shape := ⟨2, ![1024, 1]⟩
abbrev S8192x8 : Shape := ⟨2, ![8192, 8]⟩
abbrev S8192x8x1 : Shape := ⟨3, ![8192, 8, 1]⟩
abbrev S512x256 : Shape := ⟨2, ![512, 256]⟩
abbrev S512x128 : Shape := ⟨2, ![512, 128]⟩

abbrev nBuf : Space → Nat
  | .hbm => 64
  | .vmem => 34
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8192x512, .f32⟩
  | .hbm, ⟨6, _⟩ => ⟨S_, .f32⟩
  | .hbm, ⟨7, _⟩ => ⟨S8192x8x32, .f32⟩
  | .hbm, ⟨8, _⟩ => ⟨S8192x8x128, .f32⟩
  | .hbm, ⟨9, _⟩ => ⟨S8192x1024, .f32⟩
  | .hbm, ⟨10, _⟩ => ⟨S8192x1024, .bf16⟩
  | .hbm, ⟨11, _⟩ => ⟨S8192x1x32, .f32⟩
  | .hbm, ⟨12, _⟩ => ⟨S8192x8x32, .f32⟩
  | .hbm, ⟨13, _⟩ => ⟨S_, .f32⟩
  | .hbm, ⟨14, _⟩ => ⟨S8192x8x2, .f32⟩
  | .hbm, ⟨15, _⟩ => ⟨S_, .f32⟩
  | .hbm, ⟨16, _⟩ => ⟨S8192x8x30, .f32⟩
  | .hbm, ⟨17, _⟩ => ⟨S8192x8x128, .f32⟩
  | .hbm, ⟨18, _⟩ => ⟨S8192x1024, .f32⟩
  | .hbm, ⟨19, _⟩ => ⟨S8192x1024, .bf16⟩
  | .hbm, ⟨20, _⟩ => ⟨S_, .f32⟩
  | .hbm, ⟨21, _⟩ => ⟨S8192x8x2, .f32⟩
  | .hbm, ⟨22, _⟩ => ⟨S_, .f32⟩
  | .hbm, ⟨23, _⟩ => ⟨S8192x8x62, .f32⟩
  | .hbm, ⟨24, _⟩ => ⟨S8192x8x128, .f32⟩
  | .hbm, ⟨25, _⟩ => ⟨S8192x1024, .f32⟩
  | .hbm, ⟨26, _⟩ => ⟨S8192x1024, .bf16⟩
  | .hbm, ⟨27, _⟩ => ⟨S8192x512, .f32⟩
  | .hbm, ⟨28, _⟩ => ⟨S8192x1024, .bf16⟩
  | .hbm, ⟨29, _⟩ => ⟨S8192x8x64, .f32⟩
  | .hbm, ⟨30, _⟩ => ⟨S8192x8x64, .f32⟩
  | .hbm, ⟨31, _⟩ => ⟨S8192x8x64, .f32⟩
  | .hbm, ⟨32, _⟩ => ⟨S_, .f32⟩
  | .hbm, ⟨33, _⟩ => ⟨S8192x8, .f32⟩
  | .hbm, ⟨34, _⟩ => ⟨S8192x8x1, .f32⟩
  | .hbm, ⟨35, _⟩ => ⟨S8192x8x1, .bf16⟩
  | .hbm, ⟨36, _⟩ => ⟨S8192x8x1, .f32⟩
  | .hbm, ⟨37, _⟩ => ⟨S8192x8x1, .f32⟩
  | .hbm, ⟨38, _⟩ => ⟨S8192x8x1, .bf16⟩
  | .hbm, ⟨39, _⟩ => ⟨S8192x8x1, .bf16⟩
  | .hbm, ⟨40, _⟩ => ⟨S8192x8x1, .bf16⟩
  | .hbm, ⟨41, _⟩ => ⟨S_, .f32⟩
  | .hbm, ⟨42, _⟩ => ⟨S8192x8x62, .f32⟩
  | .hbm, ⟨43, _⟩ => ⟨S8192x8x62, .bf16⟩
  | .hbm, ⟨44, _⟩ => ⟨S8192x8x64, .bf16⟩
  | .hbm, ⟨45, _⟩ => ⟨S8192x8x128, .bf16⟩
  | .hbm, ⟨46, _⟩ => ⟨S8192x1024, .bf16⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x8x128, .f32⟩
  | .hbm, ⟨51, _⟩ => ⟨S_, .f32⟩
  | .hbm, ⟨52, _⟩ => ⟨S8192x8x128, .f32⟩
  | .hbm, ⟨53, _⟩ => ⟨S8192x8x128, .f32⟩
  | .hbm, ⟨54, _⟩ => ⟨S8192x1024, .f32⟩
  | .hbm, ⟨55, _⟩ => ⟨S8192x8x128, .f32⟩
  | .hbm, ⟨56, _⟩ => ⟨S8192x8x128, .f32⟩
  | .hbm, ⟨57, _⟩ => ⟨S8192x8x64, .f32⟩
  | .hbm, ⟨58, _⟩ => ⟨S8192x8x32, .f32⟩
  | .hbm, ⟨59, _⟩ => ⟨S8192x8x64, .f32⟩
  | .hbm, ⟨60, _⟩ => ⟨S8192x8x32, .f32⟩
  | .hbm, ⟨61, _⟩ => ⟨S_, .f32⟩
  | .hbm, ⟨62, _⟩ => ⟨S8192x32, .f32⟩
  | .hbm, ⟨63, _⟩ => ⟨S8192x8x64, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x256, .bf16⟩
  | .local _ .vmem, ⟨5, _⟩ => ⟨S1024x256, .bf16⟩
  | .local _ .vmem, ⟨6, _⟩ => ⟨S8192x256, .bf16⟩
  | .local _ .vmem, ⟨7, _⟩ => ⟨S8192x256, .bf16⟩
  | .local _ .vmem, ⟨8, _⟩ => ⟨S8192x256, .bf16⟩
  | .local _ .vmem, ⟨9, _⟩ => ⟨S8192x256, .bf16⟩
  | .local _ .vmem, ⟨10, _⟩ => ⟨S1024x128, .f32⟩
  | .local _ .vmem, ⟨11, _⟩ => ⟨S1024x128, .f32⟩
  | .local _ .vmem, ⟨12, _⟩ => ⟨S1024x256, .bf16⟩
  | .local _ .vmem, ⟨13, _⟩ => ⟨S1024x256, .bf16⟩
  | .local _ .vmem, ⟨14, _⟩ => ⟨S2x1024x128, .f32⟩
  | .local _ .vmem, ⟨15, _⟩ => ⟨S2x1024x128, .f32⟩
  | .local _ .vmem, ⟨16, _⟩ => ⟨S8192x256, .bf16⟩
  | .local _ .vmem, ⟨17, _⟩ => ⟨S8192x256, .bf16⟩
  | .local _ .vmem, ⟨18, _⟩ => ⟨S8192x256, .bf16⟩
  | .local _ .vmem, ⟨19, _⟩ => ⟨S8192x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S8192x256, .f32⟩
  | .local _ .vmem, ⟨25, _⟩ => ⟨S8192x256, .f32⟩
  | .local _ .vmem, ⟨26, _⟩ => ⟨S512x256, .f32⟩
  | .local _ .vmem, ⟨27, _⟩ => ⟨S512x256, .f32⟩
  | .local _ .vmem, ⟨28, _⟩ => ⟨S512x256, .f32⟩
  | .local _ .vmem, ⟨29, _⟩ => ⟨S512x256, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33_0 : Ref sig .tc := ⟨.hbm, 47, rfl⟩
abbrev main_v33_1 : Ref sig .tc := ⟨.hbm, 48, rfl⟩
abbrev main_v33_2 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 8], ![false, false]⟩

@[reducible] def k1_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k1_mult1 (k1_t1 : Fin k1_t1_loop.trips) : BitVec 32 :=
  let c0_i32 : BitVec 32 := 0#32
  let c1_i32 : BitVec 32 := 1#32
  let arg9 : BitVec 32 := Scf.iv c0_i32 c1_i32 k1_t1
  let c1024_i32 : BitVec 32 := 1024#32
  let v73 : BitVec 32 := Scalar.muli arg9 c1024_i32
  v73
def k1_off1 (k1_t1 : Fin k1_t1_loop.trips) : Fin 2 → Nat :=
  let c0_i32 : BitVec 32 := 0#32
  let c1_i32 : BitVec 32 := 1#32
  let arg9 : BitVec 32 := Scf.iv c0_i32 c1_i32 k1_t1
  let c1024_i32 : BitVec 32 := 1024#32
  let v73 : BitVec 32 := Scalar.muli arg9 c1024_i32
  let v74 : BitVec 32 := v73
  let v77 : Index := Scalar.indexCast v74
  let c0_38 : Index := 0#32
  ![v77.toNat, 0]
def k1_off2 (k1_t1 : Fin k1_t1_loop.trips) : Fin 2 → Nat :=
  let c0_i32 : BitVec 32 := 0#32
  let c1_i32 : BitVec 32 := 1#32
  let arg9 : BitVec 32 := Scf.iv c0_i32 c1_i32 k1_t1
  let c1024_i32 : BitVec 32 := 1024#32
  let v73 : BitVec 32 := Scalar.muli arg9 c1024_i32
  let v74 : BitVec 32 := v73
  let v83 : Index := Scalar.indexCast v74
  let c128_42 : Index := 128#32
  ![v83.toNat, 128]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![4, 16], ![false, false]⟩

@[reducible] def k2_t1_loop : Scf.Loop 32 :=
  let c0_i32_5 : BitVec 32 := 0#32
  let c8_i32 : BitVec 32 := 8#32
  let v7 : BitVec 32 := Scalar.addi c0_i32_5 c8_i32
  let c1_i32 : BitVec 32 := 1#32
  ⟨c0_i32_5, v7, c1_i32⟩
def k2_mult1 (k2_t1 : Fin k2_t1_loop.trips) : BitVec 32 :=
  let c0_i32_5 : BitVec 32 := 0#32
  let c1_i32 : BitVec 32 := 1#32
  let arg9 : BitVec 32 := Scf.iv c0_i32_5 c1_i32 k2_t1
  let c1024_i32 : BitVec 32 := 1024#32
  let v8 : BitVec 32 := Scalar.muli arg9 c1024_i32
  v8
def k2_off1 (k2_t1 : Fin k2_t1_loop.trips) : Fin 2 → Nat :=
  let c0_i32_5 : BitVec 32 := 0#32
  let c1_i32 : BitVec 32 := 1#32
  let arg9 : BitVec 32 := Scf.iv c0_i32_5 c1_i32 k2_t1
  let c1024_i32 : BitVec 32 := 1024#32
  let v8 : BitVec 32 := Scalar.muli arg9 c1024_i32
  let v9 : BitVec 32 := v8
  let v10 : Index := Scalar.indexCast v9
  let c0_7 : Index := 0#32
  ![v10.toNat, 0]
def k2_off2 (k2_t1 : Fin k2_t1_loop.trips) : Fin 2 → Nat :=
  let c0_i32_5 : BitVec 32 := 0#32
  let c1_i32 : BitVec 32 := 1#32
  let arg9 : BitVec 32 := Scf.iv c0_i32_5 c1_i32 k2_t1
  let c1024_i32 : BitVec 32 := 1024#32
  let v8 : BitVec 32 := Scalar.muli arg9 c1024_i32
  let v9 : BitVec 32 := v8
  let v13 : Index := Scalar.indexCast v9
  let c128 : Index := 128#32
  ![v13.toNat, 128]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S8192x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S8192x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S8192x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S512x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S512x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "qscale" => some (((3424635 / 33554432) * (Real.log 2)⁻¹ : ℝ) : EReal)
  | _ => none
-- ==== ReferenceIdeal.lean ====
abbrev S8192x8x64 : Shape := ⟨3, ![8192, 8, 64]⟩
abbrev S8192x8x32 : Shape := ⟨3, ![8192, 8, 32]⟩
abbrev S8192x32 : Shape := ⟨2, ![8192, 32]⟩
abbrev S8192x512 : Shape := ⟨2, ![8192, 512]⟩
abbrev S8x8192x8192 : Shape := ⟨3, ![8, 8192, 8192]⟩
abbrev S8192x8192x8 : Shape := ⟨3, ![8192, 8192, 8]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x8192x64 : Shape := ⟨3, ![8, 8192, 64]⟩

abbrev nBuf : Space → Nat
  | .hbm => 83
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8192x512, .f32⟩
  | .hbm, ⟨6, _⟩ => ⟨S8x8192x8192, .f32⟩
  | .hbm, ⟨7, _⟩ => ⟨S8192x8192x8, .f32⟩
  | .hbm, ⟨8, _⟩ => ⟨S8x8192x8192, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S_, .f32⟩
  | .hbm, ⟨14, _⟩ => ⟨S8x8192, .f32⟩
  | .hbm, ⟨15, _⟩ => ⟨S8x8192x1, .f32⟩
  | .hbm, ⟨16, _⟩ => ⟨S8x8192x8192, .f32⟩
  | .hbm, ⟨17, _⟩ => ⟨S8x8192x8192, .i1⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S_, .f32⟩
  | .hbm, ⟨22, _⟩ => ⟨S8x8192, .f32⟩
  | .hbm, ⟨23, _⟩ => ⟨S8x8192, .f32⟩
  | .hbm, ⟨24, _⟩ => ⟨S_, .f32⟩
  | .hbm, ⟨25, _⟩ => ⟨S8x8192, .f32⟩
  | .hbm, ⟨26, _⟩ => ⟨S8x8192, .i1⟩
  | .hbm, ⟨27, _⟩ => ⟨S_, .f32⟩
  | .hbm, ⟨28, _⟩ => ⟨S8x8192, .f32⟩
  | .hbm, ⟨29, _⟩ => ⟨S8x8192, .i1⟩
  | .hbm, ⟨30, _⟩ => ⟨S_, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S_, .f32⟩
  | .hbm, ⟨35, _⟩ => ⟨S8x8192, .f32⟩
  | .hbm, ⟨36, _⟩ => ⟨S8x8192, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S8x8192x1, .f32⟩
  | .hbm, ⟨45, _⟩ => ⟨S8x8192x8192, .f32⟩
  | .hbm, ⟨46, _⟩ => ⟨S8x8192x8192, .f32⟩
  | .hbm, ⟨47, _⟩ => ⟨S8x8192x1, .f32⟩
  | .hbm, ⟨48, _⟩ => ⟨S_, .f32⟩
  | .hbm, ⟨49, _⟩ => ⟨S8x8192x1, .f32⟩
  | .hbm, ⟨50, _⟩ => ⟨S8x8192x1, .f32⟩
  | .hbm, ⟨51, _⟩ => ⟨S8x64x8192, .f32⟩
  | .hbm, ⟨52, _⟩ => ⟨S8192x8x64, .f32⟩
  | .hbm, ⟨53, _⟩ => ⟨S8192x512, .f32⟩
  | .hbm, ⟨54, _⟩ => ⟨S8192x8x64, .f32⟩
  | .hbm, ⟨55, _⟩ => ⟨S8x64x8192, .f32⟩
  | .hbm, ⟨56, _⟩ => ⟨S8x8192x8192, .f32⟩
  | .hbm, ⟨57, _⟩ => ⟨S8x64x8192, .f32⟩
  | .hbm, ⟨58, _⟩ => ⟨S8192x8x64, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S_, .f32⟩
  | .hbm, ⟨63, _⟩ => ⟨S8x8192, .f32⟩
  | .hbm, ⟨64, _⟩ => ⟨S8x8192x1, .f32⟩
  | .hbm, ⟨65, _⟩ => ⟨S8x8192x1, .f32⟩
  | .hbm, ⟨66, _⟩ => ⟨S8x8192x8192, .f32⟩
  | .hbm, ⟨67, _⟩ => ⟨S8x8192x8192, .f32⟩
  | .hbm, ⟨68, _⟩ => ⟨S_, .f32⟩
  | .hbm, ⟨69, _⟩ => ⟨S8x8192, .f32⟩
  | .hbm, ⟨70, _⟩ => ⟨S8x8192x8192, .f32⟩
  | .hbm, ⟨71, _⟩ => ⟨S8x8192x8192, .f32⟩
  | .hbm, ⟨72, _⟩ => ⟨S8x8192x8192, .f32⟩
  | .hbm, ⟨73, _⟩ => ⟨S_, .f32⟩
  | .hbm, ⟨74, _⟩ => ⟨S8x8192x8192, .f32⟩
  | .hbm, ⟨75, _⟩ => ⟨S8x8192x8192, .f32⟩
  | .hbm, ⟨76, _⟩ => ⟨S8192x8192x8, .f32⟩
  | .hbm, ⟨77, _⟩ => ⟨S8192x8x32, .f32⟩
  | .hbm, ⟨78, _⟩ => ⟨S8192x32, .f32⟩
  | .hbm, ⟨79, _⟩ => ⟨S8x8192x64, .f32⟩
  | .hbm, ⟨80, _⟩ => ⟨S8192x8x64, .f32⟩
  | .hbm, ⟨81, _⟩ => ⟨S8x8192x64, .f32⟩
  | .hbm, ⟨82, _⟩ => ⟨S8192x8x64, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference2Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 27
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S1x1024, .f32⟩
  | .hbm, ⟨25, _⟩ => ⟨S1x1024, .f32⟩
  | .hbm, ⟨26, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== Kernel4.lean ====
abbrev S8192x2816 : Shape := ⟨2, ![8192, 2816]⟩
abbrev S2816x1024 : Shape := ⟨2, ![2816, 1024]⟩
abbrev S1x1024 : Shape := ⟨2, ![1, 1024]⟩
abbrev S8192x1024 : Shape := ⟨2, ![8192, 1024]⟩
abbrev S8x128 : Shape := ⟨2, ![8, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩
abbrev S_ : Shape := ⟨0, ![]⟩

abbrev nBuf : Space → Nat
  | .hbm => 16
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x2816, .bf16⟩
  | .hbm, ⟨6, _⟩ => ⟨S2816x1024, .bf16⟩
  | .hbm, ⟨7, _⟩ => ⟨S8192x1024, .bf16⟩
  | .hbm, ⟨8, _⟩ => ⟨S8192x1024, .f32⟩
  | .hbm, ⟨9, _⟩ => ⟨S8x128, .f32⟩
  | .hbm, ⟨10, _⟩ => ⟨S1x1024, .f32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | .local _ .vmem, ⟨13, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S8192x2816 : Shape := ⟨2, ![8192, 2816]⟩
abbrev S2816x1024 : Shape := ⟨2, ![2816, 1024]⟩
abbrev S1x1024 : Shape := ⟨2, ![1, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Kernel6.lean ====
abbrev S8192x512 : Shape := ⟨2, ![8192, 512]⟩
abbrev S1x512 : Shape := ⟨2, ![1, 512]⟩
abbrev S8192x1024 : Shape := ⟨2, ![8192, 1024]⟩
abbrev S512x512 : Shape := ⟨2, ![512, 512]⟩
abbrev S_ : Shape := ⟨0, ![]⟩
abbrev S2048x2048 : Shape := ⟨2, ![2048, 2048]⟩
abbrev S512x8192 : Shape := ⟨2, ![512, 8192]⟩
abbrev S512x1024 : Shape := ⟨2, ![512, 1024]⟩
abbrev S128x2048 : Shape := ⟨2, ![128, 2048]⟩
abbrev S32x8192 : Shape := ⟨2, ![32, 8192]⟩
abbrev S4x512x128 : Shape := ⟨3, ![4, 512, 128]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩
abbrev S8192x8x128 : Shape := ⟨3, ![8192, 8, 128]⟩
abbrev S8192x8x64 : Shape := ⟨3, ![8192, 8, 64]⟩
abbrev S8192x8x1 : Shape := ⟨3, ![8192, 8, 1]⟩
abbrev S8192x8 : Shape := ⟨2, ![8192, 8]⟩

abbrev nBuf : Space → Nat
  | .hbm => 36
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S8192x1024, .f32⟩
  | .hbm, ⟨5, _⟩ => ⟨S512x512, .i32⟩
  | .hbm, ⟨6, _⟩ => ⟨S_, .i32⟩
  | .hbm, ⟨7, _⟩ => ⟨S512x512, .i32⟩
  | .hbm, ⟨8, _⟩ => ⟨S512x512, .i32⟩
  | .hbm, ⟨9, _⟩ => ⟨S512x512, .i32⟩
  | .hbm, ⟨10, _⟩ => ⟨S_, .i32⟩
  | .hbm, ⟨11, _⟩ => ⟨S512x512, .i32⟩
  | .hbm, ⟨12, _⟩ => ⟨S512x512, .i32⟩
  | .hbm, ⟨13, _⟩ => ⟨S512x512, .i1⟩
  | .hbm, ⟨14, _⟩ => ⟨S512x512, .f32⟩
  | .hbm, ⟨15, _⟩ => ⟨S8192x512, .bf16⟩
  | .hbm, ⟨16, _⟩ => ⟨S8192x512, .f32⟩
  | .hbm, ⟨17, _⟩ => ⟨S8192x1024, .bf16⟩
  | .hbm, ⟨18, _⟩ => ⟨S1x512, .f32⟩
  | .hbm, ⟨19, _⟩ => ⟨S1x512, .f32⟩
  | .hbm, ⟨20, _⟩ => ⟨S2048x2048, .bf16⟩
  | .hbm, ⟨21, _⟩ => ⟨S512x8192, .bf16⟩
  | .hbm, ⟨22, _⟩ => ⟨S2048x2048, .f32⟩
  | .hbm, ⟨23, _⟩ => ⟨S512x8192, .f32⟩
  | .hbm, ⟨24, _⟩ => ⟨S8192x1024, .f32⟩
  | .hbm, ⟨25, _⟩ => ⟨S8192x8x128, .f32⟩
  | .hbm, ⟨26, _⟩ => ⟨S8192x512, .f32⟩
  | .hbm, ⟨27, _⟩ => ⟨S8192x8x64, .f32⟩
  | .hbm, ⟨28, _⟩ => ⟨S8192x8x1, .f32⟩
  | .hbm, ⟨29, _⟩ => ⟨S8192x8, .f32⟩
  | .hbm, ⟨30, _⟩ => ⟨S8192x8x1, .f32⟩
  | .hbm, ⟨31, _⟩ => ⟨S8192x8, .f32⟩
  | .hbm, ⟨32, _⟩ => ⟨S8192x8, .f32⟩
  | .hbm, ⟨33, _⟩ => ⟨S8192x8, .f32⟩
  | .hbm, ⟨34, _⟩ => ⟨S2048x2048, .f32⟩
  | .hbm, ⟨35, _⟩ => ⟨S512x8192, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x1024, .bf16⟩
  | .local _ .vmem, ⟨14, _⟩ => ⟨S512x1024, .bf16⟩
  | .local _ .vmem, ⟨15, _⟩ => ⟨S1x512, .f32⟩
  | .local _ .vmem, ⟨16, _⟩ => ⟨S1x512, .f32⟩
  | .local _ .vmem, ⟨17, _⟩ => ⟨S128x2048, .bf16⟩
  | .local _ .vmem, ⟨18, _⟩ => ⟨S128x2048, .bf16⟩
  | .local _ .vmem, ⟨19, _⟩ => ⟨S32x8192, .bf16⟩
  | .local _ .vmem, ⟨20, _⟩ => ⟨S32x8192, .bf16⟩
  | .local _ .vmem, ⟨21, _⟩ => ⟨S128x2048, .f32⟩
  | .local _ .vmem, ⟨22, _⟩ => ⟨S128x2048, .f32⟩
  | .local _ .vmem, ⟨23, _⟩ => ⟨S32x8192, .f32⟩
  | .local _ .vmem, ⟨24, _⟩ => ⟨S32x8192, .f32⟩
  | .local _ .vmem, ⟨25, _⟩ => ⟨S4x512x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev main_v8_6 : Ref sig .tc := ⟨.hbm, 21, rfl⟩
abbrev main_v8_7 : Ref sig .tc := ⟨.hbm, 22, rfl⟩
abbrev main_v8_8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x8192 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x8192 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference6Ideal.lean ====
abbrev S8192x512 : Shape := ⟨2, ![8192, 512]⟩
abbrev S1x512 : Shape := ⟨2, ![1, 512]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S512 : Shape := ⟨1, ![512]⟩
abbrev S8192x8x64 : Shape := ⟨3, ![8192, 8, 64]⟩
abbrev S8192x8 : Shape := ⟨2, ![8192, 8]⟩
abbrev S2048x2048 : Shape := ⟨2, ![2048, 2048]⟩
abbrev S512x8192 : Shape := ⟨2, ![512, 8192]⟩

abbrev nBuf : Space → Nat
  | .hbm => 107
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S8192x1024, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x1024, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x512, .f32⟩
  | .hbm, ⟨57, _⟩ => ⟨S8192x512, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x512, .f32⟩
  | .hbm, ⟨80, _⟩ => ⟨S8192x512, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S8192x512, .f32⟩
  | .hbm, ⟨93, _⟩ => ⟨S8192x8x64, .f32⟩
  | .hbm, ⟨94, _⟩ => ⟨S_, .f32⟩
  | .hbm, ⟨95, _⟩ => ⟨S8192x8, .f32⟩
  | .hbm, ⟨96, _⟩ => ⟨S8192x512, .f32⟩
  | .hbm, ⟨97, _⟩ => ⟨S8192x8x64, .f32⟩
  | .hbm, ⟨98, _⟩ => ⟨S_, .f32⟩
  | .hbm, ⟨99, _⟩ => ⟨S8192x8, .f32⟩
  | .hbm, ⟨100, _⟩ => ⟨S8192x8x64, .f32⟩
  | .hbm, ⟨101, _⟩ => ⟨S8192x512, .f32⟩
  | .hbm, ⟨102, _⟩ => ⟨S8192x8x64, .f32⟩
  | .hbm, ⟨103, _⟩ => ⟨S2048x2048, .f32⟩
  | .hbm, ⟨104, _⟩ => ⟨S512x8192, .f32⟩
  | .hbm, ⟨105, _⟩ => ⟨S2048x2048, .f32⟩
  | .hbm, ⟨106, _⟩ => ⟨S512x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_13 : Ref sig .tc := ⟨.hbm, 82, rfl⟩
abbrev main_v63 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_15 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_16 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩

abbrev nD : Nat := 1
abbrev τ : Topo := Topo.v7x

variable {F : FTy → Type} [FloatOps F]
-- ==== Kernel7.lean ====
abbrev S8192x384 : Shape := ⟨2, ![8192, 384]⟩
abbrev S8192x256 : Shape := ⟨2, ![8192, 256]⟩
abbrev S8192x32 : Shape := ⟨2, ![8192, 32]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S8192x8x96 : Shape := ⟨3, ![8192, 8, 96]⟩
abbrev S8192x8x64 : Shape := ⟨3, ![8192, 8, 64]⟩
abbrev S_ : Shape := ⟨0, ![]⟩
abbrev S8192x1536 : Shape := ⟨2, ![8192, 1536]⟩
abbrev S8192x64 : Shape := ⟨2, ![8192, 64]⟩
abbrev S8192x2304 : Shape := ⟨2, ![8192, 2304]⟩
abbrev S768x384 : Shape := ⟨2, ![768, 384]⟩
abbrev S8x96x384 : Shape := ⟨3, ![8, 96, 384]⟩
abbrev S8x32x384 : Shape := ⟨3, ![8, 32, 384]⟩
abbrev S8x128x384 : Shape := ⟨3, ![8, 128, 384]⟩
abbrev S1024x384 : Shape := ⟨2, ![1024, 384]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x128 : Shape := ⟨2, ![8192, 128]⟩
abbrev S8192x768 : Shape := ⟨2, ![8192, 768]⟩
abbrev S8192x8x32 : Shape := ⟨3, ![8192, 8, 32]⟩
abbrev S8192x8x128 : Shape := ⟨3, ![8192, 8, 128]⟩
abbrev S8192x1024 : Shape := ⟨2, ![8192, 1024]⟩
abbrev S512x1024 : Shape := ⟨2, ![512, 1024]⟩
abbrev S512x768 : Shape := ⟨2, ![512, 768]⟩
abbrev S512x384 : Shape := ⟨2, ![512, 384]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S384 : Shape := ⟨1, ![384]⟩
abbrev S256 : Shape := ⟨1, ![256]⟩

abbrev nBuf : Space → Nat
  | .hbm => 133
  | .vmem => 28
  | .smem => 0
  | _ => 0

abbrev hbmTy0_0 (i : Nat) : BufTy := match i % 128 with
  | 0 => ⟨S8192x384, .f32⟩
  | 1 => ⟨S8192x256, .f32⟩
  | 2 => ⟨S8192x32, .f32⟩
  | 3 => ⟨S1x384, .f32⟩
  | 4 => ⟨S384x768, .f32⟩
  | 5 => ⟨S1x256, .f32⟩
  | 6 => ⟨S256x1024, .f32⟩
  | 7 => ⟨S8192x8x96, .f32⟩
  | 8 => ⟨S8192x8x96, .f32⟩
  | 9 => ⟨S8192x8x64, .f32⟩
  | 10 => ⟨S_, .f32⟩
  | 11 => ⟨S8192x1536, .f32⟩
  | 12 => ⟨S_, .f32⟩
  | 13 => ⟨S8192x64, .f32⟩
  | 14 => ⟨S_, .f32⟩
  | 15 => ⟨S8192x32, .f32⟩
  | 16 => ⟨S8192x2304, .f32⟩
  | 17 => ⟨S8192x2304, .bf16⟩
  | 18 => ⟨S768x384, .f32⟩
  | 19 => ⟨S8x96x384, .f32⟩
  | 20 => ⟨S_, .f32⟩
  | 21 => ⟨S8x32x384, .f32⟩
  | 22 => ⟨S8x128x384, .f32⟩
  | 23 => ⟨S1024x384, .f32⟩
  | 24 => ⟨S1024x384, .bf16⟩
  | 25 => ⟨S256x1024, .bf16⟩
  | 26 => ⟨S8192, .f32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S16, .f32⟩
  | 41 => ⟨S8192x1, .f32⟩
  | 42 => ⟨S1x16, .f32⟩
  | 43 => ⟨S8192x16, .f32⟩
  | 44 => ⟨S8192x16, .f32⟩
  | 45 => ⟨S8192x16, .f32⟩
  | 46 => ⟨S8192x16, .f32⟩
  | 47 => ⟨S8192x16, .f32⟩
  | 48 => ⟨S_, .f32⟩
  | 49 => ⟨S8192x64, .f32⟩
  | 50 => ⟨S_, .f32⟩
  | 51 => ⟨S8192x16, .f32⟩
  | 52 => ⟨S_, .f32⟩
  | 53 => ⟨S8192x32, .f32⟩
  | 54 => ⟨S8192x128, .f32⟩
  | 55 => ⟨S_, .f32⟩
  | 56 => ⟨S8192x64, .f32⟩
  | 57 => ⟨S8192x16, .f32⟩
  | 58 => ⟨S_, .f32⟩
  | 59 => ⟨S8192x32, .f32⟩
  | 60 => ⟨S8192x128, .f32⟩
  | 61 => ⟨S_, .f32⟩
  | 62 => ⟨S8192x64, .f32⟩
  | 63 => ⟨S_, .f32⟩
  | 64 => ⟨S8192x32, .f32⟩
  | 65 => ⟨S8192x128, .f32⟩
  | 66 => ⟨S8192x768, .bf16⟩
  | 67 => ⟨S8192x768, .f32⟩
  | 68 => ⟨S8192x384, .f32⟩
  | 69 => ⟨S8192x384, .f32⟩
  | 70 => ⟨S_, .f32⟩
  | 71 => ⟨S8192, .f32⟩
  | 72 => ⟨S8192x1, .f32⟩
  | 73 => ⟨S_, .f32⟩
  | 74 => ⟨S8192x1, .f32⟩
  | 75 => ⟨S8192x1, .f32⟩
  | 76 => ⟨S_, .f32⟩
  | 77 => ⟨S8192x1, .f32⟩
  | 78 => ⟨S8192x1, .f32⟩
  | 79 => ⟨S8192x1, .f32⟩
  | 80 => ⟨S8192x384, .f32⟩
  | 81 => ⟨S8192x384, .f32⟩
  | 82 => ⟨S8192x384, .f32⟩
  | 83 => ⟨S8192x384, .f32⟩
  | 84 => ⟨S8192x384, .bf16⟩
  | 85 => ⟨S8192x256, .f32⟩
  | 86 => ⟨S8192x256, .f32⟩
  | 87 => ⟨S_, .f32⟩
  | 88 => ⟨S8192, .f32⟩
  | 89 => ⟨S8192x1, .f32⟩
  | 90 => ⟨S_, .f32⟩
  | 91 => ⟨S8192x1, .f32⟩
  | 92 => ⟨S8192x1, .f32⟩
  | 93 => ⟨S_, .f32⟩
  | 94 => ⟨S8192x1, .f32⟩
  | 95 => ⟨S8192x1, .f32⟩
  | 96 => ⟨S8192x1, .f32⟩
  | 97 => ⟨S8192x256, .f32⟩
  | 98 => ⟨S8192x256, .f32⟩
  | 99 => ⟨S8192x256, .f32⟩
  | 100 => ⟨S8192x256, .f32⟩
  | 101 => ⟨S8192x256, .bf16⟩
  | 102 => ⟨S_, .f32⟩
  | 103 => ⟨S8192x8x32, .f32⟩
  | 104 => ⟨S8192x8x128, .f32⟩
  | 105 => ⟨S8192x1024, .f32⟩
  | 106 => ⟨S_, .f32⟩
  | 107 => ⟨S8192x8x32, .f32⟩
  | 108 => ⟨S8192x8x128, .f32⟩
  | 109 => ⟨S8192x1024, .f32⟩
  | 110 => ⟨S_, .f32⟩
  | 111 => ⟨S8192x1024, .f32⟩
  | 112 => ⟨S8192x1024, .f32⟩
  | 113 => ⟨S_, .f32⟩
  | 114 => ⟨S8192x8x64, .f32⟩
  | 115 => ⟨S8192x8x128, .f32⟩
  | 116 => ⟨S8192x1024, .f32⟩
  | 117 => ⟨S_, .bf16⟩
  | 118 => ⟨S8192x2304, .bf16⟩
  | 119 => ⟨S8192x2304, .bf16⟩
  | 120 => ⟨S1024x384, .f32⟩
  | 121 => ⟨S256x1024, .f32⟩
  | 122 => ⟨S1x384, .f32⟩
  | 123 => ⟨S1x256, .f32⟩
  | 124 => ⟨S8192x768, .bf16⟩
  | 125 => ⟨S8192x768, .f32⟩
  | 126 => ⟨S8x128x384, .f32⟩
  | 127 => ⟨S8x96x384, .f32⟩
  | _ => ⟨S8192x384, .f32⟩

abbrev hbmTy0_1 (i : Nat) : BufTy := match i % 128 with
  | 0 => ⟨S768x384, .f32⟩
  | 1 => ⟨S384x768, .f32⟩
  | 2 => ⟨S8192x384, .f32⟩
  | 3 => ⟨S8192x256, .f32⟩
  | 4 => ⟨S8192x32, .f32⟩
  | _ => ⟨S8192x384, .f32⟩

abbrev hbmTy (i : Nat) : BufTy := match i / 128 with
  | 0 => hbmTy0_0 i
  | 1 => hbmTy0_1 i
  | _ => ⟨S8192x384, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x768, .bf16⟩
  | .local _ .vmem, ⟨7, _⟩ => ⟨S512x768, .bf16⟩
  | .local _ .vmem, ⟨8, _⟩ => ⟨S512x384, .bf16⟩
  | .local _ .vmem, ⟨9, _⟩ => ⟨S512x384, .bf16⟩
  | .local _ .vmem, ⟨10, _⟩ => ⟨S512x256, .bf16⟩
  | .local _ .vmem, ⟨11, _⟩ => ⟨S512x256, .bf16⟩
  | .local _ .vmem, ⟨12, _⟩ => ⟨S1x384, .f32⟩
  | .local _ .vmem, ⟨13, _⟩ => ⟨S1x256, .f32⟩
  | .local _ .vmem, ⟨14, _⟩ => ⟨S1024x384, .bf16⟩
  | .local _ .vmem, ⟨15, _⟩ => ⟨S256x1024, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x768, .bf16⟩
  | .local _ .vmem, ⟨23, _⟩ => ⟨S512x768, .bf16⟩
  | .local _ .vmem, ⟨24, _⟩ => ⟨S1024x384, .f32⟩
  | .local _ .vmem, ⟨25, _⟩ => ⟨S256x1024, .f32⟩
  | .local _ .vmem, ⟨26, _⟩ => ⟨S1x384, .f32⟩
  | .local _ .vmem, ⟨27, _⟩ => ⟨S1x256, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_cst_10 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_cst_12 : Ref sig .tc := ⟨.hbm, 61, rfl⟩
abbrev main_v38 : Ref sig .tc := ⟨.hbm, 62, rfl⟩
abbrev main_cst_13 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_14 : Ref sig .tc := ⟨.hbm, 70, rfl⟩
abbrev main_v45 : Ref sig .tc := ⟨.hbm, 71, rfl⟩
abbrev main_v46 : Ref sig .tc := ⟨.hbm, 72, rfl⟩
abbrev main_cst_15 : Ref sig .tc := ⟨.hbm, 73, rfl⟩
abbrev main_v47 : Ref sig .tc := ⟨.hbm, 74, rfl⟩
abbrev main_v48 : Ref sig .tc := ⟨.hbm, 75, rfl⟩
abbrev main_cst_16 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_17 : Ref sig .tc := ⟨.hbm, 87, rfl⟩
abbrev main_v59 : Ref sig .tc := ⟨.hbm, 88, rfl⟩
abbrev main_v60 : Ref sig .tc := ⟨.hbm, 89, rfl⟩
abbrev main_cst_18 : Ref sig .tc := ⟨.hbm, 90, rfl⟩
abbrev main_v61 : Ref sig .tc := ⟨.hbm, 91, rfl⟩
abbrev main_v62 : Ref sig .tc := ⟨.hbm, 92, rfl⟩
abbrev main_cst_19 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_20 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_21 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_22 : Ref sig .tc := ⟨.hbm, 110, rfl⟩
abbrev main_v77 : Ref sig .tc := ⟨.hbm, 111, rfl⟩
abbrev main_v78 : Ref sig .tc := ⟨.hbm, 112, rfl⟩
abbrev main_cst_23 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_24 : Ref sig .tc := ⟨.hbm, 117, rfl⟩
abbrev main_v82 : Ref sig .tc := ⟨.hbm, 118, rfl⟩
abbrev main_v83_0 : Ref sig .tc := ⟨.hbm, 119, rfl⟩
abbrev main_v83_1 : Ref sig .tc := ⟨.hbm, 120, rfl⟩
abbrev main_v83_2 : Ref sig .tc := ⟨.hbm, 121, rfl⟩
abbrev main_v83_3 : Ref sig .tc := ⟨.hbm, 122, rfl⟩
abbrev main_v83_4 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference7Ideal.lean ====
abbrev S8192x384 : Shape := ⟨2, ![8192, 384]⟩
abbrev S8192x256 : Shape := ⟨2, ![8192, 256]⟩
abbrev S8192x32 : Shape := ⟨2, ![8192, 32]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S8192x8x96 : Shape := ⟨3, ![8192, 8, 96]⟩
abbrev S8192x8x64 : Shape := ⟨3, ![8192, 8, 64]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x768 : Shape := ⟨2, ![8192, 768]⟩
abbrev S8192x8x32 : Shape := ⟨3, ![8192, 8, 32]⟩
abbrev S8192x1x16 : Shape := ⟨3, ![8192, 1, 16]⟩
abbrev S8192x8x16 : Shape := ⟨3, ![8192, 8, 16]⟩
abbrev S8192x1024 : Shape := ⟨2, ![8192, 1024]⟩
abbrev S8192x8x128 : Shape := ⟨3, ![8192, 8, 128]⟩
abbrev S8192x1x32 : Shape := ⟨3, ![8192, 1, 32]⟩
abbrev S1024x256 : Shape := ⟨2, ![1024, 256]⟩
abbrev S256 : Shape := ⟨1, ![256]⟩
abbrev S768x384 : Shape := ⟨2, ![768, 384]⟩
abbrev S384 : Shape := ⟨1, ![384]⟩

abbrev nBuf : Space → Nat
  | .hbm => 217
  | .vmem => 0
  | .smem => 0
  | _ => 0

abbrev hbmTy0_0 (i : Nat) : BufTy := match i % 128 with
  | 0 => ⟨S8192x384, .f32⟩
  | 1 => ⟨S8192x256, .f32⟩
  | 2 => ⟨S8192x32, .f32⟩
  | 3 => ⟨S1x384, .f32⟩
  | 4 => ⟨S384x768, .f32⟩
  | 5 => ⟨S1x256, .f32⟩
  | 6 => ⟨S256x1024, .f32⟩
  | 7 => ⟨S8192x8x96, .f32⟩
  | 8 => ⟨S8192x8x96, .f32⟩
  | 9 => ⟨S8192x8x64, .f32⟩
  | 10 => ⟨S8192, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S16, .f32⟩
  | 25 => ⟨S8192x1, .f32⟩
  | 26 => ⟨S1x16, .f32⟩
  | 27 => ⟨S8192x16, .f32⟩
  | 28 => ⟨S8192x16, .f32⟩
  | 29 => ⟨S8192x16, .f32⟩
  | 30 => ⟨S8192x16, .f32⟩
  | 31 => ⟨S8192x16, .f32⟩
  | 32 => ⟨S8192x384, .f32⟩
  | 33 => ⟨S_, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x384, .f32⟩
  | 48 => ⟨S8192x384, .f32⟩
  | 49 => ⟨S8192x384, .f32⟩
  | 50 => ⟨S8192x384, .f32⟩
  | 51 => ⟨S8192x768, .f32⟩
  | 52 => ⟨S8192x8x96, .f32⟩
  | 53 => ⟨S8192x8x64, .f32⟩
  | 54 => ⟨S8192x8x32, .f32⟩
  | 55 => ⟨S8192x1x16, .f32⟩
  | 56 => ⟨S8192x1x16, .f32⟩
  | 57 => ⟨S8192x8x16, .f32⟩
  | 58 => ⟨S8192x8x16, .f32⟩
  | 59 => ⟨S8192x8x16, .f32⟩
  | 60 => ⟨S8192x8x16, .f32⟩
  | 61 => ⟨S8192x8x16, .f32⟩
  | 62 => ⟨S8192x8x16, .f32⟩
  | 63 => ⟨S8192x8x16, .f32⟩
  | 64 => ⟨S8192x8x16, .f32⟩
  | 65 => ⟨S8192x8x16, .f32⟩
  | 66 => ⟨S8192x8x16, .f32⟩
  | 67 => ⟨S8192x8x16, .f32⟩
  | 68 => ⟨S8192x8x16, .f32⟩
  | 69 => ⟨S8192x8x32, .f32⟩
  | 70 => ⟨S8192x8x96, .f32⟩
  | 71 => ⟨S_, .f32⟩
  | 72 => ⟨S8192x8x96, .f32⟩
  | 73 => ⟨S8192x8x96, .f32⟩
  | 74 => ⟨S8192x256, .f32⟩
  | 75 => ⟨S_, .f32⟩
  | 76 => ⟨S8192, .f32⟩
  | 77 => ⟨S8192x1, .f32⟩
  | 78 => ⟨S_, .f32⟩
  | 79 => ⟨S8192x1, .f32⟩
  | 80 => ⟨S8192x1, .f32⟩
  | 81 => ⟨S_, .f32⟩
  | 82 => ⟨S8192x1, .f32⟩
  | 83 => ⟨S8192x1, .f32⟩
  | 84 => ⟨S8192x1, .f32⟩
  | 85 => ⟨S8192x1, .f32⟩
  | 86 => ⟨S_, .f32⟩
  | 87 => ⟨S8192x1, .f32⟩
  | 88 => ⟨S8192x1, .f32⟩
  | 89 => ⟨S8192x256, .f32⟩
  | 90 => ⟨S8192x256, .f32⟩
  | 91 => ⟨S8192x256, .f32⟩
  | 92 => ⟨S8192x256, .f32⟩
  | 93 => ⟨S8192x1024, .f32⟩
  | 94 => ⟨S8192x8x128, .f32⟩
  | 95 => ⟨S8192x16, .f32⟩
  | 96 => ⟨S8192x16, .f32⟩
  | 97 => ⟨S8192x16, .f32⟩
  | 98 => ⟨S8192x16, .f32⟩
  | 99 => ⟨S8192x16, .f32⟩
  | 100 => ⟨S8192x16, .f32⟩
  | 101 => ⟨S8192x16, .f32⟩
  | 102 => ⟨S8192x16, .f32⟩
  | 103 => ⟨S8192x32, .f32⟩
  | 104 => ⟨S8192x1x32, .f32⟩
  | 105 => ⟨S8192x8x32, .f32⟩
  | 106 => ⟨S8192x8x64, .f32⟩
  | 107 => ⟨S8192x8x96, .f32⟩
  | 108 => ⟨S8192x8x64, .f32⟩
  | 109 => ⟨S_, .f32⟩
  | 110 => ⟨S8192x8x128, .f32⟩
  | 111 => ⟨S8192x8x64, .f32⟩
  | 112 => ⟨S8192x8x32, .f32⟩
  | 113 => ⟨S_, .f32⟩
  | 114 => ⟨S8192x8x128, .f32⟩
  | 115 => ⟨S8192x8x128, .f32⟩
  | 116 => ⟨S_, .f32⟩
  | 117 => ⟨S8192x32, .f32⟩
  | 118 => ⟨S8192x1x32, .f32⟩
  | 119 => ⟨S_, .f32⟩
  | 120 => ⟨S8192x32, .f32⟩
  | 121 => ⟨S8192x16, .f32⟩
  | 122 => ⟨S8192x16, .f32⟩
  | 123 => ⟨S8192x16, .f32⟩
  | 124 => ⟨S8192x16, .f32⟩
  | 125 => ⟨S8192x16, .f32⟩
  | 126 => ⟨S8192x16, .f32⟩
  | 127 => ⟨S8192x16, .f32⟩
  | _ => ⟨S8192x384, .f32⟩

abbrev hbmTy0_1 (i : Nat) : BufTy := match i % 128 with
  | 0 => ⟨S8192x16, .f32⟩
  | 1 => ⟨S8192x16, .f32⟩
  | 2 => ⟨S_, .f32⟩
  | 3 => ⟨S8192x32, .f32⟩
  | 4 => ⟨S_, .f32⟩
  | 5 => ⟨S8192x32, .f32⟩
  | 6 => ⟨S8192x32, .f32⟩
  | 7 => ⟨S8192x1024, .f32⟩
  | 8 => ⟨S1024x256, .f32⟩
  | 9 => ⟨S256x1024, .f32⟩
  | 10 => ⟨S8192x256, .f32⟩
  | 11 => ⟨S8192x256, .f32⟩
  | 12 => ⟨S_, .f32⟩
  | 13 => ⟨S256, .f32⟩
  | 14 => ⟨S1x256, .f32⟩
  | 15 => ⟨S8192x256, .f32⟩
  | 16 => ⟨S8192x256, .f32⟩
  | 17 => ⟨S8192x256, .f32⟩
  | 18 => ⟨S_, .f32⟩
  | 19 => ⟨S8192, .f32⟩
  | 20 => ⟨S8192x1, .f32⟩
  | 21 => ⟨S8192x256, .f32⟩
  | 22 => ⟨S8192x256, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192, .f32⟩
  | 29 => ⟨S8192x256, .f32⟩
  | 30 => ⟨S8192x256, .f32⟩
  | 31 => ⟨S8192x256, .f32⟩
  | 32 => ⟨S8192x256, .f32⟩
  | 33 => ⟨S8192x256, .f32⟩
  | 34 => ⟨S_, .f32⟩
  | 35 => ⟨S8192x8x96, .f32⟩
  | 36 => ⟨S8192x8x96, .f32⟩
  | 37 => ⟨S8192x8x64, .f32⟩
  | 38 => ⟨S8192x8x32, .f32⟩
  | 39 => ⟨S8192x8x16, .f32⟩
  | 40 => ⟨S8192x8x16, .f32⟩
  | 41 => ⟨S8192x8x16, .f32⟩
  | 42 => ⟨S8192x8x16, .f32⟩
  | 43 => ⟨S8192x8x16, .f32⟩
  | 44 => ⟨S8192x8x16, .f32⟩
  | 45 => ⟨S8192x8x16, .f32⟩
  | 46 => ⟨S8192x8x16, .f32⟩
  | 47 => ⟨S8192x8x16, .f32⟩
  | 48 => ⟨S8192x8x16, .f32⟩
  | 49 => ⟨S8192x8x16, .f32⟩
  | 50 => ⟨S8192x8x16, .f32⟩
  | 51 => ⟨S8192x8x16, .f32⟩
  | 52 => ⟨S_, .f32⟩
  | 53 => ⟨S8192x8x32, .f32⟩
  | 54 => ⟨S_, .f32⟩
  | 55 => ⟨S8192x8x32, .f32⟩
  | 56 => ⟨S8192x8x32, .f32⟩
  | 57 => ⟨S_, .f32⟩
  | 58 => ⟨S8192x8x96, .f32⟩
  | 59 => ⟨S_, .f32⟩
  | 60 => ⟨S8192x8x96, .f32⟩
  | 61 => ⟨S8192x8x96, .f32⟩
  | 62 => ⟨S8192x768, .f32⟩
  | 63 => ⟨S768x384, .f32⟩
  | 64 => ⟨S384x768, .f32⟩
  | 65 => ⟨S8192x384, .f32⟩
  | 66 => ⟨S8192x384, .f32⟩
  | 67 => ⟨S_, .f32⟩
  | 68 => ⟨S384, .f32⟩
  | 69 => ⟨S1x384, .f32⟩
  | 70 => ⟨S8192x384, .f32⟩
  | 71 => ⟨S8192x384, .f32⟩
  | 72 => ⟨S8192x384, .f32⟩
  | 73 => ⟨S_, .f32⟩
  | 74 => ⟨S8192, .f32⟩
  | 75 => ⟨S8192x1, .f32⟩
  | 76 => ⟨S8192x384, .f32⟩
  | 77 => ⟨S8192x384, .f32⟩
  | 78 => ⟨S8192x1, .f32⟩
  | 79 => ⟨S_, .f32⟩
  | 80 => ⟨S8192x1, .f32⟩
  | 81 => ⟨S8192x1, .f32⟩
  | 82 => ⟨S_, .f32⟩
  | 83 => ⟨S8192, .f32⟩
  | 84 => ⟨S8192x384, .f32⟩
  | 85 => ⟨S8192x384, .f32⟩
  | 86 => ⟨S8192x384, .f32⟩
  | 87 => ⟨S8192x384, .f32⟩
  | 88 => ⟨S8192x384, .f32⟩
  | _ => ⟨S8192x384, .f32⟩

abbrev hbmTy (i : Nat) : BufTy := match i / 128 with
  | 0 => hbmTy0_0 i
  | 1 => hbmTy0_1 i
  | _ => ⟨S8192x384, .f32⟩

abbrev bufTy : (tb : Table) → Fin (tcTables nBuf tb) → BufTy
  | .hbm, ⟨i, _⟩ => hbmTy i
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_12 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_13 : Ref sig .tc := ⟨.hbm, 113, rfl⟩
abbrev main_v89 : Ref sig .tc := ⟨.hbm, 114, rfl⟩
abbrev main_v90 : Ref sig .tc := ⟨.hbm, 115, rfl⟩
abbrev main_cst_14 : Ref sig .tc := ⟨.hbm, 116, rfl⟩
abbrev main_v91 : Ref sig .tc := ⟨.hbm, 117, rfl⟩
abbrev main_v92 : Ref sig .tc := ⟨.hbm, 118, rfl⟩
abbrev main_cst_15 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_16 : Ref sig .tc := ⟨.hbm, 130, rfl⟩
abbrev main_v103 : Ref sig .tc := ⟨.hbm, 131, rfl⟩
abbrev main_cst_17 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_18 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_19 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_20 : Ref sig .tc := ⟨.hbm, 152, rfl⟩
abbrev main_v121 : Ref sig .tc := ⟨.hbm, 153, rfl⟩
abbrev main_v122 : Ref sig .tc := ⟨.hbm, 154, rfl⟩
abbrev main_cst_21 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_cst_22 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_cst_23 : Ref sig .tc := ⟨.hbm, 180, rfl⟩
abbrev main_v146 : Ref sig .tc := ⟨.hbm, 181, rfl⟩
abbrev main_cst_24 : Ref sig .tc := ⟨.hbm, 182, rfl⟩
abbrev main_v147 : Ref sig .tc := ⟨.hbm, 183, rfl⟩
abbrev main_v148 : Ref sig .tc := ⟨.hbm, 184, rfl⟩
abbrev main_cst_25 : Ref sig .tc := ⟨.hbm, 185, rfl⟩
abbrev main_v149 : Ref sig .tc := ⟨.hbm, 186, rfl⟩
abbrev main_cst_26 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_cst_27 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_28 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_cst_29 : Ref sig .tc := ⟨.hbm, 207, rfl⟩
abbrev main_v167 : Ref sig .tc := ⟨.hbm, 208, rfl⟩
abbrev main_v168 : Ref sig .tc := ⟨.hbm, 209, rfl⟩
abbrev main_cst_30 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩

abbrev nD : Nat := 1
abbrev τ : Topo := Topo.v7x

variable {F : FTy → Type} [FloatOps F]
-- ==== Kernel9.lean ====
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S8192x1024 : Shape := ⟨2, ![8192, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S1x1024, .f32⟩
  | .hbm, ⟨6, _⟩ => ⟨S8192x1024, .f32⟩
  | .hbm, ⟨7, _⟩ => ⟨S1024x1024, .bf16⟩
  | .hbm, ⟨8, _⟩ => ⟨S8192x1024, .bf16⟩
  | .hbm, ⟨9, _⟩ => ⟨S8192x1024, .f32⟩
  | .hbm, ⟨10, _⟩ => ⟨S8192x1024, .f32⟩
  | .hbm, ⟨11, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S1x1024, .f32⟩
  | .hbm, ⟨6, _⟩ => ⟨S8192x1024, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Kernel12.lean ====
abbrev S8192x384 : Shape := ⟨2, ![8192, 384]⟩
abbrev S8192x256 : Shape := ⟨2, ![8192, 256]⟩
abbrev S8192x32 : Shape := ⟨2, ![8192, 32]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S_ : Shape := ⟨0, ![]⟩
abbrev S8192x1536 : Shape := ⟨2, ![8192, 1536]⟩
abbrev S8192x64 : Shape := ⟨2, ![8192, 64]⟩
abbrev S8192x2304 : Shape := ⟨2, ![8192, 2304]⟩
abbrev S768x384 : Shape := ⟨2, ![768, 384]⟩
abbrev S8x96x384 : Shape := ⟨3, ![8, 96, 384]⟩
abbrev S8x32x384 : Shape := ⟨3, ![8, 32, 384]⟩
abbrev S8x128x384 : Shape := ⟨3, ![8, 128, 384]⟩
abbrev S1024x384 : Shape := ⟨2, ![1024, 384]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x128 : Shape := ⟨2, ![8192, 128]⟩
abbrev S8192x1024 : Shape := ⟨2, ![8192, 1024]⟩
abbrev S512x768 : Shape := ⟨2, ![512, 768]⟩
abbrev S512x128 : Shape := ⟨2, ![512, 128]⟩
abbrev S512x1024 : Shape := ⟨2, ![512, 1024]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S8192x8x128 : Shape := ⟨3, ![8192, 8, 128]⟩
abbrev S8192x8x96 : Shape := ⟨3, ![8192, 8, 96]⟩
abbrev S8192x8x64 : Shape := ⟨3, ![8192, 8, 64]⟩

abbrev nBuf : Space → Nat
  | .hbm => 83
  | .vmem => 22
  | .smem => 0
  | _ => 0

abbrev bufTy : (tb : Table) → Fin (tcTables nBuf tb) → BufTy
  | .hbm, ⟨0, _⟩ => ⟨S8192x384, .f32⟩
  | .hbm, ⟨1, _⟩ => ⟨S8192x256, .f32⟩
  | .hbm, ⟨2, _⟩ => ⟨S8192x32, .f32⟩
  | .hbm, ⟨3, _⟩ => ⟨S1x384, .f32⟩
  | .hbm, ⟨4, _⟩ => ⟨S384x768, .f32⟩
  | .hbm, ⟨5, _⟩ => ⟨S1x256, .f32⟩
  | .hbm, ⟨6, _⟩ => ⟨S256x1024, .f32⟩
  | .hbm, ⟨7, _⟩ => ⟨S_, .f32⟩
  | .hbm, ⟨8, _⟩ => ⟨S8192x1536, .f32⟩
  | .hbm, ⟨9, _⟩ => ⟨S_, .f32⟩
  | .hbm, ⟨10, _⟩ => ⟨S8192x64, .f32⟩
  | .hbm, ⟨11, _⟩ => ⟨S_, .f32⟩
  | .hbm, ⟨12, _⟩ => ⟨S8192x32, .f32⟩
  | .hbm, ⟨13, _⟩ => ⟨S8192x2304, .f32⟩
  | .hbm, ⟨14, _⟩ => ⟨S8192x2304, .bf16⟩
  | .hbm, ⟨15, _⟩ => ⟨S768x384, .f32⟩
  | .hbm, ⟨16, _⟩ => ⟨S8x96x384, .f32⟩
  | .hbm, ⟨17, _⟩ => ⟨S_, .f32⟩
  | .hbm, ⟨18, _⟩ => ⟨S8x32x384, .f32⟩
  | .hbm, ⟨19, _⟩ => ⟨S8x128x384, .f32⟩
  | .hbm, ⟨20, _⟩ => ⟨S1024x384, .f32⟩
  | .hbm, ⟨21, _⟩ => ⟨S1024x384, .bf16⟩
  | .hbm, ⟨22, _⟩ => ⟨S256x1024, .bf16⟩
  | .hbm, ⟨23, _⟩ => ⟨S8192, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S16, .f32⟩
  | .hbm, ⟨38, _⟩ => ⟨S8192x1, .f32⟩
  | .hbm, ⟨39, _⟩ => ⟨S1x16, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S8192x16, .f32⟩
  | .hbm, ⟨44, _⟩ => ⟨S8192x16, .f32⟩
  | .hbm, ⟨45, _⟩ => ⟨S_, .f32⟩
  | .hbm, ⟨46, _⟩ => ⟨S8192x64, .f32⟩
  | .hbm, ⟨47, _⟩ => ⟨S_, .f32⟩
  | .hbm, ⟨48, _⟩ => ⟨S8192x16, .f32⟩
  | .hbm, ⟨49, _⟩ => ⟨S_, .f32⟩
  | .hbm, ⟨50, _⟩ => ⟨S8192x32, .f32⟩
  | .hbm, ⟨51, _⟩ => ⟨S8192x128, .f32⟩
  | .hbm, ⟨52, _⟩ => ⟨S_, .f32⟩
  | .hbm, ⟨53, _⟩ => ⟨S8192x64, .f32⟩
  | .hbm, ⟨54, _⟩ => ⟨S8192x16, .f32⟩
  | .hbm, ⟨55, _⟩ => ⟨S_, .f32⟩
  | .hbm, ⟨56, _⟩ => ⟨S8192x32, .f32⟩
  | .hbm, ⟨57, _⟩ => ⟨S8192x128, .f32⟩
  | .hbm, ⟨58, _⟩ => ⟨S_, .f32⟩
  | .hbm, ⟨59, _⟩ => ⟨S8192x64, .f32⟩
  | .hbm, ⟨60, _⟩ => ⟨S_, .f32⟩
  | .hbm, ⟨61, _⟩ => ⟨S8192x32, .f32⟩
  | .hbm, ⟨62, _⟩ => ⟨S8192x128, .f32⟩
  | .hbm, ⟨63, _⟩ => ⟨S8192x1024, .bf16⟩
  | .hbm, ⟨64, _⟩ => ⟨S8192x1024, .bf16⟩
  | .hbm, ⟨65, _⟩ => ⟨S8192x1024, .bf16⟩
  | .hbm, ⟨66, _⟩ => ⟨S8192x384, .bf16⟩
  | .hbm, ⟨67, _⟩ => ⟨S8192x256, .bf16⟩
  | .hbm, ⟨68, _⟩ => ⟨S8192x1024, .f32⟩
  | .hbm, ⟨69, _⟩ => ⟨S8192x8x128, .f32⟩
  | .hbm, ⟨70, _⟩ => ⟨S8192x8x96, .f32⟩
  | .hbm, ⟨71, _⟩ => ⟨S_, .f32⟩
  | .hbm, ⟨72, _⟩ => ⟨S_, .f32⟩
  | .hbm, ⟨73, _⟩ => ⟨S8192x8x96, .f32⟩
  | .hbm, ⟨74, _⟩ => ⟨S8192x8x96, .f32⟩
  | .hbm, ⟨75, _⟩ => ⟨S8192x1024, .f32⟩
  | .hbm, ⟨76, _⟩ => ⟨S8192x8x128, .f32⟩
  | .hbm, ⟨77, _⟩ => ⟨S8192x8x96, .f32⟩
  | .hbm, ⟨78, _⟩ => ⟨S8192x1024, .f32⟩
  | .hbm, ⟨79, _⟩ => ⟨S8192x8x128, .f32⟩
  | .hbm, ⟨80, _⟩ => ⟨S8192x8x64, .f32⟩
  | .hbm, ⟨81, _⟩ => ⟨S8192x384, .f32⟩
  | .hbm, ⟨82, _⟩ => ⟨S8192x256, .f32⟩
  | .local _ .vmem, ⟨0, _⟩ => ⟨S512x768, .bf16⟩
  | .local _ .vmem, ⟨1, _⟩ => ⟨S512x768, .bf16⟩
  | .local _ .vmem, ⟨2, _⟩ => ⟨S1x384, .f32⟩
  | .local _ .vmem, ⟨3, _⟩ => ⟨S1x256, .f32⟩
  | .local _ .vmem, ⟨4, _⟩ => ⟨S1024x384, .bf16⟩
  | .local _ .vmem, ⟨5, _⟩ => ⟨S256x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x384, .bf16⟩
  | .local _ .vmem, ⟨19, _⟩ => ⟨S512x384, .bf16⟩
  | .local _ .vmem, ⟨20, _⟩ => ⟨S512x256, .bf16⟩
  | .local _ .vmem, ⟨21, _⟩ => ⟨S512x256, .bf16⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_cst_12 : Ref sig .tc := ⟨.hbm, 58, rfl⟩
abbrev main_v38 : Ref sig .tc := ⟨.hbm, 59, rfl⟩
abbrev main_cst_13 : Ref sig .tc := ⟨.hbm, 60, rfl⟩
abbrev main_v39 : Ref sig .tc := ⟨.hbm, 61, rfl⟩
abbrev main_v40 : Ref sig .tc := ⟨.hbm, 62, rfl⟩
abbrev main_v41_0 : Ref sig .tc := ⟨.hbm, 63, rfl⟩
abbrev main_v41_1 : Ref sig .tc := ⟨.hbm, 64, rfl⟩
abbrev main_v41_2 : Ref sig .tc := ⟨.hbm, 65, rfl⟩
abbrev main_v41_3 : Ref sig .tc := ⟨.hbm, 66, rfl⟩
abbrev main_v41_4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_14 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel12Ideal.lean ====
variable {F : FTy → Type} [FloatOps F] [Named F]
def κ : String → Option EReal := fun
  | "qscale" => some (((3424635 / 33554432) * (Real.log 2)⁻¹ : ℝ) : EReal)
  | _ => none
-- ==== Reference12Ideal.lean ====
abbrev S8192x384 : Shape := ⟨2, ![8192, 384]⟩
abbrev S8192x256 : Shape := ⟨2, ![8192, 256]⟩
abbrev S8192x32 : Shape := ⟨2, ![8192, 32]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x768 : Shape := ⟨2, ![8192, 768]⟩
abbrev S8192x8x96 : Shape := ⟨3, ![8192, 8, 96]⟩
abbrev S8192x8x64 : Shape := ⟨3, ![8192, 8, 64]⟩
abbrev S8192x8x32 : Shape := ⟨3, ![8192, 8, 32]⟩
abbrev S8192x1x16 : Shape := ⟨3, ![8192, 1, 16]⟩
abbrev S8192x8x16 : Shape := ⟨3, ![8192, 8, 16]⟩
abbrev S8192x1024 : Shape := ⟨2, ![8192, 1024]⟩
abbrev S8192x8x128 : Shape := ⟨3, ![8192, 8, 128]⟩
abbrev S8192x1x32 : Shape := ⟨3, ![8192, 1, 32]⟩

abbrev nBuf : Space → Nat
  | .hbm => 98
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x256, .f32⟩
  | .hbm, ⟨2, _⟩ => ⟨S8192x32, .f32⟩
  | .hbm, ⟨3, _⟩ => ⟨S1x384, .f32⟩
  | .hbm, ⟨4, _⟩ => ⟨S384x768, .f32⟩
  | .hbm, ⟨5, _⟩ => ⟨S1x256, .f32⟩
  | .hbm, ⟨6, _⟩ => ⟨S256x1024, .f32⟩
  | .hbm, ⟨7, _⟩ => ⟨S8192, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S8192x1, .f32⟩
  | .hbm, ⟨23, _⟩ => ⟨S1x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S8192x16, .f32⟩
  | .hbm, ⟨29, _⟩ => ⟨S8192x384, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x384, .f32⟩
  | .hbm, ⟨41, _⟩ => ⟨S8192x384, .f32⟩
  | .hbm, ⟨42, _⟩ => ⟨S8192x384, .f32⟩
  | .hbm, ⟨43, _⟩ => ⟨S8192x384, .f32⟩
  | .hbm, ⟨44, _⟩ => ⟨S8192x256, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x256, .f32⟩
  | .hbm, ⟨56, _⟩ => ⟨S8192x256, .f32⟩
  | .hbm, ⟨57, _⟩ => ⟨S8192x256, .f32⟩
  | .hbm, ⟨58, _⟩ => ⟨S8192x256, .f32⟩
  | .hbm, ⟨59, _⟩ => ⟨S8192x768, .f32⟩
  | .hbm, ⟨60, _⟩ => ⟨S8192x8x96, .f32⟩
  | .hbm, ⟨61, _⟩ => ⟨S8192x8x64, .f32⟩
  | .hbm, ⟨62, _⟩ => ⟨S8192x8x32, .f32⟩
  | .hbm, ⟨63, _⟩ => ⟨S8192x1x16, .f32⟩
  | .hbm, ⟨64, _⟩ => ⟨S8192x1x16, .f32⟩
  | .hbm, ⟨65, _⟩ => ⟨S8192x8x16, .f32⟩
  | .hbm, ⟨66, _⟩ => ⟨S8192x8x16, .f32⟩
  | .hbm, ⟨67, _⟩ => ⟨S8192x8x16, .f32⟩
  | .hbm, ⟨68, _⟩ => ⟨S8192x8x16, .f32⟩
  | .hbm, ⟨69, _⟩ => ⟨S8192x8x16, .f32⟩
  | .hbm, ⟨70, _⟩ => ⟨S8192x8x16, .f32⟩
  | .hbm, ⟨71, _⟩ => ⟨S8192x8x16, .f32⟩
  | .hbm, ⟨72, _⟩ => ⟨S8192x8x16, .f32⟩
  | .hbm, ⟨73, _⟩ => ⟨S8192x8x16, .f32⟩
  | .hbm, ⟨74, _⟩ => ⟨S8192x8x16, .f32⟩
  | .hbm, ⟨75, _⟩ => ⟨S8192x8x16, .f32⟩
  | .hbm, ⟨76, _⟩ => ⟨S8192x8x16, .f32⟩
  | .hbm, ⟨77, _⟩ => ⟨S8192x8x32, .f32⟩
  | .hbm, ⟨78, _⟩ => ⟨S8192x8x96, .f32⟩
  | .hbm, ⟨79, _⟩ => ⟨S_, .f32⟩
  | .hbm, ⟨80, _⟩ => ⟨S8192x8x96, .f32⟩
  | .hbm, ⟨81, _⟩ => ⟨S8192x8x96, .f32⟩
  | .hbm, ⟨82, _⟩ => ⟨S8192x1024, .f32⟩
  | .hbm, ⟨83, _⟩ => ⟨S8192x8x128, .f32⟩
  | .hbm, ⟨84, _⟩ => ⟨S8192x16, .f32⟩
  | .hbm, ⟨85, _⟩ => ⟨S8192x16, .f32⟩
  | .hbm, ⟨86, _⟩ => ⟨S8192x16, .f32⟩
  | .hbm, ⟨87, _⟩ => ⟨S8192x16, .f32⟩
  | .hbm, ⟨88, _⟩ => ⟨S8192x16, .f32⟩
  | .hbm, ⟨89, _⟩ => ⟨S8192x16, .f32⟩
  | .hbm, ⟨90, _⟩ => ⟨S8192x16, .f32⟩
  | .hbm, ⟨91, _⟩ => ⟨S8192x16, .f32⟩
  | .hbm, ⟨92, _⟩ => ⟨S8192x32, .f32⟩
  | .hbm, ⟨93, _⟩ => ⟨S8192x1x32, .f32⟩
  | .hbm, ⟨94, _⟩ => ⟨S8192x8x32, .f32⟩
  | .hbm, ⟨95, _⟩ => ⟨S8192x8x64, .f32⟩
  | .hbm, ⟨96, _⟩ => ⟨S8192x8x96, .f32⟩
  | .hbm, ⟨97, _⟩ => ⟨S8192x8x64, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S1024x2208 : Shape := ⟨2, ![1024, 2208]⟩
abbrev S2208x1024 : Shape := ⟨2, ![2208, 1024]⟩
abbrev S2176x1024 : Shape := ⟨2, ![2176, 1024]⟩
abbrev S_ : Shape := ⟨0, ![]⟩
abbrev S64x1024 : Shape := ⟨2, ![64, 1024]⟩
abbrev S32x1024 : Shape := ⟨2, ![32, 1024]⟩
abbrev S2304x1024 : Shape := ⟨2, ![2304, 1024]⟩
abbrev S8192x2304 : Shape := ⟨2, ![8192, 2304]⟩
abbrev S2048x6144 : Shape := ⟨2, ![2048, 6144]⟩
abbrev S512x24576 : Shape := ⟨2, ![512, 24576]⟩
abbrev S512x1024 : Shape := ⟨2, ![512, 1024]⟩
abbrev S512x2304 : Shape := ⟨2, ![512, 2304]⟩
abbrev S128x6144 : Shape := ⟨2, ![128, 6144]⟩
abbrev S32x24576 : Shape := ⟨2, ![32, 24576]⟩
abbrev S12x512x128 : Shape := ⟨3, ![12, 512, 128]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩
abbrev S8192x2176 : Shape := ⟨2, ![8192, 2176]⟩
abbrev S8192x32 : Shape := ⟨2, ![8192, 32]⟩

abbrev nBuf : Space → Nat
  | .hbm => 22
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2208, .f32⟩
  | .hbm, ⟨3, _⟩ => ⟨S2208x1024, .f32⟩
  | .hbm, ⟨4, _⟩ => ⟨S2176x1024, .f32⟩
  | .hbm, ⟨5, _⟩ => ⟨S_, .f32⟩
  | .hbm, ⟨6, _⟩ => ⟨S64x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S2304x1024, .f32⟩
  | .hbm, ⟨11, _⟩ => ⟨S2304x1024, .bf16⟩
  | .hbm, ⟨12, _⟩ => ⟨S8192x2304, .bf16⟩
  | .hbm, ⟨13, _⟩ => ⟨S8192x1024, .bf16⟩
  | .hbm, ⟨14, _⟩ => ⟨S2048x6144, .bf16⟩
  | .hbm, ⟨15, _⟩ => ⟨S512x24576, .bf16⟩
  | .hbm, ⟨16, _⟩ => ⟨S8192x2304, .f32⟩
  | .hbm, ⟨17, _⟩ => ⟨S8192x2176, .f32⟩
  | .hbm, ⟨18, _⟩ => ⟨S8192x32, .f32⟩
  | .hbm, ⟨19, _⟩ => ⟨S8192x1024, .f32⟩
  | .hbm, ⟨20, _⟩ => ⟨S2048x6144, .f32⟩
  | .hbm, ⟨21, _⟩ => ⟨S512x24576, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2304x1024, .bf16⟩
  | .local _ .vmem, ⟨4, _⟩ => ⟨S512x2304, .bf16⟩
  | .local _ .vmem, ⟨5, _⟩ => ⟨S512x2304, .bf16⟩
  | .local _ .vmem, ⟨6, _⟩ => ⟨S512x1024, .bf16⟩
  | .local _ .vmem, ⟨7, _⟩ => ⟨S512x1024, .bf16⟩
  | .local _ .vmem, ⟨8, _⟩ => ⟨S128x6144, .bf16⟩
  | .local _ .vmem, ⟨9, _⟩ => ⟨S128x6144, .bf16⟩
  | .local _ .vmem, ⟨10, _⟩ => ⟨S32x24576, .bf16⟩
  | .local _ .vmem, ⟨11, _⟩ => ⟨S32x24576, .bf16⟩
  | .local _ .vmem, ⟨12, _⟩ => ⟨S12x512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x24576 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S8192x1024 : Shape := ⟨2, ![8192, 1024]⟩
abbrev S1x1024 : Shape := ⟨2, ![1, 1024]⟩
abbrev S1024x2208 : Shape := ⟨2, ![1024, 2208]⟩
abbrev S_ : Shape := ⟨0, ![]⟩
abbrev S8192 : Shape := ⟨1, ![8192]⟩
abbrev S8192x1 : Shape := ⟨2, ![8192, 1]⟩
abbrev S8192x2208 : Shape := ⟨2, ![8192, 2208]⟩
abbrev S8192x1536 : Shape := ⟨2, ![8192, 1536]⟩
abbrev S8192x2176 : Shape := ⟨2, ![8192, 2176]⟩
abbrev S8192x32 : Shape := ⟨2, ![8192, 32]⟩
abbrev S2048x6144 : Shape := ⟨2, ![2048, 6144]⟩
abbrev S512x24576 : Shape := ⟨2, ![512, 24576]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2208, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x2208, .f32⟩
  | .hbm, ⟨19, _⟩ => ⟨S8192x1536, .f32⟩
  | .hbm, ⟨20, _⟩ => ⟨S8192x2176, .f32⟩
  | .hbm, ⟨21, _⟩ => ⟨S8192x32, .f32⟩
  | .hbm, ⟨22, _⟩ => ⟨S2048x6144, .f32⟩
  | .hbm, ⟨23, _⟩ => ⟨S512x24576, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S1024x5632 : Shape := ⟨2, ![1024, 5632]⟩
abbrev S5632x1024 : Shape := ⟨2, ![5632, 1024]⟩
abbrev S8x704x1024 : Shape := ⟨3, ![8, 704, 1024]⟩
abbrev S_ : Shape := ⟨0, ![]⟩
abbrev S8x768x1024 : Shape := ⟨3, ![8, 768, 1024]⟩
abbrev S2x8192x3072 : Shape := ⟨3, ![2, 8192, 3072]⟩
abbrev S2048x1024 : Shape := ⟨2, ![2048, 1024]⟩
abbrev S1x768x1024 : Shape := ⟨3, ![1, 768, 1024]⟩
abbrev S1x2048x768 : Shape := ⟨3, ![1, 2048, 768]⟩
abbrev S2048 : Shape := ⟨1, ![2048]⟩
abbrev S2048x1 : Shape := ⟨2, ![2048, 1]⟩
abbrev S768x1024 : Shape := ⟨2, ![768, 1024]⟩
abbrev S2048x768 : Shape := ⟨2, ![2048, 768]⟩
abbrev S2x8192x4x768 : Shape := ⟨4, ![2, 8192, 4, 768]⟩
abbrev S2x8192x4x704 : Shape := ⟨4, ![2, 8192, 4, 704]⟩
abbrev S8192x2x4x704 : Shape := ⟨4, ![8192, 2, 4, 704]⟩
abbrev S8192x5632 : Shape := ⟨2, ![8192, 5632]⟩

abbrev nBuf : Space → Nat
  | .hbm => 17
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S5632x1024, .f32⟩
  | .hbm, ⟨4, _⟩ => ⟨S8x704x1024, .f32⟩
  | .hbm, ⟨5, _⟩ => ⟨S_, .i32⟩
  | .hbm, ⟨6, _⟩ => ⟨S_, .f32⟩
  | .hbm, ⟨7, _⟩ => ⟨S8x768x1024, .f32⟩
  | .hbm, ⟨8, _⟩ => ⟨S8x768x1024, .bf16⟩
  | .hbm, ⟨9, _⟩ => ⟨S2x8192x3072, .bf16⟩
  | .hbm, ⟨10, _⟩ => ⟨S8192x1024, .bf16⟩
  | .hbm, ⟨11, _⟩ => ⟨S2x8192x3072, .f32⟩
  | .hbm, ⟨12, _⟩ => ⟨S2x8192x4x768, .f32⟩
  | .hbm, ⟨13, _⟩ => ⟨S2x8192x4x704, .f32⟩
  | .hbm, ⟨14, _⟩ => ⟨S8192x2x4x704, .f32⟩
  | .hbm, ⟨15, _⟩ => ⟨S8192x5632, .f32⟩
  | .hbm, ⟨16, _⟩ => ⟨S8192x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x768x1024, .bf16⟩
  | .local _ .vmem, ⟨4, _⟩ => ⟨S1x768x1024, .bf16⟩
  | .local _ .vmem, ⟨5, _⟩ => ⟨S1x2048x768, .bf16⟩
  | .local _ .vmem, ⟨6, _⟩ => ⟨S1x2048x768, .bf16⟩
  | .local _ .vmem, ⟨7, _⟩ => ⟨S2048x1024, .bf16⟩
  | .local _ .vmem, ⟨8, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference10Ideal.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel8.lean ====
abbrev S8192x512 : Shape := ⟨2, ![8192, 512]⟩
abbrev S128x256 : Shape := ⟨2, ![128, 256]⟩
abbrev S_ : Shape := ⟨0, ![]⟩
abbrev S8x1x1 : Shape := ⟨3, ![8, 1, 1]⟩
abbrev S1x128x256 : Shape := ⟨3, ![1, 128, 256]⟩
abbrev S8x128x256 : Shape := ⟨3, ![8, 128, 256]⟩
abbrev S8192x8x64 : Shape := ⟨3, ![8192, 8, 64]⟩
abbrev S8320x8x64 : Shape := ⟨3, ![8320, 8, 64]⟩
abbrev S64x128x8x64 : Shape := ⟨4, ![64, 128, 8, 64]⟩
abbrev S64x256x8x64 : Shape := ⟨4, ![64, 256, 8, 64]⟩
abbrev S64x8x128x256 : Shape := ⟨4, ![64, 8, 128, 256]⟩
abbrev S1x8x128x256 : Shape := ⟨4, ![1, 8, 128, 256]⟩
abbrev S64x1x1x256 : Shape := ⟨4, ![64, 1, 1, 256]⟩
abbrev S64x8x128 : Shape := ⟨3, ![64, 8, 128]⟩
abbrev S64x8x128x1 : Shape := ⟨4, ![64, 8, 128, 1]⟩
abbrev S64x8x64x128 : Shape := ⟨4, ![64, 8, 64, 128]⟩
abbrev S64x128x8x1 : Shape := ⟨4, ![64, 128, 8, 1]⟩
abbrev S8192x8x1 : Shape := ⟨3, ![8192, 8, 1]⟩
abbrev S8192x8 : Shape := ⟨2, ![8192, 8]⟩
abbrev S512x512 : Shape := ⟨2, ![512, 512]⟩
abbrev S64x512 : Shape := ⟨2, ![64, 512]⟩
abbrev S640x512 : Shape := ⟨2, ![640, 512]⟩
abbrev S128x128 : Shape := ⟨2, ![128, 128]⟩
abbrev S256x128 : Shape := ⟨2, ![256, 128]⟩
abbrev S128x512 : Shape := ⟨2, ![128, 512]⟩

abbrev nBuf : Space → Nat
  | .hbm => 137
  | .vmem => 62
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x512, .bf16⟩
  | 5 => ⟨S8192x512, .bf16⟩
  | 6 => ⟨S8192x512, .bf16⟩
  | 7 => ⟨S8192x512, .bf16⟩
  | 8 => ⟨S128x256, .i32⟩
  | 9 => ⟨S_, .i32⟩
  | 10 => ⟨S128x256, .i32⟩
  | 11 => ⟨S128x256, .i32⟩
  | 12 => ⟨S128x256, .i32⟩
  | 13 => ⟨S128x256, .i32⟩
  | 14 => ⟨S128x256, .i32⟩
  | 15 => ⟨S128x256, .f32⟩
  | 16 => ⟨S8x1x1, .i32⟩
  | 17 => ⟨S_, .i32⟩
  | 18 => ⟨S8x1x1, .i32⟩
  | 19 => ⟨S8x1x1, .i32⟩
  | 20 => ⟨S8x1x1, .f32⟩
  | 21 => ⟨S_, .f32⟩
  | 22 => ⟨S8x1x1, .f32⟩
  | 23 => ⟨S8x1x1, .f32⟩
  | 24 => ⟨S_, .f32⟩
  | 25 => ⟨S8x1x1, .f32⟩
  | 26 => ⟨S8x1x1, .f32⟩
  | 27 => ⟨S_, .f32⟩
  | 28 => ⟨S8x1x1, .f32⟩
  | 29 => ⟨S8x1x1, .f32⟩
  | 30 => ⟨S8x1x1, .f32⟩
  | 31 => ⟨S128x256, .i32⟩
  | 32 => ⟨S_, .i32⟩
  | 33 => ⟨S128x256, .i32⟩
  | 34 => ⟨S128x256, .i1⟩
  | 35 => ⟨S1x128x256, .i1⟩
  | 36 => ⟨S8x1x1, .f32⟩
  | 37 => ⟨S1x128x256, .f32⟩
  | 38 => ⟨S8x128x256, .f32⟩
  | 39 => ⟨S8x128x256, .f32⟩
  | 40 => ⟨S8x128x256, .f32⟩
  | 41 => ⟨S_, .f32⟩
  | 42 => ⟨S8x128x256, .f32⟩
  | 43 => ⟨S8x128x256, .f32⟩
  | 44 => ⟨S_, .f32⟩
  | 45 => ⟨S8x128x256, .i1⟩
  | 46 => ⟨S8x128x256, .f32⟩
  | 47 => ⟨S8x128x256, .f32⟩
  | 48 => ⟨S8192x512, .f32⟩
  | 49 => ⟨S8192x8x64, .f32⟩
  | 50 => ⟨S_, .i32⟩
  | 51 => ⟨S_, .f32⟩
  | 52 => ⟨S8320x8x64, .f32⟩
  | 53 => ⟨S8192x8x64, .f32⟩
  | 54 => ⟨S64x128x8x64, .f32⟩
  | 55 => ⟨S8192x8x64, .f32⟩
  | 56 => ⟨S64x128x8x64, .f32⟩
  | 57 => ⟨S64x256x8x64, .f32⟩
  | 58 => ⟨S8192x512, .f32⟩
  | 59 => ⟨S8192x8x64, .f32⟩
  | 60 => ⟨S_, .i32⟩
  | 61 => ⟨S_, .f32⟩
  | 62 => ⟨S8320x8x64, .f32⟩
  | 63 => ⟨S8192x8x64, .f32⟩
  | 64 => ⟨S64x128x8x64, .f32⟩
  | 65 => ⟨S8192x8x64, .f32⟩
  | 66 => ⟨S64x128x8x64, .f32⟩
  | 67 => ⟨S64x256x8x64, .f32⟩
  | 68 => ⟨S8192x512, .f32⟩
  | 69 => ⟨S64x128x8x64, .f32⟩
  | 70 => ⟨S64x8x128x256, .f32⟩
  | 71 => ⟨S_, .f32⟩
  | 72 => ⟨S64x8x128x256, .f32⟩
  | 73 => ⟨S64x8x128x256, .f32⟩
  | 74 => ⟨S1x8x128x256, .f32⟩
  | 75 => ⟨S64x8x128x256, .f32⟩
  | 76 => ⟨S64x8x128x256, .f32⟩
  | 77 => ⟨S64x1x1x256, .i32⟩
  | 78 => ⟨S_, .i32⟩
  | 79 => ⟨S64x1x1x256, .i32⟩
  | 80 => ⟨S64x1x1x256, .i32⟩
  | 81 => ⟨S64x1x1x256, .i32⟩
  | 82 => ⟨S64x1x1x256, .i32⟩
  | 83 => ⟨S_, .i32⟩
  | 84 => ⟨S64x1x1x256, .i32⟩
  | 85 => ⟨S64x1x1x256, .i32⟩
  | 86 => ⟨S_, .i32⟩
  | 87 => ⟨S64x1x1x256, .i32⟩
  | 88 => ⟨S64x1x1x256, .i1⟩
  | 89 => ⟨S_, .i32⟩
  | 90 => ⟨S64x1x1x256, .i32⟩
  | 91 => ⟨S64x1x1x256, .i1⟩
  | 92 => ⟨S64x1x1x256, .i1⟩
  | 93 => ⟨S_, .f32⟩
  | 94 => ⟨S_, .f32⟩
  | 95 => ⟨S64x8x128x256, .i1⟩
  | 96 => ⟨S64x8x128x256, .f32⟩
  | 97 => ⟨S64x8x128x256, .f32⟩
  | 98 => ⟨S_, .f32⟩
  | 99 => ⟨S64x8x128, .f32⟩
  | 100 => ⟨S64x8x128x1, .f32⟩
  | 101 => ⟨S64x8x128x256, .f32⟩
  | 102 => ⟨S64x8x128x256, .f32⟩
  | 103 => ⟨S_, .f32⟩
  | 104 => ⟨S64x8x128x256, .f32⟩
  | 105 => ⟨S64x8x128x256, .f32⟩
  | 106 => ⟨S64x8x128x256, .f32⟩
  | 107 => ⟨S_, .f32⟩
  | 108 => ⟨S64x8x128, .f32⟩
  | 109 => ⟨S64x8x128x1, .f32⟩
  | 110 => ⟨S64x8x128x256, .f32⟩
  | 111 => ⟨S64x8x128x256, .f32⟩
  | 112 => ⟨S64x8x64x128, .f32⟩
  | 113 => ⟨S64x128x8x64, .f32⟩
  | 114 => ⟨S8192x8x64, .f32⟩
  | 115 => ⟨S64x8x128x1, .f32⟩
  | 116 => ⟨S_, .f32⟩
  | 117 => ⟨S64x8x128x1, .f32⟩
  | 118 => ⟨S64x8x128x1, .f32⟩
  | 119 => ⟨S64x8x128x1, .f32⟩
  | 120 => ⟨S64x128x8x1, .f32⟩
  | 121 => ⟨S8192x8x1, .f32⟩
  | 122 => ⟨S8192x8x64, .f32⟩
  | 123 => ⟨S8192x8x64, .f32⟩
  | 124 => ⟨S_, .f32⟩
  | 125 => ⟨S8192x8, .f32⟩
  | 126 => ⟨S8192x8x1, .f32⟩
  | 127 => ⟨S8192x8x64, .f32⟩
  | _ => ⟨S8192x512, .f32⟩

abbrev hbmTy0_1 (i : Nat) : BufTy := match i % 128 with
  | 0 => ⟨S8192x512, .f32⟩
  | 1 => ⟨S8192x8x64, .f32⟩
  | 2 => ⟨S8192x512, .f32⟩
  | 3 => ⟨S8192x512, .bf16⟩
  | 4 => ⟨S8192x512, .bf16⟩
  | 5 => ⟨S8192x512, .bf16⟩
  | 6 => ⟨S8192x512, .f32⟩
  | 7 => ⟨S8192x512, .f32⟩
  | 8 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S64x512, .bf16⟩
  | .local _ .vmem, ⟨9, _⟩ => ⟨S64x512, .bf16⟩
  | .local _ .vmem, ⟨10, _⟩ => ⟨S512x512, .bf16⟩
  | .local _ .vmem, ⟨11, _⟩ => ⟨S512x512, .bf16⟩
  | .local _ .vmem, ⟨12, _⟩ => ⟨S64x512, .bf16⟩
  | .local _ .vmem, ⟨13, _⟩ => ⟨S64x512, .bf16⟩
  | .local _ .vmem, ⟨14, _⟩ => ⟨S64x512, .bf16⟩
  | .local _ .vmem, ⟨15, _⟩ => ⟨S64x512, .bf16⟩
  | .local _ .vmem, ⟨16, _⟩ => ⟨S512x512, .bf16⟩
  | .local _ .vmem, ⟨17, _⟩ => ⟨S512x512, .bf16⟩
  | .local _ .vmem, ⟨18, _⟩ => ⟨S64x512, .bf16⟩
  | .local _ .vmem, ⟨19, _⟩ => ⟨S64x512, .bf16⟩
  | .local _ .vmem, ⟨20, _⟩ => ⟨S8x128x256, .f32⟩
  | .local _ .vmem, ⟨21, _⟩ => ⟨S512x512, .bf16⟩
  | .local _ .vmem, ⟨22, _⟩ => ⟨S512x512, .bf16⟩
  | .local _ .vmem, ⟨23, _⟩ => ⟨S640x512, .bf16⟩
  | .local _ .vmem, ⟨24, _⟩ => ⟨S640x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S64x512, .bf16⟩
  | .local _ .vmem, ⟨30, _⟩ => ⟨S64x512, .bf16⟩
  | .local _ .vmem, ⟨31, _⟩ => ⟨S512x512, .bf16⟩
  | .local _ .vmem, ⟨32, _⟩ => ⟨S512x512, .bf16⟩
  | .local _ .vmem, ⟨33, _⟩ => ⟨S64x512, .bf16⟩
  | .local _ .vmem, ⟨34, _⟩ => ⟨S64x512, .bf16⟩
  | .local _ .vmem, ⟨35, _⟩ => ⟨S64x512, .bf16⟩
  | .local _ .vmem, ⟨36, _⟩ => ⟨S64x512, .bf16⟩
  | .local _ .vmem, ⟨37, _⟩ => ⟨S512x512, .bf16⟩
  | .local _ .vmem, ⟨38, _⟩ => ⟨S512x512, .bf16⟩
  | .local _ .vmem, ⟨39, _⟩ => ⟨S64x512, .bf16⟩
  | .local _ .vmem, ⟨40, _⟩ => ⟨S64x512, .bf16⟩
  | .local _ .vmem, ⟨41, _⟩ => ⟨S64x512, .f32⟩
  | .local _ .vmem, ⟨42, _⟩ => ⟨S64x512, .f32⟩
  | .local _ .vmem, ⟨43, _⟩ => ⟨S512x512, .f32⟩
  | .local _ .vmem, ⟨44, _⟩ => ⟨S512x512, .f32⟩
  | .local _ .vmem, ⟨45, _⟩ => ⟨S64x512, .f32⟩
  | .local _ .vmem, ⟨46, _⟩ => ⟨S64x512, .f32⟩
  | .local _ .vmem, ⟨47, _⟩ => ⟨S64x512, .f32⟩
  | .local _ .vmem, ⟨48, _⟩ => ⟨S64x512, .f32⟩
  | .local _ .vmem, ⟨49, _⟩ => ⟨S512x512, .f32⟩
  | .local _ .vmem, ⟨50, _⟩ => ⟨S512x512, .f32⟩
  | .local _ .vmem, ⟨51, _⟩ => ⟨S64x512, .f32⟩
  | .local _ .vmem, ⟨52, _⟩ => ⟨S64x512, .f32⟩
  | .local _ .vmem, ⟨53, _⟩ => ⟨S8x128x256, .f32⟩
  | .local _ .vmem, ⟨54, _⟩ => ⟨S512x512, .bf16⟩
  | .local _ .vmem, ⟨55, _⟩ => ⟨S512x512, .bf16⟩
  | .local _ .vmem, ⟨56, _⟩ => ⟨S512x512, .bf16⟩
  | .local _ .vmem, ⟨57, _⟩ => ⟨S512x512, .bf16⟩
  | .local _ .vmem, ⟨58, _⟩ => ⟨S640x512, .bf16⟩
  | .local _ .vmem, ⟨59, _⟩ => ⟨S640x512, .bf16⟩
  | .local _ .vmem, ⟨60, _⟩ => ⟨S640x512, .f32⟩
  | .local _ .vmem, ⟨61, _⟩ => ⟨S640x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_call1_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_7 : Ref sig .tc := ⟨.hbm, 60, rfl⟩
abbrev main_call2_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_9 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_10 : Ref sig .tc := ⟨.hbm, 83, rfl⟩
abbrev main_v63 : Ref sig .tc := ⟨.hbm, 84, rfl⟩
abbrev main_v64 : Ref sig .tc := ⟨.hbm, 85, rfl⟩
abbrev main_c_11 : Ref sig .tc := ⟨.hbm, 86, rfl⟩
abbrev main_v65 : Ref sig .tc := ⟨.hbm, 87, rfl⟩
abbrev main_v66 : Ref sig .tc := ⟨.hbm, 88, rfl⟩
abbrev main_c_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_17 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_18 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100_0 : Ref sig .tc := ⟨.hbm, 132, rfl⟩
abbrev main_v100_1 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg3_1 : Ref sig .tc := ⟨.vmem, 32, rfl⟩
abbrev cc1_stg4_0 : Ref sig .tc := ⟨.vmem, 33, rfl⟩
abbrev cc1_stg4_1 : Ref sig .tc := ⟨.vmem, 34, rfl⟩
abbrev cc1_stg5_0 : Ref sig .tc := ⟨.vmem, 35, rfl⟩
abbrev cc1_stg5_1 : Ref sig .tc := ⟨.vmem, 36, rfl⟩
abbrev cc1_stg6_0 : Ref sig .tc := ⟨.vmem, 37, rfl⟩
abbrev cc1_stg6_1 : Ref sig .tc := ⟨.vmem, 38, rfl⟩
abbrev cc1_stg7_0 : Ref sig .tc := ⟨.vmem, 39, rfl⟩
abbrev cc1_stg7_1 : Ref sig .tc := ⟨.vmem, 40, rfl⟩
abbrev cc1_stg8_0 : Ref sig .tc := ⟨.vmem, 41, rfl⟩
abbrev cc1_stg8_1 : Ref sig .tc := ⟨.vmem, 42, rfl⟩
abbrev cc1_stg9_0 : Ref sig .tc := ⟨.vmem, 43, rfl⟩
abbrev cc1_stg9_1 : Ref sig .tc := ⟨.vmem, 44, rfl⟩
abbrev cc1_stg10_0 : Ref sig .tc := ⟨.vmem, 45, rfl⟩
abbrev cc1_stg10_1 : Ref sig .tc := ⟨.vmem, 46, rfl⟩
abbrev cc1_stg11_0 : Ref sig .tc := ⟨.vmem, 47, rfl⟩
abbrev cc1_stg11_1 : Ref sig .tc := ⟨.vmem, 48, rfl⟩
abbrev cc1_stg12_0 : Ref sig .tc := ⟨.vmem, 49, rfl⟩
abbrev cc1_stg12_1 : Ref sig .tc := ⟨.vmem, 50, rfl⟩
abbrev cc1_stg13_0 : Ref sig .tc := ⟨.vmem, 51, rfl⟩
abbrev cc1_stg13_1 : Ref sig .tc := ⟨.vmem, 52, rfl⟩
abbrev cc1_stg14_0 : Ref sig .tc := ⟨.vmem, 53, rfl⟩
abbrev cc1_stg15_0 : Ref sig .tc := ⟨.vmem, 54, rfl⟩
abbrev cc1_stg15_1 : Ref sig .tc := ⟨.vmem, 55, rfl⟩
abbrev cc1_stg16_0 : Ref sig .tc := ⟨.vmem, 56, rfl⟩
abbrev cc1_stg16_1 : Ref sig .tc := ⟨.vmem, 57, rfl⟩
abbrev cc1_scratch0 : Ref sig .tc := ⟨.vmem, 58, rfl⟩
abbrev cc1_scratch1 : Ref sig .tc := ⟨.vmem, 59, rfl⟩
abbrev cc1_scratch2 : Ref sig .tc := ⟨.vmem, 60, rfl⟩
abbrev cc1_scratch3 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem5_1 : DmaSem sig := 34
abbrev cc1_sem6_0 : DmaSem sig := 35
abbrev cc1_sem6_1 : DmaSem sig := 36
abbrev cc1_sem7_0 : DmaSem sig := 37
abbrev cc1_sem7_1 : DmaSem sig := 38
abbrev cc1_sem8_0 : DmaSem sig := 39
abbrev cc1_sem8_1 : DmaSem sig := 40
abbrev cc1_sem9_0 : DmaSem sig := 41
abbrev cc1_sem9_1 : DmaSem sig := 42
abbrev cc1_sem10_0 : DmaSem sig := 43
abbrev cc1_sem10_1 : DmaSem sig := 44
abbrev cc1_sem11_0 : DmaSem sig := 45
abbrev cc1_sem11_1 : DmaSem sig := 46
abbrev cc1_sem12_0 : DmaSem sig := 47
abbrev cc1_sem12_1 : DmaSem sig := 48
abbrev cc1_sem13_0 : DmaSem sig := 49
abbrev cc1_sem13_1 : DmaSem sig := 50
abbrev cc1_sem14_0 : DmaSem sig := 51
abbrev cc1_sem15_0 : DmaSem sig := 52
abbrev cc1_sem15_1 : DmaSem sig := 53
abbrev cc1_sem16_0 : DmaSem sig := 54
abbrev cc1_sem16_1 : DmaSem sig := 55

abbrev nD : Nat := 1
abbrev τ : Topo := Topo.v7x

variable {F : FTy → Type} [FloatOps F]

abbrev grid0 : Pipeline.Grid := ⟨2, ![1, 16], ![false, false]⟩

def k0_mult1 : BitVec 32 :=
  let c0_i32 : BitVec 32 := 0#32
  let c128_i32 : BitVec 32 := 128#32
  let v30 : BitVec 32 := Scalar.muli c0_i32 c128_i32
  v30
def k0_off1 (c0_i32 : BitVec 32) : Fin 2 → Nat :=
  let c128_i32 : BitVec 32 := 128#32
  let v30 : BitVec 32 := Scalar.muli c0_i32 c128_i32
  let v31 : BitVec 32 := v30
  let v46 : Index := Scalar.indexCast v31
  let c0_23 : Index := 0#32
  ![v46.toNat, 0]
def k0_off2 (c0_i32 : BitVec 32) : Fin 2 → Nat :=
  let c128_i32 : BitVec 32 := 128#32
  let v30 : BitVec 32 := Scalar.muli c0_i32 c128_i32
  let v31 : BitVec 32 := v30
  let v58 : Index := Scalar.indexCast v31
  let c0_27 : Index := 0#32
  ![v58.toNat, 0]
def k0_off3 (c0_i32 : BitVec 32) : Fin 2 → Nat :=
  let c128_i32 : BitVec 32 := 128#32
  let v30 : BitVec 32 := Scalar.muli c0_i32 c128_i32
  let v31 : BitVec 32 := v30
  let v192 : Index := Scalar.indexCast v31
  let c128 : Index := 128#32
  ![v192.toNat, 128]
def k0_off4 (c0_i32 : BitVec 32) : Fin 2 → Nat :=
  let c128_i32 : BitVec 32 := 128#32
  let v30 : BitVec 32 := Scalar.muli c0_i32 c128_i32
  let v31 : BitVec 32 := v30
  let v204 : Index := Scalar.indexCast v31
  let c128_84 : Index := 128#32
  ![v204.toNat, 128]
def k0_off5 (c0_i32 : BitVec 32) : Fin 2 → Nat :=
  let c128_i32 : BitVec 32 := 128#32
  let v30 : BitVec 32 := Scalar.muli c0_i32 c128_i32
  let v31 : BitVec 32 := v30
  let v338 : Index := Scalar.indexCast v31
  let c256 : Index := 256#32
  ![v338.toNat, 256]
def k0_off6 (c0_i32 : BitVec 32) : Fin 2 → Nat :=
  let c128_i32 : BitVec 32 := 128#32
  let v30 : BitVec 32 := Scalar.muli c0_i32 c128_i32
  let v31 : BitVec 32 := v30
  let v350 : Index := Scalar.indexCast v31
  let c256_143 : Index := 256#32
  ![v350.toNat, 256]
def k0_off7 (c0_i32 : BitVec 32) : Fin 2 → Nat :=
  let c128_i32 : BitVec 32 := 128#32
  let v30 : BitVec 32 := Scalar.muli c0_i32 c128_i32
  let v31 : BitVec 32 := v30
  let v484 : Index := Scalar.indexCast v31
  let c384 : Index := 384#32
  ![v484.toNat, 384]
def k0_off8 (c0_i32 : BitVec 32) : Fin 2 → Nat :=
  let c128_i32 : BitVec 32 := 128#32
  let v30 : BitVec 32 := Scalar.muli c0_i32 c128_i32
  let v31 : BitVec 32 := v30
  let v496 : Index := Scalar.indexCast v31
  let c384_202 : Index := 384#32
  ![v496.toNat, 384]
def k0_off9 (c0_i32 : BitVec 32) : Fin 2 → Nat :=
  let c128_i32 : BitVec 32 := 128#32
  let v30 : BitVec 32 := Scalar.muli c0_i32 c128_i32
  let v31 : BitVec 32 := v30
  let v708 : Index := Scalar.indexCast v31
  let c0_286 : Index := 0#32
  ![v708.toNat, 0]
def k0_mult2 : BitVec 32 :=
  let c1_i32_287 : BitVec 32 := 1#32
  let c128_i32_288 : BitVec 32 := 128#32
  let v710 : BitVec 32 := Scalar.muli c1_i32_287 c128_i32_288
  v710
def k0_mult3 : BitVec 32 :=
  let c2_i32 : BitVec 32 := 2#32
  let c128_i32_571 : BitVec 32 := 128#32
  let v1390 : BitVec 32 := Scalar.muli c2_i32 c128_i32_571
  v1390
def k0_mult4 : BitVec 32 :=
  let c3_i32 : BitVec 32 := 3#32
  let c128_i32_854 : BitVec 32 := 128#32
  let v2070 : BitVec 32 := Scalar.muli c3_i32 c128_i32_854
  v2070
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  ![v2.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨2, ![1, 16], ![false, false]⟩

def k1_mult1 : BitVec 32 :=
  let c0_i32 : BitVec 32 := 0#32
  let c128_i32 : BitVec 32 := 128#32
  let v60 : BitVec 32 := Scalar.muli c0_i32 c128_i32
  v60
def k1_off1 (c0_i32 : BitVec 32) : Fin 2 → Nat :=
  let c128_i32 : BitVec 32 := 128#32
  let v60 : BitVec 32 := Scalar.muli c0_i32 c128_i32
  let v61 : BitVec 32 := v60
  let v76 : Index := Scalar.indexCast v61
  let c0_47 : Index := 0#32
  ![v76.toNat, 0]
def k1_off2 (c0_i32 : BitVec 32) : Fin 2 → Nat :=
  let c128_i32 : BitVec 32 := 128#32
  let v60 : BitVec 32 := Scalar.muli c0_i32 c128_i32
  let v61 : BitVec 32 := v60
  let v82 : Index := Scalar.indexCast v61
  let c0_49 : Index := 0#32
  ![v82.toNat, 0]
def k1_off3 (c0_i32 : BitVec 32) : Fin 2 → Nat :=
  let c128_i32 : BitVec 32 := 128#32
  let v60 : BitVec 32 := Scalar.muli c0_i32 c128_i32
  let v61 : BitVec 32 := v60
  let v218 : Index := Scalar.indexCast v61
  let c128 : Index := 128#32
  ![v218.toNat, 128]
def k1_off4 (c0_i32 : BitVec 32) : Fin 2 → Nat :=
  let c128_i32 : BitVec 32 := 128#32
  let v60 : BitVec 32 := Scalar.muli c0_i32 c128_i32
  let v61 : BitVec 32 := v60
  let v224 : Index := Scalar.indexCast v61
  let c128_106 : Index := 128#32
  ![v224.toNat, 128]
def k1_off5 (c0_i32 : BitVec 32) : Fin 2 → Nat :=
  let c128_i32 : BitVec 32 := 128#32
  let v60 : BitVec 32 := Scalar.muli c0_i32 c128_i32
  let v61 : BitVec 32 := v60
  let v360 : Index := Scalar.indexCast v61
  let c256 : Index := 256#32
  ![v360.toNat, 256]
def k1_off6 (c0_i32 : BitVec 32) : Fin 2 → Nat :=
  let c128_i32 : BitVec 32 := 128#32
  let v60 : BitVec 32 := Scalar.muli c0_i32 c128_i32
  let v61 : BitVec 32 := v60
  let v366 : Index := Scalar.indexCast v61
  let c256_165 : Index := 256#32
  ![v366.toNat, 256]
def k1_off7 (c0_i32 : BitVec 32) : Fin 2 → Nat :=
  let c128_i32 : BitVec 32 := 128#32
  let v60 : BitVec 32 := Scalar.muli c0_i32 c128_i32
  let v61 : BitVec 32 := v60
  let v502 : Index := Scalar.indexCast v61
  let c384 : Index := 384#32
  ![v502.toNat, 384]
def k1_off8 (c0_i32 : BitVec 32) : Fin 2 → Nat :=
  let c128_i32 : BitVec 32 := 128#32
  let v60 : BitVec 32 := Scalar.muli c0_i32 c128_i32
  let v61 : BitVec 32 := v60
  let v508 : Index := Scalar.indexCast v61
  let c384_224 : Index := 384#32
  ![v508.toNat, 384]
def k1_off9 (c0_i32 : BitVec 32) : Fin 2 → Nat :=
  let c128_i32 : BitVec 32 := 128#32
  let v60 : BitVec 32 := Scalar.muli c0_i32 c128_i32
  let v61 : BitVec 32 := v60
  let v738 : Index := Scalar.indexCast v61
  let c0_318 : Index := 0#32
  ![v738.toNat, 0]
def k1_mult2 : BitVec 32 :=
  let c1_i32_324 : BitVec 32 := 1#32
  let c128_i32_325 : BitVec 32 := 128#32
  let v756 : BitVec 32 := Scalar.muli c1_i32_324 c128_i32_325
  v756
def k1_mult3 : BitVec 32 :=
  let c2_i32 : BitVec 32 := 2#32
  let c128_i32_621 : BitVec 32 := 128#32
  let v1452 : BitVec 32 := Scalar.muli c2_i32 c128_i32_621
  v1452
def k1_mult4 : BitVec 32 :=
  let c3_i32 : BitVec 32 := 3#32
  let c128_i32_917 : BitVec 32 := 128#32
  let v2148 : BitVec 32 := Scalar.muli c3_i32 c128_i32_917
  v2148
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  ![v2.toNat, arg0.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  ![v2.toNat, arg0.toNat]

def cc1_transform_8 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  ![v2.toNat, arg0.toNat]

def cc1_transform_11 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_13 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  ![v2.toNat, arg0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S64x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S64x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S64x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S64x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S64x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S64x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S512x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S64x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 1 → Memref sig .tc .vmem S8x128x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 2 → Memref sig .tc .vmem S512x512 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S512x512 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]
-- ==== Reference8Ideal.lean ====
abbrev S8192x512 : Shape := ⟨2, ![8192, 512]⟩
abbrev S256 : Shape := ⟨1, ![256]⟩
abbrev S1x256 : Shape := ⟨2, ![1, 256]⟩
abbrev S_ : Shape := ⟨0, ![]⟩
abbrev S128 : Shape := ⟨1, ![128]⟩
abbrev S128x1 : Shape := ⟨2, ![128, 1]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S8 : Shape := ⟨1, ![8]⟩
abbrev S8x1x1 : Shape := ⟨3, ![8, 1, 1]⟩
abbrev S8x128x256 : Shape := ⟨3, ![8, 128, 256]⟩
abbrev S64x128x8x64 : Shape := ⟨4, ![64, 128, 8, 64]⟩
abbrev S64x8x64 : Shape := ⟨3, ![64, 8, 64]⟩
abbrev S8192x8x64 : Shape := ⟨3, ![8192, 8, 64]⟩
abbrev S8320x8x64 : Shape := ⟨3, ![8320, 8, 64]⟩
abbrev S64x256x8x64 : Shape := ⟨4, ![64, 256, 8, 64]⟩
abbrev S64x8x128x256 : Shape := ⟨4, ![64, 8, 128, 256]⟩
abbrev S64x1x128x256 : Shape := ⟨4, ![64, 1, 128, 256]⟩
abbrev S1x8x128x256 : Shape := ⟨4, ![1, 8, 128, 256]⟩
abbrev S64x8x128 : Shape := ⟨3, ![64, 8, 128]⟩
abbrev S64x8x128x1 : Shape := ⟨4, ![64, 8, 128, 1]⟩
abbrev S64x8x64x128 : Shape := ⟨4, ![64, 8, 64, 128]⟩
abbrev S64x8x64x256 : Shape := ⟨4, ![64, 8, 64, 256]⟩
abbrev S64x8x256x64 : Shape := ⟨4, ![64, 8, 256, 64]⟩
abbrev S64x8x128x64 : Shape := ⟨4, ![64, 8, 128, 64]⟩

abbrev nBuf : Space → Nat
  | .hbm => 183
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S256, .i32⟩
  | 5 => ⟨S1x256, .i32⟩
  | 6 => ⟨S_, .i32⟩
  | 7 => ⟨S1x256, .i32⟩
  | 8 => ⟨S1x256, .i32⟩
  | 9 => ⟨S128, .i32⟩
  | 10 => ⟨S128x1, .i32⟩
  | 11 => ⟨S128x256, .i32⟩
  | 12 => ⟨S128x256, .i32⟩
  | 13 => ⟨S128x256, .i32⟩
  | 14 => ⟨S64, .i32⟩
  | 15 => ⟨S64x1, .i32⟩
  | 16 => ⟨S_, .i32⟩
  | 17 => ⟨S64x1, .i32⟩
  | 18 => ⟨S64x1, .i32⟩
  | 19 => ⟨S256, .i32⟩
  | 20 => ⟨S1x256, .i32⟩
  | 21 => ⟨S64x256, .i32⟩
  | 22 => ⟨S64x256, .i32⟩
  | 23 => ⟨S64x256, .i32⟩
  | 24 => ⟨S_, .i32⟩
  | 25 => ⟨S64x256, .i32⟩
  | 26 => ⟨S64x256, .i32⟩
  | 27 => ⟨S128x256, .i32⟩
  | 28 => ⟨S_, .i32⟩
  | 29 => ⟨S128x256, .i32⟩
  | 30 => ⟨S128x256, .i1⟩
  | 31 => ⟨S1x128x256, .i1⟩
  | 32 => ⟨S_, .i32⟩
  | 33 => ⟨S64x256, .i32⟩
  | 34 => ⟨S64x256, .i1⟩
  | 35 => ⟨S_, .i32⟩
  | 36 => ⟨S64x256, .i32⟩
  | 37 => ⟨S64x256, .i1⟩
  | 38 => ⟨S64x256, .i1⟩
  | 39 => ⟨S64x1x256, .i1⟩
  | 40 => ⟨S64x128x256, .i1⟩
  | 41 => ⟨S64x128x256, .i1⟩
  | 42 => ⟨S64x128x256, .i1⟩
  | 43 => ⟨S8, .f32⟩
  | 44 => ⟨S_, .f32⟩
  | 45 => ⟨S8, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S8, .f32⟩
  | 57 => ⟨S8x1x1, .f32⟩
  | 58 => ⟨S8x1x1, .f32⟩
  | 59 => ⟨S128x256, .i32⟩
  | 60 => ⟨S128x256, .f32⟩
  | 61 => ⟨S1x128x256, .f32⟩
  | 62 => ⟨S8x128x256, .f32⟩
  | 63 => ⟨S8x128x256, .f32⟩
  | 64 => ⟨S8x128x256, .f32⟩
  | 65 => ⟨S64x128x8x64, .f32⟩
  | 66 => ⟨S_, .f32⟩
  | 67 => ⟨S64x8x64, .f32⟩
  | 68 => ⟨S8192x8x64, .f32⟩
  | 69 => ⟨S8320x8x64, .f32⟩
  | 70 => ⟨S_, .f32⟩
  | 71 => ⟨S64x8x64, .f32⟩
  | 72 => ⟨S_, .f32⟩
  | 73 => ⟨S64x8x64, .f32⟩
  | 74 => ⟨S8192x8x64, .f32⟩
  | 75 => ⟨S64x128x8x64, .f32⟩
  | 76 => ⟨S8192x8x64, .f32⟩
  | 77 => ⟨S64x128x8x64, .f32⟩
  | 78 => ⟨S64x256x8x64, .f32⟩
  | 79 => ⟨S64x8x128x256, .f32⟩
  | 80 => ⟨S_, .f32⟩
  | 81 => ⟨S64x8x128x256, .f32⟩
  | 82 => ⟨S64x8x128x256, .f32⟩
  | 83 => ⟨S64x1x128x256, .i1⟩
  | 84 => ⟨S1x8x128x256, .f32⟩
  | 85 => ⟨S64x8x128x256, .f32⟩
  | 86 => ⟨S64x8x128x256, .f32⟩
  | 87 => ⟨S_, .f32⟩
  | 88 => ⟨S_, .f32⟩
  | 89 => ⟨S64x8x128x256, .i1⟩
  | 90 => ⟨S64x8x128x256, .f32⟩
  | 91 => ⟨S64x8x128x256, .f32⟩
  | 92 => ⟨S_, .f32⟩
  | 93 => ⟨S64x8x128x256, .f32⟩
  | 94 => ⟨S_, .f32⟩
  | 95 => ⟨S64x8x128, .f32⟩
  | 96 => ⟨S64x8x128x1, .f32⟩
  | 97 => ⟨S64x8x128x256, .f32⟩
  | 98 => ⟨S64x8x128x256, .i1⟩
  | 99 => ⟨S64x8x128x256, .f32⟩
  | 100 => ⟨S_, .f32⟩
  | 101 => ⟨S64x8x128, .f32⟩
  | 102 => ⟨S64x8x128x1, .f32⟩
  | 103 => ⟨S64x8x128x256, .f32⟩
  | 104 => ⟨S64x8x128x256, .f32⟩
  | 105 => ⟨S64x8x128x256, .f32⟩
  | 106 => ⟨S_, .f32⟩
  | 107 => ⟨S64x8x128, .f32⟩
  | 108 => ⟨S64x8x128x1, .f32⟩
  | 109 => ⟨S64x8x128x1, .f32⟩
  | 110 => ⟨S64x8x128x1, .f32⟩
  | 111 => ⟨S64x8x128x256, .f32⟩
  | 112 => ⟨S64x8x128x256, .f32⟩
  | 113 => ⟨S64x8x128x256, .f32⟩
  | 114 => ⟨S_, .f32⟩
  | 115 => ⟨S64x8x64, .f32⟩
  | 116 => ⟨S8192x8x64, .f32⟩
  | 117 => ⟨S8320x8x64, .f32⟩
  | 118 => ⟨S_, .f32⟩
  | 119 => ⟨S64x8x64, .f32⟩
  | 120 => ⟨S_, .f32⟩
  | 121 => ⟨S64x8x64, .f32⟩
  | 122 => ⟨S8192x8x64, .f32⟩
  | 123 => ⟨S64x128x8x64, .f32⟩
  | 124 => ⟨S8192x8x64, .f32⟩
  | 125 => ⟨S64x128x8x64, .f32⟩
  | 126 => ⟨S64x256x8x64, .f32⟩
  | 127 => ⟨S64x8x64x128, .f32⟩
  | _ => ⟨S8192x512, .f32⟩

abbrev hbmTy0_1 (i : Nat) : BufTy := match i % 128 with
  | 0 => ⟨S64x128x8x64, .f32⟩
  | 1 => ⟨S8192x512, .f32⟩
  | 2 => ⟨S64x128x8x64, .f32⟩
  | 3 => ⟨S64x8x64x128, .f32⟩
  | 4 => ⟨S64x8x128x256, .f32⟩
  | 5 => ⟨S64x8x64x256, .f32⟩
  | 6 => ⟨S64x256x8x64, .f32⟩
  | 7 => ⟨S64x128x8x64, .f32⟩
  | 8 => ⟨S64x128x8x64, .f32⟩
  | 9 => ⟨S8192x8x64, .f32⟩
  | 10 => ⟨S_, .f32⟩
  | 11 => ⟨S8320x8x64, .f32⟩
  | 12 => ⟨S8192x8x64, .f32⟩
  | 13 => ⟨S_, .f32⟩
  | 14 => ⟨S8320x8x64, .f32⟩
  | 15 => ⟨S8320x8x64, .f32⟩
  | 16 => ⟨S64x8x64, .f32⟩
  | 17 => ⟨S8192x8x64, .f32⟩
  | 18 => ⟨S64x8x64, .f32⟩
  | 19 => ⟨S8192x512, .f32⟩
  | 20 => ⟨S64x8x128x256, .f32⟩
  | 21 => ⟨S64x8x128x256, .f32⟩
  | 22 => ⟨S_, .f32⟩
  | 23 => ⟨S64x8x128, .f32⟩
  | 24 => ⟨S64x8x128x1, .f32⟩
  | 25 => ⟨S64x8x128x1, .f32⟩
  | 26 => ⟨S_, .f32⟩
  | 27 => ⟨S64x8x128, .f32⟩
  | 28 => ⟨S64x8x128x256, .f32⟩
  | 29 => ⟨S64x8x128x256, .f32⟩
  | 30 => ⟨S64x8x128x256, .f32⟩
  | 31 => ⟨S_, .f32⟩
  | 32 => ⟨S64x8x128x256, .f32⟩
  | 33 => ⟨S64x8x128x256, .f32⟩
  | 34 => ⟨S_, .f32⟩
  | 35 => ⟨S64x8x128x256, .f32⟩
  | 36 => ⟨S64x8x128x256, .f32⟩
  | 37 => ⟨S64x8x256x64, .f32⟩
  | 38 => ⟨S64x256x8x64, .f32⟩
  | 39 => ⟨S64x8x128x64, .f32⟩
  | 40 => ⟨S64x128x8x64, .f32⟩
  | 41 => ⟨S64x128x8x64, .f32⟩
  | 42 => ⟨S64x128x8x64, .f32⟩
  | 43 => ⟨S8192x8x64, .f32⟩
  | 44 => ⟨S_, .f32⟩
  | 45 => ⟨S8320x8x64, .f32⟩
  | 46 => ⟨S8192x8x64, .f32⟩
  | 47 => ⟨S_, .f32⟩
  | 48 => ⟨S8320x8x64, .f32⟩
  | 49 => ⟨S8320x8x64, .f32⟩
  | 50 => ⟨S64x8x64, .f32⟩
  | 51 => ⟨S8192x8x64, .f32⟩
  | 52 => ⟨S64x8x64, .f32⟩
  | 53 => ⟨S8192x512, .f32⟩
  | 54 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_12 : Ref sig .tc := ⟨.hbm, 87, rfl⟩
abbrev main_call0_v0 : Ref sig .tc := ⟨.hbm, 88, rfl⟩
abbrev main_v69_1 : Ref sig .tc := ⟨.hbm, 89, rfl⟩
abbrev main_call0_v2 : Ref sig .tc := ⟨.hbm, 90, rfl⟩
abbrev main_v69_0 : Ref sig .tc := ⟨.hbm, 91, rfl⟩
abbrev main_call0_cst : Ref sig .tc := ⟨.hbm, 92, rfl⟩
abbrev main_v69_2 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_16 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_17 : Ref sig .tc := ⟨.hbm, 118, rfl⟩
abbrev main_v90 : Ref sig .tc := ⟨.hbm, 119, rfl⟩
abbrev main_cst_18 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_19 : Ref sig .tc := ⟨.hbm, 138, rfl⟩
abbrev main_v108 : Ref sig .tc := ⟨.hbm, 139, rfl⟩
abbrev main_v109 : Ref sig .tc := ⟨.hbm, 140, rfl⟩
abbrev main_cst_20 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_21 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_22 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_call1_cst : Ref sig .tc := ⟨.hbm, 159, rfl⟩
abbrev main_call1_v0 : Ref sig .tc := ⟨.hbm, 160, rfl⟩
abbrev main_v125 : Ref sig .tc := ⟨.hbm, 161, rfl⟩
abbrev main_cst_23 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_24 : Ref sig .tc := ⟨.hbm, 172, rfl⟩
abbrev main_v135 : Ref sig .tc := ⟨.hbm, 173, rfl⟩
abbrev main_v136 : Ref sig .tc := ⟨.hbm, 174, rfl⟩
abbrev main_cst_25 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩

abbrev nD : Nat := 1
abbrev τ : Topo := Topo.v7x

variable {F : FTy → Type} [FloatOps F]
-- ==== Kernel14.lean ====
abbrev S8x1024x704 : Shape := ⟨3, ![8, 1024, 704]⟩
abbrev S1024x704 : Shape := ⟨2, ![1024, 704]⟩
abbrev S8x704x1024 : Shape := ⟨3, ![8, 704, 1024]⟩
abbrev S_ : Shape := ⟨0, ![]⟩
abbrev S8x64x1024 : Shape := ⟨3, ![8, 64, 1024]⟩
abbrev S8x768x1024 : Shape := ⟨3, ![8, 768, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 20
  | .vmem => 16
  | .smem => 0
  | _ => 0

abbrev bufTy : (tb : Table) → Fin (tcTables nBuf tb) → BufTy
  | .hbm, ⟨0, _⟩ => ⟨S8x1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x704x1024, .f32⟩
  | .hbm, ⟨5, _⟩ => ⟨S_, .f32⟩
  | .hbm, ⟨6, _⟩ => ⟨S8x64x1024, .f32⟩
  | .hbm, ⟨7, _⟩ => ⟨S8x768x1024, .f32⟩
  | .hbm, ⟨8, _⟩ => ⟨S8x768x1024, .bf16⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S1024x704, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S_, .f32⟩
  | .hbm, ⟨7, _⟩ => ⟨S1024x704, .f32⟩
  | .hbm, ⟨8, _⟩ => ⟨S1024x704, .f32⟩
  | .hbm, ⟨9, _⟩ => ⟨S_, .f32⟩
  | .hbm, ⟨10, _⟩ => ⟨S1024x704, .f32⟩
  | .hbm, ⟨11, _⟩ => ⟨S1024x704, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S1024x704, .f32⟩
  | .hbm, ⟨17, _⟩ => ⟨S_, .f32⟩
  | .hbm, ⟨18, _⟩ => ⟨S1024x704, .f32⟩
  | .hbm, ⟨19, _⟩ => ⟨S1024x704, .f32⟩
  | .hbm, ⟨20, _⟩ => ⟨S1024x704, .f32⟩
  | .hbm, ⟨21, _⟩ => ⟨S_, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S1024x704, .f32⟩
  | .hbm, ⟨32, _⟩ => ⟨S_, .f32⟩
  | .hbm, ⟨33, _⟩ => ⟨S1024x704, .f32⟩
  | .hbm, ⟨34, _⟩ => ⟨S1024x704, .f32⟩
  | .hbm, ⟨35, _⟩ => ⟨S1024x704, .f32⟩
  | .hbm, ⟨36, _⟩ => ⟨S_, .f32⟩
  | .hbm, ⟨37, _⟩ => ⟨S1024x704, .f32⟩
  | .hbm, ⟨38, _⟩ => ⟨S1024x704, .f32⟩
  | _, _ => ⟨S8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel16.lean ====
abbrev S8192x1024 : Shape := ⟨2, ![8192, 1024]⟩
abbrev S2816x1024 : Shape := ⟨2, ![2816, 1024]⟩
abbrev S4x704x1024 : Shape := ⟨3, ![4, 704, 1024]⟩
abbrev S_ : Shape := ⟨0, ![]⟩
abbrev S4x64x1024 : Shape := ⟨3, ![4, 64, 1024]⟩
abbrev S4x768x1024 : Shape := ⟨3, ![4, 768, 1024]⟩
abbrev S3072x1024 : Shape := ⟨2, ![3072, 1024]⟩
abbrev S8192x3072 : Shape := ⟨2, ![8192, 3072]⟩
abbrev S2048x1024 : Shape := ⟨2, ![2048, 1024]⟩
abbrev S1536x1024 : Shape := ⟨2, ![1536, 1024]⟩
abbrev S2048x1536 : Shape := ⟨2, ![2048, 1536]⟩
abbrev S8192x4x768 : Shape := ⟨3, ![8192, 4, 768]⟩
abbrev S8192x4x704 : Shape := ⟨3, ![8192, 4, 704]⟩
abbrev S8192x2816 : Shape := ⟨2, ![8192, 2816]⟩

abbrev nBuf : Space → Nat
  | .hbm => 14
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S4x704x1024, .f32⟩
  | .hbm, ⟨3, _⟩ => ⟨S_, .f32⟩
  | .hbm, ⟨4, _⟩ => ⟨S4x64x1024, .f32⟩
  | .hbm, ⟨5, _⟩ => ⟨S4x768x1024, .f32⟩
  | .hbm, ⟨6, _⟩ => ⟨S3072x1024, .f32⟩
  | .hbm, ⟨7, _⟩ => ⟨S3072x1024, .bf16⟩
  | .hbm, ⟨8, _⟩ => ⟨S8192x1024, .bf16⟩
  | .hbm, ⟨9, _⟩ => ⟨S8192x3072, .bf16⟩
  | .hbm, ⟨10, _⟩ => ⟨S8192x3072, .f32⟩
  | .hbm, ⟨11, _⟩ => ⟨S8192x4x768, .f32⟩
  | .hbm, ⟨12, _⟩ => ⟨S8192x4x704, .f32⟩
  | .hbm, ⟨13, _⟩ => ⟨S8192x2816, .f32⟩
  | .local _ .vmem, ⟨0, _⟩ => ⟨S2048x1024, .bf16⟩
  | .local _ .vmem, ⟨1, _⟩ => ⟨S2048x1024, .bf16⟩
  | .local _ .vmem, ⟨2, _⟩ => ⟨S1536x1024, .bf16⟩
  | .local _ .vmem, ⟨3, _⟩ => ⟨S1536x1024, .bf16⟩
  | .local _ .vmem, ⟨4, _⟩ => ⟨S2048x1536, .bf16⟩
  | .local _ .vmem, ⟨5, _⟩ => ⟨S2048x1536, .bf16⟩
  | .local _ .vmem, ⟨6, _⟩ => ⟨S2048x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S1024x2816, .f32⟩
  | .hbm, ⟨3, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S8192x512 : Shape := ⟨2, ![8192, 512]⟩
abbrev S2048x2048 : Shape := ⟨2, ![2048, 2048]⟩
abbrev S512x8192 : Shape := ⟨2, ![512, 8192]⟩
abbrev S8192x2304 : Shape := ⟨2, ![8192, 2304]⟩
abbrev S512x512 : Shape := ⟨2, ![512, 512]⟩
abbrev S128x2048 : Shape := ⟨2, ![128, 2048]⟩
abbrev S32x8192 : Shape := ⟨2, ![32, 8192]⟩
abbrev S512x1536 : Shape := ⟨2, ![512, 1536]⟩
abbrev S4x512x128 : Shape := ⟨3, ![4, 512, 128]⟩
abbrev S128x128 : Shape := ⟨2, ![128, 128]⟩
abbrev S1x128x128 : Shape := ⟨3, ![1, 128, 128]⟩
abbrev S32x128 : Shape := ⟨2, ![32, 128]⟩
abbrev S1x32x128 : Shape := ⟨3, ![1, 32, 128]⟩
abbrev S1x512x128 : Shape := ⟨3, ![1, 512, 128]⟩
abbrev S512x128 : Shape := ⟨2, ![512, 128]⟩
abbrev S8192x1536 : Shape := ⟨2, ![8192, 1536]⟩

abbrev nBuf : Space → Nat
  | .hbm => 27
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S2048x2048, .bf16⟩
  | .hbm, ⟨14, _⟩ => ⟨S8192x512, .bf16⟩
  | .hbm, ⟨15, _⟩ => ⟨S2048x2048, .bf16⟩
  | .hbm, ⟨16, _⟩ => ⟨S8192x512, .bf16⟩
  | .hbm, ⟨17, _⟩ => ⟨S2048x2048, .bf16⟩
  | .hbm, ⟨18, _⟩ => ⟨S8192x512, .bf16⟩
  | .hbm, ⟨19, _⟩ => ⟨S512x8192, .bf16⟩
  | .hbm, ⟨20, _⟩ => ⟨S8192x512, .bf16⟩
  | .hbm, ⟨21, _⟩ => ⟨S512x8192, .bf16⟩
  | .hbm, ⟨22, _⟩ => ⟨S8192x512, .bf16⟩
  | .hbm, ⟨23, _⟩ => ⟨S512x8192, .bf16⟩
  | .hbm, ⟨24, _⟩ => ⟨S8192x2304, .bf16⟩
  | .hbm, ⟨25, _⟩ => ⟨S8192x1536, .bf16⟩
  | .hbm, ⟨26, _⟩ => ⟨S8192x1536, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x2048, .bf16⟩
  | .local _ .vmem, ⟨11, _⟩ => ⟨S128x2048, .bf16⟩
  | .local _ .vmem, ⟨12, _⟩ => ⟨S32x8192, .bf16⟩
  | .local _ .vmem, ⟨13, _⟩ => ⟨S32x8192, .bf16⟩
  | .local _ .vmem, ⟨14, _⟩ => ⟨S32x8192, .bf16⟩
  | .local _ .vmem, ⟨15, _⟩ => ⟨S32x8192, .bf16⟩
  | .local _ .vmem, ⟨16, _⟩ => ⟨S32x8192, .bf16⟩
  | .local _ .vmem, ⟨17, _⟩ => ⟨S32x8192, .bf16⟩
  | .local _ .vmem, ⟨18, _⟩ => ⟨S512x1536, .bf16⟩
  | .local _ .vmem, ⟨19, _⟩ => ⟨S512x1536, .bf16⟩
  | .local _ .vmem, ⟨20, _⟩ => ⟨S4x512x128, .f32⟩
  | .local _ .vmem, ⟨21, _⟩ => ⟨S4x512x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference15Ideal.lean ====
abbrev S8192x512 : Shape := ⟨2, ![8192, 512]⟩
abbrev S8192x1536 : Shape := ⟨2, ![8192, 1536]⟩

abbrev nBuf : Space → Nat
  | .hbm => 16
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x1536, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== Proof.Reals.lean ====
/- Finite arrays of the ideal instance as arrays of real numbers: the ideal operations on real entries, and the printed
   "every entry is finite" predicate read back. -/
module

public import Idealize.ShloMosaic.PureOps.Ideal.Laws
public import Idealize.ShloMosaic.Lib.ReduceAll

@[expose] public section

noncomputable section

namespace Cert.Reals

open Idealize.ShloMosaic

/-- A sum of real numbers, taken among the extended reals. -/
theorem sum_coe {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The ideal quotient of two real numbers. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- The ideal reciprocal square root of a positive real number. -/
theorem rsqrt_coe (a : ℝ) (ha : 0 < a) : Ideal.rsqrt (a : EReal) = (((Real.sqrt a)⁻¹ : ℝ) : EReal) := by
  show (if a < 0 then (⊥ : EReal) else if a = 0 then ⊤ else ((Real.sqrt a)⁻¹ : ℝ)) = _
  rw [if_neg (not_lt.2 ha.le), if_neg ha.ne']

/-- An extended real whose absolute value is below `⊤` is a real number. -/
theorem eq_coe_of_abs_lt (x : EReal) (h : max x (-x) < ⊤) : x = (x.toReal : EReal) := by
  have h1 : x ≠ ⊤ := fun e => by simp [e] at h
  have h2 : x ≠ ⊥ := fun e => by simp [e] at h
  exact (EReal.coe_toReal h1 h2).symm

/-- `jnp.all(jnp.abs(x) < c)` with `c = ⊤` everywhere: every entry of `x` is a real number. -/
theorem finite_of_all {φ : FTy} {s t u : Shape} {axes : List (Fin s.rank)} [Subsingleton t.Idx] (x c : FVec Ideal s φ) (init : IVec u 1)
    (hr : s.ReducesTo axes t) (hu : 0 < u.numel) (j : t.Idx) (hc : ∀ i, c i = (⊤ : EReal))
    (e : Host.reduce IntOp.andi (cmpf .olt (Host.absf x) c) init hr hu j = 1#1) :
    x = fun i => ((EReal.toReal (x i) : ℝ) : EReal) := by
  funext i
  have h := Host.reduce_andi_all _ _ hr hu j e i
  apply eq_coe_of_abs_lt
  have h' : Ideal.cmp .olt (max (x i) (-(x i))) (c i) = 1#1 := h
  rw [hc i] at h'
  by_contra hn
  unfold Ideal.cmp at h'
  simp [hn] at h'

theorem ofBits_inf : Ideal.ofBits .f32 0x7F800000#32 = (⊤ : EReal) := by simp [Ideal.ofBits, Ideal.ieee]
theorem ofBits_1024 : Ideal.ofBits .f32 0x44800000#32 = ((1024 : ℝ) : EReal) := by
  simp [Ideal.ofBits, Ideal.ieee]; norm_num [← EReal.coe_mul, ← EReal.coe_neg]
theorem ofBits_neg_half : Ideal.ofBits .f32 0xBF000000#32 = ((-(1/2) : ℝ) : EReal) := by
  simp [Ideal.ofBits, Ideal.ieee]; norm_num [← EReal.coe_mul, ← EReal.coe_neg]
/-- The norms' `1e-6`, as the real number that its word denotes. -/
def eps : ℝ := 8796093 / 2 ^ 43
theorem ofBits_eps : Ideal.ofBits .f32 0x358637BD#32 = (eps : EReal) := by
  simp [Ideal.ofBits, Ideal.ieee, eps]; norm_num [← EReal.coe_mul]
theorem eps_pos : 0 < eps := by unfold eps; norm_num

end Cert.Reals

end
-- ==== Proof.Mats.lean ====
/- Arrays of real numbers given by functions of natural numbers: how they are loaded through rectangles, and the sums
   and maxima taken of them. -/
module

public import Idealize.ShloMosaic.Lib.Pipeline.ValueKit
public import Idealize.ShloMosaic.Lib.Pointwise
public import Idealize.ShloMosaic.Lib.WritesUnit
public import proofs.«01_k».proof.Proof.Reals

@[expose] public section

set_option maxRecDepth 16384

noncomputable section

namespace Cert.Mats

open Idealize.ShloMosaic

/-- The matrix whose entry at row `r` and column `c` is the real number `A r c`. -/
def mat {d : Fin 2 → ℕ} (A : ℕ → ℕ → ℝ) : (⟨2, d⟩ : Shape).Idx → EReal := fun y => ((A (y 0).val (y 1).val : ℝ) : EReal)

/-- The array of three axes whose entries are the real numbers `A a r c`. -/
def cube {d : Fin 3 → ℕ} (A : ℕ → ℕ → ℕ → ℝ) : (⟨3, d⟩ : Shape).Idx → EReal :=
  fun y => ((A (y 0).val (y 1).val (y 2).val : ℝ) : EReal)

variable {sig : RefSig} {κ : Kind} {sp : Space}

/-- A load of a rectangle of a matrix is the matrix moved by the rectangle's offsets. -/
theorem load2 {d : Fin 2 → ℕ} {e : EltTy} {Val : EltTy → Type} (v : View sig κ sp (⟨2, d⟩ : Shape) e) (f : v.ty.Contents Val) (g : ℕ → ℕ → Val e)
    (h : v.read Val f = fun y => g (y 0).val (y 1).val) (off size : Fin 2 → ℕ) (inb : ∀ a : Fin 2, off a + size a ≤ d a) (o : Fin 2 → ℕ) (ho : off = o) :
    v.readAt Val (Rect.unit (s := ⟨2, d⟩) off size inb).toLoadRect f
      = fun y => g (o 0 + (y (0 : Fin 2)).val) (o 1 + (y (1 : Fin 2)).val) := by
  subst ho
  funext y
  refine (congrFun h _).trans ?_
  show g (off 0 + 1 * (y (0 : Fin 2)).val) (off 1 + 1 * (y (1 : Fin 2)).val) = _
  rw [one_mul, one_mul]

/-- The same for three axes. -/
theorem load3 {d : Fin 3 → ℕ} {e : EltTy} {Val : EltTy → Type} (v : View sig κ sp (⟨3, d⟩ : Shape) e) (f : v.ty.Contents Val) (g : ℕ → ℕ → ℕ → Val e)
    (h : v.read Val f = fun y => g (y 0).val (y 1).val (y 2).val) (off size : Fin 3 → ℕ) (inb : ∀ a : Fin 3, off a + size a ≤ d a) :
    v.readAt Val (Rect.unit (s := ⟨3, d⟩) off size inb).toLoadRect f
      = fun y => g (off 0 + (y (0 : Fin 3)).val) (off 1 + (y (1 : Fin 3)).val) (off 2 + (y (2 : Fin 3)).val) := by
  funext y
  refine (congrFun h _).trans ?_
  show g (off 0 + 1 * (y (0 : Fin 3)).val) (off 1 + 1 * (y (1 : Fin 3)).val) (off 2 + 1 * (y (2 : Fin 3)).val) = _
  rw [one_mul, one_mul, one_mul]

/-- `load2` of a matrix of real numbers kept in the short float format; -/
theorem load_bf16 {d : Fin 2 → ℕ} (v : View sig κ sp (⟨2, d⟩ : Shape) .bf16) (f : v.ty.Contents (Elt Ideal)) (A : ℕ → ℕ → ℝ)
    (h : v.read (Elt Ideal) f = mat A) (off size : Fin 2 → ℕ) (inb : ∀ a : Fin 2, off a + size a ≤ d a) (o : Fin 2 → ℕ) (ho : off = o) :
    v.readAt (Elt Ideal) (Rect.unit (s := ⟨2, d⟩) off size inb).toLoadRect f = mat (d := size) fun r c => A (o 0 + r) (o 1 + c) :=
  load2 v f (fun r c => ((A r c : ℝ) : EReal)) h off size inb o ho

/-- in the long one; -/
theorem load_f32 {d : Fin 2 → ℕ} (v : View sig κ sp (⟨2, d⟩ : Shape) .f32) (f : v.ty.Contents (Elt Ideal)) (A : ℕ → ℕ → ℝ)
    (h : v.read (Elt Ideal) f = mat A) (off size : Fin 2 → ℕ) (inb : ∀ a : Fin 2, off a + size a ≤ d a) (o : Fin 2 → ℕ) (ho : off = o) :
    v.readAt (Elt Ideal) (Rect.unit (s := ⟨2, d⟩) off size inb).toLoadRect f = mat (d := size) fun r c => A (o 0 + r) (o 1 + c) :=
  load2 v f (fun r c => ((A r c : ℝ) : EReal)) h off size inb o ho

/-- and `load3` likewise. -/
theorem load_cube {d : Fin 3 → ℕ} (v : View sig κ sp (⟨3, d⟩ : Shape) .f32) (f : v.ty.Contents (Elt Ideal)) (A : ℕ → ℕ → ℕ → ℝ)
    (h : v.read (Elt Ideal) f = cube A) (off size : Fin 3 → ℕ) (inb : ∀ a : Fin 3, off a + size a ≤ d a) :
    v.readAt (Elt Ideal) (Rect.unit (s := ⟨3, d⟩) off size inb).toLoadRect f
      = cube (d := size) fun a r c => A (off 0 + a) (off 1 + r) (off 2 + c) :=
  load3 v f (fun a r c => ((A a r c : ℝ) : EReal)) h off size inb

/-- What a matrix of 256 columns reads after a store of its right half over one of its left half. -/
theorem read_halves {R : ℕ} {e : EltTy} {Val : EltTy → Type} (v : View sig κ sp (⟨2, ![R, 256]⟩ : Shape) e) (f : v.ty.Contents Val) (g1 g0 : ℕ → ℕ → Val e)
    (inb1 : ∀ a : Fin 2, (![0, 128] : Fin 2 → ℕ) a + (![R, 128] : Fin 2 → ℕ) a ≤ (![R, 256] : Fin 2 → ℕ) a)
    (inb0 : ∀ a : Fin 2, (![0, 0] : Fin 2 → ℕ) a + (![R, 128] : Fin 2 → ℕ) a ≤ (![R, 256] : Fin 2 → ℕ) a)
    (w1 w0 : (⟨2, ![R, 128]⟩ : Shape).Idx → Val e) (h1 : w1 = fun y => g1 (y 0).val (y 1).val) (h0 : w0 = fun y => g0 (y 0).val (y 1).val)
    (L : List (View.Piece Val (⟨2, ![R, 256]⟩ : Shape) e)) :
    v.read Val (v.writes Val f (⟨Rect.unit (s := ⟨2, ![R, 256]⟩) ![0, 128] ![R, 128] inb1, w1⟩
      :: ⟨Rect.unit (s := ⟨2, ![R, 256]⟩) ![0, 0] ![R, 128] inb0, w0⟩ :: L))
      = fun y => if (y 1).val < 128 then g0 (y 0).val (y 1).val else g1 (y 0).val ((y 1).val - 128) := by
  subst h1 h0
  funext y
  obtain ⟨r, l, rfl⟩ : ∃ (r : Fin R) (l : Fin 256), y = ix2 r l := ⟨_, _, eq_ix2 y⟩
  show _ = if l.val < 128 then g0 r.val l.val else g1 r.val (l.val - 128)
  by_cases hl : l.val < 128
  · rw [if_pos hl]
    refine (View.read_writes_cons_unit_of_not_mem v f (off' := ![0, 128]) inb1 _ _ _ rfl (1 : Fin 2) (Or.inl hl)).trans ?_
    refine (View.read_writes_cons_unit_of_mem v f (off' := ![0, 0]) inb0 _ _ _ (ix2 r (⟨l.val, hl⟩ : Fin 128) : (⟨2, ![R, 128]⟩ : Shape).Idx) rfl ?_).trans rfl
    intro a; fin_cases a <;> simp [ix2]
  · have hl' : l.val - 128 < 128 := by have := l.isLt; omega
    rw [if_neg hl]
    refine (View.read_writes_cons_unit_of_mem v f (off' := ![0, 128]) inb1 _ _ _ (ix2 r (⟨l.val - 128, hl'⟩ : Fin 128) : (⟨2, ![R, 128]⟩ : Shape).Idx) rfl ?_).trans rfl
    intro a; fin_cases a <;> simp [ix2]; omega

/-- `read_halves` of halves of real numbers. -/
theorem read_halves_bf16 {R : ℕ} (v : View sig κ sp (⟨2, ![R, 256]⟩ : Shape) .bf16) (f : v.ty.Contents (Elt Ideal)) (A1 A0 : ℕ → ℕ → ℝ)
    (inb1 : ∀ a : Fin 2, (![0, 128] : Fin 2 → ℕ) a + (![R, 128] : Fin 2 → ℕ) a ≤ (![R, 256] : Fin 2 → ℕ) a)
    (inb0 : ∀ a : Fin 2, (![0, 0] : Fin 2 → ℕ) a + (![R, 128] : Fin 2 → ℕ) a ≤ (![R, 256] : Fin 2 → ℕ) a)
    (w1 w0 : (⟨2, ![R, 128]⟩ : Shape).Idx → EReal) (h1 : w1 = mat A1) (h0 : w0 = mat A0)
    (L : List (View.Piece (Elt Ideal) (⟨2, ![R, 256]⟩ : Shape) .bf16)) :
    v.read (Elt Ideal) (v.writes (Elt Ideal) f (⟨Rect.unit (s := ⟨2, ![R, 256]⟩) ![0, 128] ![R, 128] inb1, w1⟩
      :: ⟨Rect.unit (s := ⟨2, ![R, 256]⟩) ![0, 0] ![R, 128] inb0, w0⟩ :: L))
      = mat (d := ![R, 256]) fun r l => if l < 128 then A0 r l else A1 r (l - 128) := by
  refine (read_halves v f (fun r l => ((A1 r l : ℝ) : EReal)) (fun r l => ((A0 r l : ℝ) : EReal)) inb1 inb0 w1 w0 h1 h0 L).trans ?_
  funext y
  show (if _ then _ else _) = (((if _ then _ else _ : ℝ)) : EReal)
  split_ifs <;> rfl

/-- `read_halves` of halves of real numbers. -/
theorem read_halves_f32 {R : ℕ} (v : View sig κ sp (⟨2, ![R, 256]⟩ : Shape) .f32) (f : v.ty.Contents (Elt Ideal)) (A1 A0 : ℕ → ℕ → ℝ)
    (inb1 : ∀ a : Fin 2, (![0, 128] : Fin 2 → ℕ) a + (![R, 128] : Fin 2 → ℕ) a ≤ (![R, 256] : Fin 2 → ℕ) a)
    (inb0 : ∀ a : Fin 2, (![0, 0] : Fin 2 → ℕ) a + (![R, 128] : Fin 2 → ℕ) a ≤ (![R, 256] : Fin 2 → ℕ) a)
    (w1 w0 : (⟨2, ![R, 128]⟩ : Shape).Idx → EReal) (h1 : w1 = mat A1) (h0 : w0 = mat A0)
    (L : List (View.Piece (Elt Ideal) (⟨2, ![R, 256]⟩ : Shape) .f32)) :
    v.read (Elt Ideal) (v.writes (Elt Ideal) f (⟨Rect.unit (s := ⟨2, ![R, 256]⟩) ![0, 128] ![R, 128] inb1, w1⟩
      :: ⟨Rect.unit (s := ⟨2, ![R, 256]⟩) ![0, 0] ![R, 128] inb0, w0⟩ :: L))
      = mat (d := ![R, 256]) fun r l => if l < 128 then A0 r l else A1 r (l - 128) := by
  refine (read_halves v f (fun r l => ((A1 r l : ℝ) : EReal)) (fun r l => ((A0 r l : ℝ) : EReal)) inb1 inb0 w1 w0 h1 h0 L).trans ?_
  funext y
  show (if _ then _ else _) = (((if _ then _ else _ : ℝ)) : EReal)
  split_ifs <;> rfl

/-- A sum of real numbers over an index of `n` values, taken among the extended reals. -/
theorem sum_fin (n : ℕ) (f : ℕ → ℝ) : (∑ x : Fin n, ((f x.val : ℝ) : EReal)) = ((∑ x ∈ Finset.range n, f x : ℝ) : EReal) := by
  rw [Finset.sum_range]
  exact Cert.Reals.sum_coe _ fun x : Fin n => f x.val

/-- The largest of a real number and of finitely many others is a real number. -/
theorem max_real {ι : Type*} (s : Finset ι) (μ : ℝ) (f : ι → ℝ) :
    ∃ c : ℝ, max (μ : EReal) (s.fold max (⊥ : EReal) fun x => ((f x : ℝ) : EReal)) = (c : EReal) := by
  classical
  induction s using Finset.induction_on with
  | empty => exact ⟨μ, by simp⟩
  | insert a s ha ih =>
    obtain ⟨c, hc⟩ := ih
    refine ⟨max (f a) c, ?_⟩
    rw [Finset.fold_insert ha, max_left_comm, hc]
    exact (EReal.coe_strictMono.monotone.map_max (a := f a) (b := c)).symm

/-- The word of minus infinity. -/
theorem ofBits_neg_inf : Ideal.ofBits .f32 0xFF800000#32 = (⊥ : EReal) := by simp [Ideal.ofBits, Ideal.ieee]

/-- Powers of two of real numbers, in the ideal instance. -/
theorem exp2_coe (x : ℝ) : (FloatOps.exp2 (F := Ideal) (φ := .f32) (x : EReal) : EReal) = (((2 : ℝ) ^ x : ℝ) : EReal) := rfl

end Cert.Mats
end
-- ==== Proof.MlaFwdTrip.lean ====
/- The attention's forward kernel, one head's chunk of 1024 keys: the running maximum of the scores of each query and the
   running weighted sums, which are scaled to the new maximum. -/
module

public import proofs.«01_k».proof.Proof.Gen.KernelIdeal.Frame
public import proofs.«01_k».proof.Proof.Mats
public import Idealize.ShloMosaic.Lib.WritesUnit
public import Idealize.ShloMosaic.Lib.VecWindow

@[expose] public section

set_option maxRecDepth 16384

noncomputable section

namespace Cert.KernelIdeal.MlaFwd

open Cert.KernelIdeal Cert.KernelIdeal.Gen Cert.Mats Idealize.ShloMosaic Idealize.ShloMosaic.TcCoe Idealize.SL.Sem

/-- The new maximum of one head, from the chunk's queries, keys and the maximum so far. -/
def headM (q k : Vec Ideal S1024x128 .bf16) (m : Vec Ideal S1x1024x128 .f32) : FVec Ideal S1x1024x128 .f32 := k1_pay8 q k m

/-- The new weighted sums of one head. -/
def headA (q k v : Vec Ideal S1024x128 .bf16) (m a : Vec Ideal S1x1024x128 .f32) : FVec Ideal S1x1024x128 .f32 :=
  k1_pay16 (k1_pay6 q k m) (k1_pay7 q k m) a v

/-- The score of query row `r` and key row `x`. -/
def score (Q K : ℕ → ℕ → ℝ) (r x : ℕ) : ℝ := ∑ l ∈ Finset.range 128, Q r l * K x l

/-- The new maximum is one real number per query. -/
theorem max_mat (Q K : ℕ → ℕ → ℝ) (m : Vec Ideal S1x1024x128 .f32) (μ : ℕ → ℝ) (hm : m = cube (d := ![1, 1024, 128]) fun _ r _ => μ r) :
    ∃ μ' : ℕ → ℝ, k1_pay5 (F := Ideal) (mat (d := ![1024, 128]) Q) (mat (d := ![1024, 128]) K) m = mat (d := ![1024, 128]) fun r _ => μ' r := by
  have h : ∀ r : ℕ, ∃ c : ℝ, max ((μ r : ℝ) : EReal)
      ((Finset.univ : Finset (Fin 1024)).fold max (⊥ : EReal) fun x => ((score Q K r x.val : ℝ) : EReal)) = (c : EReal) :=
    fun r => max_real _ _ _
  choose μ' hμ using h
  refine ⟨μ', ?_⟩
  funext j
  obtain ⟨r, l, rfl⟩ : ∃ (r : Fin 1024) (l : Fin 128), j = ix2 r l := ⟨_, _, eq_ix2 j⟩
  show _ = ((μ' r.val : ℝ) : EReal)
  rw [← hμ]
  pointwise [k1_pay5, k1_pay4, k1_pay2]
  subst hm
  rw [ofBits_neg_inf]
  congr 1

theorem headM_mat (q k : Vec Ideal S1024x128 .bf16) (m : Vec Ideal S1x1024x128 .f32) (μ' : ℕ → ℝ)
    (h : k1_pay5 (F := Ideal) q k m = mat (d := ![1024, 128]) fun r _ => μ' r) :
    headM q k m = cube (d := ![1, 1024, 128]) fun _ r _ => μ' r := by
  funext j
  obtain ⟨z, r, l, rfl⟩ : ∃ (z : Fin 1) (r : Fin 1024) (l : Fin 128), j = ix3 z r l := ⟨_, _, _, eq_ix3 j⟩
  obtain rfl : z = 0 := Subsingleton.elim _ _
  show _ = ((μ' r.val : ℝ) : EReal)
  pointwise [headM, k1_pay8]
  rw [h]
  rfl

theorem headA_mat (Q K V : ℕ → ℕ → ℝ) (m a : Vec Ideal S1x1024x128 .f32) (μ μ' : ℕ → ℝ) (A : ℕ → ℕ → ℝ)
    (hm : m = cube (d := ![1, 1024, 128]) fun _ r _ => μ r) (ha : a = cube (d := ![1, 1024, 128]) fun _ r l => A r l)
    (h : k1_pay5 (F := Ideal) (mat (d := ![1024, 128]) Q) (mat (d := ![1024, 128]) K) m = mat (d := ![1024, 128]) fun r _ => μ' r) :
    headA (mat (d := ![1024, 128]) Q) (mat (d := ![1024, 128]) K) (mat (d := ![1024, 128]) V) m a
      = cube (d := ![1, 1024, 128]) fun _ r l => (2 : ℝ) ^ (μ r - μ' r) * A r l
          + ∑ x ∈ Finset.range 1024, (2 : ℝ) ^ (score Q K r x - μ' r) * V x l := by
  funext j
  obtain ⟨z, r, l, rfl⟩ : ∃ (z : Fin 1) (r : Fin 1024) (l : Fin 128), j = ix3 z r l := ⟨_, _, _, eq_ix3 j⟩
  obtain rfl : z = 0 := Subsingleton.elim _ _
  show _ = (((2 : ℝ) ^ (μ r.val - μ' r.val) * A r.val l.val + ∑ x ∈ Finset.range 1024, (2 : ℝ) ^ (score Q K r.val x - μ' r.val) * V x l.val : ℝ) : EReal)
  pointwise [headA, k1_pay16, k1_pay6, k1_pay7, k1_pay4, k1_pay2]
  rw [h]
  have hk : ∀ i : Fin 128, (mat (d := ![1024, 128]) fun r _ => μ' r) (ix2 r i) = ((μ' r.val : ℝ) : EReal) := fun _ => rfl
  simp only [hk, dite_eq_ite, ite_self]
  subst hm ha
  have hs : ∀ x : Fin 1024, (∑ i : Fin 128, mat (d := ![1024, 128]) Q (ix2 r i) * mat (d := ![1024, 128]) K (ix2 x i)) = ((score Q K r.val x.val : ℝ) : EReal) := by
    intro x
    unfold score
    rw [← sum_fin]
    rfl
  have hv : ∀ x : Fin 1024, mat (d := ![1024, 128]) V (ix2 x l) = ((V x.val l.val : ℝ) : EReal) := fun _ => rfl
  have h1 : cube (d := ![1, 1024, 128]) (fun _ r _ => μ r) (ix3 (0 : Fin 1) r l) = ((μ r.val : ℝ) : EReal) := rfl
  have h2 : cube (d := ![1, 1024, 128]) (fun _ r l => A r l) (ix3 (0 : Fin 1) r l) = ((A r.val l.val : ℝ) : EReal) := rfl
  simp only [hs, hv, h1, h2, ← EReal.coe_sub, exp2_coe, ← EReal.coe_mul]
  rw [sum_fin 1024 fun x => (2 : ℝ) ^ (score Q K r.val x - μ' r.val) * V x l.val, ← EReal.coe_add]

/-! ## One trip of the loop over the chunks -/

variable (𝒱 : Variants) (c : Dev nD) (bd : Option 𝒱.V) (i : grid1.Coords) (arg2 : Memref sig .tc .vmem S1024x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S2x1024x128 .f32) (harg7 : arg7.IsWhole) (arg8 : Memref sig .tc .vmem S2x1024x128 .f32) (harg8 : arg8.IsWhole)
  (X2 : BufTy.Contents (Elt Ideal) arg2.view.ty) (X3 : BufTy.Contents (Elt Ideal) arg3.view.ty) (X4 : BufTy.Contents (Elt Ideal) arg4.view.ty)

theorem off1_eq : ∀ k : Fin k1_t1_loop.trips, k1_off1 k = ![1024 * k.val, 0] := by decide +kernel
theorem off2_eq : ∀ k : Fin k1_t1_loop.trips, k1_off2 k = ![1024 * k.val, 128] := by decide +kernel

/-- What a trip writes, head by head. -/
theorem trip_pieces (k : Fin k1_t1_loop.trips) (f7 : BufTy.Contents (Elt Ideal) arg7.view.ty) (f8 : BufTy.Contents (Elt Ideal) arg8.view.ty) :
    tripL_k1_t1 (F := Ideal) 𝒱 c bd i arg2 harg2 arg3 harg3 arg4 harg4 arg5 harg5 arg6 harg6 arg7 harg7 arg8 harg8 X2 X3 X4 k f7 f8
      = ([⟨Rect.unit ![1, 0, 0] S1x1024x128.size inb_S2x1024x128_S1x1024x128_1_0_0,
            headM (arg2.view.readAt (Elt Ideal) (Rect.unit (s := S1024x256) ![0, 128] S1024x128.size inb_S1024x256_S1024x128_0_128).toLoadRect X2)
              (arg3.view.readAt (Elt Ideal) (Rect.unit (s := S8192x256) (k1_off2 k) S1024x128.size (k1_off2_inb k)).toLoadRect X3)
              (arg7.view.readAt (Elt Ideal) (Rect.unit (s := S2x1024x128) ![1, 0, 0] S1x1024x128.size inb_S2x1024x128_S1x1024x128_1_0_0).toLoadRect f7)⟩,
          ⟨Rect.unit ![0, 0, 0] S1x1024x128.size inb_S2x1024x128_S1x1024x128_0_0_0,
            headM (arg2.view.readAt (Elt Ideal) (Rect.unit (s := S1024x256) ![0, 0] S1024x128.size inb_S1024x256_S1024x128_0_0).toLoadRect X2)
              (arg3.view.readAt (Elt Ideal) (Rect.unit (s := S8192x256) (k1_off1 k) S1024x128.size (k1_off1_inb k)).toLoadRect X3)
              (arg7.view.readAt (Elt Ideal) (Rect.unit (s := S2x1024x128) ![0, 0, 0] S1x1024x128.size inb_S2x1024x128_S1x1024x128_0_0_0).toLoadRect f7)⟩],
        [⟨Rect.unit ![1, 0, 0] S1x1024x128.size inb_S2x1024x128_S1x1024x128_1_0_0,
            headA (arg2.view.readAt (Elt Ideal) (Rect.unit (s := S1024x256) ![0, 128] S1024x128.size inb_S1024x256_S1024x128_0_128).toLoadRect X2)
              (arg3.view.readAt (Elt Ideal) (Rect.unit (s := S8192x256) (k1_off2 k) S1024x128.size (k1_off2_inb k)).toLoadRect X3)
              (arg4.view.readAt (Elt Ideal) (Rect.unit (s := S8192x256) (k1_off2 k) S1024x128.size (k1_off2_inb k)).toLoadRect X4)
              (arg7.view.readAt (Elt Ideal) (Rect.unit (s := S2x1024x128) ![1, 0, 0] S1x1024x128.size inb_S2x1024x128_S1x1024x128_1_0_0).toLoadRect f7)
              (arg8.view.readAt (Elt Ideal) (Rect.unit (s := S2x1024x128) ![1, 0, 0] S1x1024x128.size inb_S2x1024x128_S1x1024x128_1_0_0).toLoadRect f8)⟩,
          ⟨Rect.unit ![0, 0, 0] S1x1024x128.size inb_S2x1024x128_S1x1024x128_0_0_0,
            headA (arg2.view.readAt (Elt Ideal) (Rect.unit (s := S1024x256) ![0, 0] S1024x128.size inb_S1024x256_S1024x128_0_0).toLoadRect X2)
              (arg3.view.readAt (Elt Ideal) (Rect.unit (s := S8192x256) (k1_off1 k) S1024x128.size (k1_off1_inb k)).toLoadRect X3)
              (arg4.view.readAt (Elt Ideal) (Rect.unit (s := S8192x256) (k1_off1 k) S1024x128.size (k1_off1_inb k)).toLoadRect X4)
              (arg7.view.readAt (Elt Ideal) (Rect.unit (s := S2x1024x128) ![0, 0, 0] S1x1024x128.size inb_S2x1024x128_S1x1024x128_0_0_0).toLoadRect f7)
              (arg8.view.readAt (Elt Ideal) (Rect.unit (s := S2x1024x128) ![0, 0, 0] S1x1024x128.size inb_S2x1024x128_S1x1024x128_0_0_0).toLoadRect f8)⟩]) := by
  unfold tripL_k1_t1 trip_k1_t1
  rfl

/-- What a buffer of two heads reads after both have been written. -/
theorem read_two (v : View sig .tc .vmem S2x1024x128 .f32) (f : v.ty.Contents (Elt Ideal)) (W : ℕ → ℕ → ℕ → ℝ)
    (w1 w0 : FVec Ideal S1x1024x128 .f32) (h1 : w1 = cube (d := ![1, 1024, 128]) fun _ r l => W 1 r l) (h0 : w0 = cube (d := ![1, 1024, 128]) fun _ r l => W 0 r l)
    (L : List (View.Piece (Elt Ideal) S2x1024x128 .f32)) :
    v.read (Elt Ideal) (v.writes (Elt Ideal) f (⟨Rect.unit ![1, 0, 0] S1x1024x128.size inb_S2x1024x128_S1x1024x128_1_0_0, w1⟩
      :: ⟨Rect.unit ![0, 0, 0] S1x1024x128.size inb_S2x1024x128_S1x1024x128_0_0_0, w0⟩ :: L)) = cube (d := ![2, 1024, 128]) W := by
  subst h1 h0
  funext y
  obtain ⟨a, r, l, rfl⟩ : ∃ (a : Fin 2) (r : Fin 1024) (l : Fin 128), y = ix3 a r l := ⟨_, _, _, eq_ix3 y⟩
  show _ = ((W a.val r.val l.val : ℝ) : EReal)
  obtain rfl | rfl : a = 0 ∨ a = 1 := by omega
  · refine (View.read_writes_cons_unit_of_not_mem v f (off' := ![1, 0, 0]) _ _ _ _ rfl (0 : Fin 3) (Or.inl (by show 0 < 1; decide))).trans ?_
    refine (View.read_writes_cons_unit_of_mem v f (off' := ![0, 0, 0]) _ _ _ _ (ix3 (0 : Fin 1) r l) rfl ?_).trans rfl
    intro a; fin_cases a <;> simp [ix3]
  · refine (View.read_writes_cons_unit_of_mem v f (off' := ![1, 0, 0]) _ _ _ _ (ix3 (0 : Fin 1) r l) rfl ?_).trans rfl
    intro a; fin_cases a <;> simp [ix3]

/-- The load of one head of a buffer of two heads. -/
theorem load_head (v : View sig .tc .vmem S2x1024x128 .f32) (f : v.ty.Contents (Elt Ideal)) (W : ℕ → ℕ → ℕ → ℝ)
    (h : v.read (Elt Ideal) f = cube W) (n : ℕ) (inb : ∀ a : Fin 3, (![n, 0, 0] : Fin 3 → ℕ) a + S1x1024x128.size a ≤ S2x1024x128.size a) :
    v.readAt (Elt Ideal) (Rect.unit (s := S2x1024x128) ![n, 0, 0] S1x1024x128.size inb).toLoadRect f = cube (d := ![1, 1024, 128]) fun _ r l => W n r l := by
  refine (load_cube v f W h ![n, 0, 0] ![1, 1024, 128] inb).trans ?_
  funext y
  have hy : (y (0 : Fin 3)).val = 0 := Nat.lt_one_iff.1 (y (0 : Fin 3)).isLt
  show ((W (n + (y (0 : Fin 3)).val) (0 + (y (1 : Fin 3)).val) (0 + (y (2 : Fin 3)).val) : ℝ) : EReal) = ((W n (y (1 : Fin 3)).val (y (2 : Fin 3)).val : ℝ) : EReal)
  rw [hy, Nat.add_zero, Nat.zero_add, Nat.zero_add]

/-- A trip over real contents: the maxima move to new real numbers, the sums are scaled to them and the chunk's terms
    are added. -/
theorem trip_reads (Q K V : ℕ → ℕ → ℝ) (k : Fin k1_t1_loop.trips) (f7 : BufTy.Contents (Elt Ideal) arg7.view.ty) (f8 : BufTy.Contents (Elt Ideal) arg8.view.ty)
    (h2 : arg2.view.read (Elt Ideal) X2 = mat Q) (h3 : arg3.view.read (Elt Ideal) X3 = mat K) (h4 : arg4.view.read (Elt Ideal) X4 = mat V)
    (μ : ℕ → ℕ → ℝ) (A : ℕ → ℕ → ℕ → ℝ)
    (h7 : arg7.view.read (Elt Ideal) f7 = cube fun a r _ => μ a r) (h8 : arg8.view.read (Elt Ideal) f8 = cube A)
    (L7 L8 : List (View.Piece (Elt Ideal) S2x1024x128 .f32)) (g7 : BufTy.Contents (Elt Ideal) arg7.view.ty) (g8 : BufTy.Contents (Elt Ideal) arg8.view.ty) :
    ∃ μ' : ℕ → ℕ → ℝ,
      arg7.view.read (Elt Ideal) (arg7.view.writes (Elt Ideal) g7 ((tripL_k1_t1 (F := Ideal) 𝒱 c bd i arg2 harg2 arg3 harg3 arg4 harg4 arg5 harg5 arg6 harg6 arg7 harg7 arg8 harg8 X2 X3 X4 k f7 f8).1 ++ L7)) = cube (fun a r _ => μ' a r)
      ∧ arg8.view.read (Elt Ideal) (arg8.view.writes (Elt Ideal) g8 ((tripL_k1_t1 (F := Ideal) 𝒱 c bd i arg2 harg2 arg3 harg3 arg4 harg4 arg5 harg5 arg6 harg6 arg7 harg7 arg8 harg8 X2 X3 X4 k f7 f8).2 ++ L8))
        = cube fun a r l => (2 : ℝ) ^ (μ a r - μ' a r) * A a r l
          + ∑ x ∈ Finset.range 1024, (2 : ℝ) ^ (score (fun r l => Q r (128 * a + l)) (fun r l => K (1024 * k.val + r) (128 * a + l)) r x - μ' a r) * V (1024 * k.val + x) (128 * a + l) := by
  have m1 := load_head arg7.view f7 _ h7 1 inb_S2x1024x128_S1x1024x128_1_0_0
  have m0 := load_head arg7.view f7 _ h7 0 inb_S2x1024x128_S1x1024x128_0_0_0
  have a1 := load_head arg8.view f8 _ h8 1 inb_S2x1024x128_S1x1024x128_1_0_0
  have a0 := load_head arg8.view f8 _ h8 0 inb_S2x1024x128_S1x1024x128_0_0_0
  have q1 := load_bf16 arg2.view X2 _ h2 ![0, 128] ![1024, 128] inb_S1024x256_S1024x128_0_128 _ rfl
  have q0 := load_bf16 arg2.view X2 _ h2 ![0, 0] ![1024, 128] inb_S1024x256_S1024x128_0_0 _ rfl
  have k1 := load_bf16 arg3.view X3 _ h3 (k1_off2 k) ![1024, 128] (k1_off2_inb k) _ (off2_eq k)
  have k0 := load_bf16 arg3.view X3 _ h3 (k1_off1 k) ![1024, 128] (k1_off1_inb k) _ (off1_eq k)
  have v1 := load_bf16 arg4.view X4 _ h4 (k1_off2 k) ![1024, 128] (k1_off2_inb k) _ (off2_eq k)
  have v0 := load_bf16 arg4.view X4 _ h4 (k1_off1 k) ![1024, 128] (k1_off1_inb k) _ (off1_eq k)
  rw [trip_pieces]
  obtain ⟨μ1, e1⟩ := max_mat (fun r l => Q (0 + r) (128 + l)) (fun r l => K (1024 * k.val + r) (128 + l)) _ (fun r => μ 1 r) m1
  obtain ⟨μ0, e0⟩ := max_mat (fun r l => Q (0 + r) (0 + l)) (fun r l => K (1024 * k.val + r) (0 + l)) _ (fun r => μ 0 r) m0
  refine ⟨fun a => if a = 0 then μ0 else μ1, read_two _ _ _ _ _ ?_ ?_ _, read_two _ _ _ _ _ ?_ ?_ _⟩
  · rw [q1, k1]; exact headM_mat _ _ _ _ e1
  · rw [q0, k0]; exact headM_mat _ _ _ _ e0
  · rw [q1, k1, v1]; refine (headA_mat _ _ _ _ _ _ _ _ m1 a1 e1).trans ?_
    simp [score]
  · rw [q0, k0, v0]; refine (headA_mat _ _ _ _ _ _ _ _ m0 a0 e0).trans ?_
    simp [score]

/-- Sums kept relative to one number, moved to another, and continued. -/
theorem sums_step (s v : ℕ → ℝ) (μ μ' : ℝ) (n : ℕ) :
    (2 : ℝ) ^ (μ - μ') * (∑ x ∈ Finset.range (1024 * n), (2 : ℝ) ^ (s x - μ) * v x)
        + ∑ x ∈ Finset.range 1024, (2 : ℝ) ^ (s (1024 * n + x) - μ') * v (1024 * n + x)
      = ∑ x ∈ Finset.range (1024 * (n + 1)), (2 : ℝ) ^ (s x - μ') * v x := by
  rw [Nat.mul_succ, Finset.sum_range_add, Finset.mul_sum]
  congr 1
  refine Finset.sum_congr rfl fun x _ => ?_
  rw [← mul_assoc, ← Real.rpow_add two_pos]
  congr 2
  ring

/-- After `n` trips: some real number per head and query, and the sums of the first `1024 n` keys' terms relative to it. -/
theorem loop_reads (Q K V : ℕ → ℕ → ℝ) (h2 : arg2.view.read (Elt Ideal) X2 = mat Q) (h3 : arg3.view.read (Elt Ideal) X3 = mat K)
    (h4 : arg4.view.read (Elt Ideal) X4 = mat V) (G7 : BufTy.Contents (Elt Ideal) arg7.view.ty) (G8 : BufTy.Contents (Elt Ideal) arg8.view.ty) (μ₀ : ℝ)
    (h7 : arg7.view.read (Elt Ideal) G7 = cube fun _ _ _ => μ₀) (h8 : arg8.view.read (Elt Ideal) G8 = cube fun _ _ _ => 0) (n : ℕ) (hn : n ≤ 8) :
    ∃ μ : ℕ → ℕ → ℝ,
      arg7.view.read (Elt Ideal) (arg7.view.writes (Elt Ideal) G7 (pb_k1_t1 (F := Ideal) 𝒱 c bd i arg2 harg2 arg3 harg3 arg4 harg4 arg5 harg5 arg6 harg6 arg7 harg7 arg8 harg8 X2 X3 X4 G7 G8 n).1) = cube (fun a r _ => μ a r)
      ∧ arg8.view.read (Elt Ideal) (arg8.view.writes (Elt Ideal) G8 (pb_k1_t1 (F := Ideal) 𝒱 c bd i arg2 harg2 arg3 harg3 arg4 harg4 arg5 harg5 arg6 harg6 arg7 harg7 arg8 harg8 X2 X3 X4 G7 G8 n).2)
        = cube fun a r l => ∑ x ∈ Finset.range (1024 * n), (2 : ℝ) ^ (score (fun r l => Q r (128 * a + l)) (fun r l => K r (128 * a + l)) r x - μ a r) * V x (128 * a + l) := by
  induction n with
  | zero =>
    refine ⟨fun _ _ => μ₀, h7, ?_⟩
    refine (h8 : _).trans ?_
    simp
  | succ n ih =>
    obtain ⟨μ, e7, e8⟩ := ih (by omega)
    have hs := pb_k1_t1_succ (F := Ideal) 𝒱 c bd i arg2 harg2 arg3 harg3 arg4 harg4 arg5 harg5 arg6 harg6 arg7 harg7 arg8 harg8 X2 X3 X4 G7 G8 ⟨n, by show n < 8; omega⟩
    rw [hs]
    obtain ⟨μ', e7', e8'⟩ := trip_reads 𝒱 c bd i arg2 harg2 arg3 harg3 arg4 harg4 arg5 harg5 arg6 harg6 arg7 harg7 arg8 harg8 X2 X3 X4 Q K V ⟨n, by show n < 8; omega⟩
      _ _ h2 h3 h4 μ _ e7 e8
      (pb_k1_t1 (F := Ideal) 𝒱 c bd i arg2 harg2 arg3 harg3 arg4 harg4 arg5 harg5 arg6 harg6 arg7 harg7 arg8 harg8 X2 X3 X4 G7 G8 n).1
      (pb_k1_t1 (F := Ideal) 𝒱 c bd i arg2 harg2 arg3 harg3 arg4 harg4 arg5 harg5 arg6 harg6 arg7 harg7 arg8 harg8 X2 X3 X4 G7 G8 n).2 G7 G8
    refine ⟨μ', e7', e8'.trans ?_⟩
    congr 1
    funext a r l
    exact sums_step (fun x => score (fun r l => Q r (128 * a + l)) (fun r l => K r (128 * a + l)) r x) (fun x => V x (128 * a + l)) _ _ n

end Cert.KernelIdeal.MlaFwd
-- ==== Proof.MlaFwdOut.lean ====
/- The attention's forward kernel at one grid point, over real blocks: the attention output and the queries with the
   negative of each row's log-sum put beside them. -/
module

public import proofs.«01_k».proof.Proof.MlaFwdTrip

@[expose] public section

set_option maxRecDepth 16384

noncomputable section

namespace Cert.KernelIdeal.MlaFwd

open Cert.KernelIdeal Cert.KernelIdeal.Gen Cert.Mats Idealize.ShloMosaic Idealize.ShloMosaic.TcCoe Idealize.SL.Sem

/-- One head's queries with the negative log-sum in lanes 96 and 97 (its value, and what rounding it left). -/
def headQ (acc m : Vec Ideal S1x1024x128 .f32) (q : Vec Ideal S1024x128 .bf16) : FVec Ideal S1024x128 .bf16 :=
  k1_pay27 (k1_pay23 acc m) k1_pay24 (k1_pay25 acc m) k1_pay26 (Scalar.ofBits .bf16 0x0000#16) q

/-- A choice by an equation of the lane number, and by an inequality. -/
theorem select_eq (l : Fin 128) (n : ℕ) (hn : n < 128) (a b : EReal) :
    Scalar.select (IntOp.cmpi .eq (BitVec.ofNat 32 l.val) (BitVec.ofNat 32 n)) a b = if l.val = n then a else b := by
  have h : ∀ (l n : Fin 128), IntOp.cmpi .eq (BitVec.ofNat 32 l.val) (BitVec.ofNat 32 n.val) = if l.val = n.val then 1#1 else 0#1 := by
    decide +kernel
  rw [h l ⟨n, hn⟩]
  by_cases e : l.val = n
  · rw [if_pos e, if_pos e]; rfl
  · rw [if_neg e, if_neg e]; rfl

theorem select_lt (l : Fin 128) (a b : EReal) :
    Scalar.select (IntOp.cmpi .slt (BitVec.ofNat 32 l.val) 64#32) a b = if l.val < 64 then a else b := by
  have h : ∀ (l : Fin 128), IntOp.cmpi .slt (BitVec.ofNat 32 l.val) 64#32 = if l.val < 64 then 1#1 else 0#1 := by
    decide +kernel
  rw [h l]
  by_cases e : l.val < 64
  · rw [if_pos e, if_pos e]; rfl
  · rw [if_neg e, if_neg e]; rfl

theorem log_coe (x : ℝ) (hx : 0 < x) : Ideal.log (x : EReal) = ((Real.log x : ℝ) : EReal) := by
  show (if x ≤ 0 then (⊥ : EReal) else ((Real.log x : ℝ) : EReal)) = _
  rw [if_neg hx.not_ge]

/-- The quotient of the weighted sums by lane 0's. -/
theorem quot_mat (acc : Vec Ideal S1x1024x128 .f32) (A : ℕ → ℕ → ℝ) (ha : acc = cube (d := ![1, 1024, 128]) fun _ r l => A r l)
    (h0 : ∀ r, 0 < A r 0) : k1_pay20 (F := Ideal) acc = mat (d := ![1024, 128]) fun r l => A r l / A r 0 := by
  funext j
  obtain ⟨r, l, rfl⟩ : ∃ (r : Fin 1024) (l : Fin 128), j = ix2 r l := ⟨_, _, eq_ix2 j⟩
  show _ = ((A r.val l.val / A r.val 0 : ℝ) : EReal)
  rw [← Cert.Reals.div_coe _ _ (h0 r.val).ne']
  pointwise [k1_pay20, k1_pay19, k1_pay18]
  subst ha
  rfl

theorem headQ_mat (acc m : Vec Ideal S1x1024x128 .f32) (q : Vec Ideal S1024x128 .bf16) (A Q : ℕ → ℕ → ℝ) (μ : ℕ → ℝ)
    (ha : acc = cube (d := ![1, 1024, 128]) fun _ r l => A r l) (hm : m = cube (d := ![1, 1024, 128]) fun _ r _ => μ r)
    (hq : q = mat (d := ![1024, 128]) Q) (h0 : ∀ r, 0 < A r 0) :
    headQ acc m q = mat (d := ![1024, 128]) fun r l =>
      if l = 96 then -(μ r + Real.log (A r 0) * (Real.log 2)⁻¹) else if l = 97 then 0 else Q r l := by
  funext j
  obtain ⟨r, l, rfl⟩ : ∃ (r : Fin 1024) (l : Fin 128), j = ix2 r l := ⟨_, _, eq_ix2 j⟩
  show _ = ((if l.val = 96 then -(μ r.val + Real.log (A r.val 0) * (Real.log 2)⁻¹) else if l.val = 97 then 0 else Q r.val l.val : ℝ) : EReal)
  pointwise [headQ, k1_pay27, k1_pay23, k1_pay24, k1_pay25, k1_pay26, k1_pay22, k1_pay21, k1_pay19, k1_pay18]
  subst ha hm hq
  have e1 : cube (d := ![1, 1024, 128]) (fun _ r _ => μ r) (ix3 (0 : Fin 1) r l) = ((μ r.val : ℝ) : EReal) := rfl
  have e2 : cube (d := ![1, 1024, 128]) (fun _ r l => A r l) (ix3 (0 : Fin 1) r (0 : Fin 128)) = ((A r.val 0 : ℝ) : EReal) := rfl
  have e3 : mat (d := ![1024, 128]) Q (ix2 r l) = ((Q r.val l.val : ℝ) : EReal) := rfl
  have e4 : (Named.named κ "log2e" 1069066811#32 : Ideal .f32) = (((Real.log 2)⁻¹ : ℝ) : EReal) := rfl
  rw [e1, e2, e3, e4, log_coe _ (h0 r.val), select_eq l 96 (by decide), select_eq l 97 (by decide)]
  rw [← EReal.coe_mul, ← EReal.coe_add, ← EReal.coe_sub, ← EReal.coe_zero, ← EReal.coe_sub, ← EReal.coe_sub]
  split_ifs <;> simp

theorem pair_mat (u w : FVec Ideal S1024x128 .f32) (U W : ℕ → ℕ → ℝ) (hu : u = mat (d := ![1024, 128]) U) (hw : w = mat (d := ![1024, 128]) W) :
    k1_pay1 (F := Ideal) u w (k1_pay32 (iota .tc S1024x128 32 [1] iota_S1024x128_d1_w32))
      = mat (d := ![1024, 128]) fun r l => if l < 64 then U r (l + 64) else W r l := by
  subst hu hw
  funext j
  obtain ⟨r, l, rfl⟩ : ∃ (r : Fin 1024) (l : Fin 128), j = ix2 r l := ⟨_, _, eq_ix2 j⟩
  show _ = ((if l.val < 64 then U r.val (l.val + 64) else W r.val l.val : ℝ) : EReal)
  pointwise [k1_pay1, k1_pay32]
  rw [select_lt]
  split_ifs with h
  · show ((U r.val ((l.val + 128 - 64) % 128) : ℝ) : EReal) = _
    rw [show (l.val + 128 - 64) % 128 = l.val + 64 by omega]
  · rfl

/-- The word of the initial maximum denotes a real number. -/
theorem neg_real : ∃ μ₀ : ℝ, Ideal.ofBits .f32 0xF149F2CA#32 = (μ₀ : EReal) := by
  refine ⟨(Ideal.ofBits .f32 0xF149F2CA#32).toReal, (EReal.coe_toReal ?_ ?_).symm⟩ <;>
    simp [Ideal.ofBits, Ideal.ieee, ← EReal.coe_mul, ← EReal.coe_neg]

/-! ## One grid point -/

/-- The weight of key `x` for query `r` of the pair's head `a`. -/
def wt (Q K : ℕ → ℕ → ℝ) (a r x : ℕ) : ℝ := (2 : ℝ) ^ score (fun r l => Q r (128 * a + l)) (fun r l => K r (128 * a + l)) r x

/-- The sum of a query's weights over all the keys. -/
def den (Q K : ℕ → ℕ → ℝ) (a r : ℕ) : ℝ := ∑ x ∈ Finset.range 8192, wt Q K a r x

theorem wt_pos (Q K : ℕ → ℕ → ℝ) (a r x : ℕ) : 0 < wt Q K a r x := Real.rpow_pos_of_pos two_pos _

theorem den_pos (Q K : ℕ → ℕ → ℝ) (a r : ℕ) : 0 < den Q K a r :=
  Finset.sum_pos (fun x _ => wt_pos Q K a r x) ⟨0, by simp⟩

/-- The softmax average of the values' lanes. -/
def avg (Q K V : ℕ → ℕ → ℝ) (a r l : ℕ) : ℝ := (∑ x ∈ Finset.range 8192, wt Q K a r x * V x (128 * a + l)) / den Q K a r

/-- The sums relative to any number `μ`: the number's power of two factors out. -/
theorem sums_rel (Q K : ℕ → ℕ → ℝ) (a r : ℕ) (μ : ℝ) (v : ℕ → ℝ) :
    (∑ x ∈ Finset.range (1024 * 8), (2 : ℝ) ^ (score (fun r l => Q r (128 * a + l)) (fun r l => K r (128 * a + l)) r x - μ) * v x)
      = (2 : ℝ) ^ (-μ) * ∑ x ∈ Finset.range 8192, wt Q K a r x * v x := by
  rw [Finset.mul_sum]
  refine Finset.sum_congr rfl fun x _ => ?_
  unfold wt
  rw [← mul_assoc, ← Real.rpow_add two_pos]
  congr 2
  ring

theorem sums_one (Q K V : ℕ → ℕ → ℝ) (a r : ℕ) (hV : ∀ x < 8192, V x (128 * a) = 1) :
    (∑ x ∈ Finset.range 8192, wt Q K a r x * V x (128 * a + 0)) = den Q K a r := by
  refine Finset.sum_congr rfl fun x hx => ?_
  rw [Nat.add_zero, hV x (Finset.mem_range.1 hx), mul_one]

variable (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S2x1024x128 .f32) (harg7 : arg7.IsWhole) (arg8 : Memref sig .tc .vmem S2x1024x128 .f32) (harg8 : arg8.IsWhole)

/-- The running sums and maxima as the loop leaves them, in the loads that follow it. -/
theorem after_loop (Q K V : ℕ → ℕ → ℝ) (hV : ∀ a < 2, ∀ x < 8192, V x (128 * a) = 1) :
    ∃ μ : ℕ → ℕ → ℝ,
      (kernelRun1_A.sl.v10 (F := Ideal) c i arg2 harg2 arg3 harg3 arg4 harg4 arg5 harg5 arg6 harg6 arg7 harg7 arg8 harg8 (mat Q) (mat K) (mat V)
        = cube (d := ![1, 1024, 128]) fun _ r l => (2 : ℝ) ^ (-μ 0 r) * ∑ x ∈ Finset.range 8192, wt Q K 0 r x * V x (128 * 0 + l))
      ∧ (kernelRun1_A.sl.v39 (F := Ideal) c i arg2 harg2 arg3 harg3 arg4 harg4 arg5 harg5 arg6 harg6 arg7 harg7 arg8 harg8 (mat Q) (mat K) (mat V)
        = cube (d := ![1, 1024, 128]) fun _ r l => (2 : ℝ) ^ (-μ 1 r) * ∑ x ∈ Finset.range 8192, wt Q K 1 r x * V x (128 * 1 + l))
      ∧ (kernelRun1_A.sl.v15 (F := Ideal) c i arg2 harg2 arg3 harg3 arg4 harg4 arg5 harg5 arg6 harg6 arg7 harg7 arg8 harg8 (mat Q) (mat K) (mat V)
        = cube (d := ![1, 1024, 128]) fun _ r _ => μ 0 r)
      ∧ (kernelRun1_A.sl.v44 (F := Ideal) c i arg2 harg2 arg3 harg3 arg4 harg4 arg5 harg5 arg6 harg6 arg7 harg7 arg8 harg8 (mat Q) (mat K) (mat V)
        = cube (d := ![1, 1024, 128]) fun _ r _ => μ 1 r) := by
  obtain ⟨μ₀, hμ₀⟩ := neg_real
  obtain ⟨μ, h7, h8⟩ := loop_reads Variants.none c none i arg2 harg2 arg3 harg3 arg4 harg4 arg5 harg5 arg6 harg6 arg7 harg7 arg8 harg8
    (harg2.unread (mat Q)) (harg3.unread (mat K)) (harg4.unread (mat V)) Q K V
    (harg2.read_unread _) (harg3.read_unread _) (harg4.read_unread _)
    (arg7.view.writes (Elt Ideal) arg7.view.junk kernelRun1_A.sl.HS0_1) (arg8.view.writes (Elt Ideal) arg8.view.junk kernelRun1_A.sl.HS1_1) μ₀
    ((View.read_writes_full _ _ _ _ _).trans (by
      funext y; obtain ⟨a, r, l, rfl⟩ : ∃ (a : Fin 2) (r : Fin 1024) (l : Fin 128), y = ix3 a r l := ⟨_, _, _, eq_ix3 y⟩
      show _ = ((μ₀ : ℝ) : EReal)
      pointwise [k1_pay13]; exact hμ₀))
    ((View.read_writes_full _ _ _ _ _).trans (by
      funext y; obtain ⟨a, r, l, rfl⟩ : ∃ (a : Fin 2) (r : Fin 1024) (l : Fin 128), y = ix3 a r l := ⟨_, _, _, eq_ix3 y⟩
      show _ = ((0 : ℝ) : EReal)
      pointwise [k1_pay14]; rfl))
    8 le_rfl
  rw [← View.writes_append] at h7 h8
  refine ⟨μ, ?_, ?_, ?_, ?_⟩
  · refine (load_head arg8.view _ _ h8 0 _).trans ?_
    simp only [sums_rel]
  · refine (load_head arg8.view _ _ h8 1 _).trans ?_
    simp only [sums_rel]
  · exact load_head arg7.view _ _ h7 0 _
  · exact load_head arg7.view _ _ h7 1 _

/-- The sums' quotient and the log-sum do not depend on the number the sums are relative to. -/
theorem quot_rel (μ n d : ℝ) : (2 : ℝ) ^ (-μ) * n / ((2 : ℝ) ^ (-μ) * d) = n / d :=
  mul_div_mul_left _ _ (Real.rpow_pos_of_pos two_pos _).ne'

theorem log_rel (μ d : ℝ) (hd : 0 < d) : μ + Real.log ((2 : ℝ) ^ (-μ) * d) * (Real.log 2)⁻¹ = Real.log d * (Real.log 2)⁻¹ := by
  have h2 : Real.log 2 ≠ 0 := (Real.log_pos one_lt_two).ne'
  rw [Real.log_mul (Real.rpow_pos_of_pos two_pos _).ne' hd.ne', Real.log_rpow two_pos, add_mul, mul_assoc, mul_inv_cancel₀ h2]
  ring

/-- The attention output at a grid point: the first head's lanes 64 to 127, then the second's. -/
theorem out_y (Q K V : ℕ → ℕ → ℝ) (hV : ∀ a < 2, ∀ x < 8192, V x (128 * a) = 1) :
    out1_A_3 (F := Ideal) c i arg2 harg2 arg3 harg3 arg4 harg4 arg5 harg5 arg6 harg6 arg7 harg7 arg8 harg8 (mat Q) (mat K) (mat V)
      = mat (d := ![1024, 128]) fun r l => if l < 64 then avg Q K V 0 r (l + 64) else avg Q K V 1 r l := by
  obtain ⟨μ, e10, e39, e15, e44⟩ := after_loop c i arg2 harg2 arg3 harg3 arg4 harg4 arg5 harg5 arg6 harg6 arg7 harg7 arg8 harg8 Q K V hV
  have hp : ∀ a r, 0 < (2 : ℝ) ^ (-μ a r) := fun a r => Real.rpow_pos_of_pos two_pos _
  have p0 : ∀ r, 0 < (2 : ℝ) ^ (-μ 0 r) * ∑ x ∈ Finset.range 8192, wt Q K 0 r x * V x (128 * 0 + 0) := fun r => by
    rw [sums_one Q K V 0 r (hV 0 (by decide))]; exact mul_pos (hp 0 r) (den_pos Q K 0 r)
  have p1 : ∀ r, 0 < (2 : ℝ) ^ (-μ 1 r) * ∑ x ∈ Finset.range 8192, wt Q K 1 r x * V x (128 * 1 + 0) := fun r => by
    rw [sums_one Q K V 1 r (hV 1 (by decide))]; exact mul_pos (hp 1 r) (den_pos Q K 1 r)
  refine (View.read_writes_full _ _ _ _ _).trans ?_
  refine (pair_mat _ _ _ _ (quot_mat _ _ e10 p0) (quot_mat _ _ e39 p1)).trans ?_
  congr 1
  funext r l
  unfold avg
  rw [quot_rel, quot_rel, sums_one Q K V 0 r (hV 0 (by decide)), sums_one Q K V 1 r (hV 1 (by decide))]

/-- The queries handed to the backward kernel at a grid point. -/
def aug (Q K : ℕ → ℕ → ℝ) (r l : ℕ) : ℝ :=
  if l % 128 = 96 then -(Real.log (den Q K (l / 128) r) * (Real.log 2)⁻¹) else if l % 128 = 97 then 0 else Q r l

theorem out_q (Q K V : ℕ → ℕ → ℝ) (hV : ∀ a < 2, ∀ x < 8192, V x (128 * a) = 1) :
    out1_A_4 (F := Ideal) c i arg2 harg2 arg3 harg3 arg4 harg4 arg5 harg5 arg6 harg6 arg7 harg7 arg8 harg8 (mat Q) (mat K) (mat V)
      = mat (d := ![1024, 256]) (aug Q K) := by
  obtain ⟨μ, e10, e39, e15, e44⟩ := after_loop c i arg2 harg2 arg3 harg3 arg4 harg4 arg5 harg5 arg6 harg6 arg7 harg7 arg8 harg8 Q K V hV
  have hp : ∀ a r, 0 < (2 : ℝ) ^ (-μ a r) := fun a r => Real.rpow_pos_of_pos two_pos _
  have p0 : ∀ r, 0 < (2 : ℝ) ^ (-μ 0 r) * ∑ x ∈ Finset.range 8192, wt Q K 0 r x * V x (128 * 0 + 0) := fun r => by
    rw [sums_one Q K V 0 r (hV 0 (by decide))]; exact mul_pos (hp 0 r) (den_pos Q K 0 r)
  have p1 : ∀ r, 0 < (2 : ℝ) ^ (-μ 1 r) * ∑ x ∈ Finset.range 8192, wt Q K 1 r x * V x (128 * 1 + 0) := fun r => by
    rw [sums_one Q K V 1 r (hV 1 (by decide))]; exact mul_pos (hp 1 r) (den_pos Q K 1 r)
  have q1 := load_bf16 arg2.view (harg2.unread (mat Q)) _ (harg2.read_unread _) ![0, 128] ![1024, 128] inb_S1024x256_S1024x128_0_128 _ rfl
  have q0 := load_bf16 arg2.view (harg2.unread (mat Q)) _ (harg2.read_unread _) ![0, 0] ![1024, 128] inb_S1024x256_S1024x128_0_0 _ rfl
  have h0 := headQ_mat _ _ _ _ _ _ e10 e15 q0 p0
  have h1 := headQ_mat _ _ _ _ _ _ e39 e44 q1 p1
  refine (read_halves_bf16 VO1_4 _ _ _ inb_S1024x256_S1024x128_0_128 inb_S1024x256_S1024x128_0_0 _ _ h1 h0 _).trans ?_
  funext y
  obtain ⟨r, l, rfl⟩ : ∃ (r : Fin 1024) (l : Fin 256), y = ix2 r l := ⟨_, _, eq_ix2 y⟩
  refine congrArg ((↑) : ℝ → EReal) ?_
  show (if l.val < 128 then (if l.val = 96 then _ else if l.val = 97 then 0 else Q (0 + r.val) (0 + l.val))
    else (if l.val - 128 = 96 then _ else if l.val - 128 = 97 then 0 else Q (0 + r.val) (128 + (l.val - 128)))) = aug Q K r.val l.val
  by_cases hl : l.val < 128
  · rw [if_pos hl, log_rel _ _ (by rw [sums_one Q K V 0 _ (hV 0 (by decide))]; exact den_pos Q K 0 _), sums_one Q K V 0 _ (hV 0 (by decide)), aug,
      Nat.mod_eq_of_lt hl, Nat.div_eq_of_lt hl, Nat.zero_add, Nat.zero_add]
    rfl
  · have hl' : l.val - 128 < 128 := by have := l.isLt; omega
    rw [if_neg hl, log_rel _ _ (by rw [sums_one Q K V 1 _ (hV 1 (by decide))]; exact den_pos Q K 1 _), sums_one Q K V 1 _ (hV 1 (by decide)), aug,
      show l.val % 128 = l.val - 128 by omega, show l.val / 128 = 1 by omega, show 128 + (l.val - 128) = l.val by omega, Nat.zero_add]
    rfl

end Cert.KernelIdeal.MlaFwd
-- ==== Proof.MlaBwdTrip.lean ====
/- The attention's backward kernel, one chunk of 1024 queries against a block of 512 keys: the softmax weights from the
   augmented products, and the chunk's contributions to the gradients of the queries, keys and values. -/
module

public import proofs.«01_k».proof.Proof.Gen.KernelIdeal.Frame
public import proofs.«01_k».proof.Proof.Mats
public import Idealize.ShloMosaic.Lib.WritesUnit
public import Idealize.ShloMosaic.Lib.VecWindow

@[expose] public section

set_option maxRecDepth 16384

noncomputable section

namespace Cert.KernelIdeal.MlaBwd

open Cert.KernelIdeal Cert.KernelIdeal.Gen Cert.Mats Idealize.ShloMosaic Idealize.ShloMosaic.TcCoe Idealize.SL.Sem

/-- One head's new rows of the gradient of the queries, of the keys and of the values. -/
def headDq (q d : Vec Ideal S1024x128 .bf16) (k v : Vec Ideal S512x128 .bf16) (old : Vec Ideal S1024x128 .f32) : FVec Ideal S1024x128 .f32 :=
  k2_pay5 (k2_pay13 k) (k2_pay16 q d k v) old
def headDk (q d : Vec Ideal S1024x128 .bf16) (k v : Vec Ideal S512x128 .bf16) (old : Vec Ideal S512x128 .f32) : FVec Ideal S512x128 .f32 :=
  k2_pay4 (k2_pay9 q) (k2_pay16 q d k v) old
def headDv (q d : Vec Ideal S1024x128 .bf16) (k : Vec Ideal S512x128 .bf16) (old : Vec Ideal S512x128 .f32) : FVec Ideal S512x128 .f32 :=
  k2_pay20 q d k old

/-- The inner product of row `x` of `A` and row `r` of `B` over one head's lanes. -/
def dotL (A B : ℕ → ℕ → ℝ) (x r : ℕ) : ℝ := ∑ l ∈ Finset.range 128, A x l * B r l

theorem dot_mat {n m : ℕ} (A B : ℕ → ℕ → ℝ) (x : Fin n) (r : Fin m) :
    (∑ i : Fin 128, mat (d := ![n, 128]) A (ix2 x i) * mat (d := ![m, 128]) B (ix2 r i)) = ((dotL A B x.val r.val : ℝ) : EReal) := by
  unfold dotL
  rw [← sum_fin]
  rfl

/-- The softmax weight of key `x` for query `r`, and its gradient before the scale. -/
def pw (K Q : ℕ → ℕ → ℝ) (x r : ℕ) : ℝ := (2 : ℝ) ^ dotL K Q x r
def ds (K Q V D : ℕ → ℕ → ℝ) (x r : ℕ) : ℝ := pw K Q x r * dotL V D x r

theorem headDv_mat (Q D K : ℕ → ℕ → ℝ) (old : Vec Ideal S512x128 .f32) (A : ℕ → ℕ → ℝ) (h : old = mat (d := ![512, 128]) A) :
    headDv (mat (d := ![1024, 128]) Q) (mat (d := ![1024, 128]) D) (mat (d := ![512, 128]) K) old
      = mat (d := ![512, 128]) fun x l => A x l + ∑ r ∈ Finset.range 1024, pw K Q x r * D r l := by
  subst h
  funext j
  obtain ⟨x, l, rfl⟩ : ∃ (x : Fin 512) (l : Fin 128), j = ix2 x l := ⟨_, _, eq_ix2 j⟩
  show _ = ((A x.val l.val + ∑ r ∈ Finset.range 1024, pw K Q x.val r * D r l.val : ℝ) : EReal)
  pointwise [headDv, k2_pay20, k2_pay15, k2_pay13, k2_pay9, k2_pay11]
  simp only [dot_mat, exp2_coe]
  rw [EReal.coe_add, ← sum_fin]
  rfl

theorem headDk_mat (Q D K V : ℕ → ℕ → ℝ) (old : Vec Ideal S512x128 .f32) (A : ℕ → ℕ → ℝ) (h : old = mat (d := ![512, 128]) A) :
    headDk (mat (d := ![1024, 128]) Q) (mat (d := ![1024, 128]) D) (mat (d := ![512, 128]) K) (mat (d := ![512, 128]) V) old
      = mat (d := ![512, 128]) fun x l => A x l + ∑ r ∈ Finset.range 1024, ds K Q V D x r * Q r l := by
  subst h
  funext j
  obtain ⟨x, l, rfl⟩ : ∃ (x : Fin 512) (l : Fin 128), j = ix2 x l := ⟨_, _, eq_ix2 j⟩
  show _ = ((A x.val l.val + ∑ r ∈ Finset.range 1024, ds K Q V D x.val r * Q r l.val : ℝ) : EReal)
  pointwise [headDk, k2_pay4, k2_pay16, k2_pay15, k2_pay13, k2_pay9, k2_pay11]
  simp only [dot_mat, exp2_coe]
  rw [EReal.coe_add, ← sum_fin]
  simp only [EReal.coe_mul, ds]
  rfl

theorem headDq_mat (Q D K V : ℕ → ℕ → ℝ) (old : Vec Ideal S1024x128 .f32) (A : ℕ → ℕ → ℝ) (h : old = mat (d := ![1024, 128]) A) :
    headDq (mat (d := ![1024, 128]) Q) (mat (d := ![1024, 128]) D) (mat (d := ![512, 128]) K) (mat (d := ![512, 128]) V) old
      = mat (d := ![1024, 128]) fun r l => A r l + ∑ x ∈ Finset.range 512, ds K Q V D x r * K x l := by
  subst h
  funext j
  obtain ⟨r, l, rfl⟩ : ∃ (r : Fin 1024) (l : Fin 128), j = ix2 r l := ⟨_, _, eq_ix2 j⟩
  show _ = ((A r.val l.val + ∑ x ∈ Finset.range 512, ds K Q V D x r.val * K x l.val : ℝ) : EReal)
  pointwise [headDq, k2_pay5, k2_pay16, k2_pay15, k2_pay13, k2_pay9, k2_pay11]
  simp only [dot_mat, exp2_coe]
  rw [EReal.coe_add, ← sum_fin]
  simp only [EReal.coe_mul, ds]
  rfl

/-! ## One trip of the loop over the chunks -/

variable (𝒱 : Variants) (c : Dev nD) (bd : Option 𝒱.V) (i : grid2.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x256 .f32) (harg6 : arg6.IsWhole) (arg7 : Memref sig .tc .vmem S512x256 .f32) (harg7 : arg7.IsWhole) (arg8 : Memref sig .tc .vmem S512x256 .f32) (harg8 : arg8.IsWhole)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty)

theorem off1_eq : ∀ k : Fin k2_t1_loop.trips, k2_off1 k = ![1024 * k.val, 0] := by decide +kernel
theorem off2_eq : ∀ k : Fin k2_t1_loop.trips, k2_off2 k = ![1024 * k.val, 128] := by decide +kernel

/-- The loads a trip makes: a chunk's head of a whole array, and a head of a block of keys. -/
def ldC {e : EltTy} (m : Memref sig .tc .vmem S8192x256 e) (X : BufTy.Contents (Elt Ideal) m.view.ty) (k : Fin k2_t1_loop.trips) (a : Fin 2) :
    (⟨2, ![1024, 128]⟩ : Shape).Idx → Elt Ideal e :=
  if a = 0 then m.view.readAt (Elt Ideal) (Rect.unit (s := S8192x256) (k2_off1 k) S1024x128.size (k2_off1_inb k)).toLoadRect X
  else m.view.readAt (Elt Ideal) (Rect.unit (s := S8192x256) (k2_off2 k) S1024x128.size (k2_off2_inb k)).toLoadRect X
def ldB {e : EltTy} (m : Memref sig .tc .vmem S512x256 e) (X : BufTy.Contents (Elt Ideal) m.view.ty) (a : Fin 2) :
    (⟨2, ![512, 128]⟩ : Shape).Idx → Elt Ideal e :=
  if a = 0 then m.view.readAt (Elt Ideal) (Rect.unit (s := S512x256) ![0, 0] S512x128.size inb_S512x256_S512x128_0_0).toLoadRect X
  else m.view.readAt (Elt Ideal) (Rect.unit (s := S512x256) ![0, 128] S512x128.size inb_S512x256_S512x128_0_128).toLoadRect X

/-- What a trip writes, head by head. -/
theorem trip_pieces (k : Fin k2_t1_loop.trips) (f6 : BufTy.Contents (Elt Ideal) arg6.view.ty) (f7 : BufTy.Contents (Elt Ideal) arg7.view.ty) (f8 : BufTy.Contents (Elt Ideal) arg8.view.ty) :
    tripL_k2_t1 (F := Ideal) 𝒱 c bd i arg2 harg2 arg3 harg3 arg4 harg4 arg5 harg5 arg6 harg6 arg7 harg7 arg8 harg8 X2 X3 X4 X5 k f6 f7 f8
      = ([⟨Rect.unit (k2_off2 k) S1024x128.size (k2_off2_inb k), headDq (ldC arg2 X2 k 1) (ldC arg3 X3 k 1) (ldB arg4 X4 1) (ldB arg5 X5 1) (ldC arg6 f6 k 1)⟩,
          ⟨Rect.unit (k2_off1 k) S1024x128.size (k2_off1_inb k), headDq (ldC arg2 X2 k 0) (ldC arg3 X3 k 0) (ldB arg4 X4 0) (ldB arg5 X5 0) (ldC arg6 f6 k 0)⟩],
        [⟨Rect.unit ![0, 128] S512x128.size inb_S512x256_S512x128_0_128, headDk (ldC arg2 X2 k 1) (ldC arg3 X3 k 1) (ldB arg4 X4 1) (ldB arg5 X5 1) (ldB arg7 f7 1)⟩,
          ⟨Rect.unit ![0, 0] S512x128.size inb_S512x256_S512x128_0_0, headDk (ldC arg2 X2 k 0) (ldC arg3 X3 k 0) (ldB arg4 X4 0) (ldB arg5 X5 0) (ldB arg7 f7 0)⟩],
        [⟨Rect.unit ![0, 128] S512x128.size inb_S512x256_S512x128_0_128, headDv (ldC arg2 X2 k 1) (ldC arg3 X3 k 1) (ldB arg4 X4 1) (ldB arg8 f8 1)⟩,
          ⟨Rect.unit ![0, 0] S512x128.size inb_S512x256_S512x128_0_0, headDv (ldC arg2 X2 k 0) (ldC arg3 X3 k 0) (ldB arg4 X4 0) (ldB arg8 f8 0)⟩]) := by
  unfold tripL_k2_t1 trip_k2_t1
  rfl

end Cert.KernelIdeal.MlaBwd
end
-- ==== Proof.MlaBwdLoop.lean ====
/- The attention's backward kernel at one grid point: the loop over the eight chunks of queries, as sums over all the
   queries (for the gradients of the block's keys and values) and over the block's keys (for those of the queries). -/
module

public import proofs.«01_k».proof.Proof.MlaBwdTrip

@[expose] public section

set_option maxRecDepth 16384

noncomputable section

namespace Cert.KernelIdeal.MlaBwd

open Cert.KernelIdeal Cert.KernelIdeal.Gen Cert.Mats Idealize.ShloMosaic Idealize.ShloMosaic.TcCoe Idealize.SL.Sem

/-- The lanes of head `a`. -/
def hd (A : ℕ → ℕ → ℝ) (a r l : ℕ) : ℝ := A r (128 * a + l)

theorem ldC_bf16 (m : Memref sig .tc .vmem S8192x256 .bf16) (X : BufTy.Contents (Elt Ideal) m.view.ty) (A : ℕ → ℕ → ℝ)
    (h : m.view.read (Elt Ideal) X = mat A) (k : Fin k2_t1_loop.trips) (a : Fin 2) :
    ldC m X k a = mat (d := ![1024, 128]) fun r l => hd A a.val (1024 * k.val + r) l := by
  obtain rfl | rfl : a = 0 ∨ a = 1 := by omega
  · refine (load_bf16 m.view X _ h (k2_off1 k) ![1024, 128] (k2_off1_inb k) _ (off1_eq k)).trans ?_
    simp [hd]
  · refine (load_bf16 m.view X _ h (k2_off2 k) ![1024, 128] (k2_off2_inb k) _ (off2_eq k)).trans ?_
    simp [hd]

theorem ldC_f32 (m : Memref sig .tc .vmem S8192x256 .f32) (X : BufTy.Contents (Elt Ideal) m.view.ty) (A : ℕ → ℕ → ℝ)
    (h : m.view.read (Elt Ideal) X = mat A) (k : Fin k2_t1_loop.trips) (a : Fin 2) :
    ldC m X k a = mat (d := ![1024, 128]) fun r l => hd A a.val (1024 * k.val + r) l := by
  obtain rfl | rfl : a = 0 ∨ a = 1 := by omega
  · refine (load_f32 m.view X _ h (k2_off1 k) ![1024, 128] (k2_off1_inb k) _ (off1_eq k)).trans ?_
    simp [hd]
  · refine (load_f32 m.view X _ h (k2_off2 k) ![1024, 128] (k2_off2_inb k) _ (off2_eq k)).trans ?_
    simp [hd]

theorem ldB_bf16 (m : Memref sig .tc .vmem S512x256 .bf16) (X : BufTy.Contents (Elt Ideal) m.view.ty) (A : ℕ → ℕ → ℝ)
    (h : m.view.read (Elt Ideal) X = mat A) (a : Fin 2) : ldB m X a = mat (d := ![512, 128]) (hd A a.val) := by
  obtain rfl | rfl : a = 0 ∨ a = 1 := by omega
  · refine (load_bf16 m.view X _ h ![0, 0] ![512, 128] inb_S512x256_S512x128_0_0 _ rfl).trans ?_
    congr 1; funext r l; simp [hd]
  · refine (load_bf16 m.view X _ h ![0, 128] ![512, 128] inb_S512x256_S512x128_0_128 _ rfl).trans ?_
    congr 1; funext r l; simp [hd]

theorem ldB_f32 (m : Memref sig .tc .vmem S512x256 .f32) (X : BufTy.Contents (Elt Ideal) m.view.ty) (A : ℕ → ℕ → ℝ)
    (h : m.view.read (Elt Ideal) X = mat A) (a : Fin 2) : ldB m X a = mat (d := ![512, 128]) (hd A a.val) := by
  obtain rfl | rfl : a = 0 ∨ a = 1 := by omega
  · refine (load_f32 m.view X _ h ![0, 0] ![512, 128] inb_S512x256_S512x128_0_0 _ rfl).trans ?_
    congr 1; funext r l; simp [hd]
  · refine (load_f32 m.view X _ h ![0, 128] ![512, 128] inb_S512x256_S512x128_0_128 _ rfl).trans ?_
    congr 1; funext r l; simp [hd]

/-- What a matrix reads after a chunk's two heads were stored in it. -/
theorem read_band (v : View sig .tc .vmem S8192x256 .f32) (f : v.ty.Contents (Elt Ideal)) (A W1 W0 : ℕ → ℕ → ℝ) (k : Fin k2_t1_loop.trips)
    (hf : v.read (Elt Ideal) f = mat A) (w1 w0 : (⟨2, ![1024, 128]⟩ : Shape).Idx → EReal)
    (h1 : w1 = mat fun r l => W1 (1024 * k.val + r) l) (h0 : w0 = mat fun r l => W0 (1024 * k.val + r) l) :
    v.read (Elt Ideal) (v.writes (Elt Ideal) f [⟨Rect.unit (s := S8192x256) (k2_off2 k) S1024x128.size (k2_off2_inb k), w1⟩,
      ⟨Rect.unit (s := S8192x256) (k2_off1 k) S1024x128.size (k2_off1_inb k), w0⟩])
      = mat (d := ![8192, 256]) fun r l => if 1024 * k.val ≤ r ∧ r < 1024 * k.val + 1024 then (if l < 128 then W0 r l else W1 r (l - 128)) else A r l := by
  subst h1 h0
  funext y
  obtain ⟨r, l, rfl⟩ : ∃ (r : Fin 8192) (l : Fin 256), y = ix2 r l := ⟨_, _, eq_ix2 y⟩
  show _ = ((if 1024 * k.val ≤ r.val ∧ r.val < 1024 * k.val + 1024 then (if l.val < 128 then W0 r.val l.val else W1 r.val (l.val - 128)) else A r.val l.val : ℝ) : EReal)
  by_cases hr : 1024 * k.val ≤ r.val ∧ r.val < 1024 * k.val + 1024
  · rw [if_pos hr]
    obtain ⟨s, hs⟩ : ∃ s : Fin 1024, r.val = 1024 * k.val + s.val := ⟨⟨r.val - 1024 * k.val, by omega⟩, by show r.val = 1024 * k.val + (r.val - 1024 * k.val); omega⟩
    by_cases hl : l.val < 128
    · rw [if_pos hl]
      refine (View.read_writes_cons_unit_of_not_mem v f (off' := ![1024 * k.val, 128]) (k2_off2_inb k) _ _ _ (off2_eq k) (1 : Fin 2) (Or.inl hl)).trans ?_
      refine (View.read_writes_cons_unit_of_mem v f (off' := ![1024 * k.val, 0]) (k2_off1_inb k) _ _ _ (ix2 s (⟨l.val, hl⟩ : Fin 128)) (off1_eq k) ?_).trans ?_
      · intro a; fin_cases a <;> simp [ix2, hs]
      · show ((W0 (1024 * k.val + s.val) l.val : ℝ) : EReal) = _
        rw [hs]
    · have hl' : l.val - 128 < 128 := by have := l.isLt; omega
      rw [if_neg hl]
      refine (View.read_writes_cons_unit_of_mem v f (off' := ![1024 * k.val, 128]) (k2_off2_inb k) _ _ _ (ix2 s (⟨l.val - 128, hl'⟩ : Fin 128)) (off2_eq k) ?_).trans ?_
      · intro a; fin_cases a <;> simp [ix2, hs]; omega
      · show ((W1 (1024 * k.val + s.val) (l.val - 128) : ℝ) : EReal) = _
        rw [hs]
  · rw [if_neg hr]
    have hr' : r.val < 1024 * k.val ∨ 1024 * k.val + 1024 ≤ r.val := by omega
    refine (View.read_writes_cons_unit_of_not_mem v f (off' := ![1024 * k.val, 128]) (k2_off2_inb k) _ _ _ (off2_eq k) (0 : Fin 2) hr').trans ?_
    refine (View.read_writes_cons_unit_of_not_mem v f (off' := ![1024 * k.val, 0]) (k2_off1_inb k) _ _ _ (off1_eq k) (0 : Fin 2) hr').trans ?_
    exact congrFun hf (ix2 r l)

/-- The weight of key `x` for query `r` in head `a`, and its gradient. -/
def pwH (K Q : ℕ → ℕ → ℝ) (a x r : ℕ) : ℝ := pw (hd K a) (hd Q a) x r
def dsH (K Q V D : ℕ → ℕ → ℝ) (a x r : ℕ) : ℝ := ds (hd K a) (hd Q a) (hd V a) (hd D a) x r

variable (𝒱 : Variants) (c : Dev nD) (bd : Option 𝒱.V) (i : grid2.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x256 .f32) (harg6 : arg6.IsWhole) (arg7 : Memref sig .tc .vmem S512x256 .f32) (harg7 : arg7.IsWhole) (arg8 : Memref sig .tc .vmem S512x256 .f32) (harg8 : arg8.IsWhole)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty)

/-- A trip over real contents. -/
theorem trip_reads (Q D K V : ℕ → ℕ → ℝ) (k : Fin k2_t1_loop.trips)
    (h2 : arg2.view.read (Elt Ideal) X2 = mat Q) (h3 : arg3.view.read (Elt Ideal) X3 = mat D)
    (h4 : arg4.view.read (Elt Ideal) X4 = mat K) (h5 : arg5.view.read (Elt Ideal) X5 = mat V)
    (f6 : BufTy.Contents (Elt Ideal) arg6.view.ty) (f7 : BufTy.Contents (Elt Ideal) arg7.view.ty) (f8 : BufTy.Contents (Elt Ideal) arg8.view.ty)
    (A6 A7 A8 : ℕ → ℕ → ℝ) (h6 : arg6.view.read (Elt Ideal) f6 = mat A6) (h7 : arg7.view.read (Elt Ideal) f7 = mat A7) (h8 : arg8.view.read (Elt Ideal) f8 = mat A8) :
    arg6.view.read (Elt Ideal) (arg6.view.writes (Elt Ideal) f6 (tripL_k2_t1 (F := Ideal) 𝒱 c bd i arg2 harg2 arg3 harg3 arg4 harg4 arg5 harg5 arg6 harg6 arg7 harg7 arg8 harg8 X2 X3 X4 X5 k f6 f7 f8).1)
        = mat (d := ![8192, 256]) (fun r l => if 1024 * k.val ≤ r ∧ r < 1024 * k.val + 1024 then
            (if l < 128 then hd A6 0 r l + ∑ x ∈ Finset.range 512, dsH K Q V D 0 x r * hd K 0 x l
              else hd A6 1 r (l - 128) + ∑ x ∈ Finset.range 512, dsH K Q V D 1 x r * hd K 1 x (l - 128)) else A6 r l)
      ∧ arg7.view.read (Elt Ideal) (arg7.view.writes (Elt Ideal) f7 (tripL_k2_t1 (F := Ideal) 𝒱 c bd i arg2 harg2 arg3 harg3 arg4 harg4 arg5 harg5 arg6 harg6 arg7 harg7 arg8 harg8 X2 X3 X4 X5 k f6 f7 f8).2.1)
        = mat (d := ![512, 256]) (fun x l => if l < 128 then hd A7 0 x l + ∑ r ∈ Finset.range 1024, dsH K Q V D 0 x (1024 * k.val + r) * hd Q 0 (1024 * k.val + r) l
              else hd A7 1 x (l - 128) + ∑ r ∈ Finset.range 1024, dsH K Q V D 1 x (1024 * k.val + r) * hd Q 1 (1024 * k.val + r) (l - 128))
      ∧ arg8.view.read (Elt Ideal) (arg8.view.writes (Elt Ideal) f8 (tripL_k2_t1 (F := Ideal) 𝒱 c bd i arg2 harg2 arg3 harg3 arg4 harg4 arg5 harg5 arg6 harg6 arg7 harg7 arg8 harg8 X2 X3 X4 X5 k f6 f7 f8).2.2)
        = mat (d := ![512, 256]) (fun x l => if l < 128 then hd A8 0 x l + ∑ r ∈ Finset.range 1024, pwH K Q 0 x (1024 * k.val + r) * hd D 0 (1024 * k.val + r) l
              else hd A8 1 x (l - 128) + ∑ r ∈ Finset.range 1024, pwH K Q 1 x (1024 * k.val + r) * hd D 1 (1024 * k.val + r) (l - 128)) := by
  rw [trip_pieces]
  rw [ldC_bf16 arg2 X2 Q h2 k 0, ldC_bf16 arg2 X2 Q h2 k 1, ldC_bf16 arg3 X3 D h3 k 0, ldC_bf16 arg3 X3 D h3 k 1,
    ldB_bf16 arg4 X4 K h4 0, ldB_bf16 arg4 X4 K h4 1, ldB_bf16 arg5 X5 V h5 0, ldB_bf16 arg5 X5 V h5 1]
  refine ⟨?_, ?_, ?_⟩
  · exact read_band arg6.view f6 A6 (fun r l => hd A6 1 r l + ∑ x ∈ Finset.range 512, dsH K Q V D 1 x r * hd K 1 x l)
      (fun r l => hd A6 0 r l + ∑ x ∈ Finset.range 512, dsH K Q V D 0 x r * hd K 0 x l) k h6 _ _ (headDq_mat _ _ _ _ _ _ (ldC_f32 arg6 f6 A6 h6 k 1)) (headDq_mat _ _ _ _ _ _ (ldC_f32 arg6 f6 A6 h6 k 0))
  · exact read_halves_f32 arg7.view f7 _ _ inb_S512x256_S512x128_0_128 inb_S512x256_S512x128_0_0 _ _ (headDk_mat _ _ _ _ _ _ (ldB_f32 arg7 f7 A7 h7 1)) (headDk_mat _ _ _ _ _ _ (ldB_f32 arg7 f7 A7 h7 0)) []
  · exact read_halves_f32 arg8.view f8 _ _ inb_S512x256_S512x128_0_128 inb_S512x256_S512x128_0_0 _ _ (headDv_mat _ _ _ _ _ (ldB_f32 arg8 f8 A8 h8 1)) (headDv_mat _ _ _ _ _ (ldB_f32 arg8 f8 A8 h8 0)) []

/-- A grid point's contributions to the gradients of the queries, of the keys and of the values. -/
def sumQ (K Q V D : ℕ → ℕ → ℝ) (r l : ℕ) : ℝ := ∑ x ∈ Finset.range 512, dsH K Q V D (l / 128) x r * K x l
def sumK (K Q V D : ℕ → ℕ → ℝ) (n x l : ℕ) : ℝ := ∑ r ∈ Finset.range n, dsH K Q V D (l / 128) x r * Q r l
def sumV (K Q D : ℕ → ℕ → ℝ) (n x l : ℕ) : ℝ := ∑ r ∈ Finset.range n, pwH K Q (l / 128) x r * D r l

theorem mat_congr {d : Fin 2 → ℕ} (A B : ℕ → ℕ → ℝ) (h : ∀ r l, l < d 1 → A r l = B r l) : mat (d := d) A = mat B := by
  funext y
  exact congrArg ((↑) : ℝ → EReal) (h _ _ (y 1).isLt)

/-- The contents after `n` trips. -/
theorem loop_reads (Q D K V : ℕ → ℕ → ℝ)
    (h2 : arg2.view.read (Elt Ideal) X2 = mat Q) (h3 : arg3.view.read (Elt Ideal) X3 = mat D)
    (h4 : arg4.view.read (Elt Ideal) X4 = mat K) (h5 : arg5.view.read (Elt Ideal) X5 = mat V)
    (G6 : BufTy.Contents (Elt Ideal) arg6.view.ty) (G7 : BufTy.Contents (Elt Ideal) arg7.view.ty) (G8 : BufTy.Contents (Elt Ideal) arg8.view.ty)
    (A6 : ℕ → ℕ → ℝ) (h6 : arg6.view.read (Elt Ideal) G6 = mat A6) (h7 : arg7.view.read (Elt Ideal) G7 = mat fun _ _ => 0) (h8 : arg8.view.read (Elt Ideal) G8 = mat fun _ _ => 0)
    (n : ℕ) (hn : n ≤ 8) :
    arg6.view.read (Elt Ideal) (arg6.view.writes (Elt Ideal) G6 (pb_k2_t1 (F := Ideal) 𝒱 c bd i arg2 harg2 arg3 harg3 arg4 harg4 arg5 harg5 arg6 harg6 arg7 harg7 arg8 harg8 X2 X3 X4 X5 G6 G7 G8 n).1)
        = mat (d := ![8192, 256]) (fun r l => if r < 1024 * n then A6 r l + sumQ K Q V D r l else A6 r l)
      ∧ arg7.view.read (Elt Ideal) (arg7.view.writes (Elt Ideal) G7 (pb_k2_t1 (F := Ideal) 𝒱 c bd i arg2 harg2 arg3 harg3 arg4 harg4 arg5 harg5 arg6 harg6 arg7 harg7 arg8 harg8 X2 X3 X4 X5 G6 G7 G8 n).2.1)
        = mat (d := ![512, 256]) (sumK K Q V D (1024 * n))
      ∧ arg8.view.read (Elt Ideal) (arg8.view.writes (Elt Ideal) G8 (pb_k2_t1 (F := Ideal) 𝒱 c bd i arg2 harg2 arg3 harg3 arg4 harg4 arg5 harg5 arg6 harg6 arg7 harg7 arg8 harg8 X2 X3 X4 X5 G6 G7 G8 n).2.2)
        = mat (d := ![512, 256]) (sumV K Q D (1024 * n)) := by
  induction n with
  | zero =>
    refine ⟨(h6 : _).trans ?_, (h7 : _).trans ?_, (h8 : _).trans ?_⟩
    · simp
    · exact mat_congr _ _ fun _ _ _ => by simp [sumK]
    · exact mat_congr _ _ fun _ _ _ => by simp [sumV]
  | succ n ih =>
    obtain ⟨e6, e7, e8⟩ := ih (by omega)
    have hs := pb_k2_t1_succ (F := Ideal) 𝒱 c bd i arg2 harg2 arg3 harg3 arg4 harg4 arg5 harg5 arg6 harg6 arg7 harg7 arg8 harg8 X2 X3 X4 X5 G6 G7 G8 ⟨n, by show n < 8; omega⟩
    have ht := trip_reads 𝒱 c bd i arg2 harg2 arg3 harg3 arg4 harg4 arg5 harg5 arg6 harg6 arg7 harg7 arg8 harg8 X2 X3 X4 X5 Q D K V ⟨n, by show n < 8; omega⟩
      h2 h3 h4 h5 _ _ _ _ _ _ e6 e7 e8
    rw [← View.writes_append, ← View.writes_append, ← View.writes_append] at ht
    rw [hs]
    refine ⟨ht.1.trans (mat_congr _ _ fun r l hl => ?_), ht.2.1.trans (mat_congr _ _ fun x l hl => ?_), ht.2.2.trans (mat_congr _ _ fun x l hl => ?_)⟩
    · have hl : l < 256 := hl
      show (if 1024 * n ≤ r ∧ r < 1024 * n + 1024 then _ else _) = _
      by_cases hr : 1024 * n ≤ r ∧ r < 1024 * n + 1024
      · rw [if_pos hr, if_pos (show r < 1024 * (n + 1) by omega)]
        have hr' : ¬ r < 1024 * n := by omega
        split_ifs with h
        · simp only [hd, if_neg hr', sumQ, Nat.div_eq_of_lt h, Nat.mul_zero, Nat.zero_add]
        · simp only [hd, if_neg hr', sumQ, show l / 128 = 1 by omega, show 128 * 1 + (l - 128) = l by omega]
      · rw [if_neg hr]
        by_cases hr' : r < 1024 * n
        · rw [if_pos hr', if_pos (show r < 1024 * (n + 1) by omega)]
        · rw [if_neg hr', if_neg (show ¬ r < 1024 * (n + 1) by omega)]
    · have hl : l < 256 := hl
      rw [sumK, Nat.mul_succ, Finset.sum_range_add]
      split_ifs with h
      · simp only [hd, sumK, Nat.div_eq_of_lt h, Nat.mul_zero, Nat.zero_add]
      · simp only [hd, sumK, show l / 128 = 1 by omega, show 128 * 1 + (l - 128) = l by omega]
    · have hl : l < 256 := hl
      rw [sumV, Nat.mul_succ, Finset.sum_range_add]
      split_ifs with h
      · simp only [hd, sumV, Nat.div_eq_of_lt h, Nat.mul_zero, Nat.zero_add]
      · simp only [hd, sumV, show l / 128 = 1 by omega, show 128 * 1 + (l - 128) = l by omega]

end Cert.KernelIdeal.MlaBwd
end
-- ==== Proof.MlaBwdOut.lean ====
/- The attention's backward kernel at one grid point: what it leaves in its three output blocks. -/
module

public import proofs.«01_k».proof.Proof.MlaBwdLoop

@[expose] public section

set_option maxRecDepth 16384

noncomputable section

namespace Cert.KernelIdeal.MlaBwd

open Cert.KernelIdeal Cert.KernelIdeal.Gen Cert.Mats Idealize.ShloMosaic Idealize.ShloMosaic.TcCoe Idealize.SL.Sem

variable (c : Dev nD) (i : grid2.Coords) (arg2 : Memref sig .tc .vmem S8192x256 .bf16) (harg2 : arg2.IsWhole) (arg3 : Memref sig .tc .vmem S8192x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S8192x256 .f32) (harg6 : arg6.IsWhole) (arg7 : Memref sig .tc .vmem S512x256 .f32) (harg7 : arg7.IsWhole) (arg8 : Memref sig .tc .vmem S512x256 .f32) (harg8 : arg8.IsWhole)

/-- The block of zeros written at the start reads as zeros. -/
theorem zeros_q : (k2_pay1 : FVec Ideal S8192x256 .f32) = mat (d := ![8192, 256]) fun _ _ => 0 := by
  funext y; obtain ⟨r, l, rfl⟩ : ∃ (r : Fin 8192) (l : Fin 256), y = ix2 r l := ⟨_, _, eq_ix2 y⟩
  show _ = ((0 : ℝ) : EReal)
  pointwise [k2_pay1]; rfl
theorem zeros_k : (k2_pay2 : FVec Ideal S512x256 .f32) = mat (d := ![512, 256]) fun _ _ => 0 := by
  funext y; obtain ⟨r, l, rfl⟩ : ∃ (r : Fin 512) (l : Fin 256), y = ix2 r l := ⟨_, _, eq_ix2 y⟩
  show _ = ((0 : ℝ) : EReal)
  pointwise [k2_pay2]; rfl
theorem zeros_v : (k2_pay3 : FVec Ideal S512x256 .f32) = mat (d := ![512, 256]) fun _ _ => 0 := by
  funext y; obtain ⟨r, l, rfl⟩ : ∃ (r : Fin 512) (l : Fin 256), y = ix2 r l := ⟨_, _, eq_ix2 y⟩
  show _ = ((0 : ℝ) : EReal)
  pointwise [k2_pay3]; rfl

/-- At a point that continues a sum over the key blocks. -/
theorem out_B (hc : ¬cond2_0 i) (Q D K V A : ℕ → ℕ → ℝ) :
    out2_B_4 (F := Ideal) c i arg2 harg2 arg3 harg3 arg4 harg4 arg5 harg5 arg6 harg6 arg7 harg7 arg8 harg8 hc (mat Q) (mat D) (mat K) (mat V) (mat A)
        = mat (d := ![8192, 256]) (fun r l => A r l + sumQ K Q V D r l)
      ∧ out2_B_5 (F := Ideal) c i arg2 harg2 arg3 harg3 arg4 harg4 arg5 harg5 arg6 harg6 arg7 harg7 arg8 harg8 hc (mat Q) (mat D) (mat K) (mat V) (mat A)
        = mat (d := ![512, 256]) (sumK K Q V D 8192)
      ∧ out2_B_6 (F := Ideal) c i arg2 harg2 arg3 harg3 arg4 harg4 arg5 harg5 arg6 harg6 arg7 harg7 arg8 harg8 hc (mat Q) (mat D) (mat K) (mat V) (mat A)
        = mat (d := ![512, 256]) (sumV K Q D 8192) := by
  obtain ⟨e6, e7, e8⟩ := loop_reads Variants.none c none i arg2 harg2 arg3 harg3 arg4 harg4 arg5 harg5 arg6 harg6 arg7 harg7 arg8 harg8
    (harg2.unread (mat Q)) (harg3.unread (mat D)) (harg4.unread (mat K)) (harg5.unread (mat V)) Q D K V
    (harg2.read_unread _) (harg3.read_unread _) (harg4.read_unread _) (harg5.read_unread _)
    (harg6.unread (mat A)) (arg7.view.writes (Elt Ideal) arg7.view.junk kernelRun2_B.sl.H5_1) (arg8.view.writes (Elt Ideal) arg8.view.junk kernelRun2_B.sl.H6_1) A
    (harg6.read_unread _) ((View.read_writes_full _ _ _ _ _).trans zeros_k) ((View.read_writes_full _ _ _ _ _).trans zeros_v) 8 le_rfl
  rw [← View.writes_append] at e7 e8
  refine ⟨?_, ?_, ?_⟩
  · refine (View.read_writes_of_cover VO2_4 VO2_4.junk arg6.view (harg6.unread (mat A)) _ (cover2_B_4 c i arg2 harg2 arg3 harg3 arg4 harg4 arg5 harg5 arg6 harg6 arg7 harg7 arg8 harg8 hc _ _ _ _ _)).trans ?_
    refine (e6 : _).trans ?_
    funext y
    exact congrArg ((↑) : ℝ → EReal) (if_pos (y 0).isLt)
  · refine (View.read_writes_of_cover VO2_5 VO2_5.junk arg7.view arg7.view.junk _ (cover2_B_5 c i arg2 harg2 arg3 harg3 arg4 harg4 arg5 harg5 arg6 harg6 arg7 harg7 arg8 harg8 hc _ _ _ _ _)).trans ?_
    exact e7
  · refine (View.read_writes_of_cover VO2_6 VO2_6.junk arg8.view arg8.view.junk _ (cover2_B_6 c i arg2 harg2 arg3 harg3 arg4 harg4 arg5 harg5 arg6 harg6 arg7 harg7 arg8 harg8 hc _ _ _ _ _)).trans ?_
    exact e8

/-- At a point that starts a sum over the key blocks. -/
theorem out_A (hc : cond2_0 i) (Q D K V : ℕ → ℕ → ℝ) :
    out2_A_4 (F := Ideal) c i arg2 harg2 arg3 harg3 arg4 harg4 arg5 harg5 arg6 harg6 arg7 harg7 arg8 harg8 hc (mat Q) (mat D) (mat K) (mat V)
        = mat (d := ![8192, 256]) (sumQ K Q V D)
      ∧ out2_A_5 (F := Ideal) c i arg2 harg2 arg3 harg3 arg4 harg4 arg5 harg5 arg6 harg6 arg7 harg7 arg8 harg8 hc (mat Q) (mat D) (mat K) (mat V)
        = mat (d := ![512, 256]) (sumK K Q V D 8192)
      ∧ out2_A_6 (F := Ideal) c i arg2 harg2 arg3 harg3 arg4 harg4 arg5 harg5 arg6 harg6 arg7 harg7 arg8 harg8 hc (mat Q) (mat D) (mat K) (mat V)
        = mat (d := ![512, 256]) (sumV K Q D 8192) := by
  obtain ⟨e6, e7, e8⟩ := loop_reads Variants.none c none i arg2 harg2 arg3 harg3 arg4 harg4 arg5 harg5 arg6 harg6 arg7 harg7 arg8 harg8
    (harg2.unread (mat Q)) (harg3.unread (mat D)) (harg4.unread (mat K)) (harg5.unread (mat V)) Q D K V
    (harg2.read_unread _) (harg3.read_unread _) (harg4.read_unread _) (harg5.read_unread _)
    (arg6.view.writes (Elt Ideal) arg6.view.junk kernelRun2_A.sl.H4_1) (arg7.view.writes (Elt Ideal) arg7.view.junk kernelRun2_A.sl.H5_1) (arg8.view.writes (Elt Ideal) arg8.view.junk kernelRun2_A.sl.H6_1) (fun _ _ => 0)
    ((View.read_writes_full _ _ _ _ _).trans zeros_q) ((View.read_writes_full _ _ _ _ _).trans zeros_k) ((View.read_writes_full _ _ _ _ _).trans zeros_v) 8 le_rfl
  rw [← View.writes_append] at e6 e7 e8
  refine ⟨?_, ?_, ?_⟩
  · refine (View.read_writes_of_cover VO2_4 VO2_4.junk arg6.view arg6.view.junk _ (cover2_A_4 c i arg2 harg2 arg3 harg3 arg4 harg4 arg5 harg5 arg6 harg6 arg7 harg7 arg8 harg8 hc _ _ _ _)).trans ?_
    refine (e6 : _).trans ?_
    funext y
    exact congrArg ((↑) : ℝ → EReal) ((if_pos (y 0).isLt).trans (zero_add _))
  · refine (View.read_writes_of_cover VO2_5 VO2_5.junk arg7.view arg7.view.junk _ (cover2_A_5 c i arg2 harg2 arg3 harg3 arg4 harg4 arg5 harg5 arg6 harg6 arg7 harg7 arg8 harg8 hc _ _ _ _)).trans ?_
    exact e7
  · refine (View.read_writes_of_cover VO2_6 VO2_6.junk arg8.view arg8.view.junk _ (cover2_A_6 c i arg2 harg2 arg3 harg3 arg4 harg4 arg5 harg5 arg6 harg6 arg7 harg7 arg8 harg8 hc _ _ _ _)).trans ?_
    exact e8

end Cert.KernelIdeal.MlaBwd
end
-- ==== Proof.MlaArrays.lean ====
/- The arrays the attention's two kernels leave: from what they leave in their blocks at every grid point to whole
   arrays, for whatever real matrices they are entered with. -/
module

public import proofs.«01_k».proof.Proof.MlaFwdOut
public import proofs.«01_k».proof.Proof.MlaBwdOut

@[expose] public section

set_option maxRecDepth 16384

noncomputable section

namespace Cert.KernelIdeal.MlaArrays

open Cert.KernelIdeal Cert.KernelIdeal.Gen Cert.Mats Cert.KernelIdeal.MlaFwd Cert.KernelIdeal.MlaBwd Idealize.ShloMosaic Idealize.ShloMosaic.TcCoe Idealize.SL.Sem

variable (V : (c : Dev nD) → (b : Ref sig .tc) → Buf (Elt Ideal) ((c : Thread nD τ).loc b)) (c : Dev nD)

/-- The attention output over all heads: head `h`'s 64 numbers of a query side by side. -/
def outY (Q K U : ℕ → ℕ → ℝ) (r l : ℕ) : ℝ := avg Q K U (l / 64) r (64 + l % 64)
/-- The queries with the lanes the backward kernel reads. -/
def outQ (Q K : ℕ → ℕ → ℝ) (r l : ℕ) : ℝ := aug Q K r l
/-- The gradients of the packed queries, keys and values. -/
def outDq (K Q U D : ℕ → ℕ → ℝ) (r l : ℕ) : ℝ := ∑ x ∈ Finset.range 8192, dsH K Q U D (l / 128) x r * K x l
def outDk (K Q U D : ℕ → ℕ → ℝ) (x l : ℕ) : ℝ := ∑ r ∈ Finset.range 8192, dsH K Q U D (l / 128) x r * Q r l
def outDv (K Q D : ℕ → ℕ → ℝ) (x l : ℕ) : ℝ := ∑ r ∈ Finset.range 8192, pwH K Q (l / 128) x r * D r l

/-! ## The forward kernel -/

theorem idx1 : ∀ t : Fin cfg1.N, win1_0.index t = ![t.val % 8, t.val / 8] ∧ win1_1.index t = ![0, t.val / 8] ∧ win1_2.index t = ![0, t.val / 8]
    ∧ win1_3.index t = ![t.val % 8, t.val / 8] ∧ win1_4.index t = ![t.val % 8, t.val / 8] :=
  (by decide +kernel : ∀ t : Fin grid1.N, _)

section Fwd
variable (Q K U : ℕ → ℕ → ℝ)
  (h0 : (V c (Pipeline.arrRef spec1 0) : FVec Ideal S8192x1024 .bf16) = mat Q)
  (h1 : (V c (Pipeline.arrRef spec1 1) : FVec Ideal S8192x1024 .bf16) = mat K)
  (h2 : (V c (Pipeline.arrRef spec1 2) : FVec Ideal S8192x1024 .bf16) = mat U)

/-- The rows and the columns of a block of 1024 rows and 256 columns. -/
def rowA (t : Fin cfg1.N) (r : Fin 1024) : Fin 8192 := ⟨t.val % 8 * 1024 + r.val, by omega⟩
def colA (t : Fin cfg1.N) (l : Fin 256) : Fin 1024 := ⟨t.val / 8 * 256 + l.val, by have := lt_of_lt_of_eq t.isLt N_1; omega⟩
def colY (t : Fin cfg1.N) (l : Fin 128) : Fin 512 := ⟨t.val / 8 * 128 + l.val, by have := lt_of_lt_of_eq t.isLt N_1; omega⟩

include h0 in
theorem blk1_0 (t : Fin cfg1.N) : (iblk1 V c 0 t : Vec Ideal S1024x256 .bf16) = mat (d := ![1024, 256]) fun r l => Q (t.val % 8 * 1024 + r) (t.val / 8 * 256 + l) := by
  funext i
  refine Eq.trans (b := (V c (Pipeline.arrRef spec1 0) : FVec Ideal S8192x1024 .bf16) (ix2 (rowA t (i 0)) (colA t (i 1)))) ?_ (congrFun h0 _)
  blk_ext [iblk1, idx1 t, rowA, colA]

include h1 in
theorem blk1_1 (t : Fin cfg1.N) : (iblk1 V c 1 t : Vec Ideal S8192x256 .bf16) = mat (d := ![8192, 256]) fun r l => K r (t.val / 8 * 256 + l) := by
  funext i
  refine Eq.trans (b := (V c (Pipeline.arrRef spec1 1) : FVec Ideal S8192x1024 .bf16) (ix2 (i 0) (colA t (i 1)))) ?_ (congrFun h1 _)
  blk_ext [iblk1, idx1 t, colA]

include h2 in
theorem blk1_2 (t : Fin cfg1.N) : (iblk1 V c 2 t : Vec Ideal S8192x256 .bf16) = mat (d := ![8192, 256]) fun r l => U r (t.val / 8 * 256 + l) := by
  funext i
  refine Eq.trans (b := (V c (Pipeline.arrRef spec1 2) : FVec Ideal S8192x1024 .bf16) (ix2 (i 0) (colA t (i 1)))) ?_ (congrFun h2 _)
  blk_ext [iblk1, idx1 t, colA]

/-- A block's two heads are heads of the whole. -/
theorem wt_blk (o p a r x : ℕ) : wt (fun r l => Q (o + r) (p * 256 + l)) (fun r l => K r (p * 256 + l)) a r x = wt Q K (2 * p + a) (o + r) x := by
  unfold wt score
  simp only [show ∀ l, p * 256 + (128 * a + l) = 128 * (2 * p + a) + l from fun l => by ring]

theorem den_blk (o p a r : ℕ) : den (fun r l => Q (o + r) (p * 256 + l)) (fun r l => K r (p * 256 + l)) a r = den Q K (2 * p + a) (o + r) := by
  unfold den
  simp only [wt_blk]

theorem avg_blk (o p a r l : ℕ) : avg (fun r l => Q (o + r) (p * 256 + l)) (fun r l => K r (p * 256 + l)) (fun r l => U r (p * 256 + l)) a r l = avg Q K U (2 * p + a) (o + r) l := by
  unfold avg
  simp only [wt_blk, den_blk, show p * 256 + (128 * a + l) = 128 * (2 * p + a) + l by ring]

variable (hU : ∀ h < 8, ∀ x < 8192, U x (128 * h) = 1)

theorem ones_blk (hU : ∀ h < 8, ∀ x < 8192, U x (128 * h) = 1) (t : Fin cfg1.N) : ∀ a < 2, ∀ x < 8192, (fun r l => U r (t.val / 8 * 256 + l)) x (128 * a) = 1 := fun a ha x hx => by
  have ht := lt_of_lt_of_eq t.isLt N_1
  have := hU (2 * (t.val / 8) + a) (by omega) x hx
  rw [← this]
  show U x (t.val / 8 * 256 + 128 * a) = _
  congr 1; ring

include h0 h1 h2 hU in
theorem fwd_y : (dat1 V c).arrAt 3 cfg1.N = (mat (outY Q K U) : FVec Ideal S8192x512 .f32) := by
  refine (dat1 V c).arrAt_eq_of_covers 3 _ (by decide +kernel) fun t _ y => ?_
  have e : ((cfg1.win 3).blk t).view.emb y = (ix2 (rowA t (y 0)) (colY t (y 1)) : S8192x512.Idx) := by blk_ext [idx1 t, rowA, colY]
  blk_simp
  rw [after1_3, e]
  unfold outsAt1
  dsimp only
  rw [blk1_0 V c Q h0 t, blk1_1 V c K h1 t, blk1_2 V c U h2 t, out_y _ _ _ _ _ _ _ _ _ _ _ _ _ _ _ _ _ _ _ (ones_blk U hU t)]
  refine congrArg ((↑) : ℝ → EReal) ?_
  have hl : (y 1).val < 128 := (y 1).isLt
  show (if (y 1).val < 64 then _ else _) = outY Q K U (t.val % 8 * 1024 + (y 0).val) (t.val / 8 * 128 + (y 1).val)
  unfold outY
  split_ifs with h
  · rw [avg_blk]; congr 1 <;> omega
  · rw [avg_blk]; congr 1 <;> omega

include h0 h1 h2 hU in
theorem fwd_q : (dat1 V c).arrAt 4 cfg1.N = (mat (outQ Q K) : FVec Ideal S8192x1024 .bf16) := by
  refine (dat1 V c).arrAt_eq_of_covers 4 _ (by decide +kernel) fun t _ y => ?_
  have e : ((cfg1.win 4).blk t).view.emb y = (ix2 (rowA t (y 0)) (colA t (y 1)) : S8192x1024.Idx) := by blk_ext [idx1 t, rowA, colA]
  blk_simp
  rw [after1_4, e]
  unfold outsAt1
  dsimp only
  rw [blk1_0 V c Q h0 t, blk1_1 V c K h1 t, blk1_2 V c U h2 t, out_q _ _ _ _ _ _ _ _ _ _ _ _ _ _ _ _ _ _ _ (ones_blk U hU t)]
  refine congrArg ((↑) : ℝ → EReal) ?_
  have hl : (y 1).val < 256 := (y 1).isLt
  show aug _ _ (y 0).val (y 1).val = aug Q K (t.val % 8 * 1024 + (y 0).val) (t.val / 8 * 256 + (y 1).val)
  unfold aug
  rw [show (t.val / 8 * 256 + (y 1).val) % 128 = (y 1).val % 128 by omega, show (t.val / 8 * 256 + (y 1).val) / 128 = 2 * (t.val / 8) + (y 1).val / 128 by omega, den_blk]
end Fwd

/-! ## The backward kernel -/

theorem idx2 : ∀ t : Fin cfg2.N, win2_0.index t = ![0, t.val / 16] ∧ win2_1.index t = ![0, t.val / 16] ∧ win2_2.index t = ![t.val % 16, t.val / 16]
    ∧ win2_3.index t = ![t.val % 16, t.val / 16] ∧ win2_4.index t = ![0, t.val / 16] ∧ win2_5.index t = ![t.val % 16, t.val / 16]
    ∧ win2_6.index t = ![t.val % 16, t.val / 16] :=
  (by decide +kernel : ∀ t : Fin grid2.N, _)

section Bwd
variable (Q D K U : ℕ → ℕ → ℝ)
  (h0 : (V c (Pipeline.arrRef spec2 0) : FVec Ideal S8192x1024 .bf16) = mat Q)
  (h1 : (V c (Pipeline.arrRef spec2 1) : FVec Ideal S8192x1024 .bf16) = mat D)
  (h2 : (V c (Pipeline.arrRef spec2 2) : FVec Ideal S8192x1024 .bf16) = mat K)
  (h3 : (V c (Pipeline.arrRef spec2 3) : FVec Ideal S8192x1024 .bf16) = mat U)

/-- The rows and the columns of a block of 512 rows and 256 columns. -/
def rowB (t : Fin cfg2.N) (r : Fin 512) : Fin 8192 := ⟨t.val % 16 * 512 + r.val, by omega⟩
def colB (t : Fin cfg2.N) (l : Fin 256) : Fin 1024 := ⟨t.val / 16 * 256 + l.val, by have := lt_of_lt_of_eq t.isLt N_2; omega⟩

/-- A block of a matrix, from row `o` and the columns of the pair of heads `p`. -/
def part (A : ℕ → ℕ → ℝ) (o p r l : ℕ) : ℝ := A (o + r) (p * 256 + l)

include h0 in
theorem blk2_0 (t : Fin cfg2.N) : (iblk2 V c 0 t : Vec Ideal S8192x256 .bf16) = mat (d := ![8192, 256]) (part Q 0 (t.val / 16)) := by
  funext i
  refine Eq.trans (b := (V c (Pipeline.arrRef spec2 0) : FVec Ideal S8192x1024 .bf16) (ix2 (i 0) (colB t (i 1)))) ?_ ((congrFun h0 _).trans ?_)
  · blk_ext [iblk2, idx2 t, colB]
  · show ((Q (i 0).val _ : ℝ) : EReal) = ((Q (0 + (i 0).val) _ : ℝ) : EReal)
    rw [Nat.zero_add]; rfl

include h1 in
theorem blk2_1 (t : Fin cfg2.N) : (iblk2 V c 1 t : Vec Ideal S8192x256 .bf16) = mat (d := ![8192, 256]) (part D 0 (t.val / 16)) := by
  funext i
  refine Eq.trans (b := (V c (Pipeline.arrRef spec2 1) : FVec Ideal S8192x1024 .bf16) (ix2 (i 0) (colB t (i 1)))) ?_ ((congrFun h1 _).trans ?_)
  · blk_ext [iblk2, idx2 t, colB]
  · show ((D (i 0).val _ : ℝ) : EReal) = ((D (0 + (i 0).val) _ : ℝ) : EReal)
    rw [Nat.zero_add]; rfl

include h2 in
theorem blk2_2 (t : Fin cfg2.N) : (iblk2 V c 2 t : Vec Ideal S512x256 .bf16) = mat (d := ![512, 256]) (part K (t.val % 16 * 512) (t.val / 16)) := by
  funext i
  refine Eq.trans (b := (V c (Pipeline.arrRef spec2 2) : FVec Ideal S8192x1024 .bf16) (ix2 (rowB t (i 0)) (colB t (i 1)))) ?_ (congrFun h2 _)
  blk_ext [iblk2, idx2 t, rowB, colB]

include h3 in
theorem blk2_3 (t : Fin cfg2.N) : (iblk2 V c 3 t : Vec Ideal S512x256 .bf16) = mat (d := ![512, 256]) (part U (t.val % 16 * 512) (t.val / 16)) := by
  funext i
  refine Eq.trans (b := (V c (Pipeline.arrRef spec2 3) : FVec Ideal S8192x1024 .bf16) (ix2 (rowB t (i 0)) (colB t (i 1)))) ?_ (congrFun h3 _)
  blk_ext [iblk2, idx2 t, rowB, colB]

theorem hd_part (A : ℕ → ℕ → ℝ) (o p a : ℕ) : hd (part A o p) a = fun r l => hd A (2 * p + a) (o + r) l := by
  funext r l
  show A (o + r) (p * 256 + (128 * a + l)) = A (o + r) (128 * (2 * p + a) + l)
  congr 1; ring

theorem pw_part (o p a x r : ℕ) : pwH (part K o p) (part Q 0 p) a x r = pwH K Q (2 * p + a) (o + x) r := by
  unfold pwH
  rw [hd_part, hd_part]
  simp only [Nat.zero_add]
  rfl

theorem ds_part (o p a x r : ℕ) : dsH (part K o p) (part Q 0 p) (part U o p) (part D 0 p) a x r = dsH K Q U D (2 * p + a) (o + x) r := by
  unfold dsH
  rw [hd_part, hd_part, hd_part, hd_part]
  simp only [Nat.zero_add]
  rfl

theorem sumK_part (o p x l : ℕ) : sumK (part K o p) (part Q 0 p) (part U o p) (part D 0 p) 8192 x l = outDk K Q U D (o + x) (p * 256 + l) := by
  unfold sumK outDk
  simp only [ds_part, show (p * 256 + l) / 128 = 2 * p + l / 128 by omega]
  simp only [part, Nat.zero_add]

theorem sumV_part (o p x l : ℕ) : sumV (part K o p) (part Q 0 p) (part D 0 p) 8192 x l = outDv K Q D (o + x) (p * 256 + l) := by
  unfold sumV outDv
  simp only [pw_part, show (p * 256 + l) / 128 = 2 * p + l / 128 by omega]
  simp only [part, Nat.zero_add]

theorem sumQ_part (o p r l : ℕ) : sumQ (part K o p) (part Q 0 p) (part U o p) (part D 0 p) r l
    = ∑ x ∈ Finset.range 512, dsH K Q U D ((p * 256 + l) / 128) (o + x) r * K (o + x) (p * 256 + l) := by
  unfold sumQ
  simp only [ds_part, show (p * 256 + l) / 128 = 2 * p + l / 128 by omega]
  simp only [part]

/-- What the carried block holds after a point: the sum over the keys of the blocks so far. -/
def partQ (n r l : ℕ) : ℝ :=
  ∑ x ∈ Finset.range (n % 16 * 512 + 512), dsH K Q U D ((n / 16 * 256 + l) / 128) x r * K x (n / 16 * 256 + l)

include h0 h1 h2 h3

theorem carried (n : ℕ) (hn : n < cfg2.N) : (outsAt2 V c n hn).1 = mat (d := ![8192, 256]) (partQ Q D K U n) := by
  induction n with
  | zero =>
    refine (congrArg Prod.fst (outsAt2_A V c ⟨0, hn⟩ rfl)).trans ?_
    dsimp only
    rw [blk2_0 V c Q h0, blk2_1 V c D h1, blk2_2 V c K h2, blk2_3 V c U h3]
    refine (out_A _ _ _ _ _ _ _ _ _ _ _ _ _ _ _ _ _ _ _ _ _).1.trans (mat_congr _ _ fun r l _ => ?_)
    rw [sumQ_part]
    simp [partQ]
  | succ n ih =>
    by_cases h : (n + 1) % 16 = 0
    · refine (congrArg Prod.fst (outsAt2_A V c ⟨n + 1, hn⟩ h)).trans ?_
      dsimp only
      rw [blk2_0 V c Q h0, blk2_1 V c D h1, blk2_2 V c K h2, blk2_3 V c U h3]
      refine (out_A _ _ _ _ _ _ _ _ _ _ _ _ _ _ _ _ _ _ _ _ _).1.trans (mat_congr _ _ fun r l _ => ?_)
      rw [sumQ_part]
      unfold partQ
      simp only [h, Nat.zero_mul, Nat.zero_add]
    · refine (congrArg Prod.fst (outsAt2_B V c ⟨n + 1, hn⟩ h)).trans ?_
      dsimp only
      have hp := ih (Nat.lt_of_succ_lt hn)
      rw [blk2_0 V c Q h0, blk2_1 V c D h1, blk2_2 V c K h2, blk2_3 V c U h3]
      simp only [Nat.add_sub_cancel]
      rw [hp]
      refine (out_B _ _ _ _ _ _ _ _ _ _ _ _ _ _ _ _ _ _ _ _ _ _).1.trans (mat_congr _ _ fun r l _ => ?_)
      rw [sumQ_part]
      unfold partQ
      rw [show n / 16 = (n + 1) / 16 by omega, show n % 16 * 512 + 512 = (n + 1) % 16 * 512 by omega, Finset.sum_range_add]

theorem bwd_dq : (dat2 V c).arrAt 4 cfg2.N = (mat (outDq K Q U D) : FVec Ideal S8192x1024 .f32) := by
  refine (dat2 V c).arrAt_eq_of_covers 4 _ (by decide +kernel) fun t hf y => ?_
  have e : ((cfg2.win 4).blk t).view.emb y = (ix2 (y 0) (colB t (y 1)) : S8192x1024.Idx) := by blk_ext [idx2 t, colB]
  blk_simp
  rw [after2_4, e, carried V c Q D K U h0 h1 h2 h3]
  refine congrArg ((↑) : ℝ → EReal) ?_
  show partQ Q D K U t.val (y 0).val (y 1).val = outDq K Q U D (y 0).val (t.val / 16 * 256 + (y 1).val)
  unfold partQ outDq
  rw [(flush2_4 t).mp hf]

/-- What a point leaves in the blocks of keys and of values. -/
theorem point_k (t : Fin cfg2.N) : (outsAt2 V c t.val t.isLt).2.1 = mat (d := ![512, 256]) fun x l => outDk K Q U D (t.val % 16 * 512 + x) (t.val / 16 * 256 + l) := by
  by_cases h : t.val % 16 = 0
  · rw [outsAt2_A V c t h]
    dsimp only
    rw [blk2_0 V c Q h0, blk2_1 V c D h1, blk2_2 V c K h2, blk2_3 V c U h3]
    exact (out_A _ _ _ _ _ _ _ _ _ _ _ _ _ _ _ _ _ _ _ _ _).2.1.trans (mat_congr _ _ fun x l _ => sumK_part _ _ _ _ _ _ _ _)
  · rw [outsAt2_B V c t h]
    dsimp only
    rw [blk2_0 V c Q h0, blk2_1 V c D h1, blk2_2 V c K h2, blk2_3 V c U h3, carried V c Q D K U h0 h1 h2 h3]
    exact (out_B _ _ _ _ _ _ _ _ _ _ _ _ _ _ _ _ _ _ _ _ _ _).2.1.trans (mat_congr _ _ fun x l _ => sumK_part _ _ _ _ _ _ _ _)

theorem point_v (t : Fin cfg2.N) : (outsAt2 V c t.val t.isLt).2.2 = mat (d := ![512, 256]) fun x l => outDv K Q D (t.val % 16 * 512 + x) (t.val / 16 * 256 + l) := by
  by_cases h : t.val % 16 = 0
  · rw [outsAt2_A V c t h]
    dsimp only
    rw [blk2_0 V c Q h0, blk2_1 V c D h1, blk2_2 V c K h2, blk2_3 V c U h3]
    exact (out_A _ _ _ _ _ _ _ _ _ _ _ _ _ _ _ _ _ _ _ _ _).2.2.trans (mat_congr _ _ fun x l _ => sumV_part _ _ _ _ _ _ _)
  · rw [outsAt2_B V c t h]
    dsimp only
    rw [blk2_0 V c Q h0, blk2_1 V c D h1, blk2_2 V c K h2, blk2_3 V c U h3, carried V c Q D K U h0 h1 h2 h3]
    exact (out_B _ _ _ _ _ _ _ _ _ _ _ _ _ _ _ _ _ _ _ _ _ _).2.2.trans (mat_congr _ _ fun x l _ => sumV_part _ _ _ _ _ _ _)

theorem bwd_dk : (dat2 V c).arrAt 5 cfg2.N = (mat (outDk K Q U D) : FVec Ideal S8192x1024 .f32) := by
  refine (dat2 V c).arrAt_eq_of_covers 5 _ (by decide +kernel) fun t _ y => ?_
  have e : ((cfg2.win 5).blk t).view.emb y = (ix2 (rowB t (y 0)) (colB t (y 1)) : S8192x1024.Idx) := by blk_ext [idx2 t, rowB, colB]
  blk_simp
  rw [after2_5, e, point_k V c Q D K U h0 h1 h2 h3]
  rfl

theorem bwd_dv : (dat2 V c).arrAt 6 cfg2.N = (mat (outDv K Q D) : FVec Ideal S8192x1024 .f32) := by
  refine (dat2 V c).arrAt_eq_of_covers 6 _ (by decide +kernel) fun t _ y => ?_
  have e : ((cfg2.win 6).blk t).view.emb y = (ix2 (rowB t (y 0)) (colB t (y 1)) : S8192x1024.Idx) := by blk_ext [idx2 t, rowB, colB]
  blk_simp
  rw [after2_6, e, point_v V c Q D K U h0 h1 h2 h3]
  rfl
end Bwd

end Cert.KernelIdeal.MlaArrays
end
-- ==== Proof.MlaScale.lean ====
/- The two small kernels that multiply a packed matrix by a constant: the queries before the attention, by the scale
   of the scores over the logarithm of two, and the keys' gradient after it, by the logarithm of two. -/
module

public import proofs.«01_k».proof.Proof.Mats
public import proofs.«01_k».proof.Proof.Gen.KernelIdeal.Frame

@[expose] public section

set_option maxRecDepth 16384

noncomputable section

namespace Cert.KernelIdeal.MlaScale

open Cert.KernelIdeal Cert.KernelIdeal.Gen Cert.Mats Idealize.ShloMosaic Idealize.ShloMosaic.TcCoe Idealize.SL.Sem

/-- The scale of the scores: the number the words of `1 / sqrt 96` stand for. -/
def sc : ℝ := 3424635 / 33554432

variable (V : (c : Dev nD) → (b : Ref sig .tc) → Buf (Elt Ideal) ((c : Thread nD τ).loc b)) (c : Dev nD) (X : ℕ → ℕ → ℝ)

theorem idx0 : ∀ t : Fin cfg0.N, win0_0.index t = ![t.val, 0] ∧ win0_1.index t = ![t.val, 0] :=
  (by decide +kernel : ∀ t : Fin grid0.N, _)
theorem idx3 : ∀ t : Fin cfg3.N, win3_0.index t = ![t.val, 0] ∧ win3_1.index t = ![t.val, 0] :=
  (by decide +kernel : ∀ t : Fin grid3.N, _)

theorem out_q (x0 : Vec Ideal S512x1024 .f32) (hx : x0 = mat X) :
    out0_1 (F := Ideal) x0 = (mat fun r l => X r l * (sc * (Real.log 2)⁻¹) : FVec Ideal S512x1024 .bf16) := by
  subst hx
  frame_out [out0_1]
  pointwise [k0_pay1]
  rfl

theorem out_k (x0 : Vec Ideal S512x1024 .f32) (hx : x0 = mat X) :
    out3_1 (F := Ideal) x0 = (mat fun r l => X r l * Real.log 2 : FVec Ideal S512x1024 .f32) := by
  subst hx
  frame_out [out3_1]
  pointwise [k3_pay1]
  rfl

/-- Row `r` of grid point `t`'s block of rows. -/
def row0 (t : Fin cfg0.N) (r : Fin 512) : Fin 8192 := ⟨t.val * 512 + r.val, by have := lt_of_lt_of_eq t.isLt N_0; omega⟩
def row3 (t : Fin cfg3.N) (r : Fin 512) : Fin 8192 := ⟨t.val * 512 + r.val, by have := lt_of_lt_of_eq t.isLt N_3; omega⟩

theorem scaled_q (h0 : (V c (Pipeline.arrRef spec0 0) : FVec Ideal S8192x1024 .f32) = mat X) :
    (dat0 V c).arrAt 1 cfg0.N = (mat fun r l => X r l * (sc * (Real.log 2)⁻¹) : FVec Ideal S8192x1024 .bf16) := by
  refine (dat0 V c).arrAt_eq_of_covers 1 _ (by decide +kernel) fun t _ y => ?_
  have e : ((cfg0.win 1).blk t).view.emb y = (ix2 (row0 t (y 0)) (y 1) : S8192x1024.Idx) := by blk_ext [idx0 t, row0]
  have b : (iblk0 V c 0 t : Vec Ideal S512x1024 .f32) = mat fun r l => X (t.val * 512 + r) l := by
    funext i
    refine Eq.trans (b := (V c (Pipeline.arrRef spec0 0) : FVec Ideal S8192x1024 .f32) (ix2 (row0 t (i 0)) (i 1))) ?_ (congrFun h0 _)
    blk_ext [iblk0, idx0 t, row0]
  rw [after0_1, e, out_q _ _ b]
  rfl

theorem scaled_k (h0 : (V c (Pipeline.arrRef spec3 0) : FVec Ideal S8192x1024 .f32) = mat X) :
    (dat3 V c).arrAt 1 cfg3.N = (mat fun r l => X r l * Real.log 2 : FVec Ideal S8192x1024 .f32) := by
  refine (dat3 V c).arrAt_eq_of_covers 1 _ (by decide +kernel) fun t _ y => ?_
  have e : ((cfg3.win 1).blk t).view.emb y = (ix2 (row3 t (y 0)) (y 1) : S8192x1024.Idx) := by blk_ext [idx3 t, row3]
  have b : (iblk3 V c 0 t : Vec Ideal S512x1024 .f32) = mat fun r l => X (t.val * 512 + r) l := by
    funext i
    refine Eq.trans (b := (V c (Pipeline.arrRef spec3 0) : FVec Ideal S8192x1024 .f32) (ix2 (row3 t (i 0)) (i 1))) ?_ (congrFun h0 _)
    blk_ext [iblk3, idx3 t, row3]
  rw [after3_1, e, out_k _ _ b]
  rfl

end Cert.KernelIdeal.MlaScale
end
-- ==== Proof.MlaHost.lean ====
/- The host's part of the attention's program: how it packs the queries, keys and values by head into 128 columns, what
   it puts beside the cotangent, and how it takes the gradients out of the packed matrices. -/
module

public import Idealize.ShloMosaic.Lib.StableHlo.Run
public import proofs.«01_k».proof.Proof.MlaArrays
public import proofs.«01_k».proof.Proof.MlaScale

@[expose] public section

set_option maxRecDepth 16384

noncomputable section

namespace Cert.KernelIdeal.MlaHost

open Cert.KernelIdeal Cert.KernelIdeal.Gen Cert.Mats Cert.KernelIdeal.MlaArrays Cert.KernelIdeal.MlaScale Idealize.ShloMosaic Idealize.ShloMosaic.TcCoe Idealize.SL.Sem Idealize.ShloMosaic.StableHlo

/-! ## Reshapes and concatenations of real arrays -/

theorem flat128 (A : ℕ → ℕ → ℕ → ℝ) (h : Shape.ShapeCasts S8192x8x128 S8192x1024) :
    (shapeCast S8192x1024 (cube A : S8192x8x128.Idx → EReal) h) = mat fun r l => A r (l / 128) (l % 128) := by
  funext y
  obtain ⟨r, l, rfl⟩ : ∃ (r : Fin 8192) (l : Fin 1024), y = ix2 r l := ⟨_, _, eq_ix2 y⟩
  have hl := l.isLt
  refine (shapeCast_apply (cube A : S8192x8x128.Idx → EReal) h (ix2 r l) (ix3 r ⟨l.val / 128, by omega⟩ ⟨l.val % 128, by omega⟩) ?_).trans rfl
  rw [Shape.rowMajor_val_three, Shape.rowMajor_val_two]
  show (r.val * 8 + l.val / 128) * 128 + l.val % 128 = r.val * 1024 + l.val
  omega

theorem heads128 (A : ℕ → ℕ → ℝ) (h : Shape.ShapeCasts S8192x1024 S8192x8x128) :
    (shapeCast S8192x8x128 (mat A : S8192x1024.Idx → EReal) h) = cube fun r a l => A r (a * 128 + l) := by
  funext y
  obtain ⟨r, a, l, rfl⟩ : ∃ (r : Fin 8192) (a : Fin 8) (l : Fin 128), y = ix3 r a l := ⟨_, _, _, eq_ix3 y⟩
  have hl := l.isLt
  have ha := a.isLt
  refine (shapeCast_apply (mat A : S8192x1024.Idx → EReal) h (ix3 r a l) (ix2 r ⟨a.val * 128 + l.val, by omega⟩) ?_).trans rfl
  rw [Shape.rowMajor_val_three, Shape.rowMajor_val_two]
  show r.val * 1024 + (a.val * 128 + l.val) = (r.val * 8 + a.val) * 128 + l.val
  omega

theorem heads64 (A : ℕ → ℕ → ℝ) (h : Shape.ShapeCasts S8192x512 S8192x8x64) :
    (shapeCast S8192x8x64 (mat A : S8192x512.Idx → EReal) h) = cube fun r a l => A r (a * 64 + l) := by
  funext y
  obtain ⟨r, a, l, rfl⟩ : ∃ (r : Fin 8192) (a : Fin 8) (l : Fin 64), y = ix3 r a l := ⟨_, _, _, eq_ix3 y⟩
  have hl := l.isLt
  have ha := a.isLt
  refine (shapeCast_apply (mat A : S8192x512.Idx → EReal) h (ix3 r a l) (ix2 r ⟨a.val * 64 + l.val, by omega⟩) ?_).trans rfl
  rw [Shape.rowMajor_val_three, Shape.rowMajor_val_two]
  show r.val * 512 + (a.val * 64 + l.val) = (r.val * 8 + a.val) * 64 + l.val
  omega

theorem cat_q (A B C : ℕ → ℕ → ℕ → ℝ) (h) :
    concatenate S8192x8x128 2 [⟨S8192x8x64, (cube A : S8192x8x64.Idx → EReal)⟩, ⟨S8192x8x32, (cube B : S8192x8x32.Idx → EReal)⟩, ⟨S8192x8x32, (cube C : S8192x8x32.Idx → EReal)⟩] h
      = cube fun r a l => if l < 64 then A r a l else if l < 96 then B r a (l - 64) else C r a (l - 96) := by
  funext y
  obtain ⟨r, a, l, rfl⟩ : ∃ (r : Fin 8192) (a : Fin 8) (l : Fin 128), y = ix3 r a l := ⟨_, _, _, eq_ix3 y⟩
  pointwise [cube]
  split_ifs <;> first | rfl | (exfalso; omega)

theorem cat_k (A B C D : ℕ → ℕ → ℕ → ℝ) (h) :
    concatenate S8192x8x128 2 [⟨S8192x8x64, (cube A : S8192x8x64.Idx → EReal)⟩, ⟨S8192x8x32, (cube B : S8192x8x32.Idx → EReal)⟩,
        ⟨S8192x8x2, (cube C : S8192x8x2.Idx → EReal)⟩, ⟨S8192x8x30, (cube D : S8192x8x30.Idx → EReal)⟩] h
      = cube fun r a l => if l < 64 then A r a l else if l < 96 then B r a (l - 64) else if l < 98 then C r a (l - 64 - 32) else D r a (l - 64 - 32 - 2) := by
  funext y
  obtain ⟨r, a, l, rfl⟩ : ∃ (r : Fin 8192) (a : Fin 8) (l : Fin 128), y = ix3 r a l := ⟨_, _, _, eq_ix3 y⟩
  pointwise [cube]
  split_ifs <;> first | rfl | (exfalso; omega)

theorem cat_v (A B C : ℕ → ℕ → ℕ → ℝ) (h) :
    concatenate S8192x8x128 2 [⟨S8192x8x2, (cube A : S8192x8x2.Idx → EReal)⟩, ⟨S8192x8x62, (cube B : S8192x8x62.Idx → EReal)⟩,
        ⟨S8192x8x64, (cube C : S8192x8x64.Idx → EReal)⟩] h
      = cube fun r a l => if l < 2 then A r a l else if l < 64 then B r a (l - 2) else C r a (l - 2 - 62) := by
  funext y
  obtain ⟨r, a, l, rfl⟩ : ∃ (r : Fin 8192) (a : Fin 8) (l : Fin 128), y = ix3 r a l := ⟨_, _, _, eq_ix3 y⟩
  pointwise [cube]
  split_ifs <;> first | rfl | (exfalso; omega)

theorem cat_d (A B C D : ℕ → ℕ → ℕ → ℝ) (h) :
    concatenate S8192x8x128 2 [⟨S8192x8x1, (cube A : S8192x8x1.Idx → EReal)⟩, ⟨S8192x8x1, (cube B : S8192x8x1.Idx → EReal)⟩,
        ⟨S8192x8x62, (cube C : S8192x8x62.Idx → EReal)⟩, ⟨S8192x8x64, (cube D : S8192x8x64.Idx → EReal)⟩] h
      = cube fun r a l => if l < 1 then A r a l else if l < 2 then B r a (l - 1) else if l < 64 then C r a (l - 1 - 1) else D r a (l - 1 - 1 - 62) := by
  funext y
  obtain ⟨r, a, l, rfl⟩ : ∃ (r : Fin 8192) (a : Fin 8) (l : Fin 128), y = ix3 r a l := ⟨_, _, _, eq_ix3 y⟩
  pointwise [cube]
  split_ifs <;> first | rfl | (exfalso; omega)

/-- A word's number all over an array. -/
theorem fill3 {t : Shape} (h : Shape.BroadcastsInDim S_ t ![]) (b : BitVec 32) (x : ℝ) (hb : Ideal.ofBits .f32 b = (x : EReal)) :
    broadcastInDim t ![] h (constant (F := Ideal) S_ .f32 b) = fun _ => (x : EReal) := by
  funext y
  exact hb

theorem ofBits_zero : Ideal.ofBits .f32 0x00000000#32 = ((0 : ℝ) : EReal) := by simp [Ideal.ofBits, Ideal.ieee]
theorem ofBits_one : Ideal.ofBits .f32 0x3F800000#32 = ((1 : ℝ) : EReal) := by
  simp [Ideal.ofBits, Ideal.ieee]; rw [← EReal.coe_mul]; norm_num
theorem ofBits_sc : Ideal.ofBits .f32 0x3DD105EC#32 = ((sc : ℝ) : EReal) := by
  unfold sc
  simp [Ideal.ofBits, Ideal.ieee]; norm_num [← EReal.coe_mul]

/-! ## The packed matrices -/

/-- The queries by head: 64 columns of the first part, 32 of the rotated one, 32 zeros. -/
def Qp (qn qr : ℕ → ℕ → ℕ → ℝ) (r l : ℕ) : ℝ :=
  if l % 128 < 64 then qn r (l / 128) (l % 128) else if l % 128 < 96 then qr r (l / 128) (l % 128 - 64) else 0
/-- The queries, scaled. -/
def Qs (qn qr : ℕ → ℕ → ℕ → ℝ) (r l : ℕ) : ℝ := Qp qn qr r l * (sc * (Real.log 2)⁻¹)
/-- The keys by head: the head's own 64 columns, the 32 rotated ones all heads share, two ones, 30 zeros. -/
def Kp (kn : ℕ → ℕ → ℕ → ℝ) (kr : ℕ → ℕ → ℝ) (r l : ℕ) : ℝ :=
  if l % 128 < 64 then kn r (l / 128) (l % 128) else if l % 128 < 96 then kr r (l % 128 - 64) else if l % 128 < 98 then 1 else 0
/-- The values by head: two ones, 62 zeros, the values. -/
def Up (v : ℕ → ℕ → ℕ → ℝ) (r l : ℕ) : ℝ :=
  if l % 128 < 2 then 1 else if l % 128 < 64 then 0 else v r (l / 128) (l % 128 - 2 - 62)
/-- The rows' sums of products of the cotangent with the output, by head. -/
def dlt (d y : ℕ → ℕ → ℝ) (r a : ℕ) : ℝ := ∑ k ∈ Finset.range 64, d r (a * 64 + k) * y r (a * 64 + k)
/-- The cotangent by head: less the sum of products, a zero, 62 zeros, the cotangent. -/
def Dp (d y : ℕ → ℕ → ℝ) (r l : ℕ) : ℝ :=
  if l % 128 < 1 then -(dlt d y r (l / 128)) else if l % 128 < 64 then 0 else d r (l / 128 * 64 + (l % 128 - 1 - 1 - 62))

variable (m : (ℓ : Loc nD τ sig) → Buf (Elt Ideal) ℓ) (ρ : Dev nD → PrngReg) (c : Dev nD)

theorem q_ops : (W1 m ρ c (Proc.devRef .tc main_v2) : FVec Ideal S8192x1024 .f32)
    = shapeCast S8192x1024 (concatenate S8192x8x128 2 [⟨S8192x8x64, (m ((c : Thread nD τ).loc main_arg0) : FVec Ideal S8192x8x64 .f32)⟩,
        ⟨S8192x8x32, (m ((c : Thread nD τ).loc main_arg1) : FVec Ideal S8192x8x32 .f32)⟩,
        ⟨S8192x8x32, broadcastInDim S8192x8x32 ![] bcast_S_S8192x8x32 (constant (F := Ideal) S_ .f32 0x00000000#32)⟩]
        concatenates_S8192x8x64_S8192x8x32_S8192x8x32_S8192x8x128_d2) shapeCasts_S8192x8x128_S8192x1024 := by
  unfold W1
  after_results
  rfl

theorem q_packed (qn qr : ℕ → ℕ → ℕ → ℝ) (h0 : (m ((c : Thread nD τ).loc main_arg0) : FVec Ideal S8192x8x64 .f32) = cube qn)
    (h1 : (m ((c : Thread nD τ).loc main_arg1) : FVec Ideal S8192x8x32 .f32) = cube qr) :
    (W1 m ρ c (Proc.devRef .tc main_v2) : FVec Ideal S8192x1024 .f32) = mat (Qp qn qr) := by
  refine (q_ops m ρ c).trans ?_
  rw [h0, h1, fill3 _ _ 0 ofBits_zero]
  exact (congrArg (fun x => shapeCast S8192x1024 x shapeCasts_S8192x8x128_S8192x1024) (cat_q qn qr (fun _ _ _ => 0) concatenates_S8192x8x64_S8192x8x32_S8192x8x32_S8192x8x128_d2)).trans (flat128 _ _)

theorem k_ops : (W3 m ρ c (Proc.devRef .tc main_v10) : FVec Ideal S8192x1024 .bf16)
    = truncf (F := Ideal) .bf16 (shapeCast S8192x1024 (concatenate S8192x8x128 2 [⟨S8192x8x64, (W2 m ρ c (Proc.devRef .tc main_arg2) : FVec Ideal S8192x8x64 .f32)⟩,
        ⟨S8192x8x32, broadcastInDim S8192x8x32 ![0, 1, 2] bcast_S8192x1x32_S8192x8x32_0_1_2 (broadcastInDim S8192x1x32 ![0, 2] bcast_S8192x32_S8192x1x32_0_2 (W2 m ρ c (Proc.devRef .tc main_arg3) : FVec Ideal S8192x32 .f32))⟩,
        ⟨S8192x8x2, broadcastInDim S8192x8x2 ![] bcast_S_S8192x8x2 (constant (F := Ideal) S_ .f32 0x3F800000#32)⟩,
        ⟨S8192x8x30, broadcastInDim S8192x8x30 ![] bcast_S_S8192x8x30 (constant (F := Ideal) S_ .f32 0x00000000#32)⟩]
        concatenates_S8192x8x64_S8192x8x32_S8192x8x2_S8192x8x30_S8192x8x128_d2) shapeCasts_S8192x8x128_S8192x1024) bitsLt_bf16_f32 := by
  unfold W3
  after_results
  rfl

theorem k_packed (kn : ℕ → ℕ → ℕ → ℝ) (kr : ℕ → ℕ → ℝ) (h2 : (m ((c : Thread nD τ).loc main_arg2) : FVec Ideal S8192x8x64 .f32) = cube kn)
    (h3 : (m ((c : Thread nD τ).loc main_arg3) : FVec Ideal S8192x32 .f32) = mat kr) :
    (W3 m ρ c (Proc.devRef .tc main_v10) : FVec Ideal S8192x1024 .bf16) = mat (Kp kn kr) := by
  refine (k_ops m ρ c).trans ?_
  rw [(W2_args m ρ c main_arg2 (by decide)).trans h2, (W2_args m ρ c main_arg3 (by decide)).trans h3, fill3 _ _ 0 ofBits_zero, fill3 _ _ 1 ofBits_one,
    show broadcastInDim S8192x8x32 ![0, 1, 2] bcast_S8192x1x32_S8192x8x32_0_1_2 (broadcastInDim S8192x1x32 ![0, 2] bcast_S8192x32_S8192x1x32_0_2 (mat kr : FVec Ideal S8192x32 .f32))
      = (cube fun r _ l => kr r l : FVec Ideal S8192x8x32 .f32) from by funext y; rfl]
  exact (congrArg (fun x => shapeCast S8192x1024 x shapeCasts_S8192x8x128_S8192x1024) (cat_k kn (fun r _ l => kr r l) (fun _ _ _ => 1) (fun _ _ _ => 0) concatenates_S8192x8x64_S8192x8x32_S8192x8x2_S8192x8x30_S8192x8x128_d2)).trans (flat128 _ _)

theorem v_ops : (W3 m ρ c (Proc.devRef .tc main_v15) : FVec Ideal S8192x1024 .bf16)
    = truncf (F := Ideal) .bf16 (shapeCast S8192x1024 (concatenate S8192x8x128 2 [
        ⟨S8192x8x2, broadcastInDim S8192x8x2 ![] bcast_S_S8192x8x2 (constant (F := Ideal) S_ .f32 0x3F800000#32)⟩,
        ⟨S8192x8x62, broadcastInDim S8192x8x62 ![] bcast_S_S8192x8x62 (constant (F := Ideal) S_ .f32 0x00000000#32)⟩,
        ⟨S8192x8x64, (W2 m ρ c (Proc.devRef .tc main_arg4) : FVec Ideal S8192x8x64 .f32)⟩]
        concatenates_S8192x8x2_S8192x8x62_S8192x8x64_S8192x8x128_d2) shapeCasts_S8192x8x128_S8192x1024) bitsLt_bf16_f32 := by
  unfold W3
  after_results
  rfl

theorem v_packed (v : ℕ → ℕ → ℕ → ℝ) (h4 : (m ((c : Thread nD τ).loc main_arg4) : FVec Ideal S8192x8x64 .f32) = cube v) :
    (W3 m ρ c (Proc.devRef .tc main_v15) : FVec Ideal S8192x1024 .bf16) = mat (Up v) := by
  refine (v_ops m ρ c).trans ?_
  rw [(W2_args m ρ c main_arg4 (by decide)).trans h4, fill3 _ _ 0 ofBits_zero, fill3 _ _ 1 ofBits_one]
  exact (congrArg (fun x => shapeCast S8192x1024 x shapeCasts_S8192x8x128_S8192x1024) (cat_v (fun _ _ _ => 1) (fun _ _ _ => 0) v concatenates_S8192x8x2_S8192x8x62_S8192x8x64_S8192x8x128_d2)).trans (flat128 _ _)

/-- The rows' sums of products of the cotangent with the output, by head. -/
def delta (d y : FVec Ideal S8192x512 .f32) : FVec Ideal S8192x8x1 .f32 :=
  broadcastInDim S8192x8x1 ![0, 1] bcast_S8192x8_S8192x8x1_0_1 (Host.reduceAdd (F := Ideal)
    (mulf (shapeCast S8192x8x64 d shapeCasts_S8192x512_S8192x8x64) (shapeCast S8192x8x64 y shapeCasts_S8192x512_S8192x8x64))
    (constant (F := Ideal) S_ .f32 0x00000000#32) reducesTo_S8192x8x64_S8192x8_d2 h_S_)

theorem d_ops : (W5 m ρ c (Proc.devRef .tc main_v32) : FVec Ideal S8192x1024 .bf16)
    = shapeCast S8192x1024 (concatenate S8192x8x128 2 [
        ⟨S8192x8x1, Host.negf (F := Ideal) (truncf .bf16 (delta (W4 m ρ c (Proc.devRef .tc main_arg5)) (W4 m ρ c (Proc.devRef .tc main_v16_0))) bitsLt_bf16_f32)⟩,
        ⟨S8192x8x1, Host.negf (F := Ideal) (truncf .bf16 (subf (delta (W4 m ρ c (Proc.devRef .tc main_arg5)) (W4 m ρ c (Proc.devRef .tc main_v16_0)))
            (extf .f32 (truncf .bf16 (delta (W4 m ρ c (Proc.devRef .tc main_arg5)) (W4 m ρ c (Proc.devRef .tc main_v16_0))) bitsLt_bf16_f32) bitsLt_bf16_f32)) bitsLt_bf16_f32)⟩,
        ⟨S8192x8x62, truncf (F := Ideal) .bf16 (broadcastInDim S8192x8x62 ![] bcast_S_S8192x8x62 (constant (F := Ideal) S_ .f32 0x00000000#32)) bitsLt_bf16_f32⟩,
        ⟨S8192x8x64, truncf (F := Ideal) .bf16 (shapeCast S8192x8x64 (W4 m ρ c (Proc.devRef .tc main_arg5) : FVec Ideal S8192x512 .f32) shapeCasts_S8192x512_S8192x8x64) bitsLt_bf16_f32⟩]
        concatenates_S8192x8x1_S8192x8x1_S8192x8x62_S8192x8x64_S8192x8x128_d2) shapeCasts_S8192x8x128_S8192x1024 := by
  unfold W5
  after_results
  rfl

theorem delta_real (d y : ℕ → ℕ → ℝ) : delta (mat d) (mat y) = (cube fun r a _ => dlt d y r a : FVec Ideal S8192x8x1 .f32) := by
  funext j
  obtain ⟨r, a, l, rfl⟩ : ∃ (r : Fin 8192) (a : Fin 8) (l : Fin 1), j = ix3 r a l := ⟨_, _, _, eq_ix3 j⟩
  unfold delta
  rw [heads64, heads64]
  pointwise [cube]
  simp only [← EReal.coe_mul]
  exact sum_fin 64 fun k => d r (a * 64 + k) * y r (a * 64 + k)

theorem d_packed (d y : ℕ → ℕ → ℝ) (h5 : (m ((c : Thread nD τ).loc main_arg5) : FVec Ideal S8192x512 .f32) = mat d)
    (hy : (W4 m ρ c (Proc.devRef .tc main_v16_0) : FVec Ideal S8192x512 .f32) = mat y) :
    (W5 m ρ c (Proc.devRef .tc main_v32) : FVec Ideal S8192x1024 .bf16) = mat (Dp d y) := by
  refine (d_ops m ρ c).trans ?_
  rw [(W4_args m ρ c main_arg5 (by decide)).trans h5, hy, delta_real, heads64, fill3 _ _ 0 ofBits_zero,
    show Host.negf (F := Ideal) (truncf .bf16 (cube fun r a _ => dlt d y r a : FVec Ideal S8192x8x1 .f32) bitsLt_bf16_f32) = (cube fun r a _ => -(dlt d y r a) : FVec Ideal S8192x8x1 .bf16)
      from by funext y; rfl,
    show Host.negf (F := Ideal) (truncf .bf16 (subf (cube fun r a _ => dlt d y r a : FVec Ideal S8192x8x1 .f32) (extf .f32 (truncf .bf16 (cube fun r a _ => dlt d y r a : FVec Ideal S8192x8x1 .f32) bitsLt_bf16_f32) bitsLt_bf16_f32)) bitsLt_bf16_f32)
        = (cube fun r a _ => 0 : FVec Ideal S8192x8x1 .bf16)
      from by
        funext j
        show -(((_ : ℝ) : EReal) - ((_ : ℝ) : EReal)) = ((0 : ℝ) : EReal)
        rw [← EReal.coe_sub, ← EReal.coe_neg, sub_self, neg_zero]]
  refine (congrArg (fun x => shapeCast S8192x1024 x shapeCasts_S8192x8x128_S8192x1024) (cat_d (fun r a _ => -(dlt d y r a)) (fun _ _ _ => 0) (fun _ _ _ => 0) (fun r a l => d r (a * 64 + l)) concatenates_S8192x8x1_S8192x8x1_S8192x8x62_S8192x8x64_S8192x8x128_d2)).trans ((flat128 _ _).trans ?_)
  congr 1
  funext r l
  unfold Dp
  split_ifs <;> first | rfl | (exfalso; omega)

/-! ## What is taken out of the packed gradients -/

theorem dq_ops : (W7 m ρ c (Proc.devRef .tc main_v36) : FVec Ideal S8192x8x128 .f32)
    = mulf (F := Ideal) (shapeCast S8192x8x128 (W6 m ρ c (Proc.devRef .tc main_v33_0) : FVec Ideal S8192x1024 .f32) shapeCasts_S8192x1024_S8192x8x128)
        (broadcastInDim S8192x8x128 ![] bcast_S_S8192x8x128 (constant (F := Ideal) S_ .f32 0x3DD105EC#32)) := by
  unfold W7
  after_results
  rfl

theorem dqn_ops : (W9 m ρ c (Proc.devRef .tc main_v40) : FVec Ideal S8192x8x64 .f32)
    = extractStridedSlice S8192x8x64 ![0, 0, 0] (W8 m ρ c (Proc.devRef .tc main_v36) : FVec Ideal S8192x8x128 .f32) slices_S8192x8x128_S8192x8x64_0_0_0 := by
  unfold W9
  after_results

theorem dqr_ops : (W9 m ρ c (Proc.devRef .tc main_v41) : FVec Ideal S8192x8x32 .f32)
    = extractStridedSlice S8192x8x32 ![0, 0, 64] (W8 m ρ c (Proc.devRef .tc main_v36) : FVec Ideal S8192x8x128 .f32) slices_S8192x8x128_S8192x8x32_0_0_64 := by
  unfold W9
  after_results

theorem dkn_ops : (W9 m ρ c (Proc.devRef .tc main_v42) : FVec Ideal S8192x8x64 .f32)
    = extractStridedSlice S8192x8x64 ![0, 0, 0] (shapeCast S8192x8x128 (W8 m ρ c (Proc.devRef .tc main_v37) : FVec Ideal S8192x1024 .f32) shapeCasts_S8192x1024_S8192x8x128)
        slices_S8192x8x128_S8192x8x64_0_0_0 := by
  unfold W9
  after_results
  rfl

theorem dkr_ops : (W9 m ρ c (Proc.devRef .tc main_v44) : FVec Ideal S8192x32 .f32)
    = Host.reduceAdd (F := Ideal) (extractStridedSlice S8192x8x32 ![0, 0, 64] (shapeCast S8192x8x128 (W8 m ρ c (Proc.devRef .tc main_v37) : FVec Ideal S8192x1024 .f32) shapeCasts_S8192x1024_S8192x8x128)
        slices_S8192x8x128_S8192x8x32_0_0_64) (constant (F := Ideal) S_ .f32 0x00000000#32) reducesTo_S8192x8x32_S8192x32_d1 h_S_ := by
  unfold W9
  after_results
  rfl

theorem dv_ops : (W9 m ρ c (Proc.devRef .tc main_v45) : FVec Ideal S8192x8x64 .f32)
    = extractStridedSlice S8192x8x64 ![0, 0, 64] (shapeCast S8192x8x128 (W8 m ρ c (Proc.devRef .tc main_v33_2) : FVec Ideal S8192x1024 .f32) shapeCasts_S8192x1024_S8192x8x128)
        slices_S8192x8x128_S8192x8x64_0_0_64 := by
  unfold W9
  after_results
  rfl

section Taken
variable (A : ℕ → ℕ → ℝ)

theorem dq_taken (h : (W6 m ρ c (Proc.devRef .tc main_v33_0) : FVec Ideal S8192x1024 .f32) = mat A) :
    (W8 m ρ c (Proc.devRef .tc main_v36) : FVec Ideal S8192x8x128 .f32) = cube fun r a l => A r (a * 128 + l) * sc := by
  refine (W8_of m ρ c main_v36 (by decide)).trans ((dq_ops m ρ c).trans ?_)
  rw [h, heads128, fill3 _ _ sc ofBits_sc]
  funext j
  rfl

theorem dqn_taken (h : (W6 m ρ c (Proc.devRef .tc main_v33_0) : FVec Ideal S8192x1024 .f32) = mat A) :
    (W9 m ρ c (Proc.devRef .tc main_v40) : FVec Ideal S8192x8x64 .f32) = cube fun r a l => A r (a * 128 + l) * sc := by
  refine (dqn_ops m ρ c).trans ?_
  rw [dq_taken m ρ c A h]
  funext j
  obtain ⟨r, a, l, rfl⟩ : ∃ (r : Fin 8192) (a : Fin 8) (l : Fin 64), j = ix3 r a l := ⟨_, _, _, eq_ix3 j⟩
  pointwise [cube]

theorem dqr_taken (h : (W6 m ρ c (Proc.devRef .tc main_v33_0) : FVec Ideal S8192x1024 .f32) = mat A) :
    (W9 m ρ c (Proc.devRef .tc main_v41) : FVec Ideal S8192x8x32 .f32) = cube fun r a l => A r (a * 128 + (64 + l)) * sc := by
  refine (dqr_ops m ρ c).trans ?_
  rw [dq_taken m ρ c A h]
  funext j
  obtain ⟨r, a, l, rfl⟩ : ∃ (r : Fin 8192) (a : Fin 8) (l : Fin 32), j = ix3 r a l := ⟨_, _, _, eq_ix3 j⟩
  pointwise [cube]

theorem dkn_taken (h : (W8 m ρ c (Proc.devRef .tc main_v37) : FVec Ideal S8192x1024 .f32) = mat A) :
    (W9 m ρ c (Proc.devRef .tc main_v42) : FVec Ideal S8192x8x64 .f32) = cube fun r a l => A r (a * 128 + l) := by
  refine (dkn_ops m ρ c).trans ?_
  rw [h, heads128]
  funext j
  obtain ⟨r, a, l, rfl⟩ : ∃ (r : Fin 8192) (a : Fin 8) (l : Fin 64), j = ix3 r a l := ⟨_, _, _, eq_ix3 j⟩
  pointwise [cube]

theorem dkr_taken (h : (W8 m ρ c (Proc.devRef .tc main_v37) : FVec Ideal S8192x1024 .f32) = mat A) :
    (W9 m ρ c (Proc.devRef .tc main_v44) : FVec Ideal S8192x32 .f32) = mat fun r l => ∑ a ∈ Finset.range 8, A r (a * 128 + (64 + l)) := by
  refine (dkr_ops m ρ c).trans ?_
  rw [h, heads128]
  funext j
  obtain ⟨r, l, rfl⟩ : ∃ (r : Fin 8192) (l : Fin 32), j = ix2 r l := ⟨_, _, eq_ix2 j⟩
  pointwise [cube]
  exact sum_fin 8 fun a => A r (a * 128 + (64 + l))

theorem dv_taken (h : (W8 m ρ c (Proc.devRef .tc main_v33_2) : FVec Ideal S8192x1024 .f32) = mat A) :
    (W9 m ρ c (Proc.devRef .tc main_v45) : FVec Ideal S8192x8x64 .f32) = cube fun r a l => A r (a * 128 + (64 + l)) := by
  refine (dv_ops m ρ c).trans ?_
  rw [h, heads128]
  funext j
  obtain ⟨r, a, l, rfl⟩ : ∃ (r : Fin 8192) (a : Fin 8) (l : Fin 64), j = ix3 r a l := ⟨_, _, _, eq_ix3 j⟩
  pointwise [cube]
end Taken

end Cert.KernelIdeal.MlaHost
end
-- ==== Proof.MlaMath.lean ====
/- The attention and its gradient over the real numbers, head by head, and that the sums the kernels form over their
   packed columns are the same numbers. -/
module

public import proofs.«01_k».proof.Proof.MlaHost

@[expose] public section

set_option maxRecDepth 16384

noncomputable section

namespace Cert.Mla

open Cert.Mats Cert.KernelIdeal.MlaFwd Cert.KernelIdeal.MlaBwd Cert.KernelIdeal.MlaArrays Cert.KernelIdeal.MlaScale Cert.KernelIdeal.MlaHost

/-! ## The attention and its gradient -/

section Spec
variable (qn qr kn : ℕ → ℕ → ℕ → ℝ) (kr : ℕ → ℕ → ℝ) (v : ℕ → ℕ → ℕ → ℝ) (d : ℕ → ℕ → ℝ)

/-- The scaled score of query `r` and key `x` in head `a`. -/
def logit (a r x : ℕ) : ℝ := ((∑ k ∈ Finset.range 64, qn r a k * kn x a k) + ∑ k ∈ Finset.range 32, kr x k * qr r a k) * sc
/-- The sum of the scores' exponentials over the keys, and the softmax weight. -/
def Z (a r : ℕ) : ℝ := ∑ x ∈ Finset.range 8192, Real.exp (logit qn qr kn kr a r x)
def prob (a r x : ℕ) : ℝ := Real.exp (logit qn qr kn kr a r x) / Z qn qr kn kr a r
/-- The output. -/
def out (r a k : ℕ) : ℝ := ∑ x ∈ Finset.range 8192, v x a k * prob qn qr kn kr a r x
/-- The gradient of a weight and, times the scale, of a score before it is scaled. -/
def dprob (a r x : ℕ) : ℝ := ∑ k ∈ Finset.range 64, d r (a * 64 + k) * v x a k
def dscore (a r x : ℕ) : ℝ := prob qn qr kn kr a r x
  * (dprob v d a r x - ∑ z ∈ Finset.range 8192, dprob v d a r z * prob qn qr kn kr a r z)
/-- The gradients of the arguments. -/
def gqn (r a k : ℕ) : ℝ := ∑ x ∈ Finset.range 8192, dscore qn qr kn kr v d a r x * sc * kn x a k
def gqr (r a k : ℕ) : ℝ := ∑ x ∈ Finset.range 8192, dscore qn qr kn kr v d a r x * sc * kr x k
def gkn (x a k : ℕ) : ℝ := ∑ r ∈ Finset.range 8192, dscore qn qr kn kr v d a r x * sc * qn r a k
def gkr (x k : ℕ) : ℝ := ∑ a ∈ Finset.range 8, ∑ r ∈ Finset.range 8192, dscore qn qr kn kr v d a r x * sc * qr r a k
def gv (x a k : ℕ) : ℝ := ∑ r ∈ Finset.range 8192, d r (a * 64 + k) * prob qn qr kn kr a r x

theorem Z_pos (a r : ℕ) : 0 < Z qn qr kn kr a r := Finset.sum_pos (fun _ _ => Real.exp_pos _) ⟨0, by simp⟩
end Spec

/-! ## The columns of a head -/

theorem lane_mod (a l : ℕ) (h : l < 128) : (128 * a + l) % 128 = l := by omega
theorem lane_div (a l : ℕ) (h : l < 128) : (128 * a + l) / 128 = a := by omega

/-- A sum over a head's columns, cut where the packing of queries and keys is; -/
theorem sum_qk (f : ℕ → ℝ) : ∑ l ∈ Finset.range 128, f l
    = ((∑ k ∈ Finset.range 64, f k) + ∑ k ∈ Finset.range 32, f (64 + k)) + (f 96 + (f 97 + ∑ k ∈ Finset.range 30, f (98 + k))) := by
  rw [show (128 : ℕ) = 64 + 32 + (1 + (1 + 30)) from rfl, Finset.sum_range_add, Finset.sum_range_add, Finset.sum_range_add, Finset.sum_range_add,
    Finset.sum_range_one, Finset.sum_range_one]
  simp only [← Nat.add_assoc, Nat.add_zero, Nat.reduceAdd]

/-- and where the packing of values is. -/
theorem sum_v (f : ℕ → ℝ) : ∑ l ∈ Finset.range 128, f l
    = f 0 + (f 1 + ((∑ k ∈ Finset.range 62, f (2 + k)) + ∑ k ∈ Finset.range 64, f (64 + k))) := by
  rw [show (128 : ℕ) = 1 + (1 + (62 + 64)) from rfl, Finset.sum_range_add, Finset.sum_range_add, Finset.sum_range_add,
    Finset.sum_range_one, Finset.sum_range_one]
  simp only [← Nat.add_assoc, Nat.add_zero, Nat.reduceAdd]

theorem two_rpow (x : ℝ) : (2 : ℝ) ^ (x * (Real.log 2)⁻¹) = Real.exp x := by
  rw [Real.rpow_def_of_pos two_pos]
  have h : Real.log 2 ≠ 0 := Real.log_ne_zero_of_pos_of_ne_one two_pos (by norm_num)
  congr 1
  field_simp

section Eqs
variable (qn qr kn : ℕ → ℕ → ℕ → ℝ) (kr : ℕ → ℕ → ℝ) (v : ℕ → ℕ → ℕ → ℝ) (d : ℕ → ℕ → ℝ)

/-! ## The packed matrices at a head's columns -/

theorem Qs_n (r a k : ℕ) (h : k < 64) : Qs qn qr r (128 * a + k) = qn r a k * (sc * (Real.log 2)⁻¹) := by
  unfold Qs Qp
  rw [lane_mod a k (by omega), lane_div a k (by omega), if_pos h]
theorem Qs_r (r a k : ℕ) (h : k < 32) : Qs qn qr r (128 * a + (64 + k)) = qr r a k * (sc * (Real.log 2)⁻¹) := by
  unfold Qs Qp
  rw [lane_mod a _ (by omega), lane_div a _ (by omega), if_neg (by omega), if_pos (by omega), Nat.add_sub_cancel_left]
theorem Qs_o (r a k : ℕ) (h : 96 ≤ k) (h' : k < 128) : Qs qn qr r (128 * a + k) = 0 := by
  unfold Qs Qp
  rw [lane_mod a _ h', lane_div a _ h', if_neg (by omega), if_neg (by omega), zero_mul]
theorem Kp_n (x a k : ℕ) (h : k < 64) : Kp kn kr x (128 * a + k) = kn x a k := by
  unfold Kp
  rw [lane_mod a k (by omega), lane_div a k (by omega), if_pos h]
theorem Kp_r (x a k : ℕ) (h : k < 32) : Kp kn kr x (128 * a + (64 + k)) = kr x k := by
  unfold Kp
  rw [lane_mod a _ (by omega), if_neg (by omega), if_pos (by omega), Nat.add_sub_cancel_left]
theorem Kp_1 (x a k : ℕ) (h : 96 ≤ k) (h' : k < 98) : Kp kn kr x (128 * a + k) = 1 := by
  unfold Kp
  rw [lane_mod a _ (by omega), if_neg (by omega), if_neg (by omega), if_pos h']
theorem Kp_0 (x a k : ℕ) (h : 98 ≤ k) (h' : k < 128) : Kp kn kr x (128 * a + k) = 0 := by
  unfold Kp
  rw [lane_mod a _ h', if_neg (by omega), if_neg (by omega), if_neg (by omega)]
theorem Up_1 (x a k : ℕ) (h : k < 2) : Up v x (128 * a + k) = 1 := by
  unfold Up
  rw [lane_mod a _ (by omega), if_pos h]
theorem Up_0 (x a k : ℕ) (h : 2 ≤ k) (h' : k < 64) : Up v x (128 * a + k) = 0 := by
  unfold Up
  rw [lane_mod a _ (by omega), if_neg (by omega), if_pos h']
theorem Up_v (x a k : ℕ) (h : k < 64) : Up v x (128 * a + (64 + k)) = v x a k := by
  unfold Up
  rw [lane_mod a _ (by omega), lane_div a _ (by omega), if_neg (by omega), if_neg (by omega)]
  congr 1; omega
theorem Dp_0 (y : ℕ → ℕ → ℝ) (r a : ℕ) : Dp d y r (128 * a) = -(dlt d y r a) := by
  unfold Dp
  rw [show 128 * a % 128 = 0 by omega, show 128 * a / 128 = a by omega, if_pos (by omega)]
theorem Dp_1 (y : ℕ → ℕ → ℝ) (r a k : ℕ) (h : 1 ≤ k) (h' : k < 64) : Dp d y r (128 * a + k) = 0 := by
  unfold Dp
  rw [lane_mod a _ (by omega), if_neg (by omega), if_pos h']
theorem Dp_d (y : ℕ → ℕ → ℝ) (r a k : ℕ) (h : k < 64) : Dp d y r (128 * a + (64 + k)) = d r (a * 64 + k) := by
  unfold Dp
  rw [lane_mod a _ (by omega), lane_div a _ (by omega), if_neg (by omega), if_neg (by omega)]
  congr 1; omega

/-! ## The kernels' sums -/

theorem score_eq (a r x : ℕ) :
    score (fun r l => Qs qn qr r (128 * a + l)) (fun x l => Kp kn kr x (128 * a + l)) r x = logit qn qr kn kr a r x * (Real.log 2)⁻¹ := by
  unfold score logit
  rw [sum_qk]
  beta_reduce
  rw [Qs_o _ _ _ _ 96 (by omega) (by omega), Qs_o _ _ _ _ 97 (by omega) (by omega),
    Finset.sum_congr rfl fun k hk => by rw [Qs_n qn qr r a k (Finset.mem_range.mp hk), Kp_n kn kr x a k (Finset.mem_range.mp hk)],
    Finset.sum_congr (s₁ := Finset.range 32) rfl fun k hk => by rw [Qs_r qn qr r a k (Finset.mem_range.mp hk), Kp_r kn kr x a k (Finset.mem_range.mp hk)],
    Finset.sum_congr (s₁ := Finset.range 30) rfl fun k hk => by rw [Qs_o qn qr r a (98 + k) (by omega) (by have := Finset.mem_range.mp hk; omega), zero_mul],
    Finset.sum_const_zero, zero_mul, zero_mul, add_zero, add_zero, add_zero, add_mul, add_mul, Finset.sum_mul, Finset.sum_mul, Finset.sum_mul, Finset.sum_mul]
  congr 1 <;> exact Finset.sum_congr rfl fun k _ => by ring

theorem wt_eq (a r x : ℕ) : wt (Qs qn qr) (Kp kn kr) a r x = Real.exp (logit qn qr kn kr a r x) := by
  unfold wt
  rw [score_eq, two_rpow]

theorem den_eq (a r : ℕ) : den (Qs qn qr) (Kp kn kr) a r = Z qn qr kn kr a r :=
  Finset.sum_congr rfl fun x _ => wt_eq qn qr kn kr a r x

theorem outY_eq (r a k : ℕ) (h : k < 64) : outY (Qs qn qr) (Kp kn kr) (Up v) r (a * 64 + k) = out qn qr kn kr v r a k := by
  unfold outY avg out
  rw [show (a * 64 + k) / 64 = a by omega, show (a * 64 + k) % 64 = k by omega, den_eq, Finset.sum_div]
  refine Finset.sum_congr rfl fun x _ => ?_
  rw [wt_eq, Up_v v x a k h]
  unfold prob
  ring

/-- The forward kernel's augmented queries times the keys: the scores less the logarithms of their sums. -/
theorem pwH_eq (a r x : ℕ) : pwH (Kp kn kr) (outQ (Qs qn qr) (Kp kn kr)) a x r = prob qn qr kn kr a r x := by
  have e : dotL (hd (Kp kn kr) a) (hd (outQ (Qs qn qr) (Kp kn kr)) a) x r
      = score (fun r l => Qs qn qr r (128 * a + l)) (fun x l => Kp kn kr x (128 * a + l)) r x - Real.log (Z qn qr kn kr a r) * (Real.log 2)⁻¹ := by
    have ho : ∀ l < 128, l ≠ 96 → l ≠ 97 → outQ (Qs qn qr) (Kp kn kr) r (128 * a + l) = Qs qn qr r (128 * a + l) := fun l hl h1 h2 => by
      unfold outQ aug
      rw [lane_mod a l hl, if_neg h1, if_neg h2]
    have h96 : outQ (Qs qn qr) (Kp kn kr) r (128 * a + 96) = -(Real.log (Z qn qr kn kr a r) * (Real.log 2)⁻¹) := by
      unfold outQ aug
      rw [lane_mod a 96 (by omega), lane_div a 96 (by omega), if_pos rfl, den_eq]
    have h97 : outQ (Qs qn qr) (Kp kn kr) r (128 * a + 97) = 0 := by
      unfold outQ aug
      rw [lane_mod a 97 (by omega), if_neg (by omega), if_pos rfl]
    unfold dotL score hd
    rw [sum_qk, sum_qk (fun l => Qs qn qr r (128 * a + l) * _), h96, h97, Qs_o _ _ _ _ 96 (by omega) (by omega), Qs_o _ _ _ _ 97 (by omega) (by omega), Kp_1 kn kr x a 96 (by omega) (by omega),
      Finset.sum_congr rfl fun k hk => by rw [ho k (by have := Finset.mem_range.mp hk; omega) (by have := Finset.mem_range.mp hk; omega) (by have := Finset.mem_range.mp hk; omega)],
      Finset.sum_congr (s₁ := Finset.range 32) rfl fun k hk => by rw [ho (64 + k) (by have := Finset.mem_range.mp hk; omega) (by have := Finset.mem_range.mp hk; omega) (by have := Finset.mem_range.mp hk; omega)],
      Finset.sum_congr (s₁ := Finset.range 30) rfl fun k hk => by rw [ho (98 + k) (by have := Finset.mem_range.mp hk; omega) (by omega) (by omega)]]
    simp only [mul_comm (Qs qn qr r _)]
    ring
  unfold pwH pw
  rw [e, score_eq, ← sub_mul, two_rpow, Real.exp_sub, Real.exp_log (Z_pos qn qr kn kr a r)]
  rfl

/-- The sum of products the host forms is the weighted sum of the weights' gradients. -/
theorem dlt_eq (y : ℕ → ℕ → ℝ) (r a : ℕ) (hy : ∀ k < 64, y r (a * 64 + k) = out qn qr kn kr v r a k) :
    dlt d y r a = ∑ z ∈ Finset.range 8192, dprob v d a r z * prob qn qr kn kr a r z := by
  unfold dlt dprob
  rw [Finset.sum_congr rfl fun k hk => by rw [hy k (Finset.mem_range.mp hk)]]
  unfold out
  simp only [Finset.mul_sum, Finset.sum_mul]
  rw [Finset.sum_comm]
  exact Finset.sum_congr rfl fun z _ => Finset.sum_congr rfl fun k _ => by ring

theorem dsH_eq (y : ℕ → ℕ → ℝ) (a r x : ℕ) (hy : ∀ k < 64, y r (a * 64 + k) = out qn qr kn kr v r a k) :
    dsH (Kp kn kr) (outQ (Qs qn qr) (Kp kn kr)) (Up v) (Dp d y) a x r = dscore qn qr kn kr v d a r x := by
  have e : dotL (hd (Up v) a) (hd (Dp d y) a) x r = dprob v d a r x - dlt d y r a := by
    unfold dotL hd dprob
    rw [sum_v, Up_1 v x a 0 (by omega), Nat.add_zero, Dp_0, Dp_1 d y r a 1 (by omega) (by omega),
      Finset.sum_congr rfl fun k hk => by rw [Up_0 v x a (2 + k) (by omega) (by have := Finset.mem_range.mp hk; omega), zero_mul],
      Finset.sum_congr (s₁ := Finset.range 64) rfl fun k hk => by rw [Up_v v x a k (Finset.mem_range.mp hk), Dp_d d y r a k (Finset.mem_range.mp hk)],
      Finset.sum_const_zero]
    simp only [mul_comm (v x a _)]
    ring
  show pwH _ _ a x r * dotL (hd (Up v) a) (hd (Dp d y) a) x r = _
  rw [e, pwH_eq, dlt_eq qn qr kn kr v d y r a hy]
  rfl

/-! ## The results -/

variable (y : ℕ → ℕ → ℝ) (hy : ∀ r a, ∀ k < 64, y r (a * 64 + k) = out qn qr kn kr v r a k)

include hy in
theorem gqn_eq (r a k : ℕ) (h : k < 64) :
    outDq (Kp kn kr) (outQ (Qs qn qr) (Kp kn kr)) (Up v) (Dp d y) r (a * 128 + k) * sc = gqn qn qr kn kr v d r a k := by
  unfold outDq gqn
  rw [mul_comm a 128, lane_div a k (by omega), Finset.sum_mul]
  refine Finset.sum_congr rfl fun x _ => ?_
  rw [dsH_eq qn qr kn kr v d y a r x (hy r a), Kp_n kn kr x a k h]
  ring

include hy in
theorem gqr_eq (r a k : ℕ) (h : k < 32) :
    outDq (Kp kn kr) (outQ (Qs qn qr) (Kp kn kr)) (Up v) (Dp d y) r (a * 128 + (64 + k)) * sc = gqr qn qr kn kr v d r a k := by
  unfold outDq gqr
  rw [mul_comm a 128, lane_div a _ (by omega), Finset.sum_mul]
  refine Finset.sum_congr rfl fun x _ => ?_
  rw [dsH_eq qn qr kn kr v d y a r x (hy r a), Kp_r kn kr x a k h]
  ring

theorem log2_cancel (b : ℝ) : b * (sc * (Real.log 2)⁻¹) * Real.log 2 = b * sc := by
  have h : Real.log 2 ≠ 0 := Real.log_ne_zero_of_pos_of_ne_one two_pos (by norm_num)
  field_simp

theorem outQ_Qs (r a l : ℕ) (h : l < 96) : outQ (Qs qn qr) (Kp kn kr) r (128 * a + l) = Qs qn qr r (128 * a + l) := by
  unfold outQ aug
  rw [lane_mod a l (by omega), if_neg (by omega), if_neg (by omega)]

include hy in
theorem gkn_eq (x a k : ℕ) (h : k < 64) :
    outDk (Kp kn kr) (outQ (Qs qn qr) (Kp kn kr)) (Up v) (Dp d y) x (a * 128 + k) * Real.log 2 = gkn qn qr kn kr v d x a k := by
  unfold outDk gkn
  rw [mul_comm a 128, lane_div a k (by omega), Finset.sum_mul]
  refine Finset.sum_congr rfl fun r _ => ?_
  rw [dsH_eq qn qr kn kr v d y a r x (hy r a), outQ_Qs qn qr kn kr r a k (by omega), Qs_n qn qr r a k h, mul_assoc, log2_cancel]
  ring

include hy in
theorem gkr_eq (x k : ℕ) (h : k < 32) :
    ∑ a ∈ Finset.range 8, outDk (Kp kn kr) (outQ (Qs qn qr) (Kp kn kr)) (Up v) (Dp d y) x (a * 128 + (64 + k)) * Real.log 2 = gkr qn qr kn kr v d x k := by
  unfold gkr
  refine Finset.sum_congr rfl fun a _ => ?_
  unfold outDk
  rw [mul_comm a 128, lane_div a _ (by omega), Finset.sum_mul]
  refine Finset.sum_congr rfl fun r _ => ?_
  rw [dsH_eq qn qr kn kr v d y a r x (hy r a), outQ_Qs qn qr kn kr r a _ (by omega), Qs_r qn qr r a k h, mul_assoc, log2_cancel]
  ring

theorem gv_eq (x a k : ℕ) (h : k < 64) :
    outDv (Kp kn kr) (outQ (Qs qn qr) (Kp kn kr)) (Dp d y) x (a * 128 + (64 + k)) = gv qn qr kn kr d x a k := by
  unfold outDv gv
  rw [mul_comm a 128, lane_div a _ (by omega)]
  refine Finset.sum_congr rfl fun r _ => ?_
  rw [pwH_eq, Dp_d d y r a k h]
  ring

end Eqs

end Cert.Mla
end
-- ==== Proof.MlaFinal.lean ====
/- What the kernel leaves in its six results: the attention output and the gradients of `Cert.Mla`, at arguments whose
   entries are the real numbers `qn`, `qr`, `kn`, `kr`, `v`, `d`. The four launches are followed in order, each one's
   arrays read off the one before and the operations between. -/
module

public import proofs.«01_k».proof.Proof.MlaMath

@[expose] public section

set_option maxRecDepth 16384

noncomputable section

namespace Cert.KernelIdeal.MlaFinal

open Cert.KernelIdeal Cert.KernelIdeal.Gen Cert.Mats Cert.Mla Cert.KernelIdeal.MlaArrays Cert.KernelIdeal.MlaScale Cert.KernelIdeal.MlaHost Idealize.ShloMosaic Idealize.ShloMosaic.TcCoe Idealize.SL.Sem

variable (m : (ℓ : Loc nD τ sig) → Buf (Elt Ideal) ℓ) (ρ : Dev nD → PrngReg) (c : Dev nD)
  (qn qr kn : ℕ → ℕ → ℕ → ℝ) (kr : ℕ → ℕ → ℝ) (v : ℕ → ℕ → ℕ → ℝ) (d : ℕ → ℕ → ℝ)
  (h0 : (m ((c : Thread nD τ).loc main_arg0) : FVec Ideal S8192x8x64 .f32) = cube qn)
  (h1 : (m ((c : Thread nD τ).loc main_arg1) : FVec Ideal S8192x8x32 .f32) = cube qr)
  (h2 : (m ((c : Thread nD τ).loc main_arg2) : FVec Ideal S8192x8x64 .f32) = cube kn)
  (h3 : (m ((c : Thread nD τ).loc main_arg3) : FVec Ideal S8192x32 .f32) = mat kr)
  (h4 : (m ((c : Thread nD τ).loc main_arg4) : FVec Ideal S8192x8x64 .f32) = cube v)
  (h5 : (m ((c : Thread nD τ).loc main_arg5) : FVec Ideal S8192x512 .f32) = mat d)

/-- The output, and the queries the backward launch reads. -/
abbrev Y : ℕ → ℕ → ℝ := outY (Qs qn qr) (Kp kn kr) (Up v)
abbrev QA : ℕ → ℕ → ℝ := outQ (Qs qn qr) (Kp kn kr)
abbrev DA : ℕ → ℕ → ℝ := Dp d (Y qn qr kn kr v)

theorem ones (h : ℕ) (_ : h < 8) (x : ℕ) (_ : x < 8192) : Up v x (128 * h) = 1 := Up_1 v x h 0 (by omega)

include h0 h1 in
theorem w3_q : (W3 m ρ c (Proc.devRef .tc main_v3) : FVec Ideal S8192x1024 .bf16) = mat (Qs qn qr) :=
  (W3_of m ρ c main_v3 (by decide)).trans ((W2_arr m ρ c 1).trans (scaled_q (V1 m ρ) c (Qp qn qr) (q_packed m ρ c qn qr h0 h1)))

include h0 h1 h2 h3 h4 in
theorem w4_y : (W4 m ρ c (Proc.devRef .tc main_v16_0) : FVec Ideal S8192x512 .f32) = mat (Y qn qr kn kr v) :=
  (W4_arr m ρ c 3).trans (fwd_y (V3 m ρ) c _ _ _ (w3_q m ρ c qn qr h0 h1) (k_packed m ρ c kn kr h2 h3) (v_packed m ρ c v h4) (ones v))

include h0 h1 h2 h3 h4 in
theorem w5_q : (W5 m ρ c (Proc.devRef .tc main_v16_1) : FVec Ideal S8192x1024 .bf16) = mat (QA qn qr kn kr) :=
  (W5_of m ρ c main_v16_1 (by decide)).trans ((W4_arr m ρ c 4).trans
    (fwd_q (V3 m ρ) c _ _ _ (w3_q m ρ c qn qr h0 h1) (k_packed m ρ c kn kr h2 h3) (v_packed m ρ c v h4) (ones v)))

include h2 h3 in
theorem w5_k : (W5 m ρ c (Proc.devRef .tc main_v10) : FVec Ideal S8192x1024 .bf16) = mat (Kp kn kr) :=
  (W5_of m ρ c main_v10 (by decide)).trans ((W4_of m ρ c main_v10 (by decide)).trans (k_packed m ρ c kn kr h2 h3))

include h4 in
theorem w5_v : (W5 m ρ c (Proc.devRef .tc main_v15) : FVec Ideal S8192x1024 .bf16) = mat (Up v) :=
  (W5_of m ρ c main_v15 (by decide)).trans ((W4_of m ρ c main_v15 (by decide)).trans (v_packed m ρ c v h4))

include h0 h1 h2 h3 h4 h5 in
theorem w5_d : (W5 m ρ c (Proc.devRef .tc main_v32) : FVec Ideal S8192x1024 .bf16) = mat (DA qn qr kn kr v d) :=
  d_packed m ρ c d _ h5 (w4_y m ρ c qn qr kn kr v h0 h1 h2 h3 h4)

/-- The output is the softmax attention's. -/
theorem Y_eq (r a k : ℕ) (h : k < 64) : Y qn qr kn kr v r (a * 64 + k) = out qn qr kn kr v r a k := outY_eq qn qr kn kr v r a k h

include h0 h1 h2 h3 h4 in
theorem final_y : (W9 m ρ c (Proc.devRef .tc main_v16_0) : FVec Ideal S8192x512 .f32) = mat fun r l => out qn qr kn kr v r (l / 64) (l % 64) := by
  refine (W9_of m ρ c main_v16_0 (by decide)).trans ((W8_of m ρ c main_v16_0 (by decide)).trans ((W7_of m ρ c main_v16_0 (by decide)).trans
    ((W6_of m ρ c main_v16_0 (by decide)).trans ((W5_of m ρ c main_v16_0 (by decide)).trans ((w4_y m ρ c qn qr kn kr v h0 h1 h2 h3 h4).trans ?_)))))
  refine congrArg mat (funext₂ fun r l => ?_)
  rw [← Y_eq qn qr kn kr v r (l / 64) (l % 64) (Nat.mod_lt _ (by norm_num)), Nat.div_add_mod']

section
include h0 h1 h2 h3 h4 h5

theorem w6_dq : (W6 m ρ c (Proc.devRef .tc main_v33_0) : FVec Ideal S8192x1024 .f32)
    = mat (outDq (Kp kn kr) (QA qn qr kn kr) (Up v) (DA qn qr kn kr v d)) :=
  (W6_arr m ρ c 4).trans (bwd_dq (V5 m ρ) c _ _ _ _ (w5_q m ρ c qn qr kn kr v h0 h1 h2 h3 h4) (w5_d m ρ c qn qr kn kr v d h0 h1 h2 h3 h4 h5)
    (w5_k m ρ c kn kr h2 h3) (w5_v m ρ c v h4))

theorem w8_dk : (W8 m ρ c (Proc.devRef .tc main_v37) : FVec Ideal S8192x1024 .f32)
    = mat fun x l => outDk (Kp kn kr) (QA qn qr kn kr) (Up v) (DA qn qr kn kr v d) x l * Real.log 2 :=
  (W8_arr m ρ c 1).trans (scaled_k (V7 m ρ) c _ ((W7_of m ρ c main_v33_1 (by decide)).trans ((W6_arr m ρ c 5).trans
    (bwd_dk (V5 m ρ) c _ _ _ _ (w5_q m ρ c qn qr kn kr v h0 h1 h2 h3 h4) (w5_d m ρ c qn qr kn kr v d h0 h1 h2 h3 h4 h5)
      (w5_k m ρ c kn kr h2 h3) (w5_v m ρ c v h4)))))

theorem w8_dv : (W8 m ρ c (Proc.devRef .tc main_v33_2) : FVec Ideal S8192x1024 .f32)
    = mat (outDv (Kp kn kr) (QA qn qr kn kr) (DA qn qr kn kr v d)) :=
  (W8_of m ρ c main_v33_2 (by decide)).trans ((W7_of m ρ c main_v33_2 (by decide)).trans ((W6_arr m ρ c 6).trans
    (bwd_dv (V5 m ρ) c _ _ _ _ (w5_q m ρ c qn qr kn kr v h0 h1 h2 h3 h4) (w5_d m ρ c qn qr kn kr v d h0 h1 h2 h3 h4 h5)
      (w5_k m ρ c kn kr h2 h3) (w5_v m ρ c v h4))))

theorem final_dqn : (W9 m ρ c (Proc.devRef .tc main_v40) : FVec Ideal S8192x8x64 .f32) = cube fun r a k => gqn qn qr kn kr v d r a k := by
  refine (dqn_taken m ρ c _ (w6_dq m ρ c qn qr kn kr v d h0 h1 h2 h3 h4 h5)).trans (funext fun (i : S8192x8x64.Idx) => ?_)
  exact congrArg ((↑) : ℝ → EReal) (gqn_eq qn qr kn kr v d _ (Y_eq qn qr kn kr v) _ _ _ (i 2).isLt)

theorem final_dqr : (W9 m ρ c (Proc.devRef .tc main_v41) : FVec Ideal S8192x8x32 .f32) = cube fun r a k => gqr qn qr kn kr v d r a k := by
  refine (dqr_taken m ρ c _ (w6_dq m ρ c qn qr kn kr v d h0 h1 h2 h3 h4 h5)).trans (funext fun (i : S8192x8x32.Idx) => ?_)
  exact congrArg ((↑) : ℝ → EReal) (gqr_eq qn qr kn kr v d _ (Y_eq qn qr kn kr v) _ _ _ (i 2).isLt)

theorem final_dkn : (W9 m ρ c (Proc.devRef .tc main_v42) : FVec Ideal S8192x8x64 .f32) = cube fun x a k => gkn qn qr kn kr v d x a k := by
  refine (dkn_taken m ρ c _ (w8_dk m ρ c qn qr kn kr v d h0 h1 h2 h3 h4 h5)).trans (funext fun (i : S8192x8x64.Idx) => ?_)
  exact congrArg ((↑) : ℝ → EReal) (gkn_eq qn qr kn kr v d _ (Y_eq qn qr kn kr v) _ _ _ (i 2).isLt)

theorem final_dkr : (W9 m ρ c (Proc.devRef .tc main_v44) : FVec Ideal S8192x32 .f32) = mat fun x k => gkr qn qr kn kr v d x k := by
  refine (dkr_taken m ρ c _ (w8_dk m ρ c qn qr kn kr v d h0 h1 h2 h3 h4 h5)).trans (funext fun (i : S8192x32.Idx) => ?_)
  exact congrArg ((↑) : ℝ → EReal) (gkr_eq qn qr kn kr v d _ (Y_eq qn qr kn kr v) _ _ (i 1).isLt)

theorem final_dv : (W9 m ρ c (Proc.devRef .tc main_v45) : FVec Ideal S8192x8x64 .f32) = cube fun x a k => gv qn qr kn kr d x a k := by
  refine (dv_taken m ρ c _ (w8_dv m ρ c qn qr kn kr v d h0 h1 h2 h3 h4 h5)).trans (funext fun (i : S8192x8x64.Idx) => ?_)
  exact congrArg ((↑) : ℝ → EReal) (gv_eq qn qr kn kr d _ _ _ _ (i 2).isLt)
end

end Cert.KernelIdeal.MlaFinal
end
-- ==== Proof.MlaRun.lean ====
/- The run of the attention's program with every buffer's contents at its end: the launch of the generated kit over the
   program's segments, read at all the buffers in place of the arguments alone. -/
module

public import proofs.«01_k».proof.Proof.Gen.KernelIdeal.Frame

@[expose] public section

set_option maxRecDepth 16384

noncomputable section

namespace Cert.KernelIdeal.MlaRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

set_option backward.isDefEq.respectTransparency.types false in
/-- Every execution ends, with every buffer of a device as the last host segment leaves it. -/
theorem run : θ_run (defs (F := Ideal)) (onTc (τ := τ) (main (F := Ideal))) ⟨m, fun _ => 0, ρ⟩ (fun r => ∀ c : Dev nD,
      ∀ b ∈ Pipeline.ucRefs τ sig, r.2.mem (c, b) = W9 m ρ c b) :=
  Pipeline.θ_run_regions_kit_sems (pcfgs (F := Ideal)) adm (pdats m ρ) () cellOf_inj emb₁ defs₀ 𝒱₀ L lv m ρ main (segs m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Idealize.ShloMosaic.Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Idealize.ShloMosaic.Ideal) ℕ (UR sig nD τ) ℕ)) ⊢ bigSep Finset.univ (fun _ : Dev nD => (BI.emp : sProp (MT nD τ sig Unit (Elt Idealize.ShloMosaic.Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

end Cert.KernelIdeal.MlaRun
end
-- ==== Proof.MlaRef.lean ====
/- What the reference computes: the softmax attention and the derivative jax takes of it, entry by entry, as the real
   numbers of `Cert.Mla`. -/
module

public import proofs.«01_k».proof.Proof.MlaMath
public import proofs.«01_k».proof.Proof.Gen.ReferenceIdeal.Read

@[expose] public section

set_option maxRecDepth 16384

noncomputable section

namespace Cert.ReferenceIdeal.MlaRef

open Cert.ReferenceIdeal Cert.ReferenceIdeal.Gen Cert.ReferenceIdeal.Read Cert.Mats Cert.Mla Cert.KernelIdeal.MlaScale Cert.KernelIdeal.MlaHost Idealize.ShloMosaic Idealize.ShloMosaic.TcCoe Idealize.SL.Sem

/-- The largest of finitely many real numbers, at least one, taken from minus infinity on. -/
theorem max_real' {ι : Type*} [Fintype ι] (i : ι) (f : ι → ℝ) :
    ∃ c : ℝ, (Finset.univ.fold max (⊥ : EReal) fun x => ((f x : ℝ) : EReal)) = (c : EReal) := by
  classical
  obtain ⟨c, hc⟩ := max_real (Finset.univ.erase i) (f i) f
  refine ⟨c, ?_⟩
  rw [← Finset.insert_erase (Finset.mem_univ i), Finset.fold_insert (Finset.notMem_erase i _)]
  exact hc

variable (qn qr kn : ℕ → ℕ → ℕ → ℝ) (kr : ℕ → ℕ → ℝ) (v : ℕ → ℕ → ℕ → ℝ) (d : ℕ → ℕ → ℝ)

/-- The six arguments. -/
abbrev x0 : FVec Ideal S8192x8x64 .f32 := cube qn
abbrev x1 : FVec Ideal S8192x8x32 .f32 := cube qr
abbrev x2 : FVec Ideal S8192x8x64 .f32 := cube kn
abbrev x3 : FVec Ideal S8192x32 .f32 := mat kr
abbrev x4 : FVec Ideal S8192x8x64 .f32 := cube v
abbrev x5 : FVec Ideal S8192x512 .f32 := mat d

theorem v5 (a : Fin 8) (r x : Fin 8192) :
    val_main_v5 (F := Ideal) (x0 qn) (x1 qr) (x2 kn) (x3 kr) (ix3 a r x) = ((logit qn qr kn kr a r x : ℝ) : EReal) := by
  rw [val_main_v5_apply, val_main_v3_apply, val_main_v0_apply, val_main_v2_apply, val_main_v1_apply, val_main_v4_apply, val_main_cst_apply]
  show ((∑ k : Fin 64, ((qn r a k : ℝ) : EReal) * ((kn x a k : ℝ) : EReal)) + ∑ k : Fin 32, ((kr x k : ℝ) : EReal) * ((qr r a k : ℝ) : EReal)) * Ideal.ofBits .f32 0x3DD105EC#32 = _
  simp only [← EReal.coe_mul]
  rw [sum_fin 64 fun k => qn r a k * kn x a k, sum_fin 32 fun k => kr x k * qr r a k, ofBits_sc, ← EReal.coe_add, ← EReal.coe_mul]
  rfl

/-- The number the scores of a query are taken relative to. -/
def M (a : Fin 8) (r : Fin 8192) : ℝ := (val_main_v13 (F := Ideal) (x0 qn) (x1 qr) (x2 kn) (x3 kr) (ix2 a r)).toReal

theorem v13 (a : Fin 8) (r : Fin 8192) :
    val_main_v13 (F := Ideal) (x0 qn) (x1 qr) (x2 kn) (x3 kr) (ix2 a r) = ((M qn qr kn kr a r : ℝ) : EReal) := by
  suffices h : ∃ c : ℝ, val_main_v13 (F := Ideal) (x0 qn) (x1 qr) (x2 kn) (x3 kr) (ix2 a r) = (c : EReal) by
    obtain ⟨c, hc⟩ := h
    unfold M
    rw [hc, EReal.toReal_coe]
  obtain ⟨c, hc⟩ := max_real' (0 : Fin 8192) fun x => logit qn qr kn kr a r x
  refine ⟨c, ?_⟩
  rw [val_main_v13_apply]
  have e : val_main_v6 (F := Ideal) (x0 qn) (x1 qr) (x2 kn) (x3 kr) (ix2 a r) = (c : EReal) := by
    unfold val_main_v6
    refine (Host.reduce_eq_fold_single _ _ _ _ (by decide) _ _).trans (Eq.trans ?_ hc)
    refine congrArg₂ (fun b f => (Finset.univ : Finset (Fin 8192)).fold (max : EReal → EReal → EReal) b f) ofBits_neg_inf (funext fun x : Fin 8192 => ?_)
    exact (congrArg (val_main_v5 (F := Ideal) (x0 qn) (x1 qr) (x2 kn) (x3 kr)) (funext fun b => Fin.ext (by fin_cases b <;> rfl))).trans (v5 qn qr kn kr a r x)
  rw [e]
  show max (Ideal.ofBits .f32 0xFF800000#32) (c : EReal) = _
  rw [ofBits_neg_inf, max_eq_right bot_le]

/-- A weight before it is divided, and the sum of a query's. -/
def E (a : Fin 8) (r : Fin 8192) (x : ℕ) : ℝ := Real.exp (logit qn qr kn kr a r x - M qn qr kn kr a r)
def ZE (a : Fin 8) (r : Fin 8192) : ℝ := ∑ x ∈ Finset.range 8192, E qn qr kn kr a r x
theorem ZE_pos (a : Fin 8) (r : Fin 8192) : 0 < ZE qn qr kn kr a r := Finset.sum_pos (fun _ _ => Real.exp_pos _) ⟨0, by simp⟩

theorem prob_eq (a : Fin 8) (r : Fin 8192) (x : ℕ) : E qn qr kn kr a r x / ZE qn qr kn kr a r = prob qn qr kn kr a r x := by
  have h : ∀ x, E qn qr kn kr a r x = Real.exp (logit qn qr kn kr a r x) * Real.exp (-(M qn qr kn kr a r)) := fun x => by
    unfold E
    rw [sub_eq_add_neg, Real.exp_add]
  unfold prob ZE Z
  simp only [h, ← Finset.sum_mul]
  exact mul_div_mul_right _ _ (Real.exp_pos _).ne'

theorem v26 (a : Fin 8) (r x : Fin 8192) :
    val_main_v26 (F := Ideal) (x0 qn) (x1 qr) (x2 kn) (x3 kr) (ix3 a r x) = ((E qn qr kn kr a r x : ℝ) : EReal) := by
  rw [val_main_v26_apply, val_main_v25_apply, v5, val_main_v24_apply, val_main_v23_apply,
    show idx_main_v23 (idx_main_v24 (ix3 a r x)) = ix2 a r from funext fun b => Fin.ext (by fin_cases b <;> rfl), v13]
  rfl

theorem v27 (a : Fin 8) (r : Fin 8192) :
    val_main_v27 (F := Ideal) (x0 qn) (x1 qr) (x2 kn) (x3 kr) (ix2 a r) = ((ZE qn qr kn kr a r : ℝ) : EReal) := by
  rw [val_main_v27_apply, Finset.sum_congr rfl fun x _ => (congrArg (val_main_v26 (F := Ideal) (x0 qn) (x1 qr) (x2 kn) (x3 kr))
    (show idx_main_v27 (ix2 a r) x = ix3 a r x from funext fun b => Fin.ext (by fin_cases b <;> rfl))).trans (v26 qn qr kn kr a r x)]
  rw [sum_fin 8192 (E qn qr kn kr a r), val_main_cst_8_apply]
  show Ideal.ofBits .f32 0x00000000#32 + _ = _
  rw [ofBits_zero, ← EReal.coe_add, zero_add]
  rfl

theorem v28 (a : Fin 8) (r : Fin 8192) (o : Fin 1) :
    val_main_v28 (F := Ideal) (x0 qn) (x1 qr) (x2 kn) (x3 kr) (ix3 a r o) = ((ZE qn qr kn kr a r : ℝ) : EReal) := by
  rw [val_main_v28_apply, show idx_main_v28 (ix3 a r o) = ix2 a r from funext fun b => Fin.ext (by fin_cases b <;> rfl), v27]

theorem v30 (a : Fin 8) (r x : Fin 8192) :
    val_main_v30 (F := Ideal) (x0 qn) (x1 qr) (x2 kn) (x3 kr) (ix3 a r x) = ((prob qn qr kn kr a r x : ℝ) : EReal) := by
  rw [val_main_v30_apply, v26, val_main_v29_apply,
    show idx_main_v29 (ix3 a r x) = ix3 a r 0 from funext fun b => Fin.ext (by fin_cases b <;> rfl), v28]
  refine (Reals.div_coe _ _ (ZE_pos qn qr kn kr a r).ne').trans ?_
  rw [prob_eq]

theorem v36 (r : Fin 8192) (a : Fin 8) (k : Fin 64) :
    val_main_v34 (F := Ideal) (x0 qn) (x1 qr) (x2 kn) (x3 kr) (x4 v) (ix3 a k r) = ((out qn qr kn kr v r a k : ℝ) : EReal) := by
  rw [val_main_v34_apply]
  refine (Finset.sum_congr rfl fun (x : Fin 8192) _ => congrArg₂ (· * ·) (rfl : _ = ((v x a k : ℝ) : EReal)) ((congrArg (val_main_v30 (F := Ideal) (x0 qn) (x1 qr) (x2 kn) (x3 kr))
    (show ridx_main_v34 (ix3 a k r) x = ix3 a r x from funext fun b => Fin.ext (by fin_cases b <;> rfl))).trans (v30 qn qr kn kr a r x))).trans ?_
  simp only [← EReal.coe_mul]
  exact sum_fin 8192 fun x => v x a k * prob qn qr kn kr a r x

theorem v38 (a : Fin 8) (k : Fin 64) (r : Fin 8192) : val_main_v38 (F := Ideal) (x5 d) (ix3 a k r) = ((d r (a * 64 + k) : ℝ) : EReal) := by
  rw [val_main_v38_apply, val_main_v37_apply]
  have ha := a.isLt
  have hk := k.isLt
  show ((d (((r.val * 8 + a.val) * 64 + k.val) / 512) (((r.val * 8 + a.val) * 64 + k.val) % 512) : ℝ) : EReal) = _
  rw [show ((r.val * 8 + a.val) * 64 + k.val) / 512 = r.val by omega, show ((r.val * 8 + a.val) * 64 + k.val) % 512 = a.val * 64 + k.val by omega]

theorem v39 (a : Fin 8) (r x : Fin 8192) : val_main_v39 (F := Ideal) (x4 v) (x5 d) (ix3 a r x) = ((dprob v d a r x : ℝ) : EReal) := by
  rw [val_main_v39_apply]
  refine (Finset.sum_congr rfl fun (k : Fin 64) _ => congrArg₂ (· * ·) ((congrArg (val_main_v38 (F := Ideal) (x5 d))
    (show lidx_main_v39 (ix3 a r x) k = ix3 a k r from funext fun b => Fin.ext (by fin_cases b <;> rfl))).trans (v38 d a k r)) (rfl : _ = ((v x a k : ℝ) : EReal))).trans ?_
  simp only [← EReal.coe_mul]
  exact sum_fin 64 fun k => d r (a * 64 + k) * v x a k

theorem v40 (a : Fin 8) (k : Fin 64) (x : Fin 8192) :
    val_main_v40 (F := Ideal) (x0 qn) (x1 qr) (x2 kn) (x3 kr) (x5 d) (ix3 a k x) = ((gv qn qr kn kr d x a k : ℝ) : EReal) := by
  rw [val_main_v40_apply]
  refine (Finset.sum_congr rfl fun (r : Fin 8192) _ => congrArg₂ (· * ·) ((congrArg (val_main_v38 (F := Ideal) (x5 d))
      (show lidx_main_v40 (ix3 a k x) r = ix3 a k r from funext fun b => Fin.ext (by fin_cases b <;> rfl))).trans (v38 d a k r))
    ((congrArg (val_main_v30 (F := Ideal) (x0 qn) (x1 qr) (x2 kn) (x3 kr))
      (show ridx_main_v40 (ix3 a k x) r = ix3 a r x from funext fun b => Fin.ext (by fin_cases b <;> rfl))).trans (v30 qn qr kn kr a r x))).trans ?_
  simp only [← EReal.coe_mul]
  exact sum_fin 8192 fun r => d r (a * 64 + k) * prob qn qr kn kr a r x

/-- One over the square of a query's sum. -/
theorem v33 (a : Fin 8) (r : Fin 8192) (o : Fin 1) :
    val_main_v33 (F := Ideal) (x0 qn) (x1 qr) (x2 kn) (x3 kr) (ix3 a r o) = ((1 / (ZE qn qr kn kr a r * ZE qn qr kn kr a r) : ℝ) : EReal) := by
  have h := ZE_pos qn qr kn kr a r
  rw [val_main_v33_apply, val_main_v32_apply, val_main_v31_apply, v28, val_main_cst_9_apply]
  show Ideal.div (Ideal.ofBits .f32 0x3F800000#32) (((_ : ℝ) : EReal) * ((_ : ℝ) : EReal)) = _
  rw [ofBits_one, ← EReal.coe_mul]
  exact Reals.div_coe _ _ (mul_pos h h).ne'

theorem v45 (a : Fin 8) (r : Fin 8192) :
    val_main_v45 (F := Ideal) (x0 qn) (x1 qr) (x2 kn) (x3 kr) (x4 v) (x5 d) (ix2 a r)
      = ((∑ x ∈ Finset.range 8192, dprob v d a r x * (1 / (ZE qn qr kn kr a r * ZE qn qr kn kr a r)) * E qn qr kn kr a r x : ℝ) : EReal) := by
  have e : ∀ x : Fin 8192, val_main_v44 (F := Ideal) (x0 qn) (x1 qr) (x2 kn) (x3 kr) (x4 v) (x5 d) (idx_main_v45 (ix2 a r) x)
      = ((dprob v d a r x * (1 / (ZE qn qr kn kr a r * ZE qn qr kn kr a r)) * E qn qr kn kr a r x : ℝ) : EReal) := fun x => by
    rw [show idx_main_v45 (ix2 a r) x = ix3 a r x from funext fun b => Fin.ext (by fin_cases b <;> rfl), val_main_v44_apply, val_main_v43_apply, v39, val_main_v42_apply,
      show idx_main_v42 (ix3 a r x) = ix3 a r 0 from funext fun b => Fin.ext (by fin_cases b <;> rfl), v33, v26]
    rfl
  rw [val_main_v45_apply, Finset.sum_congr rfl fun x _ => e x, sum_fin 8192 fun x => dprob v d a r x * (1 / (ZE qn qr kn kr a r * ZE qn qr kn kr a r)) * E qn qr kn kr a r x,
    val_main_cst_10_apply]
  show Ideal.ofBits .f32 0x00000000#32 + _ = _
  rw [ofBits_zero, ← EReal.coe_add, zero_add]

theorem v50 (a : Fin 8) (r : Fin 8192) :
    val_main_v50 (F := Ideal) (x0 qn) (x1 qr) (x2 kn) (x3 kr) (x4 v) (x5 d) (ix2 a r)
      = ((-(∑ x ∈ Finset.range 8192, dprob v d a r x * (1 / (ZE qn qr kn kr a r * ZE qn qr kn kr a r)) * E qn qr kn kr a r x) : ℝ) : EReal) := by
  rw [val_main_v50_apply, Finset.univ_unique, Finset.sum_singleton, val_main_v47_apply, val_main_v46_apply,
    show idx_main_v46 (idx_main_v50 (ix2 a r) default) = ix2 a r from funext fun b => Fin.ext (by
      have ha := a.isLt
      have hr := r.isLt
      fin_cases b
      · show ((a.val * 8192 + r.val) * 1 + 0) / 8192 = a.val
        omega
      · show ((a.val * 8192 + r.val) * 1 + 0) % 8192 = r.val
        omega), v45, val_main_cst_11_apply]
  show Ideal.ofBits .f32 0x00000000#32 + -((_ : ℝ) : EReal) = _
  rw [ofBits_zero, ← EReal.coe_neg, ← EReal.coe_add, zero_add]

/-- The derivative of the scores, times their scale. -/
theorem v55 (a : Fin 8) (r x : Fin 8192) :
    val_main_v55 (F := Ideal) (x0 qn) (x1 qr) (x2 kn) (x3 kr) (x4 v) (x5 d) (ix3 a r x) = ((dscore qn qr kn kr v d a r x * sc : ℝ) : EReal) := by
  have h := (ZE_pos qn qr kn kr a r).ne'
  rw [val_main_v55_apply, val_main_v53_apply, val_main_v52_apply, val_main_v49_apply, val_main_v51_apply, v39, v26, val_main_v48_apply,
    show idx_main_v48 (ix3 a r x) = ix3 a r 0 from funext fun b => Fin.ext (by fin_cases b <;> rfl), v28,
    show idx_main_v51 (ix3 a r x) = ix2 a r from funext fun b => Fin.ext (by fin_cases b <;> rfl), v50, val_main_v54_apply, val_main_cst_12_apply]
  show (Ideal.div ((_ : ℝ) : EReal) ((_ : ℝ) : EReal) + ((_ : ℝ) : EReal)) * ((_ : ℝ) : EReal) * Ideal.ofBits .f32 0x3DD105EC#32 = _
  rw [Reals.div_coe _ _ h, ofBits_sc, ← EReal.coe_add, ← EReal.coe_mul, ← EReal.coe_mul]
  congr 2
  unfold dscore
  simp only [← prob_eq]
  rw [mul_sub, add_mul, sub_eq_add_neg]
  congr 1
  · ring
  · rw [neg_mul, mul_comm (∑ x ∈ Finset.range 8192, _) (E qn qr kn kr a r x), Finset.mul_sum, Finset.mul_sum]
    refine congrArg Neg.neg (Finset.sum_congr rfl fun z _ => ?_)
    field_simp

/-! ## The gradients -/

theorem v61 (a : Fin 8) (r : Fin 8192) (k : Fin 64) :
    val_main_v61 (F := Ideal) (x0 qn) (x1 qr) (x2 kn) (x3 kr) (x4 v) (x5 d) (ix3 a r k) = ((gqn qn qr kn kr v d r a k : ℝ) : EReal) := by
  rw [val_main_v61_apply]
  refine (Finset.sum_congr rfl fun (x : Fin 8192) _ => congrArg₂ (· * ·) ((congrArg (val_main_v55 (F := Ideal) (x0 qn) (x1 qr) (x2 kn) (x3 kr) (x4 v) (x5 d))
    (show lidx_main_v61 (ix3 a r k) x = ix3 a r x from funext fun b => Fin.ext (by fin_cases b <;> rfl))).trans (v55 qn qr kn kr v d a r x)) (rfl : _ = ((kn x a k : ℝ) : EReal))).trans ?_
  simp only [← EReal.coe_mul]
  exact sum_fin 8192 fun x => dscore qn qr kn kr v d a r x * sc * kn x a k

theorem v59 (a : Fin 8) (x : Fin 8192) (k : Fin 64) :
    val_main_v59 (F := Ideal) (x0 qn) (x1 qr) (x2 kn) (x3 kr) (x4 v) (x5 d) (ix3 a x k) = ((gkn qn qr kn kr v d x a k : ℝ) : EReal) := by
  rw [val_main_v59_apply]
  refine (Finset.sum_congr rfl fun (r : Fin 8192) _ => congrArg₂ (· * ·) ((congrArg (val_main_v55 (F := Ideal) (x0 qn) (x1 qr) (x2 kn) (x3 kr) (x4 v) (x5 d))
    (show lidx_main_v59 (ix3 a x k) r = ix3 a r x from funext fun b => Fin.ext (by fin_cases b <;> rfl))).trans (v55 qn qr kn kr v d a r x)) (rfl : _ = ((qn r a k : ℝ) : EReal))).trans ?_
  simp only [← EReal.coe_mul]
  exact sum_fin 8192 fun r => dscore qn qr kn kr v d a r x * sc * qn r a k

theorem v56 (x r : Fin 8192) (a : Fin 8) :
    val_main_v56 (F := Ideal) (x0 qn) (x1 qr) (x2 kn) (x3 kr) (x4 v) (x5 d) (ix3 x r a) = ((dscore qn qr kn kr v d a r x * sc : ℝ) : EReal) := by
  rw [val_main_v56_apply, show idx_main_v56 (ix3 x r a) = ix3 a r x from funext fun b => Fin.ext (by fin_cases b <;> rfl), v55]

theorem v57 (r : Fin 8192) (a : Fin 8) (k : Fin 32) :
    val_main_v57 (F := Ideal) (x0 qn) (x1 qr) (x2 kn) (x3 kr) (x4 v) (x5 d) (ix3 r a k) = ((gqr qn qr kn kr v d r a k : ℝ) : EReal) := by
  rw [val_main_v57_apply]
  refine (Finset.sum_congr rfl fun (x : Fin 8192) _ => congrArg₂ (· * ·) ((congrArg (val_main_v56 (F := Ideal) (x0 qn) (x1 qr) (x2 kn) (x3 kr) (x4 v) (x5 d))
    (show lidx_main_v57 (ix3 r a k) x = ix3 x r a from funext fun b => Fin.ext (by fin_cases b <;> rfl))).trans (v56 qn qr kn kr v d x r a)) (rfl : _ = ((kr x k : ℝ) : EReal))).trans ?_
  simp only [← EReal.coe_mul]
  exact sum_fin 8192 fun x => dscore qn qr kn kr v d a r x * sc * kr x k

theorem v58 (x : Fin 8192) (k : Fin 32) :
    val_main_v58 (F := Ideal) (x0 qn) (x1 qr) (x2 kn) (x3 kr) (x4 v) (x5 d) (ix2 x k) = ((gkr qn qr kn kr v d x k : ℝ) : EReal) := by
  unfold val_main_v58
  have h := v56 qn qr kn kr v d
  generalize val_main_v56 (F := Ideal) (x0 qn) (x1 qr) (x2 kn) (x3 kr) (x4 v) (x5 d) = g at h
  pointwise [cube, h]
  refine Finset.sum_comm.trans ?_
  refine (Finset.sum_congr rfl fun (a : Fin 8) _ => (Finset.sum_congr rfl fun (r : Fin 8192) _ => (EReal.coe_mul _ _).symm).trans
    (sum_fin 8192 fun r => dscore qn qr kn kr v d a r x * sc * qr r a k)).trans ?_
  exact sum_fin 8 fun a => ∑ r ∈ Finset.range 8192, dscore qn qr kn kr v d a r x * sc * qr r a k

/-! ## The results as whole arrays -/

theorem ref_y : val_main_v36 (F := Ideal) (x0 qn) (x1 qr) (x2 kn) (x3 kr) (x4 v)
    = mat fun r l => out qn qr kn kr v r (l / 64) (l % 64) := by
  funext (i : S8192x512.Idx)
  have h1 : (i 1).val < 512 := (i 1).isLt
  have h0 : (i 0).val < 8192 := (i 0).isLt
  rw [val_main_v36_apply, val_main_v35_apply,
    show idx_main_v35 (idx_main_v36 i) = ix3 (⟨(i 1).val / 64, by omega⟩ : Fin 8) (⟨(i 1).val % 64, by omega⟩ : Fin 64) (⟨(i 0).val, h0⟩ : Fin 8192)
      from funext fun b => Fin.ext (by
        fin_cases b
        · show ((i 0).val * 512 + (i 1).val) / 64 % 8 = (i 1).val / 64
          omega
        · show ((i 0).val * 512 + (i 1).val) % 64 = (i 1).val % 64
          omega
        · show ((i 0).val * 512 + (i 1).val) / 512 = (i 0).val
          omega), v36]
  rfl

theorem ref_dqn : val_main_v62 (F := Ideal) (x0 qn) (x1 qr) (x2 kn) (x3 kr) (x4 v) (x5 d) = cube fun r a k => gqn qn qr kn kr v d r a k := by
  funext (i : S8192x8x64.Idx)
  rw [val_main_v62_apply, show idx_main_v62 i = ix3 (i 1) (i 0) (i 2) from funext fun b => Fin.ext (by fin_cases b <;> rfl)]
  exact v61 qn qr kn kr v d (i 1) (i 0) (i 2)

theorem ref_dqr : val_main_v57 (F := Ideal) (x0 qn) (x1 qr) (x2 kn) (x3 kr) (x4 v) (x5 d) = cube fun r a k => gqr qn qr kn kr v d r a k := by
  funext (i : S8192x8x32.Idx)
  rw [show i = ix3 (i 0) (i 1) (i 2) from funext fun b => Fin.ext (by fin_cases b <;> rfl)]
  exact v57 qn qr kn kr v d (i 0) (i 1) (i 2)

theorem ref_dkn : val_main_v60 (F := Ideal) (x0 qn) (x1 qr) (x2 kn) (x3 kr) (x4 v) (x5 d) = cube fun x a k => gkn qn qr kn kr v d x a k := by
  funext (i : S8192x8x64.Idx)
  rw [val_main_v60_apply, show idx_main_v60 i = ix3 (i 1) (i 0) (i 2) from funext fun b => Fin.ext (by fin_cases b <;> rfl)]
  exact v59 qn qr kn kr v d (i 1) (i 0) (i 2)

theorem ref_dkr : val_main_v58 (F := Ideal) (x0 qn) (x1 qr) (x2 kn) (x3 kr) (x4 v) (x5 d) = mat fun x k => gkr qn qr kn kr v d x k := by
  funext (i : S8192x32.Idx)
  rw [show i = ix2 (i 0) (i 1) from funext fun b => Fin.ext (by fin_cases b <;> rfl)]
  exact v58 qn qr kn kr v d (i 0) (i 1)

theorem ref_dv : val_main_v41 (F := Ideal) (x0 qn) (x1 qr) (x2 kn) (x3 kr) (x5 d) = cube fun x a k => gv qn qr kn kr d x a k := by
  funext (i : S8192x8x64.Idx)
  rw [val_main_v41_apply, show idx_main_v41 i = ix3 (i 1) (i 2) (i 0) from funext fun b => Fin.ext (by fin_cases b <;> rfl)]
  exact v40 qn qr kn kr d (i 1) (i 2) (i 0)

end Cert.ReferenceIdeal.MlaRef
end
-- ==== Proof.Fns.lean ====
/- Arrays of real numbers as functions of natural numbers. -/
module

public import proofs.«01_k».proof.Proof.Mats

@[expose] public section

noncomputable section

namespace Cert.Mats

open Idealize.ShloMosaic

/-- An array of three axes of real numbers, as a function of natural numbers. -/
def fn3 {d : Fin 3 → ℕ} (a : (⟨3, d⟩ : Shape).Idx → EReal) (r x l : ℕ) : ℝ :=
  if h : r < d 0 ∧ x < d 1 ∧ l < d 2 then
    (a fun b => match b with | ⟨0, _⟩ => ⟨r, h.1⟩ | ⟨1, _⟩ => ⟨x, h.2.1⟩ | ⟨2, _⟩ => ⟨l, h.2.2⟩).toReal else 0

theorem cube_fn3 {d : Fin 3 → ℕ} (a : (⟨3, d⟩ : Shape).Idx → EReal) (h : a = fun i => ((EReal.toReal (a i) : ℝ) : EReal)) : a = cube (fn3 a) := by
  funext i
  refine (congrFun h i).trans (congrArg ((↑) : ℝ → EReal) ?_)
  unfold fn3
  rw [dif_pos ⟨(i 0).isLt, (i 1).isLt, (i 2).isLt⟩]
  exact congrArg (fun j => (a j).toReal) (funext fun b => by fin_cases b <;> rfl)

/-- The same of a matrix. -/
def fn2 {d : Fin 2 → ℕ} (a : (⟨2, d⟩ : Shape).Idx → EReal) (r l : ℕ) : ℝ :=
  if h : r < d 0 ∧ l < d 1 then (a fun b => match b with | ⟨0, _⟩ => ⟨r, h.1⟩ | ⟨1, _⟩ => ⟨l, h.2⟩).toReal else 0

theorem mat_fn2 {d : Fin 2 → ℕ} (a : (⟨2, d⟩ : Shape).Idx → EReal) (h : a = fun i => ((EReal.toReal (a i) : ℝ) : EReal)) : a = mat (fn2 a) := by
  funext i
  refine (congrFun h i).trans (congrArg ((↑) : ℝ → EReal) ?_)
  unfold fn2
  rw [dif_pos ⟨(i 0).isLt, (i 1).isLt⟩]
  exact congrArg (fun j => (a j).toReal) (funext fun b => by fin_cases b <;> rfl)

/-- The same of a single row. -/
theorem row_fn2 {n : ℕ} (a : (⟨2, ![1, n]⟩ : Shape).Idx → EReal) (h : a = fun i => ((EReal.toReal (a i) : ℝ) : EReal)) : a = mat fun _ k => fn2 a 0 k := by
  refine (mat_fn2 a h).trans (funext fun y => ?_)
  show ((fn2 a (y 0).val (y 1).val : ℝ) : EReal) = ((fn2 a 0 (y 1).val : ℝ) : EReal)
  rw [show (y 0).val = 0 from Nat.lt_one_iff.1 (y 0).isLt]

end Cert.Mats
end
-- ==== Proof.MlaPair.lean ====
/- The claims of the attention pair: the idealized kernel and the reference leave the same six arrays at finite
   arguments, the reference keeps its arguments, and the named constants are what they are named after. -/
module

public import proofs.«01_k».proof.Defs
public import proofs.«01_k».proof.Proof.Gen.ReferenceIdeal.Run
public import proofs.«01_k».proof.Proof.MlaFinal
public import proofs.«01_k».proof.Proof.MlaRun
public import proofs.«01_k».proof.Proof.MlaRef
public import proofs.«01_k».proof.Proof.Fns
public import Idealize.ShloMosaic.Adequacy
public import Idealize.ShloMosaic.Init

@[expose] public section

noncomputable section

namespace Cert.MlaPair

open Idealize.ShloMosaic Idealize.ShloMosaic.TcCoe Idealize.SL.Sem Cert.Mats

/-- Finite arguments are arrays of real numbers. -/
theorem args_real [Cert.Pre_finite.Facts] (a0 a2 a4 : FVec Ideal Cert.KernelIdeal.S8192x8x64 .f32) (a1 : FVec Ideal Cert.KernelIdeal.S8192x8x32 .f32)
    (a3 : FVec Ideal Cert.KernelIdeal.S8192x32 .f32) (a5 : FVec Ideal Cert.KernelIdeal.S8192x512 .f32)
    (h : Cert.Pre_finite.fn (F := Ideal) a0 a1 a2 a3 a4 a5 = fun _ => 1#1) :
    a0 = cube (fn3 a0) ∧ a1 = cube (fn3 a1) ∧ a2 = cube (fn3 a2) ∧ a3 = mat (fn2 a3) ∧ a4 = cube (fn3 a4) ∧ a5 = mat (fn2 a5) := by
  have h' := congrFun h (fun a => a.elim0)
  obtain ⟨h, g5⟩ := IntOp.andi_eq_one.1 h'
  obtain ⟨h, g4⟩ := IntOp.andi_eq_one.1 h
  obtain ⟨h, g3⟩ := IntOp.andi_eq_one.1 h
  obtain ⟨h, g2⟩ := IntOp.andi_eq_one.1 h
  obtain ⟨g0, g1⟩ := IntOp.andi_eq_one.1 h
  haveI : Subsingleton Cert.Pre_finite.S_.Idx := ⟨fun a b => funext fun k => k.elim0⟩
  exact ⟨cube_fn3 _ (Cert.Reals.finite_of_all _ _ _ _ _ _ (fun _ => Cert.Reals.ofBits_inf) g0),
    cube_fn3 _ (Cert.Reals.finite_of_all _ _ _ _ _ _ (fun _ => Cert.Reals.ofBits_inf) g1),
    cube_fn3 _ (Cert.Reals.finite_of_all _ _ _ _ _ _ (fun _ => Cert.Reals.ofBits_inf) g2),
    mat_fn2 _ (Cert.Reals.finite_of_all _ _ _ _ _ _ (fun _ => Cert.Reals.ofBits_inf) g3),
    cube_fn3 _ (Cert.Reals.finite_of_all _ _ _ _ _ _ (fun _ => Cert.Reals.ofBits_inf) g4),
    mat_fn2 _ (Cert.Reals.finite_of_all _ _ _ _ _ _ (fun _ => Cert.Reals.ofBits_inf) g5)⟩

/-- The reference runs, keeps its arguments, and leaves every counter at zero: it declares none. -/
theorem reference_frame : Cert.quiescent_ReferenceIdeal := fun m g _ =>
  (θ_run (Cert.ReferenceIdeal.defs (F := Ideal)) _ _).mono
    (fun r h => ⟨fun c => (h c).2.2.2.2.2.2, sem_eq_zero_of_no_sems (by decide) r.2⟩) (Cert.ReferenceIdeal.Value.run m g)

open Cert.ReferenceIdeal.MlaRef in
/-- What the reference leaves, at arguments of real numbers. -/
theorem reference_values (a0 a2 a4 : FVec Ideal Cert.KernelIdeal.S8192x8x64 .f32) (a1 : FVec Ideal Cert.KernelIdeal.S8192x8x32 .f32)
    (a3 : FVec Ideal Cert.KernelIdeal.S8192x32 .f32) (a5 : FVec Ideal Cert.KernelIdeal.S8192x512 .f32)
    (qn qr kn v : ℕ → ℕ → ℕ → ℝ) (kr d : ℕ → ℕ → ℝ)
    (h0 : a0 = cube qn) (h1 : a1 = cube qr) (h2 : a2 = cube kn) (h3 : a3 = mat kr) (h4 : a4 = cube v) (h5 : a5 = mat d) :
    Cert.ReferenceIdeal.Read.val_main_v36 (F := Ideal) a0 a1 a2 a3 a4 = (mat fun r l => Cert.Mla.out qn qr kn kr v r (l / 64) (l % 64))
    ∧ Cert.ReferenceIdeal.Read.val_main_v62 (F := Ideal) a0 a1 a2 a3 a4 a5 = (cube fun r a k => Cert.Mla.gqn qn qr kn kr v d r a k)
    ∧ Cert.ReferenceIdeal.Read.val_main_v57 (F := Ideal) a0 a1 a2 a3 a4 a5 = (cube fun r a k => Cert.Mla.gqr qn qr kn kr v d r a k)
    ∧ Cert.ReferenceIdeal.Read.val_main_v60 (F := Ideal) a0 a1 a2 a3 a4 a5 = (cube fun x a k => Cert.Mla.gkn qn qr kn kr v d x a k)
    ∧ Cert.ReferenceIdeal.Read.val_main_v58 (F := Ideal) a0 a1 a2 a3 a4 a5 = (mat fun x k => Cert.Mla.gkr qn qr kn kr v d x k)
    ∧ Cert.ReferenceIdeal.Read.val_main_v41 (F := Ideal) a0 a1 a2 a3 a5 = (cube fun x a k => Cert.Mla.gv qn qr kn kr d x a k) := by
  subst h0 h1 h2 h3 h4 h5
  exact ⟨ref_y qn qr kn kr v, ref_dqn qn qr kn kr v d, ref_dqr qn qr kn kr v d, ref_dkn qn qr kn kr v d, ref_dkr qn qr kn kr v d, ref_dv qn qr kn kr d⟩

open Cert.KernelIdeal Cert.KernelIdeal.Gen Cert.KernelIdeal.MlaFinal in
set_option maxRecDepth 16384 in
set_option maxHeartbeats 2000000 in
theorem algebraic [Cert.Pre_finite.Facts] : Cert.algebraic_KernelIdeal_ReferenceIdeal_pre_finite := by
  intro m g m' g' hpre hagree
  refine ⟨fun c => W9 m g c (Proc.devRef .tc main_v16_0), fun c => W9 m g c (Proc.devRef .tc main_v40), fun c => W9 m g c (Proc.devRef .tc main_v41),
    fun c => W9 m g c (Proc.devRef .tc main_v42), fun c => W9 m g c (Proc.devRef .tc main_v44), fun c => W9 m g c (Proc.devRef .tc main_v45), ?_, ?_⟩
  · exact θ_run_mono (Cert.KernelIdeal.MlaRun.run m g) fun r h c =>
      ⟨h c _ (mem_uc main_v16_0 (by decide)), h c _ (mem_uc main_v40 (by decide)), h c _ (mem_uc main_v41 (by decide)), h c _ (mem_uc main_v42 (by decide)), h c _ (mem_uc main_v44 (by decide)), h c _ (mem_uc main_v45 (by decide)),
        (h c _ (mem_uc main_arg0 (by decide))).trans (W9_main_arg0 m g c),
        (h c _ (mem_uc main_arg1 (by decide))).trans (W9_main_arg1 m g c),
        (h c _ (mem_uc main_arg2 (by decide))).trans (W9_main_arg2 m g c),
        (h c _ (mem_uc main_arg3 (by decide))).trans (W9_main_arg3 m g c),
        (h c _ (mem_uc main_arg4 (by decide))).trans (W9_main_arg4 m g c),
        (h c _ (mem_uc main_arg5 (by decide))).trans (W9_main_arg5 m g c)⟩
  · refine θ_run_mono (Cert.ReferenceIdeal.Value.run m' g') fun r hr c =>
      ⟨(hr c).1.trans ?_, (hr c).2.1.trans ?_, (hr c).2.2.1.trans ?_, (hr c).2.2.2.1.trans ?_, (hr c).2.2.2.2.1.trans ?_, (hr c).2.2.2.2.2.1.trans ?_, (hr c).2.2.2.2.2.2⟩
    all_goals
      obtain ⟨e0, e1, e2, e3, e4, e5⟩ := hagree c
      obtain ⟨h0, h1, h2, h3, h4, h5⟩ := args_real _ _ _ _ _ _ (hpre c)
      obtain ⟨f0, f1, f2, f3, f4, f5⟩ := reference_values _ _ _ _ _ _ _ _ _ _ _ _ (e0.trans h0) (e1.trans h1) (e2.trans h2) (e3.trans h3) (e4.trans h4) (e5.trans h5)
    · exact (Cert.ReferenceIdeal.Read.val_main_v36_eq _ _ _ _ _).trans (f0.trans (final_y m g c _ _ _ _ _ h0 h1 h2 h3 h4).symm)
    · exact (Cert.ReferenceIdeal.Read.val_main_v62_eq m' c).trans (f1.trans (final_dqn m g c _ _ _ _ _ _ h0 h1 h2 h3 h4 h5).symm)
    · exact (Cert.ReferenceIdeal.Read.val_main_v57_eq m' c).trans (f2.trans (final_dqr m g c _ _ _ _ _ _ h0 h1 h2 h3 h4 h5).symm)
    · exact (Cert.ReferenceIdeal.Read.val_main_v60_eq m' c).trans (f3.trans (final_dkn m g c _ _ _ _ _ _ h0 h1 h2 h3 h4 h5).symm)
    · exact (Cert.ReferenceIdeal.Read.val_main_v58_eq m' c).trans (f4.trans (final_dkr m g c _ _ _ _ _ _ h0 h1 h2 h3 h4 h5).symm)
    · exact (Cert.ReferenceIdeal.Read.val_main_v41_eq _ _ _ _ _).trans (f5.trans (final_dv m g c _ _ _ _ _ _ h0 h1 h2 h3 h4 h5).symm)

/-- The named constants are the printed ones, to a rounding. -/
theorem preserves : Cert.preserves_Kernel_KernelIdeal := by
  exact ⟨IdealRules.named_const.statement _ _ _ _ _ rfl, IdealRules.named_const.statement _ _ _ _ _ rfl, IdealRules.named_const.statement _ _ _ _ _ rfl⟩

end Cert.MlaPair
end
-- ==== Proof.RmsMath.lean ====
/- The root-mean-square norm of one row and its gradient, over the real numbers. -/
module

public import proofs.«01_k».proof.Proof.Reals

@[expose] public section

noncomputable section

namespace Cert.Rms

open Idealize.ShloMosaic Cert.Reals

variable {N : ℕ}

/-- The mean square of a row of `n` entries, plus the norm's small constant. -/
def ms (n : ℝ) (x : Fin N → ℝ) : ℝ := (∑ k, x k * x k) / n + eps

/-- The reciprocal root mean square of a row. -/
def rstd (n : ℝ) (x : Fin N → ℝ) : ℝ := (Real.sqrt (ms n x))⁻¹

/-- The gradient of `x ↦ x * rstd x` (gain included in `c`) for the cotangent row `c`, as the kernels write it. -/
def bwd (n : ℝ) (x c : Fin N → ℝ) (k : Fin N) : ℝ :=
  rstd n x * (c k - x k * rstd n x * ((∑ l, c l * (x l * rstd n x)) / n))

theorem ms_pos {n : ℝ} (hn : 0 < n) (x : Fin N → ℝ) : 0 < ms n x :=
  add_pos_of_nonneg_of_pos (div_nonneg (Finset.sum_nonneg fun k _ => mul_self_nonneg _) hn.le) eps_pos

theorem rstd_sq {n : ℝ} (hn : 0 < n) (x : Fin N → ℝ) : rstd n x * rstd n x = (ms n x)⁻¹ := by
  unfold rstd
  rw [← mul_inv, Real.mul_self_sqrt (ms_pos hn x).le]

/-- The same gradient as differentiation writes it: through the cotangent of the mean square. -/
theorem bwd_eq {n : ℝ} (hn : 0 < n) (x c : Fin N → ℝ) (k : Fin N) :
    c k * rstd n x + x k * ((∑ l, x l * c l) * (-(1/2) * (rstd n x / ms n x)) / n)
      + (∑ l, x l * c l) * (-(1/2) * (rstd n x / ms n x)) / n * x k = bwd n x c k := by
  have h : (∑ l, c l * (x l * rstd n x)) = (∑ l, x l * c l) * rstd n x := by
    rw [Finset.sum_mul]; exact Finset.sum_congr rfl fun l _ => by ring
  unfold bwd
  rw [h, div_eq_mul_inv (rstd n x), ← rstd_sq hn]
  ring

end Cert.Rms

end
-- ==== Proof.FinalKernel.lean ====
/- The kernel of the step's last gradient: what its two result arrays hold after the run, over real arguments. -/
module

public import proofs.«01_k».proof.Proof.RmsMath
public import proofs.«01_k».proof.Proof.Gen.Kernel2Ideal.Value
public import Idealize.ShloMosaic.Lib.Pipeline.ValueKit

@[expose] public section

set_option maxRecDepth 16384

noncomputable section

namespace Cert.Kernel2Ideal.Final

open Cert.Kernel2Ideal Cert.Kernel2Ideal.Gen Idealize.ShloMosaic Idealize.ShloMosaic.TcCoe Idealize.SL.Sem Cert.Reals Cert.Rms
open Idealize.ShloMosaic.Pipeline (Dat)

/-! ## The body's arithmetic on a block of rows -/

section Pay
variable (dh x : S512x1024.Idx → ℝ) (g : S1x1024.Idx → ℝ)

theorem rstd_at (r : Fin 512) : k0_pay2 (F := Ideal) (fun i => (x i : EReal)) (ix2 r 0) = ((rstd 1024 (fun k => x (ix2 r k)) : ℝ) : EReal) := by
  pointwise [k0_pay2]
  simp only [ofBits_1024, ofBits_eps, ← EReal.coe_mul, sum_coe]
  rw [div_coe _ _ (by norm_num), ← EReal.coe_add]
  exact rsqrt_coe _ (ms_pos (by norm_num : (0:ℝ) < 1024) _)

theorem pay_dx (d : Vec Ideal S512x1024 .f32) (r : Fin 512) (k : Fin 1024) :
    k0_pay4 (F := Ideal) (fun i => (dh i : EReal)) (fun i => (x i : EReal)) (fun i => (g i : EReal)) d (ix2 r k)
      = d (ix2 r k) + ((bwd 1024 (fun k => x (ix2 r k)) (fun k => dh (ix2 r k) * g (ix2 0 k)) k : ℝ) : EReal) := by
  pointwise [k0_pay4, k0_pay3]
  simp only [rstd_at, ofBits_1024, ← EReal.coe_mul, sum_coe, ← EReal.coe_sub, div_coe _ _ (by norm_num : (1024:ℝ) ≠ 0)]
  rfl

theorem pay_dg (acc : Vec Ideal S1x1024 .f32) (k : Fin 1024) :
    k0_pay5 (F := Ideal) (fun i => (dh i : EReal)) (fun i => (x i : EReal)) acc (ix2 0 k)
      = acc (ix2 0 k) + ((∑ r : Fin 512, dh (ix2 r k) * (x (ix2 r k) * rstd 1024 (fun k => x (ix2 r k))) : ℝ) : EReal) := by
  pointwise [k0_pay5, k0_pay3]
  simp only [rstd_at, ← EReal.coe_mul, sum_coe]

theorem pay_zero (j : S1x1024.Idx) : k0_pay1 (F := Ideal) j = 0 := by pointwise [k0_pay1]
end Pay

variable (m : (ℓ : Loc nD τ sig) → Buf (Elt Ideal) ℓ)
variable (dh x : S8192x1024.Idx → ℝ) (g : S1x1024.Idx → ℝ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

/-- Row `r` of grid point `t`'s block of rows, as a row of the array. -/
def row (t : Fin cfg0.N) (r : Fin 512) : Fin 8192 := ⟨t.val * 512 + r.val, by have := lt_of_lt_of_eq t.isLt N_0; omega⟩

variable (c : Dev nD)

theorem blk0 (h0 : m ((c : Thread nD τ).loc main_arg0) = fun i : S8192x1024.Idx => (dh i : EReal)) (t : Fin cfg0.N) :
    (iblk m c 0 t : Vec Ideal S512x1024 .f32) = fun i => ((dh (ix2 (row t (i 0)) (i 1)) : ℝ) : EReal) := by
  funext i
  refine Eq.trans (b := (m ((c : Thread nD τ).loc main_arg0) : FVec Ideal S8192x1024 .f32) (ix2 (row t (i 0)) (i 1))) ?_ (congrFun h0 _)
  blk_ext [iblk, V, idx t, row]

theorem blk1 (h1 : m ((c : Thread nD τ).loc main_arg1) = fun i : S8192x1024.Idx => (x i : EReal)) (t : Fin cfg0.N) :
    (iblk m c 1 t : Vec Ideal S512x1024 .f32) = fun i => ((x (ix2 (row t (i 0)) (i 1)) : ℝ) : EReal) := by
  funext i
  refine Eq.trans (b := (m ((c : Thread nD τ).loc main_arg1) : FVec Ideal S8192x1024 .f32) (ix2 (row t (i 0)) (i 1))) ?_ (congrFun h1 _)
  blk_ext [iblk, V, idx t, row]

theorem blk2 (h2 : m ((c : Thread nD τ).loc main_arg2) = fun i : S1x1024.Idx => (g i : EReal)) (t : Fin cfg0.N) :
    (iblk m c 2 t : Vec Ideal S1x1024 .f32) = fun i => ((g i : ℝ) : EReal) := by
  funext i
  refine Eq.trans (b := (m ((c : Thread nD τ).loc main_arg2) : FVec Ideal S1x1024 .f32) i) ?_ (congrFun h2 _)
  blk_ext [iblk, V, idx t]

theorem blk3 (t : Fin cfg0.N) (i : S512x1024.Idx) :
    (iblk m c 3 t : Vec Ideal S512x1024 .f32) i = (m ((c : Thread nD τ).loc main_arg3) : FVec Ideal S8192x1024 .f32) (ix2 (row t (i 0)) (i 1)) := by
  blk_ext [iblk, V, idx t, row]

variable (h0 : m ((c : Thread nD τ).loc main_arg0) = fun i : S8192x1024.Idx => (dh i : EReal))
  (h1 : m ((c : Thread nD τ).loc main_arg1) = fun i : S8192x1024.Idx => (x i : EReal))
  (h2 : m ((c : Thread nD τ).loc main_arg2) = fun i : S1x1024.Idx => (g i : EReal))
include h0 h1 h2

/-- The gradient the kernel forms, as an array over the step's rows. -/
def DX (dh x : S8192x1024.Idx → ℝ) (g : S1x1024.Idx → ℝ) (d : FVec Ideal S8192x1024 .f32) : FVec Ideal S8192x1024 .f32 := fun j =>
  d j + ((bwd 1024 (fun k => x (ix2 (j 0) k)) (fun k => dh (ix2 (j 0) k) * g (ix2 0 k)) (j 1) : ℝ) : EReal)

/-- The gain's gradient. -/
def DG (dh x : S8192x1024.Idx → ℝ) : FVec Ideal S1x1024 .f32 := fun j =>
  ((∑ r : Fin 8192, dh (ix2 r (j 1)) * (x (ix2 r (j 1)) * rstd 1024 (fun k => x (ix2 r k))) : ℝ) : EReal)

theorem point_dx (t : Fin cfg0.N) (y : S512x1024.Idx) :
    k0_pay4 (F := Ideal) (iblk m c 0 t) (iblk m c 1 t) (iblk m c 2 t) (iblk m c 3 t) y
      = DX dh x g (m ((c : Thread nD τ).loc main_arg3)) (ix2 (row t (y 0)) (y 1)) := by
  rw [blk0 m dh c h0 t, blk1 m x c h1 t, blk2 m g c h2 t, eq_ix2 y]
  refine (pay_dx _ _ _ _ (y 0) (y 1)).trans ?_
  rw [blk3]
  rfl

theorem final_dx : (dats m 0 c).arrAt 4 (cfgs 0).N = DX dh x g (m ((c : Thread nD τ).loc main_arg3)) := by
  refine (dats m 0 c).arrAt_eq_of_covers 4 _ (by decide +kernel) fun t _ y => ?_
  have e : ((cfg0.win 4).blk t).view.emb y = (ix2 (row t (y 0)) (y 1) : S8192x1024.Idx) := by blk_ext [idx t, row]
  blk_simp
  rw [after0_4, e]
  by_cases h : t.val % 16 = 0
  · rw [outsAt0_A m c t h]; frame_out
    exact point_dx m dh x g c h0 h1 h2 t y
  · rw [outsAt0_B m c t h]; frame_out
    exact point_dx m dh x g c h0 h1 h2 t y

omit h2 in
theorem part_dg (t : Fin cfg0.N) (acc : Vec Ideal S1x1024 .f32) (y : S1x1024.Idx) :
    k0_pay5 (F := Ideal) (iblk m c 0 t) (iblk m c 1 t) acc y = acc y
      + ((∑ r : Fin 512, dh (ix2 (row t r) (y 1)) * (x (ix2 (row t r) (y 1)) * rstd 1024 (fun k => x (ix2 (row t r) k))) : ℝ) : EReal) := by
  rw [blk0 m dh c h0 t, blk1 m x c h1 t]
  obtain ⟨k, rfl⟩ : ∃ k : Fin 1024, y = ix2 0 k := ⟨y 1, by idx_ext⟩
  exact pay_dg _ _ _ k

omit h2 in
theorem final_dg : (dats m 0 c).arrAt 5 (cfgs 0).N = DG dh x := by
  refine (dats m 0 c).arrAt_eq_of_covers 5 _ (by decide +kernel) fun t hf y => ?_
  have e : ((cfg0.win 5).blk t).view.emb y = (ix2 0 (y 1) : S1x1024.Idx) := by blk_ext [idx t]
  blk_simp
  rw [after0_5, e, Pipeline.eq_sum_fin_of_reset_step_apply_of_flush (fun n h => (outsAt0 m c n h).2) 16 (fun _ => 0)
    (fun p y => ((∑ r : Fin 512, dh (ix2 (row p r) (y 1)) * (x (ix2 (row p r) (y 1)) * rstd 1024 (fun k => x (ix2 (row p r) k))) : ℝ) : EReal))
    (fun t h j => by rw [outsAt0_A m c t h]; frame_out; rw [part_dg m dh x c h0 h1, pay_zero])
    (fun t h j => by rw [outsAt0_B m c t h]; frame_out; rw [part_dg m dh x c h0 h1])
    t ((flush0_5 t).mp hf) _, zero_add]
  unfold DG
  refine (sum_coe _ _).trans (congrArg _ ?_)
  refine Fin.sum_mul_add_congr fun s r hl => ?_
  have er : row ⟨16 * (t.val / 16) + s.val, Pipeline.run_point_lt_of_flush t ((flush0_5 t).mp hf) s⟩ r = ⟨s.val * 512 + r.val, hl⟩ := by
    apply Fin.ext
    have := lt_of_lt_of_eq t.isLt N_0
    simp only [row]; omega
  rw [er]
  rfl

end Cert.Kernel2Ideal.Final

end
-- ==== Proof.FinalRef.lean ====
/- The reference of the step's last gradient, read at an index over real arguments. -/
module

public import proofs.«01_k».proof.Proof.RmsMath
public import proofs.«01_k».proof.Proof.Gen.Reference2Ideal.Read
public import Idealize.ShloMosaic.Lib.Pointwise

@[expose] public section

set_option maxRecDepth 16384

noncomputable section

namespace Cert.Reference2Ideal.Final

open Cert.Reference2Ideal Cert.Reference2Ideal.Read Idealize.ShloMosaic Cert.Reals Cert.Rms

variable (dh x : S8192x1024.Idx → ℝ) (g : S1x1024.Idx → ℝ)

/-- The mean square the reference forms of row `r`. -/
theorem ms_at (r : Fin 8192) : val_main_v6 (F := Ideal) (fun i => (x i : EReal)) (ix2 r 0) = ((ms 1024 (fun k => x (ix2 r k)) : ℝ) : EReal) := by
  pointwise [val_main_v6, val_main_v5, val_main_v4, val_main_v3, val_main_v2, val_main_v1, val_main_v0, val_main_cst, val_main_cst_0, val_main_cst_1]
  simp only [ofBits_1024, ofBits_eps, ← EReal.coe_mul, sum_coe, zero_add]
  rw [div_coe _ _ (by norm_num), ← EReal.coe_add]
  rfl

theorem ref_dx (d : FVec Ideal S8192x1024 .f32) (r : Fin 8192) (k : Fin 1024) :
    val_main_v34 (F := Ideal) (fun i => (dh i : EReal)) (fun i => (x i : EReal)) (fun i => (g i : EReal)) d (ix2 r k)
      = d (ix2 r k) + ((bwd 1024 (fun k => x (ix2 r k)) (fun k => dh (ix2 r k) * g (ix2 0 k)) k : ℝ) : EReal) := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v11, val_main_v10, val_main_v9, val_main_v8, val_main_v7, val_main_cst_2, val_main_cst_4, val_main_cst_5, val_main_cst_6, ms_at]
  have e0 : ((0 : Fin 1) : Fin 1) = 0 := rfl
  simp only [Fin.sum_univ_one, Fin.isValue, ms_at, ofBits_1024, ofBits_neg_half, rsqrt_coe _ (ms_pos (by norm_num : (0:ℝ) < 1024) _),
    div_coe _ _ (ms_pos (by norm_num : (0:ℝ) < 1024) _).ne', ← EReal.coe_mul, sum_coe, div_coe _ _ (by norm_num : (1024:ℝ) ≠ 0), add_assoc,
    ← EReal.coe_add]
  rw [← bwd_eq (by norm_num : (0:ℝ) < 1024)]
  congr 2
  simp only [rstd]
  ring

/-- The gain's gradient: the sum over the rows of the cotangent times the normalised row. -/
theorem ref_dg (k : Fin 1024) :
    val_main_v17 (F := Ideal) (fun i => (dh i : EReal)) (fun i => (x i : EReal)) (ix2 0 k)
      = ((∑ r : Fin 8192, dh (ix2 r k) * (x (ix2 r k) * rstd 1024 (fun k => x (ix2 r k))) : ℝ) : EReal) := by
  pointwise [val_main_v17, val_main_v16, val_main_v15, val_main_v12, val_main_v11, val_main_v7, val_main_cst_3]
  simp only [ms_at, rsqrt_coe _ (ms_pos (by norm_num : (0:ℝ) < 1024) _), ← EReal.coe_mul, sum_coe, zero_add]
  congr 1
  exact Finset.sum_congr rfl fun r _ => by simp only [rstd]; ring

end Cert.Reference2Ideal.Final

end
-- ==== Proof.FinalPair.lean ====
/- The claims of the input norm's gradient: the idealized kernel and the reference leave the same two arrays at finite
   arguments, and the reference keeps its arguments. -/
module

public import proofs.«01_k».proof.Defs
public import proofs.«01_k».proof.Proof.Gen.Reference2Ideal.Run
public import proofs.«01_k».proof.Proof.FinalKernel
public import proofs.«01_k».proof.Proof.FinalRef
public import Idealize.ShloMosaic.Adequacy
public import Idealize.ShloMosaic.Init

@[expose] public section

noncomputable section

namespace Cert.FinalPair

open Idealize.ShloMosaic Idealize.SL.Sem

/-- Every entry of the first three arguments is a real number. -/
theorem args_real [Cert.Pre_finite2.Facts] (a0 a1 a3 : FVec Ideal Cert.Kernel2Ideal.S8192x1024 .f32) (a2 : FVec Ideal Cert.Kernel2Ideal.S1x1024 .f32)
    (h : Cert.Pre_finite2.fn (F := Ideal) a0 a1 a2 a3 = fun _ => 1#1) :
    (a0 = fun i => ((EReal.toReal (a0 i) : ℝ) : EReal)) ∧ (a1 = fun i => ((EReal.toReal (a1 i) : ℝ) : EReal))
      ∧ (a2 = fun i => ((EReal.toReal (a2 i) : ℝ) : EReal)) := by
  have h' := congrFun h (fun a => a.elim0)
  obtain ⟨h01, h2⟩ := IntOp.andi_eq_one.1 h'
  obtain ⟨h0, h1⟩ := IntOp.andi_eq_one.1 h01
  haveI : Subsingleton Cert.Pre_finite2.S_.Idx := ⟨fun a b => funext fun k => k.elim0⟩
  exact ⟨Cert.Reals.finite_of_all _ _ _ _ _ _ (fun _ => Cert.Reals.ofBits_inf) h0,
    Cert.Reals.finite_of_all _ _ _ _ _ _ (fun _ => Cert.Reals.ofBits_inf) h1,
    Cert.Reals.finite_of_all _ _ _ _ _ _ (fun _ => Cert.Reals.ofBits_inf) h2⟩

/-- The reference runs, keeps its arguments, and leaves every counter at zero: it declares none. -/
theorem reference_frame : Cert.quiescent_Reference2Ideal := fun m g _ =>
  (θ_run (Cert.Reference2Ideal.defs (F := Ideal)) _ _).mono
    (fun r h => ⟨fun c => (h c).2.2, sem_eq_zero_of_no_sems (by decide) r.2⟩) (Cert.Reference2Ideal.Value.run m g)

open Cert.Kernel2Ideal.Final in
/-- The reference's first result at finite arguments: the function the kernel's is. -/
theorem reference_dx (a0 a1 a3 : FVec Ideal Cert.Kernel2Ideal.S8192x1024 .f32) (a2 : FVec Ideal Cert.Kernel2Ideal.S1x1024 .f32)
    (h0 : a0 = fun i => ((EReal.toReal (a0 i) : ℝ) : EReal)) (h1 : a1 = fun i => ((EReal.toReal (a1 i) : ℝ) : EReal))
    (h2 : a2 = fun i => ((EReal.toReal (a2 i) : ℝ) : EReal)) :
    Cert.Reference2Ideal.Read.val_main_v34 (F := Ideal) a0 a1 a2 a3
      = DX (fun i => (a0 i).toReal) (fun i => (a1 i).toReal) (fun i => (a2 i).toReal) a3 := by
  funext (j : Cert.Kernel2Ideal.S8192x1024.Idx)
  have h := Cert.Reference2Ideal.Final.ref_dx (fun i => (a0 i).toReal) (fun i => (a1 i).toReal) (fun i => (a2 i).toReal) a3 (j 0) (j 1)
  rw [← h0, ← h1, ← h2, ← eq_ix2 j] at h
  exact h

open Cert.Kernel2Ideal.Final in
/-- The reference's second result at finite arguments: the function the kernel's is. -/
theorem reference_dg (a0 a1 : FVec Ideal Cert.Kernel2Ideal.S8192x1024 .f32)
    (h0 : a0 = fun i => ((EReal.toReal (a0 i) : ℝ) : EReal)) (h1 : a1 = fun i => ((EReal.toReal (a1 i) : ℝ) : EReal)) :
    Cert.Reference2Ideal.Read.val_main_v17 (F := Ideal) a0 a1 = DG (fun i => (a0 i).toReal) (fun i => (a1 i).toReal) := by
  funext (j : Cert.Kernel2Ideal.S1x1024.Idx)
  have h := Cert.Reference2Ideal.Final.ref_dg (fun i => (a0 i).toReal) (fun i => (a1 i).toReal) (j 1)
  rw [← h0, ← h1, ← Subsingleton.elim (α := Fin 1) (j 0) 0, ← eq_ix2 j] at h
  exact h

set_option maxRecDepth 16384 in
theorem algebraic [Cert.Pre_finite2.Facts] : Cert.algebraic_Kernel2Ideal_Reference2Ideal_pre_finite2 := by
  pair_intro
  · exact Cert.Kernel2Ideal.Value.run_blocks m g
  · refine θ_run_mono (Cert.Reference2Ideal.Value.run m' g') fun r hr c => ⟨(hr c).1.trans ?_, (hr c).2.1.trans ?_, (hr c).2.2⟩
    all_goals
      obtain ⟨e0, e1, e2, e3⟩ := hagree c
      rw [e0, e1]
      obtain ⟨h0, h1, h2⟩ := args_real _ _ _ _ (hpre c)
    · rw [e2, e3, Cert.Reference2Ideal.Read.val_main_v34_eq]
      exact (reference_dx _ _ _ _ h0 h1 h2).trans (Cert.Kernel2Ideal.Final.final_dx m _ _ _ c h0 h1 h2).symm
    · rw [Cert.Reference2Ideal.Read.val_main_v17_eq]
      exact (reference_dg _ _ h0 h1).trans (Cert.Kernel2Ideal.Final.final_dg m _ _ c h0 h1).symm

end Cert.FinalPair
end
-- ==== Proof.ResnormMath.lean ====
/- The residual sum between the mixing and the feed-forward part, its two norms, and their gradients, over the real numbers. -/
module

public import proofs.«01_k».proof.Proof.RmsMath
public import Idealize.ShloMosaic.Lib.Pointwise

@[expose] public section

noncomputable section

namespace Cert.Resnorm

open Idealize.ShloMosaic Cert.Reals Cert.Rms

/-- A real matrix as an array. -/
def arr {a b : ℕ} (f : Fin a → Fin b → ℝ) : (⟨2, ![a, b]⟩ : Shape).Idx → EReal := fun i => ((f (i 0) (i 1) : ℝ) : EReal)

/-- A finite array is a real matrix. -/
theorem exists_arr {a b : ℕ} (v : (⟨2, ![a, b]⟩ : Shape).Idx → EReal) (h : v = fun i => ((EReal.toReal (v i) : ℝ) : EReal)) : ∃ f, v = arr f :=
  ⟨fun i j => (v (ix2 i j)).toReal, h.trans (funext fun i => by show _ = (((v (ix2 (i 0) (i 1))).toReal : ℝ) : EReal); rw [← eq_ix2 i])⟩

theorem arr_ext {a b : ℕ} {v : (⟨2, ![a, b]⟩ : Shape).Idx → EReal} {f : Fin a → Fin b → ℝ} (h : ∀ i j, v (ix2 i j) = ((f i j : ℝ) : EReal)) : v = arr f :=
  funext fun i => by rw [eq_ix2 i]; exact h (i 0) (i 1)

variable (x y dx dh : Fin 8192 → Fin 1024 → ℝ) (gp gf : Fin 1 → Fin 1024 → ℝ)

/-- The residual sum. -/
def X1 (r : Fin 8192) (k : Fin 1024) : ℝ := x r k + y r k * rstd 1024 (y r) * gp 0 k
/-- Its gradient: the cotangent it has and what comes through the norm after it. -/
def DX1 (r : Fin 8192) (k : Fin 1024) : ℝ := dx r k + bwd 1024 (X1 x y gp r) (fun k => dh r k * gf 0 k) k
/-- The gradient of the mixing's output. -/
def DY (r : Fin 8192) (k : Fin 1024) : ℝ := bwd 1024 (y r) (fun k => DX1 x y dx dh gp gf r k * gp 0 k) k
/-- The gradients of the two gains. -/
def DGF (_ : Fin 1) (k : Fin 1024) : ℝ := ∑ r, dh r k * (X1 x y gp r k * rstd 1024 (X1 x y gp r))
def DGP (_ : Fin 1) (k : Fin 1024) : ℝ := ∑ r, DX1 x y dx dh gp gf r k * (y r k * rstd 1024 (y r))

end Cert.Resnorm

end
-- ==== Proof.ResnormKernel.lean ====
/- The kernel of the residual sum's gradient: what its four result arrays hold after the run, over real arguments. -/
module

public import proofs.«01_k».proof.Proof.ResnormMath
public import proofs.«01_k».proof.Proof.Gen.Kernel3Ideal.Frame
public import Idealize.ShloMosaic.Lib.Pipeline.ValueKit
public import Idealize.ShloMosaic.Lib.StableHlo.Run

@[expose] public section

set_option maxRecDepth 16384

noncomputable section

namespace Cert.Kernel3Ideal.Resnorm

open Cert.Kernel3Ideal Cert.Kernel3Ideal.Gen Idealize.ShloMosaic Idealize.ShloMosaic.TcCoe Idealize.SL.Sem Cert.Reals Cert.Rms Cert.Resnorm Idealize.ShloMosaic.StableHlo
open Idealize.ShloMosaic.Pipeline (Dat)

/-! ## The body's arithmetic on a block of rows -/

section Pay
variable (a x : Fin 512 → Fin 1024 → ℝ) (g : Fin 1 → Fin 1024 → ℝ)

theorem rstd_at (r : Fin 512) : k0_pay2 (F := Ideal) (arr x) (ix2 r 0) = ((rstd 1024 (x r) : ℝ) : EReal) := by
  pointwise [k0_pay2, arr]
  simp only [ofBits_1024, ofBits_eps, ← EReal.coe_mul, sum_coe]
  rw [div_coe _ _ (by norm_num), ← EReal.coe_add]
  exact rsqrt_coe _ (ms_pos (by norm_num : (0:ℝ) < 1024) _)

theorem rstd_at' (r : Fin 512) : k0_pay9 (F := Ideal) (arr x) (ix2 r 0) = ((rstd 1024 (x r) : ℝ) : EReal) := by
  pointwise [k0_pay9, k0_pay8, arr]
  simp only [ofBits_1024, ofBits_eps, ← EReal.coe_mul, sum_coe]
  rw [div_coe _ _ (by norm_num), ← EReal.coe_add]
  exact rsqrt_coe _ (ms_pos (by norm_num : (0:ℝ) < 1024) _)

theorem pay_dx (d : Fin 512 → Fin 1024 → ℝ) : k0_pay11 (F := Ideal) (arr a) (arr x) (arr g) (arr d)
    = arr fun r k => d r k + bwd 1024 (x r) (fun k => a r k * g 0 k) k := by
  refine arr_ext fun r k => ?_
  pointwise [k0_pay11, k0_pay10, k0_pay8]
  simp only [rstd_at']
  simp only [arr, ofBits_1024, ← EReal.coe_mul, sum_coe, ← EReal.coe_sub, div_coe _ _ (by norm_num : (1024:ℝ) ≠ 0), ← EReal.coe_add]
  rfl

theorem pay_dy : k0_pay4 (F := Ideal) (arr a) (arr x) (arr g) = arr fun r k => bwd 1024 (x r) (fun k => a r k * g 0 k) k := by
  refine arr_ext fun r k => ?_
  pointwise [k0_pay4, k0_pay3]
  simp only [rstd_at]
  simp only [arr, ofBits_1024, ← EReal.coe_mul, sum_coe, ← EReal.coe_sub, div_coe _ _ (by norm_num : (1024:ℝ) ≠ 0), ← EReal.coe_add]
  rfl

theorem pay_dgp (acc : Vec Ideal S1x1024 .f32) (k : Fin 1024) : k0_pay5 (F := Ideal) (arr a) (arr x) acc (ix2 0 k)
    = acc (ix2 0 k) + ((∑ r : Fin 512, a r k * (x r k * rstd 1024 (x r)) : ℝ) : EReal) := by
  pointwise [k0_pay5, k0_pay3]
  simp only [rstd_at]
  simp only [arr, ← EReal.coe_mul, sum_coe]
  rfl

theorem pay_dgf (acc : Vec Ideal S1x1024 .f32) (k : Fin 1024) : k0_pay1 (F := Ideal) (k0_pay12 acc) (k0_pay13 (F := Ideal) (arr a) (arr x)) (ix2 0 k)
    = acc (ix2 0 k) + ((∑ r : Fin 512, a r k * (x r k * rstd 1024 (x r)) : ℝ) : EReal) := by
  pointwise [k0_pay1, k0_pay12, k0_pay13, k0_pay10, k0_pay8]
  simp only [rstd_at']
  simp only [arr, ← EReal.coe_mul, sum_coe]
  rfl

theorem pay_zero6 (j : S1x1024.Idx) : k0_pay6 (F := Ideal) j = 0 := by pointwise [k0_pay6]
theorem pay_zero7 (j : S1x1024.Idx) : k0_pay7 (F := Ideal) j = 0 := by pointwise [k0_pay7]
end Pay

variable (m : (ℓ : Loc nD τ sig) → Buf (Elt Ideal) ℓ) (c : Dev nD)
variable (x y dx dh : Fin 8192 → Fin 1024 → ℝ) (gp gf : Fin 1 → Fin 1024 → ℝ)

/-! ## The residual sum the host forms -/

/-- The lines before the call: the mixing's output, normalised, added to the input. -/
def hostX1 (a b : FVec Ideal S8192x1024 .f32) (g : FVec Ideal S1x1024 .f32) : FVec Ideal S8192x1024 .f32 :=
  addf a (mulf (mulf b (broadcastInDim S8192x1024 ![0, 1] bcast_S8192x1_S8192x1024_0_1 (Host.rsqrt (addf
      (Host.divf (broadcastInDim S8192x1 ![0] bcast_S8192_S8192x1_0 (Host.reduceAdd (mulf b b) (constant S_ .f32 0x00000000#32) reducesTo_S8192x1024_S8192_d1 h_S_))
        (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 g))

theorem hostX1_eq : hostX1 (arr x) (arr y) (arr gp) = arr (X1 x y gp) := by
  refine arr_ext fun r k => ?_
  pointwise [hostX1, arr]
  simp only [ofBits_1024, ofBits_eps, ← EReal.coe_mul, sum_coe, zero_add, div_coe _ _ (by norm_num : (1024:ℝ) ≠ 0), ← EReal.coe_add]
  erw [rsqrt_coe _ (ms_pos (by norm_num : (0:ℝ) < 1024) (y r))]
  simp only [← EReal.coe_mul, ← EReal.coe_add]
  rfl

theorem host_v12 : (V m c main_v12 : FVec Ideal S8192x1024 .f32)
    = hostX1 (m ((c : Thread nD τ).loc main_arg0)) (m ((c : Thread nD τ).loc main_arg1)) (m ((c : Thread nD τ).loc main_arg2)) := by
  show after hostOps0 (fun b => m (c, b)) (Proc.devRef .tc main_v12) = _
  after_results
  rfl

/-! ## Blocks -/

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![0, 0] ∧ win0_9.index t = ![0, 0] :=
  (by decide +kernel : ∀ t : Fin grid0.N, _)

/-- Row `r` of grid point `t`'s block of rows, as a row of the array. -/
def row (t : Fin cfg0.N) (r : Fin 512) : Fin 8192 := ⟨t.val * 512 + r.val, by have := lt_of_lt_of_eq t.isLt N_0; omega⟩

theorem blk0 (h : (V m c main_arg5 : FVec Ideal S8192x1024 .f32) = arr dh) (t : Fin cfg0.N) :
    (iblk m c 0 t : Vec Ideal S512x1024 .f32) = arr fun r k => dh (row t r) k := by
  funext i
  refine Eq.trans (b := (V m c main_arg5 : FVec Ideal S8192x1024 .f32) (ix2 (row t (i 0)) (i 1))) ?_ (congrFun h _)
  blk_ext [iblk, idx t, row]

theorem blk1 (h : (V m c main_v12 : FVec Ideal S8192x1024 .f32) = arr x) (t : Fin cfg0.N) :
    (iblk m c 1 t : Vec Ideal S512x1024 .f32) = arr fun r k => x (row t r) k := by
  funext i
  refine Eq.trans (b := (V m c main_v12 : FVec Ideal S8192x1024 .f32) (ix2 (row t (i 0)) (i 1))) ?_ (congrFun h _)
  blk_ext [iblk, idx t, row]

theorem blk2 (h : (V m c main_arg3 : FVec Ideal S1x1024 .f32) = arr gf) (t : Fin cfg0.N) :
    (iblk m c 2 t : Vec Ideal S1x1024 .f32) = arr gf := by
  funext i
  refine Eq.trans (b := (V m c main_arg3 : FVec Ideal S1x1024 .f32) i) ?_ (congrFun h _)
  blk_ext [iblk, idx t]

theorem blk3 (h : (V m c main_arg4 : FVec Ideal S8192x1024 .f32) = arr dx) (t : Fin cfg0.N) :
    (iblk m c 3 t : Vec Ideal S512x1024 .f32) = arr fun r k => dx (row t r) k := by
  funext i
  refine Eq.trans (b := (V m c main_arg4 : FVec Ideal S8192x1024 .f32) (ix2 (row t (i 0)) (i 1))) ?_ (congrFun h _)
  blk_ext [iblk, idx t, row]

theorem blk4 (h : (V m c main_arg1 : FVec Ideal S8192x1024 .f32) = arr y) (t : Fin cfg0.N) :
    (iblk m c 4 t : Vec Ideal S512x1024 .f32) = arr fun r k => y (row t r) k := by
  funext i
  refine Eq.trans (b := (V m c main_arg1 : FVec Ideal S8192x1024 .f32) (ix2 (row t (i 0)) (i 1))) ?_ (congrFun h _)
  blk_ext [iblk, idx t, row]

theorem blk5 (h : (V m c main_arg2 : FVec Ideal S1x1024 .f32) = arr gp) (t : Fin cfg0.N) :
    (iblk m c 5 t : Vec Ideal S1x1024 .f32) = arr gp := by
  funext i
  refine Eq.trans (b := (V m c main_arg2 : FVec Ideal S1x1024 .f32) i) ?_ (congrFun h _)
  blk_ext [iblk, idx t]

/-! ## The result arrays -/

section Final
variable (h0 : m ((c : Thread nD τ).loc main_arg0) = arr x) (h1 : m ((c : Thread nD τ).loc main_arg1) = arr y)
  (h2 : m ((c : Thread nD τ).loc main_arg2) = arr gp) (h3 : m ((c : Thread nD τ).loc main_arg3) = arr gf)
  (h4 : m ((c : Thread nD τ).loc main_arg4) = arr dx) (h5 : m ((c : Thread nD τ).loc main_arg5) = arr dh)
include h0 h1 h2 h3 h4 h5

theorem blks (t : Fin cfg0.N) : (iblk m c 0 t : Vec Ideal S512x1024 .f32) = (arr fun r k => dh (row t r) k)
    ∧ (iblk m c 1 t : Vec Ideal S512x1024 .f32) = (arr fun r k => X1 x y gp (row t r) k)
    ∧ (iblk m c 2 t : Vec Ideal S1x1024 .f32) = arr gf
    ∧ (iblk m c 3 t : Vec Ideal S512x1024 .f32) = (arr fun r k => dx (row t r) k)
    ∧ (iblk m c 4 t : Vec Ideal S512x1024 .f32) = (arr fun r k => y (row t r) k)
    ∧ (iblk m c 5 t : Vec Ideal S1x1024 .f32) = arr gp :=
  ⟨blk0 m c dh ((V_main_arg5 m c).trans h5) t,
   blk1 m c _ ((host_v12 m c).trans (by rw [h0, h1, h2]; exact hostX1_eq x y gp)) t,
   blk2 m c gf ((V_main_arg3 m c).trans h3) t, blk3 m c dx ((V_main_arg4 m c).trans h4) t,
   blk4 m c y ((V_main_arg1 m c).trans h1) t, blk5 m c gp ((V_main_arg2 m c).trans h2) t⟩

theorem point_dx (t : Fin cfg0.N) : k0_pay11 (F := Ideal) (iblk m c 0 t) (iblk m c 1 t) (iblk m c 2 t) (iblk m c 3 t)
    = arr fun r k => DX1 x y dx dh gp gf (row t r) k := by
  obtain ⟨e0, e1, e2, e3, e4, e5⟩ := blks m c x y dx dh gp gf h0 h1 h2 h3 h4 h5 t
  rw [e0, e1, e2, e3]
  exact pay_dx _ _ _ _

theorem point_dy (t : Fin cfg0.N) : k0_pay4 (F := Ideal) (k0_pay11 (F := Ideal) (iblk m c 0 t) (iblk m c 1 t) (iblk m c 2 t) (iblk m c 3 t)) (iblk m c 4 t) (iblk m c 5 t)
    = arr fun r k => DY x y dx dh gp gf (row t r) k := by
  obtain ⟨e0, e1, e2, e3, e4, e5⟩ := blks m c x y dx dh gp gf h0 h1 h2 h3 h4 h5 t
  rw [point_dx m c x y dx dh gp gf h0 h1 h2 h3 h4 h5 t, e4, e5]
  exact pay_dy _ _ _

theorem final_dx : (dats m 0 c).arrAt 6 (cfgs 0).N = arr (DX1 x y dx dh gp gf) := by
  refine (dats m 0 c).arrAt_eq_of_covers 6 _ (by decide +kernel) fun t _ z => ?_
  have e : ((cfg0.win 6).blk t).view.emb z = (ix2 (row t (z 0)) (z 1) : S8192x1024.Idx) := by blk_ext [idx t, row]
  blk_simp
  rw [after0_6, e]
  by_cases h : t.val % 16 = 0
  · rw [outsAt0_A m c t h]; frame_out
    exact congrFun (point_dx m c x y dx dh gp gf h0 h1 h2 h3 h4 h5 t) z
  · rw [outsAt0_B m c t h]; frame_out
    exact congrFun (point_dx m c x y dx dh gp gf h0 h1 h2 h3 h4 h5 t) z

theorem final_dy : (dats m 0 c).arrAt 7 (cfgs 0).N = arr (DY x y dx dh gp gf) := by
  refine (dats m 0 c).arrAt_eq_of_covers 7 _ (by decide +kernel) fun t _ z => ?_
  have e : ((cfg0.win 7).blk t).view.emb z = (ix2 (row t (z 0)) (z 1) : S8192x1024.Idx) := by blk_ext [idx t, row]
  blk_simp
  rw [after0_7, e]
  by_cases h : t.val % 16 = 0
  · rw [outsAt0_A m c t h]; frame_out
    exact congrFun (point_dy m c x y dx dh gp gf h0 h1 h2 h3 h4 h5 t) z
  · rw [outsAt0_B m c t h]; frame_out
    exact congrFun (point_dy m c x y dx dh gp gf h0 h1 h2 h3 h4 h5 t) z

theorem part_dgf (t : Fin cfg0.N) (acc : Vec Ideal S1x1024 .f32) (z : S1x1024.Idx) :
    k0_pay1 (F := Ideal) (k0_pay12 acc) (k0_pay13 (F := Ideal) (iblk m c 0 t) (iblk m c 1 t)) z = acc z
      + ((∑ r : Fin 512, dh (row t r) (z 1) * (X1 x y gp (row t r) (z 1) * rstd 1024 (X1 x y gp (row t r))) : ℝ) : EReal) := by
  obtain ⟨e0, e1, e2, e3, e4, e5⟩ := blks m c x y dx dh gp gf h0 h1 h2 h3 h4 h5 t
  rw [e0, e1]
  obtain ⟨k, rfl⟩ : ∃ k : Fin 1024, z = ix2 0 k := ⟨z 1, by idx_ext⟩
  exact pay_dgf _ _ _ k

theorem part_dgp (t : Fin cfg0.N) (acc : Vec Ideal S1x1024 .f32) (z : S1x1024.Idx) :
    k0_pay5 (F := Ideal) (k0_pay11 (F := Ideal) (iblk m c 0 t) (iblk m c 1 t) (iblk m c 2 t) (iblk m c 3 t)) (iblk m c 4 t) acc z = acc z
      + ((∑ r : Fin 512, DX1 x y dx dh gp gf (row t r) (z 1) * (y (row t r) (z 1) * rstd 1024 (y (row t r))) : ℝ) : EReal) := by
  obtain ⟨e0, e1, e2, e3, e4, e5⟩ := blks m c x y dx dh gp gf h0 h1 h2 h3 h4 h5 t
  rw [point_dx m c x y dx dh gp gf h0 h1 h2 h3 h4 h5 t, e4]
  obtain ⟨k, rfl⟩ : ∃ k : Fin 1024, z = ix2 0 k := ⟨z 1, by idx_ext⟩
  exact pay_dgp _ _ _ k

omit h0 h1 h2 h3 h4 h5 in
/-- The sum over all rows, from the sums over the blocks of rows. -/
theorem sum_rows (f : Fin 8192 → ℝ) (t : Fin cfg0.N) (hf : t.val % 16 = 15) :
    (∑ s : Fin 16, ((∑ r : Fin 512, f (row ⟨16 * (t.val / 16) + s.val, Pipeline.run_point_lt_of_flush t hf s⟩ r) : ℝ) : EReal)) = ((∑ r, f r : ℝ) : EReal) := by
  refine (sum_coe _ _).trans (congrArg _ ?_)
  refine Fin.sum_mul_add_congr fun s r hl => ?_
  have er : row ⟨16 * (t.val / 16) + s.val, Pipeline.run_point_lt_of_flush t hf s⟩ r = ⟨s.val * 512 + r.val, hl⟩ := by
    apply Fin.ext
    have := lt_of_lt_of_eq t.isLt N_0
    simp only [row]; omega
  rw [er]

theorem final_dgf : (dats m 0 c).arrAt 8 (cfgs 0).N = arr (DGF x y dh gp) := by
  refine (dats m 0 c).arrAt_eq_of_covers 8 _ (by decide +kernel) fun t hf z => ?_
  have e : ((cfg0.win 8).blk t).view.emb z = (ix2 0 (z 1) : S1x1024.Idx) := by blk_ext [idx t]
  blk_simp
  rw [after0_8, e, Pipeline.eq_sum_fin_of_reset_step_apply_of_flush (fun n h => (outsAt0 m c n h).2.2.1) 16 (fun _ => 0)
    (fun p z => ((∑ r : Fin 512, dh (row p r) (z 1) * (X1 x y gp (row p r) (z 1) * rstd 1024 (X1 x y gp (row p r))) : ℝ) : EReal))
    (fun t h j => by rw [outsAt0_A m c t h]; frame_out; rw [part_dgf m c x y dx dh gp gf h0 h1 h2 h3 h4 h5, pay_zero6])
    (fun t h j => by rw [outsAt0_B m c t h]; frame_out; rw [part_dgf m c x y dx dh gp gf h0 h1 h2 h3 h4 h5])
    t ((flush0_8 t).mp hf) _, zero_add]
  exact sum_rows (fun r => dh r (z 1) * (X1 x y gp r (z 1) * rstd 1024 (X1 x y gp r))) t ((flush0_8 t).mp hf)

theorem final_dgp : (dats m 0 c).arrAt 9 (cfgs 0).N = arr (DGP x y dx dh gp gf) := by
  refine (dats m 0 c).arrAt_eq_of_covers 9 _ (by decide +kernel) fun t hf z => ?_
  have e : ((cfg0.win 9).blk t).view.emb z = (ix2 0 (z 1) : S1x1024.Idx) := by blk_ext [idx t]
  blk_simp
  rw [after0_9, e, Pipeline.eq_sum_fin_of_reset_step_apply_of_flush (fun n h => (outsAt0 m c n h).2.2.2) 16 (fun _ => 0)
    (fun p z => ((∑ r : Fin 512, DX1 x y dx dh gp gf (row p r) (z 1) * (y (row p r) (z 1) * rstd 1024 (y (row p r))) : ℝ) : EReal))
    (fun t h j => by rw [outsAt0_A m c t h]; frame_out; rw [part_dgp m c x y dx dh gp gf h0 h1 h2 h3 h4 h5, pay_zero7])
    (fun t h j => by rw [outsAt0_B m c t h]; frame_out; rw [part_dgp m c x y dx dh gp gf h0 h1 h2 h3 h4 h5])
    t ((flush0_9 t).mp hf) _, zero_add]
  exact sum_rows (fun r => DX1 x y dx dh gp gf r (z 1) * (y r (z 1) * rstd 1024 (y r))) t ((flush0_9 t).mp hf)
end Final

/-! ## The run -/

/-- What the run leaves: the four result arrays, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v13_0) = (dats m 0 c).arrAt 6 (cfgs 0).N
      ∧ r.2.mem ((c : Thread nD τ).loc main_v14) = (dats m 0 c).arrAt 7 (cfgs 0).N
      ∧ r.2.mem ((c : Thread nD τ).loc main_v13_3) = (dats m 0 c).arrAt 9 (cfgs 0).N
      ∧ r.2.mem ((c : Thread nD τ).loc main_v13_2) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1 6, ?_, (h c).1 9, (h c).1 8,
      (((h c).2 main_arg0 (Pipeline.mem_restRefs_of main_arg0 (by decide) (by decide))).trans (W_main_arg0 m (dats m) c)),
      ((h c).1 4).trans (((dats m 0 c).arrAt_in 4 rfl _).trans ((A_eq m c 4).trans (V_main_arg1 m c))),
      ((h c).1 5).trans (((dats m 0 c).arrAt_in 5 rfl _).trans ((A_eq m c 5).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 0).trans (((dats m 0 c).arrAt_in 0 rfl _).trans ((A_eq m c 0).trans (V_main_arg5 m c)))⟩) (run_main m ρ)
  refine ((h c).2 main_v14 (Pipeline.mem_restRefs_of main_v14 (by decide) (by decide))).trans ?_
  show after hostOps1 _ (Proc.devRef .tc main_v14) = _
  after_results
  exact funext fun i => congrFun (Pipeline.withArrays_arr spec0 launch0.win.arr_inj c (V0 m c) (fun w => (dats m 0 c).arrAt w (cfgs 0).N) 7) i

end Cert.Kernel3Ideal.Resnorm

end
-- ==== Proof.ResnormRef.lean ====
/- The reference of the residual sum's gradient over real arguments: its four results, as real matrices. -/
module

public import proofs.«01_k».proof.Proof.ResnormMath
public import proofs.«01_k».proof.Proof.Gen.Reference3Ideal.Read

@[expose] public section

set_option maxRecDepth 16384

noncomputable section

namespace Cert.Reference3Ideal.Resnorm

open Cert.Reference3Ideal Cert.Reference3Ideal.Read Idealize.ShloMosaic Cert.Reals Cert.Rms Cert.Resnorm

variable (x y dx dh : Fin 8192 → Fin 1024 → ℝ) (gp gf : Fin 1 → Fin 1024 → ℝ)

/-- The mean square of a row of the mixing's output. -/
theorem ms_y (r : Fin 8192) : val_main_v6 (F := Ideal) (arr y) (ix2 r 0) = ((ms 1024 (y r) : ℝ) : EReal) := by
  pointwise [val_main_v6, val_main_v5, val_main_v4, val_main_v3, val_main_v2, val_main_v1, val_main_v0, val_main_cst, val_main_cst_0, val_main_cst_1, arr]
  simp only [ofBits_1024, ofBits_eps, ← EReal.coe_mul, sum_coe, zero_add]
  rw [div_coe _ _ (by norm_num), ← EReal.coe_add]
  rfl

/-- The residual sum. -/
theorem ref_x1 : val_main_v15 (F := Ideal) (arr x) (arr y) (arr gp) = arr (X1 x y gp) := by
  refine arr_ext fun r k => ?_
  pointwise [val_main_v15, val_main_v14, val_main_v13, val_main_v12, val_main_v11, val_main_v7, ms_y]
  simp only [arr, ms_y, rsqrt_coe _ (ms_pos (by norm_num : (0:ℝ) < 1024) _), ← EReal.coe_mul, ← EReal.coe_add]
  rfl

theorem ms_x1 (r : Fin 8192) : val_main_v22 (F := Ideal) (arr x) (arr y) (arr gp) (ix2 r 0) = ((ms 1024 (X1 x y gp r) : ℝ) : EReal) := by
  pointwise [val_main_v22, val_main_v21, val_main_v20, val_main_v19, val_main_v18, val_main_v17, val_main_v16, val_main_cst_3, val_main_cst_4, val_main_cst_5, ref_x1]
  simp only [arr, ofBits_1024, ofBits_eps, ← EReal.coe_mul, sum_coe, zero_add]
  rw [div_coe _ _ (by norm_num), ← EReal.coe_add]
  rfl

/-- The gain's gradient of the norm before the feed-forward part. -/
theorem ref_dgf : val_main_v33 (F := Ideal) (arr x) (arr y) (arr gp) (arr dh) = arr (DGF x y dh gp) := by
  refine arr_ext fun u k => ?_
  obtain rfl : u = 0 := Subsingleton.elim _ _
  pointwise [val_main_v33, val_main_v32, val_main_v31, val_main_v28, val_main_v27, val_main_v23, val_main_cst_7, ref_x1]
  simp only [ms_x1]
  simp only [arr, rsqrt_coe _ (ms_pos (by norm_num : (0:ℝ) < 1024) _), ← EReal.coe_mul, sum_coe, zero_add]
  congr 1
  exact Finset.sum_congr rfl fun r _ => by simp only [rstd]; exact mul_comm _ _

/-- The gradient of the residual sum. -/
theorem ref_dx : val_main_v50 (F := Ideal) (arr x) (arr y) (arr gp) (arr gf) (arr dx) (arr dh) = arr (DX1 x y dx dh gp gf) := by
  refine arr_ext fun r k => ?_
  pointwise [val_main_v50, val_main_v49, val_main_v48, val_main_v47, val_main_v46, val_main_v45, val_main_v44, val_main_v43, val_main_v42, val_main_v41, val_main_v40, val_main_v39,
    val_main_v38, val_main_v37, val_main_v36, val_main_v35, val_main_v34, val_main_v26, val_main_v25, val_main_v24, val_main_v23, val_main_cst_6, val_main_cst_8, val_main_cst_9, val_main_cst_10, ref_x1]
  simp only [Fin.sum_univ_one, Fin.isValue, ms_x1]
  simp only [arr, ofBits_1024, ofBits_neg_half, rsqrt_coe _ (ms_pos (by norm_num : (0:ℝ) < 1024) _), zero_add,
    div_coe _ _ (ms_pos (by norm_num : (0:ℝ) < 1024) _).ne', ← EReal.coe_mul, sum_coe, div_coe _ _ (by norm_num : (1024:ℝ) ≠ 0), add_assoc,
    ← EReal.coe_add]
  unfold DX1
  rw [← bwd_eq (by norm_num : (0:ℝ) < 1024)]
  congr 2
  simp only [rstd, ix2]
  ring

theorem ref_dx' : val_main_v51 (F := Ideal) (arr x) (arr y) (arr gp) (arr gf) (arr dx) (arr dh) = arr (DX1 x y dx dh gp gf) := by
  rw [← ref_dx]
  exact funext fun i => (val_main_v51_apply _ _ _ _ _ _ i).trans (congrArg _ (funext fun b => Fin.ext (by fin_cases b <;> simp <;> omega)))

/-- The gain's gradient of the norm of the mixing's output. -/
theorem ref_dgp : val_main_v54 (F := Ideal) (arr x) (arr y) (arr gp) (arr gf) (arr dx) (arr dh) = arr (DGP x y dx dh gp gf) := by
  refine arr_ext fun u k => ?_
  obtain rfl : u = 0 := Subsingleton.elim _ _
  pointwise [val_main_v54, val_main_v53, val_main_v52, val_main_v12, val_main_v11, val_main_v7, val_main_cst_11, ref_dx']
  simp only [ms_y]
  simp only [arr, rsqrt_coe _ (ms_pos (by norm_num : (0:ℝ) < 1024) _), ← EReal.coe_mul, sum_coe, zero_add]
  congr 1
  exact Finset.sum_congr rfl fun r _ => by simp only [rstd]; exact mul_comm _ _

/-- The gradient of the mixing's output. -/
theorem ref_dy : val_main_v70 (F := Ideal) (arr x) (arr y) (arr gp) (arr gf) (arr dx) (arr dh) = arr (DY x y dx dh gp gf) := by
  refine arr_ext fun r k => ?_
  pointwise [val_main_v70, val_main_v69, val_main_v68, val_main_v67, val_main_v66, val_main_v65, val_main_v64, val_main_v63, val_main_v62, val_main_v61, val_main_v60, val_main_v59,
    val_main_v58, val_main_v57, val_main_v56, val_main_v55, val_main_v10, val_main_v9, val_main_v8, val_main_v7, val_main_cst_2, val_main_cst_12, val_main_cst_13, val_main_cst_14, ref_dx']
  simp only [Fin.sum_univ_one, Fin.isValue, ms_y]
  simp only [arr, ofBits_1024, ofBits_neg_half, rsqrt_coe _ (ms_pos (by norm_num : (0:ℝ) < 1024) _), zero_add,
    div_coe _ _ (ms_pos (by norm_num : (0:ℝ) < 1024) _).ne', ← EReal.coe_mul, sum_coe, div_coe _ _ (by norm_num : (1024:ℝ) ≠ 0),
    ← EReal.coe_add]
  unfold DY
  rw [← bwd_eq (by norm_num : (0:ℝ) < 1024)]
  congr 1

end Cert.Reference3Ideal.Resnorm

end
-- ==== Proof.ResnormPair.lean ====
/- The claims of the residual sum's gradient: the idealized kernel and the reference leave the same four arrays at finite
   arguments, and the reference keeps its arguments. -/
module

public import proofs.«01_k».proof.Defs
public import proofs.«01_k».proof.Proof.Gen.Reference3Ideal.Run
public import proofs.«01_k».proof.Proof.ResnormKernel
public import proofs.«01_k».proof.Proof.ResnormRef
public import Idealize.ShloMosaic.Adequacy
public import Idealize.ShloMosaic.Init

@[expose] public section

noncomputable section

namespace Cert.ResnormPair

open Idealize.ShloMosaic Idealize.SL.Sem Cert.Resnorm

/-- Every entry of the arguments is a real number. -/
theorem args_real [Cert.Pre_finite3.Facts] (a0 a1 a4 a5 : FVec Ideal Cert.Kernel3Ideal.S8192x1024 .f32) (a2 a3 : FVec Ideal Cert.Kernel3Ideal.S1x1024 .f32)
    (h : Cert.Pre_finite3.fn (F := Ideal) a0 a1 a2 a3 a4 a5 = fun _ => 1#1) :
    ∃ x y gp gf dx dh, a0 = arr x ∧ a1 = arr y ∧ a2 = arr gp ∧ a3 = arr gf ∧ a4 = arr dx ∧ a5 = arr dh := by
  have h' := congrFun h (fun a => a.elim0)
  obtain ⟨h', g5⟩ := IntOp.andi_eq_one.1 h'
  obtain ⟨h', g4⟩ := IntOp.andi_eq_one.1 h'
  obtain ⟨h', g3⟩ := IntOp.andi_eq_one.1 h'
  obtain ⟨h', g2⟩ := IntOp.andi_eq_one.1 h'
  obtain ⟨g0, g1⟩ := IntOp.andi_eq_one.1 h'
  haveI : Subsingleton Cert.Pre_finite3.S_.Idx := ⟨fun a b => funext fun k => k.elim0⟩
  obtain ⟨x, h0⟩ := exists_arr a0 (Cert.Reals.finite_of_all _ _ _ _ _ _ (fun _ => Cert.Reals.ofBits_inf) g0)
  obtain ⟨y, h1⟩ := exists_arr a1 (Cert.Reals.finite_of_all _ _ _ _ _ _ (fun _ => Cert.Reals.ofBits_inf) g1)
  obtain ⟨gp, h2⟩ := exists_arr a2 (Cert.Reals.finite_of_all _ _ _ _ _ _ (fun _ => Cert.Reals.ofBits_inf) g2)
  obtain ⟨gf, h3⟩ := exists_arr a3 (Cert.Reals.finite_of_all _ _ _ _ _ _ (fun _ => Cert.Reals.ofBits_inf) g3)
  obtain ⟨dx, h4⟩ := exists_arr a4 (Cert.Reals.finite_of_all _ _ _ _ _ _ (fun _ => Cert.Reals.ofBits_inf) g4)
  obtain ⟨dh, h5⟩ := exists_arr a5 (Cert.Reals.finite_of_all _ _ _ _ _ _ (fun _ => Cert.Reals.ofBits_inf) g5)
  exact ⟨x, y, gp, gf, dx, dh, h0, h1, h2, h3, h4, h5⟩

/-- The reference runs, keeps its arguments, and leaves every counter at zero: it declares none. -/
theorem reference_frame : Cert.quiescent_Reference3Ideal := fun m g _ =>
  (θ_run (Cert.Reference3Ideal.defs (F := Ideal)) _ _).mono
    (fun r h => ⟨fun c => (h c).2.2.2.2, sem_eq_zero_of_no_sems (by decide) r.2⟩) (Cert.Reference3Ideal.Value.run m g)

set_option maxRecDepth 16384 in
set_option maxHeartbeats 1000000 in
theorem algebraic [Cert.Pre_finite3.Facts] : Cert.algebraic_Kernel3Ideal_Reference3Ideal_pre_finite3 := by
  pair_intro
  · exact Cert.Kernel3Ideal.Resnorm.run m g
  · refine θ_run_mono (Cert.Reference3Ideal.Value.run m' g') fun r hr c => ⟨(hr c).1.trans ?_, (hr c).2.1.trans ?_, (hr c).2.2.1.trans ?_, (hr c).2.2.2.1.trans ?_, (hr c).2.2.2.2⟩
    all_goals
      obtain ⟨e0, e1, e2, e3, e4, e5⟩ := hagree c
      obtain ⟨x, y, gp, gf, dx, dh, h0, h1, h2, h3, h4, h5⟩ := args_real _ _ _ _ _ _ (hpre c)
    · rw [Cert.Reference3Ideal.Read.val_main_v50_eq, e0, e1, e2, e3, e4, e5]
      refine Eq.trans ?_ (Cert.Kernel3Ideal.Resnorm.final_dx m c x y dx dh gp gf h0 h1 h2 h3 h4 h5).symm
      rw [← Cert.Reference3Ideal.Resnorm.ref_dx, ← h0, ← h1, ← h2, ← h3, ← h4, ← h5]
    · rw [Cert.Reference3Ideal.Read.val_main_v70_eq, e0, e1, e2, e3, e4, e5]
      refine Eq.trans ?_ (Cert.Kernel3Ideal.Resnorm.final_dy m c x y dx dh gp gf h0 h1 h2 h3 h4 h5).symm
      refine Eq.trans ?_ (Cert.Reference3Ideal.Resnorm.ref_dy x y dx dh gp gf)
      rw [← h0, ← h1, ← h2, ← h3, ← h4, ← h5]
    · rw [Cert.Reference3Ideal.Read.val_main_v54_eq, e0, e1, e2, e3, e4, e5]
      refine Eq.trans ?_ (Cert.Kernel3Ideal.Resnorm.final_dgp m c x y dx dh gp gf h0 h1 h2 h3 h4 h5).symm
      rw [← Cert.Reference3Ideal.Resnorm.ref_dgp, ← h0, ← h1, ← h2, ← h3, ← h4, ← h5]
    · rw [Cert.Reference3Ideal.Read.val_main_v33_eq, e0, e1, e2, e5]
      refine Eq.trans ?_ (Cert.Kernel3Ideal.Resnorm.final_dgf m c x y dx dh gp gf h0 h1 h2 h3 h4 h5).symm
      rw [← Cert.Reference3Ideal.Resnorm.ref_dgf, ← h0, ← h1, ← h2, ← h5]

end Cert.ResnormPair
end
-- ==== Proof.FfnMath.lean ====
/- The end of the feed-forward part over the real numbers: its last product, the norm after it, the loss, and their gradients. -/
module

public import proofs.«01_k».proof.Proof.ResnormMath

@[expose] public section

noncomputable section

namespace Cert.Ffn

open Idealize.ShloMosaic Cert.Reals Cert.Rms

theorem ofBits_inv_1024 : Ideal.ofBits .f32 0x3A800000#32 = ((1 / 1024 : ℝ) : EReal) := by
  simp [Ideal.ofBits, Ideal.ieee]; norm_cast; norm_num
theorem ofBits_inv_2048 : Ideal.ofBits .f32 0x3A000000#32 = ((1 / 2048 : ℝ) : EReal) := by
  simp [Ideal.ofBits, Ideal.ieee]; norm_cast; norm_num
theorem ofBits_two : Ideal.ofBits .f32 0x40000000#32 = ((2 : ℝ) : EReal) := by
  simp [Ideal.ofBits, Ideal.ieee]; norm_num [← EReal.coe_mul]
theorem ofBits_half : Ideal.ofBits .f32 0x3F000000#32 = ((1 / 2 : ℝ) : EReal) := by
  simp [Ideal.ofBits, Ideal.ieee]; norm_cast; norm_num
theorem ofBits_one : Ideal.ofBits .f32 0x3F800000#32 = ((1 : ℝ) : EReal) := by
  simp [Ideal.ofBits, Ideal.ieee]; norm_num [← EReal.coe_mul]

variable (a : Fin 8192 → Fin 2816 → ℝ) (w : Fin 2816 → Fin 1024 → ℝ) (g : Fin 1 → Fin 1024 → ℝ) (x u : Fin 8192 → Fin 1024 → ℝ)

/-- The product. -/
def Y (r : Fin 8192) (k : Fin 1024) : ℝ := ∑ l, a r l * w l k
/-- What the step gives less what it should give. -/
def DIFF (r : Fin 8192) (k : Fin 1024) : ℝ := x r k + Y a w r k * rstd 1024 (Y a w r) * g 0 k - u r k
/-- Half the squares' mean over the features, summed over the rows. -/
def LOSS : ℝ := 1 / 2048 * ∑ r, ∑ k, DIFF a w g x u r k * DIFF a w g x u r k
/-- The gradients of the residual sum, of the product and of the gain. -/
def DX (r : Fin 8192) (k : Fin 1024) : ℝ := DIFF a w g x u r k * (1 / 1024)
def DY (r : Fin 8192) (k : Fin 1024) : ℝ := bwd 1024 (Y a w r) (fun k => DX a w g x u r k * g 0 k) k
def DG (_ : Fin 1) (k : Fin 1024) : ℝ := ∑ r, DX a w g x u r k * (Y a w r k * rstd 1024 (Y a w r))

end Cert.Ffn

end
-- ==== Proof.FfnKernel.lean ====
/- The kernel of the feed-forward part's end: what its four result arrays hold after the run, over real arguments. -/
module

public import proofs.«01_k».proof.Proof.FfnMath
public import proofs.«01_k».proof.Proof.Gen.Kernel4Ideal.Frame
public import Idealize.ShloMosaic.Lib.Pipeline.ValueKit
public import Idealize.ShloMosaic.Lib.StableHlo.Run

@[expose] public section

set_option maxRecDepth 16384

noncomputable section

namespace Cert.Kernel4Ideal.Ffn

open Cert.Kernel4Ideal Cert.Kernel4Ideal.Gen Idealize.ShloMosaic Idealize.ShloMosaic.TcCoe Idealize.SL.Sem Cert.Reals Cert.Rms Cert.Ffn Idealize.ShloMosaic.StableHlo
open Idealize.ShloMosaic.Pipeline (Dat)
open Cert.Resnorm (arr arr_ext)

/-! ## The body's arithmetic on a block of rows -/

section Pay
variable (a : Fin 512 → Fin 2816 → ℝ) (w : Fin 2816 → Fin 1024 → ℝ) (y x u d : Fin 512 → Fin 1024 → ℝ) (g : Fin 1 → Fin 1024 → ℝ)

theorem pay_y : k0_pay8 (F := Ideal) (arr a) (arr w) = arr fun r k => ∑ l, a r l * w l k := by
  refine arr_ext fun r k => ?_
  pointwise [k0_pay8, arr]
  simp only [← EReal.coe_mul, sum_coe, zero_add]

theorem rstd_at (r : Fin 512) : k0_pay2 (F := Ideal) (arr y) (ix2 r 0) = ((rstd 1024 (y r) : ℝ) : EReal) := by
  pointwise [k0_pay2, arr]
  simp only [ofBits_1024, ofBits_eps, ← EReal.coe_mul, sum_coe]
  rw [div_coe _ _ (by norm_num), ← EReal.coe_add]
  exact rsqrt_coe _ (ms_pos (by norm_num : (0:ℝ) < 1024) _)

theorem pay_diff : k0_pay9 (F := Ideal) (arr a) (arr w) (arr g) (arr x) (arr u)
    = arr fun r k => x r k + (∑ l, a r l * w l k) * rstd 1024 (fun k => ∑ l, a r l * w l k) * g 0 k - u r k := by
  refine arr_ext fun r k => ?_
  pointwise [k0_pay9, pay_y]
  simp only [arr, ofBits_1024, ofBits_eps, ← EReal.coe_mul, sum_coe, div_coe _ _ (by norm_num : (1024:ℝ) ≠ 0), ← EReal.coe_add]
  erw [rsqrt_coe _ (ms_pos (by norm_num : (0:ℝ) < 1024) fun k => ∑ l, a r l * w l k)]
  simp only [← EReal.coe_mul, ← EReal.coe_add, ← EReal.coe_sub]
  rfl

theorem pay_dx : k0_pay1 (F := Ideal) (arr d) = arr fun r k => d r k * (1 / 1024) := by
  refine arr_ext fun r k => ?_
  pointwise [k0_pay1, arr]
  simp only [ofBits_inv_1024, ← EReal.coe_mul]

theorem pay_dy : k0_pay4 (F := Ideal) (arr y) (arr g) (arr d) = arr fun r k => bwd 1024 (y r) (fun k => d r k * (1 / 1024) * g 0 k) k := by
  refine arr_ext fun r k => ?_
  pointwise [k0_pay4, k0_pay3, pay_dx]
  simp only [rstd_at]
  simp only [arr, ofBits_1024, ← EReal.coe_mul, sum_coe, ← EReal.coe_sub, div_coe _ _ (by norm_num : (1024:ℝ) ≠ 0), ← EReal.coe_add]
  rfl

theorem pay_dg (acc : Vec Ideal S1x1024 .f32) (k : Fin 1024) : k0_pay5 (F := Ideal) (arr y) (arr d) acc (ix2 0 k)
    = acc (ix2 0 k) + ((∑ r : Fin 512, d r k * (1 / 1024) * (y r k * rstd 1024 (y r)) : ℝ) : EReal) := by
  pointwise [k0_pay5, k0_pay3, pay_dx]
  simp only [rstd_at]
  simp only [arr, ← EReal.coe_mul, sum_coe]
  rfl

theorem pay_loss (acc : Vec Ideal S8x128 .f32) (i : Fin 8) (j : Fin 128) (hd : k0_pay9 (F := Ideal) (arr a) (arr w) (arr g) (arr x) (arr u) = arr d) :
    k0_pay10 (F := Ideal) (arr a) (arr w) (arr g) (arr x) (arr u) acc (ix2 i j)
    = acc (ix2 i j) + ((∑ r : Fin 512, ∑ k : Fin 1024, d r k * d r k : ℝ) : EReal) := by
  pointwise [k0_pay10, hd]
  simp only [arr, ← EReal.coe_mul, sum_coe]
  rfl

theorem pay_zero6 (j : S8x128.Idx) : k0_pay6 (F := Ideal) j = 0 := by pointwise [k0_pay6]
theorem pay_zero7 (j : S1x1024.Idx) : k0_pay7 (F := Ideal) j = 0 := by pointwise [k0_pay7]
end Pay

variable (m : (ℓ : Loc nD τ sig) → Buf (Elt Ideal) ℓ) (c : Dev nD)
variable (a : Fin 8192 → Fin 2816 → ℝ) (w : Fin 2816 → Fin 1024 → ℝ) (g : Fin 1 → Fin 1024 → ℝ) (x u : Fin 8192 → Fin 1024 → ℝ)

/-! ## Blocks -/

theorem host_v0 : (V m c main_v0 : FVec Ideal S8192x2816 .bf16) = m ((c : Thread nD τ).loc main_arg0) := by
  show after hostOps0 (fun b => m (c, b)) (Proc.devRef .tc main_v0) = _
  after_results
  rfl

theorem host_v1 : (V m c main_v1 : FVec Ideal S2816x1024 .bf16) = m ((c : Thread nD τ).loc main_arg1) := by
  show after hostOps0 (fun b => m (c, b)) (Proc.devRef .tc main_v1) = _
  after_results
  rfl

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] :=
  (by decide +kernel : ∀ t : Fin grid0.N, _)

/-- Row `r` of grid point `t`'s block of rows, as a row of the array. -/
def row (t : Fin cfg0.N) (r : Fin 512) : Fin 8192 := ⟨t.val * 512 + r.val, by have := lt_of_lt_of_eq t.isLt N_0; omega⟩

theorem blk0 (h : (V m c main_v0 : FVec Ideal S8192x2816 .bf16) = arr a) (t : Fin cfg0.N) :
    (iblk m c 0 t : Vec Ideal S512x2816 .bf16) = arr fun r k => a (row t r) k := by
  funext i
  refine Eq.trans (b := (V m c main_v0 : FVec Ideal S8192x2816 .bf16) (ix2 (row t (i 0)) (i 1))) ?_ (congrFun h _)
  blk_ext [iblk, idx t, row]

theorem blk1 (h : (V m c main_v1 : FVec Ideal S2816x1024 .bf16) = arr w) (t : Fin cfg0.N) :
    (iblk m c 1 t : Vec Ideal S2816x1024 .bf16) = arr w := by
  funext i
  refine Eq.trans (b := (V m c main_v1 : FVec Ideal S2816x1024 .bf16) i) ?_ (congrFun h _)
  blk_ext [iblk, idx t]

theorem blk2 (h : (V m c main_arg2 : FVec Ideal S1x1024 .f32) = arr g) (t : Fin cfg0.N) :
    (iblk m c 2 t : Vec Ideal S1x1024 .f32) = arr g := by
  funext i
  refine Eq.trans (b := (V m c main_arg2 : FVec Ideal S1x1024 .f32) i) ?_ (congrFun h _)
  blk_ext [iblk, idx t]

theorem blk3 (h : (V m c main_arg3 : FVec Ideal S8192x1024 .f32) = arr x) (t : Fin cfg0.N) :
    (iblk m c 3 t : Vec Ideal S512x1024 .f32) = arr fun r k => x (row t r) k := by
  funext i
  refine Eq.trans (b := (V m c main_arg3 : FVec Ideal S8192x1024 .f32) (ix2 (row t (i 0)) (i 1))) ?_ (congrFun h _)
  blk_ext [iblk, idx t, row]

theorem blk4 (h : (V m c main_arg4 : FVec Ideal S8192x1024 .f32) = arr u) (t : Fin cfg0.N) :
    (iblk m c 4 t : Vec Ideal S512x1024 .f32) = arr fun r k => u (row t r) k := by
  funext i
  refine Eq.trans (b := (V m c main_arg4 : FVec Ideal S8192x1024 .f32) (ix2 (row t (i 0)) (i 1))) ?_ (congrFun h _)
  blk_ext [iblk, idx t, row]

/-! ## The result arrays -/

section Final
variable (h0 : m ((c : Thread nD τ).loc main_arg0) = arr a) (h1 : m ((c : Thread nD τ).loc main_arg1) = arr w)
  (h2 : m ((c : Thread nD τ).loc main_arg2) = arr g) (h3 : m ((c : Thread nD τ).loc main_arg3) = arr x)
  (h4 : m ((c : Thread nD τ).loc main_arg4) = arr u)
include h0 h1 h2 h3 h4

theorem blks (t : Fin cfg0.N) : (iblk m c 0 t : Vec Ideal S512x2816 .bf16) = (arr fun r k => a (row t r) k)
    ∧ (iblk m c 1 t : Vec Ideal S2816x1024 .bf16) = arr w
    ∧ (iblk m c 2 t : Vec Ideal S1x1024 .f32) = arr g
    ∧ (iblk m c 3 t : Vec Ideal S512x1024 .f32) = (arr fun r k => x (row t r) k)
    ∧ (iblk m c 4 t : Vec Ideal S512x1024 .f32) = (arr fun r k => u (row t r) k) :=
  ⟨blk0 m c a ((host_v0 m c).trans h0) t, blk1 m c w ((host_v1 m c).trans h1) t,
   blk2 m c g ((V_main_arg2 m c).trans h2) t, blk3 m c x ((V_main_arg3 m c).trans h3) t, blk4 m c u ((V_main_arg4 m c).trans h4) t⟩

theorem point_y (t : Fin cfg0.N) : k0_pay8 (F := Ideal) (iblk m c 0 t) (iblk m c 1 t) = arr fun r k => Y a w (row t r) k := by
  obtain ⟨e0, e1, e2, e3, e4⟩ := blks m c a w g x u h0 h1 h2 h3 h4 t
  rw [e0, e1]
  exact pay_y _ _

theorem point_diff (t : Fin cfg0.N) : k0_pay9 (F := Ideal) (iblk m c 0 t) (iblk m c 1 t) (iblk m c 2 t) (iblk m c 3 t) (iblk m c 4 t)
    = arr fun r k => DIFF a w g x u (row t r) k := by
  obtain ⟨e0, e1, e2, e3, e4⟩ := blks m c a w g x u h0 h1 h2 h3 h4 t
  rw [e0, e1, e2, e3, e4]
  exact pay_diff _ _ _ _ _

theorem point_dx (t : Fin cfg0.N) : k0_pay1 (F := Ideal) (k0_pay9 (F := Ideal) (iblk m c 0 t) (iblk m c 1 t) (iblk m c 2 t) (iblk m c 3 t) (iblk m c 4 t))
    = arr fun r k => DX a w g x u (row t r) k := by
  rw [point_diff m c a w g x u h0 h1 h2 h3 h4 t]
  exact pay_dx _

theorem point_dy (t : Fin cfg0.N) : k0_pay4 (F := Ideal) (k0_pay8 (F := Ideal) (iblk m c 0 t) (iblk m c 1 t)) (iblk m c 2 t)
      (k0_pay9 (F := Ideal) (iblk m c 0 t) (iblk m c 1 t) (iblk m c 2 t) (iblk m c 3 t) (iblk m c 4 t))
    = arr fun r k => DY a w g x u (row t r) k := by
  obtain ⟨e0, e1, e2, e3, e4⟩ := blks m c a w g x u h0 h1 h2 h3 h4 t
  rw [point_diff m c a w g x u h0 h1 h2 h3 h4 t, point_y m c a w g x u h0 h1 h2 h3 h4 t, e2]
  exact pay_dy _ _ _

theorem final_dy : (dats m 0 c).arrAt 5 (cfgs 0).N = arr (DY a w g x u) := by
  refine (dats m 0 c).arrAt_eq_of_covers 5 _ (by decide +kernel) fun t _ z => ?_
  have e : ((cfg0.win 5).blk t).view.emb z = (ix2 (row t (z 0)) (z 1) : S8192x1024.Idx) := by blk_ext [idx t, row]
  blk_simp
  rw [after0_5, e]
  by_cases h : t.val % 16 = 0
  · rw [outsAt0_A m c t h]; frame_out
    exact congrFun (point_dy m c a w g x u h0 h1 h2 h3 h4 t) z
  · rw [outsAt0_B m c t h]; frame_out
    exact congrFun (point_dy m c a w g x u h0 h1 h2 h3 h4 t) z

theorem final_dx : (dats m 0 c).arrAt 6 (cfgs 0).N = arr (DX a w g x u) := by
  refine (dats m 0 c).arrAt_eq_of_covers 6 _ (by decide +kernel) fun t _ z => ?_
  have e : ((cfg0.win 6).blk t).view.emb z = (ix2 (row t (z 0)) (z 1) : S8192x1024.Idx) := by blk_ext [idx t, row]
  blk_simp
  rw [after0_6, e]
  by_cases h : t.val % 16 = 0
  · rw [outsAt0_A m c t h]; frame_out
    exact congrFun (point_dx m c a w g x u h0 h1 h2 h3 h4 t) z
  · rw [outsAt0_B m c t h]; frame_out
    exact congrFun (point_dx m c a w g x u h0 h1 h2 h3 h4 t) z

theorem part_loss (t : Fin cfg0.N) (acc : Vec Ideal S8x128 .f32) (z : S8x128.Idx) :
    k0_pay10 (F := Ideal) (iblk m c 0 t) (iblk m c 1 t) (iblk m c 2 t) (iblk m c 3 t) (iblk m c 4 t) acc z = acc z
      + ((∑ r : Fin 512, ∑ k, DIFF a w g x u (row t r) k * DIFF a w g x u (row t r) k : ℝ) : EReal) := by
  obtain ⟨e0, e1, e2, e3, e4⟩ := blks m c a w g x u h0 h1 h2 h3 h4 t
  rw [e0, e1, e2, e3, e4]
  obtain ⟨i, j, rfl⟩ : ∃ (i : Fin 8) (j : Fin 128), z = ix2 i j := ⟨_, _, eq_ix2 z⟩
  exact pay_loss _ _ _ _ _ _ acc i j (pay_diff _ _ _ _ _)

theorem part_dg (t : Fin cfg0.N) (acc : Vec Ideal S1x1024 .f32) (z : S1x1024.Idx) :
    k0_pay5 (F := Ideal) (k0_pay8 (F := Ideal) (iblk m c 0 t) (iblk m c 1 t))
      (k0_pay9 (F := Ideal) (iblk m c 0 t) (iblk m c 1 t) (iblk m c 2 t) (iblk m c 3 t) (iblk m c 4 t)) acc z = acc z
      + ((∑ r : Fin 512, DX a w g x u (row t r) (z 1) * (Y a w (row t r) (z 1) * rstd 1024 (Y a w (row t r))) : ℝ) : EReal) := by
  rw [point_diff m c a w g x u h0 h1 h2 h3 h4 t, point_y m c a w g x u h0 h1 h2 h3 h4 t]
  obtain ⟨k, rfl⟩ : ∃ k : Fin 1024, z = ix2 0 k := ⟨z 1, by idx_ext⟩
  exact pay_dg _ _ _ k

omit h0 h1 h2 h3 h4 in
/-- The sum over all rows, from the sums over the blocks of rows. -/
theorem sum_rows (f : Fin 8192 → ℝ) (t : Fin cfg0.N) (hf : t.val % 16 = 15) :
    (∑ s : Fin 16, ((∑ r : Fin 512, f (row ⟨16 * (t.val / 16) + s.val, Pipeline.run_point_lt_of_flush t hf s⟩ r) : ℝ) : EReal)) = ((∑ r, f r : ℝ) : EReal) := by
  refine (sum_coe _ _).trans (congrArg _ ?_)
  refine Fin.sum_mul_add_congr fun s r hl => ?_
  have er : row ⟨16 * (t.val / 16) + s.val, Pipeline.run_point_lt_of_flush t hf s⟩ r = ⟨s.val * 512 + r.val, hl⟩ := by
    apply Fin.ext
    have := lt_of_lt_of_eq t.isLt N_0
    simp only [row]; omega
  rw [er]

theorem final_loss : (dats m 0 c).arrAt 7 (cfgs 0).N
    = fun _ : S8x128.Idx => ((∑ r, ∑ k, DIFF a w g x u r k * DIFF a w g x u r k : ℝ) : EReal) := by
  refine (dats m 0 c).arrAt_eq_of_covers 7 _ (by decide +kernel) fun t hf z => ?_
  blk_simp
  rw [after0_7, Pipeline.eq_sum_fin_of_reset_step_apply_of_flush (fun n h => (outsAt0 m c n h).2.2.1) 16 (fun _ => 0)
    (fun p _ => ((∑ r : Fin 512, ∑ k, DIFF a w g x u (row p r) k * DIFF a w g x u (row p r) k : ℝ) : EReal))
    (fun t h j => by rw [outsAt0_A m c t h]; frame_out; rw [part_loss m c a w g x u h0 h1 h2 h3 h4, pay_zero6])
    (fun t h j => by rw [outsAt0_B m c t h]; frame_out; rw [part_loss m c a w g x u h0 h1 h2 h3 h4])
    t ((flush0_7 t).mp hf) _, zero_add]
  exact sum_rows (fun r => ∑ k, DIFF a w g x u r k * DIFF a w g x u r k) t ((flush0_7 t).mp hf)

theorem final_dg : (dats m 0 c).arrAt 8 (cfgs 0).N = arr (DG a w g x u) := by
  refine (dats m 0 c).arrAt_eq_of_covers 8 _ (by decide +kernel) fun t hf z => ?_
  have e : ((cfg0.win 8).blk t).view.emb z = (ix2 0 (z 1) : S1x1024.Idx) := by blk_ext [idx t]
  blk_simp
  rw [after0_8, e, Pipeline.eq_sum_fin_of_reset_step_apply_of_flush (fun n h => (outsAt0 m c n h).2.2.2) 16 (fun _ => 0)
    (fun p z => ((∑ r : Fin 512, DX a w g x u (row p r) (z 1) * (Y a w (row p r) (z 1) * rstd 1024 (Y a w (row p r))) : ℝ) : EReal))
    (fun t h j => by rw [outsAt0_A m c t h]; frame_out; rw [part_dg m c a w g x u h0 h1 h2 h3 h4, pay_zero7])
    (fun t h j => by rw [outsAt0_B m c t h]; frame_out; rw [part_dg m c a w g x u h0 h1 h2 h3 h4])
    t ((flush0_8 t).mp hf) _, zero_add]
  exact sum_rows (fun r => DX a w g x u r (z 1) * (Y a w r (z 1) * rstd 1024 (Y a w r))) t ((flush0_8 t).mp hf)
end Final

/-! ## The run -/

/-- The lines after the call: the accumulator's first entry, scaled. -/
def hostLoss (v : FVec Ideal S8x128 .f32) : FVec Ideal S_ .f32 :=
  mulf (constant S_ .f32 0x3A000000#32) (shapeCast S_ (extractStridedSlice S1x1 ![0, 0] v slices_S8x128_S1x1_0_0) shapeCasts_S1x1_S_)

theorem hostLoss_eq (s : ℝ) : hostLoss (fun _ => ((s : ℝ) : EReal)) = fun _ => ((1 / 2048 * s : ℝ) : EReal) := by
  funext i
  pointwise [hostLoss]
  simp only [ofBits_inv_2048, ← EReal.coe_mul]

/-- What the run leaves: the loss, the three gradient arrays, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v5) = hostLoss ((dats m 0 c).arrAt 7 (cfgs 0).N)
      ∧ r.2.mem ((c : Thread nD τ).loc main_v6) = (dats m 0 c).arrAt 5 (cfgs 0).N
      ∧ r.2.mem ((c : Thread nD τ).loc main_v2_1) = (dats m 0 c).arrAt 6 (cfgs 0).N
      ∧ r.2.mem ((c : Thread nD τ).loc main_v2_3) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨?_, ?_, (h c).1 6, (h c).1 8,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)
  · refine ((h c).2 main_v5 (Pipeline.mem_restRefs_of main_v5 (by decide) (by decide))).trans ?_
    show after hostOps1 _ (Proc.devRef .tc main_v5) = _
    after_results
    exact congrArg hostLoss (Pipeline.withArrays_arr spec0 launch0.win.arr_inj c (V0 m c) (fun w => (dats m 0 c).arrAt w (cfgs 0).N) 7)
  · refine ((h c).2 main_v6 (Pipeline.mem_restRefs_of main_v6 (by decide) (by decide))).trans ?_
    show after hostOps1 _ (Proc.devRef .tc main_v6) = _
    after_results
    exact funext fun i => congrFun (Pipeline.withArrays_arr spec0 launch0.win.arr_inj c (V0 m c) (fun w => (dats m 0 c).arrAt w (cfgs 0).N) 5) i

end Cert.Kernel4Ideal.Ffn

end
-- ==== Proof.FfnRef.lean ====
/- The reference of the feed-forward part's end over real arguments: its loss and three gradients, as real matrices. -/
module

public import proofs.«01_k».proof.Proof.FfnMath
public import proofs.«01_k».proof.Proof.Gen.Reference4Ideal.Read

@[expose] public section

set_option maxRecDepth 16384

noncomputable section

namespace Cert.Reference4Ideal.Ffn

open Cert.Reference4Ideal Cert.Reference4Ideal.Read Idealize.ShloMosaic Cert.Reals Cert.Rms Cert.Ffn
open Cert.Resnorm (arr arr_ext)

variable (a : Fin 8192 → Fin 2816 → ℝ) (w : Fin 2816 → Fin 1024 → ℝ) (g : Fin 1 → Fin 1024 → ℝ) (x u : Fin 8192 → Fin 1024 → ℝ)

/-- The product. -/
theorem ref_y : val_main_v0 (F := Ideal) (arr a) (arr w) = arr (Y a w) := by
  refine arr_ext fun r k => ?_
  pointwise [val_main_v0, arr]
  simp only [← EReal.coe_mul, sum_coe]
  rfl

theorem ms_y (r : Fin 8192) : val_main_v7 (F := Ideal) (arr a) (arr w) (ix2 r 0) = ((ms 1024 (Y a w r) : ℝ) : EReal) := by
  pointwise [val_main_v7, val_main_v6, val_main_v5, val_main_v4, val_main_v3, val_main_v2, val_main_v1, val_main_cst, val_main_cst_0, val_main_cst_1, ref_y]
  simp only [arr, ofBits_1024, ofBits_eps, ← EReal.coe_mul, sum_coe, zero_add]
  rw [div_coe _ _ (by norm_num), ← EReal.coe_add]
  rfl

/-- The product, normalised. -/
theorem ref_n : val_main_v13 (F := Ideal) (arr a) (arr w) = arr fun r k => Y a w r k * rstd 1024 (Y a w r) := by
  refine arr_ext fun r k => ?_
  pointwise [val_main_v13, val_main_v12, val_main_v8, ref_y]
  simp only [ms_y]
  simp only [arr, rsqrt_coe _ (ms_pos (by norm_num : (0:ℝ) < 1024) _), ← EReal.coe_mul]
  rfl

theorem ref_diff : val_main_v17 (F := Ideal) (arr a) (arr w) (arr g) (arr x) (arr u) = arr (DIFF a w g x u) := by
  refine arr_ext fun r k => ?_
  pointwise [val_main_v17, val_main_v16, val_main_v15, val_main_v14, ref_n]
  simp only [arr, ← EReal.coe_mul, ← EReal.coe_add, ← EReal.coe_sub]
  rfl

/-- The loss. -/
theorem ref_loss : val_main_v25 (F := Ideal) (arr a) (arr w) (arr g) (arr x) (arr u) = fun _ => ((LOSS a w g x u : ℝ) : EReal) := by
  funext i
  pointwise [val_main_v25, val_main_v24, val_main_v23, val_main_v22, val_main_v21, val_main_v18, val_main_cst_4, val_main_cst_5, val_main_cst_6, val_main_cst_7, ref_diff]
  simp only [arr, ofBits_1024, ofBits_half, ← EReal.coe_mul, sum_coe, zero_add, div_coe _ _ (by norm_num : (1024:ℝ) ≠ 0)]
  congr 1
  unfold LOSS
  rw [← Finset.sum_div]
  simp only [ix2]
  ring

/-- The gradient of the residual sum. -/
theorem ref_dx : val_main_v31 (F := Ideal) (arr a) (arr w) (arr g) (arr x) (arr u) = arr (DX a w g x u) := by
  refine arr_ext fun r k => ?_
  pointwise [val_main_v31, val_main_v30, val_main_v29, val_main_v28, val_main_v27, val_main_v26, val_main_v20, val_main_v19, val_main_cst_3, val_main_cst_8, val_main_cst_9, val_main_cst_10, ref_diff]
  simp only [arr, ofBits_1024, ofBits_half, ofBits_two, ofBits_one, ← EReal.coe_mul, div_coe _ _ (by norm_num : (1024:ℝ) ≠ 0)]
  congr 1
  unfold DX
  simp only [ix2]
  ring

/-- The gradient of the gain. -/
theorem ref_dg : val_main_v34 (F := Ideal) (arr a) (arr w) (arr g) (arr x) (arr u) = arr (DG a w g x u) := by
  refine arr_ext fun z k => ?_
  pointwise [val_main_v34, val_main_v33, val_main_v32, val_main_cst_11, ref_n, ref_dx]
  simp only [arr, ← EReal.coe_mul, sum_coe, zero_add]
  congr 1
  exact Finset.sum_congr rfl fun r _ => mul_comm _ _

/-- The gradient of the product. -/
theorem ref_dy : val_main_v50 (F := Ideal) (arr a) (arr w) (arr g) (arr x) (arr u) = arr (DY a w g x u) := by
  refine arr_ext fun r k => ?_
  pointwise [val_main_v50, val_main_v49, val_main_v48, val_main_v47, val_main_v46, val_main_v45, val_main_v44, val_main_v43, val_main_v42, val_main_v41, val_main_v40, val_main_v39,
    val_main_v38, val_main_v37, val_main_v36, val_main_v35, val_main_v11, val_main_v10, val_main_v9, val_main_v8, val_main_cst_2, val_main_cst_12, val_main_cst_13, val_main_cst_14, ref_y, ref_dx]
  simp only [Fin.sum_univ_one, Fin.isValue, ms_y]
  simp only [arr, ofBits_1024, ofBits_neg_half, rsqrt_coe _ (ms_pos (by norm_num : (0:ℝ) < 1024) _), zero_add,
    div_coe _ _ (ms_pos (by norm_num : (0:ℝ) < 1024) _).ne', ← EReal.coe_mul, sum_coe, div_coe _ _ (by norm_num : (1024:ℝ) ≠ 0),
    ← EReal.coe_add]
  unfold DY
  rw [← bwd_eq (by norm_num : (0:ℝ) < 1024)]
  congr 1

end Cert.Reference4Ideal.Ffn

end
-- ==== Proof.FfnPair.lean ====
/- The claims of the feed-forward part's end: the idealized kernel and the reference leave the same loss and the same three
   gradients at finite arguments, and the reference keeps its arguments. -/
module

public import proofs.«01_k».proof.Defs
public import proofs.«01_k».proof.Proof.Gen.Reference4Ideal.Run
public import proofs.«01_k».proof.Proof.FfnKernel
public import proofs.«01_k».proof.Proof.FfnRef
public import Idealize.ShloMosaic.Adequacy
public import Idealize.ShloMosaic.Init

@[expose] public section

noncomputable section

namespace Cert.FfnPair

open Idealize.ShloMosaic Idealize.SL.Sem
open Cert.Resnorm (arr exists_arr)

/-- Every entry of the arguments is a real number. -/
theorem args_real [Cert.Pre_finite4.Facts] (a0 : FVec Ideal Cert.Kernel4Ideal.S8192x2816 .f32) (a1 : FVec Ideal Cert.Kernel4Ideal.S2816x1024 .f32)
    (a2 : FVec Ideal Cert.Kernel4Ideal.S1x1024 .f32) (a3 a4 : FVec Ideal Cert.Kernel4Ideal.S8192x1024 .f32)
    (h : Cert.Pre_finite4.fn (F := Ideal) a0 a1 a2 a3 a4 = fun _ => 1#1) :
    ∃ a w g x u, a0 = arr a ∧ a1 = arr w ∧ a2 = arr g ∧ a3 = arr x ∧ a4 = arr u := by
  have h' := congrFun h (fun a => a.elim0)
  obtain ⟨h', g4⟩ := IntOp.andi_eq_one.1 h'
  obtain ⟨h', g3⟩ := IntOp.andi_eq_one.1 h'
  obtain ⟨h', g2⟩ := IntOp.andi_eq_one.1 h'
  obtain ⟨g0, g1⟩ := IntOp.andi_eq_one.1 h'
  haveI : Subsingleton Cert.Pre_finite4.S_.Idx := ⟨fun a b => funext fun k => k.elim0⟩
  obtain ⟨a, h0⟩ := exists_arr a0 (Cert.Reals.finite_of_all _ _ _ _ _ _ (fun _ => Cert.Reals.ofBits_inf) g0)
  obtain ⟨w, h1⟩ := exists_arr a1 (Cert.Reals.finite_of_all _ _ _ _ _ _ (fun _ => Cert.Reals.ofBits_inf) g1)
  obtain ⟨g, h2⟩ := exists_arr a2 (Cert.Reals.finite_of_all _ _ _ _ _ _ (fun _ => Cert.Reals.ofBits_inf) g2)
  obtain ⟨x, h3⟩ := exists_arr a3 (Cert.Reals.finite_of_all _ _ _ _ _ _ (fun _ => Cert.Reals.ofBits_inf) g3)
  obtain ⟨u, h4⟩ := exists_arr a4 (Cert.Reals.finite_of_all _ _ _ _ _ _ (fun _ => Cert.Reals.ofBits_inf) g4)
  exact ⟨a, w, g, x, u, h0, h1, h2, h3, h4⟩

/-- The reference runs, keeps its arguments, and leaves every counter at zero: it declares none. -/
theorem reference_frame : Cert.quiescent_Reference4Ideal := fun m g _ =>
  (θ_run (Cert.Reference4Ideal.defs (F := Ideal)) _ _).mono
    (fun r h => ⟨fun c => (h c).2.2.2.2, sem_eq_zero_of_no_sems (by decide) r.2⟩) (Cert.Reference4Ideal.Value.run m g)

set_option maxRecDepth 16384 in
set_option maxHeartbeats 1000000 in
theorem algebraic [Cert.Pre_finite4.Facts] : Cert.algebraic_Kernel4Ideal_Reference4Ideal_pre_finite4 := by
  pair_intro
  · exact Cert.Kernel4Ideal.Ffn.run m g
  · refine θ_run_mono (Cert.Reference4Ideal.Value.run m' g') fun r hr c => ⟨(hr c).1.trans ?_, (hr c).2.1.trans ?_, (hr c).2.2.1.trans ?_, (hr c).2.2.2.1.trans ?_, (hr c).2.2.2.2⟩
    all_goals
      obtain ⟨e0, e1, e2, e3, e4⟩ := hagree c
      obtain ⟨a, w, p, x, u, h0, h1, h2, h3, h4⟩ := args_real _ _ _ _ _ (hpre c)
    · rw [Cert.Reference4Ideal.Read.val_main_v25_eq, e0, e1, e2, e3, e4]
      refine Eq.trans ?_ ((congrArg Cert.Kernel4Ideal.Ffn.hostLoss (Cert.Kernel4Ideal.Ffn.final_loss m c a w p x u h0 h1 h2 h3 h4)).trans
        (Cert.Kernel4Ideal.Ffn.hostLoss_eq _)).symm
      refine Eq.trans ?_ (Cert.Reference4Ideal.Ffn.ref_loss a w p x u)
      rw [← h0, ← h1, ← h2, ← h3, ← h4]
    · rw [Cert.Reference4Ideal.Read.val_main_v50_eq, e0, e1, e2, e3, e4]
      refine Eq.trans ?_ (Cert.Kernel4Ideal.Ffn.final_dy m c a w p x u h0 h1 h2 h3 h4).symm
      refine Eq.trans ?_ (Cert.Reference4Ideal.Ffn.ref_dy a w p x u)
      rw [← h0, ← h1, ← h2, ← h3, ← h4]
    · rw [Cert.Reference4Ideal.Read.val_main_v31_eq, e0, e1, e2, e3, e4]
      refine Eq.trans ?_ (Cert.Kernel4Ideal.Ffn.final_dx m c a w p x u h0 h1 h2 h3 h4).symm
      refine Eq.trans ?_ (Cert.Reference4Ideal.Ffn.ref_dx a w p x u)
      rw [← h0, ← h1, ← h2, ← h3, ← h4]
    · rw [Cert.Reference4Ideal.Read.val_main_v34_eq, e0, e1, e2, e3, e4]
      refine Eq.trans ?_ (Cert.Kernel4Ideal.Ffn.final_dg m c a w p x u h0 h1 h2 h3 h4).symm
      refine Eq.trans ?_ (Cert.Reference4Ideal.Ffn.ref_dg a w p x u)
      rw [← h0, ← h1, ← h2, ← h3, ← h4]

end Cert.FfnPair
end
-- ==== Proof.OutnormMath.lean ====
/- The two output norms over the real numbers: their gradients, and the heads' sums of a gradient times what was normalised. -/
module

public import proofs.«01_k».proof.Proof.ResnormMath

@[expose] public section

noncomputable section

namespace Cert.Outnorm

open Idealize.ShloMosaic Cert.Reals Cert.Rms

theorem ofBits_512 : Ideal.ofBits .f32 0x44000000#32 = ((512 : ℝ) : EReal) := by
  simp [Ideal.ofBits, Ideal.ieee]; norm_num [← EReal.coe_mul]

/-- The first and the second half of the features. -/
def left (k : Fin 512) : Fin 1024 := ⟨k.val, by omega⟩
def right (k : Fin 512) : Fin 1024 := ⟨512 + k.val, by omega⟩
/-- Feature `u` of head `h`. -/
def lane (h : Fin 8) (u : Fin 64) : Fin 512 := ⟨64 * h.val + u.val, by omega⟩
/-- The head of a feature. -/
def head (k : Fin 512) : Fin 8 := ⟨k.val / 64, by omega⟩

/-- The sum over the features of one head. -/
theorem sum_head (f : Fin 512 → ℝ) (j : Fin 512) : (∑ l, f l * (if l.val / 64 = j.val / 64 then 1 else 0)) = ∑ u, f (lane (head j) u) := by
  simp only [mul_ite, mul_one, mul_zero]
  rw [← Finset.sum_filter]
  refine Finset.sum_nbij' (fun l => (⟨l.val % 64, Nat.mod_lt _ (by norm_num)⟩ : Fin 64)) (fun u => lane (head j) u) ?_ ?_ ?_ ?_ ?_
  · intro l _; exact Finset.mem_univ _
  · intro u _
    simp only [Finset.mem_filter, Finset.mem_univ, true_and, lane, head]
    omega
  · intro l hl
    simp only [Finset.mem_filter, Finset.mem_univ, true_and] at hl
    apply Fin.ext; simp only [lane, head]; omega
  · intro u _
    apply Fin.ext; simp only [lane, head]; omega
  · intro l hl
    simp only [Finset.mem_filter, Finset.mem_univ, true_and] at hl
    congr 1; apply Fin.ext; simp only [lane, head]; omega

/-- Where an entry of an array of rows lies when four or sixteen consecutive rows stand side by side: its row and its feature. -/
def row4 (i j : Fin 2048) : Fin 8192 := ⟨4 * i.val + j.val / 512, by omega⟩
def row16 (i : Fin 512) (j : Fin 8192) : Fin 8192 := ⟨16 * i.val + j.val / 512, by omega⟩
def col {n : ℕ} (j : Fin n) : Fin 512 := ⟨j.val % 512, Nat.mod_lt _ (by norm_num)⟩

variable (y : Fin 8192 → Fin 512 → ℝ) (g : Fin 1 → Fin 512 → ℝ) (d : Fin 8192 → Fin 512 → ℝ)

/-- The gradients of the norm's argument and of its gain. -/
def DN (r : Fin 8192) (k : Fin 512) : ℝ := bwd 512 (y r) (fun k => d r k * g 0 k) k
def DG (_ : Fin 1) (k : Fin 512) : ℝ := ∑ r, d r k * (y r k * rstd 512 (y r))
/-- The heads' sums. -/
def DELTA (r : Fin 8192) (h : Fin 8) : ℝ := ∑ u, DN y g d r (lane h u) * y r (lane h u)

end Cert.Outnorm

end
-- ==== Proof.OutnormDil.lean ====
/- The kernel of the two output norms' gradients: the blocks that lay consecutive rows side by side, as the body leaves them. -/
module

public import proofs.«01_k».proof.Proof.OutnormMath
public import proofs.«01_k».proof.Proof.Gen.Kernel6Ideal.Frame
public import Idealize.ShloMosaic.Lib.Pipeline.ValueKit

@[expose] public section

set_option maxRecDepth 16384

noncomputable section

namespace Cert.Kernel6Ideal.Outnorm

open Cert.Kernel6Ideal Cert.Kernel6Ideal.Gen Idealize.ShloMosaic Idealize.ShloMosaic.TcCoe Idealize.SL.Sem Idealize.ShloMosaic.StableHlo
variable (m : (ℓ : Loc nD τ sig) → Buf (Elt Ideal) ℓ) (c : Dev nD)

/-- A block of rows, four feature slabs apart. -/
def slabs {φ : FTy} (v : FVec Ideal S512x512 φ) : FVec Ideal S4x512x128 .f32 := fun y => v (ix2 (y 1) ⟨128 * (y 0).val + (y 2).val, by
  have h0 : (y 0).val < 4 := (y 0).isLt
  have h2 : (y 2).val < 128 := (y 2).isLt
  omega⟩)
/-- Groups of four consecutive rows side by side. -/
def dil4 {φ φ' : FTy} (v : FVec Ideal S512x512 φ) : FVec Ideal S128x2048 φ' := fun y => v (ix2 ⟨4 * (y 0).val + (y 1).val / 512, by
  have h0 : (y 0).val < 128 := (y 0).isLt
  have h2 : (y 1).val < 2048 := (y 1).isLt
  omega⟩ ⟨(y 1).val % 512, by omega⟩)

/-- Groups of sixteen consecutive rows side by side. -/
def dil16 {φ φ' : FTy} (v : FVec Ideal S512x512 φ) : FVec Ideal S32x8192 φ' := fun y => v (ix2 ⟨16 * (y 0).val + (y 1).val / 512, by
  have h0 : (y 0).val < 32 := (y 0).isLt
  have h2 : (y 1).val < 8192 := (y 1).isLt
  omega⟩ ⟨(y 1).val % 512, by omega⟩)

theorem slab_read {φ : FTy} {κ : Kind} {sp : Space} {sig : RefSig} (w : View sig κ sp S4x512x128 .f32) (v : FVec Ideal S512x512 φ) (L R : List (View.Piece (Elt Ideal) S4x512x128 .f32))
    (hL : ∀ p ∈ L, ∀ x : p.1.shape.Idx, p.2 x = slabs v (p.1.emb x)) (hc : ∀ y, ∃ p ∈ L, y ∈ p.1.set) (B : LoadRect S4x512x128) (z : B.shape.Idx) :
    w.readCov (L ++ R) B z = slabs v (B.idx z) := by
  have h := View.read_writes_apply_of_pieces w (w.writes (Elt Ideal) w.junk R) (slabs v) L hL (B.idx z) (hc _)
  rw [← View.writes_append] at h
  exact h

theorem slabs_at {φ : FTy} (v : FVec Ideal S512x512 φ) (y : S4x512x128.Idx) (a b) (h1 : a.val = (y 1).val) (h2 : b.val = 128 * (y 0).val + (y 2).val) :
   v (ix2 a b) = slabs v y := by
  unfold slabs; congr 2 <;> exact Fin.ext (by assumption)
theorem dil4_at {φ φ' : FTy} (v : FVec Ideal S512x512 φ) (y : S128x2048.Idx) (a b) (h1 : a.val = 4 * (y 0).val + (y 1).val / 512) (h2 : b.val = (y 1).val % 512) :
   v (ix2 a b) = dil4 (φ' := φ') v y := by
  unfold dil4; congr 2 <;> exact Fin.ext (by assumption)

theorem dil16_at {φ φ' : FTy} (v : FVec Ideal S512x512 φ) (y : S32x8192.Idx) (a b) (h1 : a.val = 16 * (y 0).val + (y 1).val / 512) (h2 : b.val = (y 1).val % 512) :
   v (ix2 a b) = dil16 (φ' := φ') v y := by
  unfold dil16; congr 2 <;> exact Fin.ext (by assumption)

theorem unit_emb {s : Shape} {off size : Fin s.rank → ℕ} (inb) (x : (Rect.unit (s := s) off size inb).shape.Idx) (a) :
    ((Rect.unit off size inb).emb x a).val = off a + (x a).val := by
  show off a + 1 * (x a).val = _; rw [Nat.one_mul]

theorem slab_d {κ : Kind} {sp : Space} {sig : RefSig} (w : View sig κ sp S4x512x128 .f32) (v : FVec Ideal S512x512 .f32) (R : List (View.Piece (Elt Ideal) S4x512x128 .f32)) (B : LoadRect S4x512x128) (z : B.shape.Idx) :
    w.readCov (Val := Elt Ideal) (⟨Rect.unit ![3, 0, 0] ![1, 512, 128] inb_S4x512x128_S1x512x128_3_0_0, k0_pay19 (k0_pay14 v)⟩ :: ⟨Rect.unit ![2, 0, 0] ![1, 512, 128] inb_S4x512x128_S1x512x128_2_0_0, k0_pay18 (k0_pay14 v)⟩ :: ⟨Rect.unit ![1, 0, 0] ![1, 512, 128] inb_S4x512x128_S1x512x128_1_0_0, k0_pay17 (k0_pay14 v)⟩ :: ⟨Rect.unit ![0, 0, 0] ![1, 512, 128] inb_S4x512x128_S1x512x128_0_0_0, k0_pay16 (k0_pay14 v)⟩ :: R) B z = slabs v (B.idx z) := by
  refine slab_read w v [_, _, _, _] R ?_ ?_ B z
  · simp only [List.forall_mem_cons]
    refine ⟨?_, ?_, ?_, ?_, fun _ h => absurd h List.not_mem_nil⟩
    all_goals
      intro x
      have x0 : (x 0).val < 1 := (x 0).isLt
      pointwise [k0_pay16, k0_pay17, k0_pay18, k0_pay19, k0_pay14, k0_pay100, k0_pay101, k0_pay102, k0_pay103, k0_pay104]
      refine slabs_at v _ _ _ ?_ ?_
      all_goals
        simp only [unit_emb]
        simp
        try omega
  · intro y
    have h0 : (y 0).val < 4 := (y 0).isLt
    have h1 : (y 1).val < 512 := (y 1).isLt
    have h2 : (y 2).val < 128 := (y 2).isLt
    simp only [List.exists_mem_cons_iff, Rect.mem_set_unit]
    simp [Fin.forall_fin_succ]
    omega

theorem slab_e {κ : Kind} {sp : Space} {sig : RefSig} (w : View sig κ sp S4x512x128 .f32) (v : FVec Ideal S512x512 .f32) (R : List (View.Piece (Elt Ideal) S4x512x128 .f32)) (B : LoadRect S4x512x128) (z : B.shape.Idx) :
    w.readCov (Val := Elt Ideal) (⟨Rect.unit ![3, 0, 0] ![1, 512, 128] inb_S4x512x128_S1x512x128_3_0_0, shapeCast S1x512x128 (extractStridedSlice S512x128 ![0, 384] v slices_S512x512_o0_384_S512x128) shapeCasts_S512x128_S1x512x128⟩ :: ⟨Rect.unit ![2, 0, 0] ![1, 512, 128] inb_S4x512x128_S1x512x128_2_0_0, shapeCast S1x512x128 (extractStridedSlice S512x128 ![0, 256] v slices_S512x512_o0_256_S512x128) shapeCasts_S512x128_S1x512x128⟩ :: ⟨Rect.unit ![1, 0, 0] ![1, 512, 128] inb_S4x512x128_S1x512x128_1_0_0, shapeCast S1x512x128 (extractStridedSlice S512x128 ![0, 128] v slices_S512x512_o0_128_S512x128) shapeCasts_S512x128_S1x512x128⟩ :: ⟨Rect.unit ![0, 0, 0] ![1, 512, 128] inb_S4x512x128_S1x512x128_0_0_0, shapeCast S1x512x128 (extractStridedSlice S512x128 ![0, 0] v slices_S512x512_o0_0_S512x128) shapeCasts_S512x128_S1x512x128⟩ :: R) B z = slabs v (B.idx z) := by
  refine slab_read w v [_, _, _, _] R ?_ ?_ B z
  · simp only [List.forall_mem_cons]
    refine ⟨?_, ?_, ?_, ?_, fun _ h => absurd h List.not_mem_nil⟩
    all_goals
      intro x
      have x0 : (x 0).val < 1 := (x 0).isLt
      pointwise [k0_pay16, k0_pay17, k0_pay18, k0_pay19, k0_pay14, k0_pay100, k0_pay101, k0_pay102, k0_pay103, k0_pay104]
      refine slabs_at v _ _ _ ?_ ?_
      all_goals
        simp only [unit_emb]
        simp
        try omega
  · intro y
    have h0 : (y 0).val < 4 := (y 0).isLt
    have h1 : (y 1).val < 512 := (y 1).isLt
    have h2 : (y 2).val < 128 := (y 2).isLt
    simp only [List.exists_mem_cons_iff, Rect.mem_set_unit]
    simp [Fin.forall_fin_succ]
    omega

set_option maxHeartbeats 4000000 in
theorem out_d4 (t : Fin cfg0.N) (z) : (outsAt0 m c t.val t.isLt).2.2.2.2.2.1 z = dil4 (φ' := .bf16) (k0_pay6 (iblk m c 1 t) (View.ld (iblk m c 0 t) (Rect.unit ![0, 0] ![512, 512] inb_S512x1024_S512x512_0_0)) (iblk m c 3 t)) z := by
  by_cases h : t.val % 16 = 0
  on_goal 1 => rw [outsAt0_A m c t h]
  on_goal 2 => rw [outsAt0_B m c t h]
  all_goals
    frame_out
    generalize k0_pay6 (iblk m c 1 t) (View.ld (iblk m c 0 t) (Rect.unit ![0, 0] ![512, 512] inb_S512x1024_S512x512_0_0)) (iblk m c 3 t) = v
    apply View.canon_apply_of_pieces
    · simp only [List.forall_mem_cons]
      refine ⟨?_, ?_, ?_, ?_, ?_, ?_, ?_, ?_, ?_, ?_, ?_, ?_, ?_, ?_, ?_, ?_, fun _ h => absurd h List.not_mem_nil⟩
      all_goals
        intro x
        have x0 : (x 0).val < 128 := (x 0).isLt
        have x1 : (x 1).val < 128 := (x 1).isLt
        pointwise [k0_pay20, k0_pay21, k0_pay22, k0_pay23, k0_pay24, k0_pay25, k0_pay26, k0_pay27, k0_pay28, k0_pay29, k0_pay30, k0_pay31, k0_pay32, k0_pay33, k0_pay34, k0_pay35]
        refine (slab_d _ v _ _ _).trans ?_
        unfold slabs
        refine dil4_at v _ _ _ ?_ ?_
        all_goals
          simp only [unit_emb]
          simp [LoadRect.idx]
          try omega
    · have h0 : (z 0).val < 128 := (z 0).isLt
      have h1 : (z 1).val < 2048 := (z 1).isLt
      simp only [List.exists_mem_cons_iff, Rect.mem_set_unit]
      simp [Fin.forall_fin_succ]
      omega

set_option maxHeartbeats 4000000 in
theorem out_e4 (t : Fin cfg0.N) (z) : (outsAt0 m c t.val t.isLt).2.2.2.2.2.2.2.1 z = dil4 (φ' := .f32) (k0_pay15 (iblk m c 1 t) (k0_pay6 (iblk m c 1 t) (View.ld (iblk m c 0 t) (Rect.unit ![0, 0] ![512, 512] inb_S512x1024_S512x512_0_0)) (iblk m c 3 t)) (iblk m c 5 t)) z := by
  by_cases h : t.val % 16 = 0
  on_goal 1 => rw [outsAt0_A m c t h]
  on_goal 2 => rw [outsAt0_B m c t h]
  all_goals
    frame_out
    generalize k0_pay15 (iblk m c 1 t) (k0_pay6 (iblk m c 1 t) (View.ld (iblk m c 0 t) (Rect.unit ![0, 0] ![512, 512] inb_S512x1024_S512x512_0_0)) (iblk m c 3 t)) (iblk m c 5 t) = v
    apply View.canon_apply_of_pieces
    · simp only [List.forall_mem_cons]
      refine ⟨?_, ?_, ?_, ?_, ?_, ?_, ?_, ?_, ?_, ?_, ?_, ?_, ?_, ?_, ?_, ?_, fun _ h => absurd h List.not_mem_nil⟩
      all_goals
        intro x
        have x0 : (x 0).val < 128 := (x 0).isLt
        have x1 : (x 1).val < 128 := (x 1).isLt
        pointwise [k0_pay105, k0_pay106, k0_pay107, k0_pay108, k0_pay109, k0_pay110, k0_pay111, k0_pay112, k0_pay113, k0_pay114, k0_pay115, k0_pay116, k0_pay117, k0_pay118, k0_pay119, k0_pay120]
        refine (slab_e _ v _ _ _).trans ?_
        unfold slabs
        refine dil4_at v _ _ _ ?_ ?_
        all_goals
          simp only [unit_emb]
          simp [LoadRect.idx]
          try omega
    · have h0 : (z 0).val < 128 := (z 0).isLt
      have h1 : (z 1).val < 2048 := (z 1).isLt
      simp only [List.exists_mem_cons_iff, Rect.mem_set_unit]
      simp [Fin.forall_fin_succ]
      omega

set_option maxHeartbeats 4000000 in
theorem out_d16 (t : Fin cfg0.N) (z) : (outsAt0 m c t.val t.isLt).2.2.2.2.2.2.1 z = dil16 (φ' := .bf16) (k0_pay6 (iblk m c 1 t) (View.ld (iblk m c 0 t) (Rect.unit ![0, 0] ![512, 512] inb_S512x1024_S512x512_0_0)) (iblk m c 3 t)) z := by
  by_cases h : t.val % 16 = 0
  on_goal 1 => rw [outsAt0_A m c t h]
  on_goal 2 => rw [outsAt0_B m c t h]
  all_goals
    frame_out
    generalize k0_pay6 (iblk m c 1 t) (View.ld (iblk m c 0 t) (Rect.unit ![0, 0] ![512, 512] inb_S512x1024_S512x512_0_0)) (iblk m c 3 t) = v
    apply View.canon_apply_of_pieces
    · simp only [List.forall_mem_cons]
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
      all_goals
        intro x
        have x0 : (x 0).val < 32 := (x 0).isLt
        have x1 : (x 1).val < 128 := (x 1).isLt
        pointwise [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99]
        refine (slab_d _ v _ _ _).trans ?_
        unfold slabs
        refine dil16_at v _ _ _ ?_ ?_
        all_goals
          simp only [unit_emb]
          simp [LoadRect.idx]
          try omega
    · have h0 : (z 0).val < 32 := (z 0).isLt
      have h1 : (z 1).val < 8192 := (z 1).isLt
      simp only [List.exists_mem_cons_iff, Rect.mem_set_unit]
      simp [Fin.forall_fin_succ]
      omega

set_option maxHeartbeats 4000000 in
theorem out_e16 (t : Fin cfg0.N) (z) : (outsAt0 m c t.val t.isLt).2.2.2.2.2.2.2.2 z = dil16 (φ' := .f32) (k0_pay15 (iblk m c 1 t) (k0_pay6 (iblk m c 1 t) (View.ld (iblk m c 0 t) (Rect.unit ![0, 0] ![512, 512] inb_S512x1024_S512x512_0_0)) (iblk m c 3 t)) (iblk m c 5 t)) z := by
  by_cases h : t.val % 16 = 0
  on_goal 1 => rw [outsAt0_A m c t h]
  on_goal 2 => rw [outsAt0_B m c t h]
  all_goals
    frame_out
    generalize k0_pay15 (iblk m c 1 t) (k0_pay6 (iblk m c 1 t) (View.ld (iblk m c 0 t) (Rect.unit ![0, 0] ![512, 512] inb_S512x1024_S512x512_0_0)) (iblk m c 3 t)) (iblk m c 5 t) = v
    apply View.canon_apply_of_pieces
    · simp only [List.forall_mem_cons]
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
      all_goals
        intro x
        have x0 : (x 0).val < 32 := (x 0).isLt
        have x1 : (x 1).val < 128 := (x 1).isLt
        pointwise [k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184]
        refine (slab_e _ v _ _ _).trans ?_
        unfold slabs
        refine dil16_at v _ _ _ ?_ ?_
        all_goals
          simp only [unit_emb]
          simp [LoadRect.idx]
          try omega
    · have h0 : (z 0).val < 32 := (z 0).isLt
      have h1 : (z 1).val < 8192 := (z 1).isLt
      simp only [List.exists_mem_cons_iff, Rect.mem_set_unit]
      simp [Fin.forall_fin_succ]
      omega

end Cert.Kernel6Ideal.Outnorm

end
-- ==== Proof.OutnormAug.lean ====
/- The kernel of the two output norms' gradients: the block that holds every head's sum and gradient, as the body leaves them. -/
module

public import proofs.«01_k».proof.Proof.OutnormMath
public import proofs.«01_k».proof.Proof.Gen.Kernel6Ideal.Frame
public import proofs.«01_k».proof.Proof.OutnormDil
public import Idealize.ShloMosaic.Lib.Pipeline.ValueKit

@[expose] public section

set_option maxRecDepth 16384

noncomputable section

namespace Cert.Kernel6Ideal.Outnorm

open Cert.Kernel6Ideal Cert.Kernel6Ideal.Gen Idealize.ShloMosaic Idealize.ShloMosaic.TcCoe Idealize.SL.Sem Idealize.ShloMosaic.StableHlo
open Cert.Reals Cert.Rms Cert.Outnorm
open Cert.Resnorm (arr arr_ext)
variable (m : (ℓ : Loc nD τ sig) → Buf (Elt Ideal) ℓ) (c : Dev nD)

/-- Per head 64 lanes that begin with the negated sum, then the gradient's 64 lanes. -/
def aug {n : ℕ} (f e : Fin n → Fin 512 → ℝ) (i : Fin n) (j : Fin 1024) : ℝ :=
  if 64 ≤ j.val % 128 then f i ⟨64 * (j.val / 128) + (j.val % 128 - 64), by omega⟩
  else if j.val % 128 = 0 then -e i ⟨64 * (j.val / 128), by omega⟩ else 0

theorem sel_sge (n : ℕ) (hn : n < 128) (a b : EReal) : Scalar.select (IntOp.cmpi CmpIPredicate.sge (BitVec.ofNat 32 n) 64#32) a b = if 64 ≤ n then a else b := by
  have h : ∀ j : Fin 128, IntOp.cmpi CmpIPredicate.sge (BitVec.ofNat 32 j.val) 64#32 = if 64 ≤ j.val then 1#1 else 0#1 := by decide +kernel
  rw [h ⟨n, hn⟩]; split <;> rfl
theorem sel_zero (n : ℕ) (hn : n < 128) (a b : EReal) : Scalar.select (IntOp.cmpi CmpIPredicate.eq (BitVec.ofNat 32 n) 0#32) a b = if n = 0 then a else b := by
  have h : ∀ j : Fin 128, IntOp.cmpi CmpIPredicate.eq (BitVec.ofNat 32 j.val) 0#32 = if j.val = 0 then 1#1 else 0#1 := by decide +kernel
  rw [h ⟨n, hn⟩]; split <;> rfl
theorem sel_same (b : BitVec 1) (a : EReal) : Scalar.select b a a = a := by
  unfold Scalar.select; split <;> rfl

/-- An entry of one head's block, whichever way it is laid out. -/
theorem aug_at {n : ℕ} (f e : Fin n → Fin 512 → ℝ) (i i' : Fin n) (j : ℕ) (J : Fin 1024) (p q : Fin 512) (hi : i = i') (hj : J.val % 128 = j)
    (hp : 64 ≤ j → p.val = 64 * (J.val / 128) + (J.val % 128 - 64)) (hq : j = 0 → q.val = 64 * (J.val / 128)) :
    (if 64 ≤ j then ((f i p : ℝ) : EReal) else if j = 0 then ((-e i q : ℝ) : EReal) else 0) = ((aug f e i' J : ℝ) : EReal) := by
  subst hi
  unfold aug
  simp only [show (64 ≤ J.val % 128) = (64 ≤ j) by rw [hj], show (J.val % 128 = 0) = (j = 0) by rw [hj]]
  split_ifs with h1 h2
  · congr 3; apply Fin.ext; have := hp h1; simp only; omega
  · congr 4; apply Fin.ext; have := hq h2; simp only; omega
  · rfl

set_option maxHeartbeats 4000000 in
theorem out_aug (f e : Fin 512 → Fin 512 → ℝ) (t : Fin cfg0.N)
    (hf : k0_pay11 (iblk m c 2 t) (View.ld (iblk m c 0 t) (Rect.unit ![0, 512] ![512, 512] inb_S512x1024_S512x512_0_512)) (iblk m c 4 t) (k0_pay8 (iblk m c 2 t)) = arr f)
    (he : k0_pay186 (iblk m c 2 t) (arr f) (iblk m c 5 t) = arr e) :
    (outsAt0 m c t.val t.isLt).2.2.1 = (arr (aug f e) : FVec Ideal S512x1024 .bf16) := by
  funext z
  by_cases h : t.val % 16 = 0
  on_goal 1 => rw [outsAt0_A m c t h]
  on_goal 2 => rw [outsAt0_B m c t h]
  all_goals
    frame_out
    generalize k0_pay11 (iblk m c 2 t) (View.ld (iblk m c 0 t) (Rect.unit ![0, 512] ![512, 512] inb_S512x1024_S512x512_0_512)) (iblk m c 4 t) (k0_pay8 (iblk m c 2 t)) = v at hf ⊢
    subst hf
    apply View.canon_apply_of_pieces
    · simp only [List.forall_mem_cons]
      refine ⟨?_, ?_, ?_, ?_, ?_, ?_, ?_, ?_, fun _ h => absurd h List.not_mem_nil⟩
      all_goals
        intro x
        have x0 : (x 0).val < 512 := (x 0).isLt
        have x1 : (x 1).val < 128 := (x 1).isLt
        pointwise [k0_pay1, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay185, he]
        simp only [arr, ← EReal.coe_sub, sub_self, zero_sub, ← EReal.coe_neg, neg_zero, EReal.coe_zero, sel_same, sel_sge _ x1, sel_zero _ x1]
        refine aug_at f e _ _ (x 1).val _ _ _ ?_ ?_ ?_ ?_
        · exact Fin.ext (by simp only [unit_emb]; simp)
        all_goals
          simp only [unit_emb]
          simp
          try omega
    · have h0 : (z 0).val < 512 := (z 0).isLt
      have h1 : (z 1).val < 1024 := (z 1).isLt
      simp only [List.exists_mem_cons_iff, Rect.mem_set_unit]
      simp [Fin.forall_fin_succ]
      omega

end Cert.Kernel6Ideal.Outnorm

end
-- ==== Proof.OutnormKernel.lean ====
/- The kernel of the two output norms' gradients: what its result arrays hold after the run, over real arguments. -/
module

public import proofs.«01_k».proof.Proof.OutnormAug
public import Idealize.ShloMosaic.Lib.StableHlo.Run

@[expose] public section

set_option maxRecDepth 16384

noncomputable section

namespace Cert.Kernel6Ideal.Outnorm

open Cert.Kernel6Ideal Cert.Kernel6Ideal.Gen Idealize.ShloMosaic Idealize.ShloMosaic.TcCoe Idealize.SL.Sem Cert.Reals Cert.Rms Cert.Outnorm Idealize.ShloMosaic.StableHlo
open Idealize.ShloMosaic.Pipeline (Dat)
open Cert.Resnorm (arr arr_ext)

/-! ## The body's arithmetic on a block of rows -/

section Pay
variable (y d : Fin 512 → Fin 512 → ℝ) (g : Fin 1 → Fin 512 → ℝ)

theorem rstd_at (r : Fin 512) : k0_pay4 (F := Ideal) (arr y) (ix2 r 0) = ((rstd 512 (y r) : ℝ) : EReal) := by
  pointwise [k0_pay4, arr]
  simp only [ofBits_512, ofBits_eps, ← EReal.coe_mul, sum_coe]
  rw [div_coe _ _ (by norm_num), ← EReal.coe_add]
  exact rsqrt_coe _ (ms_pos (by norm_num : (0:ℝ) < 512) _)

theorem rstd_at' (r : Fin 512) : k0_pay9 (F := Ideal) (k0_pay8 (F := Ideal) (arr y)) (ix2 r 0) = ((rstd 512 (y r) : ℝ) : EReal) := by
  pointwise [k0_pay9, k0_pay8, arr]
  simp only [ofBits_512, ofBits_eps, ← EReal.coe_mul, sum_coe]
  rw [div_coe _ _ (by norm_num), ← EReal.coe_add]
  exact rsqrt_coe _ (ms_pos (by norm_num : (0:ℝ) < 512) _)

theorem pay_dn : k0_pay6 (F := Ideal) (arr y) (arr d) (arr g) = arr fun r k => bwd 512 (y r) (fun k => d r k * g 0 k) k := by
  refine arr_ext fun r k => ?_
  pointwise [k0_pay6, k0_pay5]
  simp only [rstd_at]
  simp only [arr, ofBits_512, ← EReal.coe_mul, sum_coe, ← EReal.coe_sub, div_coe _ _ (by norm_num : (512:ℝ) ≠ 0), ← EReal.coe_add]
  rfl

theorem pay_dn' : k0_pay11 (F := Ideal) (arr y) (arr d) (arr g) (k0_pay8 (F := Ideal) (arr y)) = arr fun r k => bwd 512 (y r) (fun k => d r k * g 0 k) k := by
  refine arr_ext fun r k => ?_
  pointwise [k0_pay11, k0_pay10]
  simp only [rstd_at']
  simp only [arr, ofBits_512, ← EReal.coe_mul, sum_coe, ← EReal.coe_sub, div_coe _ _ (by norm_num : (512:ℝ) ≠ 0), ← EReal.coe_add]
  rfl

theorem pay_dg (acc : Vec Ideal S1x512 .f32) (k : Fin 512) : k0_pay12 (F := Ideal) (k0_pay7 (F := Ideal) (arr y) (arr d)) acc (ix2 0 k)
    = acc (ix2 0 k) + ((∑ r : Fin 512, d r k * (y r k * rstd 512 (y r)) : ℝ) : EReal) := by
  pointwise [k0_pay12, k0_pay7, k0_pay5]
  simp only [rstd_at]
  simp only [arr, ← EReal.coe_mul, sum_coe]
  rfl

theorem pay_dg' (acc : Vec Ideal S1x512 .f32) (k : Fin 512) : k0_pay13 (F := Ideal) (arr y) (arr d) (k0_pay8 (F := Ideal) (arr y)) acc (ix2 0 k)
    = acc (ix2 0 k) + ((∑ r : Fin 512, d r k * (y r k * rstd 512 (y r)) : ℝ) : EReal) := by
  pointwise [k0_pay13, k0_pay10]
  simp only [rstd_at']
  simp only [arr, ← EReal.coe_mul, sum_coe]
  rfl

/-- The table of ones where two features share a head. -/
def ones (l j : Fin 512) : ℝ := if l.val / 64 = j.val / 64 then 1 else 0

theorem pay_delta : k0_pay15 (F := Ideal) (arr y) (arr d) (arr ones) = arr fun r j => ∑ u, d r (lane (head j) u) * y r (lane (head j) u) := by
  refine arr_ext fun r j => ?_
  pointwise [k0_pay15, k0_pay14]
  simp only [arr, ← EReal.coe_mul, sum_coe, zero_add]
  exact congrArg _ (sum_head (fun l => d r l * y r l) j)

theorem pay_delta' : k0_pay186 (F := Ideal) (arr y) (arr d) (arr ones) = arr fun r j => ∑ u, d r (lane (head j) u) * y r (lane (head j) u) := by
  refine arr_ext fun r j => ?_
  pointwise [k0_pay186, k0_pay185]
  simp only [arr, ← EReal.coe_mul, sum_coe, zero_add]
  exact congrArg _ (sum_head (fun l => d r l * y r l) j)

theorem pay_zero2 (j : S1x512.Idx) : k0_pay2 (F := Ideal) j = 0 := by pointwise [k0_pay2]
theorem pay_zero3 (j : S1x512.Idx) : k0_pay3 (F := Ideal) j = 0 := by pointwise [k0_pay3]

theorem ld_left (x : Vec Ideal S512x1024 .f32) (d : Fin 512 → Fin 1024 → ℝ) (hx : x = arr d) :
    View.ld x (Rect.unit ![0, 0] ![512, 512] inb_S512x1024_S512x512_0_0) = arr fun r k => d r (left k) := by
  subst hx
  funext z
  refine congrArg _ (congrArg₂ d (Fin.ext ?_) (Fin.ext ?_))
  · show 0 + 1 * (z 0).val = (z 0).val; omega
  · show 0 + 1 * (z 1).val = (z 1).val; omega

theorem ld_right (x : Vec Ideal S512x1024 .f32) (d : Fin 512 → Fin 1024 → ℝ) (hx : x = arr d) :
    View.ld x (Rect.unit ![0, 512] ![512, 512] inb_S512x1024_S512x512_0_512) = arr fun r k => d r (right k) := by
  subst hx
  funext z
  refine congrArg _ (congrArg₂ d (Fin.ext ?_) (Fin.ext ?_))
  · show 0 + 1 * (z 0).val = (z 0).val; omega
  · show 512 + 1 * (z 1).val = 512 + (z 1).val; omega
end Pay

variable (m : (ℓ : Loc nD τ sig) → Buf (Elt Ideal) ℓ) (c : Dev nD)
variable (ya yb : Fin 8192 → Fin 512 → ℝ) (ga gb : Fin 1 → Fin 512 → ℝ) (d : Fin 8192 → Fin 1024 → ℝ)

/-! ## Blocks -/

theorem host_ones : (V m c main_v7 : FVec Ideal S512x512 .f32) = arr ones := by
  show after hostOps0 (fun b => m (c, b)) (Proc.devRef .tc main_v7) = _
  after_results
  refine arr_ext fun l j => ?_
  pointwise []
  have h : ∀ l : Fin 512, IntOp.shrui .host (BitVec.ofNat 32 l.val) 6#32 = BitVec.ofNat 32 (l.val / 64) := by decide +kernel
  have h' : ∀ a b : Fin 8, IntOp.cmpi CmpIPredicate.eq (BitVec.ofNat 32 a.val) (BitVec.ofNat 32 b.val) = if a.val = b.val then 1#1 else 0#1 := by decide +kernel
  have e : IntOp.cmpi CmpIPredicate.eq (BitVec.ofNat 32 (l.val / 64)) (BitVec.ofNat 32 (j.val / 64)) = if l.val / 64 = j.val / 64 then 1#1 else 0#1 :=
    h' (head l) (head j)
  rw [h l, h j, e]
  unfold ones
  by_cases h : l.val / 64 = j.val / 64
  · rw [if_pos h, if_pos h]; simp [FloatOps.uitofp]
  · rw [if_neg h, if_neg h]; simp [FloatOps.uitofp]

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0] :=
  (by decide +kernel : ∀ t : Fin grid0.N, _)

/-- Row `r` of grid point `t`'s block of rows, as a row of the array. -/
def row (t : Fin cfg0.N) (r : Fin 512) : Fin 8192 := ⟨t.val * 512 + r.val, by have := lt_of_lt_of_eq t.isLt N_0; omega⟩

/-- A block of grouped rows lies in the array of grouped rows. -/
theorem dil4_d (t : Fin cfg0.N) (y : Fin 8192 → Fin 512 → ℝ) (g : Fin 1 → Fin 512 → ℝ) (d : Fin 8192 → Fin 512 → ℝ) (z : S128x2048.Idx) (i : t.val * 128 + (z 0).val < 2048) :
    dil4 (φ := .f32) (φ' := .bf16) (arr fun r k => DN y g d (row t r) k : FVec Ideal S512x512 .f32) z = ((DN y g d (row4 ⟨t.val * 128 + (z 0).val, i⟩ (z 1)) (col (z 1)) : ℝ) : EReal) := by
  have z1 : (z 1).val < 2048 := (z 1).isLt
  have z0 : (z 0).val < 128 := (z 0).isLt
  have e : row t ⟨4 * (z 0).val + (z 1).val / 512, by omega⟩ = row4 ⟨t.val * 128 + (z 0).val, i⟩ (z 1) := Fin.ext (by simp only [row, row4]; omega)
  rw [← e]
  rfl

theorem dil4_e (t : Fin cfg0.N) (y : Fin 8192 → Fin 512 → ℝ) (g : Fin 1 → Fin 512 → ℝ) (d : Fin 8192 → Fin 512 → ℝ) (z : S128x2048.Idx) (i : t.val * 128 + (z 0).val < 2048) :
    dil4 (φ := .f32) (φ' := .f32) (arr fun r k => DELTA y g d (row t r) (head k) : FVec Ideal S512x512 .f32) z = ((DELTA y g d (row4 ⟨t.val * 128 + (z 0).val, i⟩ (z 1)) (head (col (z 1))) : ℝ) : EReal) := by
  have z1 : (z 1).val < 2048 := (z 1).isLt
  have z0 : (z 0).val < 128 := (z 0).isLt
  have e : row t ⟨4 * (z 0).val + (z 1).val / 512, by omega⟩ = row4 ⟨t.val * 128 + (z 0).val, i⟩ (z 1) := Fin.ext (by simp only [row, row4]; omega)
  rw [← e]
  rfl

theorem dil16_d (t : Fin cfg0.N) (y : Fin 8192 → Fin 512 → ℝ) (g : Fin 1 → Fin 512 → ℝ) (d : Fin 8192 → Fin 512 → ℝ) (z : S32x8192.Idx) (i : t.val * 32 + (z 0).val < 512) :
    dil16 (φ := .f32) (φ' := .bf16) (arr fun r k => DN y g d (row t r) k : FVec Ideal S512x512 .f32) z = ((DN y g d (row16 ⟨t.val * 32 + (z 0).val, i⟩ (z 1)) (col (z 1)) : ℝ) : EReal) := by
  have z1 : (z 1).val < 8192 := (z 1).isLt
  have z0 : (z 0).val < 32 := (z 0).isLt
  have e : row t ⟨16 * (z 0).val + (z 1).val / 512, by omega⟩ = row16 ⟨t.val * 32 + (z 0).val, i⟩ (z 1) := Fin.ext (by simp only [row, row16]; omega)
  rw [← e]
  rfl

theorem dil16_e (t : Fin cfg0.N) (y : Fin 8192 → Fin 512 → ℝ) (g : Fin 1 → Fin 512 → ℝ) (d : Fin 8192 → Fin 512 → ℝ) (z : S32x8192.Idx) (i : t.val * 32 + (z 0).val < 512) :
    dil16 (φ := .f32) (φ' := .f32) (arr fun r k => DELTA y g d (row t r) (head k) : FVec Ideal S512x512 .f32) z = ((DELTA y g d (row16 ⟨t.val * 32 + (z 0).val, i⟩ (z 1)) (head (col (z 1))) : ℝ) : EReal) := by
  have z1 : (z 1).val < 8192 := (z 1).isLt
  have z0 : (z 0).val < 32 := (z 0).isLt
  have e : row t ⟨16 * (z 0).val + (z 1).val / 512, by omega⟩ = row16 ⟨t.val * 32 + (z 0).val, i⟩ (z 1) := Fin.ext (by simp only [row, row16]; omega)
  rw [← e]
  rfl

theorem blk0 (h : (V m c main_arg4 : FVec Ideal S8192x1024 .f32) = arr d) (t : Fin cfg0.N) :
    (iblk m c 0 t : Vec Ideal S512x1024 .f32) = arr fun r k => d (row t r) k := by
  funext i
  refine Eq.trans (b := (V m c main_arg4 : FVec Ideal S8192x1024 .f32) (ix2 (row t (i 0)) (i 1))) ?_ (congrFun h _)
  blk_ext [iblk, idx t, row]

theorem blk1 (h : (V m c main_arg0 : FVec Ideal S8192x512 .f32) = arr ya) (t : Fin cfg0.N) :
    (iblk m c 1 t : Vec Ideal S512x512 .f32) = arr fun r k => ya (row t r) k := by
  funext i
  refine Eq.trans (b := (V m c main_arg0 : FVec Ideal S8192x512 .f32) (ix2 (row t (i 0)) (i 1))) ?_ (congrFun h _)
  blk_ext [iblk, idx t, row]

theorem blk2 (h : (V m c main_arg1 : FVec Ideal S8192x512 .f32) = arr yb) (t : Fin cfg0.N) :
    (iblk m c 2 t : Vec Ideal S512x512 .f32) = arr fun r k => yb (row t r) k := by
  funext i
  refine Eq.trans (b := (V m c main_arg1 : FVec Ideal S8192x512 .f32) (ix2 (row t (i 0)) (i 1))) ?_ (congrFun h _)
  blk_ext [iblk, idx t, row]

theorem blk3 (h : (V m c main_arg2 : FVec Ideal S1x512 .f32) = arr ga) (t : Fin cfg0.N) :
    (iblk m c 3 t : Vec Ideal S1x512 .f32) = arr ga := by
  funext i
  refine Eq.trans (b := (V m c main_arg2 : FVec Ideal S1x512 .f32) i) ?_ (congrFun h _)
  blk_ext [iblk, idx t]

theorem blk4 (h : (V m c main_arg3 : FVec Ideal S1x512 .f32) = arr gb) (t : Fin cfg0.N) :
    (iblk m c 4 t : Vec Ideal S1x512 .f32) = arr gb := by
  funext i
  refine Eq.trans (b := (V m c main_arg3 : FVec Ideal S1x512 .f32) i) ?_ (congrFun h _)
  blk_ext [iblk, idx t]

theorem blk5 (h : (V m c main_v7 : FVec Ideal S512x512 .f32) = arr ones) (t : Fin cfg0.N) :
    (iblk m c 5 t : Vec Ideal S512x512 .f32) = arr ones := by
  funext i
  refine Eq.trans (b := (V m c main_v7 : FVec Ideal S512x512 .f32) i) ?_ (congrFun h _)
  blk_ext [iblk, idx t]

/-! ## The result arrays -/

section Final
variable (h0 : m ((c : Thread nD τ).loc main_arg0) = arr ya) (h1 : m ((c : Thread nD τ).loc main_arg1) = arr yb)
  (h2 : m ((c : Thread nD τ).loc main_arg2) = arr ga) (h3 : m ((c : Thread nD τ).loc main_arg3) = arr gb)
  (h4 : m ((c : Thread nD τ).loc main_arg4) = arr d)
include h0 h1 h2 h3 h4

/-- The cotangent's two halves. -/
abbrev dl (r : Fin 8192) (k : Fin 512) : ℝ := d r (left k)
abbrev dr (r : Fin 8192) (k : Fin 512) : ℝ := d r (right k)

theorem blks (t : Fin cfg0.N) : (iblk m c 0 t : Vec Ideal S512x1024 .f32) = (arr fun r k => d (row t r) k)
    ∧ (iblk m c 1 t : Vec Ideal S512x512 .f32) = (arr fun r k => ya (row t r) k)
    ∧ (iblk m c 2 t : Vec Ideal S512x512 .f32) = (arr fun r k => yb (row t r) k)
    ∧ (iblk m c 3 t : Vec Ideal S1x512 .f32) = arr ga
    ∧ (iblk m c 4 t : Vec Ideal S1x512 .f32) = arr gb
    ∧ (iblk m c 5 t : Vec Ideal S512x512 .f32) = arr ones :=
  ⟨blk0 m c d ((V_main_arg4 m c).trans h4) t, blk1 m c ya ((V_main_arg0 m c).trans h0) t, blk2 m c yb ((V_main_arg1 m c).trans h1) t,
   blk3 m c ga ((V_main_arg2 m c).trans h2) t, blk4 m c gb ((V_main_arg3 m c).trans h3) t, blk5 m c (host_ones m c) t⟩

theorem point_da (t : Fin cfg0.N) : k0_pay6 (F := Ideal) (iblk m c 1 t) (View.ld (iblk m c 0 t) (Rect.unit ![0, 0] ![512, 512] inb_S512x1024_S512x512_0_0)) (iblk m c 3 t)
    = arr fun r k => DN ya ga (dl d) (row t r) k := by
  obtain ⟨e0, e1, e2, e3, e4, e5⟩ := blks m c ya yb ga gb d h0 h1 h2 h3 h4 t
  rw [e1, e3]
  exact (congrArg (fun v => k0_pay6 (F := Ideal) _ v _) (ld_left _ _ e0)).trans (pay_dn _ _ _)

theorem point_db (t : Fin cfg0.N) : k0_pay11 (F := Ideal) (iblk m c 2 t) (View.ld (iblk m c 0 t) (Rect.unit ![0, 512] ![512, 512] inb_S512x1024_S512x512_0_512)) (iblk m c 4 t)
      (k0_pay8 (F := Ideal) (iblk m c 2 t))
    = arr fun r k => DN yb gb (dr d) (row t r) k := by
  obtain ⟨e0, e1, e2, e3, e4, e5⟩ := blks m c ya yb ga gb d h0 h1 h2 h3 h4 t
  rw [e2, e4]
  exact (congrArg (fun v => k0_pay11 (F := Ideal) _ v _ _) (ld_right _ _ e0)).trans (pay_dn' _ _ _)

theorem point_ea (t : Fin cfg0.N) : k0_pay15 (F := Ideal) (iblk m c 1 t)
      (k0_pay6 (F := Ideal) (iblk m c 1 t) (View.ld (iblk m c 0 t) (Rect.unit ![0, 0] ![512, 512] inb_S512x1024_S512x512_0_0)) (iblk m c 3 t)) (iblk m c 5 t)
    = arr fun r j => DELTA ya ga (dl d) (row t r) (head j) := by
  obtain ⟨e0, e1, e2, e3, e4, e5⟩ := blks m c ya yb ga gb d h0 h1 h2 h3 h4 t
  rw [point_da m c ya yb ga gb d h0 h1 h2 h3 h4 t, e1, e5]
  exact pay_delta _ _

theorem point_eb (t : Fin cfg0.N) : k0_pay186 (F := Ideal) (iblk m c 2 t) (arr fun r k => DN yb gb (dr d) (row t r) k) (iblk m c 5 t)
    = arr fun r j => DELTA yb gb (dr d) (row t r) (head j) := by
  obtain ⟨e0, e1, e2, e3, e4, e5⟩ := blks m c ya yb ga gb d h0 h1 h2 h3 h4 t
  rw [e2, e5]
  exact pay_delta' _ _

theorem final_da : (dats m 0 c).arrAt 6 (cfgs 0).N = arr (DN ya ga (dl d)) := by
  refine (dats m 0 c).arrAt_eq_of_covers 6 _ (by decide +kernel) fun t _ z => ?_
  have e : ((cfg0.win 6).blk t).view.emb z = (ix2 (row t (z 0)) (z 1) : S8192x512.Idx) := by blk_ext [idx t, row]
  blk_simp
  rw [after0_6, e]
  by_cases h : t.val % 16 = 0
  · rw [outsAt0_A m c t h]; frame_out
    exact congrFun (point_da m c ya yb ga gb d h0 h1 h2 h3 h4 t) z
  · rw [outsAt0_B m c t h]; frame_out
    exact congrFun (point_da m c ya yb ga gb d h0 h1 h2 h3 h4 t) z

theorem final_ea : (dats m 0 c).arrAt 7 (cfgs 0).N = arr fun r j => DELTA ya ga (dl d) r (head j) := by
  refine (dats m 0 c).arrAt_eq_of_covers 7 _ (by decide +kernel) fun t _ z => ?_
  have e : ((cfg0.win 7).blk t).view.emb z = (ix2 (row t (z 0)) (z 1) : S8192x512.Idx) := by blk_ext [idx t, row]
  blk_simp
  rw [after0_7, e]
  by_cases h : t.val % 16 = 0
  · rw [outsAt0_A m c t h]; frame_out
    exact congrFun (point_ea m c ya yb ga gb d h0 h1 h2 h3 h4 t) z
  · rw [outsAt0_B m c t h]; frame_out
    exact congrFun (point_ea m c ya yb ga gb d h0 h1 h2 h3 h4 t) z

theorem final_aug : (dats m 0 c).arrAt 8 (cfgs 0).N = arr (aug (DN yb gb (dr d)) fun r j => DELTA yb gb (dr d) r (head j)) := by
  refine (dats m 0 c).arrAt_eq_of_covers 8 _ (by decide +kernel) fun t _ z => ?_
  have e : ((cfg0.win 8).blk t).view.emb z = (ix2 (row t (z 0)) (z 1) : S8192x1024.Idx) := by blk_ext [idx t, row]
  blk_simp
  rw [after0_8, e]
  exact congrFun (out_aug m c _ _ t (point_db m c ya yb ga gb d h0 h1 h2 h3 h4 t) (point_eb m c ya yb ga gb d h0 h1 h2 h3 h4 t)) z

theorem final_d4 : (dats m 0 c).arrAt 11 (cfgs 0).N
    = arr fun (i j : Fin 2048) => DN ya ga (dl d) (row4 i j) (col j) := by
  refine (dats m 0 c).arrAt_eq_of_covers 11 _ (by decide +kernel) fun t _ z => ?_
  have ht := lt_of_lt_of_eq t.isLt N_0
  have z0 : (z 0).val < 128 := (z 0).isLt
  have z1 : (z 1).val < 2048 := (z 1).isLt
  have e : ((cfg0.win 11).blk t).view.emb z = (ix2 ⟨t.val * 128 + (z 0).val, by omega⟩ (z 1) : S2048x2048.Idx) := by blk_ext [idx t]
  blk_simp
  rw [after0_11, e]
  refine (out_d4 m c t z).trans ?_
  rw [point_da m c ya yb ga gb d h0 h1 h2 h3 h4 t]
  exact dil4_d t ya ga (dl d) z _

theorem final_d16 : (dats m 0 c).arrAt 12 (cfgs 0).N
    = arr fun (i : Fin 512) (j : Fin 8192) => DN ya ga (dl d) (row16 i j) (col j) := by
  refine (dats m 0 c).arrAt_eq_of_covers 12 _ (by decide +kernel) fun t _ z => ?_
  have ht := lt_of_lt_of_eq t.isLt N_0
  have z0 : (z 0).val < 32 := (z 0).isLt
  have z1 : (z 1).val < 8192 := (z 1).isLt
  have e : ((cfg0.win 12).blk t).view.emb z = (ix2 ⟨t.val * 32 + (z 0).val, by omega⟩ (z 1) : S512x8192.Idx) := by blk_ext [idx t]
  blk_simp
  rw [after0_12, e]
  refine (out_d16 m c t z).trans ?_
  rw [point_da m c ya yb ga gb d h0 h1 h2 h3 h4 t]
  exact dil16_d t ya ga (dl d) z _

theorem final_e4 : (dats m 0 c).arrAt 13 (cfgs 0).N
    = arr fun (i j : Fin 2048) => DELTA ya ga (dl d) (row4 i j) (head (col j)) := by
  refine (dats m 0 c).arrAt_eq_of_covers 13 _ (by decide +kernel) fun t _ z => ?_
  have ht := lt_of_lt_of_eq t.isLt N_0
  have z0 : (z 0).val < 128 := (z 0).isLt
  have z1 : (z 1).val < 2048 := (z 1).isLt
  have e : ((cfg0.win 13).blk t).view.emb z = (ix2 ⟨t.val * 128 + (z 0).val, by omega⟩ (z 1) : S2048x2048.Idx) := by blk_ext [idx t]
  blk_simp
  rw [after0_13, e]
  refine (out_e4 m c t z).trans ?_
  rw [point_ea m c ya yb ga gb d h0 h1 h2 h3 h4 t]
  exact dil4_e t ya ga (dl d) z _

theorem final_e16 : (dats m 0 c).arrAt 14 (cfgs 0).N
    = arr fun (i : Fin 512) (j : Fin 8192) => DELTA ya ga (dl d) (row16 i j) (head (col j)) := by
  refine (dats m 0 c).arrAt_eq_of_covers 14 _ (by decide +kernel) fun t _ z => ?_
  have ht := lt_of_lt_of_eq t.isLt N_0
  have z0 : (z 0).val < 32 := (z 0).isLt
  have z1 : (z 1).val < 8192 := (z 1).isLt
  have e : ((cfg0.win 14).blk t).view.emb z = (ix2 ⟨t.val * 32 + (z 0).val, by omega⟩ (z 1) : S512x8192.Idx) := by blk_ext [idx t]
  blk_simp
  rw [after0_14, e]
  refine (out_e16 m c t z).trans ?_
  rw [point_ea m c ya yb ga gb d h0 h1 h2 h3 h4 t]
  exact dil16_e t ya ga (dl d) z _

theorem part_ga (t : Fin cfg0.N) (acc : Vec Ideal S1x512 .f32) (z : S1x512.Idx) :
    k0_pay12 (F := Ideal) (k0_pay7 (F := Ideal) (iblk m c 1 t) (View.ld (iblk m c 0 t) (Rect.unit ![0, 0] ![512, 512] inb_S512x1024_S512x512_0_0))) acc z = acc z
      + ((∑ r : Fin 512, dl d (row t r) (z 1) * (ya (row t r) (z 1) * rstd 512 (ya (row t r))) : ℝ) : EReal) := by
  obtain ⟨e0, e1, e2, e3, e4, e5⟩ := blks m c ya yb ga gb d h0 h1 h2 h3 h4 t
  rw [e1]
  obtain ⟨k, rfl⟩ : ∃ k : Fin 512, z = ix2 0 k := ⟨z 1, by idx_ext⟩
  exact (congrArg (fun v => k0_pay12 (F := Ideal) (k0_pay7 (F := Ideal) _ v) acc (ix2 0 k)) (ld_left _ _ e0)).trans (pay_dg _ _ _ k)

theorem part_gb (t : Fin cfg0.N) (acc : Vec Ideal S1x512 .f32) (z : S1x512.Idx) :
    k0_pay13 (F := Ideal) (iblk m c 2 t) (View.ld (iblk m c 0 t) (Rect.unit ![0, 512] ![512, 512] inb_S512x1024_S512x512_0_512)) (k0_pay8 (F := Ideal) (iblk m c 2 t)) acc z = acc z
      + ((∑ r : Fin 512, dr d (row t r) (z 1) * (yb (row t r) (z 1) * rstd 512 (yb (row t r))) : ℝ) : EReal) := by
  obtain ⟨e0, e1, e2, e3, e4, e5⟩ := blks m c ya yb ga gb d h0 h1 h2 h3 h4 t
  rw [e2]
  obtain ⟨k, rfl⟩ : ∃ k : Fin 512, z = ix2 0 k := ⟨z 1, by idx_ext⟩
  exact (congrArg (fun v => k0_pay13 (F := Ideal) _ v _ acc (ix2 0 k)) (ld_right _ _ e0)).trans (pay_dg' _ _ _ k)

omit h0 h1 h2 h3 h4 in
/-- The sum over all rows, from the sums over the blocks of rows. -/
theorem sum_rows (f : Fin 8192 → ℝ) (t : Fin cfg0.N) (hf : t.val % 16 = 15) :
    (∑ s : Fin 16, ((∑ r : Fin 512, f (row ⟨16 * (t.val / 16) + s.val, Pipeline.run_point_lt_of_flush t hf s⟩ r) : ℝ) : EReal)) = ((∑ r, f r : ℝ) : EReal) := by
  refine (sum_coe _ _).trans (congrArg _ ?_)
  refine Fin.sum_mul_add_congr fun s r hl => ?_
  have er : row ⟨16 * (t.val / 16) + s.val, Pipeline.run_point_lt_of_flush t hf s⟩ r = ⟨s.val * 512 + r.val, hl⟩ := by
    apply Fin.ext
    have := lt_of_lt_of_eq t.isLt N_0
    simp only [row]; omega
  rw [er]

theorem final_ga : (dats m 0 c).arrAt 9 (cfgs 0).N = arr (DG ya (dl d)) := by
  refine (dats m 0 c).arrAt_eq_of_covers 9 _ (by decide +kernel) fun t hf z => ?_
  have e : ((cfg0.win 9).blk t).view.emb z = (ix2 0 (z 1) : S1x512.Idx) := by blk_ext [idx t]
  blk_simp
  rw [after0_9, e, Pipeline.eq_sum_fin_of_reset_step_apply_of_flush (fun n h => (outsAt0 m c n h).2.2.2.1) 16 (fun _ => 0)
    (fun p z => ((∑ r : Fin 512, dl d (row p r) (z 1) * (ya (row p r) (z 1) * rstd 512 (ya (row p r))) : ℝ) : EReal))
    (fun t h j => by rw [outsAt0_A m c t h]; frame_out; exact (part_ga m c ya yb ga gb d h0 h1 h2 h3 h4 t _ j).trans (congrArg (· + _) (pay_zero2 j)))
    (fun t h j => by rw [outsAt0_B m c t h]; frame_out; exact part_ga m c ya yb ga gb d h0 h1 h2 h3 h4 t _ j)
    t ((flush0_9 t).mp hf) _, zero_add]
  exact sum_rows (fun r => dl d r (z 1) * (ya r (z 1) * rstd 512 (ya r))) t ((flush0_9 t).mp hf)

theorem final_gb : (dats m 0 c).arrAt 10 (cfgs 0).N = arr (DG yb (dr d)) := by
  refine (dats m 0 c).arrAt_eq_of_covers 10 _ (by decide +kernel) fun t hf z => ?_
  have e : ((cfg0.win 10).blk t).view.emb z = (ix2 0 (z 1) : S1x512.Idx) := by blk_ext [idx t]
  blk_simp
  rw [after0_10, e, Pipeline.eq_sum_fin_of_reset_step_apply_of_flush (fun n h => (outsAt0 m c n h).2.2.2.2.1) 16 (fun _ => 0)
    (fun p z => ((∑ r : Fin 512, dr d (row p r) (z 1) * (yb (row p r) (z 1) * rstd 512 (yb (row p r))) : ℝ) : EReal))
    (fun t h j => by rw [outsAt0_A m c t h]; frame_out; exact (part_gb m c ya yb ga gb d h0 h1 h2 h3 h4 t _ j).trans (congrArg (· + _) (pay_zero3 j)))
    (fun t h j => by rw [outsAt0_B m c t h]; frame_out; exact part_gb m c ya yb ga gb d h0 h1 h2 h3 h4 t _ j)
    t ((flush0_10 t).mp hf) _, zero_add]
  exact sum_rows (fun r => dr d r (z 1) * (yb r (z 1) * rstd 512 (yb r))) t ((flush0_10 t).mp hf)
end Final

/-! ## The run -/

/-- The lines after the call: the lanes of every head that hold its gradient, and those that hold its sum. -/
def hostHeads (v : FVec Ideal S8192x1024 .bf16) : FVec Ideal S8192x8x128 .f32 :=
  shapeCast S8192x8x128 (extf .f32 v bitsLt_bf16_f32) shapeCasts_S8192x1024_S8192x8x128
def hostDb (v : FVec Ideal S8192x1024 .bf16) : FVec Ideal S8192x8x64 .f32 :=
  extractStridedSlice S8192x8x64 ![0, 0, 64] (hostHeads v) slices_S8192x8x128_S8192x8x64_0_0_64
def hostEb (v : FVec Ideal S8192x1024 .bf16) : FVec Ideal S8192x8 .f32 :=
  Host.negf (addf (shapeCast S8192x8 (extractStridedSlice S8192x8x1 ![0, 0, 0] (hostHeads v) slices_S8192x8x128_S8192x8x1_0_0_0) shapeCasts_S8192x8x1_S8192x8)
    (shapeCast S8192x8 (extractStridedSlice S8192x8x1 ![0, 0, 1] (hostHeads v) slices_S8192x8x128_S8192x8x1_0_0_1) shapeCasts_S8192x8x1_S8192x8))

theorem hostDb_eq (f e : Fin 8192 → Fin 512 → ℝ) (r : Fin 8192) (h : Fin 8) (u : Fin 64) : hostDb (arr (aug f e)) (ix3 r h u) = ((f r (lane h u) : ℝ) : EReal) := by
  pointwise [hostDb, hostHeads]
  show ((aug f e r ⟨h.val * 128 + (64 + u.val), _⟩ : ℝ) : EReal) = _
  unfold aug
  rw [if_pos (by simp only []; omega)]
  refine congrArg _ (congrArg (f r) (Fin.ext ?_))
  simp only [lane]
  omega

theorem hostEb_eq (f e : Fin 8192 → Fin 512 → ℝ) (r : Fin 8192) (h : Fin 8) : hostEb (arr (aug f e)) (ix2 r h) = ((e r (lane h 0) : ℝ) : EReal) := by
  pointwise [hostEb, hostHeads]
  show -(((aug f e r ⟨h.val * 128, _⟩ : ℝ) : EReal) + ((aug f e r ⟨h.val * 128 + 1, _⟩ : ℝ) : EReal)) = _
  have h0 : aug f e r ⟨h.val * 128, by omega⟩ = -e r (lane h 0) := by
    unfold aug
    rw [if_neg (by simp only []; omega), if_pos (by simp only []; omega)]
    refine congrArg _ (congrArg (e r) (Fin.ext ?_))
    simp only [lane, Fin.val_zero]
    omega
  have h1 : aug f e r ⟨h.val * 128 + 1, by omega⟩ = 0 := by
    unfold aug
    rw [if_neg (by simp only []; omega), if_neg (by simp only []; omega)]
  rw [h0, h1, ← EReal.coe_add, ← EReal.coe_neg]
  norm_num

/-- What the run leaves: the ten results, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v11) = (dats m 0 c).arrAt 6 (cfgs 0).N
      ∧ r.2.mem ((c : Thread nD τ).loc main_v12) = hostDb ((dats m 0 c).arrAt 8 (cfgs 0).N)
      ∧ r.2.mem ((c : Thread nD τ).loc main_v8_3) = (dats m 0 c).arrAt 9 (cfgs 0).N
      ∧ r.2.mem ((c : Thread nD τ).loc main_v8_4) = (dats m 0 c).arrAt 10 (cfgs 0).N
      ∧ r.2.mem ((c : Thread nD τ).loc main_v8_1) = (dats m 0 c).arrAt 7 (cfgs 0).N
      ∧ r.2.mem ((c : Thread nD τ).loc main_v18) = hostEb ((dats m 0 c).arrAt 8 (cfgs 0).N)
      ∧ r.2.mem ((c : Thread nD τ).loc main_v19) = (dats m 0 c).arrAt 11 (cfgs 0).N
      ∧ r.2.mem ((c : Thread nD τ).loc main_v20) = (dats m 0 c).arrAt 12 (cfgs 0).N
      ∧ r.2.mem ((c : Thread nD τ).loc main_v8_7) = (dats m 0 c).arrAt 13 (cfgs 0).N
      ∧ r.2.mem ((c : Thread nD τ).loc main_v8_8) = (dats m 0 c).arrAt 14 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨?_, ?_, (h c).1 9, (h c).1 10, (h c).1 7, ?_, ?_, ?_, (h c).1 13, (h c).1 14,
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 0).trans (((dats m 0 c).arrAt_in 0 rfl _).trans ((A_eq m c 0).trans (V_main_arg4 m c)))⟩) (run_main m ρ)
  · refine ((h c).2 main_v11 (Pipeline.mem_restRefs_of main_v11 (by decide) (by decide))).trans ?_
    show after hostOps1 _ (Proc.devRef .tc main_v11) = _
    after_results
    exact funext fun i => congrFun (Pipeline.withArrays_arr spec0 launch0.win.arr_inj c (V0 m c) (fun w => (dats m 0 c).arrAt w (cfgs 0).N) 6) i
  · refine ((h c).2 main_v12 (Pipeline.mem_restRefs_of main_v12 (by decide) (by decide))).trans ?_
    show after hostOps1 _ (Proc.devRef .tc main_v12) = _
    after_results
    exact congrArg hostDb (Pipeline.withArrays_arr spec0 launch0.win.arr_inj c (V0 m c) (fun w => (dats m 0 c).arrAt w (cfgs 0).N) 8)
  · refine ((h c).2 main_v18 (Pipeline.mem_restRefs_of main_v18 (by decide) (by decide))).trans ?_
    show after hostOps1 _ (Proc.devRef .tc main_v18) = _
    after_results
    exact congrArg hostEb (Pipeline.withArrays_arr spec0 launch0.win.arr_inj c (V0 m c) (fun w => (dats m 0 c).arrAt w (cfgs 0).N) 8)
  · refine ((h c).2 main_v19 (Pipeline.mem_restRefs_of main_v19 (by decide) (by decide))).trans ?_
    show after hostOps1 _ (Proc.devRef .tc main_v19) = _
    after_results
    exact funext fun i => congrFun (Pipeline.withArrays_arr spec0 launch0.win.arr_inj c (V0 m c) (fun w => (dats m 0 c).arrAt w (cfgs 0).N) 11) i
  · refine ((h c).2 main_v20 (Pipeline.mem_restRefs_of main_v20 (by decide) (by decide))).trans ?_
    show after hostOps1 _ (Proc.devRef .tc main_v20) = _
    after_results
    exact funext fun i => congrFun (Pipeline.withArrays_arr spec0 launch0.win.arr_inj c (V0 m c) (fun w => (dats m 0 c).arrAt w (cfgs 0).N) 12) i

end Cert.Kernel6Ideal.Outnorm

end
-- ==== Proof.OutnormRef.lean ====
/- The reference of the two output norms' gradients over real arguments: its ten results as real arrays. -/
module

public import proofs.«01_k».proof.Proof.OutnormMath
public import proofs.«01_k».proof.Proof.Gen.Reference6Ideal.Read

@[expose] public section

set_option maxRecDepth 16384

noncomputable section

namespace Cert.Reference6Ideal.Outnorm

open Cert.Reference6Ideal Cert.Reference6Ideal.Read Idealize.ShloMosaic Cert.Reals Cert.Rms Cert.Outnorm
open Cert.Resnorm (arr arr_ext)

variable (y : Fin 8192 → Fin 512 → ℝ) (g : Fin 1 → Fin 512 → ℝ) (d : Fin 8192 → Fin 1024 → ℝ)

/-- The cotangent's halves. -/
theorem ref_left : val_main_v31 (F := Ideal) (arr d) = arr fun r k => d r (left k) := by
  refine arr_ext fun r k => ?_
  pointwise [val_main_v31]
  refine congrArg _ (congrArg (d r) (Fin.ext ?_))
  simp [left]
theorem ref_right : val_main_v32 (F := Ideal) (arr d) = arr fun r k => d r (right k) := by
  refine arr_ext fun r k => ?_
  pointwise [val_main_v32]
  refine congrArg _ (congrArg (d r) (Fin.ext ?_))
  simp [right]

/-! ## The first norm -/

theorem ms_a (r : Fin 8192) : val_main_v6 (F := Ideal) (arr y) (ix2 r 0) = ((ms 512 (y r) : ℝ) : EReal) := by
  pointwise [val_main_v6, val_main_v5, val_main_v4, val_main_v3, val_main_v2, val_main_v1, val_main_v0, val_main_cst, val_main_cst_0, val_main_cst_1]
  simp only [arr, ofBits_512, ofBits_eps, ← EReal.coe_mul, sum_coe, zero_add]
  rw [div_coe _ _ (by norm_num), ← EReal.coe_add]
  rfl

theorem n_a : val_main_v12 (F := Ideal) (arr y) = arr fun r k => y r k * rstd 512 (y r) := by
  refine arr_ext fun r k => ?_
  pointwise [val_main_v12, val_main_v11, val_main_v7]
  simp only [ms_a]
  simp only [arr, rsqrt_coe _ (ms_pos (by norm_num : (0:ℝ) < 512) _), ← EReal.coe_mul]
  rfl

theorem dg_a : val_main_v54 (F := Ideal) (arr y) (arr d) = arr (DG y fun r k => d r (left k)) := by
  refine arr_ext fun z k => ?_
  pointwise [val_main_v54, val_main_v53, val_main_v52, val_main_cst_11, n_a, ref_left]
  simp only [arr, ← EReal.coe_mul, sum_coe, zero_add]
  congr 1
  exact Finset.sum_congr rfl fun r _ => mul_comm _ _

theorem dn_a : val_main_v70 (F := Ideal) (arr y) (arr g) (arr d) = arr (DN y g fun r k => d r (left k)) := by
  refine arr_ext fun r k => ?_
  pointwise [val_main_v70, val_main_v69, val_main_v68, val_main_v67, val_main_v66, val_main_v65, val_main_v64, val_main_v63, val_main_v62, val_main_v61, val_main_v60, val_main_v59, val_main_v58, val_main_v57, val_main_v56, val_main_v55, val_main_v10, val_main_v9, val_main_v8, val_main_v7, val_main_cst_12, val_main_cst_13, val_main_cst_14, val_main_cst_2, ref_left]
  simp only [Fin.sum_univ_one, Fin.isValue, ms_a]
  simp only [arr, ofBits_512, ofBits_neg_half, rsqrt_coe _ (ms_pos (by norm_num : (0:ℝ) < 512) _), zero_add,
    div_coe _ _ (ms_pos (by norm_num : (0:ℝ) < 512) _).ne', ← EReal.coe_mul, sum_coe, div_coe _ _ (by norm_num : (512:ℝ) ≠ 0),
    ← EReal.coe_add]
  unfold DN
  rw [← bwd_eq (by norm_num : (0:ℝ) < 512)]
  congr 1

/-! ## The second norm -/

theorem ms_b (r : Fin 8192) : val_main_v21 (F := Ideal) (arr y) (ix2 r 0) = ((ms 512 (y r) : ℝ) : EReal) := by
  pointwise [val_main_v21, val_main_v20, val_main_v19, val_main_v18, val_main_v17, val_main_v16, val_main_v15, val_main_cst_3, val_main_cst_4, val_main_cst_5]
  simp only [arr, ofBits_512, ofBits_eps, ← EReal.coe_mul, sum_coe, zero_add]
  rw [div_coe _ _ (by norm_num), ← EReal.coe_add]
  rfl

theorem n_b : val_main_v27 (F := Ideal) (arr y) = arr fun r k => y r k * rstd 512 (y r) := by
  refine arr_ext fun r k => ?_
  pointwise [val_main_v27, val_main_v26, val_main_v22]
  simp only [ms_b]
  simp only [arr, rsqrt_coe _ (ms_pos (by norm_num : (0:ℝ) < 512) _), ← EReal.coe_mul]
  rfl

theorem dg_b : val_main_v35 (F := Ideal) (arr y) (arr d) = arr (DG y fun r k => d r (right k)) := by
  refine arr_ext fun z k => ?_
  pointwise [val_main_v35, val_main_v34, val_main_v33, val_main_cst_7, n_b, ref_right]
  simp only [arr, ← EReal.coe_mul, sum_coe, zero_add]
  congr 1
  exact Finset.sum_congr rfl fun r _ => mul_comm _ _

theorem dn_b : val_main_v51 (F := Ideal) (arr y) (arr g) (arr d) = arr (DN y g fun r k => d r (right k)) := by
  refine arr_ext fun r k => ?_
  pointwise [val_main_v51, val_main_v50, val_main_v49, val_main_v48, val_main_v47, val_main_v46, val_main_v45, val_main_v44, val_main_v43, val_main_v42, val_main_v41, val_main_v40, val_main_v39, val_main_v38, val_main_v37, val_main_v36, val_main_v25, val_main_v24, val_main_v23, val_main_v22, val_main_cst_8, val_main_cst_9, val_main_cst_10, val_main_cst_6, ref_right]
  simp only [Fin.sum_univ_one, Fin.isValue, ms_b]
  simp only [arr, ofBits_512, ofBits_neg_half, rsqrt_coe _ (ms_pos (by norm_num : (0:ℝ) < 512) _), zero_add,
    div_coe _ _ (ms_pos (by norm_num : (0:ℝ) < 512) _).ne', ← EReal.coe_mul, sum_coe, div_coe _ _ (by norm_num : (512:ℝ) ≠ 0),
    ← EReal.coe_add]
  unfold DN
  rw [← bwd_eq (by norm_num : (0:ℝ) < 512)]
  congr 1

/-! ## The heads' sums, and rows side by side -/

theorem delta_a (r : Fin 8192) (h : Fin 8) : val_main_v73 (F := Ideal) (arr y) (arr g) (arr d) (ix2 r h) = ((DELTA y g (fun r k => d r (left k)) r h : ℝ) : EReal) := by
  pointwise [val_main_v73, val_main_v72, val_main_v71, val_main_cst_15, dn_a]
  simp only [arr, ← EReal.coe_mul, sum_coe, zero_add]
  refine congrArg _ (Finset.sum_congr rfl fun u _ => ?_)
  have e : (⟨h.val * 64 + u.val, by omega⟩ : Fin 512) = lane h u := Fin.ext (by simp only [lane]; omega)
  rw [← e]
  rfl

theorem delta_b : val_main_v76 (F := Ideal) (arr y) (arr g) (arr d) = arr (DELTA y g fun r k => d r (right k)) := by
  refine arr_ext fun r h => ?_
  pointwise [val_main_v76, val_main_v75, val_main_v74, val_main_cst_16, dn_b]
  simp only [arr, ← EReal.coe_mul, sum_coe, zero_add]
  refine congrArg _ (Finset.sum_congr rfl fun u _ => ?_)
  have e : (⟨h.val * 64 + u.val, by omega⟩ : Fin 512) = lane h u := Fin.ext (by simp only [lane]; omega)
  rw [← e]
  rfl

theorem full_a : val_main_v78 (F := Ideal) (arr y) (arr g) (arr d) = arr fun r j => DELTA y g (fun r k => d r (left k)) r (head j) := by
  refine arr_ext fun r j => ?_
  pointwise [val_main_v78, val_main_v77]
  exact delta_a y g d r (head j)

theorem heads_b (r : Fin 8192) (h : Fin 8) (u : Fin 64) : val_main_v79 (F := Ideal) (arr y) (arr g) (arr d) (ix3 r h u)
    = ((DN y g (fun r k => d r (right k)) r (lane h u) : ℝ) : EReal) := by
  pointwise [val_main_v79, dn_b]
  refine congrArg _ (congrArg (DN y g (fun r k => d r (right k)) r) (Fin.ext ?_))
  simp only [lane, ix2]
  omega

theorem side_80 : val_main_v80 (F := Ideal) (arr y) (arr g) (arr d) = arr fun (i j : Fin 2048) => DN y g (fun r k => d r (left k)) (row4 i j) (col j) := by
  refine arr_ext fun i j => ?_
  pointwise [val_main_v80, dn_a]
  have e : (⟨i.val * 4 + j.val / 512, by omega⟩ : Fin 8192) = row4 i j := Fin.ext (by simp only [row4]; omega)
  rw [← e]
  rfl

theorem side_81 : val_main_v81 (F := Ideal) (arr y) (arr g) (arr d) = arr fun (i : Fin 512) (j : Fin 8192) => DN y g (fun r k => d r (left k)) (row16 i j) (col j) := by
  refine arr_ext fun i j => ?_
  pointwise [val_main_v81, dn_a]
  have e : (⟨i.val * 16 + j.val / 512, by omega⟩ : Fin 8192) = row16 i j := Fin.ext (by simp only [row16]; omega)
  rw [← e]
  rfl

theorem side_82 : val_main_v82 (F := Ideal) (arr y) (arr g) (arr d) = arr fun (i j : Fin 2048) => DELTA y g (fun r k => d r (left k)) (row4 i j) (head (col j)) := by
  refine arr_ext fun i j => ?_
  pointwise [val_main_v82, full_a]
  have e : (⟨i.val * 4 + j.val / 512, by omega⟩ : Fin 8192) = row4 i j := Fin.ext (by simp only [row4]; omega)
  rw [← e]
  rfl

theorem side_83 : val_main_v83 (F := Ideal) (arr y) (arr g) (arr d) = arr fun (i : Fin 512) (j : Fin 8192) => DELTA y g (fun r k => d r (left k)) (row16 i j) (head (col j)) := by
  refine arr_ext fun i j => ?_
  pointwise [val_main_v83, full_a]
  have e : (⟨i.val * 16 + j.val / 512, by omega⟩ : Fin 8192) = row16 i j := Fin.ext (by simp only [row16]; omega)
  rw [← e]
  rfl

end Cert.Reference6Ideal.Outnorm

end
-- ==== Proof.OutnormPair.lean ====
/- The claims of the two output norms' gradients: the idealized kernel and the reference leave the same ten results at finite
   arguments, and the reference keeps its arguments. -/
module

public import proofs.«01_k».proof.Defs
public import proofs.«01_k».proof.Proof.Gen.Reference6Ideal.Run
public import proofs.«01_k».proof.Proof.OutnormKernel
public import proofs.«01_k».proof.Proof.OutnormRef
public import Idealize.ShloMosaic.Adequacy
public import Idealize.ShloMosaic.Init

@[expose] public section

noncomputable section

namespace Cert.OutnormPair

open Idealize.ShloMosaic Idealize.SL.Sem
open Cert.Resnorm (arr exists_arr)

/-- Every entry of the arguments is a real number. -/
theorem args_real [Cert.Pre_finite6.Facts] (a0 a1 : FVec Ideal Cert.Kernel6Ideal.S8192x512 .f32) (a2 a3 : FVec Ideal Cert.Kernel6Ideal.S1x512 .f32)
    (a4 : FVec Ideal Cert.Kernel6Ideal.S8192x1024 .f32) (h : Cert.Pre_finite6.fn (F := Ideal) a0 a1 a2 a3 a4 = fun _ => 1#1) :
    ∃ ya yb ga gb d, a0 = arr ya ∧ a1 = arr yb ∧ a2 = arr ga ∧ a3 = arr gb ∧ a4 = arr d := by
  have h' := congrFun h (fun a => a.elim0)
  obtain ⟨h', g4⟩ := IntOp.andi_eq_one.1 h'
  obtain ⟨h', g3⟩ := IntOp.andi_eq_one.1 h'
  obtain ⟨h', g2⟩ := IntOp.andi_eq_one.1 h'
  obtain ⟨g0, g1⟩ := IntOp.andi_eq_one.1 h'
  haveI : Subsingleton Cert.Pre_finite6.S_.Idx := ⟨fun a b => funext fun k => k.elim0⟩
  obtain ⟨ya, h0⟩ := exists_arr a0 (Cert.Reals.finite_of_all _ _ _ _ _ _ (fun _ => Cert.Reals.ofBits_inf) g0)
  obtain ⟨yb, h1⟩ := exists_arr a1 (Cert.Reals.finite_of_all _ _ _ _ _ _ (fun _ => Cert.Reals.ofBits_inf) g1)
  obtain ⟨ga, h2⟩ := exists_arr a2 (Cert.Reals.finite_of_all _ _ _ _ _ _ (fun _ => Cert.Reals.ofBits_inf) g2)
  obtain ⟨gb, h3⟩ := exists_arr a3 (Cert.Reals.finite_of_all _ _ _ _ _ _ (fun _ => Cert.Reals.ofBits_inf) g3)
  obtain ⟨d, h4⟩ := exists_arr a4 (Cert.Reals.finite_of_all _ _ _ _ _ _ (fun _ => Cert.Reals.ofBits_inf) g4)
  exact ⟨ya, yb, ga, gb, d, h0, h1, h2, h3, h4⟩

/-- The reference runs, keeps its arguments, and leaves every counter at zero: it declares none. -/
theorem reference_frame : Cert.quiescent_Reference6Ideal := fun m g _ =>
  (θ_run (Cert.Reference6Ideal.defs (F := Ideal)) _ _).mono
    (fun r h => ⟨fun c => (h c).2.2.2.2.2.2.2.2.2.2, sem_eq_zero_of_no_sems (by decide) r.2⟩) (Cert.Reference6Ideal.Value.run m g)

set_option maxRecDepth 16384 in
set_option maxHeartbeats 2000000 in
theorem algebraic [Cert.Pre_finite6.Facts] : Cert.algebraic_Kernel6Ideal_Reference6Ideal_pre_finite6 := by
  pair_intro
  · exact Cert.Kernel6Ideal.Outnorm.run m g
  · refine θ_run_mono (Cert.Reference6Ideal.Value.run m' g') fun r hr c => ⟨(hr c).1.trans ?_, (hr c).2.1.trans ?_, (hr c).2.2.1.trans ?_, (hr c).2.2.2.1.trans ?_, (hr c).2.2.2.2.1.trans ?_, (hr c).2.2.2.2.2.1.trans ?_, (hr c).2.2.2.2.2.2.1.trans ?_, (hr c).2.2.2.2.2.2.2.1.trans ?_, (hr c).2.2.2.2.2.2.2.2.1.trans ?_, (hr c).2.2.2.2.2.2.2.2.2.1.trans ?_, (hr c).2.2.2.2.2.2.2.2.2.2⟩
    all_goals
      obtain ⟨e0, e1, e2, e3, e4⟩ := hagree c
      obtain ⟨ya, yb, ga, gb, d, h0, h1, h2, h3, h4⟩ := args_real _ _ _ _ _ (hpre c)
    · rw [Cert.Reference6Ideal.Read.val_main_v70_eq, e0, e2, e4]
      refine Eq.trans ?_ (Cert.Kernel6Ideal.Outnorm.final_da m c ya yb ga gb d h0 h1 h2 h3 h4).symm
      refine Eq.trans ?_ (Cert.Reference6Ideal.Outnorm.dn_a ya ga d)
      rw [← h0, ← h2, ← h4]
    · rw [Cert.Reference6Ideal.Read.val_main_v79_eq, e1, e3, e4]
      refine Eq.trans ?_ (congrArg Cert.Kernel6Ideal.Outnorm.hostDb (Cert.Kernel6Ideal.Outnorm.final_aug m c ya yb ga gb d h0 h1 h2 h3 h4)).symm
      refine Eq.trans (b := Cert.Reference6Ideal.Read.val_main_v79 (F := Ideal) (arr yb) (arr gb) (arr d)) (by rw [← h1, ← h3, ← h4]) ?_
      funext z
      obtain ⟨r, h, u, rfl⟩ : ∃ (r : Fin 8192) (h : Fin 8) (u : Fin 64), z = ix3 r h u := ⟨z 0, z 1, z 2, by idx_ext⟩
      exact (Cert.Reference6Ideal.Outnorm.heads_b yb gb d r h u).trans (Cert.Kernel6Ideal.Outnorm.hostDb_eq _ _ r h u).symm
    · rw [Cert.Reference6Ideal.Read.val_main_v54_eq, e0, e4]
      refine Eq.trans ?_ (Cert.Kernel6Ideal.Outnorm.final_ga m c ya yb ga gb d h0 h1 h2 h3 h4).symm
      refine Eq.trans ?_ (Cert.Reference6Ideal.Outnorm.dg_a ya d)
      rw [← h0, ← h4]
    · rw [Cert.Reference6Ideal.Read.val_main_v35_eq, e1, e4]
      refine Eq.trans ?_ (Cert.Kernel6Ideal.Outnorm.final_gb m c ya yb ga gb d h0 h1 h2 h3 h4).symm
      refine Eq.trans ?_ (Cert.Reference6Ideal.Outnorm.dg_b yb d)
      rw [← h1, ← h4]
    · rw [Cert.Reference6Ideal.Read.val_main_v78_eq, e0, e2, e4]
      refine Eq.trans ?_ (Cert.Kernel6Ideal.Outnorm.final_ea m c ya yb ga gb d h0 h1 h2 h3 h4).symm
      refine Eq.trans ?_ (Cert.Reference6Ideal.Outnorm.full_a ya ga d)
      rw [← h0, ← h2, ← h4]
    · rw [Cert.Reference6Ideal.Read.val_main_v76_eq, e1, e3, e4]
      refine Eq.trans ?_ (congrArg Cert.Kernel6Ideal.Outnorm.hostEb (Cert.Kernel6Ideal.Outnorm.final_aug m c ya yb ga gb d h0 h1 h2 h3 h4)).symm
      refine Eq.trans (b := Cert.Reference6Ideal.Read.val_main_v76 (F := Ideal) (arr yb) (arr gb) (arr d)) (by rw [← h1, ← h3, ← h4]) ?_
      refine (Cert.Reference6Ideal.Outnorm.delta_b yb gb d).trans ?_
      funext z
      obtain ⟨r, h, rfl⟩ : ∃ (r : Fin 8192) (h : Fin 8), z = ix2 r h := ⟨z 0, z 1, by idx_ext⟩
      refine Eq.trans ?_ (Cert.Kernel6Ideal.Outnorm.hostEb_eq _ _ r h).symm
      have e : Cert.Outnorm.head (Cert.Outnorm.lane h 0) = h := Fin.ext (by simp [Cert.Outnorm.head, Cert.Outnorm.lane])
      rw [e]
      rfl
    · rw [Cert.Reference6Ideal.Read.val_main_v80_eq, e0, e2, e4]
      refine Eq.trans ?_ (Cert.Kernel6Ideal.Outnorm.final_d4 m c ya yb ga gb d h0 h1 h2 h3 h4).symm
      refine Eq.trans ?_ (Cert.Reference6Ideal.Outnorm.side_80 ya ga d)
      rw [← h0, ← h2, ← h4]
    · rw [Cert.Reference6Ideal.Read.val_main_v81_eq, e0, e2, e4]
      refine Eq.trans ?_ (Cert.Kernel6Ideal.Outnorm.final_d16 m c ya yb ga gb d h0 h1 h2 h3 h4).symm
      refine Eq.trans ?_ (Cert.Reference6Ideal.Outnorm.side_81 ya ga d)
      rw [← h0, ← h2, ← h4]
    · rw [Cert.Reference6Ideal.Read.val_main_v82_eq, e0, e2, e4]
      refine Eq.trans ?_ (Cert.Kernel6Ideal.Outnorm.final_e4 m c ya yb ga gb d h0 h1 h2 h3 h4).symm
      refine Eq.trans ?_ (Cert.Reference6Ideal.Outnorm.side_82 ya ga d)
      rw [← h0, ← h2, ← h4]
    · rw [Cert.Reference6Ideal.Read.val_main_v83_eq, e0, e2, e4]
      refine Eq.trans ?_ (Cert.Kernel6Ideal.Outnorm.final_e16 m c ya yb ga gb d h0 h1 h2 h3 h4).symm
      refine Eq.trans ?_ (Cert.Reference6Ideal.Outnorm.side_83 ya ga d)
      rw [← h0, ← h2, ← h4]

end Cert.OutnormPair
end
-- ==== Proof.PrepMath.lean ====
/- The numbers the gradient of the low-rank projections' preparation is made of: the rotation of a packed head's lanes taken
   backwards, the packed cotangents, and the two norms' gradients, over the real numbers. -/
module

public import proofs.«01_k».proof.Proof.RmsMath

@[expose] public section

noncomputable section

namespace Cert.Prep

open Idealize.ShloMosaic Cert.Reals Cert.Rms

/-- The scale of the queries: the number the words of `1 / sqrt 96` stand for. -/
def sc : ℝ := 3424635 / 33554432
/-- The number the words of the natural logarithm of two stand for. -/
def ln2 : ℝ := 1453635 / 2097152

theorem ofBits_sc : Ideal.ofBits .f32 0x3DD105EC#32 = ((sc : ℝ) : EReal) := by
  unfold sc
  simp [Ideal.ofBits, Ideal.ieee]
  norm_num [← EReal.coe_mul]
theorem ofBits_ln2 : Ideal.ofBits .f32 0x3F317218#32 = ((ln2 : ℝ) : EReal) := by
  unfold ln2
  simp [Ideal.ofBits, Ideal.ieee]
  norm_num [← EReal.coe_mul]
theorem ofBits_384 : Ideal.ofBits .f32 0x43C00000#32 = ((384 : ℝ) : EReal) := by
  simp [Ideal.ofBits, Ideal.ieee]
  norm_num [← EReal.coe_mul]
theorem ofBits_256 : Ideal.ofBits .f32 0x43800000#32 = ((256 : ℝ) : EReal) := by
  simp [Ideal.ofBits, Ideal.ieee]
  norm_num [← EReal.coe_mul]
theorem ln2_ne : ln2 ≠ 0 := by unfold ln2; norm_num

/-! ## The rotation of a head's lanes, backwards -/

/-- What the kernel computes of a head's 128 lanes: the lanes times a table, and the lanes times two further tables turned
    by 16 places either way. -/
def unrope (C A B : ℕ → ℕ → ℝ) (y : ℕ → ℕ → ℝ) (r l : ℕ) : ℝ :=
  y r l * C r l + y r ((l + 112) % 128) * A r ((l + 112) % 128) + y r ((l + 16) % 128) * B r ((l + 16) % 128)

section Tables
variable (CO SI : ℕ → ℕ → ℝ)

/-- The three tables, of the angles' cosines and sines. -/
def tabC (r l : ℕ) : ℝ := if l < 64 then 1 else if l < 80 then CO r (l - 64) else if l < 96 then CO r (l - 80) else 1
def tabA (r l : ℕ) : ℝ := if l < 64 then 0 else if l < 80 then -SI r (l - 64) else 0
def tabB (r l : ℕ) : ℝ := if l < 80 then 0 else if l < 96 then SI r (l - 80) else 0

/-- The rotation of a head of 96 lanes taken backwards: the first 64 lanes as they are, the two halves of the last 32 turned. -/
def back (y : ℕ → ℕ → ℝ) (r l : ℕ) : ℝ :=
  if l < 64 then y r l
  else if l < 80 then y r l * CO r (l - 64) + y r (l + 16) * SI r (l - 64)
  else if l < 96 then y r l * CO r (l - 80) - y r (l - 16) * SI r (l - 80)
  else y r l

theorem unrope_eq (y : ℕ → ℕ → ℝ) (r l : ℕ) (hl : l < 128) : unrope (tabC CO) (tabA SI) (tabB SI) y r l = back CO SI y r l := by
  have e0 : (l + 112) % 128 = if l < 16 then l + 112 else l - 16 := by split_ifs <;> omega
  have e1 : (l + 16) % 128 = if l < 112 then l + 16 else l - 112 := by split_ifs <;> omega
  unfold unrope back tabC tabA tabB
  rw [e0, e1]
  by_cases h0 : l < 16
  · rw [if_pos h0, if_pos (by omega : l < 112), if_pos (by omega : l < 64), if_neg (by omega : ¬l + 112 < 64), if_neg (by omega : ¬l + 112 < 80),
      if_pos (by omega : l + 16 < 80), if_pos (by omega : l < 64)]
    ring
  rw [if_neg h0]
  by_cases h1 : l < 64
  · rw [if_pos (by omega : l < 112), if_pos h1, if_pos h1, if_pos (by omega : l - 16 < 64), if_pos (by omega : l + 16 < 80)]
    ring
  rw [if_neg h1, if_neg h1]
  by_cases h2 : l < 80
  · rw [if_pos (by omega : l < 112), if_pos h2, if_pos h2, if_pos (by omega : l - 16 < 64), if_neg (by omega : ¬l + 16 < 80), if_pos (by omega : l + 16 < 96),
      show l + 16 - 80 = l - 64 by omega]
    ring
  rw [if_neg h2, if_neg h2]
  by_cases h3 : l < 96
  · rw [if_pos (by omega : l < 112), if_pos h3, if_pos h3, if_neg (by omega : ¬l - 16 < 64), if_pos (by omega : l - 16 < 80), if_neg (by omega : ¬l + 16 < 80),
      if_neg (by omega : ¬l + 16 < 96), show l - 16 - 64 = l - 80 by omega]
    ring
  rw [if_neg h3, if_neg h3, if_neg (by omega : ¬l - 16 < 64), if_neg (by omega : ¬l - 16 < 80)]
  by_cases h4 : l < 112
  · rw [if_pos h4, if_neg (by omega : ¬l + 16 < 80), if_neg (by omega : ¬l + 16 < 96)]
    ring
  · rw [if_neg h4, if_pos (by omega : l - 112 < 80)]
    ring
end Tables

/-! ## A block's packed cotangents -/

/-- The packed query cotangent, scaled and turned backwards, head by head. -/
def DQ (C A B Q : ℕ → ℕ → ℝ) (r i : ℕ) : ℝ := unrope C A B (fun r l => Q r (128 * (i / 128) + l) * sc) r (i % 128)
/-- The packed key and value cotangent: the keys' lanes and the values' lanes of every head. -/
def DKV (K U : ℕ → ℕ → ℝ) (r i : ℕ) : ℝ := if i % 128 < 64 then K r i * ln2 else U r i
/-- The keys' shared lanes, over the heads. -/
def KS (K : ℕ → ℕ → ℝ) (r l : ℕ) : ℝ := ∑ h ∈ Finset.range 8, K r (128 * h + l) * ln2
/-- The cotangent of the shared key lanes: their sum, turned backwards. -/
def DKR (C A B K : ℕ → ℕ → ℝ) (r l : ℕ) : ℝ := unrope C A B (fun r l => if 64 ≤ l ∧ l < 96 then KS K r l else 0) r l

/-- Heads of 96 lanes, each filled up with zeros to 128; -/
def heads96 (D : ℕ → ℕ → ℕ → ℝ) (r i : ℕ) : ℝ := if i % 128 < 96 then D r (i / 128) (i % 128) else 0
/-- heads of 64 lanes, each behind 64 zeros; -/
def heads64 (D : ℕ → ℕ → ℕ → ℝ) (r i : ℕ) : ℝ := if i % 128 < 64 then 0 else D r (i / 128) (i % 128 - 64)
/-- and a matrix with 96 columns a head, turned over, each head filled up with zeros to 128 rows. -/
def rows96 (W : ℕ → ℕ → ℝ) (i k : ℕ) : ℝ := if i % 128 < 96 then W k (i / 128 * 96 + i % 128) else 0

/-! ## The norms -/

/-- The reciprocal root mean square of a row. -/
def rs (N : ℕ) (n : ℝ) (x : ℕ → ℕ → ℝ) (r : ℕ) : ℝ := rstd n fun k : Fin N => x r k
/-- The norm of a row, with its gain. -/
def nrm (N : ℕ) (n : ℝ) (x : ℕ → ℕ → ℝ) (g : ℕ → ℝ) (r k : ℕ) : ℝ := x r k * rs N n x r * g k
/-- The norm's gradient in a row, for the cotangent `d` and the gain `g`. -/
def nb (N : ℕ) (n : ℝ) (x d : ℕ → ℕ → ℝ) (g : ℕ → ℝ) (r k : ℕ) : ℝ :=
  rs N n x r * (d r k * g k - x r k * rs N n x r * ((∑ l ∈ Finset.range N, d r l * g l * (x r l * rs N n x r)) / n))

theorem nb_eq (N : ℕ) (n : ℝ) (x d : ℕ → ℕ → ℝ) (g : ℕ → ℝ) (r : ℕ) (k : Fin N) :
    nb N n x d g r k = bwd n (fun k : Fin N => x r k) (fun k : Fin N => d r k * g k) k := by
  unfold nb bwd rs
  rw [Finset.sum_range]

end Cert.Prep
end
-- ==== Proof.PrepPay.lean ====
/- The arithmetic of the backward kernel of the low-rank projections' preparation on one block of rows, over matrices of
   real numbers. -/
module

public import proofs.«01_k».proof.Proof.PrepMath
public import proofs.«01_k».proof.Proof.Mats
public import proofs.«01_k».proof.Proof.Gen.Kernel7Ideal.Frame

@[expose] public section

set_option maxRecDepth 16384

noncomputable section

namespace Cert.Kernel7Ideal.Prep

open Cert.Kernel7Ideal Cert.Kernel7Ideal.Gen Cert.Mats Cert.Prep Cert.Rms Cert.Reals Idealize.ShloMosaic Idealize.ShloMosaic.TcCoe Idealize.SL.Sem

/-- Two matrices that agree entry by entry are the same. -/
theorem mat_ext {m n : ℕ} {v : (⟨2, ![m, n]⟩ : Shape).Idx → EReal} {A : ℕ → ℕ → ℝ}
    (h : ∀ (r : Fin m) (l : Fin n), v (ix2 r l) = ((A r.val l.val : ℝ) : EReal)) : v = mat A := by
  funext z
  obtain ⟨r, l, rfl⟩ : ∃ (r : Fin m) (l : Fin n), z = ix2 r l := ⟨_, _, eq_ix2 z⟩
  exact h r l

/-- A row's value, in every row. -/
theorem mat_congr {m n : ℕ} {A B : ℕ → ℕ → ℝ} (h : ∀ r < m, ∀ l < n, A r l = B r l) : (mat A : (⟨2, ![m, n]⟩ : Shape).Idx → EReal) = mat B :=
  mat_ext fun r l => congrArg _ (h _ r.isLt _ l.isLt)

/-! ## A head's lanes -/

section Heads
variable (C A B : ℕ → ℕ → ℝ)

theorem keep11 (Q : ℕ → ℕ → ℝ) : k0_pay11 (F := Ideal) (mat Q) = mat Q := mat_ext fun r l => by pointwise [k0_pay11]; rfl
theorem keep12 (Q : ℕ → ℕ → ℝ) : k0_pay12 (F := Ideal) (mat Q) = mat Q := keep11 Q
theorem keep13 (Q : ℕ → ℕ → ℝ) : k0_pay13 (F := Ideal) (mat Q) = mat Q := keep11 Q
theorem keep18 (Q : ℕ → ℕ → ℝ) : k0_pay18 (F := Ideal) (mat Q) = mat Q := keep11 Q

theorem pay_rope (Q : ℕ → ℕ → ℝ) : k0_pay19 (F := Ideal) (mat C) (mat A) (mat B) (k0_pay18 (F := Ideal) (mat Q)) = mat (unrope C A B fun r l => Q r l * sc) := by
  rw [keep18]
  refine mat_ext fun r l => ?_
  pointwise [k0_pay19]
  simp only [mat, ix2, ofBits_sc, ← EReal.coe_mul, ← EReal.coe_add]
  refine congrArg _ ?_
  show Q r l * sc * C r l + Q r ((l.val + 128 - 16) % 128) * sc * A r ((l.val + 128 - 16) % 128) + Q r ((l.val + 128 - 112) % 128) * sc * B r ((l.val + 128 - 112) % 128) = _
  rw [show l.val + 128 - 16 = l.val + 112 by omega, show l.val + 128 - 112 = l.val + 16 by omega]
  rfl

theorem pay_scale (K : ℕ → ℕ → ℝ) : k0_pay15 (F := Ideal) (mat K) = mat fun r l => K r l * ln2 := by
  refine mat_ext fun r l => ?_
  pointwise [k0_pay15]
  simp only [mat, ix2, ofBits_ln2, ← EReal.coe_mul]

theorem lt64 : ∀ l : Fin 128, IntOp.cmpi CmpIPredicate.slt (BitVec.ofNat 32 l.val) 64#32 = if l.val < 64 then 1#1 else 0#1 := by decide +kernel
theorem lt96 : ∀ l : Fin 128, IntOp.andi (IntOp.cmpi CmpIPredicate.sge (BitVec.ofNat 32 l.val) 64#32) (IntOp.cmpi CmpIPredicate.slt (BitVec.ofNat 32 l.val) 96#32)
    = if 64 ≤ l.val ∧ l.val < 96 then 1#1 else 0#1 := by decide +kernel

theorem pay_head (K U : ℕ → ℕ → ℝ) : k0_pay17 (F := Ideal) (mat K) (mat U) = mat fun r l => if l < 64 then K r l * ln2 else U r l := by
  refine mat_ext fun r l => ?_
  pointwise [k0_pay17]
  rw [pay_scale, lt64 l]
  by_cases h : l.val < 64
  · rw [if_pos h, if_pos h]; rfl
  · rw [if_neg h, if_neg h]; rfl

/-- Eight heads of 128 lanes side by side. -/
theorem cat8 (Y : ℕ → ℕ → ℕ → ℝ) (x0 x1 x2 x3 x4 x5 x6 x7 : FVec Ideal S512x128 .bf16) (h0 : x0 = mat (Y 0)) (h1 : x1 = mat (Y 1)) (h2 : x2 = mat (Y 2))
    (h3 : x3 = mat (Y 3)) (h4 : x4 = mat (Y 4)) (h5 : x5 = mat (Y 5)) (h6 : x6 = mat (Y 6)) (h7 : x7 = mat (Y 7)) (h) :
    (concatenate S512x1024 1 [⟨S512x128, x0⟩, ⟨S512x128, x1⟩, ⟨S512x128, x2⟩, ⟨S512x128, x3⟩, ⟨S512x128, x4⟩, ⟨S512x128, x5⟩, ⟨S512x128, x6⟩, ⟨S512x128, x7⟩] h
      : FVec Ideal S512x1024 .bf16) = mat fun r i => Y (i / 128) r (i % 128) := by
  subst h0 h1 h2 h3 h4 h5 h6 h7
  refine mat_ext fun r i => ?_
  have hi := i.isLt
  refine (concatenate_ofFn_apply (t := S512x1024) (s₁ := S512x128) 1 (fun n : Fin 8 => (mat (Y n.val) : FVec Ideal S512x128 .bf16)) h rfl 128 rfl (ix2 r i)
    ⟨i.val / 128, by omega⟩ rfl (ix2 r (⟨i.val % 128, by omega⟩ : Fin 128)) rfl ?_).trans rfl
  intro b hb
  fin_cases b
  · rfl
  · exact absurd rfl hb

theorem ld_head (x : Vec Ideal S512x1024 .f32) (Q : ℕ → ℕ → ℝ) (hx : x = mat Q) (o : ℕ) (inb) :
    View.ld x (Rect.unit ![0, o] ![512, 128] inb) = (mat fun r l => Q r (o + l) : Vec Ideal S512x128 .f32) := by
  subst hx
  refine mat_ext fun r l => ?_
  refine congrArg _ (congrArg₂ Q ?_ ?_)
  · show 0 + 1 * r.val = r.val; omega
  · show o + 1 * l.val = o + l.val; omega

/-- The lanes of a block of packed heads that belong to one head. -/
abbrev H0 (x : Vec Ideal S512x1024 .f32) : Vec Ideal S512x128 .f32 := View.ld x (Rect.unit ![0, 0] ![512, 128] inb_S512x1024_S512x128_0_0)
abbrev H1 (x : Vec Ideal S512x1024 .f32) : Vec Ideal S512x128 .f32 := View.ld x (Rect.unit ![0, 128] ![512, 128] inb_S512x1024_S512x128_0_128)
abbrev H2 (x : Vec Ideal S512x1024 .f32) : Vec Ideal S512x128 .f32 := View.ld x (Rect.unit ![0, 256] ![512, 128] inb_S512x1024_S512x128_0_256)
abbrev H3 (x : Vec Ideal S512x1024 .f32) : Vec Ideal S512x128 .f32 := View.ld x (Rect.unit ![0, 384] ![512, 128] inb_S512x1024_S512x128_0_384)
abbrev H4 (x : Vec Ideal S512x1024 .f32) : Vec Ideal S512x128 .f32 := View.ld x (Rect.unit ![0, 512] ![512, 128] inb_S512x1024_S512x128_0_512)
abbrev H5 (x : Vec Ideal S512x1024 .f32) : Vec Ideal S512x128 .f32 := View.ld x (Rect.unit ![0, 640] ![512, 128] inb_S512x1024_S512x128_0_640)
abbrev H6 (x : Vec Ideal S512x1024 .f32) : Vec Ideal S512x128 .f32 := View.ld x (Rect.unit ![0, 768] ![512, 128] inb_S512x1024_S512x128_0_768)
abbrev H7 (x : Vec Ideal S512x1024 .f32) : Vec Ideal S512x128 .f32 := View.ld x (Rect.unit ![0, 896] ![512, 128] inb_S512x1024_S512x128_0_896)

/-- The packed query cotangent the body makes of its blocks. -/
abbrev dqOf (c a b : Vec Ideal S512x128 .f32) (x : Vec Ideal S512x1024 .f32) : FVec Ideal S512x1024 .bf16 :=
  k0_pay45 (F := Ideal) (k0_pay11 c) (k0_pay12 a) (k0_pay13 b) (k0_pay14 c a b (H0 x)) (k0_pay19 (k0_pay11 c) (k0_pay12 a) (k0_pay13 b) (k0_pay18 (H1 x)))
    (k0_pay22 (k0_pay11 c) (k0_pay12 a) (k0_pay13 b) (H2 x)) (k0_pay27 (k0_pay11 c) (k0_pay12 a) (k0_pay13 b) (H3 x))
    (k0_pay31 (k0_pay11 c) (k0_pay12 a) (k0_pay13 b) (H4 x)) (k0_pay35 (k0_pay11 c) (k0_pay12 a) (k0_pay13 b) (H5 x))
    (k0_pay40 (k0_pay11 c) (k0_pay12 a) (H6 x)) (k0_pay41 (k0_pay13 b) (H6 x)) (112#32) (H7 x)

theorem one_head (c a b : Vec Ideal S512x128 .f32) (hc : c = mat C) (ha : a = mat A) (hb : b = mat B) (x : Vec Ideal S512x128 .f32) (Q : ℕ → ℕ → ℝ) (hx : x = mat Q) :
    k0_pay19 (F := Ideal) (k0_pay11 (F := Ideal) c) (k0_pay12 (F := Ideal) a) (k0_pay13 (F := Ideal) b) (k0_pay18 (F := Ideal) x) = mat (unrope C A B fun r l => Q r l * sc) := by
  subst hc ha hb hx
  rw [keep11, keep12, keep13]
  exact pay_rope C A B Q

theorem dqOf_eq (c a b : Vec Ideal S512x128 .f32) (hc : c = mat C) (ha : a = mat A) (hb : b = mat B) (x : Vec Ideal S512x1024 .f32) (Q : ℕ → ℕ → ℝ) (hx : x = mat Q) :
    dqOf c a b x = mat (DQ C A B Q) :=
  cat8 (fun h => unrope C A B fun r l => Q r (128 * h + l) * sc) _ _ _ _ _ _ _ _
    (one_head C A B c a b hc ha hb _ _ (ld_head x Q hx 0 _)) (one_head C A B c a b hc ha hb _ _ (ld_head x Q hx 128 _))
    (one_head C A B c a b hc ha hb _ _ (ld_head x Q hx 256 _)) (one_head C A B c a b hc ha hb _ _ (ld_head x Q hx 384 _))
    (one_head C A B c a b hc ha hb _ _ (ld_head x Q hx 512 _)) (one_head C A B c a b hc ha hb _ _ (ld_head x Q hx 640 _))
    (one_head C A B c a b hc ha hb _ _ (ld_head x Q hx 768 _)) (one_head C A B c a b hc ha hb _ _ (ld_head x Q hx 896 _)) concatenates_S512x128_S512x128_S512x128_S512x128_S512x128_S512x128_S512x128_S512x128_S512x1024_d1

/-- The packed key and value cotangent. -/
abbrev dkvOf (x y : Vec Ideal S512x1024 .f32) : FVec Ideal S512x1024 .bf16 :=
  k0_pay46 (F := Ideal) (iota .tc S512x128 32 [1] iota_S512x128_d1_w32) (k0_pay17 (H0 x) (H0 y)) (k0_pay21 (iota .tc S512x128 32 [1] iota_S512x128_d1_w32) (H1 x) (H1 y))
    (k0_pay26 (k0_pay23 (H2 x)) (k0_pay25 (iota .tc S512x128 32 [1] iota_S512x128_d1_w32)) (H2 y))
    (k0_pay30 (iota .tc S512x128 32 [1] iota_S512x128_d1_w32) (H3 x) (H3 y))
    (k0_pay34 (iota .tc S512x128 32 [1] iota_S512x128_d1_w32) (k0_pay32 (H4 x)) (FloatOps.ofBits FTy.f32 1060205080#32) (H4 y))
    (k0_pay38 (iota .tc S512x128 32 [1] iota_S512x128_d1_w32) (H5 x) (H5 y)) (H6 x) (H6 y) (H7 x) (H7 y)

theorem one_kv (x y : Vec Ideal S512x128 .f32) (K U : ℕ → ℕ → ℝ) (hx : x = mat K) (hy : y = mat U) :
    k0_pay17 (F := Ideal) x y = mat fun r l => if l < 64 then K r l * ln2 else U r l := by
  subst hx hy
  exact pay_head K U

theorem dkvOf_eq (x y : Vec Ideal S512x1024 .f32) (K U : ℕ → ℕ → ℝ) (hx : x = mat K) (hy : y = mat U) : dkvOf x y = mat (DKV K U) :=
  (cat8 (fun h r l => if l < 64 then K r (128 * h + l) * ln2 else U r (128 * h + l)) _ _ _ _ _ _ _ _
    (one_kv _ _ _ _ (ld_head x K hx 0 _) (ld_head y U hy 0 _)) (one_kv _ _ _ _ (ld_head x K hx 128 _) (ld_head y U hy 128 _))
    (one_kv _ _ _ _ (ld_head x K hx 256 _) (ld_head y U hy 256 _)) (one_kv _ _ _ _ (ld_head x K hx 384 _) (ld_head y U hy 384 _))
    (one_kv _ _ _ _ (ld_head x K hx 512 _) (ld_head y U hy 512 _)) (one_kv _ _ _ _ (ld_head x K hx 640 _) (ld_head y U hy 640 _))
    (one_kv _ _ _ _ (ld_head x K hx 768 _) (ld_head y U hy 768 _)) (one_kv _ _ _ _ (ld_head x K hx 896 _) (ld_head y U hy 896 _)) concatenates_S512x128_S512x128_S512x128_S512x128_S512x128_S512x128_S512x128_S512x128_S512x1024_d1).trans
    (mat_congr fun r _ i hi => by
      show (if i % 128 < 64 then K r (128 * (i / 128) + i % 128) * ln2 else U r (128 * (i / 128) + i % 128)) = _
      rw [Nat.div_add_mod]; rfl)
end Heads

/-! ## The products and the norms -/

section Norms
variable (D W X d x : ℕ → ℕ → ℝ) (g : ℕ → ℝ)

theorem pay_dcqn : k0_pay49 (F := Ideal) (mat D) (mat W) = mat fun r k => ∑ i ∈ Finset.range 1024, D r i * W i k := by
  refine mat_ext fun r k => ?_
  pointwise [k0_pay49]
  simp only [mat, ix2, ← EReal.coe_mul, zero_add]
  exact sum_fin 1024 fun i => D r i * W i k

theorem pay_dwq (acc : Vec Ideal S1024x384 .f32) (i : Fin 1024) (k : Fin 384) : k0_pay50 (F := Ideal) (mat D) acc (mat X) (ix2 i k)
    = acc (ix2 i k) + ((∑ r ∈ Finset.range 512, D r i * X r k : ℝ) : EReal) := by
  pointwise [k0_pay50]
  refine congrArg _ ?_
  simp only [mat, ix2, ← EReal.coe_mul, zero_add]
  exact sum_fin 512 fun r => D r i * X r k

theorem pay_dckvn : k0_pay58 (F := Ideal) (mat D) (mat W) = mat fun r k => ∑ i ∈ Finset.range 1024, D r i * W k i := by
  refine mat_ext fun r k => ?_
  pointwise [k0_pay58]
  simp only [mat, ix2, ← EReal.coe_mul, zero_add]
  exact sum_fin 1024 fun i => D r i * W k i

theorem pay_dwkv (acc : Vec Ideal S256x1024 .f32) (k : Fin 256) (i : Fin 1024) : k0_pay59 (F := Ideal) (mat D) acc (mat X) (ix2 k i)
    = acc (ix2 k i) + ((∑ r ∈ Finset.range 512, X r k * D r i : ℝ) : EReal) := by
  pointwise [k0_pay59]
  refine congrArg _ ?_
  simp only [mat, ix2, ← EReal.coe_mul, zero_add]
  exact sum_fin 512 fun r => X r k * D r i

theorem rs_q (r : Fin 512) : k0_pay52 (F := Ideal) (mat x) (ix2 r 0) = ((rs 384 384 x r : ℝ) : EReal) := by
  pointwise [k0_pay52, k0_pay51]
  simp only [mat, ix2, ofBits_384, ofBits_eps, ← EReal.coe_mul]
  erw [sum_coe]
  rw [div_coe _ _ (by norm_num), ← EReal.coe_add]
  exact rsqrt_coe _ (ms_pos (by norm_num : (0:ℝ) < 384) fun k : Fin 384 => x r k)

theorem xh_q : k0_pay53 (F := Ideal) (mat x) = mat fun r k => x r k * rs 384 384 x r := by
  refine mat_ext fun r k => ?_
  pointwise [k0_pay53, k0_pay51]
  rw [rs_q]
  simp only [mat, ix2, ← EReal.coe_mul]

theorem nb_q : k0_pay4 (F := Ideal) (k0_pay56 (F := Ideal) (k0_pay52 (F := Ideal) (mat x)) (k0_pay53 (F := Ideal) (mat x))
      (k0_pay54 (F := Ideal) (mat D) (mat W) (mat fun _ k => g k)) (k0_pay55 (F := Ideal) (mat D) (mat W) (mat x) (mat fun _ k => g k)))
    = mat (nb 384 384 x (fun r k => ∑ i ∈ Finset.range 1024, D r i * W i k) g) := by
  refine mat_ext fun r k => ?_
  pointwise [k0_pay4, k0_pay56, k0_pay55, k0_pay54]
  rw [rs_q, xh_q, pay_dcqn]
  simp only [mat, ix2, ofBits_384, ← EReal.coe_mul]
  rw [show (∑ l : Fin 384, (((∑ i ∈ Finset.range 1024, D r i * W i l) * g l * (x r l * rs 384 384 x r) : ℝ) : EReal)) = _ from
      sum_fin 384 fun l => (∑ i ∈ Finset.range 1024, D r i * W i l) * g l * (x r l * rs 384 384 x r),
    div_coe _ _ (by norm_num), ← EReal.coe_mul, ← EReal.coe_sub, ← EReal.coe_mul]
  rfl

theorem pay_dgq (acc : Vec Ideal S1x384 .f32) (k : Fin 384) : k0_pay57 (F := Ideal) (mat d) (k0_pay53 (F := Ideal) (mat x)) acc (ix2 0 k)
    = acc (ix2 0 k) + ((∑ r ∈ Finset.range 512, d r k * (x r k * rs 384 384 x r) : ℝ) : EReal) := by
  rw [xh_q]
  pointwise [k0_pay57]
  refine congrArg _ ?_
  simp only [mat, ix2, ← EReal.coe_mul]
  exact sum_fin 512 fun r => d r k * (x r k * rs 384 384 x r)

theorem rs_kv (r : Fin 512) : k0_pay1 (F := Ideal) (k0_pay61 (F := Ideal) (mat x)) (ix2 r 0) = ((rs 256 256 x r : ℝ) : EReal) := by
  pointwise [k0_pay1, k0_pay61, k0_pay60]
  simp only [mat, ix2, ofBits_256, ofBits_eps, ← EReal.coe_mul]
  erw [sum_coe]
  rw [div_coe _ _ (by norm_num), ← EReal.coe_add]
  exact rsqrt_coe _ (ms_pos (by norm_num : (0:ℝ) < 256) fun k : Fin 256 => x r k)

theorem xh_kv : k0_pay2 (F := Ideal) (k0_pay60 (F := Ideal) (mat x)) (k0_pay61 (F := Ideal) (mat x)) = mat fun r k => x r k * rs 256 256 x r := by
  refine mat_ext fun r k => ?_
  pointwise [k0_pay2, k0_pay60]
  rw [rs_kv]
  simp only [mat, ix2, ← EReal.coe_mul]

theorem nb_kv : k0_pay5 (F := Ideal) (mat d) (k0_pay60 (F := Ideal) (mat x)) (mat fun _ k => g k) (k0_pay61 (F := Ideal) (mat x)) = mat (nb 256 256 x d g) := by
  refine mat_ext fun r k => ?_
  pointwise [k0_pay5]
  rw [rs_kv, xh_kv]
  simp only [mat, ix2, ofBits_256, ← EReal.coe_mul]
  rw [show (∑ l : Fin 256, ((d r l * g l * (x r l * rs 256 256 x r) : ℝ) : EReal)) = _ from sum_fin 256 fun l => d r l * g l * (x r l * rs 256 256 x r),
    div_coe _ _ (by norm_num), ← EReal.coe_mul, ← EReal.coe_sub, ← EReal.coe_mul]
  rfl

theorem pay_dgkv (acc : Vec Ideal S1x256 .f32) (k : Fin 256) : k0_pay3 (F := Ideal) (mat d) (k0_pay60 (F := Ideal) (mat x)) (k0_pay61 (F := Ideal) (mat x)) acc (ix2 0 k)
    = acc (ix2 0 k) + ((∑ r ∈ Finset.range 512, d r k * (x r k * rs 256 256 x r) : ℝ) : EReal) := by
  pointwise [k0_pay3]
  rw [xh_kv]
  refine congrArg _ ?_
  simp only [mat, ix2, ← EReal.coe_mul]
  exact sum_fin 512 fun r => d r k * (x r k * rs 256 256 x r)

theorem pay_zero7 (j : S1024x384.Idx) : k0_pay7 (F := Ideal) j = 0 := by pointwise [k0_pay7]
theorem pay_zero8 (j : S256x1024.Idx) : k0_pay8 (F := Ideal) j = 0 := by pointwise [k0_pay8]
theorem pay_zero9 (j : S1x384.Idx) : k0_pay9 (F := Ideal) j = 0 := by pointwise [k0_pay9]
theorem pay_zero10 (j : S1x256.Idx) : k0_pay10 (F := Ideal) j = 0 := by pointwise [k0_pay10]

end Norms

/-! ## The shared key lanes -/

section Keys
variable (C A B K : ℕ → ℕ → ℝ)

/-- The heads' key lanes, added up. -/
abbrev ksOf (x : Vec Ideal S512x1024 .f32) : FVec Ideal S512x128 .f32 :=
  k0_pay44 (F := Ideal) (k0_pay37 (k0_pay29 (k0_pay24 (k0_pay16 (H0 x)) (H1 x) (H2 x)) (H3 x)) (k0_pay32 (H4 x)) (FloatOps.ofBits FTy.f32 1060205080#32) (H5 x)) (H6 x) (H7 x)

theorem ks_sum (x0 x1 x2 x3 x4 x5 x6 x7 : FVec Ideal S512x128 .f32) (k0 k1 k2 k3 k4 k5 k6 k7 : ℕ → ℕ → ℝ) (h0 : x0 = mat k0) (h1 : x1 = mat k1) (h2 : x2 = mat k2)
    (h3 : x3 = mat k3) (h4 : x4 = mat k4) (h5 : x5 = mat k5) (h6 : x6 = mat k6) (h7 : x7 = mat k7) :
    k0_pay44 (F := Ideal) (k0_pay37 (k0_pay29 (k0_pay24 (k0_pay16 x0) x1 x2) x3) (k0_pay32 x4) (FloatOps.ofBits FTy.f32 1060205080#32) x5) x6 x7
      = mat fun r l => k0 r l * ln2 + k1 r l * ln2 + k2 r l * ln2 + k3 r l * ln2 + k4 r l * ln2 + k5 r l * ln2 + k6 r l * ln2 + k7 r l * ln2 := by
  subst h0 h1 h2 h3 h4 h5 h6 h7
  refine mat_ext fun r l => ?_
  pointwise [k0_pay44, k0_pay43, k0_pay42, k0_pay37, k0_pay36, k0_pay33, k0_pay32, k0_pay29, k0_pay28, k0_pay24, k0_pay23, k0_pay20, k0_pay16, k0_pay15]
  simp only [mat, ix2, ofBits_ln2, ← EReal.coe_mul, ← EReal.coe_add, zero_add]

theorem ksOf_eq (x : Vec Ideal S512x1024 .f32) (hx : x = mat K) : ksOf x = mat (KS K) := by
  refine (ks_sum _ _ _ _ _ _ _ _ _ _ _ _ _ _ _ _ (ld_head x K hx 0 _) (ld_head x K hx 128 _) (ld_head x K hx 256 _) (ld_head x K hx 384 _) (ld_head x K hx 512 _)
    (ld_head x K hx 640 _) (ld_head x K hx 768 _) (ld_head x K hx 896 _)).trans (mat_congr fun r _ l _ => ?_)
  unfold KS
  simp only [Finset.sum_range_succ, Finset.sum_range_zero, zero_add, Nat.mul_zero, Nat.mul_one, Nat.reduceMul]

/-- The cotangent of the shared key lanes. -/
abbrev dkrOf (c a b : Vec Ideal S512x128 .f32) (x : Vec Ideal S512x1024 .f32) : FVec Ideal S512x128 .f32 :=
  k0_pay48 (F := Ideal) (k0_pay11 c) (k0_pay12 a) (k0_pay13 b) (iota .tc S512x128 32 [1] iota_S512x128_d1_w32) (ksOf x) (k0_pay47 (iota .tc S512x128 32 [1] iota_S512x128_d1_w32)) (96#32)

theorem sel96 (l : Fin 128) (k c : ℝ) : Scalar.select (IntOp.andi (IntOp.cmpi CmpIPredicate.sge (BitVec.ofNat 32 l.val) 64#32) (IntOp.cmpi CmpIPredicate.slt (BitVec.ofNat 32 l.val) 96#32))
    ((k : EReal) * (c : EReal)) (0 : EReal) = (((if 64 ≤ l.val ∧ l.val < 96 then k else 0) * c : ℝ) : EReal) := by
  rw [lt96 l]
  by_cases h : 64 ≤ l.val ∧ l.val < 96
  · rw [if_pos h, if_pos h]; rfl
  · rw [if_neg h, if_neg h, zero_mul]; exact EReal.coe_zero.symm

theorem dkrOf_eq (c a b : Vec Ideal S512x128 .f32) (hc : c = mat C) (ha : a = mat A) (hb : b = mat B) (x : Vec Ideal S512x1024 .f32) (hx : x = mat K) :
    k0_pay6 (F := Ideal) (dkrOf c a b x) = mat (DKR C A B K) := by
  subst hc ha hb
  unfold dkrOf
  rw [ksOf_eq K x hx, keep11, keep12, keep13]
  refine mat_ext fun r l => ?_
  pointwise [k0_pay6, k0_pay48, k0_pay47]
  have e := fun (M : ℕ → ℕ → ℝ) (l : Fin 128) => sel96 l (KS K r l) (M r l)
  refine (congrArg₂ (· + ·) (congrArg₂ (· + ·) (e C l) (e A ⟨(l.val + 128 - 16) % 128, by omega⟩)) (e B ⟨(l.val + 128 - 112) % 128, by omega⟩)).trans ?_
  simp only [← EReal.coe_add]
  rw [show l.val + 128 - 16 = l.val + 112 by omega, show l.val + 128 - 112 = l.val + 16 by omega]
  rfl
end Keys

end Cert.Kernel7Ideal.Prep
end
-- ==== Proof.PrepHost.lean ====
/- The host's part of the program of the low-rank projections' preparation, backwards: how it packs the cotangents and the
   weights by head, the rotation's tables, and the saved norms. -/
module

public import Idealize.ShloMosaic.Lib.StableHlo.Run
public import proofs.«01_k».proof.Proof.PrepPay
public import proofs.«01_k».proof.Proof.FfnMath

@[expose] public section

set_option maxRecDepth 16384

noncomputable section

namespace Cert.Kernel7Ideal.Prep

open Cert.Kernel7Ideal Cert.Kernel7Ideal.Gen Cert.Mats Cert.Prep Cert.Rms Cert.Reals Idealize.ShloMosaic Idealize.ShloMosaic.TcCoe Idealize.SL.Sem Idealize.ShloMosaic.StableHlo

variable (m : (ℓ : Loc nD τ sig) → Buf (Elt Ideal) ℓ) (c : Dev nD)

/-! ## The packed cotangents -/

def hostQ (x : FVec Ideal S8192x8x96 .f32) : FVec Ideal S8192x1024 .f32 :=
  shapeCast S8192x1024 (concatenate S8192x8x128 2 [⟨S8192x8x96, x⟩, ⟨S8192x8x32, broadcastInDim S8192x8x32 ![] bcast_S_S8192x8x32 (constant (F := Ideal) S_ .f32 0x00000000#32)⟩]
    concatenates_S8192x8x96_S8192x8x32_S8192x8x128_d2) shapeCasts_S8192x8x128_S8192x1024
def hostV (x : FVec Ideal S8192x8x64 .f32) : FVec Ideal S8192x1024 .f32 :=
  shapeCast S8192x1024 (concatenate S8192x8x128 2 [⟨S8192x8x64, broadcastInDim S8192x8x64 ![] bcast_S_S8192x8x64 (constant (F := Ideal) S_ .f32 0x00000000#32)⟩, ⟨S8192x8x64, x⟩]
    concatenates_S8192x8x64_S8192x8x64_S8192x8x128_d2) shapeCasts_S8192x8x128_S8192x1024
def hostK (x : FVec Ideal S8192x8x96 .f32) : FVec Ideal S8192x1024 .f32 :=
  Host.divf (hostQ x) (broadcastInDim S8192x1024 ![] bcast_S_S8192x1024 (constant (F := Ideal) S_ .f32 0x3F317218#32))

theorem flat128 (A : ℕ → ℕ → ℕ → ℝ) (h : Shape.ShapeCasts S8192x8x128 S8192x1024) :
    (shapeCast S8192x1024 (cube A : S8192x8x128.Idx → EReal) h) = mat fun r l => A r (l / 128) (l % 128) := by
  refine mat_ext fun r l => ?_
  have hl := l.isLt
  refine (shapeCast_apply (cube A : S8192x8x128.Idx → EReal) h (ix2 r l) (ix3 r ⟨l.val / 128, by omega⟩ ⟨l.val % 128, by omega⟩) ?_).trans rfl
  rw [Shape.rowMajor_val_three, Shape.rowMajor_val_two]
  show (r.val * 8 + l.val / 128) * 128 + l.val % 128 = r.val * 1024 + l.val
  omega

theorem ofBits_zero : Ideal.ofBits .f32 0x00000000#32 = ((0 : ℝ) : EReal) := by simp [Ideal.ofBits, Ideal.ieee]
theorem ofBits_one : Ideal.ofBits .f32 0x3F800000#32 = ((1 : ℝ) : EReal) := by
  simp [Ideal.ofBits, Ideal.ieee]; rw [← EReal.coe_mul]; norm_num

theorem hostQ_eq (D : ℕ → ℕ → ℕ → ℝ) : hostQ (cube D) = mat (heads96 D) := by
  refine Eq.trans ?_ (flat128 (fun r a l => if l < 96 then D r a l else 0) shapeCasts_S8192x8x128_S8192x1024)
  refine congrArg (fun x => shapeCast S8192x1024 x shapeCasts_S8192x8x128_S8192x1024) ?_
  funext y
  obtain ⟨r, a, l, rfl⟩ : ∃ (r : Fin 8192) (a : Fin 8) (l : Fin 128), y = ix3 r a l := ⟨_, _, _, eq_ix3 y⟩
  pointwise [cube, ofBits_zero]
  split_ifs <;> first | rfl | (exfalso; omega)

theorem hostV_eq (D : ℕ → ℕ → ℕ → ℝ) : hostV (cube D) = mat (heads64 D) := by
  refine Eq.trans ?_ (flat128 (fun r a l => if l < 64 then 0 else D r a (l - 64)) shapeCasts_S8192x8x128_S8192x1024)
  refine congrArg (fun x => shapeCast S8192x1024 x shapeCasts_S8192x8x128_S8192x1024) ?_
  funext y
  obtain ⟨r, a, l, rfl⟩ : ∃ (r : Fin 8192) (a : Fin 8) (l : Fin 128), y = ix3 r a l := ⟨_, _, _, eq_ix3 y⟩
  pointwise [cube, ofBits_zero]
  split_ifs <;> first | rfl | (exfalso; omega)

theorem hostK_eq (D : ℕ → ℕ → ℕ → ℝ) : hostK (cube D) = mat fun r i => heads96 D r i / ln2 := by
  unfold hostK
  rw [hostQ_eq]
  refine mat_ext fun r l => ?_
  pointwise []
  simp only [mat, ix2, ofBits_ln2]
  exact div_coe _ _ ln2_ne

theorem V_q : (V m c main_v73 : FVec Ideal S8192x1024 .f32) = hostQ (m ((c : Thread nD τ).loc main_arg7)) := by
  show after hostOps0 (fun b => m (c, b)) (Proc.devRef .tc main_v73) = _
  after_results
  rfl
theorem V_k : (V m c main_v78 : FVec Ideal S8192x1024 .f32) = hostK (m ((c : Thread nD τ).loc main_arg8)) := by
  show after hostOps0 (fun b => m (c, b)) (Proc.devRef .tc main_v78) = _
  after_results
  rfl
theorem V_v : (V m c main_v81 : FVec Ideal S8192x1024 .f32) = hostV (m ((c : Thread nD τ).loc main_arg9)) := by
  show after hostOps0 (fun b => m (c, b)) (Proc.devRef .tc main_v81) = _
  after_results
  rfl

/-! ## The weights -/

def hostWq (w : FVec Ideal S384x768 .f32) : FVec Ideal S1024x384 .bf16 :=
  truncf .bf16 (shapeCast S1024x384 (concatenate S8x128x384 1 [⟨S8x96x384, shapeCast S8x96x384 (transpose S768x384 [1, 0] w transposes_S384x768_S768x384_1_0) shapeCasts_S768x384_S8x96x384⟩,
    ⟨S8x32x384, broadcastInDim S8x32x384 ![] bcast_S_S8x32x384 (constant (F := Ideal) S_ .f32 0x00000000#32)⟩] concatenates_S8x96x384_S8x32x384_S8x128x384_d1) shapeCasts_S8x128x384_S1024x384) bitsLt_bf16_f32

theorem hostWq_eq (W : ℕ → ℕ → ℝ) : hostWq (mat W) = mat (rows96 W) := by
  refine mat_ext fun i k => ?_
  have hi := i.isLt
  unfold hostWq rows96
  pointwise [mat, ofBits_zero]
  split_ifs <;> rfl

theorem V_wq : (V m c main_v10 : FVec Ideal S1024x384 .bf16) = hostWq (m ((c : Thread nD τ).loc main_arg4)) := by
  show after hostOps0 (fun b => m (c, b)) (Proc.devRef .tc main_v10) = _
  after_results
  rfl
theorem V_wkv : (V m c main_v11 : FVec Ideal S256x1024 .bf16) = (m ((c : Thread nD τ).loc main_arg6) : FVec Ideal S256x1024 .f32) := by
  show after hostOps0 (fun b => m (c, b)) (Proc.devRef .tc main_v11) = _
  after_results
  rfl

/-! ## The rotation's tables -/

/-- The angles, row by row. -/
def angles : FVec Ideal S8192x16 .f32 :=
  mulf (broadcastInDim S8192x16 ![0, 1] bcast_S8192x1_S8192x16_0_1 (broadcastInDim S8192x1 ![0] bcast_S8192_S8192x1_0 (sitofp (F := Ideal) .f32 (iotaInDim S8192 32 0))))
    (broadcastInDim S8192x16 ![0, 1] bcast_S1x16_S8192x16_0_1 (broadcastInDim S1x16 ![1] bcast_S16_S1x16_1
      (Host.exp (Host.divf (mulf (broadcastInDim S16 ![] bcast_S_S16 (constant (F := Ideal) S_ .f32 0xC1135D8E#32))
        (addf (broadcastInDim S16 ![] bcast_S_S16 (constant (F := Ideal) S_ .f32 0x00000000#32))
          (mulf (broadcastInDim S16 ![] bcast_S_S16 (constant (F := Ideal) S_ .f32 0x40000000#32)) (sitofp (F := Ideal) .f32 (iotaInDim S16 32 0)))))
        (broadcastInDim S16 ![] bcast_S_S16 (constant (F := Ideal) S_ .f32 0x42000000#32))))))

theorem ofBits_log : Ideal.ofBits .f32 0xC1135D8E#32 = ((-4828871 / 524288 : ℝ) : EReal) := by
  simp [Ideal.ofBits, Ideal.ieee]
  norm_num [← EReal.coe_mul]
theorem ofBits_32 : Ideal.ofBits .f32 0x42000000#32 = ((32 : ℝ) : EReal) := by
  simp [Ideal.ofBits, Ideal.ieee]
  norm_num [← EReal.coe_mul]

theorem angles_real : ∃ th : ℕ → ℕ → ℝ, angles = mat th := by
  refine ⟨fun r j => ((BitVec.ofNat 32 r).toInt : ℝ) * Real.exp (-4828871 / 524288 * (2 * ((BitVec.ofNat 32 j).toInt : ℝ)) / 32), mat_ext fun r j => ?_⟩
  pointwise [angles]
  rw [ofBits_log, ofBits_32, Cert.Ffn.ofBits_two]
  have e : ∀ n : ℕ, (FloatOps.sitofp (F := Ideal) FTy.f32 (BitVec.ofNat 32 n) : EReal) = (((BitVec.ofNat 32 n).toInt : ℝ) : EReal) := fun n => rfl
  rw [e, e, ← EReal.coe_mul, ← EReal.coe_mul, div_coe _ _ (by norm_num)]
  exact (EReal.coe_mul _ _).symm

def CO : ℕ → ℕ → ℝ := fun r j => Real.cos (angles_real.choose r j)
def SI : ℕ → ℕ → ℝ := fun r j => Real.sin (angles_real.choose r j)
theorem cos_angles : Host.cos (F := Ideal) angles = mat CO := by
  rw [angles_real.choose_spec]
  rfl
theorem sin_angles : Host.sin (F := Ideal) angles = mat SI := by
  rw [angles_real.choose_spec]
  rfl

def hostC (co : FVec Ideal S8192x16 .f32) : FVec Ideal S8192x128 .f32 :=
  concatenate S8192x128 1 [⟨S8192x64, broadcastInDim S8192x64 ![] bcast_S_S8192x64 (constant (F := Ideal) S_ .f32 0x3F800000#32)⟩, ⟨S8192x16, co⟩, ⟨S8192x16, co⟩,
    ⟨S8192x32, broadcastInDim S8192x32 ![] bcast_S_S8192x32 (constant (F := Ideal) S_ .f32 0x3F800000#32)⟩] concatenates_S8192x64_S8192x16_S8192x16_S8192x32_S8192x128_d1
def hostA (si : FVec Ideal S8192x16 .f32) : FVec Ideal S8192x128 .f32 :=
  concatenate S8192x128 1 [⟨S8192x64, broadcastInDim S8192x64 ![] bcast_S_S8192x64 (constant (F := Ideal) S_ .f32 0x00000000#32)⟩, ⟨S8192x16, Host.negf si⟩,
    ⟨S8192x16, broadcastInDim S8192x16 ![] bcast_S_S8192x16 (constant (F := Ideal) S_ .f32 0x00000000#32)⟩,
    ⟨S8192x32, broadcastInDim S8192x32 ![] bcast_S_S8192x32 (constant (F := Ideal) S_ .f32 0x00000000#32)⟩] concatenates_S8192x64_S8192x16_S8192x16_S8192x32_S8192x128_d1
def hostB (si : FVec Ideal S8192x16 .f32) : FVec Ideal S8192x128 .f32 :=
  concatenate S8192x128 1 [⟨S8192x64, broadcastInDim S8192x64 ![] bcast_S_S8192x64 (constant (F := Ideal) S_ .f32 0x00000000#32)⟩,
    ⟨S8192x16, broadcastInDim S8192x16 ![] bcast_S_S8192x16 (constant (F := Ideal) S_ .f32 0x00000000#32)⟩, ⟨S8192x16, si⟩,
    ⟨S8192x32, broadcastInDim S8192x32 ![] bcast_S_S8192x32 (constant (F := Ideal) S_ .f32 0x00000000#32)⟩] concatenates_S8192x64_S8192x16_S8192x16_S8192x32_S8192x128_d1

theorem hostC_eq (co : ℕ → ℕ → ℝ) : hostC (mat co) = mat (tabC co) := by
  refine mat_ext fun r l => ?_
  pointwise [hostC, mat, ofBits_one, tabC]
  split_ifs <;> first | rfl | (exfalso; omega)
theorem hostA_eq (si : ℕ → ℕ → ℝ) : hostA (mat si) = mat (tabA si) := by
  refine mat_ext fun r l => ?_
  pointwise [hostA, mat, ofBits_zero, tabA]
  split_ifs <;> first | rfl | (exfalso; omega)
theorem hostB_eq (si : ℕ → ℕ → ℝ) : hostB (mat si) = mat (tabB si) := by
  refine mat_ext fun r l => ?_
  pointwise [hostB, mat, ofBits_zero, tabB]
  split_ifs <;> first | rfl | (exfalso; omega)

theorem V_c : (V m c main_v33 : FVec Ideal S8192x128 .f32) = hostC (Host.cos (F := Ideal) angles) := by
  show after hostOps0 (fun b => m (c, b)) (Proc.devRef .tc main_v33) = _
  after_results
  rfl
theorem V_sa : (V m c main_v37 : FVec Ideal S8192x128 .f32) = hostA (Host.sin (F := Ideal) angles) := by
  show after hostOps0 (fun b => m (c, b)) (Proc.devRef .tc main_v37) = _
  after_results
  rfl
theorem V_sb : (V m c main_v40 : FVec Ideal S8192x128 .f32) = hostB (Host.sin (F := Ideal) angles) := by
  show after hostOps0 (fun b => m (c, b)) (Proc.devRef .tc main_v40) = _
  after_results
  rfl

/-! ## The projection's columns and the saved norms -/

def hostP (cq : FVec Ideal S8192x384 .f32) (ckv : FVec Ideal S8192x256 .f32) (kr : FVec Ideal S8192x32 .f32) : FVec Ideal S8192x2304 .bf16 :=
  truncf .bf16 (concatenate S8192x2304 1 [⟨S8192x1536, broadcastInDim S8192x1536 ![] bcast_S_S8192x1536 (constant (F := Ideal) S_ .f32 0x00000000#32)⟩, ⟨S8192x384, cq⟩, ⟨S8192x256, ckv⟩,
    ⟨S8192x64, broadcastInDim S8192x64 ![] bcast_S_S8192x64 (constant (F := Ideal) S_ .f32 0x00000000#32)⟩, ⟨S8192x32, kr⟩,
    ⟨S8192x32, broadcastInDim S8192x32 ![] bcast_S_S8192x32 (constant (F := Ideal) S_ .f32 0x00000000#32)⟩] concatenates_S8192x1536_S8192x384_S8192x256_S8192x64_S8192x32_S8192x32_S8192x2304_d1) bitsLt_bf16_f32

theorem hostP_q (cq ckv kr) (r : Fin 8192) (k : Fin 384) : hostP cq ckv kr (ix2 r (⟨1536 + k.val, by omega⟩ : Fin 2304)) = cq (ix2 r k) := by
  pointwise [hostP]
theorem hostP_kv (cq ckv kr) (r : Fin 8192) (k : Fin 256) : hostP cq ckv kr (ix2 r (⟨1536 + (384 + k.val), by omega⟩ : Fin 2304)) = ckv (ix2 r k) := by
  pointwise [hostP]

theorem V_p : (V m c main_v4 : FVec Ideal S8192x2304 .bf16)
    = hostP (m ((c : Thread nD τ).loc main_arg0)) (m ((c : Thread nD τ).loc main_arg1)) (m ((c : Thread nD τ).loc main_arg2)) := by
  show after hostOps0 (fun b => m (c, b)) (Proc.devRef .tc main_v4) = _
  after_results
  rfl

def takeQ (p : FVec Ideal S8192x2304 .bf16) : FVec Ideal S8192x384 .f32 :=
  extractStridedSlice S8192x384 ![0, 0] (extf .f32 (extractStridedSlice S8192x768 ![0, 1536] p slices_S8192x2304_S8192x768_0_1536) bitsLt_bf16_f32) slices_S8192x768_S8192x384_0_0
def takeKv (p : FVec Ideal S8192x2304 .bf16) : FVec Ideal S8192x256 .f32 :=
  extractStridedSlice S8192x256 ![0, 384] (extf .f32 (extractStridedSlice S8192x768 ![0, 1536] p slices_S8192x2304_S8192x768_0_1536) bitsLt_bf16_f32) slices_S8192x768_S8192x256_0_384

theorem takeQ_eq (cq ckv kr) : takeQ (hostP cq ckv kr) = cq := by
  funext z
  obtain ⟨r, k, rfl⟩ : ∃ (r : Fin 8192) (k : Fin 384), z = ix2 r k := ⟨_, _, eq_ix2 z⟩
  refine Eq.trans ?_ (hostP_q cq ckv kr r k)
  pointwise [takeQ]
theorem takeKv_eq (cq ckv kr) : takeKv (hostP cq ckv kr) = ckv := by
  funext z
  obtain ⟨r, k, rfl⟩ : ∃ (r : Fin 8192) (k : Fin 256), z = ix2 r k := ⟨_, _, eq_ix2 z⟩
  refine Eq.trans ?_ (hostP_kv cq ckv kr r k)
  pointwise [takeKv]

def hostNq (x : FVec Ideal S8192x384 .f32) (g : FVec Ideal S1x384 .f32) : FVec Ideal S8192x384 .bf16 :=
  truncf .bf16 (mulf (mulf x (broadcastInDim S8192x384 ![0, 1] bcast_S8192x1_S8192x384_0_1 (Host.rsqrt (addf (Host.divf (broadcastInDim S8192x1 ![0] bcast_S8192_S8192x1_0
    (Host.reduceAdd (mulf x x) (constant (F := Ideal) S_ .f32 0x00000000#32) reducesTo_S8192x384_S8192_d1 h_S_)) (broadcastInDim S8192x1 ![] bcast_S_S8192x1 (constant (F := Ideal) S_ .f32 0x43C00000#32)))
    (broadcastInDim S8192x1 ![] bcast_S_S8192x1 (constant (F := Ideal) S_ .f32 0x358637BD#32)))))) (broadcastInDim S8192x384 ![0, 1] bcast_S1x384_S8192x384_0_1 g)) bitsLt_bf16_f32
def hostNkv (x : FVec Ideal S8192x256 .f32) (g : FVec Ideal S1x256 .f32) : FVec Ideal S8192x256 .bf16 :=
  truncf .bf16 (mulf (mulf x (broadcastInDim S8192x256 ![0, 1] bcast_S8192x1_S8192x256_0_1 (Host.rsqrt (addf (Host.divf (broadcastInDim S8192x1 ![0] bcast_S8192_S8192x1_0
    (Host.reduceAdd (mulf x x) (constant (F := Ideal) S_ .f32 0x00000000#32) reducesTo_S8192x256_S8192_d1 h_S_)) (broadcastInDim S8192x1 ![] bcast_S_S8192x1 (constant (F := Ideal) S_ .f32 0x43800000#32)))
    (broadcastInDim S8192x1 ![] bcast_S_S8192x1 (constant (F := Ideal) S_ .f32 0x358637BD#32)))))) (broadcastInDim S8192x256 ![0, 1] bcast_S1x256_S8192x256_0_1 g)) bitsLt_bf16_f32

theorem hostNq_eq (x : ℕ → ℕ → ℝ) (g : ℕ → ℝ) : hostNq (mat x) (mat fun _ k => g k) = mat (nrm 384 384 x g) := by
  refine mat_ext fun r k => ?_
  pointwise [hostNq, mat]
  simp only [ofBits_384, ofBits_eps, ← EReal.coe_mul]
  erw [sum_coe]
  rw [div_coe _ _ (by norm_num), ← EReal.coe_add]
  erw [rsqrt_coe _ (ms_pos (by norm_num : (0:ℝ) < 384) fun k : Fin 384 => x r k)]
  rw [← EReal.coe_mul, ← EReal.coe_mul]
  rfl

theorem hostNkv_eq (x : ℕ → ℕ → ℝ) (g : ℕ → ℝ) : hostNkv (mat x) (mat fun _ k => g k) = mat (nrm 256 256 x g) := by
  refine mat_ext fun r k => ?_
  pointwise [hostNkv, mat]
  simp only [ofBits_256, ofBits_eps, ← EReal.coe_mul]
  erw [sum_coe]
  rw [div_coe _ _ (by norm_num), ← EReal.coe_add]
  erw [rsqrt_coe _ (ms_pos (by norm_num : (0:ℝ) < 256) fun k : Fin 256 => x r k)]
  rw [← EReal.coe_mul, ← EReal.coe_mul]
  rfl

theorem V_nq : (V m c main_v56 : FVec Ideal S8192x384 .bf16)
    = hostNq (takeQ (hostP (m ((c : Thread nD τ).loc main_arg0)) (m ((c : Thread nD τ).loc main_arg1)) (m ((c : Thread nD τ).loc main_arg2)))) (m ((c : Thread nD τ).loc main_arg3)) := by
  show after hostOps0 (fun b => m (c, b)) (Proc.devRef .tc main_v56) = _
  after_results
  rfl
theorem V_nkv : (V m c main_v70 : FVec Ideal S8192x256 .bf16)
    = hostNkv (takeKv (hostP (m ((c : Thread nD τ).loc main_arg0)) (m ((c : Thread nD τ).loc main_arg1)) (m ((c : Thread nD τ).loc main_arg2)))) (m ((c : Thread nD τ).loc main_arg5)) := by
  show after hostOps0 (fun b => m (c, b)) (Proc.devRef .tc main_v70) = _
  after_results
  rfl

end Cert.Kernel7Ideal.Prep
end
-- ==== Proof.PrepKernel.lean ====
/- The backward kernel of the low-rank projections' preparation: what its result arrays hold after the run, over real
   arguments. -/
module

public import proofs.«01_k».proof.Proof.PrepPay
public import proofs.«01_k».proof.Proof.PrepHost
public import Idealize.ShloMosaic.Lib.StableHlo.Run

@[expose] public section

set_option maxRecDepth 16384

noncomputable section

namespace Cert.Kernel7Ideal.Prep

open Cert.Kernel7Ideal Cert.Kernel7Ideal.Gen Cert.Mats Cert.Prep Cert.Reals Idealize.ShloMosaic Idealize.ShloMosaic.TcCoe Idealize.SL.Sem Idealize.ShloMosaic.StableHlo
open Idealize.ShloMosaic.Pipeline (Dat)

/-! ## The numbers -/

section Numbers
variable (cq ckv W U : ℕ → ℕ → ℝ) (gq gkv : ℕ → ℝ) (dq dk dv : ℕ → ℕ → ℕ → ℝ)

/-- The packed query cotangent; -/
def AQ : ℕ → ℕ → ℝ := DQ (tabC CO) (tabA SI) (tabB SI) (heads96 dq)
/-- the keys' cotangents, packed and divided; -/
def AK (r i : ℕ) : ℝ := heads96 dk r i / ln2
/-- the packed key and value cotangent; -/
def AKV : ℕ → ℕ → ℝ := DKV (AK dk) (heads64 dv)
/-- the cotangents of the two norms' results; -/
def NQ (r k : ℕ) : ℝ := ∑ i ∈ Finset.range 1024, AQ dq r i * rows96 W i k
def NKV (r k : ℕ) : ℝ := ∑ i ∈ Finset.range 1024, AKV dk dv r i * U k i
/-- the shared key lanes' cotangent; -/
def AKR : ℕ → ℕ → ℝ := DKR (tabC CO) (tabA SI) (tabB SI) (AK dk)
/-- and the 768 columns of the projections' cotangent the call writes. -/
def LAT (r l : ℕ) : ℝ :=
  if l < 384 then nb 384 384 cq (NQ W dq) gq r l else if l < 640 then nb 256 256 ckv (NKV U dk dv) gkv r (l - 384) else AKR dk r (l - 640)
end Numbers

/-! ## Blocks -/

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 2] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 2] ∧ win0_14.index t = ![0, 0]
    ∧ win0_15.index t = ![0, 0] ∧ win0_16.index t = ![0, 0] ∧ win0_17.index t = ![0, 0] :=
  (by decide +kernel : ∀ t : Fin grid0.N, _)

/-- Row `r` of grid point `t`'s block of rows, as a row of the array. -/
def row (t : Fin cfg0.N) (r : Fin 512) : Fin 8192 := ⟨t.val * 512 + r.val, by have := lt_of_lt_of_eq t.isLt N_0; omega⟩

/-- A function's rows from grid point `t`'s block on. -/
abbrev at_ (t : Fin cfg0.N) (f : ℕ → ℕ → ℝ) : ℕ → ℕ → ℝ := fun r k => f (t.val * 512 + r) k

section Blocks
variable (t : Fin cfg0.N) (f : ℕ → ℕ → ℝ)

theorem blk0 (h : (V m c main_v73 : FVec Ideal S8192x1024 .f32) = mat f) : (iblk m c 0 t : Vec Ideal S512x1024 .f32) = mat (at_ t f) := by
  funext i
  refine Eq.trans (b := (V m c main_v73 : FVec Ideal S8192x1024 .f32) (ix2 (row t (i 0)) (i 1))) ?_ (congrFun h _)
  blk_ext [iblk, idx t, row]
theorem blk1 (h : (V m c main_v78 : FVec Ideal S8192x1024 .f32) = mat f) : (iblk m c 1 t : Vec Ideal S512x1024 .f32) = mat (at_ t f) := by
  funext i
  refine Eq.trans (b := (V m c main_v78 : FVec Ideal S8192x1024 .f32) (ix2 (row t (i 0)) (i 1))) ?_ (congrFun h _)
  blk_ext [iblk, idx t, row]
theorem blk2 (h : (V m c main_v81 : FVec Ideal S8192x1024 .f32) = mat f) : (iblk m c 2 t : Vec Ideal S512x1024 .f32) = mat (at_ t f) := by
  funext i
  refine Eq.trans (b := (V m c main_v81 : FVec Ideal S8192x1024 .f32) (ix2 (row t (i 0)) (i 1))) ?_ (congrFun h _)
  blk_ext [iblk, idx t, row]
theorem blk4 (h : (V m c main_v56 : FVec Ideal S8192x384 .bf16) = mat f) : (iblk m c 4 t : Vec Ideal S512x384 .bf16) = mat (at_ t f) := by
  funext i
  refine Eq.trans (b := (V m c main_v56 : FVec Ideal S8192x384 .bf16) (ix2 (row t (i 0)) (i 1))) ?_ (congrFun h _)
  blk_ext [iblk, idx t, row]
theorem blk5 (h : (V m c main_v70 : FVec Ideal S8192x256 .bf16) = mat f) : (iblk m c 5 t : Vec Ideal S512x256 .bf16) = mat (at_ t f) := by
  funext i
  refine Eq.trans (b := (V m c main_v70 : FVec Ideal S8192x256 .bf16) (ix2 (row t (i 0)) (i 1))) ?_ (congrFun h _)
  blk_ext [iblk, idx t, row]
theorem blk6 (h : (V m c main_arg3 : FVec Ideal S1x384 .f32) = mat f) : (iblk m c 6 t : Vec Ideal S1x384 .f32) = mat f := by
  funext i
  refine Eq.trans (b := (V m c main_arg3 : FVec Ideal S1x384 .f32) i) ?_ (congrFun h _)
  blk_ext [iblk, idx t]
theorem blk7 (h : (V m c main_arg5 : FVec Ideal S1x256 .f32) = mat f) : (iblk m c 7 t : Vec Ideal S1x256 .f32) = mat f := by
  funext i
  refine Eq.trans (b := (V m c main_arg5 : FVec Ideal S1x256 .f32) i) ?_ (congrFun h _)
  blk_ext [iblk, idx t]
theorem blk8 (h : (V m c main_v10 : FVec Ideal S1024x384 .bf16) = mat f) : (iblk m c 8 t : Vec Ideal S1024x384 .bf16) = mat f := by
  funext i
  refine Eq.trans (b := (V m c main_v10 : FVec Ideal S1024x384 .bf16) i) ?_ (congrFun h _)
  blk_ext [iblk, idx t]
theorem blk9 (h : (V m c main_v11 : FVec Ideal S256x1024 .bf16) = mat f) : (iblk m c 9 t : Vec Ideal S256x1024 .bf16) = mat f := by
  funext i
  refine Eq.trans (b := (V m c main_v11 : FVec Ideal S256x1024 .bf16) i) ?_ (congrFun h _)
  blk_ext [iblk, idx t]
theorem blk10 (h : (V m c main_v33 : FVec Ideal S8192x128 .f32) = mat f) : (iblk m c 10 t : Vec Ideal S512x128 .f32) = mat (at_ t f) := by
  funext i
  refine Eq.trans (b := (V m c main_v33 : FVec Ideal S8192x128 .f32) (ix2 (row t (i 0)) (i 1))) ?_ (congrFun h _)
  blk_ext [iblk, idx t, row]
theorem blk11 (h : (V m c main_v37 : FVec Ideal S8192x128 .f32) = mat f) : (iblk m c 11 t : Vec Ideal S512x128 .f32) = mat (at_ t f) := by
  funext i
  refine Eq.trans (b := (V m c main_v37 : FVec Ideal S8192x128 .f32) (ix2 (row t (i 0)) (i 1))) ?_ (congrFun h _)
  blk_ext [iblk, idx t, row]
theorem blk12 (h : (V m c main_v40 : FVec Ideal S8192x128 .f32) = mat f) : (iblk m c 12 t : Vec Ideal S512x128 .f32) = mat (at_ t f) := by
  funext i
  refine Eq.trans (b := (V m c main_v40 : FVec Ideal S8192x128 .f32) (ix2 (row t (i 0)) (i 1))) ?_ (congrFun h _)
  blk_ext [iblk, idx t, row]

/-- The projections' columns a block holds: the two low-rank activations. -/
abbrev ldQ : Vec Ideal S512x384 .bf16 := View.ld (iblk m c 3 t : Vec Ideal S512x768 .bf16) (Rect.unit ![0, 0] ![512, 384] inb_S512x768_S512x384_0_0)
abbrev ldKv : Vec Ideal S512x256 .bf16 := View.ld (iblk m c 3 t : Vec Ideal S512x768 .bf16) (Rect.unit ![0, 384] ![512, 256] inb_S512x768_S512x256_0_384)

theorem blk3 (i : S512x768.Idx) (hi : 1536 + (i 1).val < 2304) :
    (iblk m c 3 t : Vec Ideal S512x768 .bf16) i = (V m c main_v4 : FVec Ideal S8192x2304 .bf16) (ix2 (row t (i 0)) ⟨1536 + (i 1).val, hi⟩) := by
  blk_ext [iblk, idx t, row]

theorem ld_part (x : Vec Ideal S512x768 .bf16) (o n : ℕ) (inb) (r : Fin 512) (k : Fin n) (hk : o + k.val < 768) :
    (View.ld x (Rect.unit ![0, o] ![512, n] inb) : (⟨2, ![512, n]⟩ : Shape).Idx → EReal) (ix2 r k) = x (ix2 r (⟨o + k.val, hk⟩ : Fin 768)) := by
  refine congrArg x (funext fun a => ?_)
  fin_cases a
  · refine Fin.ext ?_; show 0 + 1 * r.val = r.val; omega
  · refine Fin.ext ?_; show o + 1 * k.val = o + k.val; omega

theorem ldQ_eq (kv kr) (h : (V m c main_v4 : FVec Ideal S8192x2304 .bf16) = hostP (mat f) kv kr) : ldQ m c t = mat (at_ t f) := by
  refine mat_ext fun r k => (ld_part (iblk m c 3 t) 0 384 _ r k (by omega)).trans ?_
  refine (blk3 m c t _ (by show 1536 + (0 + k.val) < 2304; omega)).trans ((congrFun h _).trans ?_)
  refine Eq.trans (congrArg (hostP (mat f) kv kr) ?_) (hostP_q (mat f) kv kr (row t r) k)
  exact congrArg (ix2 (row t r)) (Fin.ext (by show 1536 + (0 + k.val) = 1536 + k.val; omega))
theorem ldKv_eq (q kr) (h : (V m c main_v4 : FVec Ideal S8192x2304 .bf16) = hostP q (mat f) kr) : ldKv m c t = mat (at_ t f) := by
  refine mat_ext fun r k => (ld_part (iblk m c 3 t) 384 256 _ r k (by omega)).trans ?_
  exact (blk3 m c t _ (by show 1536 + (384 + k.val) < 2304; omega)).trans ((congrFun h _).trans (hostP_kv q (mat f) kr (row t r) k))
end Blocks

/-- The arguments are these real numbers. -/
structure Args (cq ckv W U : ℕ → ℕ → ℝ) (gq gkv : ℕ → ℝ) (dq dk dv : ℕ → ℕ → ℕ → ℝ) : Prop where
  h0 : m ((c : Thread nD τ).loc main_arg0) = (mat cq : FVec Ideal S8192x384 .f32)
  h1 : m ((c : Thread nD τ).loc main_arg1) = (mat ckv : FVec Ideal S8192x256 .f32)
  h3 : m ((c : Thread nD τ).loc main_arg3) = (mat fun _ k => gq k : FVec Ideal S1x384 .f32)
  h4 : m ((c : Thread nD τ).loc main_arg4) = (mat W : FVec Ideal S384x768 .f32)
  h5 : m ((c : Thread nD τ).loc main_arg5) = (mat fun _ k => gkv k : FVec Ideal S1x256 .f32)
  h6 : m ((c : Thread nD τ).loc main_arg6) = (mat U : FVec Ideal S256x1024 .f32)
  h7 : m ((c : Thread nD τ).loc main_arg7) = (cube dq : FVec Ideal S8192x8x96 .f32)
  h8 : m ((c : Thread nD τ).loc main_arg8) = (cube dk : FVec Ideal S8192x8x96 .f32)
  h9 : m ((c : Thread nD τ).loc main_arg9) = (cube dv : FVec Ideal S8192x8x64 .f32)

section Points
variable {cq ckv W U : ℕ → ℕ → ℝ} {gq gkv : ℕ → ℝ} {dq dk dv : ℕ → ℕ → ℕ → ℝ} (H : Args m c cq ckv W U gq gkv dq dk dv) (t : Fin cfg0.N)
include H

theorem p0 : (iblk m c 0 t : Vec Ideal S512x1024 .f32) = mat (at_ t (heads96 dq)) := blk0 m c t _ ((V_q m c).trans ((congrArg hostQ H.h7).trans (hostQ_eq _)))
theorem p1 : (iblk m c 1 t : Vec Ideal S512x1024 .f32) = mat (at_ t (AK dk)) := blk1 m c t _ ((V_k m c).trans ((congrArg hostK H.h8).trans (hostK_eq _)))
theorem p2 : (iblk m c 2 t : Vec Ideal S512x1024 .f32) = mat (at_ t (heads64 dv)) := blk2 m c t _ ((V_v m c).trans ((congrArg hostV H.h9).trans (hostV_eq _)))
theorem p3q : ldQ m c t = mat (at_ t cq) := ldQ_eq m c t cq _ _ ((V_p m c).trans (by rw [H.h0]))
theorem p3kv : ldKv m c t = mat (at_ t ckv) := ldKv_eq m c t ckv _ _ ((V_p m c).trans (by rw [H.h1]))
theorem p4 : (iblk m c 4 t : Vec Ideal S512x384 .bf16) = mat (at_ t (nrm 384 384 cq gq)) :=
  blk4 m c t _ ((V_nq m c).trans (by rw [takeQ_eq, H.h0, H.h3]; exact hostNq_eq _ _))
theorem p5 : (iblk m c 5 t : Vec Ideal S512x256 .bf16) = mat (at_ t (nrm 256 256 ckv gkv)) :=
  blk5 m c t _ ((V_nkv m c).trans (by rw [takeKv_eq, H.h1, H.h5]; exact hostNkv_eq _ _))
theorem p6 : (iblk m c 6 t : Vec Ideal S1x384 .f32) = mat fun _ k => gq k := blk6 m c t _ ((V_main_arg3 m c).trans H.h3)
theorem p7 : (iblk m c 7 t : Vec Ideal S1x256 .f32) = mat fun _ k => gkv k := blk7 m c t _ ((V_main_arg5 m c).trans H.h5)
theorem p8 : (iblk m c 8 t : Vec Ideal S1024x384 .bf16) = mat (rows96 W) := blk8 m c t _ ((V_wq m c).trans ((congrArg hostWq H.h4).trans (hostWq_eq _)))
theorem p9 : (iblk m c 9 t : Vec Ideal S256x1024 .bf16) = mat U := blk9 m c t _ ((V_wkv m c).trans H.h6)
omit H in
theorem p10 : (iblk m c 10 t : Vec Ideal S512x128 .f32) = mat (at_ t (tabC CO)) := blk10 m c t _ ((V_c m c).trans ((congrArg hostC cos_angles).trans (hostC_eq _)))
omit H in
theorem p11 : (iblk m c 11 t : Vec Ideal S512x128 .f32) = mat (at_ t (tabA SI)) := blk11 m c t _ ((V_sa m c).trans ((congrArg hostA sin_angles).trans (hostA_eq _)))
omit H in
theorem p12 : (iblk m c 12 t : Vec Ideal S512x128 .f32) = mat (at_ t (tabB SI)) := blk12 m c t _ ((V_sb m c).trans ((congrArg hostB sin_angles).trans (hostB_eq _)))

theorem at_dq : dqOf (iblk m c 10 t) (iblk m c 11 t) (iblk m c 12 t) (iblk m c 0 t) = mat (at_ t (AQ dq)) :=
  dqOf_eq _ _ _ _ _ _ (p10 m c t) (p11 m c t) (p12 m c t) _ _ (p0 m c H t)
theorem at_dkv : dkvOf (iblk m c 1 t) (iblk m c 2 t) = mat (at_ t (AKV dk dv)) := dkvOf_eq _ _ _ _ (p1 m c H t) (p2 m c H t)
theorem at_dkr : k0_pay6 (F := Ideal) (dkrOf (iblk m c 10 t) (iblk m c 11 t) (iblk m c 12 t) (iblk m c 1 t)) = mat (at_ t (AKR dk)) :=
  dkrOf_eq _ _ _ _ _ _ _ (p10 m c t) (p11 m c t) (p12 m c t) _ (p1 m c H t)

theorem at_nq : k0_pay49 (F := Ideal) (dqOf (iblk m c 10 t) (iblk m c 11 t) (iblk m c 12 t) (iblk m c 0 t)) (iblk m c 8 t) = mat (at_ t (NQ W dq)) := by
  rw [at_dq m c H t, p8 m c H t]
  exact pay_dcqn _ _
theorem at_nkv : k0_pay58 (F := Ideal) (dkvOf (iblk m c 1 t) (iblk m c 2 t)) (iblk m c 9 t) = mat (at_ t (NKV U dk dv)) := by
  rw [at_dkv m c H t, p9 m c H t]
  exact pay_dckvn _ _

theorem at_lat_q : k0_pay4 (F := Ideal) (k0_pay56 (F := Ideal) (k0_pay52 (F := Ideal) (ldQ m c t)) (k0_pay53 (F := Ideal) (ldQ m c t))
      (k0_pay54 (F := Ideal) (dqOf (iblk m c 10 t) (iblk m c 11 t) (iblk m c 12 t) (iblk m c 0 t)) (iblk m c 8 t) (iblk m c 6 t))
      (k0_pay55 (F := Ideal) (dqOf (iblk m c 10 t) (iblk m c 11 t) (iblk m c 12 t) (iblk m c 0 t)) (iblk m c 8 t) (ldQ m c t) (iblk m c 6 t)))
    = mat (at_ t (nb 384 384 cq (NQ W dq) gq)) := by
  rw [at_dq m c H t, p8 m c H t, p6 m c H t, p3q m c H t]
  exact nb_q _ _ _ _
theorem at_lat_kv : k0_pay5 (F := Ideal) (k0_pay58 (F := Ideal) (dkvOf (iblk m c 1 t) (iblk m c 2 t)) (iblk m c 9 t)) (k0_pay60 (F := Ideal) (ldKv m c t))
      (iblk m c 7 t) (k0_pay61 (F := Ideal) (ldKv m c t))
    = mat (at_ t (nb 256 256 ckv (NKV U dk dv) gkv)) := by
  rw [at_nkv m c H t, p7 m c H t, p3kv m c H t]
  exact nb_kv _ _ _

theorem at_wq (acc : Vec Ideal S1024x384 .f32) (z : S1024x384.Idx) :
    k0_pay50 (F := Ideal) (dqOf (iblk m c 10 t) (iblk m c 11 t) (iblk m c 12 t) (iblk m c 0 t)) acc (iblk m c 4 t) z
      = acc z + ((∑ r ∈ Finset.range 512, at_ t (AQ dq) r (z 0).val * at_ t (nrm 384 384 cq gq) r (z 1).val : ℝ) : EReal) := by
  rw [at_dq m c H t, p4 m c H t]
  obtain ⟨i, k, rfl⟩ : ∃ (i : Fin 1024) (k : Fin 384), z = ix2 i k := ⟨_, _, eq_ix2 z⟩
  exact pay_dwq _ _ acc i k
theorem at_wkv (acc : Vec Ideal S256x1024 .f32) (z : S256x1024.Idx) :
    k0_pay59 (F := Ideal) (dkvOf (iblk m c 1 t) (iblk m c 2 t)) acc (iblk m c 5 t) z
      = acc z + ((∑ r ∈ Finset.range 512, at_ t (nrm 256 256 ckv gkv) r (z 0).val * at_ t (AKV dk dv) r (z 1).val : ℝ) : EReal) := by
  rw [at_dkv m c H t, p5 m c H t]
  obtain ⟨i, k, rfl⟩ : ∃ (i : Fin 256) (k : Fin 1024), z = ix2 i k := ⟨_, _, eq_ix2 z⟩
  exact pay_dwkv _ _ acc i k
theorem at_gq (acc : Vec Ideal S1x384 .f32) (z : S1x384.Idx) :
    k0_pay57 (F := Ideal) (k0_pay49 (F := Ideal) (dqOf (iblk m c 10 t) (iblk m c 11 t) (iblk m c 12 t) (iblk m c 0 t)) (iblk m c 8 t)) (k0_pay53 (F := Ideal) (ldQ m c t)) acc z
      = acc z + ((∑ r ∈ Finset.range 512, at_ t (NQ W dq) r (z 1).val * (at_ t cq r (z 1).val * rs 384 384 (at_ t cq) r) : ℝ) : EReal) := by
  rw [at_nq m c H t, p3q m c H t]
  obtain ⟨k, rfl⟩ : ∃ k : Fin 384, z = ix2 0 k := ⟨z 1, by idx_ext⟩
  exact pay_dgq _ _ acc k
theorem at_gkv (acc : Vec Ideal S1x256 .f32) (z : S1x256.Idx) :
    k0_pay3 (F := Ideal) (k0_pay58 (F := Ideal) (dkvOf (iblk m c 1 t) (iblk m c 2 t)) (iblk m c 9 t)) (k0_pay60 (F := Ideal) (ldKv m c t)) (k0_pay61 (F := Ideal) (ldKv m c t)) acc z
      = acc z + ((∑ r ∈ Finset.range 512, at_ t (NKV U dk dv) r (z 1).val * (at_ t ckv r (z 1).val * rs 256 256 (at_ t ckv) r) : ℝ) : EReal) := by
  rw [at_nkv m c H t, p3kv m c H t]
  obtain ⟨k, rfl⟩ : ∃ k : Fin 256, z = ix2 0 k := ⟨z 1, by idx_ext⟩
  exact pay_dgkv _ _ acc k
end Points

end Cert.Kernel7Ideal.Prep
end
-- ==== Proof.PrepFinal.lean ====
/- The backward kernel of the low-rank projections' preparation: the blocks put together, the lines after the call, and
   the run. -/
module

public import proofs.«01_k».proof.Proof.PrepKernel

@[expose] public section

set_option maxRecDepth 16384

noncomputable section

namespace Cert.Kernel7Ideal.Prep

open Cert.Kernel7Ideal Cert.Kernel7Ideal.Gen Cert.Mats Cert.Prep Cert.Reals Idealize.ShloMosaic Idealize.ShloMosaic.TcCoe Idealize.SL.Sem Idealize.ShloMosaic.StableHlo
open Idealize.ShloMosaic.Pipeline (Dat)

/-- A matrix at a place of a rectangle of columns. -/
theorem mat_rect (G : ℕ → ℕ → ℝ) (o n : ℕ) (inb) (r : Fin 512) (k : Fin n) :
    (mat G : S512x768.Idx → EReal) ((Rect.unit (s := S512x768) ![0, o] ![512, n] inb).emb (ix2 r k : (⟨2, ![512, n]⟩ : Shape).Idx)) = ((G r.val (o + k.val) : ℝ) : EReal) := by
  refine congrArg _ (congrArg₂ G ?_ ?_)
  · show 0 + 1 * r.val = r.val; omega
  · show o + 1 * k.val = o + k.val; omega

theorem piece (G g : ℕ → ℕ → ℝ) (o n : ℕ) (inb) (v : (⟨2, ![512, n]⟩ : Shape).Idx → EReal) (hv : v = mat g) (h : ∀ r < 512, ∀ k < n, g r k = G r (o + k))
    (x : (⟨2, ![512, n]⟩ : Shape).Idx) : v x = (mat G : S512x768.Idx → EReal) ((Rect.unit (s := S512x768) ![0, o] ![512, n] inb).emb x) := by
  obtain ⟨r, k, rfl⟩ : ∃ (r : Fin 512) (k : Fin n), x = ix2 r k := ⟨_, _, eq_ix2 x⟩
  rw [mat_rect, hv]
  exact congrArg _ (h _ r.isLt _ k.isLt)

/-- The sum over all rows, from the sums over the blocks of rows. -/
theorem sum_rows (f : ℕ → ℝ) (t : Fin cfg0.N) (hf : t.val % 16 = 15) :
    (∑ s : Fin 16, ((∑ r ∈ Finset.range 512, f ((16 * (t.val / 16) + s.val) * 512 + r) : ℝ) : EReal)) = ((∑ r ∈ Finset.range 8192, f r : ℝ) : EReal) := by
  have ht := lt_of_lt_of_eq t.isLt N_0
  refine (sum_coe _ _).trans (congrArg _ ?_)
  rw [Finset.sum_range]
  simp only [Finset.sum_range fun r => f ((16 * (t.val / 16) + _) * 512 + r)]
  refine Fin.sum_mul_add_congr fun s r hl => ?_
  exact congrArg f (by show (16 * (t.val / 16) + s.val) * 512 + r.val = s.val * 512 + r.val; omega)

variable (m : (ℓ : Loc nD τ sig) → Buf (Elt Ideal) ℓ) (c : Dev nD)

section Final
variable {cq ckv W U : ℕ → ℕ → ℝ} {gq gkv : ℕ → ℝ} {dq dk dv : ℕ → ℕ → ℕ → ℝ} (H : Args m c cq ckv W U gq gkv dq dk dv)
include H

set_option maxHeartbeats 4000000 in
theorem out_lat (t : Fin cfg0.N) : (outsAt0 m c t.val t.isLt).1 = (mat (at_ t (LAT cq ckv W U gq gkv dq dk dv)) : FVec Ideal S512x768 .bf16) := by
  funext z
  by_cases h : t.val % 16 = 0
  on_goal 1 => rw [outsAt0_A m c t h]
  on_goal 2 => rw [outsAt0_B m c t h]
  all_goals
    frame_out
    apply View.canon_apply_of_pieces
    · simp only [List.forall_mem_cons]
      refine ⟨?_, ?_, ?_, fun _ h => absurd h List.not_mem_nil⟩
      · exact piece _ _ 640 128 _ _ (at_dkr m c H t) fun r _ k _ => by
          show _ = LAT cq ckv W U gq gkv dq dk dv _ _
          rw [LAT, if_neg (by omega), if_neg (by omega), Nat.add_sub_cancel_left]
      · exact piece _ _ 384 256 _ _ (at_lat_kv m c H t) fun r _ k _ => by
          show _ = LAT cq ckv W U gq gkv dq dk dv _ _
          rw [LAT, if_neg (by omega), if_pos (by omega), Nat.add_sub_cancel_left]
      · exact piece _ _ 0 384 _ _ (at_lat_q m c H t) fun r _ k _ => by
          show _ = LAT cq ckv W U gq gkv dq dk dv _ _
          rw [LAT, if_pos (by omega), Nat.zero_add]
    · have h0 : (z 0).val < 512 := (z 0).isLt
      have h1 : (z 1).val < 768 := (z 1).isLt
      simp only [List.exists_mem_cons_iff, Rect.mem_set_unit]
      simp [Fin.forall_fin_succ]
      omega

theorem final_lat : (dats m 0 c).arrAt 13 (cfgs 0).N = (fun i : S8192x2304.Idx => if (i 1 : ℕ) / 768 = 2 then
      ((LAT cq ckv W U gq gkv dq dk dv (i 0).val ((i 1).val - 1536) : ℝ) : EReal) else (dats m 0 c).A 13 i) := by
  refine (dats m 0 c).arrAt_eq_of_coversWhere 13 _ (fun β => β (1 : Fin _) = 2) (by decide +kernel) (fun t hf z => ?_) (fun j => Iff.rfl)
  blk_simp
  rw [after0_13]
  refine (congrFun (out_lat m c H t) z).trans ?_
  rw [(idx t).2.2.2.2.2.2.2.2.2.2.2.2.2.1]
  exact congrArg _ (congrArg₂ (LAT cq ckv W U gq gkv dq dk dv) rfl (by show (z 1).val = 2 * 768 + (z 1).val - 1536; omega))

theorem final_wq : (dats m 0 c).arrAt 14 (cfgs 0).N = (mat fun i k => ∑ r ∈ Finset.range 8192, AQ dq r i * nrm 384 384 cq gq r k : FVec Ideal S1024x384 .f32) := by
  refine (dats m 0 c).arrAt_eq_of_covers 14 _ (by decide +kernel) fun t hf z => ?_
  have e : ((cfg0.win 14).blk t).view.emb z = (ix2 (z 0) (z 1) : S1024x384.Idx) := by blk_ext [idx t]
  blk_simp
  rw [after0_14, e, Pipeline.eq_sum_fin_of_reset_step_apply_of_flush (fun n h => (outsAt0 m c n h).2.1) 16 (fun _ => 0)
    (fun p z => ((∑ r ∈ Finset.range 512, at_ p (AQ dq) r (z 0).val * at_ p (nrm 384 384 cq gq) r (z 1).val : ℝ) : EReal))
    (fun t h j => by rw [outsAt0_A m c t h]; frame_out; exact (at_wq m c H t _ j).trans (congrArg (· + _) (pay_zero7 j)))
    (fun t h j => by rw [outsAt0_B m c t h]; frame_out; exact at_wq m c H t _ j)
    t ((flush0_14 t).mp hf) _, zero_add]
  exact sum_rows (fun r => AQ dq r (z 0).val * nrm 384 384 cq gq r (z 1).val) t ((flush0_14 t).mp hf)

theorem final_wkv : (dats m 0 c).arrAt 15 (cfgs 0).N = (mat fun k i => ∑ r ∈ Finset.range 8192, nrm 256 256 ckv gkv r k * AKV dk dv r i : FVec Ideal S256x1024 .f32) := by
  refine (dats m 0 c).arrAt_eq_of_covers 15 _ (by decide +kernel) fun t hf z => ?_
  have e : ((cfg0.win 15).blk t).view.emb z = (ix2 (z 0) (z 1) : S256x1024.Idx) := by blk_ext [idx t]
  blk_simp
  rw [after0_15, e, Pipeline.eq_sum_fin_of_reset_step_apply_of_flush (fun n h => (outsAt0 m c n h).2.2.1) 16 (fun _ => 0)
    (fun p z => ((∑ r ∈ Finset.range 512, at_ p (nrm 256 256 ckv gkv) r (z 0).val * at_ p (AKV dk dv) r (z 1).val : ℝ) : EReal))
    (fun t h j => by rw [outsAt0_A m c t h]; frame_out; exact (at_wkv m c H t _ j).trans (congrArg (· + _) (pay_zero8 j)))
    (fun t h j => by rw [outsAt0_B m c t h]; frame_out; exact at_wkv m c H t _ j)
    t ((flush0_15 t).mp hf) _, zero_add]
  exact sum_rows (fun r => nrm 256 256 ckv gkv r (z 0).val * AKV dk dv r (z 1).val) t ((flush0_15 t).mp hf)

theorem final_gq : (dats m 0 c).arrAt 16 (cfgs 0).N = (mat fun _ k => ∑ r ∈ Finset.range 8192, NQ W dq r k * (cq r k * rs 384 384 cq r) : FVec Ideal S1x384 .f32) := by
  refine (dats m 0 c).arrAt_eq_of_covers 16 _ (by decide +kernel) fun t hf z => ?_
  have e : ((cfg0.win 16).blk t).view.emb z = (ix2 0 (z 1) : S1x384.Idx) := by blk_ext [idx t]
  blk_simp
  rw [after0_16, e, Pipeline.eq_sum_fin_of_reset_step_apply_of_flush (fun n h => (outsAt0 m c n h).2.2.2.1) 16 (fun _ => 0)
    (fun p z => ((∑ r ∈ Finset.range 512, at_ p (NQ W dq) r (z 1).val * (at_ p cq r (z 1).val * rs 384 384 (at_ p cq) r) : ℝ) : EReal))
    (fun t h j => by rw [outsAt0_A m c t h]; frame_out; exact (at_gq m c H t _ j).trans (congrArg (· + _) (pay_zero9 j)))
    (fun t h j => by rw [outsAt0_B m c t h]; frame_out; exact at_gq m c H t _ j)
    t ((flush0_16 t).mp hf) _, zero_add]
  exact sum_rows (fun r => NQ W dq r (z 1).val * (cq r (z 1).val * rs 384 384 cq r)) t ((flush0_16 t).mp hf)

theorem final_gkv : (dats m 0 c).arrAt 17 (cfgs 0).N = (mat fun _ k => ∑ r ∈ Finset.range 8192, NKV U dk dv r k * (ckv r k * rs 256 256 ckv r) : FVec Ideal S1x256 .f32) := by
  refine (dats m 0 c).arrAt_eq_of_covers 17 _ (by decide +kernel) fun t hf z => ?_
  have e : ((cfg0.win 17).blk t).view.emb z = (ix2 0 (z 1) : S1x256.Idx) := by blk_ext [idx t]
  blk_simp
  rw [after0_17, e, Pipeline.eq_sum_fin_of_reset_step_apply_of_flush (fun n h => (outsAt0 m c n h).2.2.2.2) 16 (fun _ => 0)
    (fun p z => ((∑ r ∈ Finset.range 512, at_ p (NKV U dk dv) r (z 1).val * (at_ p ckv r (z 1).val * rs 256 256 (at_ p ckv) r) : ℝ) : EReal))
    (fun t h j => by rw [outsAt0_A m c t h]; frame_out; exact (at_gkv m c H t _ j).trans (congrArg (· + _) (pay_zero10 j)))
    (fun t h j => by rw [outsAt0_B m c t h]; frame_out; exact at_gkv m c H t _ j)
    t ((flush0_17 t).mp hf) _, zero_add]
  exact sum_rows (fun r => NKV U dk dv r (z 1).val * (ckv r (z 1).val * rs 256 256 ckv r)) t ((flush0_17 t).mp hf)
end Final

/-! ## The lines after the call -/

def hostLat (v : FVec Ideal S8192x2304 .bf16) : FVec Ideal S8192x768 .f32 := extf .f32 (extractStridedSlice S8192x768 ![0, 1536] v slices_S8192x2304_S8192x768_0_1536) bitsLt_bf16_f32
def hostCq (v : FVec Ideal S8192x2304 .bf16) : FVec Ideal S8192x384 .f32 := extractStridedSlice S8192x384 ![0, 0] (hostLat v) slices_S8192x768_S8192x384_0_0
def hostCkv (v : FVec Ideal S8192x2304 .bf16) : FVec Ideal S8192x256 .f32 := extractStridedSlice S8192x256 ![0, 384] (hostLat v) slices_S8192x768_S8192x256_0_384
def hostKr (v : FVec Ideal S8192x2304 .bf16) : FVec Ideal S8192x32 .f32 := extractStridedSlice S8192x32 ![0, 704] (hostLat v) slices_S8192x768_S8192x32_0_704
def hostUq (v : FVec Ideal S1024x384 .f32) : FVec Ideal S384x768 .f32 :=
  transpose S384x768 [1, 0] (shapeCast S768x384 (extractStridedSlice S8x96x384 ![0, 0, 0] (shapeCast S8x128x384 v shapeCasts_S1024x384_S8x128x384) slices_S8x128x384_S8x96x384_0_0_0)
    shapeCasts_S8x96x384_S768x384) transposes_S768x384_S384x768_1_0

section Host
variable (L : ℕ → ℕ → ℝ) (d : FVec Ideal S8192x2304 .bf16)

/-- The array with its last 768 columns written. -/
abbrev upd : FVec Ideal S8192x2304 .bf16 := fun i => if (i 1 : ℕ) / 768 = 2 then ((L (i 0).val ((i 1).val - 1536) : ℝ) : EReal) else d i

theorem hostLat_eq : hostLat (upd L d) = mat L := by
  refine mat_ext fun r l => ?_
  have hl := l.isLt
  pointwise [hostLat]
  show (if (1536 + l.val) / 768 = 2 then ((L r.val (1536 + l.val - 1536) : ℝ) : EReal) else _) = _
  rw [if_pos (by omega), Nat.add_sub_cancel_left]
theorem hostCq_eq : hostCq (upd L d) = mat L := by
  unfold hostCq
  rw [hostLat_eq]
  refine mat_ext fun r l => ?_
  pointwise [mat]
theorem hostCkv_eq : hostCkv (upd L d) = mat fun r k => L r (384 + k) := by
  unfold hostCkv
  rw [hostLat_eq]
  refine mat_ext fun r l => ?_
  pointwise [mat]
theorem hostKr_eq : hostKr (upd L d) = mat fun r k => L r (704 + k) := by
  unfold hostKr
  rw [hostLat_eq]
  refine mat_ext fun r l => ?_
  pointwise [mat]
theorem hostUq_eq (A : ℕ → ℕ → ℝ) : hostUq (mat A) = mat fun k j => A (j / 96 * 128 + j % 96) k := by
  refine mat_ext fun k j => ?_
  have hj := j.isLt
  pointwise [hostUq, mat]
end Host

set_option maxHeartbeats 1000000 in
/-- What the run leaves: the seven results, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v90) = hostCq ((dats m 0 c).arrAt 13 (cfgs 0).N)
      ∧ r.2.mem ((c : Thread nD τ).loc main_v91) = hostCkv ((dats m 0 c).arrAt 13 (cfgs 0).N)
      ∧ r.2.mem ((c : Thread nD τ).loc main_v92) = hostKr ((dats m 0 c).arrAt 13 (cfgs 0).N)
      ∧ r.2.mem ((c : Thread nD τ).loc main_v83_3) = (dats m 0 c).arrAt 16 (cfgs 0).N
      ∧ r.2.mem ((c : Thread nD τ).loc main_v89) = hostUq ((dats m 0 c).arrAt 14 (cfgs 0).N)
      ∧ r.2.mem ((c : Thread nD τ).loc main_v83_4) = (dats m 0 c).arrAt 17 (cfgs 0).N
      ∧ r.2.mem ((c : Thread nD τ).loc main_v83_2) = (dats m 0 c).arrAt 15 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ⟨?_, ?_, ?_, (h c).1 16, ?_, (h c).1 17, (h c).1 15,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 6).trans (((dats m 0 c).arrAt_in 6 rfl _).trans ((A_eq m c 6).trans (V_main_arg3 m c))),
      ((h c).2 main_arg4 (Pipeline.mem_restRefs_of main_arg4 (by decide) (by decide))).trans (W_main_arg4 m (dats m) c),
      ((h c).1 7).trans (((dats m 0 c).arrAt_in 7 rfl _).trans ((A_eq m c 7).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩) (run_main m ρ)
  · refine ((h c).2 main_v90 (Pipeline.mem_restRefs_of main_v90 (by decide) (by decide))).trans ?_
    show after hostOps1 _ (Proc.devRef .tc main_v90) = _
    after_results
    exact congrArg hostCq (Pipeline.withArrays_arr spec0 launch0.win.arr_inj c (V0 m c) (fun w => (dats m 0 c).arrAt w (cfgs 0).N) 13)
  · refine ((h c).2 main_v91 (Pipeline.mem_restRefs_of main_v91 (by decide) (by decide))).trans ?_
    show after hostOps1 _ (Proc.devRef .tc main_v91) = _
    after_results
    exact congrArg hostCkv (Pipeline.withArrays_arr spec0 launch0.win.arr_inj c (V0 m c) (fun w => (dats m 0 c).arrAt w (cfgs 0).N) 13)
  · refine ((h c).2 main_v92 (Pipeline.mem_restRefs_of main_v92 (by decide) (by decide))).trans ?_
    show after hostOps1 _ (Proc.devRef .tc main_v92) = _
    after_results
    exact congrArg hostKr (Pipeline.withArrays_arr spec0 launch0.win.arr_inj c (V0 m c) (fun w => (dats m 0 c).arrAt w (cfgs 0).N) 13)
  · refine ((h c).2 main_v89 (Pipeline.mem_restRefs_of main_v89 (by decide) (by decide))).trans ?_
    show after hostOps1 _ (Proc.devRef .tc main_v89) = _
    after_results
    exact congrArg hostUq (Pipeline.withArrays_arr spec0 launch0.win.arr_inj c (V0 m c) (fun w => (dats m 0 c).arrAt w (cfgs 0).N) 14)

end Cert.Kernel7Ideal.Prep
end
-- ==== Proof.PrepRef.lean ====
/- The reference of the low-rank projections' preparation's gradient over real arguments, and its numbers against the
   kernel's. -/
module

public import proofs.«01_k».proof.Proof.PrepKernel
public import proofs.«01_k».proof.Proof.Gen.Reference7Ideal.Read

@[expose] public section

set_option maxRecDepth 16384

noncomputable section

namespace Cert.Reference7Ideal.Prep

open Cert.Reference7Ideal Cert.Reference7Ideal.Read Cert.Mats Cert.Prep Cert.Rms Cert.Reals Idealize.ShloMosaic
open Cert.Kernel7Ideal.Prep (mat_ext mat_congr CO SI AQ AK AKV AKR NQ NKV angles cos_angles sin_angles ofBits_zero)

/-! ## The numbers -/

section Numbers
variable (W U : ℕ → ℕ → ℝ) (dq dk dv : ℕ → ℕ → ℕ → ℝ)

/-- The query cotangent, scaled and turned backwards, with 96 columns a head; -/
def RQ (r j : ℕ) : ℝ := back CO SI (fun r l => dq r (j / 96) l * sc) r (j % 96)
/-- the cotangent of the query norm's result; -/
def RNQ (r k : ℕ) : ℝ := ∑ j ∈ Finset.range 768, RQ dq r j * W k j
/-- the key and value cotangent; -/
def RKV (r i : ℕ) : ℝ := if i % 128 < 64 then dk r (i / 128) (i % 128) else dv r (i / 128) (i % 128 - 64)
/-- the cotangent of the other norm's result; -/
def RNKV (r k : ℕ) : ℝ := ∑ i ∈ Finset.range 1024, RKV dk dv r i * U k i
/-- the shared key lanes' cotangent, over the heads, -/
def SK (r l : ℕ) : ℝ := ∑ h ∈ Finset.range 8, dk r h (64 + l)
/-- and turned backwards. -/
def RKR (r l : ℕ) : ℝ := if l < 16 then SK dk r (l + 16) * SI r l + SK dk r l * CO r l else SK dk r l * CO r (l - 16) - SK dk r (l - 16) * SI r (l - 16)

theorem back_congr {y y' : ℕ → ℕ → ℝ} (r l : ℕ) (hl : l < 96) (h : ∀ l < 96, y r l = y' r l) : back CO SI y r l = back CO SI y' r l := by
  unfold back
  split_ifs
  · exact h l hl
  · rw [h l hl, h (l + 16) (by omega)]
  · rw [h l hl, h (l - 16) (by omega)]

theorem AQ_eq (r i : ℕ) (hi : i % 128 < 96) : AQ dq r i = back CO SI (fun r l => dq r (i / 128) l * sc) r (i % 128) := by
  unfold AQ DQ
  rw [unrope_eq _ _ _ _ _ (by omega)]
  refine back_congr r _ hi fun l hl => ?_
  show heads96 dq r (128 * (i / 128) + l) * sc = _
  unfold heads96
  rw [if_pos (by omega), show (128 * (i / 128) + l) / 128 = i / 128 by omega, show (128 * (i / 128) + l) % 128 = l by omega]

theorem AQ_at (r j : ℕ) : AQ dq r (j / 96 * 128 + j % 96) = RQ dq r j := by
  rw [AQ_eq dq r _ (by omega), show (j / 96 * 128 + j % 96) / 128 = j / 96 by omega, show (j / 96 * 128 + j % 96) % 128 = j % 96 by omega]
  rfl

theorem NQ_eq : NQ W dq = RNQ W dq := by
  funext r k
  unfold NQ RNQ
  have e : ∀ i, AQ dq r i * rows96 W i k = if i % 128 < 96 then AQ dq r i * W k (i / 128 * 96 + i % 128) else 0 := fun i => by
    unfold rows96
    rw [mul_ite, mul_zero]
  rw [Finset.sum_congr rfl fun i _ => e i, ← Finset.sum_filter]
  refine Finset.sum_nbij' (fun i => i / 128 * 96 + i % 128) (fun j => j / 96 * 128 + j % 96) ?_ ?_ ?_ ?_ ?_
  · intro i hi; simp only [Finset.mem_filter, Finset.mem_range] at hi ⊢; omega
  · intro j hj; simp only [Finset.mem_filter, Finset.mem_range] at hj ⊢; omega
  · intro i hi; simp only [Finset.mem_filter, Finset.mem_range] at hi ⊢; omega
  · intro j hj; simp only [Finset.mem_range] at hj ⊢; omega
  · intro i hi
    simp only [Finset.mem_filter, Finset.mem_range] at hi
    rw [← AQ_at, show (i / 128 * 96 + i % 128) / 96 * 128 + (i / 128 * 96 + i % 128) % 96 = i by omega]

theorem AKV_eq : AKV dk dv = RKV dk dv := by
  funext r i
  unfold AKV DKV RKV AK heads96 heads64
  split_ifs
  · rw [div_mul_cancel₀ _ ln2_ne]
  · omega
  · rfl

theorem NKV_eq : NKV U dk dv = RNKV U dk dv := by
  funext r k
  unfold NKV RNKV
  rw [AKV_eq]

theorem KS_eq (r l : ℕ) (hl : l < 32) : KS (AK dk) r (64 + l) = SK dk r l := by
  unfold KS SK AK
  refine Finset.sum_congr rfl fun h _ => ?_
  rw [div_mul_cancel₀ _ ln2_ne]
  unfold heads96
  rw [if_pos (by omega), show (128 * h + (64 + l)) / 128 = h by omega, show (128 * h + (64 + l)) % 128 = 64 + l by omega]

theorem AKR_eq (r l : ℕ) (hl : l < 32) : AKR dk r (64 + l) = RKR dk r l := by
  unfold AKR DKR
  rw [unrope_eq _ _ _ _ _ (by omega)]
  unfold back RKR
  rw [if_neg (by omega)]
  by_cases h : l < 16
  · rw [if_pos (by omega), if_pos h]
    dsimp only
    rw [if_pos (by omega), if_pos (by omega), Nat.add_sub_cancel_left, KS_eq dk r l hl,
      show 64 + l + 16 = 64 + (l + 16) by omega, KS_eq dk r _ (by omega)]
    ring
  · rw [if_neg (by omega), if_neg h, if_pos (by omega)]
    dsimp only
    rw [if_pos (by omega), if_pos (by omega), KS_eq dk r l hl,
      show 64 + l - 16 = 64 + (l - 16) by omega, KS_eq dk r _ (by omega), show 64 + l - 80 = l - 16 by omega]

theorem RQ_lo (r j : ℕ) (h : j % 96 < 64) : RQ dq r j = dq r (j / 96) (j % 96) * sc := by
  unfold RQ back; rw [if_pos h]
theorem RQ_mid (r j l : ℕ) (h : j % 96 = 64 + l) (hl : l < 16) : RQ dq r j = dq r (j / 96) (64 + (16 + l)) * sc * SI r l + dq r (j / 96) (64 + l) * sc * CO r l := by
  unfold RQ back
  rw [h, if_neg (by omega), if_pos (by omega), Nat.add_sub_cancel_left, show 64 + (16 + l) = 64 + l + 16 by omega, add_comm]
theorem RQ_hi (r j l : ℕ) (h : j % 96 = 80 + l) (hl : l < 16) : RQ dq r j = dq r (j / 96) (64 + (16 + l)) * sc * CO r l + -(dq r (j / 96) (64 + l) * sc) * SI r l := by
  unfold RQ back
  rw [h, if_neg (by omega), if_neg (by omega), if_pos (by omega), Nat.add_sub_cancel_left, show 64 + (16 + l) = 80 + l by omega, show 80 + l - 16 = 64 + l by omega]
  ring
theorem RKV_lo (r j : ℕ) (h : j % 128 < 64) : RKV dk dv r j = dk r (j / 128) (j % 128) := if_pos h
theorem RKV_hi (r j : ℕ) (h : ¬ j % 128 < 64) : RKV dk dv r j = dv r (j / 128) (j % 128 - 64) := if_neg h
theorem RKR_lo (r l : ℕ) (h : l < 16) : RKR dk r l = SK dk r (16 + l) * SI r l + SK dk r l * CO r l := by
  unfold RKR; rw [if_pos h, Nat.add_comm]
theorem RKR_hi (r l : ℕ) (h : ¬ l < 16) : RKR dk r l = SK dk r (16 + (l - 16)) * CO r (l - 16) + -SK dk r (l - 16) * SI r (l - 16) := by
  unfold RKR; rw [if_neg h, show 16 + (l - 16) = l by omega]; ring
end Numbers

/-! ## The reference's arrays -/

theorem v16_eq : val_main_v16 (F := Ideal) = mat CO := Eq.trans rfl cos_angles
theorem v17_eq : val_main_v17 (F := Ideal) = mat SI := Eq.trans rfl sin_angles

section Arrays
variable (cq ckv W U : ℕ → ℕ → ℝ) (gq gkv : ℕ → ℝ) (dq dk dv : ℕ → ℕ → ℕ → ℝ)

theorem v152_eq : val_main_v152 (F := Ideal) (cube dq) = mat (RQ dq) := by
  refine mat_ext fun r j => ?_
  have hj := j.isLt
  pointwise [val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v37, val_main_v38, val_main_cst_22, val_main_cst_23, val_main_cst_24, val_main_cst_25, val_main_cst_26, v16_eq, v17_eq]
  have hm : j.val % 96 < 96 := Nat.mod_lt _ (by norm_num)
  simp only [ofBits_sc, cube, mat, ix3, ix2, ← EReal.coe_mul, ← EReal.coe_neg, ← EReal.coe_add]
  by_cases h0 : j.val % 96 < 64
  · rw [dif_neg (by omega), dif_pos (by omega), zero_add, RQ_lo dq _ _ h0]
  · rw [dif_pos (show j.val / 96 < 8 ∧ 64 ≤ j.val % 96 ∧ j.val % 96 - 64 < 32 by omega), dif_neg (show ¬ (j.val / 96 < 8 ∧ j.val % 96 < 64) by omega), add_zero]
    by_cases h1 : j.val % 96 < 80
    · rw [dif_neg (by omega), dif_pos (by omega), zero_add, RQ_mid dq _ _ (j.val % 96 - 64) (by omega) (by omega)]
    · rw [dif_pos (by omega), dif_neg (by omega), add_zero, RQ_hi dq _ _ (j.val % 96 - 64 - 16) (by omega) (by omega)]

theorem v106_eq : val_main_v106 (F := Ideal) (cube dk) (cube dv) = mat (RKV dk dv) := by
  refine mat_ext fun r j => ?_
  have hj := j.isLt
  pointwise [val_main_v106, val_main_v90, val_main_v89, val_main_v87, val_main_v86, val_main_cst_12, val_main_cst_13]
  have hm : j.val % 128 < 128 := Nat.mod_lt _ (by norm_num)
  simp only [cube, ix3]
  by_cases h0 : j.val % 128 < 64
  · rw [dif_neg (show ¬ (j.val / 128 < 8 ∧ 64 ≤ j.val % 128 ∧ j.val % 128 - 64 < 64) by omega), dif_pos (show j.val / 128 < 8 ∧ j.val % 128 < 64 by omega), zero_add]
    rw [RKV_lo dk dv r j h0]
  · rw [dif_pos (show j.val / 128 < 8 ∧ 64 ≤ j.val % 128 ∧ j.val % 128 - 64 < 64 by omega), dif_neg (show ¬ (j.val / 128 < 8 ∧ j.val % 128 < 64) by omega), add_zero]
    rw [RKV_hi dk dv r j h0]

theorem v105_eq : val_main_v105 (F := Ideal) (cube dk) = mat (RKR dk) := by
  refine mat_ext fun r l => ?_
  have hl := l.isLt
  pointwise [val_main_v105, val_main_v104, val_main_v103, val_main_v102, val_main_v101, val_main_v100, val_main_v99, val_main_v98, val_main_v97, val_main_v96, val_main_v95, val_main_v94, val_main_v93, val_main_v92, val_main_v91, val_main_v88, val_main_cst_14, val_main_cst_15, val_main_cst_16, val_main_cst_17, v16_eq, v17_eq]
  have e : ∀ (l : ℕ) (hl : 64 + l < 96), (∑ x : Fin 8, cube (d := ![8192, 8, 96]) dk (ix3 r x ⟨64 + l, hl⟩)) = ((SK dk r l : ℝ) : EReal) := fun l hl => by
    simp only [cube, ix3]
    exact sum_fin 8 fun h => dk r h (64 + l)
  simp only [Fin.sum_univ_one, e]
  simp only [mat, ix2, ← EReal.coe_mul, ← EReal.coe_neg, ← EReal.coe_add]
  by_cases h0 : l.val < 16
  · rw [dif_neg (show ¬ (16 ≤ l.val ∧ l.val - 16 < 16) by omega), dif_pos h0, zero_add]
    exact congrArg Real.toEReal (RKR_lo dk r l h0).symm
  · rw [dif_pos (show 16 ≤ l.val ∧ l.val - 16 < 16 by omega)]
    simp only [h0, ↓reduceDIte, add_zero]
    exact congrArg Real.toEReal (RKR_hi dk r l h0).symm

theorem ms_q (r : Fin 8192) : val_main_v24 (F := Ideal) (mat cq) (ix2 r 0) = ((ms 384 (fun k : Fin 384 => cq r k) : ℝ) : EReal) := by
  pointwise [val_main_v24, val_main_v23, val_main_v22, val_main_v21, val_main_v20, val_main_v19, val_main_v18, val_main_cst_3, val_main_cst_4, val_main_cst_5]
  simp only [mat, ix2, ofBits_384, ofBits_eps, ← EReal.coe_mul, zero_add]
  erw [sum_coe]
  rw [div_coe _ _ (by norm_num), ← EReal.coe_add]
  rfl

theorem xh_q : val_main_v30 (F := Ideal) (mat cq) = mat fun r k => cq r k * rs 384 384 cq r := by
  refine mat_ext fun r k => ?_
  pointwise [val_main_v30, val_main_v29, val_main_v25]
  rw [ms_q, rsqrt_coe _ (ms_pos (by norm_num : (0:ℝ) < 384) _)]
  rfl

theorem n_q : val_main_v32 (F := Ideal) (mat cq) (mat fun _ k => gq k) = mat (nrm 384 384 cq gq) := by
  refine mat_ext fun r k => ?_
  pointwise [val_main_v32, val_main_v31, xh_q]
  rfl

theorem v154_eq : val_main_v154 (F := Ideal) (mat cq) (mat fun _ k => gq k) (cube dq) = mat fun k j => ∑ r ∈ Finset.range 8192, RQ dq r j * nrm 384 384 cq gq r k := by
  refine mat_ext fun k j => ?_
  pointwise [val_main_v154, val_main_v153, v152_eq, n_q]
  exact sum_fin 8192 fun r => RQ dq r j * nrm 384 384 cq gq r k

theorem v155_eq : val_main_v155 (F := Ideal) (mat W) (cube dq) = mat (RNQ W dq) := by
  refine mat_ext fun r k => ?_
  pointwise [val_main_v155, v152_eq]
  exact sum_fin 768 fun j => RQ dq r j * W k j

theorem v158_eq : val_main_v158 (F := Ideal) (mat cq) (mat W) (cube dq) = mat fun _ k => ∑ r ∈ Finset.range 8192, RNQ W dq r k * (cq r k * rs 384 384 cq r) := by
  refine mat_ext fun z k => ?_
  pointwise [val_main_v158, val_main_v157, val_main_v156, val_main_cst_27, v155_eq, xh_q]
  simp only [mat, ix2, ← EReal.coe_mul]
  exact (sum_fin 8192 fun r => cq r k * rs 384 384 cq r * RNQ W dq r k).trans (congrArg _ (Finset.sum_congr rfl fun _ _ => mul_comm _ _))

theorem v174_eq : val_main_v174 (F := Ideal) (mat cq) (mat fun _ k => gq k) (mat W) (cube dq) = mat (nb 384 384 cq (RNQ W dq) gq) := by
  refine mat_ext fun r k => ?_
  pointwise [val_main_v174, val_main_v173, val_main_v172, val_main_v171, val_main_v170, val_main_v169, val_main_v168, val_main_v167, val_main_v166, val_main_v165, val_main_v164, val_main_v163, val_main_v162, val_main_v161, val_main_v160, val_main_v159, val_main_v28, val_main_v27, val_main_v26, val_main_v25, val_main_cst_6, val_main_cst_28, val_main_cst_29, val_main_cst_30, v155_eq]
  have e : (∑ x : Fin 384, (mat cq : S8192x384.Idx → EReal) (ix2 r x) * ((mat (RNQ W dq) : S8192x384.Idx → EReal) (ix2 r x) * (mat (fun _ k => gq k) : S1x384.Idx → EReal) (ix2 0 x)))
      = ((∑ x : Fin 384, cq r x * (RNQ W dq r x * gq x) : ℝ) : EReal) :=
    (Finset.sum_congr rfl fun x _ => by simp only [mat, ix2, ← EReal.coe_mul]).trans (sum_coe _ fun x : Fin 384 => cq r x * (RNQ W dq r x * gq x))
  simp only [Fin.sum_univ_one, Fin.isValue, ms_q, e]
  simp only [mat, ix2, ofBits_384, ofBits_neg_half, rsqrt_coe _ (ms_pos (by norm_num : (0:ℝ) < 384) _),
    div_coe _ _ (ms_pos (by norm_num : (0:ℝ) < 384) _).ne', ← EReal.coe_mul, div_coe _ _ (by norm_num : (384:ℝ) ≠ 0), ← EReal.coe_add]
  rw [nb_eq, ← bwd_eq (by norm_num : (0:ℝ) < 384)]
  rfl
theorem ms_kv (r : Fin 8192) : val_main_v61 (F := Ideal) (mat ckv) (ix2 r 0) = ((ms 256 (fun k : Fin 256 => ckv r k) : ℝ) : EReal) := by
  pointwise [val_main_v61, val_main_v60, val_main_v59, val_main_v58, val_main_v57, val_main_v56, val_main_v55, val_main_cst_8, val_main_cst_9, val_main_cst_10]
  simp only [mat, ix2, ofBits_256, ofBits_eps, ← EReal.coe_mul, zero_add]
  erw [sum_coe]
  rw [div_coe _ _ (by norm_num), ← EReal.coe_add]
  rfl

theorem xh_kv : val_main_v67 (F := Ideal) (mat ckv) = mat fun r k => ckv r k * rs 256 256 ckv r := by
  refine mat_ext fun r k => ?_
  pointwise [val_main_v67, val_main_v66, val_main_v62]
  rw [ms_kv, rsqrt_coe _ (ms_pos (by norm_num : (0:ℝ) < 256) _)]
  rfl

theorem n_kv : val_main_v69 (F := Ideal) (mat ckv) (mat fun _ k => gkv k) = mat (nrm 256 256 ckv gkv) := by
  refine mat_ext fun r k => ?_
  pointwise [val_main_v69, val_main_v68, xh_kv]
  rfl

theorem v108_eq : val_main_v108 (F := Ideal) (mat ckv) (mat fun _ k => gkv k) (cube dk) (cube dv)
    = mat fun k i => ∑ r ∈ Finset.range 8192, nrm 256 256 ckv gkv r k * RKV dk dv r i := by
  refine mat_ext fun k i => ?_
  pointwise [val_main_v108, val_main_v107, v106_eq, n_kv]
  simp only [mat, ix2, ← EReal.coe_mul]
  exact (sum_fin 8192 fun r => RKV dk dv r i * nrm 256 256 ckv gkv r k).trans (congrArg _ (Finset.sum_congr rfl fun _ _ => mul_comm _ _))

theorem v109_eq : val_main_v109 (F := Ideal) (mat U) (cube dk) (cube dv) = mat (RNKV U dk dv) := by
  refine mat_ext fun r k => ?_
  pointwise [val_main_v109, v106_eq]
  exact sum_fin 1024 fun i => RKV dk dv r i * U k i

theorem v112_eq : val_main_v112 (F := Ideal) (mat ckv) (mat U) (cube dk) (cube dv)
    = mat fun _ k => ∑ r ∈ Finset.range 8192, RNKV U dk dv r k * (ckv r k * rs 256 256 ckv r) := by
  refine mat_ext fun z k => ?_
  pointwise [val_main_v112, val_main_v111, val_main_v110, val_main_cst_18, v109_eq, xh_kv]
  simp only [mat, ix2, ← EReal.coe_mul]
  exact (sum_fin 8192 fun r => ckv r k * rs 256 256 ckv r * RNKV U dk dv r k).trans (congrArg _ (Finset.sum_congr rfl fun _ _ => mul_comm _ _))

theorem v128_eq : val_main_v128 (F := Ideal) (mat ckv) (mat fun _ k => gkv k) (mat U) (cube dk) (cube dv) = mat (nb 256 256 ckv (RNKV U dk dv) gkv) := by
  refine mat_ext fun r k => ?_
  pointwise [val_main_v128, val_main_v127, val_main_v126, val_main_v125, val_main_v124, val_main_v123, val_main_v122, val_main_v121, val_main_v120, val_main_v119, val_main_v118, val_main_v117, val_main_v116, val_main_v115, val_main_v114, val_main_v113, val_main_v65, val_main_v64, val_main_v63, val_main_v62, val_main_cst_11, val_main_cst_19, val_main_cst_20, val_main_cst_21, v109_eq]
  have e : (∑ x : Fin 256, (mat ckv : S8192x256.Idx → EReal) (ix2 r x) * ((mat (RNKV U dk dv) : S8192x256.Idx → EReal) (ix2 r x) * (mat (fun _ k => gkv k) : S1x256.Idx → EReal) (ix2 0 x)))
      = ((∑ x : Fin 256, ckv r x * (RNKV U dk dv r x * gkv x) : ℝ) : EReal) :=
    (Finset.sum_congr rfl fun x _ => by simp only [mat, ix2, ← EReal.coe_mul]).trans (sum_coe _ fun x : Fin 256 => ckv r x * (RNKV U dk dv r x * gkv x))
  simp only [Fin.sum_univ_one, Fin.isValue, ms_kv, e]
  simp only [mat, ix2, ofBits_256, ofBits_neg_half, rsqrt_coe _ (ms_pos (by norm_num : (0:ℝ) < 256) _),
    div_coe _ _ (ms_pos (by norm_num : (0:ℝ) < 256) _).ne', ← EReal.coe_mul, div_coe _ _ (by norm_num : (256:ℝ) ≠ 0), ← EReal.coe_add]
  rw [nb_eq, ← bwd_eq (by norm_num : (0:ℝ) < 256)]
  rfl
end Arrays

end Cert.Reference7Ideal.Prep
end
-- ==== Proof.PrepPair.lean ====
/- The claims of the gradient of the latent norms and products: the idealized kernel and the reference leave the same seven
   results at finite arguments, and the reference keeps its arguments. -/
module

public import proofs.«01_k».proof.Defs
public import proofs.«01_k».proof.Proof.Gen.Reference7Ideal.Run
public import proofs.«01_k».proof.Proof.Fns
public import proofs.«01_k».proof.Proof.PrepFinal
public import proofs.«01_k».proof.Proof.PrepRef
public import Idealize.ShloMosaic.Adequacy
public import Idealize.ShloMosaic.Init

@[expose] public section

noncomputable section

namespace Cert.PrepPair

open Idealize.ShloMosaic Idealize.SL.Sem Cert.Mats

/-- Every entry of the arguments is a real number. -/
theorem args_real [Cert.Pre_finite7.Facts] (a0 : FVec Ideal Cert.Kernel7Ideal.S8192x384 .f32) (a1 : FVec Ideal Cert.Kernel7Ideal.S8192x256 .f32)
    (a2 : FVec Ideal Cert.Kernel7Ideal.S8192x32 .f32) (a3 : FVec Ideal Cert.Kernel7Ideal.S1x384 .f32) (a4 : FVec Ideal Cert.Kernel7Ideal.S384x768 .f32)
    (a5 : FVec Ideal Cert.Kernel7Ideal.S1x256 .f32) (a6 : FVec Ideal Cert.Kernel7Ideal.S256x1024 .f32) (a7 a8 : FVec Ideal Cert.Kernel7Ideal.S8192x8x96 .f32)
    (a9 : FVec Ideal Cert.Kernel7Ideal.S8192x8x64 .f32) (h : Cert.Pre_finite7.fn (F := Ideal) a0 a1 a2 a3 a4 a5 a6 a7 a8 a9 = fun _ => 1#1) :
    a0 = mat (fn2 a0) ∧ a1 = mat (fn2 a1) ∧ a3 = (mat fun _ k => fn2 a3 0 k) ∧ a4 = mat (fn2 a4) ∧ a5 = (mat fun _ k => fn2 a5 0 k) ∧ a6 = mat (fn2 a6)
      ∧ a7 = cube (fn3 a7) ∧ a8 = cube (fn3 a8) ∧ a9 = cube (fn3 a9) := by
  have h' := congrFun h (fun a => a.elim0)
  obtain ⟨h', g9⟩ := IntOp.andi_eq_one.1 h'
  obtain ⟨h', g8⟩ := IntOp.andi_eq_one.1 h'
  obtain ⟨h', g7⟩ := IntOp.andi_eq_one.1 h'
  obtain ⟨h', g6⟩ := IntOp.andi_eq_one.1 h'
  obtain ⟨h', g5⟩ := IntOp.andi_eq_one.1 h'
  obtain ⟨h', g4⟩ := IntOp.andi_eq_one.1 h'
  obtain ⟨h', g3⟩ := IntOp.andi_eq_one.1 h'
  obtain ⟨g0, g1⟩ := IntOp.andi_eq_one.1 h'
  haveI : Subsingleton Cert.Pre_finite7.S_.Idx := ⟨fun a b => funext fun k => k.elim0⟩
  exact ⟨mat_fn2 _ (Cert.Reals.finite_of_all _ _ _ _ _ _ (fun _ => Cert.Reals.ofBits_inf) g0),
    mat_fn2 _ (Cert.Reals.finite_of_all _ _ _ _ _ _ (fun _ => Cert.Reals.ofBits_inf) g1),
    row_fn2 _ (Cert.Reals.finite_of_all _ _ _ _ _ _ (fun _ => Cert.Reals.ofBits_inf) g3),
    mat_fn2 _ (Cert.Reals.finite_of_all _ _ _ _ _ _ (fun _ => Cert.Reals.ofBits_inf) g4),
    row_fn2 _ (Cert.Reals.finite_of_all _ _ _ _ _ _ (fun _ => Cert.Reals.ofBits_inf) g5),
    mat_fn2 _ (Cert.Reals.finite_of_all _ _ _ _ _ _ (fun _ => Cert.Reals.ofBits_inf) g6),
    cube_fn3 _ (Cert.Reals.finite_of_all _ _ _ _ _ _ (fun _ => Cert.Reals.ofBits_inf) g7),
    cube_fn3 _ (Cert.Reals.finite_of_all _ _ _ _ _ _ (fun _ => Cert.Reals.ofBits_inf) g8),
    cube_fn3 _ (Cert.Reals.finite_of_all _ _ _ _ _ _ (fun _ => Cert.Reals.ofBits_inf) g9)⟩

/-- The reference runs, keeps its arguments, and leaves every counter at zero: it declares none. -/
theorem reference_frame : Cert.quiescent_Reference7Ideal := fun m g _ =>
  (θ_run (Cert.Reference7Ideal.defs (F := Ideal)) _ _).mono
    (fun r h => ⟨fun c => (h c).2.2.2.2.2.2.2, sem_eq_zero_of_no_sems (by decide) r.2⟩) (Cert.Reference7Ideal.Value.run m g)

section Values
open Cert.Kernel7Ideal Cert.Kernel7Ideal.Gen Cert.Kernel7Ideal.Prep Cert.Reference7Ideal.Prep Cert.Prep

variable (m : (ℓ : Loc nD τ sig) → Buf (Elt Ideal) ℓ) (c : Dev nD)
variable {cq ckv W U : ℕ → ℕ → ℝ} {gq gkv : ℕ → ℝ} {dq dk dv : ℕ → ℕ → ℕ → ℝ} (H : Args m c cq ckv W U gq gkv dq dk dv)
include H

/-- The kernel's seven results in the reference's terms. -/
theorem kernel_cq : hostCq ((dats m 0 c).arrAt 13 (cfgs 0).N) = mat (nb 384 384 cq (RNQ W dq) gq) := by
  refine (congrArg hostCq (final_lat m c H)).trans ((hostCq_eq (LAT cq ckv W U gq gkv dq dk dv) ((dats m 0 c).A 13)).trans (mat_ext fun r k => ?_))
  show ((LAT cq ckv W U gq gkv dq dk dv r k : ℝ) : EReal) = _
  rw [← NQ_eq W dq]
  exact congrArg Real.toEReal (if_pos k.isLt)

theorem kernel_ckv : hostCkv ((dats m 0 c).arrAt 13 (cfgs 0).N) = mat (nb 256 256 ckv (RNKV U dk dv) gkv) := by
  refine (congrArg hostCkv (final_lat m c H)).trans ((hostCkv_eq (LAT cq ckv W U gq gkv dq dk dv) ((dats m 0 c).A 13)).trans (mat_ext fun r k => ?_))
  have hk := k.isLt
  show ((LAT cq ckv W U gq gkv dq dk dv r (384 + k) : ℝ) : EReal) = _
  unfold LAT
  rw [if_neg (by omega), if_pos (by omega), Nat.add_sub_cancel_left, NKV_eq U dk dv]

theorem kernel_kr : hostKr ((dats m 0 c).arrAt 13 (cfgs 0).N) = mat (RKR dk) := by
  refine (congrArg hostKr (final_lat m c H)).trans ((hostKr_eq (LAT cq ckv W U gq gkv dq dk dv) ((dats m 0 c).A 13)).trans (mat_ext fun r k => ?_))
  have hk := k.isLt
  show ((LAT cq ckv W U gq gkv dq dk dv r (704 + k) : ℝ) : EReal) = _
  unfold LAT
  rw [if_neg (by omega), if_neg (by omega), show 704 + k.val - 640 = 64 + k.val by omega, AKR_eq dk r k hk]

theorem kernel_uq : hostUq ((dats m 0 c).arrAt 14 (cfgs 0).N) = mat fun k j => ∑ r ∈ Finset.range 8192, RQ dq r j * nrm 384 384 cq gq r k := by
  refine (congrArg hostUq (final_wq m c H)).trans ((hostUq_eq _).trans (congrArg mat (funext fun k => funext fun j => Finset.sum_congr rfl fun r _ => ?_)))
  rw [AQ_at]

theorem kernel_ukv : (dats m 0 c).arrAt 15 (cfgs 0).N
    = (mat fun k i => ∑ r ∈ Finset.range 8192, nrm 256 256 ckv gkv r k * RKV dk dv r i : FVec Ideal S256x1024 .f32) := by
  refine (final_wkv m c H).trans ?_
  rw [AKV_eq]

theorem kernel_gq : (dats m 0 c).arrAt 16 (cfgs 0).N
    = (mat fun _ k => ∑ r ∈ Finset.range 8192, RNQ W dq r k * (cq r k * rs 384 384 cq r) : FVec Ideal S1x384 .f32) := by
  refine (final_gq m c H).trans ?_
  rw [NQ_eq]

theorem kernel_gkv : (dats m 0 c).arrAt 17 (cfgs 0).N
    = (mat fun _ k => ∑ r ∈ Finset.range 8192, RNKV U dk dv r k * (ckv r k * rs 256 256 ckv r) : FVec Ideal S1x256 .f32) := by
  refine (final_gkv m c H).trans ?_
  rw [NKV_eq]
end Values

set_option maxRecDepth 16384 in
open Cert.Reference7Ideal.Prep Cert.Kernel7Ideal.Prep Cert.Prep in
/-- What the reference leaves, at arguments of real numbers. -/
theorem reference_values (a0 : FVec Ideal Cert.Kernel7Ideal.S8192x384 .f32) (a1 : FVec Ideal Cert.Kernel7Ideal.S8192x256 .f32)
    (a3 : FVec Ideal Cert.Kernel7Ideal.S1x384 .f32) (a4 : FVec Ideal Cert.Kernel7Ideal.S384x768 .f32)
    (a5 : FVec Ideal Cert.Kernel7Ideal.S1x256 .f32) (a6 : FVec Ideal Cert.Kernel7Ideal.S256x1024 .f32) (a7 a8 : FVec Ideal Cert.Kernel7Ideal.S8192x8x96 .f32)
    (a9 : FVec Ideal Cert.Kernel7Ideal.S8192x8x64 .f32) (cq ckv W U : ℕ → ℕ → ℝ) (gq gkv : ℕ → ℝ) (dq dk dv : ℕ → ℕ → ℕ → ℝ)
    (h0 : a0 = mat cq) (h1 : a1 = mat ckv) (h3 : a3 = mat fun _ k => gq k) (h4 : a4 = mat W) (h5 : a5 = mat fun _ k => gkv k) (h6 : a6 = mat U)
    (h7 : a7 = cube dq) (h8 : a8 = cube dk) (h9 : a9 = cube dv) :
    Cert.Reference7Ideal.Read.val_main_v174 (F := Ideal) a0 a3 a4 a7 = mat (nb 384 384 cq (RNQ W dq) gq)
    ∧ Cert.Reference7Ideal.Read.val_main_v128 (F := Ideal) a1 a5 a6 a8 a9 = mat (nb 256 256 ckv (RNKV U dk dv) gkv)
    ∧ Cert.Reference7Ideal.Read.val_main_v105 (F := Ideal) a8 = mat (RKR dk)
    ∧ Cert.Reference7Ideal.Read.val_main_v158 (F := Ideal) a0 a4 a7 = (mat fun _ k => ∑ r ∈ Finset.range 8192, RNQ W dq r k * (cq r k * rs 384 384 cq r))
    ∧ Cert.Reference7Ideal.Read.val_main_v154 (F := Ideal) a0 a3 a7 = (mat fun k j => ∑ r ∈ Finset.range 8192, RQ dq r j * nrm 384 384 cq gq r k)
    ∧ Cert.Reference7Ideal.Read.val_main_v112 (F := Ideal) a1 a6 a8 a9 = (mat fun _ k => ∑ r ∈ Finset.range 8192, RNKV U dk dv r k * (ckv r k * rs 256 256 ckv r))
    ∧ Cert.Reference7Ideal.Read.val_main_v108 (F := Ideal) a1 a5 a8 a9 = (mat fun k i => ∑ r ∈ Finset.range 8192, nrm 256 256 ckv gkv r k * RKV dk dv r i) := by
  subst h0 h1 h3 h4 h5 h6 h7 h8 h9
  exact ⟨v174_eq _ _ _ _, v128_eq _ _ _ _ _, v105_eq _, v158_eq _ _ _, v154_eq _ _ _, v112_eq _ _ _ _, v108_eq _ _ _ _⟩

set_option maxRecDepth 16384 in
set_option maxHeartbeats 2000000 in
theorem algebraic [Cert.Pre_finite7.Facts] : Cert.algebraic_Kernel7Ideal_Reference7Ideal_pre_finite7 := by
  pair_intro
  · exact Cert.Kernel7Ideal.Prep.run m g
  · refine θ_run_mono (Cert.Reference7Ideal.Value.run m' g') fun r hr c => ⟨(hr c).1.trans ?_, (hr c).2.1.trans ?_, (hr c).2.2.1.trans ?_, (hr c).2.2.2.1.trans ?_, (hr c).2.2.2.2.1.trans ?_, (hr c).2.2.2.2.2.1.trans ?_, (hr c).2.2.2.2.2.2.1.trans ?_, (hr c).2.2.2.2.2.2.2⟩
    all_goals
      obtain ⟨e0, e1, e2, e3, e4, e5, e6, e7, e8, e9⟩ := hagree c
      obtain ⟨h0, h1, h3, h4, h5, h6, h7, h8, h9⟩ := args_real _ _ _ _ _ _ _ _ _ _ (hpre c)
      have H : Cert.Kernel7Ideal.Prep.Args m c _ _ _ _ _ _ _ _ _ := ⟨h0, h1, h3, h4, h5, h6, h7, h8, h9⟩
      obtain ⟨f0, f1, f2, f3, f4, f5, f6⟩ := reference_values _ _ _ _ _ _ _ _ _ _ _ _ _ _ _ _ _ _ (e0.trans h0) (e1.trans h1) (e3.trans h3) (e4.trans h4) (e5.trans h5) (e6.trans h6) (e7.trans h7) (e8.trans h8) (e9.trans h9)
    · exact (Cert.Reference7Ideal.Read.val_main_v174_eq _).trans (f0.trans (kernel_cq m c H).symm)
    · exact (Cert.Reference7Ideal.Read.val_main_v128_eq _).trans (f1.trans (kernel_ckv m c H).symm)
    · exact (Cert.Reference7Ideal.Read.val_main_v105_eq _).trans (f2.trans (kernel_kr m c H).symm)
    · exact (Cert.Reference7Ideal.Read.val_main_v158_eq _).trans (f3.trans (kernel_gq m c H).symm)
    · exact (Cert.Reference7Ideal.Read.val_main_v154_eq _).trans (f4.trans (kernel_uq m c H).symm)
    · exact (Cert.Reference7Ideal.Read.val_main_v112_eq _).trans (f5.trans (kernel_gkv m c H).symm)
    · exact (Cert.Reference7Ideal.Read.val_main_v108_eq _).trans (f6.trans (kernel_ukv m c H).symm)

end Cert.PrepPair
end
-- ==== Proof.BandPair.lean ====
/- The frame of the band attention's reference: it runs and keeps its arguments. -/
module

public import proofs.«01_k».proof.Defs
public import proofs.«01_k».proof.Proof.Gen.Reference8Ideal.Run
public import Idealize.ShloMosaic.Adequacy
public import Idealize.ShloMosaic.Init

@[expose] public section

noncomputable section

namespace Cert.BandPair

open Idealize.ShloMosaic Idealize.SL.Sem

/-- The reference runs, keeps its arguments, and leaves every counter at zero: it declares none. -/
theorem reference_frame : Cert.quiescent_Reference8Ideal := fun m g _ =>
  (θ_run (Cert.Reference8Ideal.defs (F := Ideal)) _ _).mono
    (fun r h => ⟨fun c => (h c).2.2.2, sem_eq_zero_of_no_sems (by decide) r.2⟩) (Cert.Reference8Ideal.Value.run m g)

end Cert.BandPair

end
-- ==== Proof.MixKernel.lean ====
/- The kernel of the mixing's end: what its three result arrays hold after the run, as the reference's lines on the same arguments. -/
module

public import proofs.«01_k».proof.Proof.Mats
public import proofs.«01_k».proof.Proof.Gen.Kernel9Ideal.Frame
public import proofs.«01_k».proof.Proof.Gen.Reference9Ideal.Read
public import Idealize.ShloMosaic.Lib.Pipeline.ValueKit
public import Idealize.ShloMosaic.Lib.StableHlo.Run

@[expose] public section

set_option maxRecDepth 16384

noncomputable section

namespace Cert.Kernel9Ideal.Mix

open Cert.Kernel9Ideal Cert.Kernel9Ideal.Gen Idealize.ShloMosaic Idealize.ShloMosaic.TcCoe Idealize.SL.Sem Idealize.ShloMosaic.StableHlo
open Cert.Reference9Ideal.Read (val_main_v0 val_main_cst val_main_v1 val_main_v2 val_main_cst_0 val_main_v3 val_main_v4 val_main_cst_1 val_main_v5 val_main_v6 val_main_v7 val_main_v8 val_main_v9 val_main_v10 val_main_v11 val_main_v12 val_main_cst_2 val_main_v13 val_main_v14 val_main_cst_3 val_main_v15 val_main_v16 val_main_cst_4 val_main_v17 val_main_v18 val_main_v19 val_main_v20 val_main_v21 val_main_v22 val_main_v23 val_main_v24 val_main_v25 val_main_v26 val_main_cst_5 val_main_v27 val_main_v28 val_main_cst_6 val_main_v29 val_main_v30 val_main_cst_7 val_main_v31 val_main_v32 val_main_v33 val_main_v34 val_main_v35 val_main_v36 val_main_v37 val_main_v38)

/-! ## The body's arithmetic on a block of rows -/

section Pay
variable (f : Fin 512 → Fin 8192) (ya yb : FVec Ideal S8192x512 .f32) (na nb : FVec Ideal S1x512 .f32) (w : FVec Ideal S1024x1024 .f32)
  (g : FVec Ideal S1x1024 .f32) (x : FVec Ideal S8192x1024 .f32)

/-- The rows `f` of an array. -/
def rows {n : ℕ} {α : Type} (f : Fin 512 → Fin 8192) (v : (⟨2, ![8192, n]⟩ : Shape).Idx → α) : (⟨2, ![512, n]⟩ : Shape).Idx → α :=
  fun i => v (ix2 (f (i 0)) (i 1))

theorem pay_yn : (k0_pay2 (F := Ideal) (rows f ya) (rows f yb) na nb : S512x1024.Idx → EReal) = rows f (val_main_v24 (F := Ideal) ya yb na nb) := by
  funext i
  obtain ⟨r, k, rfl⟩ : ∃ (r : Fin 512) (k : Fin 1024), i = ix2 r k := ⟨_, _, eq_ix2 i⟩
  show _ = val_main_v24 (F := Ideal) ya yb na nb (ix2 (f r) k)
  pointwise [k0_pay2, rows, val_main_v24, val_main_v23, val_main_v22, val_main_v21, val_main_v20, val_main_v19, val_main_v18, val_main_v17, val_main_cst_4, val_main_v16, val_main_v15, val_main_cst_3, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]

theorem pay_y2 : (k0_pay3 (F := Ideal) (rows f ya) (rows f yb) na nb w : S512x1024.Idx → EReal) = rows f (val_main_v25 (F := Ideal) ya yb na nb w) := by
  funext i
  obtain ⟨r, k, rfl⟩ : ∃ (r : Fin 512) (k : Fin 1024), i = ix2 r k := ⟨_, _, eq_ix2 i⟩
  show _ = val_main_v25 (F := Ideal) ya yb na nb w (ix2 (f r) k)
  pointwise [k0_pay3, rows, val_main_v25]
  rw [pay_yn]
  rfl

theorem pay_x1 : (k0_pay1 (F := Ideal) (rows f (val_main_v25 (F := Ideal) ya yb na nb w)) (rows f x) g : S512x1024.Idx → EReal)
    = rows f (val_main_v38 (F := Ideal) ya yb na nb w g x) := by
  funext i
  obtain ⟨r, k, rfl⟩ : ∃ (r : Fin 512) (k : Fin 1024), i = ix2 r k := ⟨_, _, eq_ix2 i⟩
  show _ = val_main_v38 (F := Ideal) ya yb na nb w g x (ix2 (f r) k)
  pointwise [k0_pay1, rows, val_main_v38, val_main_v37, val_main_v36, val_main_v35, val_main_v34, val_main_v33, val_main_v32, val_main_v31, val_main_cst_7, val_main_v30, val_main_v29, val_main_cst_6, val_main_v28, val_main_v27, val_main_cst_5, val_main_v26]
end Pay

/-! ## The blocks the body reads -/

variable (m : (ℓ : Loc nD τ sig) → Buf (Elt Ideal) ℓ) (c : Dev nD)

theorem idx : ∀ t : Fin cfg0.N,
    win0_0.index t 0 = t.val ∧ win0_0.index t 1 = 0 ∧ win0_1.index t 0 = t.val ∧ win0_1.index t 1 = 0 ∧
    win0_2.index t 0 = 0 ∧ win0_2.index t 1 = 0 ∧ win0_3.index t 0 = 0 ∧ win0_3.index t 1 = 0 ∧
    win0_4.index t 0 = 0 ∧ win0_4.index t 1 = 0 ∧ win0_5.index t 0 = 0 ∧ win0_5.index t 1 = 0 ∧
    win0_6.index t 0 = t.val ∧ win0_6.index t 1 = 0 ∧ win0_7.index t 0 = t.val ∧ win0_7.index t 1 = 0 ∧
    win0_8.index t 0 = t.val ∧ win0_8.index t 1 = 0 ∧ win0_9.index t 0 = t.val ∧ win0_9.index t 1 = 0 := by
  decide +kernel

/-- Row `r` of block `t`. -/
def row (t : Fin cfg0.N) (r : Fin 512) : Fin 8192 :=
  ⟨t.val * 512 + r.val, by have := lt_of_lt_of_eq t.isLt N_0; have := r.isLt; omega⟩

/-- The weights the host hands the body: argument four itself. -/
theorem host_w : (V m c main_v0 : S1024x1024.Idx → EReal) = m ((c : Thread nD τ).loc main_arg4) := by
  show StableHlo.after hostOps0 (fun b => m (c, b)) (Proc.devRef .tc main_v0) = _
  after_results
  rfl

section Blocks
variable (ya yb : FVec Ideal S8192x512 .f32) (na nb : FVec Ideal S1x512 .f32) (w : FVec Ideal S1024x1024 .f32)
  (g : FVec Ideal S1x1024 .f32) (x : FVec Ideal S8192x1024 .f32)
  (h0 : m ((c : Thread nD τ).loc main_arg0) = ya) (h1 : m ((c : Thread nD τ).loc main_arg1) = yb) (h2 : m ((c : Thread nD τ).loc main_arg2) = na)
  (h3 : m ((c : Thread nD τ).loc main_arg3) = nb) (h4 : m ((c : Thread nD τ).loc main_arg4) = w) (h5 : m ((c : Thread nD τ).loc main_arg5) = g)
  (h6 : m ((c : Thread nD τ).loc main_arg6) = x)

include h0 in
theorem blk0 (t : Fin cfg0.N) : (iblk m c 0 t : S512x512.Idx → EReal) = rows (row t) ya := by
  funext i
  refine Eq.trans (b := (m ((c : Thread nD τ).loc main_arg0) : FVec Ideal S8192x512 .f32) (ix2 (row t (i 0)) (i 1))) ?_ (congrFun h0 _)
  blk_ext [iblk, V, idx t, row]

include h1 in
theorem blk1 (t : Fin cfg0.N) : (iblk m c 1 t : S512x512.Idx → EReal) = rows (row t) yb := by
  funext i
  refine Eq.trans (b := (m ((c : Thread nD τ).loc main_arg1) : FVec Ideal S8192x512 .f32) (ix2 (row t (i 0)) (i 1))) ?_ (congrFun h1 _)
  blk_ext [iblk, V, idx t, row]

include h2 in
theorem blk2 (t : Fin cfg0.N) : (iblk m c 2 t : S1x512.Idx → EReal) = na := by
  funext i
  refine Eq.trans (b := (m ((c : Thread nD τ).loc main_arg2) : FVec Ideal S1x512 .f32) i) ?_ (congrFun h2 _)
  blk_ext [iblk, V, idx t]

include h3 in
theorem blk3 (t : Fin cfg0.N) : (iblk m c 3 t : S1x512.Idx → EReal) = nb := by
  funext i
  refine Eq.trans (b := (m ((c : Thread nD τ).loc main_arg3) : FVec Ideal S1x512 .f32) i) ?_ (congrFun h3 _)
  blk_ext [iblk, V, idx t]

include h4 in
theorem blk4 (t : Fin cfg0.N) : (iblk m c 4 t : S1024x1024.Idx → EReal) = w := by
  funext i
  refine Eq.trans (b := (V m c main_v0 : S1024x1024.Idx → EReal) i) ?_ (congrFun ((host_w m c).trans h4) _)
  blk_ext [iblk, idx t]

include h5 in
theorem blk5 (t : Fin cfg0.N) : (iblk m c 5 t : S1x1024.Idx → EReal) = g := by
  funext i
  refine Eq.trans (b := (m ((c : Thread nD τ).loc main_arg5) : FVec Ideal S1x1024 .f32) i) ?_ (congrFun h5 _)
  blk_ext [iblk, V, idx t]

include h6 in
theorem blk6 (t : Fin cfg0.N) : (iblk m c 6 t : S512x1024.Idx → EReal) = rows (row t) x := by
  funext i
  refine Eq.trans (b := (m ((c : Thread nD τ).loc main_arg6) : FVec Ideal S8192x1024 .f32) (ix2 (row t (i 0)) (i 1))) ?_ (congrFun h6 _)
  blk_ext [iblk, V, idx t, row]

/-! ## What the result arrays hold -/

include h0 h1 h2 h3

theorem final_yn : ((dats m 0 c).arrAt 7 (cfgs 0).N : S8192x1024.Idx → EReal) = val_main_v24 (F := Ideal) ya yb na nb := by
  refine (dats m 0 c).arrAt_eq_of_covers 7 _ (by decide +kernel) fun t _ z => ?_
  have e : ((cfg0.win 7).blk t).view.emb z = (ix2 (row t (z 0)) (z 1) : S8192x1024.Idx) := by blk_ext [idx t, row]
  blk_simp
  rw [after0_7, e, blk0 m c ya h0 t, blk1 m c yb h1 t, blk2 m c na h2 t, blk3 m c nb h3 t]
  unfold out0_7
  frame_out
  exact congrFun (pay_yn (row t) ya yb na nb) z

include h4

theorem final_y2 : ((dats m 0 c).arrAt 8 (cfgs 0).N : S8192x1024.Idx → EReal) = val_main_v25 (F := Ideal) ya yb na nb w := by
  refine (dats m 0 c).arrAt_eq_of_covers 8 _ (by decide +kernel) fun t _ z => ?_
  have e : ((cfg0.win 8).blk t).view.emb z = (ix2 (row t (z 0)) (z 1) : S8192x1024.Idx) := by blk_ext [idx t, row]
  blk_simp
  rw [after0_8, e, blk0 m c ya h0 t, blk1 m c yb h1 t, blk2 m c na h2 t, blk3 m c nb h3 t, blk4 m c w h4 t]
  unfold out0_8
  frame_out
  exact congrFun (pay_y2 (row t) ya yb na nb w) z

include h5 h6

theorem final_x1 : ((dats m 0 c).arrAt 9 (cfgs 0).N : S8192x1024.Idx → EReal) = val_main_v38 (F := Ideal) ya yb na nb w g x := by
  refine (dats m 0 c).arrAt_eq_of_covers 9 _ (by decide +kernel) fun t _ z => ?_
  have e : ((cfg0.win 9).blk t).view.emb z = (ix2 (row t (z 0)) (z 1) : S8192x1024.Idx) := by blk_ext [idx t, row]
  blk_simp
  rw [after0_9, e, blk0 m c ya h0 t, blk1 m c yb h1 t, blk2 m c na h2 t, blk3 m c nb h3 t, blk4 m c w h4 t, blk5 m c g h5 t, blk6 m c x h6 t]
  unfold out0_9
  frame_out
  rw [pay_y2]
  exact congrFun (pay_x1 (row t) ya yb na nb w g x) z

end Blocks

/-- The run: the three results hold the reference's lines on the arguments, and the arguments are kept. -/
theorem run (ρ : Dev nD → PrngReg) : θ_run defs (onTc (τ := τ) (main (F := Ideal))) ⟨m, fun _ => 0, ρ⟩ (fun r => ∀ c : Dev nD,
    (r.2.mem ((c : Thread nD τ).loc main_v2) : S8192x1024.Idx → EReal) = val_main_v24 (F := Ideal) (m ((c : Thread nD τ).loc main_arg0)) (m ((c : Thread nD τ).loc main_arg1)) (m ((c : Thread nD τ).loc main_arg2)) (m ((c : Thread nD τ).loc main_arg3))
    ∧ (r.2.mem ((c : Thread nD τ).loc main_v1_1) : S8192x1024.Idx → EReal) = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ (r.2.mem ((c : Thread nD τ).loc main_v1_2) : S8192x1024.Idx → EReal) = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) := by
  refine (θ_run defs _ _).mono (fun r h c => ⟨?_, ?_, ?_, ?_, ?_, ?_, ?_, ?_, ?_, ?_⟩) (run_main m ρ)
  · refine ((h c).2 main_v2 (Pipeline.mem_restRefs_of main_v2 (by decide) (by decide))).trans ?_
    refine Eq.trans ?_ (final_yn m c _ _ _ _ rfl rfl rfl rfl)
    unfold Pipeline.afterTail₀
    show StableHlo.after hostOps1 _ (Proc.devRef .tc main_v2) = _
    after_results
    exact funext fun i => congrFun (Pipeline.withArrays_arr spec0 launch0.win.arr_inj c (V0 m c) (fun w => (dats m 0 c).arrAt w (cfgs 0).N) 7) i
  · exact ((h c).1 8).trans (final_y2 m c _ _ _ _ _ rfl rfl rfl rfl rfl)
  · exact ((h c).1 9).trans (final_x1 m c _ _ _ _ _ _ _ rfl rfl rfl rfl rfl rfl rfl)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))
  · exact ((h c).1 3).trans (((dats m 0 c).arrAt_in 3 rfl _).trans ((A_eq m c 3).trans (V_main_arg3 m c)))
  · exact ((h c).2 main_arg4 (Pipeline.mem_restRefs_of main_arg4 (by decide) (by decide))).trans (W_main_arg4 m (dats m) c)
  · exact ((h c).1 5).trans (((dats m 0 c).arrAt_in 5 rfl _).trans ((A_eq m c 5).trans (V_main_arg5 m c)))
  · exact ((h c).1 6).trans (((dats m 0 c).arrAt_in 6 rfl _).trans ((A_eq m c 6).trans (V_main_arg6 m c)))

end Cert.Kernel9Ideal.Mix

end
-- ==== Proof.MixPair.lean ====
/- The claims of the mixing's end: the idealized kernel and the reference leave the same three results, at any arguments, and
   the reference keeps its arguments. -/
module

public import proofs.«01_k».proof.Defs
public import proofs.«01_k».proof.Proof.Gen.Reference9Ideal.Run
public import proofs.«01_k».proof.Proof.MixKernel
public import Idealize.ShloMosaic.Adequacy
public import Idealize.ShloMosaic.Init

@[expose] public section

noncomputable section

namespace Cert.MixPair

open Idealize.ShloMosaic Idealize.SL.Sem

/-- The reference runs, keeps its arguments, and leaves every counter at zero: it declares none. -/
theorem reference_frame : Cert.quiescent_Reference9Ideal := fun m g _ =>
  (θ_run (Cert.Reference9Ideal.defs (F := Ideal)) _ _).mono
    (fun r h => ⟨fun c => (h c).2.2.2, sem_eq_zero_of_no_sems (by decide) r.2⟩) (Cert.Reference9Ideal.Value.run m g)

set_option maxRecDepth 16384 in
set_option maxHeartbeats 2000000 in
theorem algebraic : Cert.algebraic_Kernel9Ideal_Reference9Ideal := by
  pair_intro
  · exact Cert.Kernel9Ideal.Mix.run m g
  · refine θ_run_mono (Cert.Reference9Ideal.Value.run m' g') fun r hr c => ⟨(hr c).1.trans ?_, (hr c).2.1.trans ?_, (hr c).2.2.1.trans ?_, (hr c).2.2.2⟩
    all_goals obtain ⟨e0, e1, e2, e3, e4, e5, e6⟩ := hagree c
    · rw [Cert.Reference9Ideal.Read.val_main_v24_eq, e0, e1, e2, e3]
    · rw [Cert.Reference9Ideal.Read.val_main_v25_eq, e0, e1, e2, e3, e4]
    · rw [Cert.Reference9Ideal.Read.val_main_v38_eq, e0, e1, e2, e3, e4, e5, e6]

end Cert.MixPair

end
-- ==== Proof.UpRun.lean ====
/- The run of the normed product: at the first point of every eight the body norms its rows into the second result's block,
   at the others it finds that block as it was left, and at every point it multiplies the block by one block of the weights. -/
module

public import proofs.«01_k».proof.Proof.Gen.Kernel10Ideal.Frame
public import proofs.«01_k».proof.Proof.Mats

@[expose] public section

set_option maxRecDepth 16384

noncomputable section

namespace Cert.Kernel10Ideal.Up

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- The rows normed and scaled. -/
def normed (x : FVec F S2048x1024 .f32) (g : FVec F S1x1024 .f32) : FVec F S2048x1024 .bf16 :=
  truncf .bf16 (mulf (mulf x (broadcastTo S2048x1024 (rsqrt (addf (divf (shapeCast S2048x1 (multiReduction .add [1] S2048 (mulf x x) 0x00000000#32 reduces_S2048x1024_S2048 (.inl rfl) rfl) shapeCasts_S2048_S2048x1)
    (broadcast S2048x1 (Scalar.ofBits .f32 0x44800000#32))) (broadcast S2048x1 (Scalar.ofBits .f32 0x358637BD#32)))) broadcasts_S2048x1_S2048x1024)) (broadcastTo S2048x1024 g broadcasts_S1x1024_S2048x1024)) bitsLt_bf16_f32

/-- The normed rows times one block of the weights. -/
def times (h : FVec F S2048x1024 .bf16) (w : FVec F S1x768x1024 .bf16) : FVec F S1x2048x768 .bf16 :=
  shapeCast S1x2048x768 (truncf .bf16 (matmul dot_S2048x1024_S768x1024_S2048x768_1_1_0_0_n_n none (shapeCast S2048x1024 h shapeCasts_S2048x1024_S2048x1024)
    (shapeCast S768x1024 w shapeCasts_S1x768x1024_S768x1024) (constant S2048x768 .f32 0x00000000#32)) bitsLt_bf16_f32) shapeCasts_S2048x768_S1x2048x768

theorem first_iff : ∀ t : Fin cfg0.N, k0_cond1 (grid0.coords t) = 1#1 ↔ t.val % 8 = 0 := by decide +kernel

set_option maxHeartbeats 1000000 in
/-- The body at a first point. -/
theorem body_first (c : Dev nD) (i : grid0.Coords) (a0 : Memref sig .tc .vmem S2048x1024 .f32) (w0 : a0.IsWhole) (a1 : Memref sig .tc .vmem S1x1024 .f32) (w1 : a1.IsWhole)
    (a2 : Memref sig .tc .vmem S1x768x1024 .bf16) (w2 : a2.IsWhole) (a3 : Memref sig .tc .vmem S1x2048x768 .bf16) (w3 : a3.IsWhole) (a4 : Memref sig .tc .vmem S2048x1024 .bf16) (w4 : a4.IsWhole)
    (hi : k0_cond1 i = 1#1) (x : Vec F S2048x1024 .f32) (g : Vec F S1x1024 .f32) (w : Vec F S1x768x1024 .bf16) (K : PUnit → sProp 𝕄) :
    iprop(owns (c : Thread nD τ) a0 fullShare x ∗ owns (c : Thread nD τ) a1 fullShare g ∗ owns (c : Thread nD τ) a2 fullShare w
        ∗ (∃ d, owns (c : Thread nD τ) a3 fullShare d) ∗ (∃ d, owns (c : Thread nD τ) a4 fullShare d)
        ∗ (iprop(owns (c : Thread nD τ) a0 fullShare x ∗ owns (c : Thread nD τ) a1 fullShare g ∗ owns (c : Thread nD τ) a2 fullShare w
            ∗ owns (c : Thread nD τ) a3 fullShare (times (normed x g) w) ∗ owns (c : Thread nD τ) a4 fullShare (normed x g)) -∗ K ⟨⟩))
      ⊢ wp frame (wpE (defs₀ (F := F)) Variants.none c none) Set.univ (cc0_up_proj i a0 w0 a1 w1 a2 w2 a3 w3 a4 w4) K := by
  unfold cc0_up_proj owns
  iintro ⟨⟨%f0, %e0, H0⟩, ⟨%f1, %e1, H1⟩, ⟨%f2, %e2, H2⟩, ⟨%d3, %f3, -, H3⟩, ⟨%d4, %f4, -, H4⟩, Hk⟩
  obtain rfl := w0.eq_unread e0
  obtain rfl := w1.eq_unread e1
  obtain rfl := w2.eq_unread e2
  sl_exec (disch := first | sl_exact hi)
  sl_step
  iapply Hk
  isplitl [H0]
  · iexists _; isplitr
    swap; · iexact H0
    ipureintro; exact w0.read_unread _
  isplitl [H1]
  · iexists _; isplitr
    swap; · iexact H1
    ipureintro; exact w1.read_unread _
  isplitl [H2]
  · iexists _; isplitr
    swap; · iexact H2
    ipureintro; exact w2.read_unread _
  isplitl [H3]
  · iexists _; isplitr
    swap; · iexact H3
    ipureintro
    refine (View.read_writes_of_cover _ _ a3.view a3.view.junk _ (View.cover_of_tiledL _ S1x2048x768.size (by sl_kernel_rfl))).trans ?_
    sl_unfold_words
    frame_out
    rfl
  · iexists _; isplitr
    swap; · iexact H4
    ipureintro
    refine (View.read_writes_of_cover _ _ a4.view a4.view.junk _ (View.cover_of_tiledL _ S2048x1024.size (by sl_kernel_rfl))).trans ?_
    sl_unfold_words
    frame_out
    rfl

set_option maxHeartbeats 1000000 in
/-- The body at any other point. -/
theorem body_later (c : Dev nD) (i : grid0.Coords) (a0 : Memref sig .tc .vmem S2048x1024 .f32) (w0 : a0.IsWhole) (a1 : Memref sig .tc .vmem S1x1024 .f32) (w1 : a1.IsWhole)
    (a2 : Memref sig .tc .vmem S1x768x1024 .bf16) (w2 : a2.IsWhole) (a3 : Memref sig .tc .vmem S1x2048x768 .bf16) (w3 : a3.IsWhole) (a4 : Memref sig .tc .vmem S2048x1024 .bf16) (w4 : a4.IsWhole)
    (hi : ¬ k0_cond1 i = 1#1) (x : Vec F S2048x1024 .f32) (g : Vec F S1x1024 .f32) (w : Vec F S1x768x1024 .bf16) (h : Vec F S2048x1024 .bf16) (K : PUnit → sProp 𝕄) :
    iprop(owns (c : Thread nD τ) a0 fullShare x ∗ owns (c : Thread nD τ) a1 fullShare g ∗ owns (c : Thread nD τ) a2 fullShare w
        ∗ (∃ d, owns (c : Thread nD τ) a3 fullShare d) ∗ owns (c : Thread nD τ) a4 fullShare h
        ∗ (iprop(owns (c : Thread nD τ) a0 fullShare x ∗ owns (c : Thread nD τ) a1 fullShare g ∗ owns (c : Thread nD τ) a2 fullShare w
            ∗ owns (c : Thread nD τ) a3 fullShare (times h w) ∗ owns (c : Thread nD τ) a4 fullShare h) -∗ K ⟨⟩))
      ⊢ wp frame (wpE (defs₀ (F := F)) Variants.none c none) Set.univ (cc0_up_proj i a0 w0 a1 w1 a2 w2 a3 w3 a4 w4) K := by
  unfold cc0_up_proj owns
  iintro ⟨⟨%f0, %e0, H0⟩, ⟨%f1, %e1, H1⟩, ⟨%f2, %e2, H2⟩, ⟨%d3, %f3, -, H3⟩, ⟨%f4, %e4, H4⟩, Hk⟩
  obtain rfl := w0.eq_unread e0
  obtain rfl := w1.eq_unread e1
  obtain rfl := w2.eq_unread e2
  obtain rfl := w4.eq_unread e4
  sl_exec (disch := first | sl_exact hi)
  sl_step
  iapply Hk
  isplitl [H0]
  · iexists _; isplitr
    swap; · iexact H0
    ipureintro; exact w0.read_unread _
  isplitl [H1]
  · iexists _; isplitr
    swap; · iexact H1
    ipureintro; exact w1.read_unread _
  isplitl [H2]
  · iexists _; isplitr
    swap; · iexact H2
    ipureintro; exact w2.read_unread _
  isplitl [H3]
  · iexists _; isplitr
    swap; · iexact H3
    ipureintro
    refine (View.read_writes_of_cover _ _ a3.view a3.view.junk _ (View.cover_of_tiledL _ S1x2048x768.size (by sl_kernel_rfl))).trans ?_
    sl_unfold_words
    frame_out
    rfl
  · iexists _; isplitr
    swap; · iexact H4
    ipureintro; exact w4.read_unread _

/-! ## What each point leaves in the blocks -/

variable (m : (ℓ : Loc nD τ sig) → Buf (Elt F) ℓ) (ρ : Dev nD → PrngReg)

/-- The arrays as the region finds them; after a point every input block as it was, the second result's block at the normed
    rows and the first one's at their product with the point's block of the weights. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => times (normed (iblk m c 0 t) (iblk m c 1 t)) (iblk m c 2 t)
    | ⟨4, _⟩ => normed (iblk m c 0 t) (iblk m c 1 t)
  Φ _ := Pipeline.ΦA spec0 c
  q _ := fullShare
  owed _ := 0

theorem arrays (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = times (normed (iblk m c 0 t) (iblk m c 1 t)) (iblk m c 2 t) := by dsimp only [dats]
theorem after_4 (c : Dev nD) (t : Fin cfg0.N) : (dats m 0 c).after 4 t = normed (iblk m c 0 t) (iblk m c 1 t) := by dsimp only [dats]

theorem before_0 (c : Dev nD) (t : Fin cfg0.N) (d) : (dats m 0 c).before 0 t d = iblk m c 0 t := before0_0_of m (dats m 0 c) (arrays m c 0) (after_0 m c) t d
theorem before_1 (c : Dev nD) (t : Fin cfg0.N) (d) : (dats m 0 c).before 1 t d = iblk m c 1 t := before0_1_of m (dats m 0 c) (arrays m c 1) (after_1 m c) t d
theorem before_2 (c : Dev nD) (t : Fin cfg0.N) (d) : (dats m 0 c).before 2 t d = iblk m c 2 t := before0_2_of m (dats m 0 c) (arrays m c 2) (after_2 m c) t d

theorem idx : ∀ t : Fin cfg0.N,
    win0_0.index t 0 = t.val / 8 ∧ win0_0.index t 1 = 0 ∧ win0_1.index t 0 = 0 ∧ win0_1.index t 1 = 0 ∧
    win0_2.index t 0 = t.val % 8 ∧ win0_2.index t 1 = 0 ∧ win0_2.index t 2 = 0 ∧
    win0_3.index t 0 = t.val % 8 / 4 ∧ win0_3.index t 1 = t.val / 8 ∧ win0_3.index t 2 = t.val % 4 ∧
    win0_4.index t 0 = t.val / 8 ∧ win0_4.index t 1 = 0 := by
  decide +kernel

/-- Row `r` of the block of rows at point `t`. -/
def row (t : Fin cfg0.N) (r : Fin 2048) : Fin 8192 :=
  ⟨t.val / 8 * 2048 + r.val, by have := lt_of_lt_of_eq t.isLt N_0; have := r.isLt; omega⟩

theorem blk0 (c : Dev nD) (t : Fin cfg0.N) : (iblk m c 0 t : S2048x1024.Idx → Elt F .f32) = fun i => (m ((c : Thread nD τ).loc main_arg0) : S8192x1024.Idx → Elt F .f32) (ix2 (row t (i 0)) (i 1)) := by
  funext i
  rw [← V_main_arg0 m c]
  blk_ext [iblk, idx t, row]

theorem blk1 (c : Dev nD) (t : Fin cfg0.N) : (iblk m c 1 t : S1x1024.Idx → Elt F .f32) = m ((c : Thread nD τ).loc main_arg1) := by
  funext i
  rw [← V_main_arg1 m c]
  blk_ext [iblk, idx t]

/-- The normed rows depend on the block of rows only. -/
theorem normed_same (c : Dev nD) (t s : Fin cfg0.N) (e : t.val / 8 = s.val / 8) :
    normed (iblk m c 0 t) (iblk m c 1 t) = normed (iblk m c 0 s) (iblk m c 1 s) := by
  have r : row t = row s := funext fun q => Fin.ext (by show t.val / 8 * 2048 + q.val = s.val / 8 * 2048 + q.val; rw [e])
  refine congrArg₂ normed ((blk0 m c t).trans (Eq.trans ?_ (blk0 m c s).symm)) ((blk1 m c t).trans (blk1 m c s).symm)
  rw [r]

theorem idle_iff (t : Fin cfg0.N) : cfg0.idle 4 (grid0.coords t) = true ↔ ¬ t.val % 8 = 0 := by
  rw [← first_iff t]
  show (!(k0_cond1 (grid0.coords t) == 1#1)) = true ↔ _
  simp

theorem fetch_4 : ∀ t : Fin cfg0.N, (cfg0.win 4).fetch t = false := fun _ => rfl

/-- A later point finds the second result's block at the normed rows of its block. -/
theorem before_4 (c : Dev nD) : ∀ (n : ℕ) (hn : n < cfg0.N) (d), ¬ n % 8 = 0 → (dats m 0 c).before 4 ⟨n, hn⟩ d = normed (iblk m c 0 ⟨n, hn⟩) (iblk m c 1 ⟨n, hn⟩) := by
  intro n
  induction n with
  | zero => intro _ _ h; exact absurd rfl h
  | succ n ih =>
    intro hn d h
    have hn' : n < cfg0.N := Nat.lt_of_succ_lt hn
    have nf : (cfg0.win 4).flush ⟨n, hn'⟩ = false := by
      refine Bool.eq_false_iff.mpr fun hf => ?_
      have := (flush0_4 ⟨n, hn'⟩).mp hf
      simp only at this
      omega
    have same := normed_same m c ⟨n, hn'⟩ ⟨n + 1, hn⟩ (by show n / 8 = (n + 1) / 8; omega)
    rw [(dats m 0 c).before_of_pos 4 ⟨n + 1, hn⟩ (Nat.succ_ne_zero n) (fetch_4 _) d]
    show (if (cfg0.win 4).flush ⟨n, hn'⟩ = true then d else (dats m 0 c).left 4 ⟨n, hn'⟩ d) = _
    rw [nf, if_neg Bool.false_ne_true]
    by_cases hz : n % 8 = 0
    · have live : cfg0.idle 4 (cfg0.grid.coords ⟨n, hn'⟩) = false := Bool.eq_false_iff.mpr fun hi => (idle_iff ⟨n, hn'⟩).mp hi hz
      unfold Dat.left
      rw [live]
      refine Eq.trans ?_ same
      exact (show (dats m 0 c).kept 4 ⟨n, hn'⟩ d = (dats m 0 c).after 4 ⟨n, hn'⟩ from rfl).trans (after_4 m c _)
    · have rest : cfg0.idle 4 (cfg0.grid.coords ⟨n, hn'⟩) = true := (idle_iff ⟨n, hn'⟩).mpr hz
      unfold Dat.left
      rw [rest]
      exact (ih hn' d hz).trans same

/-! ## The run -/

theorem row_of_table (t : Fin cfg0.N) :
    defs₀ (F := F) .tc cfg0.body (cfg0.bodyArgs t (cfg0.slots t)) = bodyAt0 t := by
  unfold defs₀; rw [Defs.onTc_tc]

set_option maxHeartbeats 1000000 in
/-- The body at every point leaves what is said above. -/
theorem leaves (c : Dev nD) : BodyObligation (dats m 0 c) (defs₀ (F := F)) Variants.none () Set.univ := fun t => by
  rw [bigSep_W0, bigSep_W0, row_of_table]
  dsimp only
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  by_cases hz : t.val % 8 = 0
  · rw [show idle0 4 (grid0.coords t) = false from Bool.eq_false_iff.mpr fun hi => (idle_iff t).mp hi hz]
    iintro ⟨HΦ, Ho, ⟨%d0, H0⟩, ⟨%d1, H1⟩, ⟨%d2, H2⟩, ⟨%d3, H3⟩, ⟨%d4, H4⟩⟩
    iapply (body_first c (grid0.coords t) _ _ _ _ _ _ _ _ _ _ ((first_iff t).mpr hz) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [show idle0 4 (grid0.coords t) = true from (idle_iff t).mpr hz]
    have found : ∀ d, (dats m 0 c).before 4 t d = normed (iblk m c 0 t) (iblk m c 1 t) := fun d => before_4 m c t.val t.isLt d hz
    simp only [found]
    iintro ⟨HΦ, Ho, ⟨%d0, H0⟩, ⟨%d1, H1⟩, ⟨%d2, H2⟩, ⟨%d3, H3⟩, ⟨%d4, H4⟩⟩
    iapply (body_later c (grid0.coords t) _ _ _ _ _ _ _ _ _ _ (fun h => hz ((first_iff t).mp h)) (iblk m c 0 t) (iblk m c 1 t) (iblk m c 2 t) (normed (iblk m c 0 t) (iblk m c 1 t)) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    cases (win0 4).flush t
    · iexists d4; iexact H4
    · iexact H4

set_option backward.isDefEq.respectTransparency.types false in
set_option maxHeartbeats 800000 in
theorem run_counters : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (leaves m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arrays m) (hΦ := fun _ _ => rfl)

/-- Every run ends with the arrays as the blocks say. -/
theorem run_blocks : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_counters m ρ)

/-- Every run keeps the arguments and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arrays m) (run_blocks m ρ)) ((θ_run defs _ _).mono (fun _ h => h.2) (run_counters m ρ))

end Cert.Kernel10Ideal.Up

end
-- ==== Proof.UpKernel.lean ====
/- The normed product: what its result arrays hold after the run, as the reference's lines on the same arguments. -/
module

public import proofs.«01_k».proof.Proof.UpRun
public import proofs.«01_k».proof.Proof.Gen.Reference10Ideal.Read
public import Idealize.ShloMosaic.Lib.Pipeline.ValueKit
public import Idealize.ShloMosaic.Lib.StableHlo.Run

@[expose] public section

set_option maxRecDepth 16384

noncomputable section

namespace Cert.Kernel10Ideal.Up

open Cert.Kernel10Ideal Cert.Kernel10Ideal.Gen Idealize.ShloMosaic Idealize.ShloMosaic.TcCoe Idealize.SL.Sem Idealize.ShloMosaic.StableHlo
open Cert.Reference10Ideal.Read (val_main_v0 val_main_v1 val_main_v2 val_main_v3 val_main_v4 val_main_v5 val_main_v6 val_main_v7 val_main_v8 val_main_v9 val_main_v10 val_main_v11 val_main_v12 val_main_cst val_main_cst_0 val_main_cst_1)

variable (m : (ℓ : Loc nD τ sig) → Buf (Elt Ideal) ℓ) (c : Dev nD)

/-- The normed rows of the reference. -/
def h : S8192x1024.Idx → EReal := val_main_v11 (F := Ideal) (m ((c : Thread nD τ).loc main_arg0)) (m ((c : Thread nD τ).loc main_arg1))

theorem normed_at (x : FVec Ideal S8192x1024 .f32) (g : FVec Ideal S1x1024 .f32) (f : Fin 2048 → Fin 8192) :
    (normed (fun i => x (ix2 (f (i 0)) (i 1))) g : S2048x1024.Idx → EReal) = fun i => val_main_v11 (F := Ideal) x g (ix2 (f (i 0)) (i 1)) := by
  funext i
  obtain ⟨r, k, rfl⟩ : ∃ (r : Fin 2048) (k : Fin 1024), i = ix2 r k := ⟨_, _, eq_ix2 i⟩
  show _ = val_main_v11 (F := Ideal) x g (ix2 (f r) k)
  pointwise [normed, val_main_v11, val_main_v10, val_main_v9, val_main_v8, val_main_v7, val_main_v6, val_main_v5, val_main_v4, val_main_v3, val_main_v2, val_main_v1, val_main_v0, val_main_cst, val_main_cst_0, val_main_cst_1]

theorem normed_blk (t : Fin cfg0.N) : (normed (F := Ideal) (iblk m c 0 t) (iblk m c 1 t) : S2048x1024.Idx → EReal) = fun i => h m c (ix2 (row t (i 0)) (i 1)) :=
  (congrArg₂ (normed (F := Ideal)) (blk0 m c t) (blk1 m c t)).trans (normed_at _ _ (row t))

theorem times_at (x : FVec Ideal S2048x1024 .bf16) (w : FVec Ideal S1x768x1024 .bf16) (i : S1x2048x768.Idx) :
    times x w i = ∑ k : Fin 1024, (x (ix2 (i 1) k) * w (ix3 0 (i 2) k) : EReal) := by
  obtain ⟨b, r, q, rfl⟩ : ∃ (b : Fin 1) (r : Fin 2048) (q : Fin 768), i = ix3 b r q := ⟨_, _, _, eq_ix3 i⟩
  pointwise [times]

theorem blk2 (t : Fin cfg0.N) : (iblk m c 2 t : S1x768x1024.Idx → EReal) = fun i => (V m c main_v3 : S8x768x1024.Idx → EReal) (ix3 ⟨t.val % 8, by omega⟩ (i 1) (i 2)) := by
  funext i
  have h0 : (i 0).val < 1 := (i 0).isLt
  blk_ext [iblk, idx t]

/-! ## The result arrays -/

theorem final_h : ((dats m 0 c).arrAt 4 (cfgs 0).N : S8192x1024.Idx → EReal) = h m c := by
  refine (dats m 0 c).arrAt_eq_of_covers 4 _ (by decide +kernel) fun t _ z => ?_
  have e : ((cfg0.win 4).blk t).view.emb z = (ix2 (row t (z 0)) (z 1) : S8192x1024.Idx) := by blk_ext [idx t, row]
  blk_simp
  rw [after_4, e]
  exact congrFun (normed_blk m c t) z

/-- Every normed row times every padded weight row, in two halves. -/
def prod (x : S8192x1024.Idx → EReal) (w : S8x768x1024.Idx → EReal) : S2x8192x3072.Idx → EReal :=
  fun i => ∑ k : Fin 1024, x (ix2 (i 1) k) * w (ix3 ⟨4 * (i 0).val + (i 2).val / 768, by
    have h0 : (i 0).val < 2 := (i 0).isLt
    have h2 : (i 2).val < 3072 := (i 2).isLt
    omega⟩ ⟨(i 2).val % 768, by omega⟩ k)

theorem final_up : ((dats m 0 c).arrAt 3 (cfgs 0).N : S2x8192x3072.Idx → EReal) = prod (h m c) (V m c main_v3) := by
  refine (dats m 0 c).arrAt_eq_of_covers 3 _ (by decide +kernel) fun t _ z => ?_
  have h0 : (z 0).val < 1 := (z 0).isLt
  have h2 : (z 2).val < 768 := (z 2).isLt
  have e : ((cfg0.win 3).blk t).view.emb z = (ix3 ⟨t.val % 8 / 4, by omega⟩ (row t (z 1)) ⟨t.val % 4 * 768 + (z 2).val, by omega⟩ : S2x8192x3072.Idx) := by blk_ext [idx t, row]
  blk_simp
  rw [after_3, e]
  refine (congrFun (congrArg₂ (times (F := Ideal)) (normed_blk m c t) (blk2 m c t)) z).trans ((times_at _ _ z).trans ?_)
  refine Finset.sum_congr rfl fun k _ => congrArg₂ (fun a b : EReal => a * b) rfl ?_
  refine congrArg₂ (fun (a : Fin 8) (b : Fin 768) => (V m c main_v3 : S8x768x1024.Idx → EReal) (ix3 a b k)) (Fin.ext ?_) (Fin.ext ?_)
  · show t.val % 8 = 4 * (t.val % 8 / 4) + (t.val % 4 * 768 + (z 2).val) / 768
    omega
  · show (z 2).val = (t.val % 4 * 768 + (z 2).val) % 768
    omega

/-- The padded weights the host hands the body, where they are weights. -/
theorem host_w (b : Fin 8) (j : Fin 704) (k : Fin 1024) : (V m c main_v3 : S8x768x1024.Idx → EReal) (ix3 b ⟨j.val, by omega⟩ k)
    = (m ((c : Thread nD τ).loc main_arg2) : S1024x5632.Idx → EReal) (ix2 k ⟨704 * b.val + j.val, by omega⟩) := by
  show (StableHlo.after (List.flatten [hostOps0, hostOps0_1, hostOps0_2]) (fun b => m (c, b)) (Proc.devRef .tc main_v3) : S8x768x1024.Idx → EReal) _ = _
  simp only [hostOps0, hostOps0_1, hostOps0_2, List.flatten_cons, List.flatten_nil, List.append_nil, List.cons_append, List.nil_append]
  after_results
  show pad S8x768x1024 ![0, 0, 0] ![0, 64, 0] ![0, 0, 0] (shapeCast S8x704x1024 (transpose S5632x1024 [1, 0] (m ((c : Thread nD τ).loc main_arg2) : S1024x5632.Idx → EReal) transposes_S1024x5632_S5632x1024_1_0)
    shapeCasts_S5632x1024_S8x704x1024) (sitofp (F := Ideal) .f32 (constantI S_ 32 0#32) : S_.Idx → EReal) pads_S8x704x1024_S8x768x1024_000_0640_000 h_S_ (ix3 b ⟨j.val, by omega⟩ k) = _
  pointwise []
  exact congrArg (fun q : Fin 5632 => (m ((c : Thread nD τ).loc main_arg2) : S1024x5632.Idx → EReal) (ix2 k q)) (Fin.ext (by simp only; omega))

/-- What the host reads of the product after the body. -/
def back (v : S2x8192x3072.Idx → EReal) : S8192x5632.Idx → EReal :=
  shapeCast S8192x5632 (transpose S8192x2x4x704 [1, 0, 2, 3] (extractStridedSlice S2x8192x4x704 ![0, 0, 0, 0] (shapeCast S2x8192x4x768 v shapeCasts_S2x8192x3072_S2x8192x4x768) slices_S2x8192x4x768_S2x8192x4x704_0_0_0_0)
    transposes_S2x8192x4x704_S8192x2x4x704_1_0_2_3) shapeCasts_S8192x2x4x704_S8192x5632

theorem back_at (v : S2x8192x3072.Idx → EReal) (r : Fin 8192) (b : Fin 8) (j : Fin 704) :
    back v (ix2 r ⟨704 * b.val + j.val, by omega⟩) = v (ix3 ⟨b.val / 4, by omega⟩ r ⟨768 * (b.val % 4) + j.val, by omega⟩) := by
  pointwise [back]
  refine congrArg₂ (fun (a : Fin 2) (q : Fin 3072) => v (ix3 a r q)) (Fin.ext ?_) (Fin.ext ?_) <;> (simp only; omega)

theorem back_prod : back (prod (h m c) (V m c main_v3))
    = val_main_v12 (F := Ideal) (m ((c : Thread nD τ).loc main_arg0)) (m ((c : Thread nD τ).loc main_arg1)) (m ((c : Thread nD τ).loc main_arg2)) := by
  funext i
  obtain ⟨r, q, rfl⟩ : ∃ (r : Fin 8192) (q : Fin 5632), i = ix2 r q := ⟨_, _, eq_ix2 i⟩
  obtain ⟨b, j, e⟩ : ∃ (b : Fin 8) (j : Fin 704), q = ⟨704 * b.val + j.val, by omega⟩ :=
    ⟨⟨q.val / 704, by omega⟩, ⟨q.val % 704, by omega⟩, Fin.ext (by simp only; omega)⟩
  rw [e, back_at]
  refine (Finset.sum_congr rfl fun k _ => congrArg₂ (fun a b : EReal => a * b) rfl ((congrArg₂ (fun (a : Fin 8) (q : Fin 768) => (V m c main_v3 : S8x768x1024.Idx → EReal) (ix3 a q k))
    (show _ = b from Fin.ext ?_) (show _ = (⟨j.val, by omega⟩ : Fin 768) from Fin.ext ?_)).trans (host_w m c b j k))).trans ?_
  · show 4 * (b.val / 4) + (768 * (b.val % 4) + j.val) / 768 = b.val
    omega
  · show (768 * (b.val % 4) + j.val) % 768 = j.val
    omega
  · pointwise [val_main_v12, h]

set_option maxHeartbeats 2000000 in
theorem run (ρ : Dev nD → PrngReg) : θ_run defs (onTc (τ := τ) (main (F := Ideal))) ⟨m, fun _ => 0, ρ⟩ (fun r => ∀ c : Dev nD,
    (r.2.mem ((c : Thread nD τ).loc main_v9) : S8192x5632.Idx → EReal) = val_main_v12 (F := Ideal) (m ((c : Thread nD τ).loc main_arg0)) (m ((c : Thread nD τ).loc main_arg1)) (m ((c : Thread nD τ).loc main_arg2))
    ∧ (r.2.mem ((c : Thread nD τ).loc main_v10) : S8192x1024.Idx → EReal) = val_main_v11 (F := Ideal) (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) := by
  refine (θ_run defs _ _).mono (fun r h c => ⟨?_, ?_, ?_, ?_, ?_⟩) (run_blocks m ρ)
  · refine ((h c).2 main_v9 (Pipeline.mem_restRefs_of main_v9 (by decide) (by decide))).trans ?_
    refine Eq.trans ?_ ((congrArg back (final_up m c)).trans (back_prod m c))
    unfold Pipeline.afterTail₀
    show StableHlo.after hostOps1 _ (Proc.devRef .tc main_v9) = _
    after_results
    exact congrArg back (funext fun i => congrFun (Pipeline.withArrays_arr spec0 launch0.win.arr_inj c (V0 m c) (fun w => (dats m 0 c).arrAt w (cfgs 0).N) 3) i)
  · refine ((h c).2 main_v10 (Pipeline.mem_restRefs_of main_v10 (by decide) (by decide))).trans ?_
    refine Eq.trans ?_ (final_h m c)
    unfold Pipeline.afterTail₀
    show StableHlo.after hostOps1 _ (Proc.devRef .tc main_v10) = _
    after_results
    exact funext fun i => congrFun (Pipeline.withArrays_arr spec0 launch0.win.arr_inj c (V0 m c) (fun w => (dats m 0 c).arrAt w (cfgs 0).N) 4) i
  · exact ((h c).1 0).trans (((dats m 0 c).arrAt_in 0 rfl _).trans ((arrays m c 0).trans (V_main_arg0 m c)))
  · exact ((h c).1 1).trans (((dats m 0 c).arrAt_in 1 rfl _).trans ((arrays m c 1).trans (V_main_arg1 m c)))
  · exact ((h c).2 main_arg2 (Pipeline.mem_restRefs_of main_arg2 (by decide) (by decide))).trans (W_main_arg2 m (dats m) c)

end Cert.Kernel10Ideal.Up

end
-- ==== Proof.UpPair.lean ====
/- The claims of the normed product: the idealized kernel and the reference leave the same two results, at any
   arguments, and the reference keeps its arguments. -/
module

public import proofs.«01_k».proof.Defs
public import proofs.«01_k».proof.Proof.Gen.Reference10Ideal.Run
public import proofs.«01_k».proof.Proof.Gen.Kernel10
public import proofs.«01_k».proof.Proof.UpKernel
public import Idealize.ShloMosaic.Adequacy
public import Idealize.ShloMosaic.Init

@[expose] public section

noncomputable section

namespace Cert.UpPair

open Idealize.ShloMosaic Idealize.SL.Sem

/-- The reference runs, keeps its arguments, and leaves every counter at zero: it declares none. -/
theorem reference_frame : Cert.quiescent_Reference10Ideal := fun m g _ =>
  (θ_run (Cert.Reference10Ideal.defs (F := Ideal)) _ _).mono
    (fun r h => ⟨fun c => (h c).2.2, sem_eq_zero_of_no_sems (by decide) r.2⟩) (Cert.Reference10Ideal.Value.run m g)

set_option maxRecDepth 16384 in
/-- The kernel as printed has the same text as the idealized one, whose frame holds over any float values. -/
theorem frame_kernel : Cert.quiescent_Kernel10 := fun m g _ => by
  refine Eq.mp ?_ (Cert.Kernel10Ideal.Up.frame (F := Bits) m g)
  sl_kernel_rfl

set_option maxRecDepth 16384 in
set_option maxHeartbeats 2000000 in
theorem algebraic : Cert.algebraic_Kernel10Ideal_Reference10Ideal := by
  pair_intro
  · exact Cert.Kernel10Ideal.Up.run m g
  · refine θ_run_mono (Cert.Reference10Ideal.Value.run m' g') fun r hr c => ⟨(hr c).1.trans ?_, (hr c).2.1.trans ?_, (hr c).2.2⟩
    all_goals obtain ⟨e0, e1, e2⟩ := hagree c
    · rw [Cert.Reference10Ideal.Read.val_main_v12_eq, e0, e1, e2]
    · rw [Cert.Reference10Ideal.Read.val_main_v11_eq, e0, e1]

end Cert.UpPair

end
-- ==== Proof.InDil.lean ====
/- The kernel of the norm and the input product: the blocks that lay consecutive rows side by side, as the body leaves them. -/
module

public import proofs.«01_k».proof.Proof.Mats
public import proofs.«01_k».proof.Proof.Gen.Kernel11Ideal.Frame
public import Idealize.ShloMosaic.Lib.Pipeline.ValueKit

@[expose] public section

set_option maxRecDepth 16384

noncomputable section

namespace Cert.Kernel11Ideal.In

open Cert.Kernel11Ideal Cert.Kernel11Ideal.Gen Idealize.ShloMosaic Idealize.ShloMosaic.TcCoe Idealize.SL.Sem Idealize.ShloMosaic.StableHlo
variable (m : (ℓ : Loc nD τ sig) → Buf (Elt Ideal) ℓ) (c : Dev nD)

/-- A block of rows, twelve feature slabs apart. -/
def slabs (v : FVec Ideal S512x1536 .f32) : FVec Ideal S12x512x128 .f32 := fun y => v (ix2 (y 1) ⟨128 * (y 0).val + (y 2).val, by
  have h0 : (y 0).val < 12 := (y 0).isLt
  have h2 : (y 2).val < 128 := (y 2).isLt
  omega⟩)

/-- Groups of four consecutive rows side by side. -/
def dil4 (v : FVec Ideal S512x1536 .f32) : FVec Ideal S128x6144 .bf16 := fun y => v (ix2 ⟨4 * (y 0).val + (y 1).val / 1536, by
  have h0 : (y 0).val < 128 := (y 0).isLt
  have h2 : (y 1).val < 6144 := (y 1).isLt
  omega⟩ ⟨(y 1).val % 1536, by omega⟩)

/-- Groups of sixteen consecutive rows side by side. -/
def dil16 (v : FVec Ideal S512x1536 .f32) : FVec Ideal S32x24576 .bf16 := fun y => v (ix2 ⟨16 * (y 0).val + (y 1).val / 1536, by
  have h0 : (y 0).val < 32 := (y 0).isLt
  have h2 : (y 1).val < 24576 := (y 1).isLt
  omega⟩ ⟨(y 1).val % 1536, by omega⟩)

theorem at_slabs (v : FVec Ideal S512x1536 .f32) (y : S12x512x128.Idx) (a b) (h1 : a.val = (y 1).val) (h2 : b.val = 128 * (y 0).val + (y 2).val) :
    v (ix2 a b) = slabs v y := by
  unfold slabs; congr 2 <;> exact Fin.ext (by assumption)

theorem at_dil4 (v : FVec Ideal S512x1536 .f32) (y : S128x6144.Idx) (a b) (h1 : a.val = 4 * (y 0).val + (y 1).val / 1536) (h2 : b.val = (y 1).val % 1536) :
    v (ix2 a b) = dil4 v y := by
  unfold dil4; congr 2 <;> exact Fin.ext (by assumption)

theorem at_dil16 (v : FVec Ideal S512x1536 .f32) (y : S32x24576.Idx) (a b) (h1 : a.val = 16 * (y 0).val + (y 1).val / 1536) (h2 : b.val = (y 1).val % 1536) :
    v (ix2 a b) = dil16 v y := by
  unfold dil16; congr 2 <;> exact Fin.ext (by assumption)

theorem emb_val {s : Shape} {off size : Fin s.rank → ℕ} (inb) (x : (Rect.unit (s := s) off size inb).shape.Idx) (a) :
    ((Rect.unit off size inb).emb x a).val = off a + (x a).val := by
  show off a + 1 * (x a).val = _; rw [Nat.one_mul]

/-- The stores that fill the scratch, one feature slab each. -/
def fill (v : FVec Ideal S512x1536 .f32) : List (View.Piece (Elt Ideal) S12x512x128 .f32) :=
  [⟨Rect.unit ![11, 0, 0] ![1, 512, 128] inb_S12x512x128_S1x512x128_11_0_0, k0_pay20 v⟩,
    ⟨Rect.unit ![10, 0, 0] ![1, 512, 128] inb_S12x512x128_S1x512x128_10_0_0, k0_pay19 (k0_pay18 v)⟩,
    ⟨Rect.unit ![9, 0, 0] ![1, 512, 128] inb_S12x512x128_S1x512x128_9_0_0, k0_pay17 v⟩,
    ⟨Rect.unit ![8, 0, 0] ![1, 512, 128] inb_S12x512x128_S1x512x128_8_0_0, k0_pay16 v⟩,
    ⟨Rect.unit ![7, 0, 0] ![1, 512, 128] inb_S12x512x128_S1x512x128_7_0_0, k0_pay15 v⟩,
    ⟨Rect.unit ![6, 0, 0] ![1, 512, 128] inb_S12x512x128_S1x512x128_6_0_0, k0_pay14 v⟩,
    ⟨Rect.unit ![5, 0, 0] ![1, 512, 128] inb_S12x512x128_S1x512x128_5_0_0, k0_pay13 v⟩,
    ⟨Rect.unit ![4, 0, 0] ![1, 512, 128] inb_S12x512x128_S1x512x128_4_0_0, k0_pay12 v⟩,
    ⟨Rect.unit ![3, 0, 0] ![1, 512, 128] inb_S12x512x128_S1x512x128_3_0_0, k0_pay11 v⟩,
    ⟨Rect.unit ![2, 0, 0] ![1, 512, 128] inb_S12x512x128_S1x512x128_2_0_0, k0_pay10 (extractStridedSlice S512x128 ![0, 256] v slices_S512x1536_o0_256_S512x128)⟩,
    ⟨Rect.unit ![1, 0, 0] ![1, 512, 128] inb_S12x512x128_S1x512x128_1_0_0, shapeCast S1x512x128 (extractStridedSlice S512x128 ![0, 128] v slices_S512x1536_o0_128_S512x128) shapeCasts_S512x128_S1x512x128⟩,
    ⟨Rect.unit ![0, 0, 0] ![1, 512, 128] inb_S12x512x128_S1x512x128_0_0_0, shapeCast S1x512x128 (extractStridedSlice S512x128 ![0, 0] v slices_S512x1536_o0_0_S512x128) shapeCasts_S512x128_S1x512x128⟩]

theorem fill_ok (v : FVec Ideal S512x1536 .f32) : ∀ p ∈ fill v, ∀ x : p.1.shape.Idx, p.2 x = slabs v (p.1.emb x) := by
  unfold fill
  simp only [List.forall_mem_cons]
  refine ⟨?_, ?_, ?_, ?_, ?_, ?_, ?_, ?_, ?_, ?_, ?_, ?_, fun _ h => absurd h List.not_mem_nil⟩
  all_goals
    intro x
    have x0 : (x 0).val < 1 := (x 0).isLt
    pointwise [k0_pay10, k0_pay11, k0_pay12, k0_pay13, k0_pay14, k0_pay15, k0_pay16, k0_pay17, k0_pay18, k0_pay19, k0_pay20]
    refine at_slabs v _ _ _ ?_ ?_
    all_goals
      simp only [emb_val]
      simp
      try omega

theorem fill_covers (v : FVec Ideal S512x1536 .f32) (y : S12x512x128.Idx) : ∃ p ∈ fill v, y ∈ p.1.set := by
  have h0 : (y 0).val < 12 := (y 0).isLt
  have h1 : (y 1).val < 512 := (y 1).isLt
  have h2 : (y 2).val < 128 := (y 2).isLt
  unfold fill
  simp only [List.exists_mem_cons_iff, Rect.mem_set_unit]
  simp [Fin.forall_fin_succ]
  omega

theorem read_fill {κ : Kind} {sp : Space} {sig : RefSig} (w : View sig κ sp S12x512x128 .f32) (v : FVec Ideal S512x1536 .f32) (B : LoadRect S12x512x128) (z : B.shape.Idx) :
    w.readCov (fill v) B z = slabs v (B.idx z) := by
  have h := View.read_writes_apply_of_pieces w w.junk (slabs v) (fill v) (fill_ok v) (B.idx z) (fill_covers v _)
  exact h

set_option maxHeartbeats 8000000 in
theorem out_dil4 (t : Fin cfg0.N) (z) : (outsAt0 m c t).2.2.1 z = dil4 (k0_pay6 (iblk m c 0 t) (iblk m c 1 t) (iblk m c 2 t)) z := by
  unfold outsAt0
  dsimp only
  unfold out0_A_5
  frame_out
  simp only [k0_pay7, k0_pay8, k0_pay9]
  generalize k0_pay6 (iblk m c 0 t) (iblk m c 1 t) (iblk m c 2 t) = v
  apply View.canon_apply_of_pieces
  · simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
    all_goals
      intro x
      have x0 : (x 0).val < 128 := (x 0).isLt
      have x1 : (x 1).val < 128 := (x 1).isLt
      pointwise [k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
      refine (read_fill _ v _ _).trans ?_
      unfold slabs
      refine at_dil4 v _ _ _ ?_ ?_
      all_goals
        simp only [emb_val]
        simp [LoadRect.idx]
        try omega
  · have h0 : (z 0).val < 128 := (z 0).isLt
    have h1 : (z 1).val < 6144 := (z 1).isLt
    simp only [List.exists_mem_cons_iff, Rect.mem_set_unit]
    simp [Fin.forall_fin_succ]
    omega

end Cert.Kernel11Ideal.In

end
-- ==== Proof.InDilWide.lean ====
/- The kernel of the norm and the input product: the block that lays sixteen consecutive rows side by side, as the body leaves it. -/
module

public import proofs.«01_k».proof.Proof.InDil
public import Idealize.ShloMosaic.Lib.Pipeline.ValueKit

@[expose] public section

set_option maxRecDepth 16384

noncomputable section

namespace Cert.Kernel11Ideal.In

open Cert.Kernel11Ideal Cert.Kernel11Ideal.Gen Idealize.ShloMosaic Idealize.ShloMosaic.TcCoe Idealize.SL.Sem Idealize.ShloMosaic.StableHlo
variable (m : (ℓ : Loc nD τ sig) → Buf (Elt Ideal) ℓ) (c : Dev nD)

set_option maxHeartbeats 8000000 in
theorem out_dil16 (t : Fin cfg0.N) (z) : (outsAt0 m c t).2.2.2 z = dil16 (k0_pay6 (iblk m c 0 t) (iblk m c 1 t) (iblk m c 2 t)) z := by
  unfold outsAt0
  dsimp only
  unfold out0_A_6
  frame_out
  simp only [k0_pay7, k0_pay8, k0_pay9]
  generalize k0_pay6 (iblk m c 0 t) (iblk m c 1 t) (iblk m c 2 t) = v
  apply View.canon_apply_of_pieces
  · simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
    all_goals
      intro x
      have x0 : (x 0).val < 32 := (x 0).isLt
      have x1 : (x 1).val < 128 := (x 1).isLt
      pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay1, k0_pay2]
      refine (read_fill _ v _ _).trans ?_
      unfold slabs
      refine at_dil16 v _ _ _ ?_ ?_
      all_goals
        simp only [emb_val]
        simp [LoadRect.idx]
        try omega
  · have h0 : (z 0).val < 32 := (z 0).isLt
    have h1 : (z 1).val < 24576 := (z 1).isLt
    simp only [List.exists_mem_cons_iff, Rect.mem_set_unit]
    simp [Fin.forall_fin_succ]
    omega

end Cert.Kernel11Ideal.In

end
-- ==== Proof.InKernel.lean ====
/- The kernel of the norm and the input product: what its result arrays hold after the run, as the reference's lines on the same arguments. -/
module

public import proofs.«01_k».proof.Proof.InDilWide
public import proofs.«01_k».proof.Proof.Gen.Reference11Ideal.Read
public import Idealize.ShloMosaic.Lib.StableHlo.Run

@[expose] public section

set_option maxRecDepth 16384

noncomputable section

namespace Cert.Kernel11Ideal.In

open Cert.Kernel11Ideal Cert.Kernel11Ideal.Gen Idealize.ShloMosaic Idealize.ShloMosaic.TcCoe Idealize.SL.Sem Idealize.ShloMosaic.StableHlo
open Cert.Reference11Ideal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_cst val_main_cst_0 val_main_cst_1)

/-! ## The body's arithmetic on a block of rows -/

/-- The product of every normed row with every padded weight row. -/
def prod (x : S8192x1024.Idx → EReal) (w : S2304x1024.Idx → EReal) : S8192x2304.Idx → EReal :=
  fun i => ∑ k : Fin 1024, x (ix2 (i 0) k) * w (ix2 (i 1) k)

section Pay
variable (f : Fin 512 → Fin 8192) (x : FVec Ideal S8192x1024 .f32) (g : FVec Ideal S1x1024 .f32) (w : FVec Ideal S2304x1024 .bf16)

/-- The rows `f` of an array. -/
def rows (f : Fin 512 → Fin 8192) (v : S8192x1024.Idx → EReal) : S512x1024.Idx → EReal := fun i => v (ix2 (f (i 0)) (i 1))

theorem pay_h : (k0_pay3 (F := Ideal) (rows f x) g : S512x1024.Idx → EReal) = rows f (val_main_v11 (F := Ideal) x g) := by
  funext i
  obtain ⟨r, k, rfl⟩ : ∃ (r : Fin 512) (k : Fin 1024), i = ix2 r k := ⟨_, _, eq_ix2 i⟩
  show _ = val_main_v11 (F := Ideal) x g (ix2 (f r) k)
  pointwise [k0_pay3, rows, val_main_v11, val_main_v10, val_main_v9, val_main_v8, val_main_v7, val_main_v6, val_main_v5, val_main_v4, val_main_v3, val_main_v2, val_main_v1, val_main_v0, val_main_cst, val_main_cst_0, val_main_cst_1]

theorem pay_p (r : Fin 512) (q : Fin 2304) : (k0_pay4 (F := Ideal) (rows f x) g w : S512x2304.Idx → EReal) (ix2 r q)
    = prod (val_main_v11 (F := Ideal) x g) w (ix2 (f r) q) := by
  unfold k0_pay4
  rw [pay_h]
  pointwise [rows, prod]
end Pay

/-! ## The blocks the body reads -/

variable (m : (ℓ : Loc nD τ sig) → Buf (Elt Ideal) ℓ) (c : Dev nD)

theorem idx : ∀ t : Fin cfg0.N,
    win0_0.index t 0 = t.val ∧ win0_0.index t 1 = 0 ∧ win0_1.index t 0 = 0 ∧ win0_1.index t 1 = 0 ∧
    win0_2.index t 0 = 0 ∧ win0_2.index t 1 = 0 ∧ win0_3.index t 0 = t.val ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 := by
  decide +kernel

/-- Row `r` of block `t`. -/
def row (t : Fin cfg0.N) (r : Fin 512) : Fin 8192 :=
  ⟨t.val * 512 + r.val, by have := lt_of_lt_of_eq t.isLt N_0; have := r.isLt; omega⟩
/-- Group `r` of four rows of block `t`. -/
def row4 (t : Fin cfg0.N) (r : Fin 128) : Fin 2048 :=
  ⟨t.val * 128 + r.val, by have := lt_of_lt_of_eq t.isLt N_0; have := r.isLt; omega⟩
/-- Group `r` of sixteen rows of block `t`. -/
def row16 (t : Fin cfg0.N) (r : Fin 32) : Fin 512 :=
  ⟨t.val * 32 + r.val, by have := lt_of_lt_of_eq t.isLt N_0; have := r.isLt; omega⟩

/-- The padded weights, one row for every column of the product. -/
def pad (w : FVec Ideal S1024x2208 .f32) : FVec Ideal S2304x1024 .f32 :=
  concatenate S2304x1024 0 [⟨S2176x1024, extractStridedSlice S2176x1024 ![0, 0] (transpose S2208x1024 [1, 0] w transposes_S1024x2208_S2208x1024_1_0) slices_S2208x1024_S2176x1024_0_0⟩,
    ⟨S64x1024, broadcastInDim S64x1024 ![] bcast_S_S64x1024 (constant (F := Ideal) S_ .f32 0x00000000#32)⟩,
    ⟨S32x1024, extractStridedSlice S32x1024 ![2176, 0] (transpose S2208x1024 [1, 0] w transposes_S1024x2208_S2208x1024_1_0) slices_S2208x1024_S32x1024_2176_0⟩,
    ⟨S32x1024, broadcastInDim S32x1024 ![] bcast_S_S32x1024 (constant (F := Ideal) S_ .f32 0x00000000#32)⟩] concatenates_S2176x1024_S64x1024_S32x1024_S32x1024_S2304x1024_d0

theorem V_pad : (V m c main_v6 : S2304x1024.Idx → EReal) = pad (m ((c : Thread nD τ).loc main_arg2)) := by
  show after hostOps0 (fun b => m (c, b)) (Proc.devRef .tc main_v6) = _
  after_results
  rfl

/-- The first columns are the weights'; -/
theorem host_low (q : Fin 2176) (k : Fin 1024) : (V m c main_v6 : S2304x1024.Idx → EReal) (ix2 ⟨q.val, by omega⟩ k)
    = (m ((c : Thread nD τ).loc main_arg2) : S1024x2208.Idx → EReal) (ix2 k ⟨q.val, by omega⟩) := by
  rw [V_pad]
  pointwise [pad]

/-- and so are the last ones, after a gap. -/
theorem host_high (q : Fin 32) (k : Fin 1024) : (V m c main_v6 : S2304x1024.Idx → EReal) (ix2 ⟨2240 + q.val, by omega⟩ k)
    = (m ((c : Thread nD τ).loc main_arg2) : S1024x2208.Idx → EReal) (ix2 k ⟨2176 + q.val, by omega⟩) := by
  rw [V_pad]
  pointwise [pad]
  refine (dif_neg (show ¬ 2240 + q.val < 2176 by omega)).trans ?_
  refine (dif_neg (show ¬ 2240 + q.val - 2176 < 64 by omega)).trans ?_
  refine (dif_pos (show 2240 + q.val - 2176 - 64 < 32 by omega)).trans ?_
  refine congrArg (fun j : Fin 2208 => (m ((c : Thread nD τ).loc main_arg2) : S1024x2208.Idx → EReal) (ix2 k j)) (Fin.ext ?_)
  show 2176 + (2240 + q.val - 2176 - 64) = 2176 + q.val
  omega

section Blocks
variable (x : FVec Ideal S8192x1024 .f32) (g : FVec Ideal S1x1024 .f32)
  (h0 : m ((c : Thread nD τ).loc main_arg0) = x) (h1 : m ((c : Thread nD τ).loc main_arg1) = g)

include h0 in
theorem blk0 (t : Fin cfg0.N) : (iblk m c 0 t : S512x1024.Idx → EReal) = rows (row t) x := by
  funext i
  refine Eq.trans (b := (m ((c : Thread nD τ).loc main_arg0) : FVec Ideal S8192x1024 .f32) (ix2 (row t (i 0)) (i 1))) ?_ (congrFun h0 _)
  blk_ext [iblk, V, idx t, row]

include h1 in
theorem blk1 (t : Fin cfg0.N) : (iblk m c 1 t : S1x1024.Idx → EReal) = g := by
  funext i
  refine Eq.trans (b := (m ((c : Thread nD τ).loc main_arg1) : FVec Ideal S1x1024 .f32) i) ?_ (congrFun h1 _)
  blk_ext [iblk, V, idx t]

theorem blk2 (t : Fin cfg0.N) : (iblk m c 2 t : S2304x1024.Idx → EReal) = V m c main_v6 := by
  funext i
  blk_ext [iblk, idx t]

include h0 h1

theorem body_p (t : Fin cfg0.N) (r : Fin 512) (q : Fin 2304) : (k0_pay4 (F := Ideal) (iblk m c 0 t) (iblk m c 1 t) (iblk m c 2 t) : S512x2304.Idx → EReal) (ix2 r q)
    = prod (val_main_v11 (F := Ideal) x g) (V m c main_v6) (ix2 (row t r) q) :=
  (congrFun (congr (congrArg₂ (k0_pay4 (F := Ideal)) (blk0 m c x h0 t) (blk1 m c g h1 t)) (blk2 m c t)) (ix2 r q)).trans (pay_p (row t) x g _ r q)

theorem body_qkv (t : Fin cfg0.N) (r : Fin 512) (q : Fin 1536) : (k0_pay6 (F := Ideal) (iblk m c 0 t) (iblk m c 1 t) (iblk m c 2 t) : S512x1536.Idx → EReal) (ix2 r q)
    = prod (val_main_v11 (F := Ideal) x g) (V m c main_v6) (ix2 (row t r) ⟨q.val, by omega⟩) := by
  refine Eq.trans ?_ (body_p m c x g h0 h1 t r ⟨q.val, by omega⟩)
  pointwise [k0_pay6]

/-! ## What the result arrays hold -/

theorem final_p : ((dats m 0 c).arrAt 3 (cfgs 0).N : S8192x2304.Idx → EReal) = prod (val_main_v11 (F := Ideal) x g) (V m c main_v6) := by
  refine (dats m 0 c).arrAt_eq_of_covers 3 _ (by decide +kernel) fun t _ z => ?_
  have e : ((cfg0.win 3).blk t).view.emb z = (ix2 (row t (z 0)) (z 1) : S8192x2304.Idx) := by blk_ext [idx t, row]
  blk_simp
  rw [after0_3, e]
  unfold outsAt0
  dsimp only
  unfold out0_A_3
  frame_out
  refine Eq.trans ?_ (body_p m c x g h0 h1 t (z 0) (z 1))
  pointwise [k0_pay5]

theorem final_h : ((dats m 0 c).arrAt 4 (cfgs 0).N : S8192x1024.Idx → EReal) = val_main_v11 (F := Ideal) x g := by
  refine (dats m 0 c).arrAt_eq_of_covers 4 _ (by decide +kernel) fun t _ z => ?_
  have e : ((cfg0.win 4).blk t).view.emb z = (ix2 (row t (z 0)) (z 1) : S8192x1024.Idx) := by blk_ext [idx t, row]
  blk_simp
  rw [after0_4, e]
  unfold outsAt0
  dsimp only
  unfold out0_A_4
  frame_out
  exact congrFun ((congrArg₂ (k0_pay3 (F := Ideal)) (blk0 m c x h0 t) (blk1 m c g h1 t)).trans (pay_h (row t) x g)) z

/-- The first columns of a product, groups of four consecutive rows side by side. -/
def side4 (v : S8192x2304.Idx → EReal) : S2048x6144.Idx → EReal := fun y => v (ix2 ⟨4 * (y 0).val + (y 1).val / 1536, by
  have h0 : (y 0).val < 2048 := (y 0).isLt
  have h2 : (y 1).val < 6144 := (y 1).isLt
  omega⟩ ⟨(y 1).val % 1536, by omega⟩)

/-- The first columns of a product, groups of sixteen consecutive rows side by side. -/
def side16 (v : S8192x2304.Idx → EReal) : S512x24576.Idx → EReal := fun y => v (ix2 ⟨16 * (y 0).val + (y 1).val / 1536, by
  have h0 : (y 0).val < 512 := (y 0).isLt
  have h2 : (y 1).val < 24576 := (y 1).isLt
  omega⟩ ⟨(y 1).val % 1536, by omega⟩)

theorem final_4 : ((dats m 0 c).arrAt 5 (cfgs 0).N : S2048x6144.Idx → EReal) = side4 (prod (val_main_v11 (F := Ideal) x g) (V m c main_v6)) := by
  refine (dats m 0 c).arrAt_eq_of_covers 5 _ (by decide +kernel) fun t _ z => ?_
  have e : ((cfg0.win 5).blk t).view.emb z = (ix2 (row4 t (z 0)) (z 1) : S2048x6144.Idx) := by blk_ext [idx t, row4]
  blk_simp
  rw [after0_5, e]
  refine (out_dil4 m c t z).trans ?_
  unfold dil4 side4
  refine (body_qkv m c x g h0 h1 t _ _).trans ?_
  refine congrArg (fun r : Fin 8192 => prod (val_main_v11 (F := Ideal) x g) (V m c main_v6) (ix2 r _)) (Fin.ext ?_)
  have h0 : (z 0).val < 128 := (z 0).isLt
  have h1 : (z 1).val < 6144 := (z 1).isLt
  show t.val * 512 + (4 * (z 0).val + (z 1).val / 1536) = 4 * (t.val * 128 + (z 0).val) + (z 1).val / 1536
  omega

theorem final_16 : ((dats m 0 c).arrAt 6 (cfgs 0).N : S512x24576.Idx → EReal) = side16 (prod (val_main_v11 (F := Ideal) x g) (V m c main_v6)) := by
  refine (dats m 0 c).arrAt_eq_of_covers 6 _ (by decide +kernel) fun t _ z => ?_
  have e : ((cfg0.win 6).blk t).view.emb z = (ix2 (row16 t (z 0)) (z 1) : S512x24576.Idx) := by blk_ext [idx t, row16]
  blk_simp
  rw [after0_6, e]
  refine (out_dil16 m c t z).trans ?_
  unfold dil16 side16
  refine (body_qkv m c x g h0 h1 t _ _).trans ?_
  refine congrArg (fun r : Fin 8192 => prod (val_main_v11 (F := Ideal) x g) (V m c main_v6) (ix2 r _)) (Fin.ext ?_)
  have h0 : (z 0).val < 32 := (z 0).isLt
  have h1 : (z 1).val < 24576 := (z 1).isLt
  show t.val * 512 + (16 * (z 0).val + (z 1).val / 1536) = 16 * (t.val * 32 + (z 0).val) + (z 1).val / 1536
  omega

end Blocks

/-! ## What the host reads of them after the body -/

/-- The first columns of the product; -/
def low (v : S8192x2304.Idx → EReal) : S8192x2176.Idx → EReal := extractStridedSlice S8192x2176 ![0, 0] v slices_S8192x2304_S8192x2176_0_0
/-- its last ones. -/
def high (v : S8192x2304.Idx → EReal) : S8192x32.Idx → EReal := extractStridedSlice S8192x32 ![0, 2240] v slices_S8192x2304_S8192x32_0_2240

/-- A column of the product that the padding kept is the reference's. -/
theorem prod_at (x : FVec Ideal S8192x1024 .f32) (g : FVec Ideal S1x1024 .f32) (r : Fin 8192) (q : Fin 2304) (q' : Fin 2208)
    (e : ∀ k : Fin 1024, (V m c main_v6 : S2304x1024.Idx → EReal) (ix2 q k) = (m ((c : Thread nD τ).loc main_arg2) : S1024x2208.Idx → EReal) (ix2 k q')) :
    prod (val_main_v11 (F := Ideal) x g) (V m c main_v6) (ix2 r q) = val_main_v12 (F := Ideal) x g (m ((c : Thread nD τ).loc main_arg2)) (ix2 r q') := by
  refine (Finset.sum_congr rfl fun k _ => congrArg (fun b : EReal => val_main_v11 (F := Ideal) x g (ix2 r k) * b) (e k)).trans ?_
  pointwise [val_main_v12]

section Back
variable (x : FVec Ideal S8192x1024 .f32) (g : FVec Ideal S1x1024 .f32)

theorem low_prod : low (prod (val_main_v11 (F := Ideal) x g) (V m c main_v6)) = val_main_v14 (F := Ideal) x g (m ((c : Thread nD τ).loc main_arg2)) := by
  funext i
  obtain ⟨r, q, rfl⟩ : ∃ (r : Fin 8192) (q : Fin 2176), i = ix2 r q := ⟨_, _, eq_ix2 i⟩
  have e := prod_at m c x g r ⟨q.val, by omega⟩ ⟨q.val, by omega⟩ (host_low m c q)
  refine Eq.trans ?_ (e.trans ?_)
  · pointwise [low]
  · pointwise [val_main_v14]

theorem high_prod : high (prod (val_main_v11 (F := Ideal) x g) (V m c main_v6)) = val_main_v15 (F := Ideal) x g (m ((c : Thread nD τ).loc main_arg2)) := by
  funext i
  obtain ⟨r, q, rfl⟩ : ∃ (r : Fin 8192) (q : Fin 32), i = ix2 r q := ⟨_, _, eq_ix2 i⟩
  have e := prod_at m c x g r ⟨2240 + q.val, by omega⟩ ⟨2176 + q.val, by omega⟩ (host_high m c q)
  refine Eq.trans ?_ (e.trans ?_)
  · pointwise [high]
  · pointwise [val_main_v15]

theorem side4_prod : side4 (prod (val_main_v11 (F := Ideal) x g) (V m c main_v6)) = val_main_v16 (F := Ideal) x g (m ((c : Thread nD τ).loc main_arg2)) := by
  funext i
  obtain ⟨r, q, rfl⟩ : ∃ (r : Fin 2048) (q : Fin 6144), i = ix2 r q := ⟨_, _, eq_ix2 i⟩
  have e := prod_at m c x g ⟨4 * r.val + q.val / 1536, by omega⟩ ⟨q.val % 1536, by omega⟩ ⟨q.val % 1536, by omega⟩ (host_low m c ⟨q.val % 1536, by omega⟩)
  refine Eq.trans ?_ (e.trans ?_)
  · rfl
  · pointwise [val_main_v16, val_main_v13]
    exact congrArg (fun r : Fin 8192 => val_main_v12 (F := Ideal) x g (m ((c : Thread nD τ).loc main_arg2)) (ix2 r _)) (Fin.ext (by show 4 * r.val + q.val / 1536 = r.val * 4 + q.val / 1536; omega))

theorem side16_prod : side16 (prod (val_main_v11 (F := Ideal) x g) (V m c main_v6)) = val_main_v17 (F := Ideal) x g (m ((c : Thread nD τ).loc main_arg2)) := by
  funext i
  obtain ⟨r, q, rfl⟩ : ∃ (r : Fin 512) (q : Fin 24576), i = ix2 r q := ⟨_, _, eq_ix2 i⟩
  have e := prod_at m c x g ⟨16 * r.val + q.val / 1536, by omega⟩ ⟨q.val % 1536, by omega⟩ ⟨q.val % 1536, by omega⟩ (host_low m c ⟨q.val % 1536, by omega⟩)
  refine Eq.trans ?_ (e.trans ?_)
  · rfl
  · pointwise [val_main_v17, val_main_v13]
    exact congrArg (fun r : Fin 8192 => val_main_v12 (F := Ideal) x g (m ((c : Thread nD τ).loc main_arg2)) (ix2 r _)) (Fin.ext (by show 16 * r.val + q.val / 1536 = r.val * 16 + q.val / 1536; omega))

end Back

set_option maxHeartbeats 4000000 in
theorem run (ρ : Dev nD → PrngReg) : θ_run defs (onTc (τ := τ) (main (F := Ideal))) ⟨m, fun _ => 0, ρ⟩ (fun r => ∀ c : Dev nD,
    (r.2.mem ((c : Thread nD τ).loc main_v9) : S8192x2176.Idx → EReal) = val_main_v14 (F := Ideal) (m ((c : Thread nD τ).loc main_arg0)) (m ((c : Thread nD τ).loc main_arg1)) (m ((c : Thread nD τ).loc main_arg2))
    ∧ (r.2.mem ((c : Thread nD τ).loc main_v10) : S8192x32.Idx → EReal) = val_main_v15 (F := Ideal) (m ((c : Thread nD τ).loc main_arg0)) (m ((c : Thread nD τ).loc main_arg1)) (m ((c : Thread nD τ).loc main_arg2))
    ∧ (r.2.mem ((c : Thread nD τ).loc main_v11) : S8192x1024.Idx → EReal) = val_main_v11 (F := Ideal) (m ((c : Thread nD τ).loc main_arg0)) (m ((c : Thread nD τ).loc main_arg1))
    ∧ (r.2.mem ((c : Thread nD τ).loc main_v12) : S2048x6144.Idx → EReal) = val_main_v16 (F := Ideal) (m ((c : Thread nD τ).loc main_arg0)) (m ((c : Thread nD τ).loc main_arg1)) (m ((c : Thread nD τ).loc main_arg2))
    ∧ (r.2.mem ((c : Thread nD τ).loc main_v13) : S512x24576.Idx → EReal) = val_main_v17 (F := Ideal) (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) := by
  refine (θ_run defs _ _).mono (fun r h c => ⟨?_, ?_, ?_, ?_, ?_, ?_, ?_, ?_⟩) (run_main m ρ)
  · refine ((h c).2 main_v9 (Pipeline.mem_restRefs_of main_v9 (by decide) (by decide))).trans ?_
    refine Eq.trans ?_ ((congrArg low (final_p m c _ _ rfl rfl)).trans (low_prod m c _ _))
    unfold Pipeline.afterTail₀
    show StableHlo.after hostOps1 _ (Proc.devRef .tc main_v9) = _
    after_results
    exact congrArg low (funext fun i => congrFun (Pipeline.withArrays_arr spec0 launch0.win.arr_inj c (V0 m c) (fun w => (dats m 0 c).arrAt w (cfgs 0).N) 3) i)
  · refine ((h c).2 main_v10 (Pipeline.mem_restRefs_of main_v10 (by decide) (by decide))).trans ?_
    refine Eq.trans ?_ ((congrArg high (final_p m c _ _ rfl rfl)).trans (high_prod m c _ _))
    unfold Pipeline.afterTail₀
    show StableHlo.after hostOps1 _ (Proc.devRef .tc main_v10) = _
    after_results
    exact congrArg high (funext fun i => congrFun (Pipeline.withArrays_arr spec0 launch0.win.arr_inj c (V0 m c) (fun w => (dats m 0 c).arrAt w (cfgs 0).N) 3) i)
  · refine ((h c).2 main_v11 (Pipeline.mem_restRefs_of main_v11 (by decide) (by decide))).trans ?_
    refine Eq.trans ?_ (final_h m c _ _ rfl rfl)
    unfold Pipeline.afterTail₀
    show StableHlo.after hostOps1 _ (Proc.devRef .tc main_v11) = _
    after_results
    exact funext fun i => congrFun (Pipeline.withArrays_arr spec0 launch0.win.arr_inj c (V0 m c) (fun w => (dats m 0 c).arrAt w (cfgs 0).N) 4) i
  · refine ((h c).2 main_v12 (Pipeline.mem_restRefs_of main_v12 (by decide) (by decide))).trans ?_
    refine Eq.trans ?_ ((final_4 m c _ _ rfl rfl).trans (side4_prod m c _ _))
    unfold Pipeline.afterTail₀
    show StableHlo.after hostOps1 _ (Proc.devRef .tc main_v12) = _
    after_results
    exact funext fun i => congrFun (Pipeline.withArrays_arr spec0 launch0.win.arr_inj c (V0 m c) (fun w => (dats m 0 c).arrAt w (cfgs 0).N) 5) i
  · refine ((h c).2 main_v13 (Pipeline.mem_restRefs_of main_v13 (by decide) (by decide))).trans ?_
    refine Eq.trans ?_ ((final_16 m c _ _ rfl rfl).trans (side16_prod m c _ _))
    unfold Pipeline.afterTail₀
    show StableHlo.after hostOps1 _ (Proc.devRef .tc main_v13) = _
    after_results
    exact funext fun i => congrFun (Pipeline.withArrays_arr spec0 launch0.win.arr_inj c (V0 m c) (fun w => (dats m 0 c).arrAt w (cfgs 0).N) 6) i
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).2 main_arg2 (Pipeline.mem_restRefs_of main_arg2 (by decide) (by decide))).trans (W_main_arg2 m (dats m) c)

end Cert.Kernel11Ideal.In

end
-- ==== Proof.InPair.lean ====
/- The claims of the norm and the input product: the idealized kernel and the reference leave the same five results, at any
   arguments, and the reference keeps its arguments. -/
module

public import proofs.«01_k».proof.Defs
public import proofs.«01_k».proof.Proof.Gen.Reference11Ideal.Run
public import proofs.«01_k».proof.Proof.InKernel
public import Idealize.ShloMosaic.Adequacy
public import Idealize.ShloMosaic.Init

@[expose] public section

noncomputable section

namespace Cert.InPair

open Idealize.ShloMosaic Idealize.SL.Sem

/-- The reference runs, keeps its arguments, and leaves every counter at zero: it declares none. -/
theorem reference_frame : Cert.quiescent_Reference11Ideal := fun m g _ =>
  (θ_run (Cert.Reference11Ideal.defs (F := Ideal)) _ _).mono
    (fun r h => ⟨fun c => (h c).2.2.2.2.2, sem_eq_zero_of_no_sems (by decide) r.2⟩) (Cert.Reference11Ideal.Value.run m g)

set_option maxRecDepth 16384 in
set_option maxHeartbeats 2000000 in
theorem algebraic : Cert.algebraic_Kernel11Ideal_Reference11Ideal := by
  pair_intro
  · exact Cert.Kernel11Ideal.In.run m g
  · refine θ_run_mono (Cert.Reference11Ideal.Value.run m' g') fun r hr c => ⟨(hr c).1.trans ?_, (hr c).2.1.trans ?_, (hr c).2.2.1.trans ?_, (hr c).2.2.2.1.trans ?_, (hr c).2.2.2.2.1.trans ?_, (hr c).2.2.2.2.2⟩
    all_goals obtain ⟨e0, e1, e2⟩ := hagree c
    · rw [Cert.Reference11Ideal.Read.val_main_v14_eq, e0, e1, e2]
    · rw [Cert.Reference11Ideal.Read.val_main_v15_eq, e0, e1, e2]
    · rw [Cert.Reference11Ideal.Read.val_main_v11_eq, e0, e1]
    · rw [Cert.Reference11Ideal.Read.val_main_v16_eq, e0, e1, e2]
    · rw [Cert.Reference11Ideal.Read.val_main_v17_eq, e0, e1, e2]

end Cert.InPair

end
-- ==== Proof.LatPay.lean ====
/- The arithmetic of the low-rank projections' preparation on one block of rows, as arrays of extended reals. -/
module

public import proofs.«01_k».proof.Proof.Mats
public import proofs.«01_k».proof.Proof.Gen.Kernel12Ideal.Frame
public import proofs.«01_k».proof.Proof.Gen.Reference12Ideal.Read

@[expose] public section

set_option maxRecDepth 16384

noncomputable section

namespace Cert.Kernel12Ideal.Lat

open Cert.Kernel12Ideal Cert.Kernel12Ideal.Gen Idealize.ShloMosaic Idealize.ShloMosaic.TcCoe Idealize.SL.Sem
open Cert.Reference12Ideal.Read (val_main_v29 val_main_v28 val_main_v27 val_main_v26 val_main_v25 val_main_v24 val_main_v23 val_main_v22 val_main_v21 val_main_v20 val_main_v19 val_main_v18 val_main_v41 val_main_v40 val_main_v39 val_main_v38 val_main_v37 val_main_v36 val_main_v35 val_main_v34 val_main_v33 val_main_v32 val_main_v31 val_main_v30 val_main_v64 val_main_cst_3 val_main_cst_4 val_main_cst_5 val_main_cst_6 val_main_cst_7 val_main_cst_8)

/-- The rows `f` of an array. -/
def rows {n : ℕ} {α : Type} (f : Fin 512 → Fin 8192) (v : (⟨2, ![8192, n]⟩ : Shape).Idx → α) : (⟨2, ![512, n]⟩ : Shape).Idx → α :=
  fun i => v (ix2 (f (i 0)) (i 1))

/-- The column of lane `l` of head `a`. -/
def col (a : Fin 8) (l : ℕ) (hl : l < 128) : Fin 1024 := ⟨a.val * 128 + l, by omega⟩

/-- The factor the queries are scaled by. -/
def QS : EReal := (Named.named (F := Ideal) κ "qscale" (φ := .f32) 0x3E16C740#32 : EReal)

/-- A lane with the lanes sixteen to each side of it, by three factors. -/
def turn (q : Fin 128 → EReal) (c a b : EReal) (l : Fin 128) : EReal :=
  q l * c + q ⟨(l.val + 128 - 112) % 128, Nat.mod_lt _ (by omega)⟩ * a + q ⟨(l.val + 128 - 16) % 128, Nat.mod_lt _ (by omega)⟩ * b

section Lanes
variable {n : ℕ} (Q : (⟨2, ![n, 1024]⟩ : Shape).Idx → EReal) (X C A B : (⟨2, ![n, 128]⟩ : Shape).Idx → EReal)

/-- The queries' lanes, head by head. -/
def qLane (r : Fin n) (a : Fin 8) (l : Fin 128) : EReal :=
  turn (fun j => Q (ix2 r (col a j.val j.isLt))) (C (ix2 r l)) (A (ix2 r l)) (B (ix2 r l)) l * QS

/-- The shared part of the keys. -/
def kShared (r : Fin n) (l : Fin 128) : EReal :=
  Scalar.select (IntOp.ori (IntOp.cmpi CmpIPredicate.eq (BitVec.ofNat 32 l.val) 96#32) (IntOp.cmpi CmpIPredicate.eq (BitVec.ofNat 32 l.val) 97#32))
    (1 : EReal) (turn (fun j => X (ix2 r j)) (C (ix2 r l)) (A (ix2 r l)) (B (ix2 r l)) l)

/-- The keys' lanes, head by head. -/
def kLane (r : Fin n) (a : Fin 8) (l : Fin 128) : EReal :=
  Scalar.select (IntOp.cmpi CmpIPredicate.slt (BitVec.ofNat 32 l.val) 64#32) (Q (ix2 r (col a l.val l.isLt))) (kShared X C A B r l)

/-- The values' lanes, head by head. -/
def vLane (r : Fin n) (a : Fin 8) (l : Fin 128) : EReal :=
  Scalar.select (IntOp.cmpi CmpIPredicate.slt (BitVec.ofNat 32 l.val) 64#32)
    (Scalar.select (IntOp.cmpi CmpIPredicate.slt (BitVec.ofNat 32 l.val) 2#32) (1 : EReal) 0) (Q (ix2 r (col a l.val l.isLt)))

/-- Lanes given head by head, as one row of columns. -/
def flat (T : Fin n → Fin 8 → Fin 128 → EReal) : (⟨2, ![n, 1024]⟩ : Shape).Idx → EReal :=
  fun z => T (z 0) ⟨(z 1).val / 128, by have h : (z 1).val < 1024 := (z 1).isLt; omega⟩ ⟨(z 1).val % 128, Nat.mod_lt _ (by omega)⟩
end Lanes

/-- A head's lanes, at the place of its columns. -/
theorem piece (T : Fin 512 → Fin 8 → Fin 128 → EReal) (a : Fin 8) (inb) (v : S512x128.Idx → EReal) (h : ∀ r l, v (ix2 r l) = T r a l) (x : S512x128.Idx) :
    v x = flat T ((Rect.unit (s := S512x1024) ![0, a.val * 128] ![512, 128] inb).emb x) := by
  obtain ⟨r, l, rfl⟩ : ∃ (r : Fin 512) (l : Fin 128), x = ix2 r l := ⟨_, _, eq_ix2 x⟩
  have hl := l.isLt
  rw [h]
  have e0 : r = (Rect.unit (s := S512x1024) ![0, a.val * 128] ![512, 128] inb).emb (ix2 r l : S512x128.Idx) 0 := Fin.ext (by show r.val = 0 + 1 * r.val; omega)
  have e1 : ((Rect.unit (s := S512x1024) ![0, a.val * 128] ![512, 128] inb).emb (ix2 r l : S512x128.Idx) 1).val = a.val * 128 + l.val := by
    show a.val * 128 + 1 * l.val = _; omega
  unfold flat
  congr 1
  · exact Fin.ext (by show a.val = _ / 128; rw [e1]; omega)
  · exact Fin.ext (by show l.val = _ % 128; rw [e1]; omega)

/-! ## The heads' lanes in the body -/

section Heads
variable (Q : FVec Ideal S512x1024 .f32) (C A B R : FVec Ideal S512x128 .f32)

theorem keep1 (x : FVec Ideal S512x128 .f32) : (k0_pay1 (F := Ideal) x : S512x128.Idx → EReal) = x := by
  funext i
  obtain ⟨r, l, rfl⟩ : ∃ (r : Fin 512) (l : Fin 128), i = ix2 r l := ⟨_, _, eq_ix2 i⟩
  pointwise [k0_pay1]

theorem pay_kr (x : FVec Ideal S512x128 .bf16) : (k0_pay10 (F := Ideal) C A B x : S512x128.Idx → EReal) = fun i => kShared x C A B (i 0) (i 1) := by
  funext i
  obtain ⟨r, l, rfl⟩ : ∃ (r : Fin 512) (l : Fin 128), i = ix2 r l := ⟨_, _, eq_ix2 i⟩
  pointwise [k0_pay10]
  rfl

/-- The queries' eight stores. -/
theorem canon_q (z : S512x1024.Idx) : (View.canon ([⟨r0_17, k0_pay37 (F := Ideal) C A B Q⟩, ⟨r0_16, k0_pay34 C A B Q⟩, ⟨r0_15, k0_pay31 C A B Q⟩, ⟨r0_14, k0_pay28 C A B Q⟩,
    ⟨r0_13, k0_pay25 (k0_pay23 C A B Q) k0_pay24⟩, ⟨r0_12, k0_pay20 C A B Q⟩, ⟨r0_11, k0_pay17 C A B Q⟩, ⟨r0_10, k0_pay14 B (k0_pay12 Q) (k0_pay13 C A Q)⟩] : List (View.Piece (Elt Ideal) S512x1024 .bf16)) z : EReal)
    = flat (qLane Q C A B) z := by
  apply View.canon_apply_of_pieces
  · simp only [List.forall_mem_cons]
    refine ⟨piece _ 7 _ _ fun r l => ?_, piece _ 6 _ _ fun r l => ?_, piece _ 5 _ _ fun r l => ?_, piece _ 4 _ _ fun r l => ?_,
      piece _ 3 _ _ fun r l => ?_, piece _ 2 _ _ fun r l => ?_, piece _ 1 _ _ fun r l => ?_, piece _ 0 _ _ fun r l => ?_, fun _ h => absurd h List.not_mem_nil⟩
    all_goals
      pointwise [k0_pay37, k0_pay34, k0_pay31, k0_pay28, k0_pay25, k0_pay24, k0_pay23, k0_pay20, k0_pay17, k0_pay14, k0_pay13, k0_pay12]
      simp only [qLane, turn, col, Fin.val_zero, Nat.zero_mul, Nat.zero_add]
      rfl
  · exact cover0_8 _ _ _ _ _ _ _ _ z

/-- The keys' eight stores. -/
theorem canon_k (x : S512x128.Idx → EReal) (hR : (R : S512x128.Idx → EReal) = fun i => kShared x C A B (i 0) (i 1)) (z : S512x1024.Idx) :
    (View.canon ([⟨r0_17, k0_pay38 (F := Ideal) Q (iota .tc S512x128 32 [1] iota_S512x128_d1_w32) R⟩, ⟨r0_16, k0_pay35 Q (iota .tc S512x128 32 [1] iota_S512x128_d1_w32) R⟩,
      ⟨r0_15, k0_pay32 Q (iota .tc S512x128 32 [1] iota_S512x128_d1_w32) R⟩, ⟨r0_14, k0_pay29 Q (iota .tc S512x128 32 [1] iota_S512x128_d1_w32) R⟩,
      ⟨r0_13, k0_pay26 Q (iota .tc S512x128 32 [1] iota_S512x128_d1_w32) R⟩, ⟨r0_12, k0_pay21 Q (iota .tc S512x128 32 [1] iota_S512x128_d1_w32) R⟩,
      ⟨r0_11, k0_pay18 Q (iota .tc S512x128 32 [1] iota_S512x128_d1_w32) R⟩, ⟨r0_10, k0_pay15 Q (iota .tc S512x128 32 [1] iota_S512x128_d1_w32) R⟩] : List (View.Piece (Elt Ideal) S512x1024 .bf16)) z : EReal)
    = flat (kLane Q x C A B) z := by
  apply View.canon_apply_of_pieces
  · simp only [List.forall_mem_cons]
    refine ⟨piece _ 7 _ _ fun r l => ?_, piece _ 6 _ _ fun r l => ?_, piece _ 5 _ _ fun r l => ?_, piece _ 4 _ _ fun r l => ?_,
      piece _ 3 _ _ fun r l => ?_, piece _ 2 _ _ fun r l => ?_, piece _ 1 _ _ fun r l => ?_, piece _ 0 _ _ fun r l => ?_, fun _ h => absurd h List.not_mem_nil⟩
    all_goals
      pointwise [k0_pay38, k0_pay35, k0_pay32, k0_pay29, k0_pay26, k0_pay21, k0_pay18, k0_pay15]
      rw [hR]
      simp only [kLane, col, Fin.val_zero, Nat.zero_mul, Nat.zero_add]
      rfl
  · exact cover0_9 _ _ _ _ _ _ _ _ z

/-- The values' eight stores. -/
theorem canon_v (z : S512x1024.Idx) :
    (View.canon ([⟨r0_17, k0_pay39 (F := Ideal) Q (iota .tc S512x128 32 [1] iota_S512x128_d1_w32) k0_pay11⟩, ⟨r0_16, k0_pay36 Q (iota .tc S512x128 32 [1] iota_S512x128_d1_w32) k0_pay11⟩,
      ⟨r0_15, k0_pay33 Q (iota .tc S512x128 32 [1] iota_S512x128_d1_w32) k0_pay11⟩, ⟨r0_14, k0_pay30 Q (iota .tc S512x128 32 [1] iota_S512x128_d1_w32) k0_pay11⟩,
      ⟨r0_13, k0_pay27 Q (iota .tc S512x128 32 [1] iota_S512x128_d1_w32) k0_pay11⟩, ⟨r0_12, k0_pay22 Q (iota .tc S512x128 32 [1] iota_S512x128_d1_w32) k0_pay11⟩,
      ⟨r0_11, k0_pay19 Q (iota .tc S512x128 32 [1] iota_S512x128_d1_w32) k0_pay11⟩, ⟨r0_10, k0_pay16 Q (iota .tc S512x128 32 [1] iota_S512x128_d1_w32) k0_pay11⟩] : List (View.Piece (Elt Ideal) S512x1024 .bf16)) z : EReal)
    = flat (vLane Q) z := by
  apply View.canon_apply_of_pieces
  · simp only [List.forall_mem_cons]
    refine ⟨piece _ 7 _ _ fun r l => ?_, piece _ 6 _ _ fun r l => ?_, piece _ 5 _ _ fun r l => ?_, piece _ 4 _ _ fun r l => ?_,
      piece _ 3 _ _ fun r l => ?_, piece _ 2 _ _ fun r l => ?_, piece _ 1 _ _ fun r l => ?_, piece _ 0 _ _ fun r l => ?_, fun _ h => absurd h List.not_mem_nil⟩
    all_goals
      pointwise [k0_pay39, k0_pay36, k0_pay33, k0_pay30, k0_pay27, k0_pay22, k0_pay19, k0_pay16, k0_pay11]
      simp only [vLane, col, Fin.val_zero, Nat.zero_mul, Nat.zero_add]
      try rfl
  · exact cover0_10 _ _ _ _ _ _ _ _ z
end Heads

section Pay
variable (f : Fin 512 → Fin 8192)

theorem pay_nq (x : FVec Ideal S8192x384 .f32) (g : FVec Ideal S1x384 .f32) : (k0_pay4 (F := Ideal) (rows f x) g : S512x384.Idx → EReal) = rows f (val_main_v29 (F := Ideal) x g) := by
  funext i
  obtain ⟨r, k, rfl⟩ : ∃ (r : Fin 512) (k : Fin 384), i = ix2 r k := ⟨_, _, eq_ix2 i⟩
  show _ = val_main_v29 (F := Ideal) x g (ix2 (f r) k)
  pointwise [k0_pay4, rows, val_main_v29, val_main_v28, val_main_v27, val_main_v26, val_main_v25, val_main_v24, val_main_v23, val_main_v22, val_main_v21, val_main_v20, val_main_v19, val_main_v18, val_main_cst_3, val_main_cst_4, val_main_cst_5]

theorem pay_nkv (x : FVec Ideal S8192x256 .f32) (g : FVec Ideal S1x256 .f32) :
    (k0_pay8 (F := Ideal) (k0_pay6 (F := Ideal) (rows f x)) (k0_pay7 (F := Ideal) (rows f x)) (Scalar.ofBits .f32 0x358637BD#32) g : S512x256.Idx → EReal) = rows f (val_main_v41 (F := Ideal) x g) := by
  funext i
  obtain ⟨r, k, rfl⟩ : ∃ (r : Fin 512) (k : Fin 256), i = ix2 r k := ⟨_, _, eq_ix2 i⟩
  show _ = val_main_v41 (F := Ideal) x g (ix2 (f r) k)
  pointwise [k0_pay6, k0_pay7, k0_pay8, rows, val_main_v41, val_main_v40, val_main_v39, val_main_v38, val_main_v37, val_main_v36, val_main_v35, val_main_v34, val_main_v33, val_main_v32, val_main_v31, val_main_v30, val_main_cst_6, val_main_cst_7, val_main_cst_8]

/-- The queries before the rotation, with the weights' rows as the host packs them. -/
def qFull (x : FVec Ideal S8192x384 .f32) (g : FVec Ideal S1x384 .f32) (w : S1024x384.Idx → EReal) : S8192x1024.Idx → EReal :=
  fun i => ∑ k : Fin 384, val_main_v29 (F := Ideal) x g (ix2 (i 0) k) * w (ix2 (i 1) k)

theorem pay_q (x : FVec Ideal S8192x384 .f32) (g : FVec Ideal S1x384 .f32) (w : FVec Ideal S1024x384 .bf16) :
    (k0_pay5 (F := Ideal) (rows f x) g w : S512x1024.Idx → EReal) = rows f (qFull x g w) := by
  funext i
  obtain ⟨r, k, rfl⟩ : ∃ (r : Fin 512) (k : Fin 1024), i = ix2 r k := ⟨_, _, eq_ix2 i⟩
  pointwise [k0_pay5]
  rw [pay_nq]
  rfl

theorem pay_kv (x : FVec Ideal S8192x256 .f32) (g : FVec Ideal S1x256 .f32) (w : FVec Ideal S256x1024 .f32) :
    (k0_pay9 (F := Ideal) (k0_pay6 (F := Ideal) (rows f x)) (k0_pay7 (F := Ideal) (rows f x)) (Scalar.ofBits .f32 0x358637BD#32) g w : S512x1024.Idx → EReal) = rows f (val_main_v64 (F := Ideal) x g w) := by
  funext i
  obtain ⟨r, k, rfl⟩ : ∃ (r : Fin 512) (k : Fin 1024), i = ix2 r k := ⟨_, _, eq_ix2 i⟩
  show _ = val_main_v64 (F := Ideal) x g w (ix2 (f r) k)
  pointwise [k0_pay9, val_main_v64]
  exact Finset.sum_congr rfl fun j _ => congrArg (· * w (ix2 j k)) (congrFun (pay_nkv f x g) (ix2 r j))
end Pay

end Cert.Kernel12Ideal.Lat
end
-- ==== Proof.LatKernel.lean ====
/- The kernel of the low-rank projections' preparation: what its result arrays hold after the call, in the lines of the reference. -/
module

public import Idealize.ShloMosaic.Lib.Pipeline.ValueKit
public import Idealize.ShloMosaic.Lib.StableHlo.Run
public import proofs.«01_k».proof.Proof.LatPay

@[expose] public section

set_option maxRecDepth 16384

noncomputable section

namespace Cert.Kernel12Ideal.Lat

open Cert.Kernel12Ideal Cert.Kernel12Ideal.Gen Idealize.ShloMosaic Idealize.ShloMosaic.TcCoe Idealize.SL.Sem Idealize.ShloMosaic.StableHlo
open Cert.Reference12Ideal.Read (val_main_v16 val_main_v17 val_main_v29 val_main_v41 val_main_v64)

variable (m : (ℓ : Loc nD τ sig) → Buf (Elt Ideal) ℓ) (c : Dev nD)

/-! ## The arguments the host prepares -/

/-- The projection's columns. -/
def hostP (cq : FVec Ideal S8192x384 .f32) (ckv : FVec Ideal S8192x256 .f32) (kr : FVec Ideal S8192x32 .f32) : FVec Ideal S8192x2304 .f32 :=
  concatenate S8192x2304 1 [⟨S8192x1536, broadcastInDim S8192x1536 ![] bcast_S_S8192x1536 (constant (F := Ideal) S_ .f32 0x00000000#32)⟩, ⟨S8192x384, cq⟩, ⟨S8192x256, ckv⟩,
    ⟨S8192x64, broadcastInDim S8192x64 ![] bcast_S_S8192x64 (constant (F := Ideal) S_ .f32 0x00000000#32)⟩, ⟨S8192x32, kr⟩,
    ⟨S8192x32, broadcastInDim S8192x32 ![] bcast_S_S8192x32 (constant (F := Ideal) S_ .f32 0x00000000#32)⟩] concatenates_S8192x1536_S8192x384_S8192x256_S8192x64_S8192x32_S8192x32_S8192x2304_d1

/-- The rotated part of the keys, with zeros to both sides. -/
def hostKr (kr : FVec Ideal S8192x32 .f32) : S8192x128.Idx → EReal :=
  fun i => if h : 64 ≤ (i 1).val ∧ (i 1).val < 96 then kr (ix2 (i 0) ⟨(i 1).val - 64, by omega⟩) else 0

theorem hostP_q (cq ckv kr) (r : Fin 8192) (k : Fin 384) : hostP cq ckv kr (ix2 r (⟨1536 + k.val, by omega⟩ : Fin 2304)) = cq (ix2 r k) := by
  pointwise [hostP]
theorem hostP_kv (cq ckv kr) (r : Fin 8192) (k : Fin 256) : hostP cq ckv kr (ix2 r (⟨1536 + (384 + k.val), by omega⟩ : Fin 2304)) = ckv (ix2 r k) := by
  pointwise [hostP]
theorem hostP_kr (cq ckv kr) (r : Fin 8192) (k : Fin 128) : hostP cq ckv kr (ix2 r (⟨1536 + (640 + k.val), by omega⟩ : Fin 2304)) = hostKr kr (ix2 r k) := by
  have hk := k.isLt
  pointwise [hostP, hostKr]
  rw [dif_neg (show ¬ 640 + k.val < 384 by omega), dif_neg (show ¬ 640 + k.val - 384 < 256 by omega)]
  by_cases h : 64 ≤ k.val ∧ k.val < 96
  · rw [dif_neg (show ¬ 640 + k.val - 384 - 256 < 64 by omega), dif_pos (show 640 + k.val - 384 - 256 - 64 < 32 by omega), dif_pos h]
    exact congrArg kr (congrArg (ix2 r) (Fin.ext (show 640 + k.val - 384 - 256 - 64 = k.val - 64 by omega)))
  · rw [dif_neg h]
    by_cases h' : k.val < 64
    · rw [dif_pos (show 640 + k.val - 384 - 256 < 64 by omega)]
    · rw [dif_neg (show ¬ 640 + k.val - 384 - 256 < 64 by omega), dif_neg (show ¬ 640 + k.val - 384 - 256 - 64 < 32 by omega)]

theorem V_p : (V m c main_v4 : S8192x2304.Idx → EReal)
    = hostP (m ((c : Thread nD τ).loc main_arg0)) (m ((c : Thread nD τ).loc main_arg1)) (m ((c : Thread nD τ).loc main_arg2)) := by
  show after hostOps0 (fun b => m (c, b)) (Proc.devRef .tc main_v4) = _
  after_results
  rfl

/-- The up-projection of the queries, head by head in rows of lanes. -/
def hostWq (w : FVec Ideal S384x768 .f32) : FVec Ideal S1024x384 .f32 :=
  shapeCast S1024x384 (concatenate S8x128x384 1 [⟨S8x96x384, shapeCast S8x96x384 (transpose S768x384 [1, 0] w transposes_S384x768_S768x384_1_0) shapeCasts_S768x384_S8x96x384⟩,
    ⟨S8x32x384, broadcastInDim S8x32x384 ![] bcast_S_S8x32x384 (constant (F := Ideal) S_ .f32 0x00000000#32)⟩] concatenates_S8x96x384_S8x32x384_S8x128x384_d1) shapeCasts_S8x128x384_S1024x384

theorem V_wq : (V m c main_v10 : S1024x384.Idx → EReal) = hostWq (m ((c : Thread nD τ).loc main_arg4)) := by
  show after hostOps0 (fun b => m (c, b)) (Proc.devRef .tc main_v10) = _
  after_results
  rfl
theorem V_wkv : (V m c main_v11 : S256x1024.Idx → EReal) = (m ((c : Thread nD τ).loc main_arg6) : FVec Ideal S256x1024 .f32) := by
  show after hostOps0 (fun b => m (c, b)) (Proc.devRef .tc main_v11) = _
  after_results
  rfl

def hostC : FVec Ideal S8192x128 .f32 :=
  concatenate S8192x128 1 [⟨S8192x64, broadcastInDim S8192x64 ![] bcast_S_S8192x64 (constant (F := Ideal) S_ .f32 0x3F800000#32)⟩, ⟨S8192x16, val_main_v16 (F := Ideal)⟩, ⟨S8192x16, val_main_v16 (F := Ideal)⟩,
    ⟨S8192x32, broadcastInDim S8192x32 ![] bcast_S_S8192x32 (constant (F := Ideal) S_ .f32 0x3F800000#32)⟩] concatenates_S8192x64_S8192x16_S8192x16_S8192x32_S8192x128_d1
def hostA : FVec Ideal S8192x128 .f32 :=
  concatenate S8192x128 1 [⟨S8192x64, broadcastInDim S8192x64 ![] bcast_S_S8192x64 (constant (F := Ideal) S_ .f32 0x00000000#32)⟩, ⟨S8192x16, Host.negf (val_main_v17 (F := Ideal))⟩,
    ⟨S8192x16, broadcastInDim S8192x16 ![] bcast_S_S8192x16 (constant (F := Ideal) S_ .f32 0x00000000#32)⟩,
    ⟨S8192x32, broadcastInDim S8192x32 ![] bcast_S_S8192x32 (constant (F := Ideal) S_ .f32 0x00000000#32)⟩] concatenates_S8192x64_S8192x16_S8192x16_S8192x32_S8192x128_d1
def hostB : FVec Ideal S8192x128 .f32 :=
  concatenate S8192x128 1 [⟨S8192x64, broadcastInDim S8192x64 ![] bcast_S_S8192x64 (constant (F := Ideal) S_ .f32 0x00000000#32)⟩,
    ⟨S8192x16, broadcastInDim S8192x16 ![] bcast_S_S8192x16 (constant (F := Ideal) S_ .f32 0x00000000#32)⟩, ⟨S8192x16, val_main_v17 (F := Ideal)⟩,
    ⟨S8192x32, broadcastInDim S8192x32 ![] bcast_S_S8192x32 (constant (F := Ideal) S_ .f32 0x00000000#32)⟩] concatenates_S8192x64_S8192x16_S8192x16_S8192x32_S8192x128_d1

theorem V_c : (V m c main_v33 : FVec Ideal S8192x128 .f32) = hostC := by
  show after hostOps0 (fun b => m (c, b)) (Proc.devRef .tc main_v33) = _
  after_results
  rfl
theorem V_sa : (V m c main_v37 : FVec Ideal S8192x128 .f32) = hostA := by
  show after hostOps0 (fun b => m (c, b)) (Proc.devRef .tc main_v37) = _
  after_results
  rfl
theorem V_sb : (V m c main_v40 : FVec Ideal S8192x128 .f32) = hostB := by
  show after hostOps0 (fun b => m (c, b)) (Proc.devRef .tc main_v40) = _
  after_results
  rfl

/-! ## The blocks the body reads -/

theorem idx : ∀ t : Fin cfg0.N,
    win0_0.index t 0 = t.val ∧ win0_0.index t 1 = 2 ∧ win0_1.index t 0 = 0 ∧ win0_1.index t 1 = 0 ∧ win0_2.index t 0 = 0 ∧ win0_2.index t 1 = 0 ∧
    win0_3.index t 0 = 0 ∧ win0_3.index t 1 = 0 ∧ win0_4.index t 0 = 0 ∧ win0_4.index t 1 = 0 ∧ win0_5.index t 0 = t.val ∧ win0_5.index t 1 = 0 ∧
    win0_6.index t 0 = t.val ∧ win0_6.index t 1 = 0 ∧ win0_7.index t 0 = t.val ∧ win0_7.index t 1 = 0 ∧
    win0_8.index t 0 = t.val ∧ win0_8.index t 1 = 0 ∧ win0_9.index t 0 = t.val ∧ win0_9.index t 1 = 0 ∧ win0_10.index t 0 = t.val ∧ win0_10.index t 1 = 0 ∧
    win0_11.index t 0 = t.val ∧ win0_11.index t 1 = 0 ∧ win0_12.index t 0 = t.val ∧ win0_12.index t 1 = 0 := by
  decide +kernel

/-- Row `r` of block `t`. -/
def row (t : Fin cfg0.N) (r : Fin 512) : Fin 8192 :=
  ⟨t.val * 512 + r.val, by have := lt_of_lt_of_eq t.isLt N_0; have := r.isLt; omega⟩

section Blocks
variable (cq : FVec Ideal S8192x384 .f32) (ckv : FVec Ideal S8192x256 .f32) (kr : FVec Ideal S8192x32 .f32) (gq : FVec Ideal S1x384 .f32)
  (wq : FVec Ideal S384x768 .f32) (gkv : FVec Ideal S1x256 .f32) (wkv : FVec Ideal S256x1024 .f32)
  (h0 : m ((c : Thread nD τ).loc main_arg0) = cq) (h1 : m ((c : Thread nD τ).loc main_arg1) = ckv) (h2 : m ((c : Thread nD τ).loc main_arg2) = kr)
  (h3 : m ((c : Thread nD τ).loc main_arg3) = gq) (h4 : m ((c : Thread nD τ).loc main_arg4) = wq) (h5 : m ((c : Thread nD τ).loc main_arg5) = gkv)
  (h6 : m ((c : Thread nD τ).loc main_arg6) = wkv) (t : Fin cfg0.N)

include h0 h1 h2 in
theorem blk0 (o n : ℕ) (inb) (r : Fin 512) (k : Fin n) (hk : o + k.val < 768) :
    (View.ld (iblk m c 0 t : Vec Ideal S512x768 .bf16) (Rect.unit (s := S512x768) ![0, o] ![512, n] inb) : (⟨2, ![512, n]⟩ : Shape).Idx → EReal) (ix2 r k)
      = hostP cq ckv kr (ix2 (row t r) (⟨1536 + (o + k.val), by omega⟩ : Fin 2304)) := by
  subst h0 h1 h2
  refine Eq.trans (b := (V m c main_v4 : S8192x2304.Idx → EReal) (ix2 (row t r) (⟨1536 + (o + k.val), by omega⟩ : Fin 2304))) ?_ (congrFun (V_p m c) _)
  blk_ext [iblk, idx t, row, View.ld]
  · show t.val * 512 + (0 + 1 * r.val) = t.val * 512 + r.val; omega
  · show 2 * 768 + (o + 1 * k.val) = 1536 + (o + k.val); omega

include h0 h1 h2 in
theorem ld_q : (View.ld (iblk m c 0 t : Vec Ideal S512x768 .bf16) r0_1 : S512x384.Idx → EReal) = rows (row t) cq := by
  funext i
  obtain ⟨r, k, rfl⟩ : ∃ (r : Fin 512) (k : Fin 384), i = ix2 r k := ⟨_, _, eq_ix2 i⟩
  refine (blk0 m c cq ckv kr h0 h1 h2 t 0 384 _ r k (by omega)).trans (Eq.trans ?_ (hostP_q cq ckv kr (row t r) k))
  simp only [Nat.zero_add]
include h0 h1 h2 in
theorem ld_kv : (View.ld (iblk m c 0 t : Vec Ideal S512x768 .bf16) r0_5 : S512x256.Idx → EReal) = rows (row t) ckv := by
  funext i
  obtain ⟨r, k, rfl⟩ : ∃ (r : Fin 512) (k : Fin 256), i = ix2 r k := ⟨_, _, eq_ix2 i⟩
  exact (blk0 m c cq ckv kr h0 h1 h2 t 384 256 _ r k (by omega)).trans (hostP_kv cq ckv kr (row t r) k)
include h0 h1 h2 in
theorem ld_kr : (View.ld (iblk m c 0 t : Vec Ideal S512x768 .bf16) r0_9 : S512x128.Idx → EReal) = rows (row t) (hostKr kr) := by
  funext i
  obtain ⟨r, k, rfl⟩ : ∃ (r : Fin 512) (k : Fin 128), i = ix2 r k := ⟨_, _, eq_ix2 i⟩
  exact (blk0 m c cq ckv kr h0 h1 h2 t 640 128 _ r k (by omega)).trans (hostP_kr cq ckv kr (row t r) k)

include h3 in
theorem blk1 : (iblk m c 1 t : S1x384.Idx → EReal) = gq := by
  funext i
  refine Eq.trans (b := (m ((c : Thread nD τ).loc main_arg3) : FVec Ideal S1x384 .f32) i) ?_ (congrFun h3 _)
  blk_ext [iblk, V, idx t]
include h5 in
theorem blk2 : (iblk m c 2 t : S1x256.Idx → EReal) = gkv := by
  funext i
  refine Eq.trans (b := (m ((c : Thread nD τ).loc main_arg5) : FVec Ideal S1x256 .f32) i) ?_ (congrFun h5 _)
  blk_ext [iblk, V, idx t]
include h4 in
theorem blk3 : (iblk m c 3 t : S1024x384.Idx → EReal) = hostWq wq := by
  funext i
  refine Eq.trans (b := (V m c main_v10 : S1024x384.Idx → EReal) i) ?_ (congrFun ((V_wq m c).trans (congrArg hostWq h4)) _)
  blk_ext [iblk, idx t]
include h6 in
theorem blk4 : (iblk m c 4 t : S256x1024.Idx → EReal) = wkv := by
  funext i
  refine Eq.trans (b := (V m c main_v11 : S256x1024.Idx → EReal) i) ?_ (congrFun ((V_wkv m c).trans h6) _)
  blk_ext [iblk, idx t]
theorem blk5 : (iblk m c 5 t : S512x128.Idx → EReal) = rows (row t) hostC := by
  funext i
  refine Eq.trans (b := (V m c main_v33 : FVec Ideal S8192x128 .f32) (ix2 (row t (i 0)) (i 1))) ?_ (congrFun (V_c m c) _)
  blk_ext [iblk, idx t, row]
theorem blk6 : (iblk m c 6 t : S512x128.Idx → EReal) = rows (row t) hostA := by
  funext i
  refine Eq.trans (b := (V m c main_v37 : FVec Ideal S8192x128 .f32) (ix2 (row t (i 0)) (i 1))) ?_ (congrFun (V_sa m c) _)
  blk_ext [iblk, idx t, row]
theorem blk7 : (iblk m c 7 t : S512x128.Idx → EReal) = rows (row t) hostB := by
  funext i
  refine Eq.trans (b := (V m c main_v40 : FVec Ideal S8192x128 .f32) (ix2 (row t (i 0)) (i 1))) ?_ (congrFun (V_sb m c) _)
  blk_ext [iblk, idx t, row]

theorem blkC : (k0_pay40 (F := Ideal) (iblk m c 0 t) (iblk m c 1 t) (iblk m c 2 t) (iblk m c 3 t) (iblk m c 4 t) (iblk m c 5 t) (iblk m c 6 t) (iblk m c 7 t) : S512x128.Idx → EReal)
    = rows (row t) hostC := by
  unfold k0_pay40
  rw [blk5 m c t]
  frame_out
  exact keep1 _
theorem blkA : (k0_pay41 (F := Ideal) (iblk m c 0 t) (iblk m c 1 t) (iblk m c 2 t) (iblk m c 3 t) (iblk m c 4 t) (iblk m c 5 t) (iblk m c 6 t) (iblk m c 7 t) : S512x128.Idx → EReal)
    = rows (row t) hostA := by
  unfold k0_pay41
  rw [blk6 m c t]
  frame_out
  exact keep1 _
theorem blkB : (k0_pay42 (F := Ideal) (iblk m c 0 t) (iblk m c 1 t) (iblk m c 2 t) (iblk m c 3 t) (iblk m c 4 t) (iblk m c 5 t) (iblk m c 6 t) (iblk m c 7 t) : S512x128.Idx → EReal)
    = rows (row t) hostB := by
  unfold k0_pay42
  rw [blk7 m c t]
  frame_out
  exact keep1 _

include h0 h1 h2 in
theorem blkKr : (k0_pay48 (F := Ideal) (iblk m c 0 t) (iblk m c 1 t) (iblk m c 2 t) (iblk m c 3 t) (iblk m c 4 t) (iblk m c 5 t) (iblk m c 6 t) (iblk m c 7 t) : S512x128.Idx → EReal)
    = fun i => kShared (rows (row t) (hostKr kr)) (rows (row t) hostC) (rows (row t) hostA) (rows (row t) hostB) (i 0) (i 1) := by
  unfold k0_pay48
  rw [blkC m c t, blkA m c t, blkB m c t]
  exact (congrArg (k0_pay10 (F := Ideal) _ _ _ ·) (ld_kr m c cq ckv kr h0 h1 h2 t)).trans (pay_kr _ _ _ _)

include h0 h1 h2 h3

theorem final_nq : ((dats m 0 c).arrAt 11 (cfgs 0).N : S8192x384.Idx → EReal) = val_main_v29 (F := Ideal) cq gq := by
  refine (dats m 0 c).arrAt_eq_of_covers 11 _ (by decide +kernel) fun t _ z => ?_
  have e : ((cfg0.win 11).blk t).view.emb z = (ix2 (row t (z 0)) (z 1) : S8192x384.Idx) := by blk_ext [idx t, row]
  blk_simp
  rw [after0_11, e]
  unfold out0_11
  frame_out
  rw [blk1 m c gq h3 t]
  exact congrFun ((congrArg (k0_pay4 (F := Ideal) · gq) (ld_q m c cq ckv kr h0 h1 h2 t)).trans (pay_nq (row t) cq gq)) z

include h5
omit h3
theorem final_nkv : ((dats m 0 c).arrAt 12 (cfgs 0).N : S8192x256.Idx → EReal) = val_main_v41 (F := Ideal) ckv gkv := by
  refine (dats m 0 c).arrAt_eq_of_covers 12 _ (by decide +kernel) fun t _ z => ?_
  have e : ((cfg0.win 12).blk t).view.emb z = (ix2 (row t (z 0)) (z 1) : S8192x256.Idx) := by blk_ext [idx t, row]
  blk_simp
  rw [after0_12, e]
  unfold_out out0_12
  frame_out
  rw [blk2 m c gkv h5 t]
  exact congrFun ((congrArg (fun x => k0_pay8 (F := Ideal) (k0_pay6 x) (k0_pay7 x) _ gkv) (ld_kv m c cq ckv kr h0 h1 h2 t)).trans (pay_nkv (row t) ckv gkv)) z

omit h5 in
include h3 h4 in
theorem blkQ : (k0_pay43 (F := Ideal) (iblk m c 0 t) (iblk m c 1 t) (iblk m c 2 t) (iblk m c 3 t) (iblk m c 4 t) (iblk m c 5 t) (iblk m c 6 t) (iblk m c 7 t) : S512x1024.Idx → EReal)
    = rows (row t) (qFull cq gq (hostWq wq)) := by
  unfold k0_pay43
  rw [blk1 m c gq h3 t, blk3 m c wq h4 t]
  frame_out
  exact (congrArg (k0_pay5 (F := Ideal) · gq _) (ld_q m c cq ckv kr h0 h1 h2 t)).trans (pay_q (row t) cq gq _)

include h6 in
theorem blkKv : (k0_pay47 (F := Ideal) (iblk m c 0 t) (iblk m c 1 t) (iblk m c 2 t) (iblk m c 3 t) (iblk m c 4 t) (iblk m c 5 t) (iblk m c 6 t) (iblk m c 7 t) : S512x1024.Idx → EReal)
    = rows (row t) (val_main_v64 (F := Ideal) ckv gkv wkv) := by
  unfold k0_pay47 k0_pay44 k0_pay45
  rw [blk2 m c gkv h5 t, blk4 m c wkv h6 t]
  frame_out
  exact (congrArg (fun x => k0_pay9 (F := Ideal) (k0_pay6 x) (k0_pay7 x) _ gkv wkv) (ld_kv m c cq ckv kr h0 h1 h2 t)).trans (pay_kv (row t) ckv gkv wkv)

end Blocks

end Cert.Kernel12Ideal.Lat
end
-- ==== Proof.LatFinal.lean ====
/- The kernel of the low-rank projections' preparation: the queries, keys and values that the host reads from its result arrays are the reference's. -/
module

public import proofs.«01_k».proof.Proof.LatKernel

@[expose] public section

set_option maxRecDepth 16384

noncomputable section

namespace Cert.Kernel12Ideal.Lat

open Cert.Kernel12Ideal Cert.Kernel12Ideal.Gen Idealize.ShloMosaic Idealize.ShloMosaic.TcCoe Idealize.SL.Sem Idealize.ShloMosaic.StableHlo
open Cert.Reference12Ideal.Read

/-! ## The rotation by the host's tables -/

section Turn
variable (r : Fin 8192) (l : Fin 128) (q : Fin 128 → EReal)

theorem turn_low (h : l.val < 64) : turn q (hostC (ix2 r l)) (hostA (ix2 r l)) (hostB (ix2 r l)) l = q l := by
  have hc : hostC (ix2 r l) = 1 := by pointwise [hostC]; rw [dif_pos h]
  have ha : hostA (ix2 r l) = 0 := by pointwise [hostA]; rw [dif_pos h]
  have hb : hostB (ix2 r l) = 0 := by pointwise [hostB]; rw [dif_pos h]
  rw [hc, ha, hb, turn, mul_one, mul_zero, mul_zero, add_zero, add_zero]

theorem turn_mid (h : ¬ l.val < 64) (h' : l.val - 64 < 16) : turn q (hostC (ix2 r l)) (hostA (ix2 r l)) (hostB (ix2 r l)) l
    = q l * val_main_v16 (F := Ideal) (ix2 r (⟨l.val - 64, h'⟩ : Fin 16)) - q ⟨l.val + 16, by omega⟩ * val_main_v17 (F := Ideal) (ix2 r (⟨l.val - 64, h'⟩ : Fin 16)) := by
  have hc : hostC (ix2 r l) = val_main_v16 (F := Ideal) (ix2 r (⟨l.val - 64, h'⟩ : Fin 16)) := by pointwise [hostC]; rw [dif_neg h, dif_pos h']
  have ha : hostA (ix2 r l) = - val_main_v17 (F := Ideal) (ix2 r (⟨l.val - 64, h'⟩ : Fin 16)) := by pointwise [hostA]; rw [dif_neg h, dif_pos h']
  have hb : hostB (ix2 r l) = 0 := by pointwise [hostB]; rw [dif_neg h, dif_pos h']
  have e : (⟨(l.val + 128 - 112) % 128, Nat.mod_lt _ (by omega)⟩ : Fin 128) = ⟨l.val + 16, by omega⟩ := Fin.ext (by show (l.val + 128 - 112) % 128 = l.val + 16; omega)
  rw [hc, ha, hb, turn, mul_zero, add_zero, mul_neg, e, sub_eq_add_neg]

theorem turn_high (h : ¬ l.val < 64) (h' : ¬ l.val - 64 < 16) (h2 : l.val - 64 - 16 < 16) : turn q (hostC (ix2 r l)) (hostA (ix2 r l)) (hostB (ix2 r l)) l
    = q l * val_main_v16 (F := Ideal) (ix2 r (⟨l.val - 64 - 16, h2⟩ : Fin 16)) + q ⟨l.val - 16, by omega⟩ * val_main_v17 (F := Ideal) (ix2 r (⟨l.val - 64 - 16, h2⟩ : Fin 16)) := by
  have hc : hostC (ix2 r l) = val_main_v16 (F := Ideal) (ix2 r (⟨l.val - 64 - 16, h2⟩ : Fin 16)) := by pointwise [hostC]; rw [dif_neg h, dif_neg h', dif_pos h2]
  have ha : hostA (ix2 r l) = 0 := by pointwise [hostA]; rw [dif_neg h, dif_neg h', dif_pos h2]
  have hb : hostB (ix2 r l) = val_main_v17 (F := Ideal) (ix2 r (⟨l.val - 64 - 16, h2⟩ : Fin 16)) := by pointwise [hostB]; rw [dif_neg h, dif_neg h', dif_pos h2]
  have e : (⟨(l.val + 128 - 16) % 128, Nat.mod_lt _ (by omega)⟩ : Fin 128) = ⟨l.val - 16, by omega⟩ := Fin.ext (by show (l.val + 128 - 16) % 128 = l.val - 16; omega)
  rw [hc, ha, hb, turn, mul_zero, add_zero, e]
end Turn

theorem flat_at {n : ℕ} (T : Fin n → Fin 8 → Fin 128 → EReal) (r : Fin n) (a : Fin 8) (l : Fin 128) : flat T (ix2 r ⟨a.val * 128 + l.val, by omega⟩) = T r a l := by
  have hl := l.isLt
  unfold flat
  congr 1
  · exact Fin.ext (by show (a.val * 128 + l.val) / 128 = a.val; omega)
  · exact Fin.ext (by show (a.val * 128 + l.val) % 128 = l.val; omega)

theorem wq_at (w : FVec Ideal S384x768 .f32) (a : Fin 8) (l : Fin 96) (k : Fin 384) :
    hostWq w (ix2 ⟨a.val * 128 + l.val, by omega⟩ k) = w (ix2 k ⟨a.val * 96 + l.val, by omega⟩) := by
  have hl := l.isLt
  pointwise [hostWq]
  have e : (a.val * 128 + l.val) % 128 = l.val := by omega
  rw [dif_pos (by omega)]
  exact congrArg w (congrArg (ix2 k) (Fin.ext (by show a.val * 96 + (a.val * 128 + l.val) % 128 = a.val * 96 + l.val; omega)))

theorem q_at (x : FVec Ideal S8192x384 .f32) (g : FVec Ideal S1x384 .f32) (w : FVec Ideal S384x768 .f32) (r : Fin 8192) (a : Fin 8) (l : Fin 96) :
    qFull x g (hostWq w) (ix2 r (col a l.val (by omega))) = val_main_v43 (F := Ideal) x g w (ix3 r a l) := by
  pointwise [val_main_v43, val_main_v42, qFull]
  exact Finset.sum_congr rfl fun k _ => congrArg (_ * ·) (wq_at w a l k)

/-- The two roundings of the query scale's factors cancel: the kernel's scale by the logarithm of two is the reference's. -/
theorem scale_eq : QS * Ideal.log (Ideal.ofBits FTy.f32 0x40000000#32) = Ideal.ofBits FTy.f32 0x3DD105EC#32 := by
  have h2 : Ideal.ofBits .f32 0x40000000#32 = ((2 : ℝ) : EReal) := by simp [Ideal.ofBits, Ideal.ieee]; norm_num [← EReal.coe_mul]
  have hs : Ideal.ofBits .f32 0x3DD105EC#32 = ((3424635 / 33554432 : ℝ) : EReal) := by simp [Ideal.ofBits, Ideal.ieee]; norm_cast; norm_num
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  have hq : QS = ((3424635 / 33554432 * (Real.log 2)⁻¹ : ℝ) : EReal) := rfl
  have h : Real.log 2 ≠ 0 := (Real.log_pos one_lt_two).ne'
  rw [h2, hs, hl, hq, ← EReal.coe_mul, mul_assoc, inv_mul_cancel₀ h, mul_one]

/-- The queries' lane before the scale is the reference's. -/
theorem q_lane (x : FVec Ideal S8192x384 .f32) (g : FVec Ideal S1x384 .f32) (w : FVec Ideal S384x768 .f32) (r : Fin 8192) (a : Fin 8) (l : Fin 96) (j : ℕ) (hj : j < 128) (h : j = l.val) :
    qFull x g (hostWq w) (ix2 r (col a j hj)) = val_main_v43 (F := Ideal) x g w (ix3 r a l) := by
  subst h; exact q_at x g w r a l

/-! ## The lines after the call -/

def readQ (y : S8192x1024.Idx → EReal) : FVec Ideal S8192x8x96 .f32 :=
  mulf (extractStridedSlice S8192x8x96 ![0, 0, 0] (shapeCast S8192x8x128 (y : FVec Ideal S8192x1024 .f32) shapeCasts_S8192x1024_S8192x8x128) slices_S8192x8x128_S8192x8x96_0_0_0)
    (broadcastInDim S8192x8x96 ![] bcast_S_S8192x8x96 (Host.log (constant (F := Ideal) S_ .f32 0x40000000#32)))
def readK (y : S8192x1024.Idx → EReal) : FVec Ideal S8192x8x96 .f32 :=
  extractStridedSlice S8192x8x96 ![0, 0, 0] (shapeCast S8192x8x128 (y : FVec Ideal S8192x1024 .f32) shapeCasts_S8192x1024_S8192x8x128) slices_S8192x8x128_S8192x8x96_0_0_0
def readV (y : S8192x1024.Idx → EReal) : FVec Ideal S8192x8x64 .f32 :=
  extractStridedSlice S8192x8x64 ![0, 0, 64] (shapeCast S8192x8x128 (y : FVec Ideal S8192x1024 .f32) shapeCasts_S8192x1024_S8192x8x128) slices_S8192x8x128_S8192x8x64_0_0_64

theorem readQ_eq (x : FVec Ideal S8192x384 .f32) (g : FVec Ideal S1x384 .f32) (w : FVec Ideal S384x768 .f32) :
    readQ (flat (qLane (qFull x g (hostWq w)) hostC hostA hostB)) = val_main_v63 (F := Ideal) x g w := by
  funext i
  obtain ⟨r, a, l, rfl⟩ : ∃ (r : Fin 8192) (a : Fin 8) (l : Fin 96), i = ix3 r a l := ⟨_, _, _, eq_ix3 i⟩
  pointwise [readQ, val_main_v63, val_main_v62, val_main_cst_9, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44]
  have hl := l.isLt
  rw [flat_at _ r a ⟨l.val, by omega⟩]
  unfold qLane
  rw [mul_assoc, scale_eq]
  congr 1
  by_cases h : l.val < 64
  · rw [dif_pos h, turn_low r ⟨l.val, by omega⟩ _ h]
    exact q_at x g w r a l
  · rw [dif_neg h]
    by_cases h' : l.val - 64 < 16
    · rw [dif_pos h', turn_mid r ⟨l.val, by omega⟩ _ h h']
      exact congrArg₂ (· - ·) (congrArg (· * _) (q_lane x g w r a _ _ _ (by simp only; omega))) (congrArg (· * _) (q_lane x g w r a _ _ _ (by simp only; omega)))
    · rw [dif_neg h', turn_high r ⟨l.val, by omega⟩ _ h h' (by simp only; omega)]
      exact congrArg₂ (· + ·) (congrArg (· * _) (q_lane x g w r a _ _ _ (by simp only; omega))) (congrArg (· * _) (q_lane x g w r a _ _ _ (by simp only; omega)))

theorem slt64 : ∀ l : Fin 128, IntOp.cmpi CmpIPredicate.slt (BitVec.ofNat 32 l.val) 64#32 = if l.val < 64 then 1#1 else 0#1 := by decide
theorem no_fill : ∀ l : Fin 96, IntOp.ori (IntOp.cmpi CmpIPredicate.eq (BitVec.ofNat 32 l.val) 96#32) (IntOp.cmpi CmpIPredicate.eq (BitVec.ofNat 32 l.val) 97#32) = 0#1 := by decide

theorem sel_no (x y : EReal) : Scalar.select 0#1 x y = y := rfl
theorem sel_yes (x y : EReal) : Scalar.select 1#1 x y = x := rfl

theorem kShared_at (X C A B : S8192x128.Idx → EReal) (r : Fin 8192) (l : Fin 96) : kShared X C A B r ⟨l.val, by omega⟩
    = turn (fun j => X (ix2 r j)) (C (ix2 r ⟨l.val, by omega⟩)) (A (ix2 r ⟨l.val, by omega⟩)) (B (ix2 r ⟨l.val, by omega⟩)) ⟨l.val, by omega⟩ := by
  unfold kShared
  rw [no_fill l, sel_no]

theorem kr_at (kr : FVec Ideal S8192x32 .f32) (r : Fin 8192) (l : Fin 128) (j : Fin 32) (h : l.val = 64 + j.val) : hostKr kr (ix2 r l) = kr (ix2 r j) := by
  have hj := j.isLt
  unfold hostKr
  rw [dif_pos (by show 64 ≤ l.val ∧ l.val < 96; omega)]
  exact congrArg kr (congrArg (ix2 r) (Fin.ext (by show l.val - 64 = j.val; omega)))

set_option maxHeartbeats 2000000 in
theorem readK_eq (x : FVec Ideal S8192x256 .f32) (g : FVec Ideal S1x256 .f32) (w : FVec Ideal S256x1024 .f32) (kr : FVec Ideal S8192x32 .f32) :
    readK (flat (kLane (val_main_v64 (F := Ideal) x g w) (hostKr kr) hostC hostA hostB)) = val_main_v78 (F := Ideal) x kr g w := by
  funext i
  obtain ⟨r, a, l, rfl⟩ : ∃ (r : Fin 8192) (a : Fin 8) (l : Fin 96), i = ix3 r a l := ⟨_, _, _, eq_ix3 i⟩
  pointwise [readK, val_main_v78, val_main_v77, val_main_v76, val_main_v75, val_main_v74, val_main_v73, val_main_v72, val_main_v71, val_main_v70, val_main_v69, val_main_v68, val_main_v67, val_main_v66, val_main_v65]
  have hl := l.isLt
  rw [flat_at _ r a ⟨l.val, by omega⟩]
  unfold kLane
  rw [slt64 ⟨l.val, by omega⟩]
  by_cases h : l.val < 64
  · rw [dif_pos h, if_pos h, sel_yes]
    rfl
  · rw [dif_neg h, if_neg h, sel_no, kShared_at _ _ _ _ r l]
    by_cases h' : l.val - 64 < 16
    · rw [dif_pos h', turn_mid r ⟨l.val, by omega⟩ _ h h']
      exact congrArg₂ (· - ·) (congrArg (· * _) (kr_at kr r _ _ (by simp only; omega))) (congrArg (· * _) (kr_at kr r _ _ (by simp only; omega)))
    · rw [dif_neg h', turn_high r ⟨l.val, by omega⟩ _ h h' (by simp only; omega)]
      exact congrArg₂ (· + ·) (congrArg (· * _) (kr_at kr r _ _ (by simp only; omega))) (congrArg (· * _) (kr_at kr r _ _ (by simp only; omega)))

theorem readV_eq (x : FVec Ideal S8192x256 .f32) (g : FVec Ideal S1x256 .f32) (w : FVec Ideal S256x1024 .f32) :
    readV (flat (vLane (val_main_v64 (F := Ideal) x g w))) = val_main_v79 (F := Ideal) x g w := by
  funext i
  obtain ⟨r, a, l, rfl⟩ : ∃ (r : Fin 8192) (a : Fin 8) (l : Fin 64), i = ix3 r a l := ⟨_, _, _, eq_ix3 i⟩
  pointwise [readV, val_main_v79, val_main_v65]
  have hl := l.isLt
  rw [flat_at _ r a ⟨64 + l.val, by omega⟩]
  unfold vLane
  rw [slt64 ⟨64 + l.val, by omega⟩, if_neg (by simp only; omega)]
  rfl

/-! ## The result arrays -/

section Blocks
variable (m : (ℓ : Loc nD τ sig) → Buf (Elt Ideal) ℓ) (c : Dev nD)
variable (cq : FVec Ideal S8192x384 .f32) (ckv : FVec Ideal S8192x256 .f32) (kr : FVec Ideal S8192x32 .f32) (gq : FVec Ideal S1x384 .f32) (wq : FVec Ideal S384x768 .f32) (gkv : FVec Ideal S1x256 .f32) (wkv : FVec Ideal S256x1024 .f32)
  (h0 : m ((c : Thread nD τ).loc main_arg0) = cq) (h1 : m ((c : Thread nD τ).loc main_arg1) = ckv) (h2 : m ((c : Thread nD τ).loc main_arg2) = kr)
  (h3 : m ((c : Thread nD τ).loc main_arg3) = gq) (h4 : m ((c : Thread nD τ).loc main_arg4) = wq) (h5 : m ((c : Thread nD τ).loc main_arg5) = gkv) (h6 : m ((c : Thread nD τ).loc main_arg6) = wkv)

include h0 h1 h2 h3 h4 in
theorem final_q : ((dats m 0 c).arrAt 8 (cfgs 0).N : S8192x1024.Idx → EReal) = flat (qLane (qFull cq gq (hostWq wq)) hostC hostA hostB) := by
  refine (dats m 0 c).arrAt_eq_of_covers 8 _ (by decide +kernel) fun t _ z => ?_
  have e : ((cfg0.win 8).blk t).view.emb z = (ix2 (row t (z 0)) (z 1) : S8192x1024.Idx) := by blk_ext [idx t, row]
  blk_simp
  rw [after0_8, e]
  unfold out0_8
  rw [blkC m c t, blkA m c t, blkB m c t, blkQ m c cq ckv kr gq wq h0 h1 h2 h3 h4 t]
  exact canon_q _ _ _ _ z

include h0 h1 h2 h5 h6

theorem final_k : ((dats m 0 c).arrAt 9 (cfgs 0).N : S8192x1024.Idx → EReal) = flat (kLane (val_main_v64 (F := Ideal) ckv gkv wkv) (hostKr kr) hostC hostA hostB) := by
  refine (dats m 0 c).arrAt_eq_of_covers 9 _ (by decide +kernel) fun t _ z => ?_
  have e : ((cfg0.win 9).blk t).view.emb z = (ix2 (row t (z 0)) (z 1) : S8192x1024.Idx) := by blk_ext [idx t, row]
  blk_simp
  rw [after0_9, e]
  unfold out0_9
  rw [blkKv m c cq ckv kr gkv wkv h0 h1 h2 h5 h6 t]
  exact canon_k _ _ _ _ _ (rows (row t) (hostKr kr)) (blkKr m c cq ckv kr h0 h1 h2 t) z

theorem final_v : ((dats m 0 c).arrAt 10 (cfgs 0).N : S8192x1024.Idx → EReal) = flat (vLane (val_main_v64 (F := Ideal) ckv gkv wkv)) := by
  refine (dats m 0 c).arrAt_eq_of_covers 10 _ (by decide +kernel) fun t _ z => ?_
  have e : ((cfg0.win 10).blk t).view.emb z = (ix2 (row t (z 0)) (z 1) : S8192x1024.Idx) := by blk_ext [idx t, row]
  blk_simp
  rw [after0_10, e]
  unfold out0_10
  rw [blkKv m c cq ckv kr gkv wkv h0 h1 h2 h5 h6 t]
  exact canon_v _ z
end Blocks

set_option maxHeartbeats 4000000 in
/-- The run: the five results hold the reference's lines on the arguments, and the arguments are kept. -/
theorem run (m : (ℓ : Loc nD τ sig) → Buf (Elt Ideal) ℓ) (ρ : Dev nD → PrngReg) : θ_run defs (onTc (τ := τ) (main (F := Ideal))) ⟨m, fun _ => 0, ρ⟩ (fun r => ∀ c : Dev nD,
    (r.2.mem ((c : Thread nD τ).loc main_v47) : S8192x8x96.Idx → EReal) = val_main_v63 (F := Ideal) (m ((c : Thread nD τ).loc main_arg0)) (m ((c : Thread nD τ).loc main_arg3)) (m ((c : Thread nD τ).loc main_arg4))
    ∧ (r.2.mem ((c : Thread nD τ).loc main_v50) : S8192x8x96.Idx → EReal) = val_main_v78 (F := Ideal) (m ((c : Thread nD τ).loc main_arg1)) (m ((c : Thread nD τ).loc main_arg2)) (m ((c : Thread nD τ).loc main_arg5)) (m ((c : Thread nD τ).loc main_arg6))
    ∧ (r.2.mem ((c : Thread nD τ).loc main_v53) : S8192x8x64.Idx → EReal) = val_main_v79 (F := Ideal) (m ((c : Thread nD τ).loc main_arg1)) (m ((c : Thread nD τ).loc main_arg5)) (m ((c : Thread nD τ).loc main_arg6))
    ∧ (r.2.mem ((c : Thread nD τ).loc main_v54) : S8192x384.Idx → EReal) = val_main_v29 (F := Ideal) (m ((c : Thread nD τ).loc main_arg0)) (m ((c : Thread nD τ).loc main_arg3))
    ∧ (r.2.mem ((c : Thread nD τ).loc main_v55) : S8192x256.Idx → EReal) = val_main_v41 (F := Ideal) (m ((c : Thread nD τ).loc main_arg1)) (m ((c : Thread nD τ).loc main_arg5))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) := by
  refine (θ_run defs _ _).mono (fun r h c => ⟨?_, ?_, ?_, ?_, ?_, ?_, ?_, ?_, ?_, ?_, ?_, ?_⟩) (run_main m ρ)
  · refine ((h c).2 main_v47 (Pipeline.mem_restRefs_of main_v47 (by decide) (by decide))).trans ?_
    refine Eq.trans ?_ ((congrArg readQ (final_q m c _ _ _ _ _ rfl rfl rfl rfl rfl)).trans (readQ_eq _ _ _))
    unfold Pipeline.afterTail₀
    show StableHlo.after hostOps1 _ (Proc.devRef .tc main_v47) = _
    after_results
    exact congrArg readQ (funext fun i => congrFun (Pipeline.withArrays_arr spec0 launch0.win.arr_inj c (V0 m c) (fun w => (dats m 0 c).arrAt w (cfgs 0).N) 8) i)
  · refine ((h c).2 main_v50 (Pipeline.mem_restRefs_of main_v50 (by decide) (by decide))).trans ?_
    refine Eq.trans ?_ ((congrArg readK (final_k m c _ _ _ _ _ rfl rfl rfl rfl rfl)).trans (readK_eq _ _ _ _))
    unfold Pipeline.afterTail₀
    show StableHlo.after hostOps1 _ (Proc.devRef .tc main_v50) = _
    after_results
    exact congrArg readK (funext fun i => congrFun (Pipeline.withArrays_arr spec0 launch0.win.arr_inj c (V0 m c) (fun w => (dats m 0 c).arrAt w (cfgs 0).N) 9) i)
  · refine ((h c).2 main_v53 (Pipeline.mem_restRefs_of main_v53 (by decide) (by decide))).trans ?_
    refine Eq.trans ?_ ((congrArg readV (final_v m c _ _ _ _ _ rfl rfl rfl rfl rfl)).trans (readV_eq _ _ _))
    unfold Pipeline.afterTail₀
    show StableHlo.after hostOps1 _ (Proc.devRef .tc main_v53) = _
    after_results
    exact congrArg readV (funext fun i => congrFun (Pipeline.withArrays_arr spec0 launch0.win.arr_inj c (V0 m c) (fun w => (dats m 0 c).arrAt w (cfgs 0).N) 10) i)
  · refine ((h c).2 main_v54 (Pipeline.mem_restRefs_of main_v54 (by decide) (by decide))).trans ?_
    refine Eq.trans ?_ (final_nq m c _ _ _ _ rfl rfl rfl rfl)
    unfold Pipeline.afterTail₀
    show StableHlo.after hostOps1 _ (Proc.devRef .tc main_v54) = _
    after_results
    exact (funext fun i => congrFun (Pipeline.withArrays_arr spec0 launch0.win.arr_inj c (V0 m c) (fun w => (dats m 0 c).arrAt w (cfgs 0).N) 11) i)
  · refine ((h c).2 main_v55 (Pipeline.mem_restRefs_of main_v55 (by decide) (by decide))).trans ?_
    refine Eq.trans ?_ (final_nkv m c _ _ _ _ rfl rfl rfl rfl)
    unfold Pipeline.afterTail₀
    show StableHlo.after hostOps1 _ (Proc.devRef .tc main_v55) = _
    after_results
    exact (funext fun i => congrFun (Pipeline.withArrays_arr spec0 launch0.win.arr_inj c (V0 m c) (fun w => (dats m 0 c).arrAt w (cfgs 0).N) 12) i)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).1 1).trans (((dats m 0 c).arrAt_in 1 rfl _).trans ((A_eq m c 1).trans (V_main_arg3 m c)))
  · exact ((h c).2 main_arg4 (Pipeline.mem_restRefs_of main_arg4 (by decide) (by decide))).trans (W_main_arg4 m (dats m) c)
  · exact ((h c).1 2).trans (((dats m 0 c).arrAt_in 2 rfl _).trans ((A_eq m c 2).trans (V_main_arg5 m c)))
  · exact ((h c).2 main_arg6 (Pipeline.mem_restRefs_of main_arg6 (by decide) (by decide))).trans (W_main_arg6 m (dats m) c)

end Cert.Kernel12Ideal.Lat
end
-- ==== Proof.LatPair.lean ====
/- The claims of the low-rank projections' preparation: the idealized kernel and the reference leave the same five results, at any
   arguments; the reference keeps its arguments; the kernel's idealization names the queries' scale and nothing else. -/
module

public import proofs.«01_k».proof.Defs
public import proofs.«01_k».proof.Proof.Gen.Reference12Ideal.Run
public import proofs.«01_k».proof.Proof.LatFinal
public import Idealize.ShloMosaic.Adequacy
public import Idealize.ShloMosaic.Init

@[expose] public section

noncomputable section

namespace Cert.LatPair

open Idealize.ShloMosaic Idealize.SL.Sem Cert.Reference12Ideal.Read

/-- The reference runs, keeps its arguments, and leaves every counter at zero: it declares none. -/
theorem reference_frame : Cert.quiescent_Reference12Ideal := fun m g _ =>
  (θ_run (Cert.Reference12Ideal.defs (F := Ideal)) _ _).mono
    (fun r h => ⟨fun c => (h c).2.2.2.2.2, sem_eq_zero_of_no_sems (by decide) r.2⟩) (Cert.Reference12Ideal.Value.run m g)

/-- The queries' scale is the one number that is named. -/
theorem preserves : Cert.preserves_Kernel12_Kernel12Ideal := IdealRules.named_const.statement _ _ _ _ _ rfl

set_option maxRecDepth 16384 in
set_option maxHeartbeats 2000000 in
theorem algebraic : Cert.algebraic_Kernel12Ideal_Reference12Ideal := by
  pair_intro
  · exact Cert.Kernel12Ideal.Lat.run m g
  · refine θ_run_mono (Cert.Reference12Ideal.Value.run m' g') fun r hr c => ⟨(hr c).1.trans ?_, (hr c).2.1.trans ?_, (hr c).2.2.1.trans ?_, (hr c).2.2.2.1.trans ?_, (hr c).2.2.2.2.1.trans ?_, (hr c).2.2.2.2.2⟩
    all_goals obtain ⟨e0, e1, e2, e3, e4, e5, e6⟩ := hagree c
    · rw [val_main_v63_eq, e0, e3, e4]
    · rw [val_main_v78_eq, e1, e2, e5, e6]
    · rw [val_main_v79_eq, e1, e5, e6]
    · rw [val_main_v29_eq, e0, e3]
    · rw [val_main_v41_eq, e1, e5]

end Cert.LatPair

end
-- ==== Proof.AdamKernel.lean ====
/- The optimiser's kernel of the up weights: what its four result arrays hold after the run, as the reference's lines on the same arguments. -/
module

public import proofs.«01_k».proof.Proof.Mats
public import proofs.«01_k».proof.Proof.Gen.Kernel14Ideal.Frame
public import proofs.«01_k».proof.Proof.Gen.Reference14Ideal.Read
public import Idealize.ShloMosaic.Lib.Pipeline.ValueKit
public import Idealize.ShloMosaic.Lib.StableHlo.Run

@[expose] public section

set_option maxRecDepth 16384

noncomputable section

namespace Cert.Kernel14Ideal.Adam

open Cert.Kernel14Ideal Cert.Kernel14Ideal.Gen Idealize.ShloMosaic Idealize.ShloMosaic.TcCoe Idealize.SL.Sem Idealize.ShloMosaic.StableHlo
open Cert.Reference14Ideal.Read (val_main_cst val_main_v0 val_main_cst_0 val_main_v1 val_main_v2 val_main_cst_1 val_main_v3 val_main_v4 val_main_v5 val_main_cst_2 val_main_v6 val_main_v7 val_main_v8 val_main_cst_3 val_main_v9 val_main_v10 val_main_v11 val_main_cst_4 val_main_v12 val_main_v13 val_main_cst_5 val_main_v14 val_main_v15 val_main_v16 val_main_cst_6 val_main_v17 val_main_v18 val_main_v19 val_main_cst_7 val_main_v20 val_main_v21 val_main_v22 val_main_cst_8 val_main_v23 val_main_v24 val_main_v0_apply)

/-! ## The body's arithmetic on a block of columns -/

section Pay
variable (f : Fin 176 → Fin 704) (p : FVec Ideal S8x1024x704 .f32) (w mo vo : FVec Ideal S1024x704 .f32)

/-- The columns `f` of an array, as rows. -/
def cols (f : Fin 176 → Fin 704) (v : S1024x704.Idx → EReal) : S176x1024.Idx → EReal := fun i => v (ix2 (i 1) (f (i 0)))

/-- The same of device `k`'s part. -/
def part (f : Fin 176 → Fin 704) (v : S8x1024x704.Idx → EReal) (k : Fin 8) : S1x176x1024.Idx → EReal := fun i => v (ix3 k (i 2) (f (i 1)))

theorem pay_g : (k0_pay4 (F := Ideal) (part f p 0) (part f p 1) (part f p 2) (part f p 3) (part f p 4) (part f p 5) (part f p 6) (part f p 7) : S176x1024.Idx → EReal)
    = cols f (val_main_v0 (F := Ideal) p) := by
  funext i
  obtain ⟨r, k, rfl⟩ : ∃ (r : Fin 176) (k : Fin 1024), i = ix2 r k := ⟨_, _, eq_ix2 i⟩
  refine Eq.trans ?_ (val_main_v0_apply p (ix2 k (f r))).symm
  rw [Fin.sum_univ_eight]
  have e : ∀ q, Cert.Reference14Ideal.Read.idx_main_v0 (ix2 k (f r)) q = ix3 q k (f r) := fun q => by funext a; fin_cases a <;> rfl
  pointwise [k0_pay4, part, val_main_cst]
  simp only [e]

theorem pay_m : (k0_pay1 (F := Ideal) (cols f (val_main_v0 (F := Ideal) p)) (cols f mo) : S176x1024.Idx → EReal) = cols f (val_main_v5 (F := Ideal) p mo) := by
  funext i
  obtain ⟨r, k, rfl⟩ : ∃ (r : Fin 176) (k : Fin 1024), i = ix2 r k := ⟨_, _, eq_ix2 i⟩
  show _ = val_main_v5 (F := Ideal) p mo (ix2 k (f r))
  pointwise [k0_pay1, cols, val_main_v5, val_main_v4, val_main_v3, val_main_cst_1, val_main_v2, val_main_v1, val_main_cst_0]

theorem pay_v : (k0_pay2 (F := Ideal) (cols f (val_main_v0 (F := Ideal) p)) (cols f vo) : S176x1024.Idx → EReal) = cols f (val_main_v11 (F := Ideal) p vo) := by
  funext i
  obtain ⟨r, k, rfl⟩ : ∃ (r : Fin 176) (k : Fin 1024), i = ix2 r k := ⟨_, _, eq_ix2 i⟩
  show _ = val_main_v11 (F := Ideal) p vo (ix2 k (f r))
  pointwise [k0_pay2, cols, val_main_v11, val_main_v10, val_main_v9, val_main_cst_3, val_main_v8, val_main_v7, val_main_v6, val_main_cst_2]

theorem pay_d : (k0_pay3 (F := Ideal) (cols f (val_main_v0 (F := Ideal) p)) (cols f mo) (cols f vo) (cols f w) : S176x1024.Idx → EReal)
    = cols f (val_main_v24 (F := Ideal) p w mo vo) := by
  funext i
  obtain ⟨r, k, rfl⟩ : ∃ (r : Fin 176) (k : Fin 1024), i = ix2 r k := ⟨_, _, eq_ix2 i⟩
  show _ = val_main_v24 (F := Ideal) p w mo vo (ix2 k (f r))
  unfold k0_pay3
  rw [pay_m, pay_v]
  pointwise [cols, val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4]
end Pay

/-! ## The blocks the body reads -/

variable (m : (ℓ : Loc nD τ sig) → Buf (Elt Ideal) ℓ) (c : Dev nD)

theorem idx : ∀ t : Fin cfg0.N,
    win0_0.index t 0 = 0 ∧ win0_0.index t 1 = t.val ∧ win0_0.index t 2 = 0 ∧
    win0_1.index t 0 = t.val ∧ win0_1.index t 1 = 0 ∧ win0_2.index t 0 = t.val ∧ win0_2.index t 1 = 0 ∧ win0_3.index t 0 = t.val ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 ∧ win0_7.index t 0 = t.val ∧ win0_7.index t 1 = 0 := by
  decide +kernel

/-- Row `r` of block `t`. -/
def row (t : Fin cfg0.N) (r : Fin 176) : Fin 704 :=
  ⟨t.val * 176 + r.val, by have := lt_of_lt_of_eq t.isLt N_0; have := r.isLt; omega⟩

/-- The padded parts the host hands the body, where they are parts. -/
theorem host_p (k : Fin 8) (r : Fin 704) (l : Fin 1024) : (V m c main_v3 : S8x768x1024.Idx → EReal) (ix3 k ⟨r.val, by omega⟩ l)
    = (m ((c : Thread nD τ).loc main_arg0) : S8x1024x704.Idx → EReal) (ix3 k l r) := by
  show (StableHlo.after hostOps0 (fun b => m (c, b)) (Proc.devRef .tc main_v3) : S8x768x1024.Idx → EReal) _ = _
  after_results
  pointwise []

theorem host_1 : (V m c main_v4 : S704x1024.Idx → EReal) = fun i => (m ((c : Thread nD τ).loc main_arg1) : S1024x704.Idx → EReal) (ix2 (i 1) (i 0)) := by
  show StableHlo.after hostOps0 (fun b => m (c, b)) (Proc.devRef .tc main_v4) = _
  after_results
  funext i
  obtain ⟨r, k, rfl⟩ : ∃ (r : Fin 704) (k : Fin 1024), i = ix2 r k := ⟨_, _, eq_ix2 i⟩
  pointwise []

theorem host_2 : (V m c main_v5 : S704x1024.Idx → EReal) = fun i => (m ((c : Thread nD τ).loc main_arg2) : S1024x704.Idx → EReal) (ix2 (i 1) (i 0)) := by
  show StableHlo.after hostOps0 (fun b => m (c, b)) (Proc.devRef .tc main_v5) = _
  after_results
  funext i
  obtain ⟨r, k, rfl⟩ : ∃ (r : Fin 704) (k : Fin 1024), i = ix2 r k := ⟨_, _, eq_ix2 i⟩
  pointwise []

theorem host_3 : (V m c main_v6 : S704x1024.Idx → EReal) = fun i => (m ((c : Thread nD τ).loc main_arg3) : S1024x704.Idx → EReal) (ix2 (i 1) (i 0)) := by
  show StableHlo.after hostOps0 (fun b => m (c, b)) (Proc.devRef .tc main_v6) = _
  after_results
  funext i
  obtain ⟨r, k, rfl⟩ : ∃ (r : Fin 704) (k : Fin 1024), i = ix2 r k := ⟨_, _, eq_ix2 i⟩
  pointwise []

section Blocks
variable (p : FVec Ideal S8x1024x704 .f32) (w mo vo : FVec Ideal S1024x704 .f32)
  (h0 : m ((c : Thread nD τ).loc main_arg0) = p) (h1 : m ((c : Thread nD τ).loc main_arg1) = w) (h2 : m ((c : Thread nD τ).loc main_arg2) = mo)
  (h3 : m ((c : Thread nD τ).loc main_arg3) = vo)

include h0 in
theorem blk0 (t : Fin cfg0.N) : (X0_0 m c t : S8x176x1024.Idx → EReal) = fun i => p (ix3 (i 0) (i 2) (row t (i 1))) := by
  funext i
  obtain ⟨k, r, l, rfl⟩ : ∃ (k : Fin 8) (r : Fin 176) (l : Fin 1024), i = ix3 k r l := ⟨_, _, _, eq_ix3 i⟩
  refine Eq.trans ?_ ((host_p m c k (row t r) l).trans (congrFun h0 _))
  unfold X0_0 Pipeline.Window.fill
  rw [dif_pos (moved0_0 t _)]
  refine congrArg (V m c main_v3 : S8x768x1024.Idx → EReal) ?_
  blk_ext [idx t, row]

include h1 in
theorem blk1 (t : Fin cfg0.N) : (iblk m c 1 t : S176x1024.Idx → EReal) = cols (row t) w := by
  funext i
  refine Eq.trans (b := (V m c main_v4 : S704x1024.Idx → EReal) (ix2 (row t (i 0)) (i 1))) ?_ ((congrFun (host_1 m c) _).trans (congrFun h1 _))
  blk_ext [iblk, idx t, row]

include h2 in
theorem blk2 (t : Fin cfg0.N) : (iblk m c 2 t : S176x1024.Idx → EReal) = cols (row t) mo := by
  funext i
  refine Eq.trans (b := (V m c main_v5 : S704x1024.Idx → EReal) (ix2 (row t (i 0)) (i 1))) ?_ ((congrFun (host_2 m c) _).trans (congrFun h2 _))
  blk_ext [iblk, idx t, row]

include h3 in
theorem blk3 (t : Fin cfg0.N) : (iblk m c 3 t : S176x1024.Idx → EReal) = cols (row t) vo := by
  funext i
  refine Eq.trans (b := (V m c main_v6 : S704x1024.Idx → EReal) (ix2 (row t (i 0)) (i 1))) ?_ ((congrFun (host_3 m c) _).trans (congrFun h3 _))
  blk_ext [iblk, idx t, row]

/-- What a load of device `k`'s part of the block reads. -/
theorem ld_part (f : Fin 176 → Fin 704) (k : ℕ) (hk : k < 8)
    (inb : ∀ a : Fin 3, (![k, 0, 0] : Fin 3 → ℕ) a + (![1, 176, 1024] : Fin 3 → ℕ) a ≤ (![8, 176, 1024] : Fin 3 → ℕ) a) :
    (View.ld (Val := Elt Ideal) (e' := .bf16) (fun i : S8x176x1024.Idx => (p (ix3 (i 0) (i 2) (f (i 1))) : EReal)) (Rect.unit (s := S8x176x1024) ![k, 0, 0] ![1, 176, 1024] inb) : S1x176x1024.Idx → EReal)
      = part f p ⟨k, hk⟩ := by
  funext i
  obtain ⟨a, r, l, rfl⟩ : ∃ (a : Fin 1) (r : Fin 176) (l : Fin 1024), i = ix3 a r l := ⟨_, _, _, eq_ix3 i⟩
  have e : (Rect.unit (s := S8x176x1024) ![k, 0, 0] ![1, 176, 1024] inb).idx (ix3 a r l) = (ix3 (⟨k, hk⟩ : Fin 8) r l : S8x176x1024.Idx) := by
    funext q
    apply Fin.ext
    have := a.isLt
    fin_cases q <;> simp [Rect.unit, LoadRect.idx, ix3] <;> omega
  exact congrArg (fun j : S8x176x1024.Idx => p (ix3 (j 0) (j 2) (f (j 1)))) e

include h0 in
theorem body_g (t : Fin cfg0.N) : (k0_pay4 (F := Ideal)
    (View.ld (X0_0 m c t) (Rect.unit ![0, 0, 0] ![1, 176, 1024] inb_S8x176x1024_S1x176x1024_0_0_0))
    (View.ld (X0_0 m c t) (Rect.unit ![1, 0, 0] ![1, 176, 1024] inb_S8x176x1024_S1x176x1024_1_0_0))
    (View.ld (X0_0 m c t) (Rect.unit ![2, 0, 0] ![1, 176, 1024] inb_S8x176x1024_S1x176x1024_2_0_0))
    (View.ld (X0_0 m c t) (Rect.unit ![3, 0, 0] ![1, 176, 1024] inb_S8x176x1024_S1x176x1024_3_0_0))
    (View.ld (X0_0 m c t) (Rect.unit ![4, 0, 0] ![1, 176, 1024] inb_S8x176x1024_S1x176x1024_4_0_0))
    (View.ld (X0_0 m c t) (Rect.unit ![5, 0, 0] ![1, 176, 1024] inb_S8x176x1024_S1x176x1024_5_0_0))
    (View.ld (X0_0 m c t) (Rect.unit ![6, 0, 0] ![1, 176, 1024] inb_S8x176x1024_S1x176x1024_6_0_0))
    (View.ld (X0_0 m c t) (Rect.unit ![7, 0, 0] ![1, 176, 1024] inb_S8x176x1024_S1x176x1024_7_0_0)) : S176x1024.Idx → EReal)
      = cols (row t) (val_main_v0 (F := Ideal) p) := by
  rw [blk0 m c p h0 t]
  have e (k : ℕ) (hk : k < 8) (inb) := ld_part p (row t) k hk inb
  exact (congr (congr (congr (congr (congr (congr (congrArg₂ (k0_pay4 (F := Ideal)) (e 0 (by decide) _) (e 1 (by decide) _)) (e 2 (by decide) _))
    (e 3 (by decide) _)) (e 4 (by decide) _)) (e 5 (by decide) _)) (e 6 (by decide) _)) (e 7 (by decide) _)).trans (pay_g (row t) p)

/-! ## What the result arrays hold -/

/-- An array with rows and columns exchanged. -/
def flip (v : S1024x704.Idx → EReal) : S704x1024.Idx → EReal := fun i => v (ix2 (i 1) (i 0))

include h0

theorem final_g : ((dats m 0 c).arrAt 4 (cfgs 0).N : S704x1024.Idx → EReal) = flip (val_main_v0 (F := Ideal) p) := by
  refine (dats m 0 c).arrAt_eq_of_covers 4 _ (by decide +kernel) fun t _ z => ?_
  have e : ((cfg0.win 4).blk t).view.emb z = (ix2 (row t (z 0)) (z 1) : S704x1024.Idx) := by blk_ext [idx t, row]
  blk_simp
  rw [after0_4, e]
  unfold outsAt0
  dsimp only
  unfold out0_A_4
  frame_out
  exact congrFun (body_g m c p h0 t) z

include h1 h2 h3 in
theorem final_d : ((dats m 0 c).arrAt 5 (cfgs 0).N : S704x1024.Idx → EReal) = flip (val_main_v24 (F := Ideal) p w mo vo) := by
  refine (dats m 0 c).arrAt_eq_of_covers 5 _ (by decide +kernel) fun t _ z => ?_
  have e : ((cfg0.win 5).blk t).view.emb z = (ix2 (row t (z 0)) (z 1) : S704x1024.Idx) := by blk_ext [idx t, row]
  blk_simp
  rw [after0_5, e]
  unfold outsAt0
  dsimp only
  unfold out0_A_5
  frame_out
  exact congrFun ((congr (congr (congrArg₂ (k0_pay3 (F := Ideal)) (body_g m c p h0 t) (blk2 m c mo h2 t)) (blk3 m c vo h3 t)) (blk1 m c w h1 t)).trans (pay_d (row t) p w mo vo)) z

include h2 in
theorem final_m : ((dats m 0 c).arrAt 6 (cfgs 0).N : S704x1024.Idx → EReal) = flip (val_main_v5 (F := Ideal) p mo) := by
  refine (dats m 0 c).arrAt_eq_of_covers 6 _ (by decide +kernel) fun t _ z => ?_
  have e : ((cfg0.win 6).blk t).view.emb z = (ix2 (row t (z 0)) (z 1) : S704x1024.Idx) := by blk_ext [idx t, row]
  blk_simp
  rw [after0_6, e]
  unfold outsAt0
  dsimp only
  unfold out0_A_6
  frame_out
  exact congrFun ((congrArg₂ (k0_pay1 (F := Ideal)) (body_g m c p h0 t) (blk2 m c mo h2 t)).trans (pay_m (row t) p mo)) z

include h3 in
theorem final_v : ((dats m 0 c).arrAt 7 (cfgs 0).N : S704x1024.Idx → EReal) = flip (val_main_v11 (F := Ideal) p vo) := by
  refine (dats m 0 c).arrAt_eq_of_covers 7 _ (by decide +kernel) fun t _ z => ?_
  have e : ((cfg0.win 7).blk t).view.emb z = (ix2 (row t (z 0)) (z 1) : S704x1024.Idx) := by blk_ext [idx t, row]
  blk_simp
  rw [after0_7, e]
  unfold outsAt0
  dsimp only
  unfold out0_A_7
  frame_out
  exact congrFun ((congrArg₂ (k0_pay2 (F := Ideal)) (body_g m c p h0 t) (blk3 m c vo h3 t)).trans (pay_v (row t) p vo)) z

end Blocks

/-- The host's exchange of rows and columns after the body. -/
def back (v : S704x1024.Idx → EReal) : S1024x704.Idx → EReal := transpose S1024x704 [1, 0] v transposes_S704x1024_S1024x704_1_0

theorem back_flip (v : S1024x704.Idx → EReal) : back (flip v) = v := by
  funext i
  obtain ⟨k, r, rfl⟩ : ∃ (k : Fin 1024) (r : Fin 704), i = ix2 k r := ⟨_, _, eq_ix2 i⟩
  pointwise [back, flip]

set_option maxHeartbeats 2000000 in
theorem run (ρ : Dev nD → PrngReg) : θ_run defs (onTc (τ := τ) (main (F := Ideal))) ⟨m, fun _ => 0, ρ⟩ (fun r => ∀ c : Dev nD,
    (r.2.mem ((c : Thread nD τ).loc main_v8) : S1024x704.Idx → EReal) = val_main_v0 (F := Ideal) (m ((c : Thread nD τ).loc main_arg0))
    ∧ (r.2.mem ((c : Thread nD τ).loc main_v9) : S1024x704.Idx → EReal) = val_main_v24 (F := Ideal) (m ((c : Thread nD τ).loc main_arg0)) (m ((c : Thread nD τ).loc main_arg1)) (m ((c : Thread nD τ).loc main_arg2)) (m ((c : Thread nD τ).loc main_arg3))
    ∧ (r.2.mem ((c : Thread nD τ).loc main_v10) : S1024x704.Idx → EReal) = val_main_v5 (F := Ideal) (m ((c : Thread nD τ).loc main_arg0)) (m ((c : Thread nD τ).loc main_arg2))
    ∧ (r.2.mem ((c : Thread nD τ).loc main_v11) : S1024x704.Idx → EReal) = val_main_v11 (F := Ideal) (m ((c : Thread nD τ).loc main_arg0)) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) := by
  refine (θ_run defs _ _).mono (fun r h c => ⟨?_, ?_, ?_, ?_, ?_, ?_, ?_, ?_⟩) (run_main m ρ)
  · refine ((h c).2 main_v8 (Pipeline.mem_restRefs_of main_v8 (by decide) (by decide))).trans ?_
    refine Eq.trans ?_ ((congrArg back (final_g m c _ rfl)).trans (back_flip _))
    unfold Pipeline.afterTail₀
    show StableHlo.after hostOps1 _ (Proc.devRef .tc main_v8) = _
    after_results
    exact congrArg back (funext fun i => congrFun (Pipeline.withArrays_arr spec0 launch0.win.arr_inj c (V0 m c) (fun w => (dats m 0 c).arrAt w (cfgs 0).N) 4) i)
  · refine ((h c).2 main_v9 (Pipeline.mem_restRefs_of main_v9 (by decide) (by decide))).trans ?_
    refine Eq.trans ?_ ((congrArg back (final_d m c _ _ _ _ rfl rfl rfl rfl)).trans (back_flip _))
    unfold Pipeline.afterTail₀
    show StableHlo.after hostOps1 _ (Proc.devRef .tc main_v9) = _
    after_results
    exact congrArg back (funext fun i => congrFun (Pipeline.withArrays_arr spec0 launch0.win.arr_inj c (V0 m c) (fun w => (dats m 0 c).arrAt w (cfgs 0).N) 5) i)
  · refine ((h c).2 main_v10 (Pipeline.mem_restRefs_of main_v10 (by decide) (by decide))).trans ?_
    refine Eq.trans ?_ ((congrArg back (final_m m c _ _ rfl rfl)).trans (back_flip _))
    unfold Pipeline.afterTail₀
    show StableHlo.after hostOps1 _ (Proc.devRef .tc main_v10) = _
    after_results
    exact congrArg back (funext fun i => congrFun (Pipeline.withArrays_arr spec0 launch0.win.arr_inj c (V0 m c) (fun w => (dats m 0 c).arrAt w (cfgs 0).N) 6) i)
  · refine ((h c).2 main_v11 (Pipeline.mem_restRefs_of main_v11 (by decide) (by decide))).trans ?_
    refine Eq.trans ?_ ((congrArg back (final_v m c _ _ rfl rfl)).trans (back_flip _))
    unfold Pipeline.afterTail₀
    show StableHlo.after hostOps1 _ (Proc.devRef .tc main_v11) = _
    after_results
    exact congrArg back (funext fun i => congrFun (Pipeline.withArrays_arr spec0 launch0.win.arr_inj c (V0 m c) (fun w => (dats m 0 c).arrAt w (cfgs 0).N) 7) i)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)

end Cert.Kernel14Ideal.Adam

end
-- ==== Proof.AdamPair.lean ====
/- The claims of the optimiser's call for the up weights: the idealized kernel and the reference leave the same four results, at any
   arguments, and the reference keeps its arguments. -/
module

public import proofs.«01_k».proof.Defs
public import proofs.«01_k».proof.Proof.Gen.Reference14Ideal.Run
public import proofs.«01_k».proof.Proof.AdamKernel
public import Idealize.ShloMosaic.Adequacy
public import Idealize.ShloMosaic.Init

@[expose] public section

noncomputable section

namespace Cert.AdamPair

open Idealize.ShloMosaic Idealize.SL.Sem

/-- The reference runs, keeps its arguments, and leaves every counter at zero: it declares none. -/
theorem reference_frame : Cert.quiescent_Reference14Ideal := fun m g _ =>
  (θ_run (Cert.Reference14Ideal.defs (F := Ideal)) _ _).mono
    (fun r h => ⟨fun c => (h c).2.2.2.2, sem_eq_zero_of_no_sems (by decide) r.2⟩) (Cert.Reference14Ideal.Value.run m g)

set_option maxRecDepth 16384 in
set_option maxHeartbeats 2000000 in
theorem algebraic : Cert.algebraic_Kernel14Ideal_Reference14Ideal := by
  pair_intro
  · exact Cert.Kernel14Ideal.Adam.run m g
  · refine θ_run_mono (Cert.Reference14Ideal.Value.run m' g') fun r hr c => ⟨(hr c).1.trans ?_, (hr c).2.1.trans ?_, (hr c).2.2.1.trans ?_, (hr c).2.2.2.1.trans ?_, (hr c).2.2.2.2⟩
    all_goals obtain ⟨e0, e1, e2, e3⟩ := hagree c
    · rw [Cert.Reference14Ideal.Read.val_main_v0_eq, e0]
    · rw [Cert.Reference14Ideal.Read.val_main_v24_eq, e0, e1, e2, e3]
    · rw [Cert.Reference14Ideal.Read.val_main_v5_eq, e0, e2]
    · rw [Cert.Reference14Ideal.Read.val_main_v11_eq, e0, e3]

end Cert.AdamPair

end
-- ==== Proof.SumBody.lean ====
/- The sum of the band attention's three gradients: the blocks as the body leaves them. The body spreads each dilated block over the rows of a
   scratch by strided stores, and reads the scratch back whole. -/
module

public import proofs.«01_k».proof.Proof.Mats
public import proofs.«01_k».proof.Proof.Gen.Kernel15Ideal.Frame
public import Idealize.ShloMosaic.Lib.Pipeline.ValueKit

@[expose] public section

set_option maxRecDepth 16384

noncomputable section

namespace Cert.Kernel15Ideal.Sum

open Cert.Kernel15Ideal Cert.Kernel15Ideal.Gen Idealize.ShloMosaic Idealize.ShloMosaic.TcCoe Idealize.SL.Sem Idealize.ShloMosaic.StableHlo

/-! ## A scratch written by strided stores -/

/-- Four groups of `r` strided stores, one for every slab and residue, are among the list. -/
def combs (r n : ℕ) (L : List (View.Piece (Elt Ideal) S4x512x128 .f32)) : Bool :=
  (List.range 4).all fun j => (List.range r).all fun k => L.any fun p =>
    p.1.off 0 == j && p.1.off 1 == k && p.1.off 2 == 0 && p.1.size 0 == 1 && p.1.size 1 == n && p.1.size 2 == 128 && p.1.stride 1 == r && p.1.stride 2 == 1

/-- They cover the scratch. -/
theorem combs_cover (r n : ℕ) (hr : 0 < r) (hn : n * r = 512) (L : List (View.Piece (Elt Ideal) S4x512x128 .f32)) (h : combs r n L = true) (y : S4x512x128.Idx) :
    ∃ p ∈ L, y ∈ p.1.set := by
  have y0 : (y 0).val < 4 := (y 0).isLt
  have y1 : (y 1).val < 512 := (y 1).isLt
  have y2 : (y 2).val < 128 := (y 2).isLt
  unfold combs at h
  rw [List.all_eq_true] at h
  have h := h (y 0).val (List.mem_range.mpr y0)
  rw [List.all_eq_true] at h
  have h := h ((y 1).val % r) (List.mem_range.mpr (Nat.mod_lt _ hr))
  rw [List.any_eq_true] at h
  obtain ⟨p, hp, h⟩ := h
  simp only [Bool.and_eq_true, beq_iff_eq] at h
  obtain ⟨⟨⟨⟨⟨⟨⟨h1, h2⟩, h3⟩, h4⟩, h5⟩, h6⟩, h7⟩, h8⟩ := h
  refine ⟨p, hp, (LoadRect.mem_set p.1.toLoadRect).mpr fun a => ?_⟩
  have e : r * ((y 1).val / r) + (y 1).val % r = (y 1).val := Nat.div_add_mod _ _
  have l : (y 1).val / r < n := (Nat.div_lt_iff_lt_mul hr).mpr (by omega)
  match a with
  | ⟨0, _⟩ => exact ⟨0, by show 0 < p.1.size 0; omega, by show (y 0).val = p.1.off 0 + p.1.stride 0 * 0; rw [Nat.mul_zero]; omega⟩
  | ⟨1, _⟩ => exact ⟨(y 1).val / r, by show _ < p.1.size 1; omega, by show (y 1).val = p.1.off 1 + p.1.stride 1 * _; rw [h7]; omega⟩
  | ⟨2, _⟩ => exact ⟨(y 2).val, by show _ < p.1.size 2; omega, by show (y 2).val = p.1.off 2 + p.1.stride 2 * _; rw [h8]; omega⟩

/-- A scratch whose latest `k` stores cover it and agree with one array reads as that array. -/
theorem read_latest {κ : Kind} {sp : Space} {sig : RefSig} (w : View sig κ sp S4x512x128 .f32) (k r n : ℕ) (hr : 0 < r) (hn : n * r = 512)
    (G : S4x512x128.Idx → EReal) (L : List (View.Piece (Elt Ideal) S4x512x128 .f32)) (hc : combs r n (L.take k) = true)
    (hL : ∀ p ∈ L.take k, ∀ x : p.1.shape.Idx, p.2 x = G (p.1.emb x)) : w.readCov L = fun B z => G (B.idx z) := by
  funext B z
  have h := View.read_writes_apply_of_pieces w (w.writes (Elt Ideal) w.junk (L.drop k)) G (L.take k) hL (B.idx z) (combs_cover r n hr hn _ hc _)
  rw [← View.writes_append, List.take_append_drop] at h
  exact h

/-! ## What the scratches hold -/

/-- A block of groups of rows side by side, row by row. -/
def get4 (b : S128x2048.Idx → EReal) : S512x512.Idx → EReal := fun i => b (ix2 ⟨(i 0).val / 4, by have h : (i 0).val < 512 := (i 0).isLt; omega⟩
  ⟨(i 0).val % 4 * 512 + (i 1).val, by have h : (i 1).val < 512 := (i 1).isLt; omega⟩)

/-- The same in slabs of 128 columns. -/
def slab4 (b : S128x2048.Idx → EReal) : S4x512x128.Idx → EReal := fun y => get4 b (ix2 (y 1) ⟨128 * (y 0).val + (y 2).val, by
  have h0 : (y 0).val < 4 := (y 0).isLt
  have h2 : (y 2).val < 128 := (y 2).isLt
  omega⟩)

theorem at_slab4 (b : S128x2048.Idx → EReal) (R : Rect S4x512x128) (x : R.shape.Idx) (i) (h0 : (i 0).val = (R.off 1 + R.stride 1 * (x 1).val) / 4)
    (h1 : (i 1).val = (R.off 1 + R.stride 1 * (x 1).val) % 4 * 512 + (128 * (R.off 0 + R.stride 0 * (x 0).val) + (R.off 2 + R.stride 2 * (x 2).val))) :
    b i = slab4 b (R.emb x) := by
  unfold slab4 get4
  refine congrArg b ((eq_ix2 i).trans ?_)
  congr 1 <;> exact Fin.ext (by assumption)

/-- A block of groups of rows side by side, row by row. -/
def get16 (b : S32x8192.Idx → EReal) : S512x512.Idx → EReal := fun i => b (ix2 ⟨(i 0).val / 16, by have h : (i 0).val < 512 := (i 0).isLt; omega⟩
  ⟨(i 0).val % 16 * 512 + (i 1).val, by have h : (i 1).val < 512 := (i 1).isLt; omega⟩)

/-- The same in slabs of 128 columns. -/
def slab16 (b : S32x8192.Idx → EReal) : S4x512x128.Idx → EReal := fun y => get16 b (ix2 (y 1) ⟨128 * (y 0).val + (y 2).val, by
  have h0 : (y 0).val < 4 := (y 0).isLt
  have h2 : (y 2).val < 128 := (y 2).isLt
  omega⟩)

theorem at_slab16 (b : S32x8192.Idx → EReal) (R : Rect S4x512x128) (x : R.shape.Idx) (i) (h0 : (i 0).val = (R.off 1 + R.stride 1 * (x 1).val) / 16)
    (h1 : (i 1).val = (R.off 1 + R.stride 1 * (x 1).val) % 16 * 512 + (128 * (R.off 0 + R.stride 0 * (x 0).val) + (R.off 2 + R.stride 2 * (x 2).val))) :
    b i = slab16 b (R.emb x) := by
  unfold slab16 get16
  refine congrArg b ((eq_ix2 i).trans ?_)
  congr 1 <;> exact Fin.ext (by assumption)

theorem add3 (a : EReal) {b b' d d' : EReal} (hb : b = b') (hd : d = d') : a + b + d = a + b' + d' := by rw [hb, hd]

/-- The sum of a block's three parts. -/
def sum3 (a : S512x512.Idx → EReal) (b : S128x2048.Idx → EReal) (d : S32x8192.Idx → EReal) : S512x512.Idx → EReal := fun i => a i + get4 b i + get16 d i

variable (m : (ℓ : Loc nD τ sig) → Buf (Elt Ideal) ℓ) (c : Dev nD)

/-- The block the body leaves: the three sums side by side. -/
def sums (t : Fin cfg0.N) : S512x1536.Idx → EReal := fun y =>
  if h : (y 1).val < 512 then sum3 (iblk m c 0 t) (iblk m c 3 t) (iblk m c 6 t) (ix2 (y 0) ⟨(y 1).val, h⟩)
  else if h' : (y 1).val - 512 < 512 then sum3 (iblk m c 1 t) (iblk m c 4 t) (iblk m c 7 t) (ix2 (y 0) ⟨(y 1).val - 512, h'⟩)
  else sum3 (iblk m c 2 t) (iblk m c 5 t) (iblk m c 8 t) (ix2 (y 0) ⟨(y 1).val - 1024, by have h : (y 1).val < 1536 := (y 1).isLt; omega⟩)

/-- The slabs side by side are the rows. -/
theorem chain4 (b : S128x2048.Idx → EReal) (x : S512x512.Idx) :
    (if h : (x 1).val < 128 then slab4 b (ix3 0 (x 0) ⟨(x 1).val, h⟩)
      else if h : (x 1).val - 128 < 128 then slab4 b (ix3 1 (x 0) ⟨(x 1).val - 128, h⟩)
      else if h : (x 1).val - 128 - 128 < 128 then slab4 b (ix3 2 (x 0) ⟨(x 1).val - 128 - 128, h⟩)
      else slab4 b (ix3 3 (x 0) ⟨(x 1).val - 128 - 128 - 128, by have h : (x 1).val < 512 := (x 1).isLt; omega⟩)) = get4 b x := by
  have h : (x 1).val < 512 := (x 1).isLt
  split_ifs
  all_goals
    unfold slab4
    refine congrArg (get4 b) (Eq.trans ?_ (eq_ix2 x).symm)
    refine congrArg (ix2 (x 0)) (Fin.ext ?_)
  · show 128 * 0 + (x 1).val = _; omega
  · show 128 * 1 + ((x 1).val - 128) = _; omega
  · show 128 * 2 + ((x 1).val - 128 - 128) = _; omega
  · show 128 * 3 + ((x 1).val - 128 - 128 - 128) = _; omega

/-- The slabs side by side are the rows. -/
theorem chain16 (b : S32x8192.Idx → EReal) (x : S512x512.Idx) :
    (if h : (x 1).val < 128 then slab16 b (ix3 0 (x 0) ⟨(x 1).val, h⟩)
      else if h : (x 1).val - 128 < 128 then slab16 b (ix3 1 (x 0) ⟨(x 1).val - 128, h⟩)
      else if h : (x 1).val - 128 - 128 < 128 then slab16 b (ix3 2 (x 0) ⟨(x 1).val - 128 - 128, h⟩)
      else slab16 b (ix3 3 (x 0) ⟨(x 1).val - 128 - 128 - 128, by have h : (x 1).val < 512 := (x 1).isLt; omega⟩)) = get16 b x := by
  have h : (x 1).val < 512 := (x 1).isLt
  split_ifs
  all_goals
    unfold slab16
    refine congrArg (get16 b) (Eq.trans ?_ (eq_ix2 x).symm)
    refine congrArg (ix2 (x 0)) (Fin.ext ?_)
  · show 128 * 0 + (x 1).val = _; omega
  · show 128 * 1 + ((x 1).val - 128) = _; omega
  · show 128 * 2 + ((x 1).val - 128 - 128) = _; omega
  · show 128 * 3 + ((x 1).val - 128 - 128 - 128) = _; omega

theorem sums_0 (t : Fin cfg0.N) (x : S512x512.Idx) (y : S512x1536.Idx) (h0 : (y 0).val = (x 0).val) (h1 : (y 1).val = 0 + (x 1).val) :
    sum3 (iblk m c 0 t) (iblk m c 3 t) (iblk m c 6 t) x = sums m c t y := by
  have hx : (x 1).val < 512 := (x 1).isLt
  unfold sums
  rw [dif_pos (by omega)]
  refine congrArg (sum3 (iblk m c 0 t) (iblk m c 3 t) (iblk m c 6 t)) ((eq_ix2 x).trans ?_)
  congr 1 <;> refine Fin.ext ?_
  · exact h0.symm
  · show (x 1).val = (y 1).val; omega

theorem sums_1 (t : Fin cfg0.N) (x : S512x512.Idx) (y : S512x1536.Idx) (h0 : (y 0).val = (x 0).val) (h1 : (y 1).val = 512 + (x 1).val) :
    sum3 (iblk m c 1 t) (iblk m c 4 t) (iblk m c 7 t) x = sums m c t y := by
  have hx : (x 1).val < 512 := (x 1).isLt
  unfold sums
  rw [dif_neg (by omega), dif_pos (by omega)]
  refine congrArg (sum3 (iblk m c 1 t) (iblk m c 4 t) (iblk m c 7 t)) ((eq_ix2 x).trans ?_)
  congr 1 <;> refine Fin.ext ?_
  · exact h0.symm
  · show (x 1).val = (y 1).val - 512; omega

theorem sums_2 (t : Fin cfg0.N) (x : S512x512.Idx) (y : S512x1536.Idx) (h0 : (y 0).val = (x 0).val) (h1 : (y 1).val = 1024 + (x 1).val) :
    sum3 (iblk m c 2 t) (iblk m c 5 t) (iblk m c 8 t) x = sums m c t y := by
  have hx : (x 1).val < 512 := (x 1).isLt
  unfold sums
  rw [dif_neg (by omega), dif_neg (by omega)]
  refine congrArg (sum3 (iblk m c 2 t) (iblk m c 5 t) (iblk m c 8 t)) ((eq_ix2 x).trans ?_)
  congr 1 <;> refine Fin.ext ?_
  · exact h0.symm
  · show (x 1).val = (y 1).val - 1024; omega

set_option maxHeartbeats 16000000 in
theorem out_sums (t : Fin cfg0.N) (z) : outsAt0 m c t z = sums m c t z := by
  unfold outsAt0
  unfold out0_A_9
  frame_out
  apply View.canon_apply_of_pieces
  · simp only [List.forall_mem_cons]
    refine ⟨?_, ?_, ?_, fun _ h => absurd h List.not_mem_nil⟩
    · intro x
      rw [read_latest (View.whole cc0_scratch0) 16 4 128 (by decide) (by decide) (slab4 (iblk m c 5 t)) _ ?_ ?_]
      rotate_left
      · sl_kernel_rfl
      · simp only [List.take_succ_cons, List.take_zero, List.forall_mem_cons]
        refine ⟨?_, ?_, ?_, ?_, ?_, ?_, ?_, ?_, ?_, ?_, ?_, ?_, ?_, ?_, ?_, ?_, fun _ h => absurd h List.not_mem_nil⟩
        all_goals
          intro x
          have x0 : (x 0).val < 1 := (x 0).isLt
          have x1 : (x 1).val < 128 := (x 1).isLt
          have x2 : (x 2).val < 128 := (x 2).isLt
          pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260]
          refine at_slab4 _ _ _ _ ?_ ?_
          all_goals
            simp
            try omega
      rw [read_latest (View.whole cc0_scratch1) 64 16 32 (by decide) (by decide) (slab16 (iblk m c 8 t)) _ ?_ ?_]
      rotate_left
      · sl_kernel_rfl
      · simp only [List.take_succ_cons, List.take_zero, List.forall_mem_cons]
        refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
        all_goals
          intro x
          have x0 : (x 0).val < 1 := (x 0).isLt
          have x1 : (x 1).val < 32 := (x 1).isLt
          have x2 : (x 2).val < 128 := (x 2).isLt
          pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260]
          refine at_slab16 _ _ _ _ ?_ ?_
          all_goals
            simp
            try omega
      pointwise [k0_pay1, k0_pay261, k0_pay262, k0_pay263, k0_pay264]
      refine (add3 (iblk m c 2 t x) (chain4 (iblk m c 5 t) x) (chain16 (iblk m c 8 t) x)).trans ?_
      refine sums_2 m c t x _ ?_ ?_
      · show 0 + 1 * (x 0).val = (x 0).val; omega
      · show 1024 + 1 * (x 1).val = 1024 + (x 1).val; omega
    · intro x
      rw [read_latest (View.whole cc0_scratch0) 16 4 128 (by decide) (by decide) (slab4 (iblk m c 4 t)) _ ?_ ?_]
      rotate_left
      · sl_kernel_rfl
      · simp only [List.take_succ_cons, List.take_zero, List.forall_mem_cons]
        refine ⟨?_, ?_, ?_, ?_, ?_, ?_, ?_, ?_, ?_, ?_, ?_, ?_, ?_, ?_, ?_, ?_, fun _ h => absurd h List.not_mem_nil⟩
        all_goals
          intro x
          have x0 : (x 0).val < 1 := (x 0).isLt
          have x1 : (x 1).val < 128 := (x 1).isLt
          have x2 : (x 2).val < 128 := (x 2).isLt
          pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260]
          refine at_slab4 _ _ _ _ ?_ ?_
          all_goals
            simp
            try omega
      rw [read_latest (View.whole cc0_scratch1) 64 16 32 (by decide) (by decide) (slab16 (iblk m c 7 t)) _ ?_ ?_]
      rotate_left
      · sl_kernel_rfl
      · simp only [List.take_succ_cons, List.take_zero, List.forall_mem_cons]
        refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
        all_goals
          intro x
          have x0 : (x 0).val < 1 := (x 0).isLt
          have x1 : (x 1).val < 32 := (x 1).isLt
          have x2 : (x 2).val < 128 := (x 2).isLt
          pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260]
          refine at_slab16 _ _ _ _ ?_ ?_
          all_goals
            simp
            try omega
      pointwise [k0_pay180, k0_pay179]
      refine (add3 (iblk m c 1 t x) (chain4 (iblk m c 4 t) x) (chain16 (iblk m c 7 t) x)).trans ?_
      refine sums_1 m c t x _ ?_ ?_
      · show 0 + 1 * (x 0).val = (x 0).val; omega
      · show 512 + 1 * (x 1).val = 512 + (x 1).val; omega
    · intro x
      rw [read_latest (View.whole cc0_scratch0) 16 4 128 (by decide) (by decide) (slab4 (iblk m c 3 t)) _ ?_ ?_]
      rotate_left
      · sl_kernel_rfl
      · simp only [List.take_succ_cons, List.take_zero, List.forall_mem_cons]
        refine ⟨?_, ?_, ?_, ?_, ?_, ?_, ?_, ?_, ?_, ?_, ?_, ?_, ?_, ?_, ?_, ?_, fun _ h => absurd h List.not_mem_nil⟩
        all_goals
          intro x
          have x0 : (x 0).val < 1 := (x 0).isLt
          have x1 : (x 1).val < 128 := (x 1).isLt
          have x2 : (x 2).val < 128 := (x 2).isLt
          pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260]
          refine at_slab4 _ _ _ _ ?_ ?_
          all_goals
            simp
            try omega
      rw [read_latest (View.whole cc0_scratch1) 64 16 32 (by decide) (by decide) (slab16 (iblk m c 6 t)) _ ?_ ?_]
      rotate_left
      · sl_kernel_rfl
      · simp only [List.take_succ_cons, List.take_zero, List.forall_mem_cons]
        refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
        all_goals
          intro x
          have x0 : (x 0).val < 1 := (x 0).isLt
          have x1 : (x 1).val < 32 := (x 1).isLt
          have x2 : (x 2).val < 128 := (x 2).isLt
          pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260]
          refine at_slab16 _ _ _ _ ?_ ?_
          all_goals
            simp
            try omega
      pointwise [k0_pay82]
      refine (add3 (iblk m c 0 t x) (chain4 (iblk m c 3 t) x) (chain16 (iblk m c 6 t) x)).trans ?_
      refine sums_0 m c t x _ ?_ ?_
      · show 0 + 1 * (x 0).val = (x 0).val; omega
      · show 0 + 1 * (x 1).val = 0 + (x 1).val; omega
  · have h0 : (z 0).val < 512 := (z 0).isLt
    have h1 : (z 1).val < 1536 := (z 1).isLt
    simp only [List.exists_mem_cons_iff, Rect.mem_set_unit]
    simp [Fin.forall_fin_succ]
    omega

end Cert.Kernel15Ideal.Sum

end
-- ==== Proof.SumKernel.lean ====
/- The sum of the band attention's three gradients: what its result array holds after the run, as the reference's lines on the same arguments. -/
module

public import proofs.«01_k».proof.Proof.SumBody
public import proofs.«01_k».proof.Proof.Gen.Reference15Ideal.Read
public import Idealize.ShloMosaic.Lib.StableHlo.Run

@[expose] public section

set_option maxRecDepth 16384

noncomputable section

namespace Cert.Kernel15Ideal.Sum

open Cert.Kernel15Ideal Cert.Kernel15Ideal.Gen Idealize.ShloMosaic Idealize.ShloMosaic.TcCoe Idealize.SL.Sem Idealize.ShloMosaic.StableHlo
open Cert.Reference15Ideal.Read (val_main_v0 val_main_v1 val_main_v2 val_main_v3 val_main_v4 val_main_v5 val_main_v6)

variable (m : (ℓ : Loc nD τ sig) → Buf (Elt Ideal) ℓ) (c : Dev nD)

/-! ## The blocks the body reads -/

theorem idx : ∀ t : Fin cfg0.N,
    win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 ∧ win0_7.index t 0 = t.val ∧ win0_7.index t 1 = 0 ∧ win0_8.index t 0 = t.val ∧ win0_8.index t 1 = 0 ∧ win0_9.index t 0 = t.val ∧ win0_9.index t 1 = 0 := by
  decide +kernel

/-- Row `r` of block `t`. -/
def row (t : Fin cfg0.N) (r : Fin 512) : Fin 8192 :=
  ⟨t.val * 512 + r.val, by have := lt_of_lt_of_eq t.isLt N_0; have := r.isLt; omega⟩

/-- Group `r` of 4 rows of block `t`. -/
def row4 (t : Fin cfg0.N) (r : Fin 128) : Fin 2048 :=
  ⟨t.val * 128 + r.val, by have := lt_of_lt_of_eq t.isLt N_0; have := r.isLt; omega⟩

/-- A dilated array's element under the row it came from. -/
theorem up4 (v : S8192x512.Idx → EReal) (t : Fin cfg0.N) (i : S512x512.Idx) (h) :
    shapeCast S2048x2048 v h (ix2 (row4 t ⟨(i 0).val / 4, by have h : (i 0).val < 512 := (i 0).isLt; omega⟩)
      ⟨(i 0).val % 4 * 512 + (i 1).val, by have h : (i 1).val < 512 := (i 1).isLt; omega⟩) = v (ix2 (row t (i 0)) (i 1)) := by
  have h1 : (i 1).val < 512 := (i 1).isLt
  have h0 : (i 0).val < 512 := (i 0).isLt
  pointwise []
  exact congrArg (fun a => v (ix2 a (i 1))) (Fin.ext (show (t.val * 128 + (i 0).val / 4) * 4 + ((i 0).val % 4 * 512 + (i 1).val) / 512 = t.val * 512 + (i 0).val by omega))

/-- Group `r` of 16 rows of block `t`. -/
def row16 (t : Fin cfg0.N) (r : Fin 32) : Fin 512 :=
  ⟨t.val * 32 + r.val, by have := lt_of_lt_of_eq t.isLt N_0; have := r.isLt; omega⟩

/-- A dilated array's element under the row it came from. -/
theorem up16 (v : S8192x512.Idx → EReal) (t : Fin cfg0.N) (i : S512x512.Idx) (h) :
    shapeCast S512x8192 v h (ix2 (row16 t ⟨(i 0).val / 16, by have h : (i 0).val < 512 := (i 0).isLt; omega⟩)
      ⟨(i 0).val % 16 * 512 + (i 1).val, by have h : (i 1).val < 512 := (i 1).isLt; omega⟩) = v (ix2 (row t (i 0)) (i 1)) := by
  have h1 : (i 1).val < 512 := (i 1).isLt
  have h0 : (i 0).val < 512 := (i 0).isLt
  pointwise []
  exact congrArg (fun a => v (ix2 a (i 1))) (Fin.ext (show (t.val * 32 + (i 0).val / 16) * 16 + ((i 0).val % 16 * 512 + (i 1).val) / 512 = t.val * 512 + (i 0).val by omega))

theorem blk0 (t : Fin cfg0.N) (i : S512x512.Idx) : (iblk m c 0 t : S512x512.Idx → EReal) i = (m ((c : Thread nD τ).loc main_arg0) : S8192x512.Idx → EReal) (ix2 (row t (i 0)) (i 1)) := by
  have e : (V m c main_v0 : S8192x512.Idx → EReal) = (m ((c : Thread nD τ).loc main_arg0) : S8192x512.Idx → EReal) := by
    show after hostOps0 (fun b => m (c, b)) (Proc.devRef .tc main_v0) = _
    after_results
    rfl
  refine Eq.trans ?_ (congrFun e _)
  blk_ext [iblk, idx t, row]
theorem blk1 (t : Fin cfg0.N) (i : S512x512.Idx) : (iblk m c 1 t : S512x512.Idx → EReal) i = (m ((c : Thread nD τ).loc main_arg1) : S8192x512.Idx → EReal) (ix2 (row t (i 0)) (i 1)) := by
  have e : (V m c main_v1 : S8192x512.Idx → EReal) = (m ((c : Thread nD τ).loc main_arg1) : S8192x512.Idx → EReal) := by
    show after hostOps0 (fun b => m (c, b)) (Proc.devRef .tc main_v1) = _
    after_results
    rfl
  refine Eq.trans ?_ (congrFun e _)
  blk_ext [iblk, idx t, row]
theorem blk2 (t : Fin cfg0.N) (i : S512x512.Idx) : (iblk m c 2 t : S512x512.Idx → EReal) i = (m ((c : Thread nD τ).loc main_arg2) : S8192x512.Idx → EReal) (ix2 (row t (i 0)) (i 1)) := by
  have e : (V m c main_v2 : S8192x512.Idx → EReal) = (m ((c : Thread nD τ).loc main_arg2) : S8192x512.Idx → EReal) := by
    show after hostOps0 (fun b => m (c, b)) (Proc.devRef .tc main_v2) = _
    after_results
    rfl
  refine Eq.trans ?_ (congrFun e _)
  blk_ext [iblk, idx t, row]
theorem got3 (t : Fin cfg0.N) (i : S512x512.Idx) : get4 (iblk m c 3 t) i = (m ((c : Thread nD τ).loc main_arg3) : S8192x512.Idx → EReal) (ix2 (row t (i 0)) (i 1)) := by
  have e : (V m c main_v4 : S2048x2048.Idx → EReal) = shapeCast S2048x2048 (m ((c : Thread nD τ).loc main_arg3) : S8192x512.Idx → EReal) shapeCasts_S8192x512_S2048x2048 := by
    show after hostOps0 (fun b => m (c, b)) (Proc.devRef .tc main_v4) = _
    after_results
    rfl
  refine Eq.trans ?_ ((congrFun e _).trans (up4 (m ((c : Thread nD τ).loc main_arg3) : S8192x512.Idx → EReal) t i _))
  unfold get4
  blk_ext [iblk, idx t, row4]
theorem got4 (t : Fin cfg0.N) (i : S512x512.Idx) : get4 (iblk m c 4 t) i = (m ((c : Thread nD τ).loc main_arg4) : S8192x512.Idx → EReal) (ix2 (row t (i 0)) (i 1)) := by
  have e : (V m c main_v6 : S2048x2048.Idx → EReal) = shapeCast S2048x2048 (m ((c : Thread nD τ).loc main_arg4) : S8192x512.Idx → EReal) shapeCasts_S8192x512_S2048x2048 := by
    show after hostOps0 (fun b => m (c, b)) (Proc.devRef .tc main_v6) = _
    after_results
    rfl
  refine Eq.trans ?_ ((congrFun e _).trans (up4 (m ((c : Thread nD τ).loc main_arg4) : S8192x512.Idx → EReal) t i _))
  unfold get4
  blk_ext [iblk, idx t, row4]
theorem got5 (t : Fin cfg0.N) (i : S512x512.Idx) : get4 (iblk m c 5 t) i = (m ((c : Thread nD τ).loc main_arg5) : S8192x512.Idx → EReal) (ix2 (row t (i 0)) (i 1)) := by
  have e : (V m c main_v8 : S2048x2048.Idx → EReal) = shapeCast S2048x2048 (m ((c : Thread nD τ).loc main_arg5) : S8192x512.Idx → EReal) shapeCasts_S8192x512_S2048x2048 := by
    show after hostOps0 (fun b => m (c, b)) (Proc.devRef .tc main_v8) = _
    after_results
    rfl
  refine Eq.trans ?_ ((congrFun e _).trans (up4 (m ((c : Thread nD τ).loc main_arg5) : S8192x512.Idx → EReal) t i _))
  unfold get4
  blk_ext [iblk, idx t, row4]
theorem got6 (t : Fin cfg0.N) (i : S512x512.Idx) : get16 (iblk m c 6 t) i = (m ((c : Thread nD τ).loc main_arg6) : S8192x512.Idx → EReal) (ix2 (row t (i 0)) (i 1)) := by
  have e : (V m c main_v10 : S512x8192.Idx → EReal) = shapeCast S512x8192 (m ((c : Thread nD τ).loc main_arg6) : S8192x512.Idx → EReal) shapeCasts_S8192x512_S512x8192 := by
    show after hostOps0 (fun b => m (c, b)) (Proc.devRef .tc main_v10) = _
    after_results
    rfl
  refine Eq.trans ?_ ((congrFun e _).trans (up16 (m ((c : Thread nD τ).loc main_arg6) : S8192x512.Idx → EReal) t i _))
  unfold get16
  blk_ext [iblk, idx t, row16]
theorem got7 (t : Fin cfg0.N) (i : S512x512.Idx) : get16 (iblk m c 7 t) i = (m ((c : Thread nD τ).loc main_arg7) : S8192x512.Idx → EReal) (ix2 (row t (i 0)) (i 1)) := by
  have e : (V m c main_v12 : S512x8192.Idx → EReal) = shapeCast S512x8192 (m ((c : Thread nD τ).loc main_arg7) : S8192x512.Idx → EReal) shapeCasts_S8192x512_S512x8192 := by
    show after hostOps0 (fun b => m (c, b)) (Proc.devRef .tc main_v12) = _
    after_results
    rfl
  refine Eq.trans ?_ ((congrFun e _).trans (up16 (m ((c : Thread nD τ).loc main_arg7) : S8192x512.Idx → EReal) t i _))
  unfold get16
  blk_ext [iblk, idx t, row16]
theorem got8 (t : Fin cfg0.N) (i : S512x512.Idx) : get16 (iblk m c 8 t) i = (m ((c : Thread nD τ).loc main_arg8) : S8192x512.Idx → EReal) (ix2 (row t (i 0)) (i 1)) := by
  have e : (V m c main_v14 : S512x8192.Idx → EReal) = shapeCast S512x8192 (m ((c : Thread nD τ).loc main_arg8) : S8192x512.Idx → EReal) shapeCasts_S8192x512_S512x8192 := by
    show after hostOps0 (fun b => m (c, b)) (Proc.devRef .tc main_v14) = _
    after_results
    rfl
  refine Eq.trans ?_ ((congrFun e _).trans (up16 (m ((c : Thread nD τ).loc main_arg8) : S8192x512.Idx → EReal) t i _))
  unfold get16
  blk_ext [iblk, idx t, row16]

/-! ## What the result array holds -/

/-- The reference's result, over the whole array. -/
def whole : S8192x2304.Idx → EReal := fun i => if h : (i 1).val < 1536 then
  val_main_v6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (i 0) ⟨(i 1).val, h⟩) else 0

theorem sums_whole (t : Fin cfg0.N) (z : S512x1536.Idx) : sums m c t z
    = val_main_v6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (row t (z 0)) ⟨(z 1).val, (z 1).isLt⟩) := by
  have h : (z 1).val < 1536 := (z 1).isLt
  have s0 : ∀ i : S512x512.Idx, sum3 (iblk m c 0 t) (iblk m c 3 t) (iblk m c 6 t) i = val_main_v1 (F := Ideal) (m ((c : Thread nD τ).loc main_arg0)) (m ((c : Thread nD τ).loc main_arg3)) (m ((c : Thread nD τ).loc main_arg6)) (ix2 (row t (i 0)) (i 1)) := fun i =>
    (add3 _ (got3 m c t i) (got6 m c t i)).trans (congrArg (fun a : EReal => a + (m ((c : Thread nD τ).loc main_arg3) : S8192x512.Idx → EReal) (ix2 (row t (i 0)) (i 1)) + (m ((c : Thread nD τ).loc main_arg6) : S8192x512.Idx → EReal) (ix2 (row t (i 0)) (i 1))) (blk0 m c t i))
  have s1 : ∀ i : S512x512.Idx, sum3 (iblk m c 1 t) (iblk m c 4 t) (iblk m c 7 t) i = val_main_v3 (F := Ideal) (m ((c : Thread nD τ).loc main_arg1)) (m ((c : Thread nD τ).loc main_arg4)) (m ((c : Thread nD τ).loc main_arg7)) (ix2 (row t (i 0)) (i 1)) := fun i =>
    (add3 _ (got4 m c t i) (got7 m c t i)).trans (congrArg (fun a : EReal => a + (m ((c : Thread nD τ).loc main_arg4) : S8192x512.Idx → EReal) (ix2 (row t (i 0)) (i 1)) + (m ((c : Thread nD τ).loc main_arg7) : S8192x512.Idx → EReal) (ix2 (row t (i 0)) (i 1))) (blk1 m c t i))
  have s2 : ∀ i : S512x512.Idx, sum3 (iblk m c 2 t) (iblk m c 5 t) (iblk m c 8 t) i = val_main_v5 (F := Ideal) (m ((c : Thread nD τ).loc main_arg2)) (m ((c : Thread nD τ).loc main_arg5)) (m ((c : Thread nD τ).loc main_arg8)) (ix2 (row t (i 0)) (i 1)) := fun i =>
    (add3 _ (got5 m c t i) (got8 m c t i)).trans (congrArg (fun a : EReal => a + (m ((c : Thread nD τ).loc main_arg5) : S8192x512.Idx → EReal) (ix2 (row t (i 0)) (i 1)) + (m ((c : Thread nD τ).loc main_arg8) : S8192x512.Idx → EReal) (ix2 (row t (i 0)) (i 1))) (blk2 m c t i))
  unfold sums val_main_v6
  simp only [s0, s1, s2]
  pointwise []
  refine dite_congr rfl (fun _ => rfl) fun h1 => dite_congr rfl (fun _ => rfl) fun h2 => ?_
  exact congrArg (fun q : Fin 512 => val_main_v5 (F := Ideal) (m ((c : Thread nD τ).loc main_arg2)) (m ((c : Thread nD τ).loc main_arg5)) (m ((c : Thread nD τ).loc main_arg8)) (ix2 (row t (z 0)) q)) (Fin.ext (Nat.sub_sub (z 1).val 512 512).symm)

theorem whole_at (r : Fin 8192) (q : Fin 2304) (h : q.val < 1536) : whole m c (ix2 r q)
    = val_main_v6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r ⟨q.val, h⟩) := dif_pos h

theorem final (i : S8192x2304.Idx) (h : (i 1).val < 1536) : ((dats m 0 c).arrAt 9 (cfgs 0).N : S8192x2304.Idx → EReal) i = whole m c i := by
  refine ((dats m 0 c).arrAt_apply_of_coversWhere 9 (whole m c) (P := fun i : S8192x2304.Idx => (i 1).val < 1536) (fun β => β (1 : Fin _) = 0) (by decide +kernel) (fun t _ z => ?_) (fun j => ?_) i).trans (if_pos h)
  · obtain ⟨y, hy⟩ : ∃ y : S512x1536.Idx, y = (cfg0.win 9).xinj (cfg0.grid.coords t) z := ⟨_, rfl⟩
    have y0 : (y 0).val = (z 0).val := by rw [hy]
    have y1 : (y 1).val = (z 1).val := by rw [hy]
    have e : ((cfg0.win 9).blk t).view.emb z = (ix2 (row t (y 0)) ⟨(y 1).val, Nat.lt_of_lt_of_le (y 1).isLt (by decide)⟩ : S8192x2304.Idx) := by blk_ext [idx t, row, y0, y1]
    rw [e]
    refine Eq.trans (b := outsAt0 m c t y) ?_ ((out_sums m c t y).trans ((sums_whole m c t y).trans ?_))
    · rw [hy]; exact congrFun (after0_9 m c t) _
    · exact (whole_at m c (row t (y 0)) ⟨(y 1).val, Nat.lt_of_lt_of_le (y 1).isLt (by decide)⟩ (y 1).isLt).symm
  · blk_simp [Pipeline.Window.cell_apply]
    omega

/-- The columns the host reads. -/
def back (v : S8192x2304.Idx → EReal) : S8192x1536.Idx → EReal := extractStridedSlice S8192x1536 ![0, 0] v slices_S8192x2304_S8192x1536_0_0

theorem back_final : back ((dats m 0 c).arrAt 9 (cfgs 0).N) = val_main_v6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨r, q, rfl⟩ : ∃ (r : Fin 8192) (q : Fin 1536), i = ix2 r q := ⟨_, _, eq_ix2 i⟩
  refine Eq.trans ?_ ((final m c (ix2 r ⟨q.val, by omega⟩) q.isLt).trans (whole_at m c r ⟨q.val, by omega⟩ q.isLt))
  generalize ((dats m 0 c).arrAt 9 (cfgs 0).N : S8192x2304.Idx → EReal) = v
  pointwise [back]

set_option maxHeartbeats 2000000 in
theorem run (ρ : Dev nD → PrngReg) : θ_run defs (onTc (τ := τ) (main (F := Ideal))) ⟨m, fun _ => 0, ρ⟩ (fun r => ∀ c : Dev nD,
    (r.2.mem ((c : Thread nD τ).loc main_v17) : S8192x1536.Idx → EReal) = val_main_v6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)) := by
  refine (θ_run defs _ _).mono (fun r h c => ⟨?_, ?_, ?_, ?_, ?_, ?_, ?_, ?_, ?_, ?_⟩) (run_main m ρ)
  · refine ((h c).2 main_v17 (Pipeline.mem_restRefs_of main_v17 (by decide) (by decide))).trans ?_
    refine Eq.trans ?_ (back_final m c)
    unfold Pipeline.afterTail₀
    show StableHlo.after hostOps1 _ (Proc.devRef .tc main_v17) = _
    after_results
    exact congrArg back (funext fun i => congrFun (Pipeline.withArrays_arr spec0 launch0.win.arr_inj c (V0 m c) (fun w => (dats m 0 c).arrAt w (cfgs 0).N) 9) i)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)
  · exact ((h c).2 main_arg4 (Pipeline.mem_restRefs_of main_arg4 (by decide) (by decide))).trans (W_main_arg4 m (dats m) c)
  · exact ((h c).2 main_arg5 (Pipeline.mem_restRefs_of main_arg5 (by decide) (by decide))).trans (W_main_arg5 m (dats m) c)
  · exact ((h c).2 main_arg6 (Pipeline.mem_restRefs_of main_arg6 (by decide) (by decide))).trans (W_main_arg6 m (dats m) c)
  · exact ((h c).2 main_arg7 (Pipeline.mem_restRefs_of main_arg7 (by decide) (by decide))).trans (W_main_arg7 m (dats m) c)
  · exact ((h c).2 main_arg8 (Pipeline.mem_restRefs_of main_arg8 (by decide) (by decide))).trans (W_main_arg8 m (dats m) c)

end Cert.Kernel15Ideal.Sum

end
-- ==== Proof.SumPair.lean ====
/- The claims of the sum of the band attention's three gradients: the idealized kernel and the reference leave the same result, at any
   arguments, and the reference keeps its arguments. -/
module

public import proofs.«01_k».proof.Defs
public import proofs.«01_k».proof.Proof.Gen.Reference15Ideal.Run
public import proofs.«01_k».proof.Proof.SumKernel
public import Idealize.ShloMosaic.Adequacy
public import Idealize.ShloMosaic.Init

@[expose] public section

noncomputable section

namespace Cert.SumPair

open Idealize.ShloMosaic Idealize.SL.Sem

/-- The reference runs, keeps its arguments, and leaves every counter at zero: it declares none. -/
theorem reference_frame : Cert.quiescent_Reference15Ideal := fun m g _ =>
  (θ_run (Cert.Reference15Ideal.defs (F := Ideal)) _ _).mono
    (fun r h => ⟨fun c => (h c).2, sem_eq_zero_of_no_sems (by decide) r.2⟩) (Cert.Reference15Ideal.Value.run m g)

set_option maxRecDepth 16384 in
set_option maxHeartbeats 2000000 in
theorem algebraic : Cert.algebraic_Kernel15Ideal_Reference15Ideal := by
  pair_intro
  · exact Cert.Kernel15Ideal.Sum.run m g
  · refine θ_run_mono (Cert.Reference15Ideal.Value.run m' g') fun r hr c => ⟨(hr c).1.trans ?_, (hr c).2⟩
    obtain ⟨e0, e1, e2, e3, e4, e5, e6, e7, e8⟩ := hagree c
    rw [Cert.Reference15Ideal.Read.val_main_v6_eq, e0, e1, e2, e3, e4, e5, e6, e7, e8]

end Cert.SumPair

end
-- ==== Proof.ProdKernel.lean ====
/- The product of the down weights' activation gradient: what its result array holds after the run, as the reference's product of the same arguments. -/
module

public import proofs.«01_k».proof.Proof.Mats
public import proofs.«01_k».proof.Proof.Gen.Kernel16Ideal.Frame
public import proofs.«01_k».proof.Proof.Gen.Reference16Ideal.Read
public import Idealize.ShloMosaic.Lib.Pipeline.ValueKit
public import Idealize.ShloMosaic.Lib.StableHlo.Run

@[expose] public section

set_option maxRecDepth 16384

noncomputable section

namespace Cert.Kernel16Ideal.Prod

open Cert.Kernel16Ideal Cert.Kernel16Ideal.Gen Idealize.ShloMosaic Idealize.ShloMosaic.TcCoe Idealize.SL.Sem Idealize.ShloMosaic.StableHlo
open Cert.Reference16Ideal.Read (val_main_v0 val_main_v1)

/-- The product of a block of rows with a block of weight rows, added to the zeros the body starts from. -/
theorem pay_at (x : FVec Ideal S2048x1024 .bf16) (w : FVec Ideal S1536x1024 .bf16) (r : Fin 2048) (q : Fin 1536) :
    k0_pay3 (F := Ideal) (k0_pay2 (F := Ideal) (k0_pay1 (F := Ideal)) x w) (ix2 r q) = ∑ k : Fin 1024, (x (ix2 r k) * w (ix2 q k) : EReal) := by
  pointwise [k0_pay3, k0_pay2, k0_pay1]

variable (m : (ℓ : Loc nD τ sig) → Buf (Elt Ideal) ℓ) (c : Dev nD)

theorem idx : ∀ t : Fin cfg0.N,
    win0_0.index t 0 = t.val / 2 ∧ win0_0.index t 1 = 0 ∧ win0_1.index t 0 = t.val % 2 ∧ win0_1.index t 1 = 0 ∧
    win0_2.index t 0 = t.val / 2 ∧ win0_2.index t 1 = t.val % 2 := by
  decide +kernel

/-- Row `r` of block `t` of rows. -/
def row (t : Fin cfg0.N) (r : Fin 2048) : Fin 8192 :=
  ⟨t.val / 2 * 2048 + r.val, by have := lt_of_lt_of_eq t.isLt N_0; have := r.isLt; omega⟩

/-- Column `q` of block `t` of columns. -/
def col (t : Fin cfg0.N) (q : Fin 1536) : Fin 3072 :=
  ⟨t.val % 2 * 1536 + q.val, by have := q.isLt; omega⟩

/-- The padded weights the host hands the body, where they are weights. -/
theorem host_w (h : Fin 4) (j : Fin 704) (k : Fin 1024) : (V m c main_v4 : S3072x1024.Idx → EReal) (ix2 ⟨768 * h.val + j.val, by omega⟩ k)
    = (m ((c : Thread nD τ).loc main_arg1) : S2816x1024.Idx → EReal) (ix2 ⟨704 * h.val + j.val, by omega⟩ k) := by
  show (StableHlo.after hostOps0 (fun b => m (c, b)) (Proc.devRef .tc main_v4) : S3072x1024.Idx → EReal) _ = _
  after_results
  pointwise []
  have hj := j.isLt
  rw [dif_pos (by omega)]
  exact congrArg (fun q : Fin 2816 => (m ((c : Thread nD τ).loc main_arg1) : S2816x1024.Idx → EReal) (ix2 q k)) (Fin.ext (by simp only; omega))

theorem host_x : (V m c main_v5 : S8192x1024.Idx → EReal) = m ((c : Thread nD τ).loc main_arg0) := by
  show StableHlo.after hostOps0 (fun b => m (c, b)) (Proc.devRef .tc main_v5) = _
  after_results
  rfl

theorem blk0 (t : Fin cfg0.N) : (iblk m c 0 t : S2048x1024.Idx → EReal) = fun i => (V m c main_v5 : S8192x1024.Idx → EReal) (ix2 (row t (i 0)) (i 1)) := by
  funext i
  blk_ext [iblk, idx t, row]

theorem blk1 (t : Fin cfg0.N) : (iblk m c 1 t : S1536x1024.Idx → EReal) = fun i => (V m c main_v4 : S3072x1024.Idx → EReal) (ix2 (col t (i 0)) (i 1)) := by
  funext i
  blk_ext [iblk, idx t, col]

/-- The product of every row with every padded weight row. -/
def prod (x : S8192x1024.Idx → EReal) (w : S3072x1024.Idx → EReal) : S8192x3072.Idx → EReal :=
  fun i => ∑ k : Fin 1024, x (ix2 (i 0) k) * w (ix2 (i 1) k)

theorem final : ((dats m 0 c).arrAt 2 (cfgs 0).N : S8192x3072.Idx → EReal) = prod (V m c main_v5) (V m c main_v4) := by
  refine (dats m 0 c).arrAt_eq_of_covers 2 _ (by decide +kernel) fun t _ z => ?_
  have e : ((cfg0.win 2).blk t).view.emb z = (ix2 (row t (z 0)) (col t (z 1)) : S8192x3072.Idx) := by blk_ext [idx t, row, col]
  blk_simp
  rw [after0_2, e]
  unfold outsAt0 out0_A_2
  frame_out
  exact (congrFun (congrArg₂ (fun x w => k0_pay3 (F := Ideal) (k0_pay2 (F := Ideal) (k0_pay1 (F := Ideal)) x w)) (blk0 m c t) (blk1 m c t)) (ix2 (z 0) (z 1))).trans (pay_at _ _ (z 0) (z 1))

/-- What the host reads of the product after the body. -/
def back (v : S8192x3072.Idx → EReal) : S8192x2816.Idx → EReal :=
  shapeCast S8192x2816 (extractStridedSlice S8192x4x704 ![0, 0, 0] (shapeCast S8192x4x768 v shapeCasts_S8192x3072_S8192x4x768) slices_S8192x4x768_S8192x4x704_0_0_0) shapeCasts_S8192x4x704_S8192x2816

theorem back_at (v : S8192x3072.Idx → EReal) (r : Fin 8192) (h : Fin 4) (j : Fin 704) :
    back v (ix2 r ⟨704 * h.val + j.val, by omega⟩) = v (ix2 r ⟨768 * h.val + j.val, by omega⟩) := by
  pointwise [back]
  exact congrArg (fun q : Fin 3072 => v (ix2 r q)) (Fin.ext (by simp only; omega))

theorem back_prod : back (prod (V m c main_v5) (V m c main_v4))
    = val_main_v1 (F := Ideal) (m ((c : Thread nD τ).loc main_arg0)) (m ((c : Thread nD τ).loc main_arg1)) := by
  funext i
  obtain ⟨r, q, rfl⟩ : ∃ (r : Fin 8192) (q : Fin 2816), i = ix2 r q := ⟨_, _, eq_ix2 i⟩
  obtain ⟨h, j, e⟩ : ∃ (h : Fin 4) (j : Fin 704), q = ⟨704 * h.val + j.val, by omega⟩ :=
    ⟨⟨q.val / 704, by omega⟩, ⟨q.val % 704, by omega⟩, Fin.ext (by simp only; omega)⟩
  rw [e, back_at]
  refine (Finset.sum_congr rfl fun k _ => congrArg₂ (fun a b : EReal => a * b) (congrFun (host_x m c) _) (host_w m c h j k)).trans ?_
  pointwise [val_main_v1, val_main_v0]

set_option maxHeartbeats 2000000 in
theorem run (ρ : Dev nD → PrngReg) : θ_run defs (onTc (τ := τ) (main (F := Ideal))) ⟨m, fun _ => 0, ρ⟩ (fun r => ∀ c : Dev nD,
    (r.2.mem ((c : Thread nD τ).loc main_v10) : S8192x2816.Idx → EReal) = val_main_v1 (F := Ideal) (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)) := by
  refine (θ_run defs _ _).mono (fun r h c => ⟨?_, ?_, ?_⟩) (run_main m ρ)
  · refine ((h c).2 main_v10 (Pipeline.mem_restRefs_of main_v10 (by decide) (by decide))).trans ?_
    refine Eq.trans ?_ ((congrArg back (final m c)).trans (back_prod m c))
    unfold Pipeline.afterTail₀
    show StableHlo.after hostOps1 _ (Proc.devRef .tc main_v10) = _
    after_results
    exact congrArg back (funext fun i => congrFun (Pipeline.withArrays_arr spec0 launch0.win.arr_inj c (V0 m c) (fun w => (dats m 0 c).arrAt w (cfgs 0).N) 2) i)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.Kernel16Ideal.Prod

end
-- ==== Proof.ProdPair.lean ====
/- The claims of the product with the down weights: the idealized kernel and the reference leave the same result, at any
   arguments, and the reference keeps its arguments. -/
module

public import proofs.«01_k».proof.Defs
public import proofs.«01_k».proof.Proof.Gen.Reference16Ideal.Run
public import proofs.«01_k».proof.Proof.ProdKernel
public import Idealize.ShloMosaic.Adequacy
public import Idealize.ShloMosaic.Init

@[expose] public section

noncomputable section

namespace Cert.ProdPair

open Idealize.ShloMosaic Idealize.SL.Sem

/-- The reference runs, keeps its arguments, and leaves every counter at zero: it declares none. -/
theorem reference_frame : Cert.quiescent_Reference16Ideal := fun m g _ =>
  (θ_run (Cert.Reference16Ideal.defs (F := Ideal)) _ _).mono
    (fun r h => ⟨fun c => (h c).2, sem_eq_zero_of_no_sems (by decide) r.2⟩) (Cert.Reference16Ideal.Value.run m g)

set_option maxRecDepth 16384 in
set_option maxHeartbeats 2000000 in
theorem algebraic : Cert.algebraic_Kernel16Ideal_Reference16Ideal := by
  pair_intro
  · exact Cert.Kernel16Ideal.Prod.run m g
  · refine θ_run_mono (Cert.Reference16Ideal.Value.run m' g') fun r hr c => ⟨(hr c).1.trans ?_, (hr c).2⟩
    obtain ⟨e0, e1⟩ := hagree c
    rw [Cert.Reference16Ideal.Read.val_main_v1_eq, e0, e1]

end Cert.ProdPair

end
-- ==== Proof.lean ====
module

public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel6.Frame
public import proofs.«01_k».proof.Proof.Gen.Kernel7.Frame
public import proofs.«01_k».proof.Proof.Gen.Kernel9.Frame
public import proofs.«01_k».proof.Proof.Gen.Kernel12.Frame
public import proofs.«01_k».proof.Proof.Gen.Kernel11.Frame
public import proofs.«01_k».proof.Proof.Gen.Kernel8.Frame
public import proofs.«01_k».proof.Proof.Gen.Kernel8Ideal.Frame
public import proofs.«01_k».proof.Proof.Gen.Reference8Ideal.Read
public import proofs.«01_k».proof.Proof.Gen.Kernel14.Frame
public import proofs.«01_k».proof.Proof.Gen.Kernel16.Frame
public import proofs.«01_k».proof.Proof.Gen.Kernel15.Frame
public import proofs.«01_k».proof.Proof.Gen.Pre_finite
public import proofs.«01_k».proof.Proof.Gen.Pre_finite2
public import proofs.«01_k».proof.Proof.Gen.Pre_finite3
public import proofs.«01_k».proof.Proof.Gen.Pre_finite4
public import proofs.«01_k».proof.Proof.Gen.Pre_finite6
public import proofs.«01_k».proof.Proof.Gen.Pre_finite7
public import proofs.«01_k».proof.Proof.MlaPair
public import proofs.«01_k».proof.Proof.FinalPair
public import proofs.«01_k».proof.Proof.ResnormPair
public import proofs.«01_k».proof.Proof.FfnPair
public import proofs.«01_k».proof.Proof.OutnormPair
public import proofs.«01_k».proof.Proof.PrepPair
public import proofs.«01_k».proof.Proof.BandPair
public import proofs.«01_k».proof.Proof.MixPair
public import proofs.«01_k».proof.Proof.UpPair
public import proofs.«01_k».proof.Proof.InPair
public import proofs.«01_k».proof.Proof.LatPair
public import proofs.«01_k».proof.Proof.AdamPair
public import proofs.«01_k».proof.Proof.SumPair
public import proofs.«01_k».proof.Proof.ProdPair
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel9.Gen.facts, Cert.Kernel9Ideal.Gen.facts, Cert.Reference9Ideal.Gen.facts, Cert.Kernel12.Gen.facts, Cert.Kernel12Ideal.Gen.facts, Cert.Reference12Ideal.Gen.facts, Cert.Kernel11.Gen.facts, Cert.Kernel11Ideal.Gen.facts, Cert.Reference11Ideal.Gen.facts, Cert.Kernel10.Gen.facts, Cert.Kernel10Ideal.Gen.facts, Cert.Reference10Ideal.Gen.facts, Cert.Kernel8.Gen.facts, Cert.Kernel8Ideal.Gen.facts, Cert.Reference8Ideal.Gen.facts, Cert.Kernel14.Gen.facts, Cert.Kernel14Ideal.Gen.facts, Cert.Reference14Ideal.Gen.facts, Cert.Kernel16.Gen.facts, Cert.Kernel16Ideal.Gen.facts, Cert.Reference16Ideal.Gen.facts, Cert.Kernel15.Gen.facts, Cert.Kernel15Ideal.Gen.facts, Cert.Reference15Ideal.Gen.facts, Cert.Pre_finite.Gen.facts, Cert.Pre_finite2.Gen.facts, Cert.Pre_finite3.Gen.facts, Cert.Pre_finite4.Gen.facts, Cert.Pre_finite6.Gen.facts, Cert.Pre_finite7.Gen.facts,
  fun m ρ _ => Cert.Kernel.Gen.frame m ρ,
  fun m ρ _ => Cert.KernelIdeal.Gen.frame m ρ,
  fun m ρ _ => Cert.KernelIdeal.Gen.frame m ρ,
  MlaPair.reference_frame,
  fun m ρ _ => MlaPair.reference_frame m ρ trivial,
  fun m ρ _ => Cert.Kernel2.Gen.frame m ρ,
  fun m ρ _ => Cert.Kernel2Ideal.Gen.frame m ρ,
  fun m ρ _ => Cert.Kernel2Ideal.Gen.frame m ρ,
  FinalPair.reference_frame,
  fun m ρ _ => FinalPair.reference_frame m ρ trivial,
  fun m ρ _ => Cert.Kernel3.Gen.frame m ρ,
  fun m ρ _ => Cert.Kernel3Ideal.Gen.frame m ρ,
  fun m ρ _ => Cert.Kernel3Ideal.Gen.frame m ρ,
  ResnormPair.reference_frame,
  fun m ρ _ => ResnormPair.reference_frame m ρ trivial,
  fun m ρ _ => Cert.Kernel4.Gen.frame m ρ,
  fun m ρ _ => Cert.Kernel4Ideal.Gen.frame m ρ,
  fun m ρ _ => Cert.Kernel4Ideal.Gen.frame m ρ,
  FfnPair.reference_frame,
  fun m ρ _ => FfnPair.reference_frame m ρ trivial,
  fun m ρ _ => Cert.Kernel6.Gen.frame m ρ,
  fun m ρ _ => Cert.Kernel6Ideal.Gen.frame m ρ,
  fun m ρ _ => Cert.Kernel6Ideal.Gen.frame m ρ,
  OutnormPair.reference_frame,
  fun m ρ _ => OutnormPair.reference_frame m ρ trivial,
  fun m ρ _ => Cert.Kernel7.Gen.frame m ρ,
  fun m ρ _ => Cert.Kernel7Ideal.Gen.frame m ρ,
  fun m ρ _ => Cert.Kernel7Ideal.Gen.frame m ρ,
  PrepPair.reference_frame,
  fun m ρ _ => PrepPair.reference_frame m ρ trivial,
  fun m ρ _ => Cert.Kernel9.Gen.frame m ρ,
  fun m ρ _ => Cert.Kernel9Ideal.Gen.frame m ρ,
  MixPair.reference_frame,
  fun m ρ _ => Cert.Kernel12.Gen.frame m ρ,
  fun m ρ _ => Cert.Kernel12Ideal.Gen.frame m ρ,
  LatPair.reference_frame,
  fun m ρ _ => Cert.Kernel11.Gen.frame m ρ,
  fun m ρ _ => Cert.Kernel11Ideal.Gen.frame m ρ,
  InPair.reference_frame,
  UpPair.frame_kernel,
  fun m ρ _ => Cert.Kernel10Ideal.Up.frame m ρ,
  UpPair.reference_frame,
  fun m ρ _ => Cert.Kernel8.Gen.frame m ρ,
  fun m ρ _ => Cert.Kernel8Ideal.Gen.frame m ρ,
  BandPair.reference_frame,
  fun m ρ _ => Cert.Kernel14.Gen.frame m ρ,
  fun m ρ _ => Cert.Kernel14Ideal.Gen.frame m ρ,
  AdamPair.reference_frame,
  fun m ρ _ => Cert.Kernel16.Gen.frame m ρ,
  fun m ρ _ => Cert.Kernel16Ideal.Gen.frame m ρ,
  ProdPair.reference_frame,
  fun m ρ _ => Cert.Kernel15.Gen.frame m ρ,
  fun m ρ _ => Cert.Kernel15Ideal.Gen.frame m ρ,
  SumPair.reference_frame,
  MlaPair.preserves,
  MlaPair.algebraic,
  trivial,
  FinalPair.algebraic,
  trivial,
  ResnormPair.algebraic,
  trivial,
  FfnPair.algebraic,
  trivial,
  OutnormPair.algebraic,
  trivial,
  PrepPair.algebraic,
  trivial,
  MixPair.algebraic,
  LatPair.preserves,
  LatPair.algebraic,
  trivial,
  InPair.algebraic,
  trivial,
  UpPair.algebraic,
  trivial,
  trivial,
  AdamPair.algebraic,
  trivial,
  ProdPair.algebraic,
  trivial,
  SumPair.algebraic⟩

end Cert.Proof

end
